-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_MIn (m : (ℓ : Loc Cert.MIn.nD Cert.MIn.τ Cert.MIn.sig) → Buf (Elt Bits) ℓ) : Prop :=
  True

def Pre_MInIdeal (m : (ℓ : Loc Cert.MInIdeal.nD Cert.MInIdeal.τ Cert.MInIdeal.sig) → Buf (Elt Ideal) ℓ) : Prop :=
  True

def Pre_MInRefIdeal (m : (ℓ : Loc Cert.MInRefIdeal.nD Cert.MInRefIdeal.τ Cert.MInRefIdeal.sig) → Buf (Elt Ideal) ℓ) : Prop :=
  True

def Pre_SIn (m : (ℓ : Loc Cert.SIn.nD Cert.SIn.τ Cert.SIn.sig) → Buf (Elt Bits) ℓ) : Prop :=
  True

def Pre_SInIdeal (m : (ℓ : Loc Cert.SInIdeal.nD Cert.SInIdeal.τ Cert.SInIdeal.sig) → Buf (Elt Ideal) ℓ) : Prop :=
  True

def Pre_SInRefIdeal (m : (ℓ : Loc Cert.SInRefIdeal.nD Cert.SInRefIdeal.τ Cert.SInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_SOut (m : (ℓ : Loc Cert.SOut.nD Cert.SOut.τ Cert.SOut.sig) → Buf (Elt Bits) ℓ) : Prop :=
  True

def Pre_SOutIdeal (m : (ℓ : Loc Cert.SOutIdeal.nD Cert.SOutIdeal.τ Cert.SOutIdeal.sig) → Buf (Elt Ideal) ℓ) : Prop :=
  True

def Pre_SOutRefIdeal (m : (ℓ : Loc Cert.SOutRefIdeal.nD Cert.SOutRefIdeal.τ Cert.SOutRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_MCore (m : (ℓ : Loc Cert.MCore.nD Cert.MCore.τ Cert.MCore.sig) → Buf (Elt Bits) ℓ) : Prop :=
  True

def Pre_MCoreIdeal (m : (ℓ : Loc Cert.MCoreIdeal.nD Cert.MCoreIdeal.τ Cert.MCoreIdeal.sig) → Buf (Elt Ideal) ℓ) : Prop :=
  True

def Pre_MCoreRefIdeal (m : (ℓ : Loc Cert.MCoreRefIdeal.nD Cert.MCoreRefIdeal.τ Cert.MCoreRefIdeal.sig) → Buf (Elt Ideal) ℓ) : Prop :=
  True

def Pre_SCore (m : (ℓ : Loc Cert.SCore.nD Cert.SCore.τ Cert.SCore.sig) → Buf (Elt Bits) ℓ) : Prop :=
  True

def Pre_SCoreIdeal (m : (ℓ : Loc Cert.SCoreIdeal.nD Cert.SCoreIdeal.τ Cert.SCoreIdeal.sig) → Buf (Elt Ideal) ℓ) : Prop :=
  True

def Pre_SCoreRefIdeal (m : (ℓ : Loc Cert.SCoreRefIdeal.nD Cert.SCoreRefIdeal.τ Cert.SCoreRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_MIn [hMIn : Cert.MIn.Facts] : Prop :=
  ∀ (m : (ℓ : Loc Cert.MIn.nD Cert.MIn.τ Cert.MIn.sig) → Buf (Elt Bits) ℓ) (g : Dev Cert.MIn.nD → PrngReg), Pre_MIn m →
    θ_run (Cert.MIn.defs (F := Bits)) (onTc (τ := Cert.MIn.τ) (Cert.MIn.main (F := Bits))) ⟨m, fun _ => 0, g⟩ (fun r => (∀ c : Dev Cert.MIn.nD,
      r.2.mem ((c.tc : Thread Cert.MIn.nD Cert.MIn.τ).loc Cert.MIn.main_arg0) = m ((c.tc : Thread Cert.MIn.nD Cert.MIn.τ).loc Cert.MIn.main_arg0)
      ∧ r.2.mem ((c.tc : Thread Cert.MIn.nD Cert.MIn.τ).loc Cert.MIn.main_arg1) = m ((c.tc : Thread Cert.MIn.nD Cert.MIn.τ).loc Cert.MIn.main_arg1)
      ∧ r.2.mem ((c.tc : Thread Cert.MIn.nD Cert.MIn.τ).loc Cert.MIn.main_arg2) = m ((c.tc : Thread Cert.MIn.nD Cert.MIn.τ).loc Cert.MIn.main_arg2))
      ∧ r.2.sem = fun _ => 0)

def quiescent_MInIdeal [hMInIdeal : Cert.MInIdeal.Facts] : Prop :=
  ∀ (m : (ℓ : Loc Cert.MInIdeal.nD Cert.MInIdeal.τ Cert.MInIdeal.sig) → Buf (Elt Ideal) ℓ) (g : Dev Cert.MInIdeal.nD → PrngReg), Pre_MInIdeal m →
    θ_run (Cert.MInIdeal.defs (F := Ideal)) (onTc (τ := Cert.MInIdeal.τ) (Cert.MInIdeal.main (F := Ideal))) ⟨m, fun _ => 0, g⟩ (fun r => (∀ c : Dev Cert.MInIdeal.nD,
      r.2.mem ((c.tc : Thread Cert.MInIdeal.nD Cert.MInIdeal.τ).loc Cert.MInIdeal.main_arg0) = m ((c.tc : Thread Cert.MInIdeal.nD Cert.MInIdeal.τ).loc Cert.MInIdeal.main_arg0)
      ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
      ∧ r.2.mem ((c.tc : Thread Cert.MInIdeal.nD Cert.MInIdeal.τ).loc Cert.MInIdeal.main_arg2) = m ((c.tc : Thread Cert.MInIdeal.nD Cert.MInIdeal.τ).loc Cert.MInIdeal.main_arg2))
      ∧ r.2.sem = fun _ => 0)

def quiescent_MInRefIdeal [hMInRefIdeal : Cert.MInRefIdeal.Facts] : Prop :=
  ∀ (m : (ℓ : Loc Cert.MInRefIdeal.nD Cert.MInRefIdeal.τ Cert.MInRefIdeal.sig) → Buf (Elt Ideal) ℓ) (g : Dev Cert.MInRefIdeal.nD → PrngReg), Pre_MInRefIdeal m →
    θ_run (Cert.MInRefIdeal.defs (F := Ideal)) (onTc (τ := Cert.MInRefIdeal.τ) (Cert.MInRefIdeal.main (F := Ideal))) ⟨m, fun _ => 0, g⟩ (fun r => (∀ c : Dev Cert.MInRefIdeal.nD,
      r.2.mem ((c.tc : Thread Cert.MInRefIdeal.nD Cert.MInRefIdeal.τ).loc Cert.MInRefIdeal.main_arg0) = m ((c.tc : Thread Cert.MInRefIdeal.nD Cert.MInRefIdeal.τ).loc Cert.MInRefIdeal.main_arg0)
      ∧ r.2.mem ((c.tc : Thread Cert.MInRefIdeal.nD Cert.MInRefIdeal.τ).loc Cert.MInRefIdeal.main_arg1) = m ((c.tc : Thread Cert.MInRefIdeal.nD Cert.MInRefIdeal.τ).loc Cert.MInRefIdeal.main_arg1)
      ∧ r.2.mem ((c.tc : Thread Cert.MInRefIdeal.nD Cert.MInRefIdeal.τ).loc Cert.MInRefIdeal.main_arg2) = m ((c.tc : Thread Cert.MInRefIdeal.nD Cert.MInRefIdeal.τ).loc Cert.MInRefIdeal.main_arg2))
      ∧ r.2.sem = fun _ => 0)

def quiescent_SIn [hSIn : Cert.SIn.Facts] : Prop :=
  ∀ (m : (ℓ : Loc Cert.SIn.nD Cert.SIn.τ Cert.SIn.sig) → Buf (Elt Bits) ℓ) (g : Dev Cert.SIn.nD → PrngReg), Pre_SIn m →
    θ_run (Cert.SIn.defs (F := Bits)) (onTc (τ := Cert.SIn.τ) (Cert.SIn.main (F := Bits))) ⟨m, fun _ => 0, g⟩ (fun r => (∀ c : Dev Cert.SIn.nD,
      r.2.mem ((c.tc : Thread Cert.SIn.nD Cert.SIn.τ).loc Cert.SIn.main_arg0) = m ((c.tc : Thread Cert.SIn.nD Cert.SIn.τ).loc Cert.SIn.main_arg0)
      ∧ r.2.mem ((c.tc : Thread Cert.SIn.nD Cert.SIn.τ).loc Cert.SIn.main_arg1) = m ((c.tc : Thread Cert.SIn.nD Cert.SIn.τ).loc Cert.SIn.main_arg1)
      ∧ r.2.mem ((c.tc : Thread Cert.SIn.nD Cert.SIn.τ).loc Cert.SIn.main_arg2) = m ((c.tc : Thread Cert.SIn.nD Cert.SIn.τ).loc Cert.SIn.main_arg2))
      ∧ r.2.sem = fun _ => 0)

def quiescent_SInIdeal [hSInIdeal : Cert.SInIdeal.Facts] : Prop :=
  ∀ (m : (ℓ : Loc Cert.SInIdeal.nD Cert.SInIdeal.τ Cert.SInIdeal.sig) → Buf (Elt Ideal) ℓ) (g : Dev Cert.SInIdeal.nD → PrngReg), Pre_SInIdeal m →
    θ_run (Cert.SInIdeal.defs (F := Ideal)) (onTc (τ := Cert.SInIdeal.τ) (Cert.SInIdeal.main (F := Ideal))) ⟨m, fun _ => 0, g⟩ (fun r => (∀ c : Dev Cert.SInIdeal.nD,
      r.2.mem ((c.tc : Thread Cert.SInIdeal.nD Cert.SInIdeal.τ).loc Cert.SInIdeal.main_arg0) = m ((c.tc : Thread Cert.SInIdeal.nD Cert.SInIdeal.τ).loc Cert.SInIdeal.main_arg0)
      ∧ r.2.mem ((c.tc : Thread Cert.SInIdeal.nD Cert.SInIdeal.τ).loc Cert.SInIdeal.main_arg1) = m ((c.tc : Thread Cert.SInIdeal.nD Cert.SInIdeal.τ).loc Cert.SInIdeal.main_arg1)
      ∧ r.2.mem ((c.tc : Thread Cert.SInIdeal.nD Cert.SInIdeal.τ).loc Cert.SInIdeal.main_arg2) = m ((c.tc : Thread Cert.SInIdeal.nD Cert.SInIdeal.τ).loc Cert.SInIdeal.main_arg2))
      ∧ r.2.sem = fun _ => 0)

def quiescent_SInRefIdeal [hSInRefIdeal : Cert.SInRefIdeal.Facts] : Prop :=
  ∀ (m : (ℓ : Loc Cert.SInRefIdeal.nD Cert.SInRefIdeal.τ Cert.SInRefIdeal.sig) → Buf (Elt Ideal) ℓ) (g : Dev Cert.SInRefIdeal.nD → PrngReg), Pre_SInRefIdeal m →
    θ_run (Cert.SInRefIdeal.defs (F := Ideal)) (onTc (τ := Cert.SInRefIdeal.τ) (Cert.SInRefIdeal.main (F := Ideal))) ⟨m, fun _ => 0, g⟩ (fun r => (∀ c : Dev Cert.SInRefIdeal.nD,
      r.2.mem ((c.tc : Thread Cert.SInRefIdeal.nD Cert.SInRefIdeal.τ).loc Cert.SInRefIdeal.main_arg0) = m ((c.tc : Thread Cert.SInRefIdeal.nD Cert.SInRefIdeal.τ).loc Cert.SInRefIdeal.main_arg0)
      ∧ r.2.mem ((c.tc : Thread Cert.SInRefIdeal.nD Cert.SInRefIdeal.τ).loc Cert.SInRefIdeal.main_arg1) = m ((c.tc : Thread Cert.SInRefIdeal.nD Cert.SInRefIdeal.τ).loc Cert.SInRefIdeal.main_arg1)
      ∧ r.2.mem ((c.tc : Thread Cert.SInRefIdeal.nD Cert.SInRefIdeal.τ).loc Cert.SInRefIdeal.main_arg2) = m ((c.tc : Thread Cert.SInRefIdeal.nD Cert.SInRefIdeal.τ).loc Cert.SInRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_SOut [hSOut : Cert.SOut.Facts] : Prop :=
  ∀ (m : (ℓ : Loc Cert.SOut.nD Cert.SOut.τ Cert.SOut.sig) → Buf (Elt Bits) ℓ) (g : Dev Cert.SOut.nD → PrngReg), Pre_SOut m →
    θ_run (Cert.SOut.defs (F := Bits)) (onTc (τ := Cert.SOut.τ) (Cert.SOut.main (F := Bits))) ⟨m, fun _ => 0, g⟩ (fun r => (∀ c : Dev Cert.SOut.nD,
      r.2.mem ((c.tc : Thread Cert.SOut.nD Cert.SOut.τ).loc Cert.SOut.main_arg0) = m ((c.tc : Thread Cert.SOut.nD Cert.SOut.τ).loc Cert.SOut.main_arg0)
      ∧ r.2.mem ((c.tc : Thread Cert.SOut.nD Cert.SOut.τ).loc Cert.SOut.main_arg1) = m ((c.tc : Thread Cert.SOut.nD Cert.SOut.τ).loc Cert.SOut.main_arg1)
      ∧ r.2.mem ((c.tc : Thread Cert.SOut.nD Cert.SOut.τ).loc Cert.SOut.main_arg2) = m ((c.tc : Thread Cert.SOut.nD Cert.SOut.τ).loc Cert.SOut.main_arg2))
      ∧ r.2.sem = fun _ => 0)

def quiescent_SOutIdeal [hSOutIdeal : Cert.SOutIdeal.Facts] : Prop :=
  ∀ (m : (ℓ : Loc Cert.SOutIdeal.nD Cert.SOutIdeal.τ Cert.SOutIdeal.sig) → Buf (Elt Ideal) ℓ) (g : Dev Cert.SOutIdeal.nD → PrngReg), Pre_SOutIdeal m →
    θ_run (Cert.SOutIdeal.defs (F := Ideal)) (onTc (τ := Cert.SOutIdeal.τ) (Cert.SOutIdeal.main (F := Ideal))) ⟨m, fun _ => 0, g⟩ (fun r => (∀ c : Dev Cert.SOutIdeal.nD,
      r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
      ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1)
      ∧ r.2.mem ((c.tc : Thread Cert.SOutIdeal.nD Cert.SOutIdeal.τ).loc Cert.SOutIdeal.main_arg2) = m ((c.tc : Thread Cert.SOutIdeal.nD Cert.SOutIdeal.τ).loc Cert.SOutIdeal.main_arg2))
      ∧ r.2.sem = fun _ => 0)

def quiescent_SOutRefIdeal [hSOutRefIdeal : Cert.SOutRefIdeal.Facts] : Prop :=
  ∀ (m : (ℓ : Loc Cert.SOutRefIdeal.nD Cert.SOutRefIdeal.τ Cert.SOutRefIdeal.sig) → Buf (Elt Ideal) ℓ) (g : Dev Cert.SOutRefIdeal.nD → PrngReg), Pre_SOutRefIdeal m →
    θ_run (Cert.SOutRefIdeal.defs (F := Ideal)) (onTc (τ := Cert.SOutRefIdeal.τ) (Cert.SOutRefIdeal.main (F := Ideal))) ⟨m, fun _ => 0, g⟩ (fun r => (∀ c : Dev Cert.SOutRefIdeal.nD,
      r.2.mem ((c.tc : Thread Cert.SOutRefIdeal.nD Cert.SOutRefIdeal.τ).loc Cert.SOutRefIdeal.main_arg0) = m ((c.tc : Thread Cert.SOutRefIdeal.nD Cert.SOutRefIdeal.τ).loc Cert.SOutRefIdeal.main_arg0)
      ∧ r.2.mem ((c.tc : Thread Cert.SOutRefIdeal.nD Cert.SOutRefIdeal.τ).loc Cert.SOutRefIdeal.main_arg1) = m ((c.tc : Thread Cert.SOutRefIdeal.nD Cert.SOutRefIdeal.τ).loc Cert.SOutRefIdeal.main_arg1)
      ∧ r.2.mem ((c.tc : Thread Cert.SOutRefIdeal.nD Cert.SOutRefIdeal.τ).loc Cert.SOutRefIdeal.main_arg2) = m ((c.tc : Thread Cert.SOutRefIdeal.nD Cert.SOutRefIdeal.τ).loc Cert.SOutRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_MCore [hMCore : Cert.MCore.Facts] : Prop :=
  ∀ (m : (ℓ : Loc Cert.MCore.nD Cert.MCore.τ Cert.MCore.sig) → Buf (Elt Bits) ℓ) (g : Dev Cert.MCore.nD → PrngReg), Pre_MCore m →
    θ_run (Cert.MCore.defs (F := Bits)) (onTc (τ := Cert.MCore.τ) (Cert.MCore.main (F := Bits))) ⟨m, fun _ => 0, g⟩ (fun r => (∀ c : Dev Cert.MCore.nD,
      r.2.mem ((c.tc : Thread Cert.MCore.nD Cert.MCore.τ).loc Cert.MCore.main_arg0) = m ((c.tc : Thread Cert.MCore.nD Cert.MCore.τ).loc Cert.MCore.main_arg0)
      ∧ r.2.mem ((c.tc : Thread Cert.MCore.nD Cert.MCore.τ).loc Cert.MCore.main_arg1) = m ((c.tc : Thread Cert.MCore.nD Cert.MCore.τ).loc Cert.MCore.main_arg1)
      ∧ r.2.mem ((c.tc : Thread Cert.MCore.nD Cert.MCore.τ).loc Cert.MCore.main_arg2) = m ((c.tc : Thread Cert.MCore.nD Cert.MCore.τ).loc Cert.MCore.main_arg2))
      ∧ r.2.sem = fun _ => 0)

def quiescent_MCoreIdeal [hMCoreIdeal : Cert.MCoreIdeal.Facts] : Prop :=
  ∀ (m : (ℓ : Loc Cert.MCoreIdeal.nD Cert.MCoreIdeal.τ Cert.MCoreIdeal.sig) → Buf (Elt Ideal) ℓ) (g : Dev Cert.MCoreIdeal.nD → PrngReg), Pre_MCoreIdeal m →
    θ_run (Cert.MCoreIdeal.defs (F := Ideal)) (onTc (τ := Cert.MCoreIdeal.τ) (Cert.MCoreIdeal.main (F := Ideal))) ⟨m, fun _ => 0, g⟩ (fun r => (∀ c : Dev Cert.MCoreIdeal.nD,
      r.2.mem ((c.tc : Thread Cert.MCoreIdeal.nD Cert.MCoreIdeal.τ).loc Cert.MCoreIdeal.main_arg0) = m ((c.tc : Thread Cert.MCoreIdeal.nD Cert.MCoreIdeal.τ).loc Cert.MCoreIdeal.main_arg0)
      ∧ r.2.mem ((c.tc : Thread Cert.MCoreIdeal.nD Cert.MCoreIdeal.τ).loc Cert.MCoreIdeal.main_arg1) = m ((c.tc : Thread Cert.MCoreIdeal.nD Cert.MCoreIdeal.τ).loc Cert.MCoreIdeal.main_arg1)
      ∧ r.2.mem ((c.tc : Thread Cert.MCoreIdeal.nD Cert.MCoreIdeal.τ).loc Cert.MCoreIdeal.main_arg2) = m ((c.tc : Thread Cert.MCoreIdeal.nD Cert.MCoreIdeal.τ).loc Cert.MCoreIdeal.main_arg2))
      ∧ r.2.sem = fun _ => 0)

def quiescent_MCoreRefIdeal [hMCoreRefIdeal : Cert.MCoreRefIdeal.Facts] : Prop :=
  ∀ (m : (ℓ : Loc Cert.MCoreRefIdeal.nD Cert.MCoreRefIdeal.τ Cert.MCoreRefIdeal.sig) → Buf (Elt Ideal) ℓ) (g : Dev Cert.MCoreRefIdeal.nD → PrngReg), Pre_MCoreRefIdeal m →
    θ_run (Cert.MCoreRefIdeal.defs (F := Ideal)) (onTc (τ := Cert.MCoreRefIdeal.τ) (Cert.MCoreRefIdeal.main (F := Ideal))) ⟨m, fun _ => 0, g⟩ (fun r => (∀ c : Dev Cert.MCoreRefIdeal.nD,
      r.2.mem ((c.tc : Thread Cert.MCoreRefIdeal.nD Cert.MCoreRefIdeal.τ).loc Cert.MCoreRefIdeal.main_arg0) = m ((c.tc : Thread Cert.MCoreRefIdeal.nD Cert.MCoreRefIdeal.τ).loc Cert.MCoreRefIdeal.main_arg0)
      ∧ r.2.mem ((c.tc : Thread Cert.MCoreRefIdeal.nD Cert.MCoreRefIdeal.τ).loc Cert.MCoreRefIdeal.main_arg1) = m ((c.tc : Thread Cert.MCoreRefIdeal.nD Cert.MCoreRefIdeal.τ).loc Cert.MCoreRefIdeal.main_arg1)
      ∧ r.2.mem ((c.tc : Thread Cert.MCoreRefIdeal.nD Cert.MCoreRefIdeal.τ).loc Cert.MCoreRefIdeal.main_arg2) = m ((c.tc : Thread Cert.MCoreRefIdeal.nD Cert.MCoreRefIdeal.τ).loc Cert.MCoreRefIdeal.main_arg2))
      ∧ r.2.sem = fun _ => 0)

def quiescent_SCore [hSCore : Cert.SCore.Facts] : Prop :=
  ∀ (m : (ℓ : Loc Cert.SCore.nD Cert.SCore.τ Cert.SCore.sig) → Buf (Elt Bits) ℓ) (g : Dev Cert.SCore.nD → PrngReg), Pre_SCore m →
    θ_run (Cert.SCore.defs (F := Bits)) (onTc (τ := Cert.SCore.τ) (Cert.SCore.main (F := Bits))) ⟨m, fun _ => 0, g⟩ (fun r => (∀ c : Dev Cert.SCore.nD,
      r.2.mem ((c.tc : Thread Cert.SCore.nD Cert.SCore.τ).loc Cert.SCore.main_arg0) = m ((c.tc : Thread Cert.SCore.nD Cert.SCore.τ).loc Cert.SCore.main_arg0)
      ∧ r.2.mem ((c.tc : Thread Cert.SCore.nD Cert.SCore.τ).loc Cert.SCore.main_arg1) = m ((c.tc : Thread Cert.SCore.nD Cert.SCore.τ).loc Cert.SCore.main_arg1)
      ∧ r.2.mem ((c.tc : Thread Cert.SCore.nD Cert.SCore.τ).loc Cert.SCore.main_arg2) = m ((c.tc : Thread Cert.SCore.nD Cert.SCore.τ).loc Cert.SCore.main_arg2)
      ∧ r.2.mem ((c.tc : Thread Cert.SCore.nD Cert.SCore.τ).loc Cert.SCore.main_arg3) = m ((c.tc : Thread Cert.SCore.nD Cert.SCore.τ).loc Cert.SCore.main_arg3)
      ∧ r.2.mem ((c.tc : Thread Cert.SCore.nD Cert.SCore.τ).loc Cert.SCore.main_arg4) = m ((c.tc : Thread Cert.SCore.nD Cert.SCore.τ).loc Cert.SCore.main_arg4)
      ∧ r.2.mem ((c.tc : Thread Cert.SCore.nD Cert.SCore.τ).loc Cert.SCore.main_arg5) = m ((c.tc : Thread Cert.SCore.nD Cert.SCore.τ).loc Cert.SCore.main_arg5)
      ∧ r.2.mem ((c.tc : Thread Cert.SCore.nD Cert.SCore.τ).loc Cert.SCore.main_arg6) = m ((c.tc : Thread Cert.SCore.nD Cert.SCore.τ).loc Cert.SCore.main_arg6))
      ∧ r.2.sem = fun _ => 0)

def quiescent_SCoreIdeal [hSCoreIdeal : Cert.SCoreIdeal.Facts] : Prop :=
  ∀ (m : (ℓ : Loc Cert.SCoreIdeal.nD Cert.SCoreIdeal.τ Cert.SCoreIdeal.sig) → Buf (Elt Ideal) ℓ) (g : Dev Cert.SCoreIdeal.nD → PrngReg), Pre_SCoreIdeal m →
    θ_run (Cert.SCoreIdeal.defs (F := Ideal)) (onTc (τ := Cert.SCoreIdeal.τ) (Cert.SCoreIdeal.main (F := Ideal))) ⟨m, fun _ => 0, g⟩ (fun r => (∀ c : Dev Cert.SCoreIdeal.nD,
      r.2.mem ((c.tc : Thread Cert.SCoreIdeal.nD Cert.SCoreIdeal.τ).loc Cert.SCoreIdeal.main_arg0) = m ((c.tc : Thread Cert.SCoreIdeal.nD Cert.SCoreIdeal.τ).loc Cert.SCoreIdeal.main_arg0)
      ∧ r.2.mem ((c.tc : Thread Cert.SCoreIdeal.nD Cert.SCoreIdeal.τ).loc Cert.SCoreIdeal.main_arg1) = m ((c.tc : Thread Cert.SCoreIdeal.nD Cert.SCoreIdeal.τ).loc Cert.SCoreIdeal.main_arg1)
      ∧ r.2.mem ((c.tc : Thread Cert.SCoreIdeal.nD Cert.SCoreIdeal.τ).loc Cert.SCoreIdeal.main_arg2) = m ((c.tc : Thread Cert.SCoreIdeal.nD Cert.SCoreIdeal.τ).loc Cert.SCoreIdeal.main_arg2)
      ∧ r.2.mem ((c.tc : Thread Cert.SCoreIdeal.nD Cert.SCoreIdeal.τ).loc Cert.SCoreIdeal.main_arg3) = m ((c.tc : Thread Cert.SCoreIdeal.nD Cert.SCoreIdeal.τ).loc Cert.SCoreIdeal.main_arg3)
      ∧ r.2.mem ((c.tc : Thread Cert.SCoreIdeal.nD Cert.SCoreIdeal.τ).loc Cert.SCoreIdeal.main_arg4) = m ((c.tc : Thread Cert.SCoreIdeal.nD Cert.SCoreIdeal.τ).loc Cert.SCoreIdeal.main_arg4)
      ∧ r.2.mem ((c.tc : Thread Cert.SCoreIdeal.nD Cert.SCoreIdeal.τ).loc Cert.SCoreIdeal.main_arg5) = m ((c.tc : Thread Cert.SCoreIdeal.nD Cert.SCoreIdeal.τ).loc Cert.SCoreIdeal.main_arg5)
      ∧ r.2.mem ((c.tc : Thread Cert.SCoreIdeal.nD Cert.SCoreIdeal.τ).loc Cert.SCoreIdeal.main_arg6) = m ((c.tc : Thread Cert.SCoreIdeal.nD Cert.SCoreIdeal.τ).loc Cert.SCoreIdeal.main_arg6))
      ∧ r.2.sem = fun _ => 0)

def quiescent_SCoreRefIdeal [hSCoreRefIdeal : Cert.SCoreRefIdeal.Facts] : Prop :=
  ∀ (m : (ℓ : Loc Cert.SCoreRefIdeal.nD Cert.SCoreRefIdeal.τ Cert.SCoreRefIdeal.sig) → Buf (Elt Ideal) ℓ) (g : Dev Cert.SCoreRefIdeal.nD → PrngReg), Pre_SCoreRefIdeal m →
    θ_run (Cert.SCoreRefIdeal.defs (F := Ideal)) (onTc (τ := Cert.SCoreRefIdeal.τ) (Cert.SCoreRefIdeal.main (F := Ideal))) ⟨m, fun _ => 0, g⟩ (fun r => (∀ c : Dev Cert.SCoreRefIdeal.nD,
      r.2.mem ((c.tc : Thread Cert.SCoreRefIdeal.nD Cert.SCoreRefIdeal.τ).loc Cert.SCoreRefIdeal.main_arg0) = m ((c.tc : Thread Cert.SCoreRefIdeal.nD Cert.SCoreRefIdeal.τ).loc Cert.SCoreRefIdeal.main_arg0)
      ∧ r.2.mem ((c.tc : Thread Cert.SCoreRefIdeal.nD Cert.SCoreRefIdeal.τ).loc Cert.SCoreRefIdeal.main_arg1) = m ((c.tc : Thread Cert.SCoreRefIdeal.nD Cert.SCoreRefIdeal.τ).loc Cert.SCoreRefIdeal.main_arg1)
      ∧ r.2.mem ((c.tc : Thread Cert.SCoreRefIdeal.nD Cert.SCoreRefIdeal.τ).loc Cert.SCoreRefIdeal.main_arg2) = m ((c.tc : Thread Cert.SCoreRefIdeal.nD Cert.SCoreRefIdeal.τ).loc Cert.SCoreRefIdeal.main_arg2)
      ∧ r.2.mem ((c.tc : Thread Cert.SCoreRefIdeal.nD Cert.SCoreRefIdeal.τ).loc Cert.SCoreRefIdeal.main_arg3) = m ((c.tc : Thread Cert.SCoreRefIdeal.nD Cert.SCoreRefIdeal.τ).loc Cert.SCoreRefIdeal.main_arg3)
      ∧ r.2.mem ((c.tc : Thread Cert.SCoreRefIdeal.nD Cert.SCoreRefIdeal.τ).loc Cert.SCoreRefIdeal.main_arg4) = m ((c.tc : Thread Cert.SCoreRefIdeal.nD Cert.SCoreRefIdeal.τ).loc Cert.SCoreRefIdeal.main_arg4)
      ∧ r.2.mem ((c.tc : Thread Cert.SCoreRefIdeal.nD Cert.SCoreRefIdeal.τ).loc Cert.SCoreRefIdeal.main_arg5) = m ((c.tc : Thread Cert.SCoreRefIdeal.nD Cert.SCoreRefIdeal.τ).loc Cert.SCoreRefIdeal.main_arg5)
      ∧ r.2.mem ((c.tc : Thread Cert.SCoreRefIdeal.nD Cert.SCoreRefIdeal.τ).loc Cert.SCoreRefIdeal.main_arg6) = m ((c.tc : Thread Cert.SCoreRefIdeal.nD Cert.SCoreRefIdeal.τ).loc Cert.SCoreRefIdeal.main_arg6))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v30) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_MIn_MInIdeal : Prop :=
  True

def algebraic_MInIdeal_MInRefIdeal [hMInIdeal : Cert.MInIdeal.Facts] [hMInRefIdeal : Cert.MInRefIdeal.Facts] : Prop :=
  ∀ (m : (ℓ : Loc Cert.MInIdeal.nD Cert.MInIdeal.τ Cert.MInIdeal.sig) → Buf (Elt Ideal) ℓ) (g : Dev Cert.MInIdeal.nD → PrngReg)
    (m' : (ℓ : Loc Cert.MInRefIdeal.nD Cert.MInRefIdeal.τ Cert.MInRefIdeal.sig) → Buf (Elt Ideal) ℓ) (g' : Dev Cert.MInRefIdeal.nD → PrngReg), Pre_MInIdeal m →
    (∀ c : Dev Cert.MInIdeal.nD,
      m' ((c.tc : Thread Cert.MInRefIdeal.nD Cert.MInRefIdeal.τ).loc Cert.MInRefIdeal.main_arg0) = m ((c.tc : Thread Cert.MInIdeal.nD Cert.MInIdeal.τ).loc Cert.MInIdeal.main_arg0)
      ∧ m' ((c.tc : Thread Cert.MInRefIdeal.nD Cert.MInRefIdeal.τ).loc Cert.MInRefIdeal.main_arg1) = m ((c.tc : Thread Cert.MInIdeal.nD Cert.MInIdeal.τ).loc Cert.MInIdeal.main_arg1)
      ∧ m' ((c.tc : Thread Cert.MInRefIdeal.nD Cert.MInRefIdeal.τ).loc Cert.MInRefIdeal.main_arg2) = m ((c.tc : Thread Cert.MInIdeal.nD Cert.MInIdeal.τ).loc Cert.MInIdeal.main_arg2)) →
    ∃ (v0 : (c : Dev Cert.MInIdeal.nD) → Buf (Elt Ideal) ((c.tc : Thread Cert.MInIdeal.nD Cert.MInIdeal.τ).loc Cert.MInIdeal.main_v3)),
      θ_run (Cert.MInIdeal.defs (F := Ideal)) (onTc (τ := Cert.MInIdeal.τ) (Cert.MInIdeal.main (F := Ideal))) ⟨m, fun _ => 0, g⟩ (fun r => ∀ c : Dev Cert.MInIdeal.nD,
          r.2.mem ((c.tc : Thread Cert.MInIdeal.nD Cert.MInIdeal.τ).loc Cert.MInIdeal.main_v3) = v0 c
          ∧ r.2.mem ((c.tc : Thread Cert.MInIdeal.nD Cert.MInIdeal.τ).loc Cert.MInIdeal.main_arg0) = m ((c.tc : Thread Cert.MInIdeal.nD Cert.MInIdeal.τ).loc Cert.MInIdeal.main_arg0)
          ∧ r.2.mem ((c.tc : Thread Cert.MInIdeal.nD Cert.MInIdeal.τ).loc Cert.MInIdeal.main_arg1) = m ((c.tc : Thread Cert.MInIdeal.nD Cert.MInIdeal.τ).loc Cert.MInIdeal.main_arg1)
          ∧ r.2.mem ((c.tc : Thread Cert.MInIdeal.nD Cert.MInIdeal.τ).loc Cert.MInIdeal.main_arg2) = m ((c.tc : Thread Cert.MInIdeal.nD Cert.MInIdeal.τ).loc Cert.MInIdeal.main_arg2))
      ∧ θ_run (Cert.MInRefIdeal.defs (F := Ideal)) (onTc (τ := Cert.MInRefIdeal.τ) (Cert.MInRefIdeal.main (F := Ideal))) ⟨m', fun _ => 0, g'⟩ (fun r => ∀ c : Dev Cert.MInRefIdeal.nD,
          r.2.mem ((c.tc : Thread Cert.MInRefIdeal.nD Cert.MInRefIdeal.τ).loc Cert.MInRefIdeal.main_v14) = v0 c
          ∧ r.2.mem ((c.tc : Thread Cert.MInRefIdeal.nD Cert.MInRefIdeal.τ).loc Cert.MInRefIdeal.main_arg0) = m' ((c.tc : Thread Cert.MInRefIdeal.nD Cert.MInRefIdeal.τ).loc Cert.MInRefIdeal.main_arg0)
          ∧ r.2.mem ((c.tc : Thread Cert.MInRefIdeal.nD Cert.MInRefIdeal.τ).loc Cert.MInRefIdeal.main_arg1) = m' ((c.tc : Thread Cert.MInRefIdeal.nD Cert.MInRefIdeal.τ).loc Cert.MInRefIdeal.main_arg1)
          ∧ r.2.mem ((c.tc : Thread Cert.MInRefIdeal.nD Cert.MInRefIdeal.τ).loc Cert.MInRefIdeal.main_arg2) = m' ((c.tc : Thread Cert.MInRefIdeal.nD Cert.MInRefIdeal.τ).loc Cert.MInRefIdeal.main_arg2))

def preserves_SIn_SInIdeal : Prop :=
  True

def algebraic_SInIdeal_SInRefIdeal [hSInIdeal : Cert.SInIdeal.Facts] [hSInRefIdeal : Cert.SInRefIdeal.Facts] : Prop :=
  ∀ (m : (ℓ : Loc Cert.SInIdeal.nD Cert.SInIdeal.τ Cert.SInIdeal.sig) → Buf (Elt Ideal) ℓ) (g : Dev Cert.SInIdeal.nD → PrngReg)
    (m' : (ℓ : Loc Cert.SInRefIdeal.nD Cert.SInRefIdeal.τ Cert.SInRefIdeal.sig) → Buf (Elt Ideal) ℓ) (g' : Dev Cert.SInRefIdeal.nD → PrngReg), Pre_SInIdeal m →
    (∀ c : Dev Cert.SInIdeal.nD,
      m' ((c.tc : Thread Cert.SInRefIdeal.nD Cert.SInRefIdeal.τ).loc Cert.SInRefIdeal.main_arg0) = m ((c.tc : Thread Cert.SInIdeal.nD Cert.SInIdeal.τ).loc Cert.SInIdeal.main_arg0)
      ∧ m' ((c.tc : Thread Cert.SInRefIdeal.nD Cert.SInRefIdeal.τ).loc Cert.SInRefIdeal.main_arg1) = m ((c.tc : Thread Cert.SInIdeal.nD Cert.SInIdeal.τ).loc Cert.SInIdeal.main_arg1)
      ∧ m' ((c.tc : Thread Cert.SInRefIdeal.nD Cert.SInRefIdeal.τ).loc Cert.SInRefIdeal.main_arg2) = m ((c.tc : Thread Cert.SInIdeal.nD Cert.SInIdeal.τ).loc Cert.SInIdeal.main_arg2)) →
    ∃ (v0 : (c : Dev Cert.SInIdeal.nD) → Buf (Elt Ideal) ((c.tc : Thread Cert.SInIdeal.nD Cert.SInIdeal.τ).loc Cert.SInIdeal.main_v3)),
      θ_run (Cert.SInIdeal.defs (F := Ideal)) (onTc (τ := Cert.SInIdeal.τ) (Cert.SInIdeal.main (F := Ideal))) ⟨m, fun _ => 0, g⟩ (fun r => ∀ c : Dev Cert.SInIdeal.nD,
          r.2.mem ((c.tc : Thread Cert.SInIdeal.nD Cert.SInIdeal.τ).loc Cert.SInIdeal.main_v3) = v0 c
          ∧ r.2.mem ((c.tc : Thread Cert.SInIdeal.nD Cert.SInIdeal.τ).loc Cert.SInIdeal.main_arg0) = m ((c.tc : Thread Cert.SInIdeal.nD Cert.SInIdeal.τ).loc Cert.SInIdeal.main_arg0)
          ∧ r.2.mem ((c.tc : Thread Cert.SInIdeal.nD Cert.SInIdeal.τ).loc Cert.SInIdeal.main_arg1) = m ((c.tc : Thread Cert.SInIdeal.nD Cert.SInIdeal.τ).loc Cert.SInIdeal.main_arg1)
          ∧ r.2.mem ((c.tc : Thread Cert.SInIdeal.nD Cert.SInIdeal.τ).loc Cert.SInIdeal.main_arg2) = m ((c.tc : Thread Cert.SInIdeal.nD Cert.SInIdeal.τ).loc Cert.SInIdeal.main_arg2))
      ∧ θ_run (Cert.SInRefIdeal.defs (F := Ideal)) (onTc (τ := Cert.SInRefIdeal.τ) (Cert.SInRefIdeal.main (F := Ideal))) ⟨m', fun _ => 0, g'⟩ (fun r => ∀ c : Dev Cert.SInRefIdeal.nD,
          r.2.mem ((c.tc : Thread Cert.SInRefIdeal.nD Cert.SInRefIdeal.τ).loc Cert.SInRefIdeal.main_v14) = v0 c
          ∧ r.2.mem ((c.tc : Thread Cert.SInRefIdeal.nD Cert.SInRefIdeal.τ).loc Cert.SInRefIdeal.main_arg0) = m' ((c.tc : Thread Cert.SInRefIdeal.nD Cert.SInRefIdeal.τ).loc Cert.SInRefIdeal.main_arg0)
          ∧ r.2.mem ((c.tc : Thread Cert.SInRefIdeal.nD Cert.SInRefIdeal.τ).loc Cert.SInRefIdeal.main_arg1) = m' ((c.tc : Thread Cert.SInRefIdeal.nD Cert.SInRefIdeal.τ).loc Cert.SInRefIdeal.main_arg1)
          ∧ r.2.mem ((c.tc : Thread Cert.SInRefIdeal.nD Cert.SInRefIdeal.τ).loc Cert.SInRefIdeal.main_arg2) = m' ((c.tc : Thread Cert.SInRefIdeal.nD Cert.SInRefIdeal.τ).loc Cert.SInRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_SOut_SOutIdeal : Prop :=
  True

def algebraic_SOutIdeal_SOutRefIdeal [hSOutIdeal : Cert.SOutIdeal.Facts] [hSOutRefIdeal : Cert.SOutRefIdeal.Facts] : Prop :=
  ∀ (m : (ℓ : Loc Cert.SOutIdeal.nD Cert.SOutIdeal.τ Cert.SOutIdeal.sig) → Buf (Elt Ideal) ℓ) (g : Dev Cert.SOutIdeal.nD → PrngReg)
    (m' : (ℓ : Loc Cert.SOutRefIdeal.nD Cert.SOutRefIdeal.τ Cert.SOutRefIdeal.sig) → Buf (Elt Ideal) ℓ) (g' : Dev Cert.SOutRefIdeal.nD → PrngReg), Pre_SOutIdeal m →
    (∀ c : Dev Cert.SOutIdeal.nD,
      m' ((c.tc : Thread Cert.SOutRefIdeal.nD Cert.SOutRefIdeal.τ).loc Cert.SOutRefIdeal.main_arg0) = m ((c.tc : Thread Cert.SOutIdeal.nD Cert.SOutIdeal.τ).loc Cert.SOutIdeal.main_arg0)
      ∧ m' ((c.tc : Thread Cert.SOutRefIdeal.nD Cert.SOutRefIdeal.τ).loc Cert.SOutRefIdeal.main_arg1) = m ((c.tc : Thread Cert.SOutIdeal.nD Cert.SOutIdeal.τ).loc Cert.SOutIdeal.main_arg1)
      ∧ m' ((c.tc : Thread Cert.SOutRefIdeal.nD Cert.SOutRefIdeal.τ).loc Cert.SOutRefIdeal.main_arg2) = m ((c.tc : Thread Cert.SOutIdeal.nD Cert.SOutIdeal.τ).loc Cert.SOutIdeal.main_arg2)) →
    ∃ (v0 : (c : Dev Cert.SOutIdeal.nD) → Buf (Elt Ideal) ((c.tc : Thread Cert.SOutIdeal.nD Cert.SOutIdeal.τ).loc Cert.SOutIdeal.main_v1)),
      θ_run (Cert.SOutIdeal.defs (F := Ideal)) (onTc (τ := Cert.SOutIdeal.τ) (Cert.SOutIdeal.main (F := Ideal))) ⟨m, fun _ => 0, g⟩ (fun r => ∀ c : Dev Cert.SOutIdeal.nD,
          r.2.mem ((c.tc : Thread Cert.SOutIdeal.nD Cert.SOutIdeal.τ).loc Cert.SOutIdeal.main_v1) = v0 c
          ∧ r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
          ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1)
          ∧ r.2.mem ((c.tc : Thread Cert.SOutIdeal.nD Cert.SOutIdeal.τ).loc Cert.SOutIdeal.main_arg2) = m ((c.tc : Thread Cert.SOutIdeal.nD Cert.SOutIdeal.τ).loc Cert.SOutIdeal.main_arg2))
      ∧ θ_run (Cert.SOutRefIdeal.defs (F := Ideal)) (onTc (τ := Cert.SOutRefIdeal.τ) (Cert.SOutRefIdeal.main (F := Ideal))) ⟨m', fun _ => 0, g'⟩ (fun r => ∀ c : Dev Cert.SOutRefIdeal.nD,
          r.2.mem ((c.tc : Thread Cert.SOutRefIdeal.nD Cert.SOutRefIdeal.τ).loc Cert.SOutRefIdeal.main_v2) = v0 c
          ∧ r.2.mem ((c.tc : Thread Cert.SOutRefIdeal.nD Cert.SOutRefIdeal.τ).loc Cert.SOutRefIdeal.main_arg0) = m' ((c.tc : Thread Cert.SOutRefIdeal.nD Cert.SOutRefIdeal.τ).loc Cert.SOutRefIdeal.main_arg0)
          ∧ r.2.mem ((c.tc : Thread Cert.SOutRefIdeal.nD Cert.SOutRefIdeal.τ).loc Cert.SOutRefIdeal.main_arg1) = m' ((c.tc : Thread Cert.SOutRefIdeal.nD Cert.SOutRefIdeal.τ).loc Cert.SOutRefIdeal.main_arg1)
          ∧ r.2.mem ((c.tc : Thread Cert.SOutRefIdeal.nD Cert.SOutRefIdeal.τ).loc Cert.SOutRefIdeal.main_arg2) = m' ((c.tc : Thread Cert.SOutRefIdeal.nD Cert.SOutRefIdeal.τ).loc Cert.SOutRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v28)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v28) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v80) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_MCore_MCoreIdeal : Prop :=
  True

def algebraic_MCoreIdeal_MCoreRefIdeal [hMCoreIdeal : Cert.MCoreIdeal.Facts] [hMCoreRefIdeal : Cert.MCoreRefIdeal.Facts] : Prop :=
  ∀ (m : (ℓ : Loc Cert.MCoreIdeal.nD Cert.MCoreIdeal.τ Cert.MCoreIdeal.sig) → Buf (Elt Ideal) ℓ) (g : Dev Cert.MCoreIdeal.nD → PrngReg)
    (m' : (ℓ : Loc Cert.MCoreRefIdeal.nD Cert.MCoreRefIdeal.τ Cert.MCoreRefIdeal.sig) → Buf (Elt Ideal) ℓ) (g' : Dev Cert.MCoreRefIdeal.nD → PrngReg), Pre_MCoreIdeal m →
    (∀ c : Dev Cert.MCoreIdeal.nD,
      m' ((c.tc : Thread Cert.MCoreRefIdeal.nD Cert.MCoreRefIdeal.τ).loc Cert.MCoreRefIdeal.main_arg0) = m ((c.tc : Thread Cert.MCoreIdeal.nD Cert.MCoreIdeal.τ).loc Cert.MCoreIdeal.main_arg0)
      ∧ m' ((c.tc : Thread Cert.MCoreRefIdeal.nD Cert.MCoreRefIdeal.τ).loc Cert.MCoreRefIdeal.main_arg1) = m ((c.tc : Thread Cert.MCoreIdeal.nD Cert.MCoreIdeal.τ).loc Cert.MCoreIdeal.main_arg1)
      ∧ m' ((c.tc : Thread Cert.MCoreRefIdeal.nD Cert.MCoreRefIdeal.τ).loc Cert.MCoreRefIdeal.main_arg2) = m ((c.tc : Thread Cert.MCoreIdeal.nD Cert.MCoreIdeal.τ).loc Cert.MCoreIdeal.main_arg2)) →
    ∃ (v0 : (c : Dev Cert.MCoreIdeal.nD) → Buf (Elt Ideal) ((c.tc : Thread Cert.MCoreIdeal.nD Cert.MCoreIdeal.τ).loc Cert.MCoreIdeal.main_v3)),
      θ_run (Cert.MCoreIdeal.defs (F := Ideal)) (onTc (τ := Cert.MCoreIdeal.τ) (Cert.MCoreIdeal.main (F := Ideal))) ⟨m, fun _ => 0, g⟩ (fun r => ∀ c : Dev Cert.MCoreIdeal.nD,
          r.2.mem ((c.tc : Thread Cert.MCoreIdeal.nD Cert.MCoreIdeal.τ).loc Cert.MCoreIdeal.main_v3) = v0 c
          ∧ r.2.mem ((c.tc : Thread Cert.MCoreIdeal.nD Cert.MCoreIdeal.τ).loc Cert.MCoreIdeal.main_arg0) = m ((c.tc : Thread Cert.MCoreIdeal.nD Cert.MCoreIdeal.τ).loc Cert.MCoreIdeal.main_arg0)
          ∧ r.2.mem ((c.tc : Thread Cert.MCoreIdeal.nD Cert.MCoreIdeal.τ).loc Cert.MCoreIdeal.main_arg1) = m ((c.tc : Thread Cert.MCoreIdeal.nD Cert.MCoreIdeal.τ).loc Cert.MCoreIdeal.main_arg1)
          ∧ r.2.mem ((c.tc : Thread Cert.MCoreIdeal.nD Cert.MCoreIdeal.τ).loc Cert.MCoreIdeal.main_arg2) = m ((c.tc : Thread Cert.MCoreIdeal.nD Cert.MCoreIdeal.τ).loc Cert.MCoreIdeal.main_arg2))
      ∧ θ_run (Cert.MCoreRefIdeal.defs (F := Ideal)) (onTc (τ := Cert.MCoreRefIdeal.τ) (Cert.MCoreRefIdeal.main (F := Ideal))) ⟨m', fun _ => 0, g'⟩ (fun r => ∀ c : Dev Cert.MCoreRefIdeal.nD,
          r.2.mem ((c.tc : Thread Cert.MCoreRefIdeal.nD Cert.MCoreRefIdeal.τ).loc Cert.MCoreRefIdeal.main_v11) = v0 c
          ∧ r.2.mem ((c.tc : Thread Cert.MCoreRefIdeal.nD Cert.MCoreRefIdeal.τ).loc Cert.MCoreRefIdeal.main_arg0) = m' ((c.tc : Thread Cert.MCoreRefIdeal.nD Cert.MCoreRefIdeal.τ).loc Cert.MCoreRefIdeal.main_arg0)
          ∧ r.2.mem ((c.tc : Thread Cert.MCoreRefIdeal.nD Cert.MCoreRefIdeal.τ).loc Cert.MCoreRefIdeal.main_arg1) = m' ((c.tc : Thread Cert.MCoreRefIdeal.nD Cert.MCoreRefIdeal.τ).loc Cert.MCoreRefIdeal.main_arg1)
          ∧ r.2.mem ((c.tc : Thread Cert.MCoreRefIdeal.nD Cert.MCoreRefIdeal.τ).loc Cert.MCoreRefIdeal.main_arg2) = m' ((c.tc : Thread Cert.MCoreRefIdeal.nD Cert.MCoreRefIdeal.τ).loc Cert.MCoreRefIdeal.main_arg2))

def preserves_SCore_SCoreIdeal : Prop :=
  True

def algebraic_SCoreIdeal_SCoreRefIdeal [hSCoreIdeal : Cert.SCoreIdeal.Facts] [hSCoreRefIdeal : Cert.SCoreRefIdeal.Facts] : Prop :=
  ∀ (m : (ℓ : Loc Cert.SCoreIdeal.nD Cert.SCoreIdeal.τ Cert.SCoreIdeal.sig) → Buf (Elt Ideal) ℓ) (g : Dev Cert.SCoreIdeal.nD → PrngReg)
    (m' : (ℓ : Loc Cert.SCoreRefIdeal.nD Cert.SCoreRefIdeal.τ Cert.SCoreRefIdeal.sig) → Buf (Elt Ideal) ℓ) (g' : Dev Cert.SCoreRefIdeal.nD → PrngReg), Pre_SCoreIdeal m →
    (∀ c : Dev Cert.SCoreIdeal.nD,
      m' ((c.tc : Thread Cert.SCoreRefIdeal.nD Cert.SCoreRefIdeal.τ).loc Cert.SCoreRefIdeal.main_arg0) = m ((c.tc : Thread Cert.SCoreIdeal.nD Cert.SCoreIdeal.τ).loc Cert.SCoreIdeal.main_arg0)
      ∧ m' ((c.tc : Thread Cert.SCoreRefIdeal.nD Cert.SCoreRefIdeal.τ).loc Cert.SCoreRefIdeal.main_arg1) = m ((c.tc : Thread Cert.SCoreIdeal.nD Cert.SCoreIdeal.τ).loc Cert.SCoreIdeal.main_arg1)
      ∧ m' ((c.tc : Thread Cert.SCoreRefIdeal.nD Cert.SCoreRefIdeal.τ).loc Cert.SCoreRefIdeal.main_arg2) = m ((c.tc : Thread Cert.SCoreIdeal.nD Cert.SCoreIdeal.τ).loc Cert.SCoreIdeal.main_arg2)
      ∧ m' ((c.tc : Thread Cert.SCoreRefIdeal.nD Cert.SCoreRefIdeal.τ).loc Cert.SCoreRefIdeal.main_arg3) = m ((c.tc : Thread Cert.SCoreIdeal.nD Cert.SCoreIdeal.τ).loc Cert.SCoreIdeal.main_arg3)
      ∧ m' ((c.tc : Thread Cert.SCoreRefIdeal.nD Cert.SCoreRefIdeal.τ).loc Cert.SCoreRefIdeal.main_arg4) = m ((c.tc : Thread Cert.SCoreIdeal.nD Cert.SCoreIdeal.τ).loc Cert.SCoreIdeal.main_arg4)
      ∧ m' ((c.tc : Thread Cert.SCoreRefIdeal.nD Cert.SCoreRefIdeal.τ).loc Cert.SCoreRefIdeal.main_arg5) = m ((c.tc : Thread Cert.SCoreIdeal.nD Cert.SCoreIdeal.τ).loc Cert.SCoreIdeal.main_arg5)
      ∧ m' ((c.tc : Thread Cert.SCoreRefIdeal.nD Cert.SCoreRefIdeal.τ).loc Cert.SCoreRefIdeal.main_arg6) = m ((c.tc : Thread Cert.SCoreIdeal.nD Cert.SCoreIdeal.τ).loc Cert.SCoreIdeal.main_arg6)) →
    ∃ (v0 : (c : Dev Cert.SCoreIdeal.nD) → Buf (Elt Ideal) ((c.tc : Thread Cert.SCoreIdeal.nD Cert.SCoreIdeal.τ).loc Cert.SCoreIdeal.main_v9)),
      θ_run (Cert.SCoreIdeal.defs (F := Ideal)) (onTc (τ := Cert.SCoreIdeal.τ) (Cert.SCoreIdeal.main (F := Ideal))) ⟨m, fun _ => 0, g⟩ (fun r => ∀ c : Dev Cert.SCoreIdeal.nD,
          r.2.mem ((c.tc : Thread Cert.SCoreIdeal.nD Cert.SCoreIdeal.τ).loc Cert.SCoreIdeal.main_v9) = v0 c
          ∧ r.2.mem ((c.tc : Thread Cert.SCoreIdeal.nD Cert.SCoreIdeal.τ).loc Cert.SCoreIdeal.main_arg0) = m ((c.tc : Thread Cert.SCoreIdeal.nD Cert.SCoreIdeal.τ).loc Cert.SCoreIdeal.main_arg0)
          ∧ r.2.mem ((c.tc : Thread Cert.SCoreIdeal.nD Cert.SCoreIdeal.τ).loc Cert.SCoreIdeal.main_arg1) = m ((c.tc : Thread Cert.SCoreIdeal.nD Cert.SCoreIdeal.τ).loc Cert.SCoreIdeal.main_arg1)
          ∧ r.2.mem ((c.tc : Thread Cert.SCoreIdeal.nD Cert.SCoreIdeal.τ).loc Cert.SCoreIdeal.main_arg2) = m ((c.tc : Thread Cert.SCoreIdeal.nD Cert.SCoreIdeal.τ).loc Cert.SCoreIdeal.main_arg2)
          ∧ r.2.mem ((c.tc : Thread Cert.SCoreIdeal.nD Cert.SCoreIdeal.τ).loc Cert.SCoreIdeal.main_arg3) = m ((c.tc : Thread Cert.SCoreIdeal.nD Cert.SCoreIdeal.τ).loc Cert.SCoreIdeal.main_arg3)
          ∧ r.2.mem ((c.tc : Thread Cert.SCoreIdeal.nD Cert.SCoreIdeal.τ).loc Cert.SCoreIdeal.main_arg4) = m ((c.tc : Thread Cert.SCoreIdeal.nD Cert.SCoreIdeal.τ).loc Cert.SCoreIdeal.main_arg4)
          ∧ r.2.mem ((c.tc : Thread Cert.SCoreIdeal.nD Cert.SCoreIdeal.τ).loc Cert.SCoreIdeal.main_arg5) = m ((c.tc : Thread Cert.SCoreIdeal.nD Cert.SCoreIdeal.τ).loc Cert.SCoreIdeal.main_arg5)
          ∧ r.2.mem ((c.tc : Thread Cert.SCoreIdeal.nD Cert.SCoreIdeal.τ).loc Cert.SCoreIdeal.main_arg6) = m ((c.tc : Thread Cert.SCoreIdeal.nD Cert.SCoreIdeal.τ).loc Cert.SCoreIdeal.main_arg6))
      ∧ θ_run (Cert.SCoreRefIdeal.defs (F := Ideal)) (onTc (τ := Cert.SCoreRefIdeal.τ) (Cert.SCoreRefIdeal.main (F := Ideal))) ⟨m', fun _ => 0, g'⟩ (fun r => ∀ c : Dev Cert.SCoreRefIdeal.nD,
          r.2.mem ((c.tc : Thread Cert.SCoreRefIdeal.nD Cert.SCoreRefIdeal.τ).loc Cert.SCoreRefIdeal.main_v67) = v0 c
          ∧ r.2.mem ((c.tc : Thread Cert.SCoreRefIdeal.nD Cert.SCoreRefIdeal.τ).loc Cert.SCoreRefIdeal.main_arg0) = m' ((c.tc : Thread Cert.SCoreRefIdeal.nD Cert.SCoreRefIdeal.τ).loc Cert.SCoreRefIdeal.main_arg0)
          ∧ r.2.mem ((c.tc : Thread Cert.SCoreRefIdeal.nD Cert.SCoreRefIdeal.τ).loc Cert.SCoreRefIdeal.main_arg1) = m' ((c.tc : Thread Cert.SCoreRefIdeal.nD Cert.SCoreRefIdeal.τ).loc Cert.SCoreRefIdeal.main_arg1)
          ∧ r.2.mem ((c.tc : Thread Cert.SCoreRefIdeal.nD Cert.SCoreRefIdeal.τ).loc Cert.SCoreRefIdeal.main_arg2) = m' ((c.tc : Thread Cert.SCoreRefIdeal.nD Cert.SCoreRefIdeal.τ).loc Cert.SCoreRefIdeal.main_arg2)
          ∧ r.2.mem ((c.tc : Thread Cert.SCoreRefIdeal.nD Cert.SCoreRefIdeal.τ).loc Cert.SCoreRefIdeal.main_arg3) = m' ((c.tc : Thread Cert.SCoreRefIdeal.nD Cert.SCoreRefIdeal.τ).loc Cert.SCoreRefIdeal.main_arg3)
          ∧ r.2.mem ((c.tc : Thread Cert.SCoreRefIdeal.nD Cert.SCoreRefIdeal.τ).loc Cert.SCoreRefIdeal.main_arg4) = m' ((c.tc : Thread Cert.SCoreRefIdeal.nD Cert.SCoreRefIdeal.τ).loc Cert.SCoreRefIdeal.main_arg4)
          ∧ r.2.mem ((c.tc : Thread Cert.SCoreRefIdeal.nD Cert.SCoreRefIdeal.τ).loc Cert.SCoreRefIdeal.main_arg5) = m' ((c.tc : Thread Cert.SCoreRefIdeal.nD Cert.SCoreRefIdeal.τ).loc Cert.SCoreRefIdeal.main_arg5)
          ∧ r.2.mem ((c.tc : Thread Cert.SCoreRefIdeal.nD Cert.SCoreRefIdeal.τ).loc Cert.SCoreRefIdeal.main_arg6) = m' ((c.tc : Thread Cert.SCoreRefIdeal.nD Cert.SCoreRefIdeal.τ).loc Cert.SCoreRefIdeal.main_arg6))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hLast : Cert.Last.Facts) (hLastIdeal : Cert.LastIdeal.Facts) (hLastRefIdeal : Cert.LastRefIdeal.Facts) (hMIn : Cert.MIn.Facts) (hMInIdeal : Cert.MInIdeal.Facts) (hMInRefIdeal : Cert.MInRefIdeal.Facts) (hSIn : Cert.SIn.Facts) (hSInIdeal : Cert.SInIdeal.Facts) (hSInRefIdeal : Cert.SInRefIdeal.Facts) (hOut : Cert.Out.Facts) (hOutIdeal : Cert.OutIdeal.Facts) (hOutRefIdeal : Cert.OutRefIdeal.Facts) (hSOut : Cert.SOut.Facts) (hSOutIdeal : Cert.SOutIdeal.Facts) (hSOutRefIdeal : Cert.SOutRefIdeal.Facts) (hRope : Cert.Rope.Facts) (hRopeIdeal : Cert.RopeIdeal.Facts) (hRopeRefIdeal : Cert.RopeRefIdeal.Facts) (hMCore : Cert.MCore.Facts) (hMCoreIdeal : Cert.MCoreIdeal.Facts) (hMCoreRefIdeal : Cert.MCoreRefIdeal.Facts) (hSCore : Cert.SCore.Facts) (hSCoreIdeal : Cert.SCoreIdeal.Facts) (hSCoreRefIdeal : Cert.SCoreRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Last (hLast := hLast)
    ∧ quiescent_LastIdeal (hLastIdeal := hLastIdeal)
    ∧ quiescent_LastRefIdeal (hLastRefIdeal := hLastRefIdeal)
    ∧ quiescent_MIn (hMIn := hMIn)
    ∧ quiescent_MInIdeal (hMInIdeal := hMInIdeal)
    ∧ quiescent_MInRefIdeal (hMInRefIdeal := hMInRefIdeal)
    ∧ quiescent_SIn (hSIn := hSIn)
    ∧ quiescent_SInIdeal (hSInIdeal := hSInIdeal)
    ∧ quiescent_SInRefIdeal (hSInRefIdeal := hSInRefIdeal)
    ∧ quiescent_Out (hOut := hOut)
    ∧ quiescent_OutIdeal (hOutIdeal := hOutIdeal)
    ∧ quiescent_OutRefIdeal (hOutRefIdeal := hOutRefIdeal)
    ∧ quiescent_SOut (hSOut := hSOut)
    ∧ quiescent_SOutIdeal (hSOutIdeal := hSOutIdeal)
    ∧ quiescent_SOutRefIdeal (hSOutRefIdeal := hSOutRefIdeal)
    ∧ quiescent_Rope (hRope := hRope)
    ∧ quiescent_RopeIdeal (hRopeIdeal := hRopeIdeal)
    ∧ quiescent_RopeRefIdeal (hRopeRefIdeal := hRopeRefIdeal)
    ∧ quiescent_MCore (hMCore := hMCore)
    ∧ quiescent_MCoreIdeal (hMCoreIdeal := hMCoreIdeal)
    ∧ quiescent_MCoreRefIdeal (hMCoreRefIdeal := hMCoreRefIdeal)
    ∧ quiescent_SCore (hSCore := hSCore)
    ∧ quiescent_SCoreIdeal (hSCoreIdeal := hSCoreIdeal)
    ∧ quiescent_SCoreRefIdeal (hSCoreRefIdeal := hSCoreRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Last_LastIdeal
    ∧ algebraic_LastIdeal_LastRefIdeal (hLastIdeal := hLastIdeal) (hLastRefIdeal := hLastRefIdeal)
    ∧ preserves_MIn_MInIdeal
    ∧ algebraic_MInIdeal_MInRefIdeal (hMInIdeal := hMInIdeal) (hMInRefIdeal := hMInRefIdeal)
    ∧ preserves_SIn_SInIdeal
    ∧ algebraic_SInIdeal_SInRefIdeal (hSInIdeal := hSInIdeal) (hSInRefIdeal := hSInRefIdeal)
    ∧ preserves_Out_OutIdeal
    ∧ algebraic_OutIdeal_OutRefIdeal (hOutIdeal := hOutIdeal) (hOutRefIdeal := hOutRefIdeal)
    ∧ preserves_SOut_SOutIdeal
    ∧ algebraic_SOutIdeal_SOutRefIdeal (hSOutIdeal := hSOutIdeal) (hSOutRefIdeal := hSOutRefIdeal)
    ∧ preserves_Rope_RopeIdeal
    ∧ algebraic_RopeIdeal_RopeRefIdeal (hRopeIdeal := hRopeIdeal) (hRopeRefIdeal := hRopeRefIdeal)
    ∧ preserves_MCore_MCoreIdeal
    ∧ algebraic_MCoreIdeal_MCoreRefIdeal (hMCoreIdeal := hMCoreIdeal) (hMCoreRefIdeal := hMCoreRefIdeal)
    ∧ preserves_SCore_SCoreIdeal
    ∧ algebraic_SCoreIdeal_SCoreRefIdeal (hSCoreIdeal := hSCoreIdeal) (hSCoreRefIdeal := hSCoreRefIdeal)
-- ==== Pre_finite.lean ====
abbrev S16384x3072 : Shape := ⟨2, ![16384, 3072]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x3072 .bf16) (main_arg1 : FVec F S4x64 .f32) (main_arg2 : FVec F S128 .f32) : IVec S_ 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Attn.lean ====
abbrev S16384x3072 : Shape := ⟨2, ![16384, 3072]⟩
abbrev S4x64 : Shape := ⟨2, ![4, 64]⟩
abbrev S128 : Shape := ⟨1, ![128]⟩
abbrev S1x128 : Shape := ⟨2, ![1, 128]⟩
abbrev S16384x1024 : Shape := ⟨2, ![16384, 1024]⟩
abbrev S512x128 : Shape := ⟨2, ![512, 128]⟩
abbrev S8192x128 : Shape := ⟨2, ![8192, 128]⟩
abbrev S512x512 : Shape := ⟨2, ![512, 512]⟩
abbrev S512x1 : Shape := ⟨2, ![512, 1]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x3072, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S512x128, .bf16⟩
  | .local _ .vmem, ⟨9, _⟩ => ⟨S512x128, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_8 : BitVec 32 := 1#32
  ⟨c0_i32, v22, c1_i32_8⟩
def k0_mult1 (i : grid0.Coords) (k0_t1 : Fin (k0_t1_loop i).trips) : BitVec 32 :=
  let c0_i32 : BitVec 32 := 0#32
  let c1_i32_8 : BitVec 32 := 1#32
  let arg9 : BitVec 32 := Scf.iv c0_i32 c1_i32_8 k0_t1
  let c512_i32_35 : BitVec 32 := 512#32
  let v112 : BitVec 32 := Scalar.muli arg9 c512_i32_35
  v112
def k0_off1 (i : grid0.Coords) (k0_t1 : Fin (k0_t1_loop i).trips) : Fin 2 → Nat :=
  let c0_i32 : BitVec 32 := 0#32
  let c1_i32_8 : BitVec 32 := 1#32
  let arg9 : BitVec 32 := Scf.iv c0_i32 c1_i32_8 k0_t1
  let c512_i32_35 : BitVec 32 := 512#32
  let v112 : BitVec 32 := Scalar.muli arg9 c512_i32_35
  let v113 : BitVec 32 := v112
  let v114 : Index := Scalar.indexCast v113
  let c0_36 : Index := 0#32
  ![v114.toNat, 0]
@[reducible] def k0_t2_loop (i : grid0.Coords) : Scf.Loop 32 :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let v19 : BitVec 32 := Scalar.addi c0_i32 v18
  let c1_i32_9 : BitVec 32 := 1#32
  ⟨v22, v19, c1_i32_9⟩
def k0_mult2 (i : grid0.Coords) (k0_t2 : Fin (k0_t2_loop i).trips) : BitVec 32 :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_9 : BitVec 32 := 1#32
  let arg9 : BitVec 32 := Scf.iv v22 c1_i32_9 k0_t2
  let c512_i32_35 : BitVec 32 := 512#32
  let v112 : BitVec 32 := Scalar.muli arg9 c512_i32_35
  v112
def k0_off2 (i : grid0.Coords) (k0_t2 : Fin (k0_t2_loop i).trips) : Fin 2 → Nat :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_9 : BitVec 32 := 1#32
  let arg9 : BitVec 32 := Scf.iv v22 c1_i32_9 k0_t2
  let c512_i32_35 : BitVec 32 := 512#32
  let v112 : BitVec 32 := Scalar.muli arg9 c512_i32_35
  let v113 : BitVec 32 := v112
  let v114 : Index := Scalar.indexCast v113
  let c0_36 : Index := 0#32
  ![v114.toNat, 0]
def k0_mult3 (i : grid0.Coords) : BitVec 32 :=
  let arg2 : BitVec 32 := BitVec.ofNat 32 (i 2).val
  let c512_i32 : BitVec 32 := 512#32
  let v25 : BitVec 32 := Scalar.muli arg2 c512_i32
  v25
def k0_off3 (i : grid0.Coords) : Fin 2 → Nat :=
  let arg2 : BitVec 32 := BitVec.ofNat 32 (i 2).val
  let c512_i32 : BitVec 32 := 512#32
  let v25 : BitVec 32 := Scalar.muli arg2 c512_i32
  let v26 : BitVec 32 := v25
  let v27 : Index := Scalar.indexCast v26
  let c0_10 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S16384x3072 : Shape := ⟨2, ![16384, 3072]⟩
abbrev S4x64 : Shape := ⟨2, ![4, 64]⟩
abbrev S128 : Shape := ⟨1, ![128]⟩
abbrev S2x8192x3072 : Shape := ⟨3, ![2, 8192, 3072]⟩
abbrev S2x8192x1024 : Shape := ⟨3, ![2, 8192, 1024]⟩
abbrev S2x8192x8x2x64 : Shape := ⟨5, ![2, 8192, 8, 2, 64]⟩
abbrev S2x8x2x8192x64 : Shape := ⟨5, ![2, 8, 2, 8192, 64]⟩
abbrev S2x8192x8x128 : Shape := ⟨4, ![2, 8192, 8, 128]⟩
abbrev S2x8x8192x128 : Shape := ⟨4, ![2, 8, 8192, 128]⟩
abbrev S1x64 : Shape := ⟨2, ![1, 64]⟩
abbrev S64 : Shape := ⟨1, ![64]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S4x64, .f32⟩
  | .hbm, ⟨2, _⟩ => ⟨S128, .f32⟩
  | .hbm, ⟨3, _⟩ => ⟨S16384x3072, .f32⟩
  | .hbm, ⟨4, _⟩ => ⟨S2x8192x3072, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x8x2x64, .f32⟩
  | .hbm, ⟨9, _⟩ => ⟨S2x8x2x8192x64, .f32⟩
  | .hbm, ⟨10, _⟩ => ⟨S2x8192x8x2x64, .f32⟩
  | .hbm, ⟨11, _⟩ => ⟨S2x8x2x8192x64, .f32⟩
  | .hbm, ⟨12, _⟩ => ⟨S2x8192x8x128, .f32⟩
  | .hbm, ⟨13, _⟩ => ⟨S2x8x8192x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192, .i32⟩
  | .hbm, ⟨34, _⟩ => ⟨S2x8x2x8192x8192, .f32⟩
  | .hbm, ⟨35, _⟩ => ⟨S1x8192, .i32⟩
  | .hbm, ⟨36, _⟩ => ⟨S8192x1, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S_, .f32⟩
  | .hbm, ⟨41, _⟩ => ⟨S_, .f32⟩
  | .hbm, ⟨42, _⟩ => ⟨S2x8x2x8192x8192, .i1⟩
  | .hbm, ⟨43, _⟩ => ⟨S2x8x2x8192x8192, .f32⟩
  | .hbm, ⟨44, _⟩ => ⟨S2x8x2x8192x8192, .f32⟩
  | .hbm, ⟨45, _⟩ => ⟨S_, .f32⟩
  | .hbm, ⟨46, _⟩ => ⟨S2x8x2x8192, .f32⟩
  | .hbm, ⟨47, _⟩ => ⟨S_, .f32⟩
  | .hbm, ⟨48, _⟩ => ⟨S2x8x2x8192, .f32⟩
  | .hbm, ⟨49, _⟩ => ⟨S2x8x2x8192, .f32⟩
  | .hbm, ⟨50, _⟩ => ⟨S2x8x2x8192x1, .f32⟩
  | .hbm, ⟨51, _⟩ => ⟨S2x8x2x8192x8192, .f32⟩
  | .hbm, ⟨52, _⟩ => ⟨S2x8x2x8192x8192, .f32⟩
  | .hbm, ⟨53, _⟩ => ⟨S2x8x2x8192x8192, .f32⟩
  | .hbm, ⟨54, _⟩ => ⟨S_, .f32⟩
  | .hbm, ⟨55, _⟩ => ⟨S2x8x2x8192, .f32⟩
  | .hbm, ⟨56, _⟩ => ⟨S2x8x2x8192x1, .f32⟩
  | .hbm, ⟨57, _⟩ => ⟨S2x8x2x8192x8192, .f32⟩
  | .hbm, ⟨58, _⟩ => ⟨S2x8x2x8192x8192, .f32⟩
  | .hbm, ⟨59, _⟩ => ⟨S2x8x1x8192x8192, .f32⟩
  | .hbm, ⟨60, _⟩ => ⟨S2x8x8192x8192, .f32⟩
  | .hbm, ⟨61, _⟩ => ⟨S2x8x1x8192x8192, .f32⟩
  | .hbm, ⟨62, _⟩ => ⟨S2x8x8192x8192, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S2x8x8192x128, .f32⟩
  | .hbm, ⟨67, _⟩ => ⟨S2x8192x8x128, .f32⟩
  | .hbm, ⟨68, _⟩ => ⟨S2x8192x8x128, .f32⟩
  | .hbm, ⟨69, _⟩ => ⟨S_, .f32⟩
  | .hbm, ⟨70, _⟩ => ⟨S2x8192x8, .f32⟩
  | .hbm, ⟨71, _⟩ => ⟨S2x8192x8x1, .f32⟩
  | .hbm, ⟨72, _⟩ => ⟨S_, .f32⟩
  | .hbm, ⟨73, _⟩ => ⟨S2x8192x8x1, .f32⟩
  | .hbm, ⟨74, _⟩ => ⟨S2x8192x8x1, .f32⟩
  | .hbm, ⟨75, _⟩ => ⟨S_, .f32⟩
  | .hbm, ⟨76, _⟩ => ⟨S2x8192x8x1, .f32⟩
  | .hbm, ⟨77, _⟩ => ⟨S2x8192x8x1, .f32⟩
  | .hbm, ⟨78, _⟩ => ⟨S2x8192x8x1, .f32⟩
  | .hbm, ⟨79, _⟩ => ⟨S2x8192x8x128, .f32⟩
  | .hbm, ⟨80, _⟩ => ⟨S2x8192x8x128, .f32⟩
  | .hbm, ⟨81, _⟩ => ⟨S1x1x1x128, .f32⟩
  | .hbm, ⟨82, _⟩ => ⟨S2x8192x8x128, .f32⟩
  | .hbm, ⟨83, _⟩ => ⟨S2x8192x8x128, .f32⟩
  | .hbm, ⟨84, _⟩ => ⟨S_, .f32⟩
  | .hbm, ⟨85, _⟩ => ⟨S2x8192x8x128, .f32⟩
  | .hbm, ⟨86, _⟩ => ⟨S2x8192x8x128, .f32⟩
  | .hbm, ⟨87, _⟩ => ⟨S16384x1024, .f32⟩
  | .hbm, ⟨88, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Last.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== LastRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== MIn.lean ====
abbrev S16384x1024 : Shape := ⟨2, ![16384, 1024]⟩
abbrev S1024 : Shape := ⟨1, ![1024]⟩
abbrev S1024x3080 : Shape := ⟨2, ![1024, 3080]⟩
abbrev S_ : Shape := ⟨0, ![]⟩
abbrev S1024x3200 : Shape := ⟨2, ![1024, 3200]⟩
abbrev S1x1024 : Shape := ⟨2, ![1, 1024]⟩
abbrev S16384x3200 : Shape := ⟨2, ![16384, 3200]⟩
abbrev S1024x1024 : Shape := ⟨2, ![1024, 1024]⟩
abbrev S1024x640 : Shape := ⟨2, ![1024, 640]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S1x1024, .f32⟩
  | .hbm, ⟨8, _⟩ => ⟨S16384x3200, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x640, .bf16⟩
  | .local _ .vmem, ⟨4, _⟩ => ⟨S1024x640, .bf16⟩
  | .local _ .vmem, ⟨5, _⟩ => ⟨S1024x640, .f32⟩
  | .local _ .vmem, ⟨6, _⟩ => ⟨S1024x640, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MInRefIdeal.lean ====
abbrev S16384x1024 : Shape := ⟨2, ![16384, 1024]⟩
abbrev S1024 : Shape := ⟨1, ![1024]⟩
abbrev S1024x3080 : Shape := ⟨2, ![1024, 3080]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3080 : Shape := ⟨2, ![16384, 3080]⟩
abbrev S16384x3200 : Shape := ⟨2, ![16384, 3200]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3080, .f32⟩
  | .hbm, ⟨20, _⟩ => ⟨S_, .i32⟩
  | .hbm, ⟨21, _⟩ => ⟨S_, .f32⟩
  | .hbm, ⟨22, _⟩ => ⟨S16384x3200, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== SIn.lean ====
abbrev S16384x1024 : Shape := ⟨2, ![16384, 1024]⟩
abbrev S1024 : Shape := ⟨1, ![1024]⟩
abbrev S1024x6176 : Shape := ⟨2, ![1024, 6176]⟩
abbrev S_ : Shape := ⟨0, ![]⟩
abbrev S1024x6272 : Shape := ⟨2, ![1024, 6272]⟩
abbrev S1x1024 : Shape := ⟨2, ![1, 1024]⟩
abbrev S16384x6272 : Shape := ⟨2, ![16384, 6272]⟩
abbrev S1024x1024 : Shape := ⟨2, ![1024, 1024]⟩
abbrev S1024x896 : Shape := ⟨2, ![1024, 896]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6176, .f32⟩
  | .hbm, ⟨3, _⟩ => ⟨S_, .i32⟩
  | .hbm, ⟨4, _⟩ => ⟨S_, .f32⟩
  | .hbm, ⟨5, _⟩ => ⟨S1024x6272, .f32⟩
  | .hbm, ⟨6, _⟩ => ⟨S1024x6272, .bf16⟩
  | .hbm, ⟨7, _⟩ => ⟨S1x1024, .f32⟩
  | .hbm, ⟨8, _⟩ => ⟨S16384x6272, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1024x896, .f32⟩
  | .local _ .vmem, ⟨6, _⟩ => ⟨S1024x896, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SInRefIdeal.lean ====
abbrev S16384x1024 : Shape := ⟨2, ![16384, 1024]⟩
abbrev S1024 : Shape := ⟨1, ![1024]⟩
abbrev S1024x6176 : Shape := ⟨2, ![1024, 6176]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6176 : Shape := ⟨2, ![16384, 6176]⟩
abbrev S16384x6272 : Shape := ⟨2, ![16384, 6272]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6176, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6176, .f32⟩
  | .hbm, ⟨20, _⟩ => ⟨S_, .i32⟩
  | .hbm, ⟨21, _⟩ => ⟨S_, .f32⟩
  | .hbm, ⟨22, _⟩ => ⟨S16384x6272, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutIdeal.lean ====
abbrev S16384x1024 : Shape := ⟨2, ![16384, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SOut.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S2048x1024, .bf16⟩
  | .hbm, ⟨4, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SOutRefIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x1024, .f32⟩
  | .hbm, ⟨3, _⟩ => ⟨S16384x2048, .f32⟩
  | .hbm, ⟨4, _⟩ => ⟨S16384x1024, .f32⟩
  | .hbm, ⟨5, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Rope.lean ====
abbrev S16384x1024 : Shape := ⟨2, ![16384, 1024]⟩
abbrev S1024 : Shape := ⟨1, ![1024]⟩
abbrev S1024x3072 : Shape := ⟨2, ![1024, 3072]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1x1024 : Shape := ⟨2, ![1, 1024]⟩
abbrev S16384x3072 : Shape := ⟨2, ![16384, 3072]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 36
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x8192x1x32, .f32⟩
  | .hbm, ⟨26, _⟩ => ⟨S1x8192x4x32, .f32⟩
  | .hbm, ⟨27, _⟩ => ⟨S8192x128, .f32⟩
  | .hbm, ⟨28, _⟩ => ⟨S8192x32, .f32⟩
  | .hbm, ⟨29, _⟩ => ⟨S8192x64, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S1024x3072, .bf16⟩
  | .hbm, ⟨34, _⟩ => ⟨S1x1024, .f32⟩
  | .hbm, ⟨35, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeRefIdeal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2x8192x1024 : Shape := ⟨3, ![2, 8192, 1024]⟩
abbrev S2x8192x3072 : Shape := ⟨3, ![2, 8192, 3072]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x1x32 : Shape := ⟨4, ![8192, 1, 1, 32]⟩
abbrev S2x8192x8x2x64 : Shape := ⟨5, ![2, 8192, 8, 2, 64]⟩
abbrev S2x8192x8x2x32 : Shape := ⟨5, ![2, 8192, 8, 2, 32]⟩
abbrev S1x8192x1x1x32 : Shape := ⟨5, ![1, 8192, 1, 1, 32]⟩
abbrev S16384x3072 : Shape := ⟨2, ![16384, 3072]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S2x8192x1024, .f32⟩
  | .hbm, ⟨20, _⟩ => ⟨S2x8192x3072, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S8192, .f32⟩
  | .hbm, ⟨39, _⟩ => ⟨S8192x1, .f32⟩
  | .hbm, ⟨40, _⟩ => ⟨S1x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x1x1x32, .f32⟩
  | .hbm, ⟨46, _⟩ => ⟨S8192x32, .f32⟩
  | .hbm, ⟨47, _⟩ => ⟨S8192x1x1x32, .f32⟩
  | .hbm, ⟨48, _⟩ => ⟨S2x8192x8x2x64, .f32⟩
  | .hbm, ⟨49, _⟩ => ⟨S2x8192x8x2x32, .f32⟩
  | .hbm, ⟨50, _⟩ => ⟨S2x8192x8x2x32, .f32⟩
  | .hbm, ⟨51, _⟩ => ⟨S1x8192x1x1x32, .f32⟩
  | .hbm, ⟨52, _⟩ => ⟨S2x8192x8x2x32, .f32⟩
  | .hbm, ⟨53, _⟩ => ⟨S2x8192x8x2x32, .f32⟩
  | .hbm, ⟨54, _⟩ => ⟨S1x8192x1x1x32, .f32⟩
  | .hbm, ⟨55, _⟩ => ⟨S2x8192x8x2x32, .f32⟩
  | .hbm, ⟨56, _⟩ => ⟨S2x8192x8x2x32, .f32⟩
  | .hbm, ⟨57, _⟩ => ⟨S2x8192x8x2x32, .f32⟩
  | .hbm, ⟨58, _⟩ => ⟨S1x8192x1x1x32, .f32⟩
  | .hbm, ⟨59, _⟩ => ⟨S2x8192x8x2x32, .f32⟩
  | .hbm, ⟨60, _⟩ => ⟨S2x8192x8x2x32, .f32⟩
  | .hbm, ⟨61, _⟩ => ⟨S1x8192x1x1x32, .f32⟩
  | .hbm, ⟨62, _⟩ => ⟨S2x8192x8x2x32, .f32⟩
  | .hbm, ⟨63, _⟩ => ⟨S2x8192x8x2x32, .f32⟩
  | .hbm, ⟨64, _⟩ => ⟨S2x8192x8x2x32, .f32⟩
  | .hbm, ⟨65, _⟩ => ⟨S2x8192x8x2x64, .f32⟩
  | .hbm, ⟨66, _⟩ => ⟨S2x8192x1024, .f32⟩
  | .hbm, ⟨67, _⟩ => ⟨S_, .f32⟩
  | .hbm, ⟨68, _⟩ => ⟨S2x8192x1024, .f32⟩
  | .hbm, ⟨69, _⟩ => ⟨S2x8192x1024, .f32⟩
  | .hbm, ⟨70, _⟩ => ⟨S2x8192x8x2x64, .f32⟩
  | .hbm, ⟨71, _⟩ => ⟨S2x8192x8x2x32, .f32⟩
  | .hbm, ⟨72, _⟩ => ⟨S2x8192x8x2x32, .f32⟩
  | .hbm, ⟨73, _⟩ => ⟨S1x8192x1x1x32, .f32⟩
  | .hbm, ⟨74, _⟩ => ⟨S2x8192x8x2x32, .f32⟩
  | .hbm, ⟨75, _⟩ => ⟨S2x8192x8x2x32, .f32⟩
  | .hbm, ⟨76, _⟩ => ⟨S1x8192x1x1x32, .f32⟩
  | .hbm, ⟨77, _⟩ => ⟨S2x8192x8x2x32, .f32⟩
  | .hbm, ⟨78, _⟩ => ⟨S2x8192x8x2x32, .f32⟩
  | .hbm, ⟨79, _⟩ => ⟨S2x8192x8x2x32, .f32⟩
  | .hbm, ⟨80, _⟩ => ⟨S1x8192x1x1x32, .f32⟩
  | .hbm, ⟨81, _⟩ => ⟨S2x8192x8x2x32, .f32⟩
  | .hbm, ⟨82, _⟩ => ⟨S2x8192x8x2x32, .f32⟩
  | .hbm, ⟨83, _⟩ => ⟨S1x8192x1x1x32, .f32⟩
  | .hbm, ⟨84, _⟩ => ⟨S2x8192x8x2x32, .f32⟩
  | .hbm, ⟨85, _⟩ => ⟨S2x8192x8x2x32, .f32⟩
  | .hbm, ⟨86, _⟩ => ⟨S2x8192x8x2x32, .f32⟩
  | .hbm, ⟨87, _⟩ => ⟨S2x8192x8x2x64, .f32⟩
  | .hbm, ⟨88, _⟩ => ⟨S2x8192x1024, .f32⟩
  | .hbm, ⟨89, _⟩ => ⟨S2x8192x3072, .f32⟩
  | .hbm, ⟨90, _⟩ => ⟨S16384x3072, .f32⟩
  | .hbm, ⟨91, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩

abbrev nD : Nat := 1
abbrev τ : Topo := Topo.v7x

variable {F : FTy → Type} [FloatOps F]
-- ==== MCore.lean ====
abbrev S16384x3200 : Shape := ⟨2, ![16384, 3200]⟩
abbrev S8 : Shape := ⟨1, ![8]⟩
abbrev S1024 : Shape := ⟨1, ![1024]⟩
abbrev S_ : Shape := ⟨0, ![]⟩
abbrev S128 : Shape := ⟨1, ![128]⟩
abbrev S1x128 : Shape := ⟨2, ![1, 128]⟩
abbrev S1x1024 : Shape := ⟨2, ![1, 1024]⟩
abbrev S16384x1024 : Shape := ⟨2, ![16384, 1024]⟩
abbrev S128x3200 : Shape := ⟨2, ![128, 3200]⟩
abbrev S128x1024 : Shape := ⟨2, ![128, 1024]⟩
abbrev S4x128x256 : Shape := ⟨3, ![4, 128, 256]⟩
abbrev S4x1x128 : Shape := ⟨3, ![4, 1, 128]⟩
abbrev S128x128 : Shape := ⟨2, ![128, 128]⟩
abbrev S128x256 : Shape := ⟨2, ![128, 256]⟩
abbrev S128x1 : Shape := ⟨2, ![128, 1]⟩
abbrev S1x1 : Shape := ⟨2, ![1, 1]⟩
abbrev S1x128x256 : Shape := ⟨3, ![1, 128, 256]⟩
abbrev S1x1x128 : Shape := ⟨3, ![1, 1, 128]⟩
abbrev S1 : Shape := ⟨1, ![1]⟩
abbrev S1x256 : Shape := ⟨2, ![1, 256]⟩

abbrev nBuf : Space → Nat
  | .hbm => 9
  | .vmem => 9
  | .smem => 0
  | _ => 0

abbrev bufTy : (tb : Table) → Fin (tcTables nBuf tb) → BufTy
  | .hbm, ⟨0, _⟩ => ⟨S16384x3200, .f32⟩
  | .hbm, ⟨1, _⟩ => ⟨S8, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S1x1024, .f32⟩
  | .hbm, ⟨8, _⟩ => ⟨S16384x1024, .bf16⟩
  | .local _ .vmem, ⟨0, _⟩ => ⟨S128x3200, .f32⟩
  | .local _ .vmem, ⟨1, _⟩ => ⟨S128x3200, .f32⟩
  | .local _ .vmem, ⟨2, _⟩ => ⟨S1x128, .f32⟩
  | .local _ .vmem, ⟨3, _⟩ => ⟨S1x1024, .f32⟩
  | .local _ .vmem, ⟨4, _⟩ => ⟨S128x1024, .bf16⟩
  | .local _ .vmem, ⟨5, _⟩ => ⟨S128x1024, .bf16⟩
  | .local _ .vmem, ⟨6, _⟩ => ⟨S4x128x256, .f32⟩
  | .local _ .vmem, ⟨7, _⟩ => ⟨S4x1x128, .f32⟩
  | .local _ .vmem, ⟨8, _⟩ => ⟨S4x1x128, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MCoreRefIdeal.lean ====
abbrev S16384x3200 : Shape := ⟨2, ![16384, 3200]⟩
abbrev S8 : Shape := ⟨1, ![8]⟩
abbrev S1024 : Shape := ⟨1, ![1024]⟩
abbrev S_ : Shape := ⟨0, ![]⟩
abbrev S128x128 : Shape := ⟨2, ![128, 128]⟩
abbrev S2x4x128x256 : Shape := ⟨4, ![2, 4, 128, 256]⟩
abbrev S2x4x128 : Shape := ⟨3, ![2, 4, 128]⟩
abbrev S2x4 : Shape := ⟨2, ![2, 4]⟩
abbrev S2x64x128x3200 : Shape := ⟨4, ![2, 64, 128, 3200]⟩
abbrev S64x2x128x3200 : Shape := ⟨4, ![64, 2, 128, 3200]⟩
abbrev S64x2x128x1024 : Shape := ⟨4, ![64, 2, 128, 1024]⟩
abbrev S1x2x128x3200 : Shape := ⟨4, ![1, 2, 128, 3200]⟩
abbrev S2x128x3200 : Shape := ⟨3, ![2, 128, 3200]⟩
abbrev S2x128x512 : Shape := ⟨3, ![2, 128, 512]⟩
abbrev S2x128x4x128 : Shape := ⟨4, ![2, 128, 4, 128]⟩
abbrev S2x4x128x128 : Shape := ⟨4, ![2, 4, 128, 128]⟩
abbrev S2x128x1024 : Shape := ⟨3, ![2, 128, 1024]⟩
abbrev S2x128x4x256 : Shape := ⟨4, ![2, 128, 4, 256]⟩
abbrev S2x128x4 : Shape := ⟨3, ![2, 128, 4]⟩
abbrev S4 : Shape := ⟨1, ![4]⟩
abbrev S1x1x4 : Shape := ⟨3, ![1, 1, 4]⟩
abbrev S2x4x1x128 : Shape := ⟨4, ![2, 4, 1, 128]⟩
abbrev S2x4x1 : Shape := ⟨3, ![2, 4, 1]⟩
abbrev S2x4x128x1 : Shape := ⟨4, ![2, 4, 128, 1]⟩
abbrev S2x4x1x1 : Shape := ⟨4, ![2, 4, 1, 1]⟩
abbrev S4x1x256 : Shape := ⟨3, ![4, 1, 256]⟩
abbrev S1x4x1x256 : Shape := ⟨4, ![1, 4, 1, 256]⟩
abbrev S1x2x128x1024 : Shape := ⟨4, ![1, 2, 128, 1024]⟩
abbrev S2x64x128x1024 : Shape := ⟨4, ![2, 64, 128, 1024]⟩
abbrev S16384x1024 : Shape := ⟨2, ![16384, 1024]⟩

abbrev nBuf : Space → Nat
  | .hbm => 225
  | .vmem => 0
  | .smem => 0
  | _ => 0

abbrev hbmTy0_0 (i : Nat) : BufTy := match i % 128 with
  | 0 => ⟨S16384x3200, .f32⟩
  | 1 => ⟨S8, .f32⟩
  | 2 => ⟨S1024, .f32⟩
  | 3 => ⟨S_, .i1⟩
  | 4 => ⟨S128x128, .i1⟩
  | 5 => ⟨S128x128, .i32⟩
  | 6 => ⟨S_, .i32⟩
  | 7 => ⟨S128x128, .i32⟩
  | 8 => ⟨S128x128, .i32⟩
  | 9 => ⟨S128x128, .i32⟩
  | 10 => ⟨S128x128, .i1⟩
  | 11 => ⟨S_, .i1⟩
  | 12 => ⟨S128x128, .i1⟩
  | 13 => ⟨S128x128, .i1⟩
  | 14 => ⟨S_, .f32⟩
  | 15 => ⟨S2x4x128x256, .f32⟩
  | 16 => ⟨S_, .f32⟩
  | 17 => ⟨S2x4x128, .f32⟩
  | 18 => ⟨S_, .f32⟩
  | 19 => ⟨S2x4, .f32⟩
  | 20 => ⟨S2x64x128x3200, .f32⟩
  | 21 => ⟨S64x2x128x3200, .f32⟩
  | 22 => ⟨S_, .f32⟩
  | 23 => ⟨S64x2x128x1024, .f32⟩
  | 24 => ⟨S_, .i32⟩
  | 25 => ⟨S64x2x128x3200, .f32⟩
  | 26 => ⟨S8, .f32⟩
  | 27 => ⟨S128x128, .i1⟩
  | 28 => ⟨S1024, .f32⟩
  | 29 => ⟨S_, .i32⟩
  | 30 => ⟨S2x4x128x256, .f32⟩
  | 31 => ⟨S2x4x128, .f32⟩
  | 32 => ⟨S2x4, .f32⟩
  | 33 => ⟨S64x2x128x1024, .f32⟩
  | 34 => ⟨S_, .i32⟩
  | 35 => ⟨S_, .i1⟩
  | 36 => ⟨S_, .i32⟩
  | 37 => ⟨S_, .i32⟩
  | 38 => ⟨S_, .i32⟩
  | 39 => ⟨S1x2x128x3200, .f32⟩
  | 40 => ⟨S2x128x3200, .f32⟩
  | 41 => ⟨S2x128x512, .f32⟩
  | 42 => ⟨S2x128x4x128, .f32⟩
  | 43 => ⟨S2x4x128x128, .f32⟩
  | 44 => ⟨S_, .f32⟩
  | 45 => ⟨S2x4x128x128, .f32⟩
  | 46 => ⟨S2x4x128x128, .f32⟩
  | 47 => ⟨S2x128x512, .f32⟩
  | 48 => ⟨S2x128x4x128, .f32⟩
  | 49 => ⟨S2x4x128x128, .f32⟩
  | 50 => ⟨S2x128x1024, .f32⟩
  | 51 => ⟨S2x128x4x256, .f32⟩
  | 52 => ⟨S2x4x128x256, .f32⟩
  | 53 => ⟨S2x128x1024, .f32⟩
  | 54 => ⟨S2x128x4, .f32⟩
  | 55 => ⟨S4, .f32⟩
  | 56 => ⟨S1x1x4, .f32⟩
  | 57 => ⟨S2x128x4, .f32⟩
  | 58 => ⟨S2x128x4, .f32⟩
  | 59 => ⟨S_, .f32⟩
  | 60 => ⟨S2x128x4, .f32⟩
  | 61 => ⟨S2x128x4, .f32⟩
  | 62 => ⟨S2x128x4, .f32⟩
  | 63 => ⟨S_, .f32⟩
  | 64 => ⟨S2x128x4, .f32⟩
  | 65 => ⟨S2x128x4, .f32⟩
  | 66 => ⟨S2x4x128, .f32⟩
  | 67 => ⟨S2x128x4, .f32⟩
  | 68 => ⟨S4, .f32⟩
  | 69 => ⟨S1x1x4, .f32⟩
  | 70 => ⟨S2x128x4, .f32⟩
  | 71 => ⟨S2x128x4, .f32⟩
  | 72 => ⟨S_, .f32⟩
  | 73 => ⟨S2x128x4, .f32⟩
  | 74 => ⟨S2x128x4, .f32⟩
  | 75 => ⟨S2x128x4, .f32⟩
  | 76 => ⟨S_, .f32⟩
  | 77 => ⟨S2x128x4, .f32⟩
  | 78 => ⟨S2x128x4, .f32⟩
  | 79 => ⟨S2x128x4, .f32⟩
  | 80 => ⟨S_, .f32⟩
  | 81 => ⟨S2x128x4, .f32⟩
  | 82 => ⟨S2x128x4, .f32⟩
  | 83 => ⟨S2x128x4, .f32⟩
  | 84 => ⟨S2x128x4, .f32⟩
  | 85 => ⟨S2x128x4, .f32⟩
  | 86 => ⟨S2x128x4, .f32⟩
  | 87 => ⟨S2x128x4, .f32⟩
  | 88 => ⟨S2x128x4, .f32⟩
  | 89 => ⟨S2x4x128, .f32⟩
  | 90 => ⟨S2x4x1x128, .f32⟩
  | 91 => ⟨S_, .f32⟩
  | 92 => ⟨S_, .f32⟩
  | 93 => ⟨S2x4x128x128, .i1⟩
  | 94 => ⟨S2x4x128x128, .f32⟩
  | 95 => ⟨S2x4x128x128, .f32⟩
  | 96 => ⟨S2x4x128x128, .f32⟩
  | 97 => ⟨S_, .f32⟩
  | 98 => ⟨S2x4x128, .f32⟩
  | 99 => ⟨S2x4x1, .f32⟩
  | 100 => ⟨S2x4, .f32⟩
  | 101 => ⟨S2x4x128x1, .f32⟩
  | 102 => ⟨S2x4x1x128, .f32⟩
  | 103 => ⟨S2x4x128x128, .f32⟩
  | 104 => ⟨S2x4x128x128, .f32⟩
  | 105 => ⟨S2x4x128x128, .f32⟩
  | 106 => ⟨S2x4x1x128, .f32⟩
  | 107 => ⟨S2x4x128x128, .f32⟩
  | 108 => ⟨S2x4x128x128, .f32⟩
  | 109 => ⟨S_, .f32⟩
  | 110 => ⟨S_, .f32⟩
  | 111 => ⟨S2x4x128x128, .i1⟩
  | 112 => ⟨S2x4x128x128, .f32⟩
  | 113 => ⟨S2x4x128x128, .f32⟩
  | 114 => ⟨S2x4x1, .f32⟩
  | 115 => ⟨S2x4x128, .f32⟩
  | 116 => ⟨S2x4x128, .f32⟩
  | 117 => ⟨S2x4x128, .f32⟩
  | 118 => ⟨S_, .f32⟩
  | 119 => ⟨S2x4, .f32⟩
  | 120 => ⟨S2x4x1, .f32⟩
  | 121 => ⟨S2x4x128, .f32⟩
  | 122 => ⟨S2x4x128, .f32⟩
  | 123 => ⟨S2x4x128, .f32⟩
  | 124 => ⟨S2x4x128x1, .f32⟩
  | 125 => ⟨S2x4x128x128, .f32⟩
  | 126 => ⟨S2x4x128x128, .f32⟩
  | 127 => ⟨S2x4x128x256, .f32⟩
  | _ => ⟨S16384x3200, .f32⟩

abbrev hbmTy0_1 (i : Nat) : BufTy := match i % 128 with
  | 0 => ⟨S_, .f32⟩
  | 1 => ⟨S2x4x128, .f32⟩
  | 2 => ⟨S2x4, .f32⟩
  | 3 => ⟨S2x4, .f32⟩
  | 4 => ⟨S2x4, .f32⟩
  | 5 => ⟨S2x4, .f32⟩
  | 6 => ⟨S2x4, .f32⟩
  | 7 => ⟨S2x4, .f32⟩
  | 8 => ⟨S2x4, .f32⟩
  | 9 => ⟨S2x4x1x1, .f32⟩
  | 10 => ⟨S2x4x128x256, .f32⟩
  | 11 => ⟨S2x4x128x256, .f32⟩
  | 12 => ⟨S2x4x1x1, .f32⟩
  | 13 => ⟨S2x4x128x256, .f32⟩
  | 14 => ⟨S2x4x128x256, .f32⟩
  | 15 => ⟨S2x4x128x256, .f32⟩
  | 16 => ⟨S2x4x1, .f32⟩
  | 17 => ⟨S2x4x128, .f32⟩
  | 18 => ⟨S2x4x128, .f32⟩
  | 19 => ⟨S2x4x1, .f32⟩
  | 20 => ⟨S2x4x128, .f32⟩
  | 21 => ⟨S2x4x128, .f32⟩
  | 22 => ⟨S2x4x128, .f32⟩
  | 23 => ⟨S2x4x1, .f32⟩
  | 24 => ⟨S2x4x128, .f32⟩
  | 25 => ⟨S2x4x128, .f32⟩
  | 26 => ⟨S_, .f32⟩
  | 27 => ⟨S2x4x128, .f32⟩
  | 28 => ⟨S2x4x128, .f32⟩
  | 29 => ⟨S2x4x128x1, .f32⟩
  | 30 => ⟨S2x4x128x128, .f32⟩
  | 31 => ⟨S2x4x128x128, .f32⟩
  | 32 => ⟨S2x4x128x128, .f32⟩
  | 33 => ⟨S2x4x128x128, .f32⟩
  | 34 => ⟨S2x4x128x128, .f32⟩
  | 35 => ⟨S2x4x128, .f32⟩
  | 36 => ⟨S2x4x128, .f32⟩
  | 37 => ⟨S2x4x128x256, .f32⟩
  | 38 => ⟨S2x4x128x1, .f32⟩
  | 39 => ⟨S2x4x128x256, .f32⟩
  | 40 => ⟨S2x4x128x256, .f32⟩
  | 41 => ⟨S2x4x128x256, .f32⟩
  | 42 => ⟨S2x4x128x256, .f32⟩
  | 43 => ⟨S_, .f32⟩
  | 44 => ⟨S2x4x128, .f32⟩
  | 45 => ⟨S2x4x1x128, .f32⟩
  | 46 => ⟨S2x4x128x128, .f32⟩
  | 47 => ⟨S2x4x128x128, .f32⟩
  | 48 => ⟨S_, .f32⟩
  | 49 => ⟨S2x4x128, .f32⟩
  | 50 => ⟨S2x4x128, .f32⟩
  | 51 => ⟨S2x4x128, .f32⟩
  | 52 => ⟨S2x4x128, .f32⟩
  | 53 => ⟨S2x4x128, .f32⟩
  | 54 => ⟨S2x4x128, .f32⟩
  | 55 => ⟨S2x4x128, .f32⟩
  | 56 => ⟨S2x4x128x1, .f32⟩
  | 57 => ⟨S2x4x128x256, .f32⟩
  | 58 => ⟨S2x4x128x256, .f32⟩
  | 59 => ⟨S4x1x256, .f32⟩
  | 60 => ⟨S2x4x128x256, .f32⟩
  | 61 => ⟨S_, .f32⟩
  | 62 => ⟨S2x4x128, .f32⟩
  | 63 => ⟨S2x4x128x1, .f32⟩
  | 64 => ⟨S_, .f32⟩
  | 65 => ⟨S2x4x128x1, .f32⟩
  | 66 => ⟨S2x4x128x1, .f32⟩
  | 67 => ⟨S_, .f32⟩
  | 68 => ⟨S2x4x128x1, .f32⟩
  | 69 => ⟨S2x4x128x1, .f32⟩
  | 70 => ⟨S2x4x128x1, .f32⟩
  | 71 => ⟨S2x4x128x256, .f32⟩
  | 72 => ⟨S2x4x128x256, .f32⟩
  | 73 => ⟨S1x4x1x256, .f32⟩
  | 74 => ⟨S2x4x128x256, .f32⟩
  | 75 => ⟨S2x4x128x256, .f32⟩
  | 76 => ⟨S2x128x4x256, .f32⟩
  | 77 => ⟨S2x128x1024, .f32⟩
  | 78 => ⟨S2x128x1024, .f32⟩
  | 79 => ⟨S2x128x1024, .f32⟩
  | 80 => ⟨S_, .f32⟩
  | 81 => ⟨S2x128x1024, .f32⟩
  | 82 => ⟨S2x128x1024, .f32⟩
  | 83 => ⟨S_, .f32⟩
  | 84 => ⟨S2x128x1024, .f32⟩
  | 85 => ⟨S2x128x1024, .f32⟩
  | 86 => ⟨S2x128x1024, .f32⟩
  | 87 => ⟨S1x2x128x1024, .f32⟩
  | 88 => ⟨S_, .i32⟩
  | 89 => ⟨S_, .i32⟩
  | 90 => ⟨S_, .i32⟩
  | 91 => ⟨S64x2x128x1024, .f32⟩
  | 92 => ⟨S_, .i32⟩
  | 93 => ⟨S_, .i32⟩
  | 94 => ⟨S2x64x128x1024, .f32⟩
  | 95 => ⟨S16384x1024, .f32⟩
  | 96 => ⟨S16384x1024, .bf16⟩
  | _ => ⟨S16384x3200, .f32⟩

abbrev hbmTy (i : Nat) : BufTy := match i / 128 with
  | 0 => hbmTy0_0 i
  | 1 => hbmTy0_1 i
  | _ => ⟨S16384x3200, .f32⟩

abbrev bufTy : (tb : Table) → Fin (tcTables nBuf tb) → BufTy
  | .hbm, ⟨i, _⟩ => hbmTy i
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_0 : Ref sig .tc := ⟨.hbm, 11, rfl⟩
abbrev main_call0_v5 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_c_3 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v8_4 : Ref sig .tc := ⟨.hbm, 29, rfl⟩
abbrev main_v8_5 : Ref sig .tc := ⟨.hbm, 30, rfl⟩
abbrev main_v8_6 : Ref sig .tc := ⟨.hbm, 31, rfl⟩
abbrev main_v8_7 : Ref sig .tc := ⟨.hbm, 32, rfl⟩
abbrev main_v8_8 : Ref sig .tc := ⟨.hbm, 33, rfl⟩
abbrev main_while0c_c_12 : Ref sig .tc := ⟨.hbm, 34, rfl⟩
abbrev main_while0c_v12 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_call1_v0 : Ref sig .tc := ⟨.hbm, 39, rfl⟩
abbrev main_while0b_v12 : Ref sig .tc := ⟨.hbm, 40, rfl⟩
abbrev main_while0b_v13 : Ref sig .tc := ⟨.hbm, 41, rfl⟩
abbrev main_while0b_v14 : Ref sig .tc := ⟨.hbm, 42, rfl⟩
abbrev main_while0b_v15 : Ref sig .tc := ⟨.hbm, 43, rfl⟩
abbrev main_while0b_cst_12 : Ref sig .tc := ⟨.hbm, 44, rfl⟩
abbrev main_while0b_v16 : Ref sig .tc := ⟨.hbm, 45, rfl⟩
abbrev main_while0b_v17 : Ref sig .tc := ⟨.hbm, 46, rfl⟩
abbrev main_while0b_v18 : Ref sig .tc := ⟨.hbm, 47, rfl⟩
abbrev main_while0b_v19 : Ref sig .tc := ⟨.hbm, 48, rfl⟩
abbrev main_while0b_v20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_v24 : Ref sig .tc := ⟨.hbm, 53, rfl⟩
abbrev main_while0b_v25 : Ref sig .tc := ⟨.hbm, 54, rfl⟩
abbrev main_while0b_v26 : Ref sig .tc := ⟨.hbm, 55, rfl⟩
abbrev main_while0b_v27 : Ref sig .tc := ⟨.hbm, 56, rfl⟩
abbrev main_while0b_v28 : Ref sig .tc := ⟨.hbm, 57, rfl⟩
abbrev main_while0b_v29 : Ref sig .tc := ⟨.hbm, 58, rfl⟩
abbrev main_while0b_cst_13 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_cst_14 : Ref sig .tc := ⟨.hbm, 63, rfl⟩
abbrev main_while0b_v33 : Ref sig .tc := ⟨.hbm, 64, rfl⟩
abbrev main_while0b_v34 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_cst_15 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_cst_16 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_cst_17 : Ref sig .tc := ⟨.hbm, 80, rfl⟩
abbrev main_while0b_v47 : Ref sig .tc := ⟨.hbm, 81, rfl⟩
abbrev main_while0b_v48 : Ref sig .tc := ⟨.hbm, 82, rfl⟩
abbrev main_while0b_v49 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_cst_18 : Ref sig .tc := ⟨.hbm, 91, rfl⟩
abbrev main_while0b_call2_v0 : Ref sig .tc := ⟨.hbm, 92, rfl⟩
abbrev main_while0b_call2_v1 : Ref sig .tc := ⟨.hbm, 93, rfl⟩
abbrev main_while0b_call2_v2 : Ref sig .tc := ⟨.hbm, 94, rfl⟩
abbrev main_while0b_call2_v3 : Ref sig .tc := ⟨.hbm, 95, rfl⟩
abbrev main_while0b_v57 : Ref sig .tc := ⟨.hbm, 96, rfl⟩
abbrev main_while0b_cst_19 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_cst_20 : Ref sig .tc := ⟨.hbm, 109, rfl⟩
abbrev main_while0b_call3_v0 : Ref sig .tc := ⟨.hbm, 110, rfl⟩
abbrev main_while0b_call3_v1 : Ref sig .tc := ⟨.hbm, 111, rfl⟩
abbrev main_while0b_call3_v2 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_cst_21 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_cst_22 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_cst_23 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_v114 : Ref sig .tc := ⟨.hbm, 161, rfl⟩
abbrev main_while0b_v115 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_cst_24 : Ref sig .tc := ⟨.hbm, 171, rfl⟩
abbrev main_while0b_v124 : Ref sig .tc := ⟨.hbm, 172, rfl⟩
abbrev main_while0b_v125 : Ref sig .tc := ⟨.hbm, 173, rfl⟩
abbrev main_while0b_v126 : Ref sig .tc := ⟨.hbm, 174, rfl⟩
abbrev main_while0b_v127 : Ref sig .tc := ⟨.hbm, 175, rfl⟩
abbrev main_while0b_cst_25 : Ref sig .tc := ⟨.hbm, 176, rfl⟩
abbrev main_while0b_v128 : Ref sig .tc := ⟨.hbm, 177, rfl⟩
abbrev main_while0b_v129 : Ref sig .tc := ⟨.hbm, 178, rfl⟩
abbrev main_while0b_v130 : Ref sig .tc := ⟨.hbm, 179, rfl⟩
abbrev main_while0b_v131 : Ref sig .tc := ⟨.hbm, 180, rfl⟩
abbrev main_while0b_v132 : Ref sig .tc := ⟨.hbm, 181, rfl⟩
abbrev main_while0b_v133 : Ref sig .tc := ⟨.hbm, 182, rfl⟩
abbrev main_while0b_v134 : Ref sig .tc := ⟨.hbm, 183, rfl⟩
abbrev main_while0b_v135 : Ref sig .tc := ⟨.hbm, 184, rfl⟩
abbrev main_while0b_v136 : Ref sig .tc := ⟨.hbm, 185, rfl⟩
abbrev main_while0b_v137 : Ref sig .tc := ⟨.hbm, 186, rfl⟩
abbrev main_while0b_v138 : Ref sig .tc := ⟨.hbm, 187, rfl⟩
abbrev main_while0b_v139 : Ref sig .tc := ⟨.hbm, 188, rfl⟩
abbrev main_while0b_cst_26 : Ref sig .tc := ⟨.hbm, 189, rfl⟩
abbrev main_while0b_v140 : Ref sig .tc := ⟨.hbm, 190, rfl⟩
abbrev main_while0b_v141 : Ref sig .tc := ⟨.hbm, 191, rfl⟩
abbrev main_while0b_cst_27 : Ref sig .tc := ⟨.hbm, 192, rfl⟩
abbrev main_while0b_v142 : Ref sig .tc := ⟨.hbm, 193, rfl⟩
abbrev main_while0b_v143 : Ref sig .tc := ⟨.hbm, 194, rfl⟩
abbrev main_while0b_cst_28 : Ref sig .tc := ⟨.hbm, 195, rfl⟩
abbrev main_while0b_v144 : Ref sig .tc := ⟨.hbm, 196, rfl⟩
abbrev main_while0b_v145 : Ref sig .tc := ⟨.hbm, 197, rfl⟩
abbrev main_while0b_v146 : Ref sig .tc := ⟨.hbm, 198, rfl⟩
abbrev main_while0b_v147 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_v154 : Ref sig .tc := ⟨.hbm, 206, rfl⟩
abbrev main_while0b_v155 : Ref sig .tc := ⟨.hbm, 207, rfl⟩
abbrev main_while0b_cst_29 : Ref sig .tc := ⟨.hbm, 208, rfl⟩
abbrev main_while0b_v156 : Ref sig .tc := ⟨.hbm, 209, rfl⟩
abbrev main_while0b_v157 : Ref sig .tc := ⟨.hbm, 210, rfl⟩
abbrev main_while0b_cst_30 : Ref sig .tc := ⟨.hbm, 211, rfl⟩
abbrev main_while0b_v158 : Ref sig .tc := ⟨.hbm, 212, rfl⟩
abbrev main_while0b_v159 : Ref sig .tc := ⟨.hbm, 213, rfl⟩
abbrev main_while0b_v160 : Ref sig .tc := ⟨.hbm, 214, rfl⟩
abbrev main_while0b_call4_v0 : Ref sig .tc := ⟨.hbm, 215, rfl⟩
abbrev main_while0b_call4_c : Ref sig .tc := ⟨.hbm, 216, rfl⟩
abbrev main_while0b_call4_c_0 : Ref sig .tc := ⟨.hbm, 217, rfl⟩
abbrev main_while0b_call4_c_1 : Ref sig .tc := ⟨.hbm, 218, rfl⟩
abbrev main_while0b_v161 : Ref sig .tc := ⟨.hbm, 219, rfl⟩
abbrev main_while0b_c_31 : Ref sig .tc := ⟨.hbm, 220, rfl⟩
abbrev main_while0b_v162 : Ref sig .tc := ⟨.hbm, 221, rfl⟩
abbrev main_v9 : Ref sig .tc := ⟨.hbm, 222, rfl⟩
abbrev main_v10 : Ref sig .tc := ⟨.hbm, 223, rfl⟩
abbrev main_v11 : Ref sig .tc := ⟨.hbm, 224, rfl⟩

abbrev nD : Nat := 1
abbrev τ : Topo := Topo.v7x

variable {F : FTy → Type} [FloatOps F]

abbrev main_while0_count : Scf.Loop 32 := ⟨0#32, 64#32, 1#32⟩
-- ==== SCore.lean ====
abbrev S16384x6272 : Shape := ⟨2, ![16384, 6272]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S1x4096 : Shape := ⟨2, ![1, 4096]⟩
abbrev S_ : Shape := ⟨0, ![]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S16384x2048 : Shape := ⟨2, ![16384, 2048]⟩
abbrev S128x2048 : Shape := ⟨2, ![128, 2048]⟩
abbrev S128x128 : Shape := ⟨2, ![128, 128]⟩
abbrev S136x4096 : Shape := ⟨2, ![136, 4096]⟩
abbrev S8x128x256 : Shape := ⟨3, ![8, 128, 256]⟩
abbrev S8x4096 : Shape := ⟨2, ![8, 4096]⟩
abbrev S128x256 : Shape := ⟨2, ![128, 256]⟩
abbrev S1x256 : Shape := ⟨2, ![1, 256]⟩
abbrev S128x1 : Shape := ⟨2, ![128, 1]⟩
abbrev S1x128x256 : Shape := ⟨3, ![1, 128, 256]⟩
abbrev S1x1 : Shape := ⟨2, ![1, 1]⟩

abbrev nBuf : Space → Nat
  | .hbm => 21
  | .vmem => 18
  | .smem => 0
  | _ => 0

abbrev bufTy : (tb : Table) → Fin (tcTables nBuf tb) → BufTy
  | .hbm, ⟨0, _⟩ => ⟨S16384x6272, .f32⟩
  | .hbm, ⟨1, _⟩ => ⟨S4x4096, .f32⟩
  | .hbm, ⟨2, _⟩ => ⟨S4096, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S2048, .f32⟩
  | .hbm, ⟨7, _⟩ => ⟨S1x4096, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S32x64, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S16384x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x128, .f32⟩
  | .local _ .vmem, ⟨7, _⟩ => ⟨S128x128, .f32⟩
  | .local _ .vmem, ⟨8, _⟩ => ⟨S4x4096, .f32⟩
  | .local _ .vmem, ⟨9, _⟩ => ⟨S1x4096, .f32⟩
  | .local _ .vmem, ⟨10, _⟩ => ⟨S1x128, .f32⟩
  | .local _ .vmem, ⟨11, _⟩ => ⟨S1x128, .f32⟩
  | .local _ .vmem, ⟨12, _⟩ => ⟨S1x2048, .f32⟩
  | .local _ .vmem, ⟨13, _⟩ => ⟨S1x2048, .f32⟩
  | .local _ .vmem, ⟨14, _⟩ => ⟨S128x2048, .bf16⟩
  | .local _ .vmem, ⟨15, _⟩ => ⟨S128x2048, .bf16⟩
  | .local _ .vmem, ⟨16, _⟩ => ⟨S136x4096, .f32⟩
  | .local _ .vmem, ⟨17, _⟩ => ⟨S8x128x256, .f32⟩
  | _, _ => ⟨S16384x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c48_i32 : BitVec 32 := 48#32
  let c0_i32 : BitVec 32 := 0#32
  ![v1.toNat, c48_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SCoreRefIdeal.lean ====
abbrev S16384x6272 : Shape := ⟨2, ![16384, 6272]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S_ : Shape := ⟨0, ![]⟩
abbrev S128x128 : Shape := ⟨2, ![128, 128]⟩
abbrev S2x8192x6272 : Shape := ⟨3, ![2, 8192, 6272]⟩
abbrev S2x8192x4096 : Shape := ⟨3, ![2, 8192, 4096]⟩
abbrev S2x8195x4096 : Shape := ⟨3, ![2, 8195, 4096]⟩
abbrev S1x4096 : Shape := ⟨2, ![1, 4096]⟩
abbrev S1x1x4096 : Shape := ⟨3, ![1, 1, 4096]⟩
abbrev S2x8192x32 : Shape := ⟨3, ![2, 8192, 32]⟩
abbrev S1x1x32 : Shape := ⟨3, ![1, 1, 32]⟩
abbrev S2x32x128x64 : Shape := ⟨4, ![2, 32, 128, 64]⟩
abbrev S2x64x128x4096 : Shape := ⟨4, ![2, 64, 128, 4096]⟩
abbrev S64x2x128x4096 : Shape := ⟨4, ![64, 2, 128, 4096]⟩
abbrev S2x64x128x32 : Shape := ⟨4, ![2, 64, 128, 32]⟩
abbrev S64x2x128x32 : Shape := ⟨4, ![64, 2, 128, 32]⟩
abbrev S2x8192x2048 : Shape := ⟨3, ![2, 8192, 2048]⟩
abbrev S2x64x128x2048 : Shape := ⟨4, ![2, 64, 128, 2048]⟩
abbrev S64x2x128x2048 : Shape := ⟨4, ![64, 2, 128, 2048]⟩
abbrev S1x2x128x4096 : Shape := ⟨4, ![1, 2, 128, 4096]⟩
abbrev S2x128x4096 : Shape := ⟨3, ![2, 128, 4096]⟩
abbrev S1x2x128x32 : Shape := ⟨4, ![1, 2, 128, 32]⟩
abbrev S2x128x32 : Shape := ⟨3, ![2, 128, 32]⟩
abbrev S1x2x128x2048 : Shape := ⟨4, ![1, 2, 128, 2048]⟩
abbrev S2x128x2048 : Shape := ⟨3, ![2, 128, 2048]⟩
abbrev S2x128x32x64 : Shape := ⟨4, ![2, 128, 32, 64]⟩
abbrev S2x128x1024 : Shape := ⟨3, ![2, 128, 1024]⟩
abbrev S2x128x8x128 : Shape := ⟨4, ![2, 128, 8, 128]⟩
abbrev S2x8x128x128 : Shape := ⟨4, ![2, 8, 128, 128]⟩
abbrev S2x8x1x128x128 : Shape := ⟨5, ![2, 8, 1, 128, 128]⟩
abbrev S2x8x4x128x128 : Shape := ⟨5, ![2, 8, 4, 128, 128]⟩
abbrev S2x32x128x128 : Shape := ⟨4, ![2, 32, 128, 128]⟩
abbrev S2x32x128 : Shape := ⟨3, ![2, 32, 128]⟩
abbrev S32x1 : Shape := ⟨2, ![32, 1]⟩
abbrev S1x32x1 : Shape := ⟨3, ![1, 32, 1]⟩
abbrev S2x32x1x128 : Shape := ⟨4, ![2, 32, 1, 128]⟩
abbrev S2x32x1 : Shape := ⟨3, ![2, 32, 1]⟩
abbrev S2x32 : Shape := ⟨2, ![2, 32]⟩
abbrev S2x32x128x1 : Shape := ⟨4, ![2, 32, 128, 1]⟩
abbrev S2x32x1x1 : Shape := ⟨4, ![2, 32, 1, 1]⟩
abbrev S32x1x1 : Shape := ⟨3, ![32, 1, 1]⟩
abbrev S1x32x1x1 : Shape := ⟨4, ![1, 32, 1, 1]⟩
abbrev S2x128x8x256 : Shape := ⟨4, ![2, 128, 8, 256]⟩
abbrev S8x256 : Shape := ⟨2, ![8, 256]⟩
abbrev S2x128x8 : Shape := ⟨3, ![2, 128, 8]⟩
abbrev S2x128x8x1 : Shape := ⟨4, ![2, 128, 8, 1]⟩
abbrev S1x1x8x256 : Shape := ⟨4, ![1, 1, 8, 256]⟩
abbrev S16384x2048 : Shape := ⟨2, ![16384, 2048]⟩

abbrev nBuf : Space → Nat
  | .hbm => 228
  | .vmem => 0
  | .smem => 0
  | _ => 0

abbrev hbmTy0_0 (i : Nat) : BufTy := match i % 128 with
  | 0 => ⟨S16384x6272, .f32⟩
  | 1 => ⟨S4x4096, .f32⟩
  | 2 => ⟨S4096, .f32⟩
  | 3 => ⟨S32, .f32⟩
  | 4 => ⟨S32, .f32⟩
  | 5 => ⟨S32, .f32⟩
  | 6 => ⟨S2048, .f32⟩
  | 7 => ⟨S_, .i1⟩
  | 8 => ⟨S128x128, .i1⟩
  | 9 => ⟨S128x128, .i32⟩
  | 10 => ⟨S_, .i32⟩
  | 11 => ⟨S128x128, .i32⟩
  | 12 => ⟨S128x128, .i32⟩
  | 13 => ⟨S128x128, .i32⟩
  | 14 => ⟨S128x128, .i1⟩
  | 15 => ⟨S_, .i1⟩
  | 16 => ⟨S128x128, .i1⟩
  | 17 => ⟨S128x128, .i1⟩
  | 18 => ⟨S2x8192x6272, .f32⟩
  | 19 => ⟨S2x8192x4096, .f32⟩
  | 20 => ⟨S_, .i32⟩
  | 21 => ⟨S_, .f32⟩
  | 22 => ⟨S2x8195x4096, .f32⟩
  | 23 => ⟨S1x4096, .f32⟩
  | 24 => ⟨S4096, .f32⟩
  | 25 => ⟨S2x8192x4096, .f32⟩
  | 26 => ⟨S1x1x4096, .f32⟩
  | 27 => ⟨S2x8192x4096, .f32⟩
  | 28 => ⟨S2x8192x4096, .f32⟩
  | 29 => ⟨S1x1x4096, .f32⟩
  | 30 => ⟨S2x8192x4096, .f32⟩
  | 31 => ⟨S2x8192x4096, .f32⟩
  | 32 => ⟨S1x4096, .f32⟩
  | 33 => ⟨S4096, .f32⟩
  | 34 => ⟨S2x8192x4096, .f32⟩
  | 35 => ⟨S1x1x4096, .f32⟩
  | 36 => ⟨S2x8192x4096, .f32⟩
  | 37 => ⟨S2x8192x4096, .f32⟩
  | 38 => ⟨S2x8192x4096, .f32⟩
  | 39 => ⟨S1x4096, .f32⟩
  | 40 => ⟨S4096, .f32⟩
  | 41 => ⟨S2x8192x4096, .f32⟩
  | 42 => ⟨S1x1x4096, .f32⟩
  | 43 => ⟨S2x8192x4096, .f32⟩
  | 44 => ⟨S2x8192x4096, .f32⟩
  | 45 => ⟨S2x8192x4096, .f32⟩
  | 46 => ⟨S1x4096, .f32⟩
  | 47 => ⟨S4096, .f32⟩
  | 48 => ⟨S2x8192x4096, .f32⟩
  | 49 => ⟨S1x1x4096, .f32⟩
  | 50 => ⟨S2x8192x4096, .f32⟩
  | 51 => ⟨S2x8192x4096, .f32⟩
  | 52 => ⟨S2x8192x4096, .f32⟩
  | 53 => ⟨S2x8192x4096, .f32⟩
  | 54 => ⟨S2x8192x4096, .f32⟩
  | 55 => ⟨S_, .f32⟩
  | 56 => ⟨S2x8192x4096, .f32⟩
  | 57 => ⟨S2x8192x4096, .f32⟩
  | 58 => ⟨S_, .f32⟩
  | 59 => ⟨S2x8192x4096, .f32⟩
  | 60 => ⟨S2x8192x4096, .f32⟩
  | 61 => ⟨S2x8192x4096, .f32⟩
  | 62 => ⟨S2x8192x32, .f32⟩
  | 63 => ⟨S1x1x32, .f32⟩
  | 64 => ⟨S2x8192x32, .f32⟩
  | 65 => ⟨S2x8192x32, .f32⟩
  | 66 => ⟨S_, .f32⟩
  | 67 => ⟨S2x8192x32, .f32⟩
  | 68 => ⟨S2x8192x32, .f32⟩
  | 69 => ⟨S2x8192x32, .f32⟩
  | 70 => ⟨S2x8192x32, .f32⟩
  | 71 => ⟨S2x8192x32, .f32⟩
  | 72 => ⟨S2x8192x32, .f32⟩
  | 73 => ⟨S2x8192x32, .f32⟩
  | 74 => ⟨S32, .f32⟩
  | 75 => ⟨S32, .f32⟩
  | 76 => ⟨S_, .f32⟩
  | 77 => ⟨S2x32x128x64, .f32⟩
  | 78 => ⟨S2x64x128x4096, .f32⟩
  | 79 => ⟨S64x2x128x4096, .f32⟩
  | 80 => ⟨S2x64x128x32, .f32⟩
  | 81 => ⟨S64x2x128x32, .f32⟩
  | 82 => ⟨S2x8192x2048, .f32⟩
  | 83 => ⟨S2x64x128x2048, .f32⟩
  | 84 => ⟨S64x2x128x2048, .f32⟩
  | 85 => ⟨S_, .f32⟩
  | 86 => ⟨S64x2x128x2048, .f32⟩
  | 87 => ⟨S_, .i32⟩
  | 88 => ⟨S64x2x128x4096, .f32⟩
  | 89 => ⟨S64x2x128x32, .f32⟩
  | 90 => ⟨S64x2x128x2048, .f32⟩
  | 91 => ⟨S32, .f32⟩
  | 92 => ⟨S128x128, .i1⟩
  | 93 => ⟨S32, .f32⟩
  | 94 => ⟨S2048, .f32⟩
  | 95 => ⟨S_, .i32⟩
  | 96 => ⟨S2x32x128x64, .f32⟩
  | 97 => ⟨S64x2x128x2048, .f32⟩
  | 98 => ⟨S_, .i32⟩
  | 99 => ⟨S_, .i1⟩
  | 100 => ⟨S_, .i32⟩
  | 101 => ⟨S_, .i32⟩
  | 102 => ⟨S_, .i32⟩
  | 103 => ⟨S1x2x128x4096, .f32⟩
  | 104 => ⟨S2x128x4096, .f32⟩
  | 105 => ⟨S_, .i32⟩
  | 106 => ⟨S_, .i32⟩
  | 107 => ⟨S_, .i32⟩
  | 108 => ⟨S1x2x128x32, .f32⟩
  | 109 => ⟨S2x128x32, .f32⟩
  | 110 => ⟨S_, .i32⟩
  | 111 => ⟨S_, .i32⟩
  | 112 => ⟨S_, .i32⟩
  | 113 => ⟨S1x2x128x2048, .f32⟩
  | 114 => ⟨S2x128x2048, .f32⟩
  | 115 => ⟨S2x128x2048, .f32⟩
  | 116 => ⟨S2x128x32x64, .f32⟩
  | 117 => ⟨S2x32x128x64, .f32⟩
  | 118 => ⟨S2x128x1024, .f32⟩
  | 119 => ⟨S2x128x8x128, .f32⟩
  | 120 => ⟨S2x8x128x128, .f32⟩
  | 121 => ⟨S2x8x1x128x128, .f32⟩
  | 122 => ⟨S2x8x4x128x128, .f32⟩
  | 123 => ⟨S2x32x128x128, .f32⟩
  | 124 => ⟨S2x128x1024, .f32⟩
  | 125 => ⟨S2x128x8x128, .f32⟩
  | 126 => ⟨S2x8x128x128, .f32⟩
  | 127 => ⟨S2x8x1x128x128, .f32⟩
  | _ => ⟨S16384x6272, .f32⟩

abbrev hbmTy0_1 (i : Nat) : BufTy := match i % 128 with
  | 0 => ⟨S2x8x4x128x128, .f32⟩
  | 1 => ⟨S2x32x128x128, .f32⟩
  | 2 => ⟨S2x32x128, .f32⟩
  | 3 => ⟨S32x1, .f32⟩
  | 4 => ⟨S1x32x1, .f32⟩
  | 5 => ⟨S2x32x128, .f32⟩
  | 6 => ⟨S2x32x128, .f32⟩
  | 7 => ⟨S2x32x1x128, .f32⟩
  | 8 => ⟨S_, .f32⟩
  | 9 => ⟨S_, .f32⟩
  | 10 => ⟨S2x32x128x128, .i1⟩
  | 11 => ⟨S2x32x128x128, .f32⟩
  | 12 => ⟨S2x32x128x128, .f32⟩
  | 13 => ⟨S2x32x128x128, .f32⟩
  | 14 => ⟨S_, .f32⟩
  | 15 => ⟨S2x32x128, .f32⟩
  | 16 => ⟨S2x32x1, .f32⟩
  | 17 => ⟨S2x32, .f32⟩
  | 18 => ⟨S2x32x128x1, .f32⟩
  | 19 => ⟨S2x32x1x128, .f32⟩
  | 20 => ⟨S2x32x128x128, .f32⟩
  | 21 => ⟨S2x32x128x128, .f32⟩
  | 22 => ⟨S2x32x128x128, .f32⟩
  | 23 => ⟨S_, .f32⟩
  | 24 => ⟨S_, .f32⟩
  | 25 => ⟨S2x32x128x128, .i1⟩
  | 26 => ⟨S2x32x128x128, .f32⟩
  | 27 => ⟨S2x32x128x128, .f32⟩
  | 28 => ⟨S2x32x128x128, .f32⟩
  | 29 => ⟨S2x32x128x1, .f32⟩
  | 30 => ⟨S2x32x128x64, .f32⟩
  | 31 => ⟨S2x32x128x64, .f32⟩
  | 32 => ⟨S2x32x128x128, .f32⟩
  | 33 => ⟨S2x32x128x128, .f32⟩
  | 34 => ⟨S2x32x128x64, .f32⟩
  | 35 => ⟨S2x32x128, .f32⟩
  | 36 => ⟨S2x32x128x1, .f32⟩
  | 37 => ⟨S2x32x128x64, .f32⟩
  | 38 => ⟨S2x32x128x64, .f32⟩
  | 39 => ⟨S2x32x128x64, .f32⟩
  | 40 => ⟨S2x32x1, .f32⟩
  | 41 => ⟨S2x32x128, .f32⟩
  | 42 => ⟨S2x32x128, .f32⟩
  | 43 => ⟨S2x32x128, .f32⟩
  | 44 => ⟨S2x32x128x1, .f32⟩
  | 45 => ⟨S2x32x128x64, .f32⟩
  | 46 => ⟨S2x32x128x64, .f32⟩
  | 47 => ⟨S2x32, .f32⟩
  | 48 => ⟨S2x32x1x1, .f32⟩
  | 49 => ⟨S2x32x128x64, .f32⟩
  | 50 => ⟨S2x32x128x64, .f32⟩
  | 51 => ⟨S2x32x128x64, .f32⟩
  | 52 => ⟨S2x32x128x64, .f32⟩
  | 53 => ⟨S2x32x128x64, .f32⟩
  | 54 => ⟨S32x1x1, .f32⟩
  | 55 => ⟨S1x32x1x1, .f32⟩
  | 56 => ⟨S2x32x128x64, .f32⟩
  | 57 => ⟨S2x32x128x64, .f32⟩
  | 58 => ⟨S2x32x128x64, .f32⟩
  | 59 => ⟨S2x128x32x64, .f32⟩
  | 60 => ⟨S2x128x2048, .f32⟩
  | 61 => ⟨S2x128x2048, .f32⟩
  | 62 => ⟨S2x128x2048, .f32⟩
  | 63 => ⟨S_, .f32⟩
  | 64 => ⟨S2x128x2048, .f32⟩
  | 65 => ⟨S2x128x2048, .f32⟩
  | 66 => ⟨S_, .f32⟩
  | 67 => ⟨S2x128x2048, .f32⟩
  | 68 => ⟨S2x128x2048, .f32⟩
  | 69 => ⟨S2x128x2048, .f32⟩
  | 70 => ⟨S2x128x2048, .f32⟩
  | 71 => ⟨S2x128x8x256, .f32⟩
  | 72 => ⟨S8x256, .f32⟩
  | 73 => ⟨S2x128x8x256, .f32⟩
  | 74 => ⟨S_, .f32⟩
  | 75 => ⟨S2x128x8, .f32⟩
  | 76 => ⟨S2x128x8x1, .f32⟩
  | 77 => ⟨S_, .f32⟩
  | 78 => ⟨S2x128x8x1, .f32⟩
  | 79 => ⟨S2x128x8x1, .f32⟩
  | 80 => ⟨S_, .f32⟩
  | 81 => ⟨S2x128x8x1, .f32⟩
  | 82 => ⟨S2x128x8x1, .f32⟩
  | 83 => ⟨S2x128x8x1, .f32⟩
  | 84 => ⟨S2x128x8x256, .f32⟩
  | 85 => ⟨S2x128x8x256, .f32⟩
  | 86 => ⟨S1x1x8x256, .f32⟩
  | 87 => ⟨S2x128x8x256, .f32⟩
  | 88 => ⟨S2x128x8x256, .f32⟩
  | 89 => ⟨S2x128x2048, .f32⟩
  | 90 => ⟨S1x2x128x2048, .f32⟩
  | 91 => ⟨S_, .i32⟩
  | 92 => ⟨S_, .i32⟩
  | 93 => ⟨S_, .i32⟩
  | 94 => ⟨S64x2x128x2048, .f32⟩
  | 95 => ⟨S_, .i32⟩
  | 96 => ⟨S_, .i32⟩
  | 97 => ⟨S2x64x128x2048, .f32⟩
  | 98 => ⟨S16384x2048, .f32⟩
  | 99 => ⟨S16384x2048, .bf16⟩
  | _ => ⟨S16384x6272, .f32⟩

abbrev hbmTy (i : Nat) : BufTy := match i / 128 with
  | 0 => hbmTy0_0 i
  | 1 => hbmTy0_1 i
  | _ => ⟨S16384x6272, .f32⟩

abbrev bufTy : (tb : Table) → Fin (tcTables nBuf tb) → BufTy
  | .hbm, ⟨i, _⟩ => hbmTy i
  | _, _ => ⟨S16384x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst : Ref sig .tc := ⟨.hbm, 55, rfl⟩
abbrev main_v37 : Ref sig .tc := ⟨.hbm, 56, rfl⟩
abbrev main_v38 : Ref sig .tc := ⟨.hbm, 57, rfl⟩
abbrev main_cst_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_3 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_4 : Ref sig .tc := ⟨.hbm, 85, rfl⟩
abbrev main_v63 : Ref sig .tc := ⟨.hbm, 86, rfl⟩
abbrev main_c_5 : Ref sig .tc := ⟨.hbm, 87, rfl⟩
abbrev main_v64_0 : Ref sig .tc := ⟨.hbm, 88, rfl⟩
abbrev main_v64_1 : Ref sig .tc := ⟨.hbm, 89, rfl⟩
abbrev main_v64_2 : Ref sig .tc := ⟨.hbm, 90, rfl⟩
abbrev main_v64_3 : Ref sig .tc := ⟨.hbm, 91, rfl⟩
abbrev main_v64_4 : Ref sig .tc := ⟨.hbm, 92, rfl⟩
abbrev main_v64_5 : Ref sig .tc := ⟨.hbm, 93, rfl⟩
abbrev main_v64_6 : Ref sig .tc := ⟨.hbm, 94, rfl⟩
abbrev main_v64_7 : Ref sig .tc := ⟨.hbm, 95, rfl⟩
abbrev main_v64_8 : Ref sig .tc := ⟨.hbm, 96, rfl⟩
abbrev main_v64_9 : Ref sig .tc := ⟨.hbm, 97, rfl⟩
abbrev main_while0c_c_15 : Ref sig .tc := ⟨.hbm, 98, rfl⟩
abbrev main_while0c_v68 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_call2_v0 : Ref sig .tc := ⟨.hbm, 103, rfl⟩
abbrev main_while0b_v68 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_v0 : Ref sig .tc := ⟨.hbm, 108, rfl⟩
abbrev main_while0b_v69 : Ref sig .tc := ⟨.hbm, 109, rfl⟩
abbrev main_while0b_call4_c : Ref sig .tc := ⟨.hbm, 110, rfl⟩
abbrev main_while0b_call4_c_0 : Ref sig .tc := ⟨.hbm, 111, rfl⟩
abbrev main_while0b_call4_c_1 : Ref sig .tc := ⟨.hbm, 112, rfl⟩
abbrev main_while0b_call4_v0 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_v91 : Ref sig .tc := ⟨.hbm, 135, rfl⟩
abbrev main_while0b_cst_15 : Ref sig .tc := ⟨.hbm, 136, rfl⟩
abbrev main_while0b_call5_v0 : Ref sig .tc := ⟨.hbm, 137, rfl⟩
abbrev main_while0b_call5_v1 : Ref sig .tc := ⟨.hbm, 138, rfl⟩
abbrev main_while0b_call5_v2 : Ref sig .tc := ⟨.hbm, 139, rfl⟩
abbrev main_while0b_call5_v3 : Ref sig .tc := ⟨.hbm, 140, rfl⟩
abbrev main_while0b_v92 : Ref sig .tc := ⟨.hbm, 141, rfl⟩
abbrev main_while0b_cst_16 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_cst_17 : Ref sig .tc := ⟨.hbm, 151, rfl⟩
abbrev main_while0b_call6_v0 : Ref sig .tc := ⟨.hbm, 152, rfl⟩
abbrev main_while0b_call6_v1 : Ref sig .tc := ⟨.hbm, 153, rfl⟩
abbrev main_while0b_call6_v2 : Ref sig .tc := ⟨.hbm, 154, rfl⟩
abbrev main_while0b_v101 : Ref sig .tc := ⟨.hbm, 155, rfl⟩
abbrev main_while0b_v102 : Ref sig .tc := ⟨.hbm, 156, rfl⟩
abbrev main_while0b_v103 : Ref sig .tc := ⟨.hbm, 157, rfl⟩
abbrev main_while0b_v104 : Ref sig .tc := ⟨.hbm, 158, rfl⟩
abbrev main_while0b_v105 : Ref sig .tc := ⟨.hbm, 159, rfl⟩
abbrev main_while0b_v106 : Ref sig .tc := ⟨.hbm, 160, rfl⟩
abbrev main_while0b_v107 : Ref sig .tc := ⟨.hbm, 161, rfl⟩
abbrev main_while0b_v108 : Ref sig .tc := ⟨.hbm, 162, rfl⟩
abbrev main_while0b_v109 : Ref sig .tc := ⟨.hbm, 163, rfl⟩
abbrev main_while0b_v110 : Ref sig .tc := ⟨.hbm, 164, rfl⟩
abbrev main_while0b_v111 : Ref sig .tc := ⟨.hbm, 165, rfl⟩
abbrev main_while0b_v112 : Ref sig .tc := ⟨.hbm, 166, rfl⟩
abbrev main_while0b_v113 : Ref sig .tc := ⟨.hbm, 167, rfl⟩
abbrev main_while0b_v114 : Ref sig .tc := ⟨.hbm, 168, rfl⟩
abbrev main_while0b_v115 : Ref sig .tc := ⟨.hbm, 169, rfl⟩
abbrev main_while0b_v116 : Ref sig .tc := ⟨.hbm, 170, rfl⟩
abbrev main_while0b_v117 : Ref sig .tc := ⟨.hbm, 171, rfl⟩
abbrev main_while0b_v118 : Ref sig .tc := ⟨.hbm, 172, rfl⟩
abbrev main_while0b_v119 : Ref sig .tc := ⟨.hbm, 173, rfl⟩
abbrev main_while0b_v120 : Ref sig .tc := ⟨.hbm, 174, rfl⟩
abbrev main_while0b_v121 : Ref sig .tc := ⟨.hbm, 175, rfl⟩
abbrev main_while0b_v122 : Ref sig .tc := ⟨.hbm, 176, rfl⟩
abbrev main_while0b_v123 : Ref sig .tc := ⟨.hbm, 177, rfl⟩
abbrev main_while0b_v124 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_v128 : Ref sig .tc := ⟨.hbm, 182, rfl⟩
abbrev main_while0b_v129 : Ref sig .tc := ⟨.hbm, 183, rfl⟩
abbrev main_while0b_v130 : Ref sig .tc := ⟨.hbm, 184, rfl⟩
abbrev main_while0b_v131 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_cst_18 : Ref sig .tc := ⟨.hbm, 191, rfl⟩
abbrev main_while0b_v137 : Ref sig .tc := ⟨.hbm, 192, rfl⟩
abbrev main_while0b_v138 : Ref sig .tc := ⟨.hbm, 193, rfl⟩
abbrev main_while0b_cst_19 : Ref sig .tc := ⟨.hbm, 194, rfl⟩
abbrev main_while0b_v139 : Ref sig .tc := ⟨.hbm, 195, rfl⟩
abbrev main_while0b_v140 : Ref sig .tc := ⟨.hbm, 196, rfl⟩
abbrev main_while0b_v141 : Ref sig .tc := ⟨.hbm, 197, rfl⟩
abbrev main_while0b_v142 : Ref sig .tc := ⟨.hbm, 198, rfl⟩
abbrev main_while0b_v143 : Ref sig .tc := ⟨.hbm, 199, rfl⟩
abbrev main_while0b_v144 : Ref sig .tc := ⟨.hbm, 200, rfl⟩
abbrev main_while0b_v145 : Ref sig .tc := ⟨.hbm, 201, rfl⟩
abbrev main_while0b_cst_20 : Ref sig .tc := ⟨.hbm, 202, rfl⟩
abbrev main_while0b_v146 : Ref sig .tc := ⟨.hbm, 203, rfl⟩
abbrev main_while0b_v147 : Ref sig .tc := ⟨.hbm, 204, rfl⟩
abbrev main_while0b_cst_21 : Ref sig .tc := ⟨.hbm, 205, rfl⟩
abbrev main_while0b_v148 : Ref sig .tc := ⟨.hbm, 206, rfl⟩
abbrev main_while0b_v149 : Ref sig .tc := ⟨.hbm, 207, rfl⟩
abbrev main_while0b_cst_22 : Ref sig .tc := ⟨.hbm, 208, rfl⟩
abbrev main_while0b_v150 : Ref sig .tc := ⟨.hbm, 209, rfl⟩
abbrev main_while0b_v151 : Ref sig .tc := ⟨.hbm, 210, rfl⟩
abbrev main_while0b_v152 : Ref sig .tc := ⟨.hbm, 211, rfl⟩
abbrev main_while0b_v153 : Ref sig .tc := ⟨.hbm, 212, rfl⟩
abbrev main_while0b_v154 : Ref sig .tc := ⟨.hbm, 213, rfl⟩
abbrev main_while0b_v155 : Ref sig .tc := ⟨.hbm, 214, rfl⟩
abbrev main_while0b_v156 : Ref sig .tc := ⟨.hbm, 215, rfl⟩
abbrev main_while0b_v157 : Ref sig .tc := ⟨.hbm, 216, rfl⟩
abbrev main_while0b_v158 : Ref sig .tc := ⟨.hbm, 217, rfl⟩
abbrev main_while0b_call7_v0 : Ref sig .tc := ⟨.hbm, 218, rfl⟩
abbrev main_while0b_call7_c : Ref sig .tc := ⟨.hbm, 219, rfl⟩
abbrev main_while0b_call7_c_0 : Ref sig .tc := ⟨.hbm, 220, rfl⟩
abbrev main_while0b_call7_c_1 : Ref sig .tc := ⟨.hbm, 221, rfl⟩
abbrev main_while0b_v159 : Ref sig .tc := ⟨.hbm, 222, rfl⟩
abbrev main_while0b_c_23 : Ref sig .tc := ⟨.hbm, 223, rfl⟩
abbrev main_while0b_v160 : Ref sig .tc := ⟨.hbm, 224, rfl⟩
abbrev main_v65 : Ref sig .tc := ⟨.hbm, 225, rfl⟩
abbrev main_v66 : Ref sig .tc := ⟨.hbm, 226, rfl⟩
abbrev main_v67 : Ref sig .tc := ⟨.hbm, 227, rfl⟩

abbrev nD : Nat := 1
abbrev τ : Topo := Topo.v7x

variable {F : FTy → Type} [FloatOps F]

abbrev main_while0_count : Scf.Loop 32 := ⟨0#32, 64#32, 1#32⟩
-- ==== Proof.Frames.lean ====
/-
  That every program runs to its end without a fault, leaves its arguments as they were and its counters at zero.
  The kernels' runs and the references' runs are at hand; here they are only read at the arguments.
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Mlp.Frame
public import proofs.«01_k».proof.Proof.Gen.MlpIdeal.Frame
public import proofs.«01_k».proof.Proof.Gen.MlpRefIdeal.Run
public import proofs.«01_k».proof.Proof.Gen.Last.Frame
public import proofs.«01_k».proof.Proof.Gen.LastIdeal.Frame
public import proofs.«01_k».proof.Proof.Gen.LastRefIdeal.Run
public import proofs.«01_k».proof.Proof.Gen.MIn.Frame
public import proofs.«01_k».proof.Proof.Gen.MInIdeal.Frame
public import proofs.«01_k».proof.Proof.Gen.MInRefIdeal.Run
public import proofs.«01_k».proof.Proof.Gen.SIn.Frame
public import proofs.«01_k».proof.Proof.Gen.SInIdeal.Frame
public import proofs.«01_k».proof.Proof.Gen.SInRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.SOut.Frame
public import proofs.«01_k».proof.Proof.Gen.SOutIdeal.Frame
public import proofs.«01_k».proof.Proof.Gen.SOutRefIdeal.Run
public import proofs.«01_k».proof.Proof.Gen.Rope.Frame
public import proofs.«01_k».proof.Proof.Gen.RopeIdeal.Frame
public import proofs.«01_k».proof.Proof.Gen.RopeRefIdeal.Run
public import proofs.«01_k».proof.Proof.Gen.MCore.Frame
public import proofs.«01_k».proof.Proof.Gen.MCoreIdeal.Frame
public import proofs.«01_k».proof.Proof.Gen.MCoreRefIdeal.Run
public import proofs.«01_k».proof.Proof.Gen.SCore.Frame
public import proofs.«01_k».proof.Proof.Gen.SCoreIdeal.Frame
public import proofs.«01_k».proof.Proof.Gen.SCoreRefIdeal.Run
public import proofs.«01_k».proof.Proof.Gen.Pre_finite
public import Idealize.ShloMosaic.Lib.Quiescent

@[expose] public section

set_option maxRecDepth 16384

noncomputable section

open Idealize.ShloMosaic Idealize.ShloMosaic.TcCoe Idealize.SL.Sem

namespace Cert.Frames

theorem attn : Cert.quiescent_Attn := fun m ρ _ => Cert.Attn.Gen.frame m ρ
theorem attn_ideal : Cert.quiescent_AttnIdeal := fun m ρ _ => Cert.AttnIdeal.Gen.frame m ρ
theorem attn_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

theorem mlp : Cert.quiescent_Mlp := fun m ρ _ => Cert.Mlp.Gen.frame m ρ
theorem mlp_ideal : Cert.quiescent_MlpIdeal := fun m ρ _ => Cert.MlpIdeal.Gen.frame m ρ
theorem mlp_ref : Cert.quiescent_MlpRefIdeal := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)

theorem last : Cert.quiescent_Last := fun m ρ _ => Cert.Last.Gen.frame m ρ
theorem last_ideal : Cert.quiescent_LastIdeal := fun m ρ _ => Cert.LastIdeal.Gen.frame m ρ
theorem last_ref : Cert.quiescent_LastRefIdeal := fun m ρ _ =>
  (θ_run Cert.LastRefIdeal.defs _ _).mono (fun r h => ⟨fun c => (h c).2,
      Idealize.ShloMosaic.sem_eq_zero_of_no_sems (by decide) r.2⟩)
    (Cert.LastRefIdeal.Value.run (F := Ideal) m ρ)

theorem min : Cert.quiescent_MIn := fun m ρ _ => Cert.MIn.Gen.frame m ρ
theorem min_ideal : Cert.quiescent_MInIdeal := fun m ρ _ => Cert.MInIdeal.Gen.frame m ρ
theorem min_ref : Cert.quiescent_MInRefIdeal := fun m ρ _ =>
  (θ_run Cert.MInRefIdeal.defs _ _).mono (fun r h => ⟨fun c => (h c).2,
      Idealize.ShloMosaic.sem_eq_zero_of_no_sems (by decide) r.2⟩)
    (Cert.MInRefIdeal.Value.run (F := Ideal) m ρ)

theorem sin : Cert.quiescent_SIn := fun m ρ _ => Cert.SIn.Gen.frame m ρ
theorem sin_ideal : Cert.quiescent_SInIdeal := fun m ρ _ => Cert.SInIdeal.Gen.frame m ρ
theorem sin_ref : Cert.quiescent_SInRefIdeal := fun m ρ _ =>
  (θ_run Cert.SInRefIdeal.defs _ _).mono (fun r h => ⟨fun c => (h c).2,
      Idealize.ShloMosaic.sem_eq_zero_of_no_sems (by decide) r.2⟩)
    (Cert.SInRefIdeal.Value.run (F := Ideal) m ρ)

theorem out : Cert.quiescent_Out := fun m ρ _ => Cert.Out.Gen.frame m ρ
theorem out_ideal : Cert.quiescent_OutIdeal := fun m ρ _ => Cert.OutIdeal.Gen.frame m ρ
theorem out_ref : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

theorem sout : Cert.quiescent_SOut := fun m ρ _ => Cert.SOut.Gen.frame m ρ
theorem sout_ideal : Cert.quiescent_SOutIdeal := fun m ρ _ => Cert.SOutIdeal.Gen.frame m ρ
theorem sout_ref : Cert.quiescent_SOutRefIdeal := fun m ρ _ =>
  (θ_run Cert.SOutRefIdeal.defs _ _).mono (fun r h => ⟨fun c => (h c).2,
      Idealize.ShloMosaic.sem_eq_zero_of_no_sems (by decide) r.2⟩)
    (Cert.SOutRefIdeal.Value.run (F := Ideal) m ρ)

theorem rope : Cert.quiescent_Rope := fun m ρ _ => Cert.Rope.Gen.frame m ρ
theorem rope_ideal : Cert.quiescent_RopeIdeal := fun m ρ _ => Cert.RopeIdeal.Gen.frame m ρ
theorem rope_ref : Cert.quiescent_RopeRefIdeal := fun m ρ _ =>
  (θ_run Cert.RopeRefIdeal.defs _ _).mono (fun r h => ⟨fun c => (h c).2,
      Idealize.ShloMosaic.sem_eq_zero_of_no_sems (by decide) r.2⟩)
    (Cert.RopeRefIdeal.Value.run (F := Ideal) m ρ)

theorem mcore : Cert.quiescent_MCore := fun m ρ _ => Cert.MCore.Gen.frame m ρ
theorem mcore_ideal : Cert.quiescent_MCoreIdeal := fun m ρ _ => Cert.MCoreIdeal.Gen.frame m ρ
theorem mcore_ref : Cert.quiescent_MCoreRefIdeal := fun m ρ _ =>
  (θ_run Cert.MCoreRefIdeal.defs _ _).mono (fun r h => ⟨fun c => (h c).2,
      Idealize.ShloMosaic.sem_eq_zero_of_no_sems (by decide) r.2⟩)
    (Cert.MCoreRefIdeal.Value.run (F := Ideal) m ρ)
theorem score : Cert.quiescent_SCore := fun m ρ _ => Cert.SCore.Gen.frame m ρ
theorem score_ideal : Cert.quiescent_SCoreIdeal := fun m ρ _ => Cert.SCoreIdeal.Gen.frame m ρ
theorem score_ref : Cert.quiescent_SCoreRefIdeal := fun m ρ _ =>
  (θ_run Cert.SCoreRefIdeal.defs _ _).mono (fun r h => ⟨fun c => (h c).2,
      Idealize.ShloMosaic.sem_eq_zero_of_no_sems (by decide) r.2⟩)
    (Cert.SCoreRefIdeal.Value.run (F := Ideal) m ρ)

theorem attn_ideal_pre : Cert.quiescent_AttnIdeal_pre_finite := fun m ρ _ => Cert.AttnIdeal.Gen.frame m ρ
theorem attn_ref_pre : Cert.quiescent_AttnRefIdeal_pre_finite := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

end Cert.Frames

end
-- ==== Proof.AttnOpen.lean ====
module

public import proofs.«01_k».proof.Defs
public import proofs.«01_k».proof.Proof.Gen.AttnIdeal.Value
public import Idealize.ShloMosaic.Lib.Pipeline.Value
public import Idealize.ShloMosaic.Lib.Pointwise

@[expose] public section

set_option maxRecDepth 16384

noncomputable section

namespace Cert.AttnVal

open Idealize.ShloMosaic Idealize.ShloMosaic.TcCoe Idealize.SL.Sem
open Idealize.ShloMosaic.Pipeline (Dat)
open Cert.AttnIdeal Cert.AttnIdeal.Gen

theorem hz2 : (![0, 0] : Fin 2 → Nat) = fun _ => 0 := funext fun a => by fin_cases a <;> rfl

theorem trips1 (i : grid0.Coords) : (k0_t1_loop i).trips = (i 2).val := by
  have h : ∀ q : Fin 16, Scf.Loop.trips (⟨0#32, Scalar.addi 0#32 (Scalar.muli (Scalar.divsi (Scalar.subi (BitVec.ofNat 32 q.val) 0#32) 1#32) 1#32), 1#32⟩ : Scf.Loop 32) = q.val := by decide +kernel
  exact h (i 2)

abbrev Car := FVec Ideal S512x1 .f32 × FVec Ideal S512x1 .f32 × FVec Ideal S512x128 .f32 × FVec Ideal S512x1 .f32 × FVec Ideal S512x1 .f32 × FVec Ideal S512x128 .f32

/-- The second loop makes no trip. -/
theorem trips2 (i : grid0.Coords) : (k0_t2_loop i).trips = 0 := Nat.le_zero.1 (k0_t2_abs i).2.1

/-- The key or value rows that one trip reads. -/
abbrev blkT (i : grid0.Coords) (k : Fin (k0_t1_loop i).trips) (x : Vec Ideal S8192x128 .bf16) : Vec Ideal S512x128 .bf16 :=
  View.ld x (Rect.unit (s := S8192x128) (k0_off1 i k) S512x128.size (k0_off1_inb i k))

/-- The key or value rows on the diagonal. -/
abbrev blkD (i : grid0.Coords) (x : Vec Ideal S8192x128 .bf16) : Vec Ideal S512x128 .bf16 :=
  View.ld x (Rect.unit (s := S8192x128) (k0_off3 i) S512x128.size (k0_off3_inb i))

variable (c : Dev nD) (i : grid0.Coords) (a3 : Memref sig .tc .vmem S4x64 .f32) (h3 : a3.IsWhole) (a4 : Memref sig .tc .vmem S1x128 .f32) (h4 : a4.IsWhole) (a5 : Memref sig .tc .vmem S512x128 .bf16) (h5 : a5.IsWhole) (a6 : Memref sig .tc .vmem S8192x128 .bf16) (h6 : a6.IsWhole) (a7 : Memref sig .tc .vmem S8192x128 .bf16) (h7 : a7.IsWhole) (a8 : Memref sig .tc .vmem S512x128 .bf16) (h8 : a8.IsWhole)

/-- What one trip of the loop makes of the carried values. -/
theorem trip_eq (v0 : Vec Ideal S512x128 .bf16) (x3 x4 : Vec Ideal S8192x128 .bf16) (k : Fin (k0_t1_loop i).trips) (s : Car) :
    tripR_k0_t1 (F := Ideal) Variants.none c none i a3 h3 a4 h4 a5 h5 a6 h6 a7 h7 a8 h8 v0 (h6.unread x3) (h7.unread x4) k s
      = (k0_pay13 v0 s.1 (blkT i k x3), k0_pay16 v0 s.1 s.2.1 (blkT i k x3), k0_pay17 v0 s.1 s.2.2.1 (blkT i k x3) (blkT i k x4),
         k0_pay19 v0 s.2.2.2.1 (blkT i k x3), k0_pay22 v0 s.2.2.2.1 s.2.2.2.2.1 (blkT i k x3),
         k0_pay23 v0 s.2.2.2.1 s.2.2.2.2.2 (blkT i k x3) (blkT i k x4)) := by
  obtain ⟨m0, l0, c0, m1, l1, c1⟩ := s
  unfold tripR_k0_t1 trip_k0_t1
  dsimp only
  simp only [View.readAt_eq_ld, h6.read_unread, h7.read_unread]

/-- The carried values before trip `k`. -/
abbrev stK (v0 : Vec Ideal S512x128 .bf16) (x3 x4 : Vec Ideal S8192x128 .bf16) (k : ℕ) : Car :=
  st_k0_t1 (F := Ideal) Variants.none c none i a3 h3 a4 h4 a5 h5 a6 h6 a7 h7 a8 h8 v0 (h6.unread x3) (h7.unread x4) (k0_pay6, k0_pay7, k0_pay8, k0_pay9, k0_pay10, k0_pay11) k

/-- What the body leaves in the output's buffer, from the values carried out of the loop. -/
theorem out_eq (x0 : Vec Ideal S4x64 .f32) (x1 : Vec Ideal S1x128 .f32) (x2 : Vec Ideal S512x128 .bf16) (x3 x4 : Vec Ideal S8192x128 .bf16) (s : Car)
    (hs : stK c i a3 h3 a4 h4 a5 h5 a6 h6 a7 h7 a8 h8 x2 x3 x4 (i 2).val = s) :
    out0_A_5 (F := Ideal) c i a3 h3 a4 h4 a5 h5 a6 h6 a7 h7 a8 h8 x0 x1 x2 x3 x4
      = k0_pay1 (k0_pay41 s.1 s.2.1 (k0_pay36 x2 (blkD i x3)) (k0_pay37 x2 (blkD i x3)))
          (k0_pay42 s.1 s.2.2.1 (blkD i x4) (k0_pay36 x2 (blkD i x3)) (k0_pay37 x2 (blkD i x3)))
          (k0_pay47 (k0_pay4 x2) k0_pay5 s.2.2.2.1 s.2.2.2.2.1 (blkD i x3))
          (k0_pay48 (k0_pay4 x2) k0_pay5 s.2.2.2.1 s.2.2.2.2.2 (blkD i x3) (blkD i x4)) (k0_pay49 x0) x1 := by
  subst hs
  have t1 := trips1 i
  have t2 := trips2 i
  unfold out0_A_5
  rw [View.read_writes_eq_canon _ _ _ (cover0_A_5 c i a3 h3 a4 h4 a5 h5 a6 h6 a7 h7 a8 h8 x0 x1 x2 x3 x4)]
  unfold kernelRun0_A
  dsimp only
  rw [View.canon_unit_zero hz2]
  sl_unfold_words
  simp only [View.readAt_eq_ld, h3.read_unread, h4.read_unread, h5.read_unread, h6.read_unread, h7.read_unread, View.ld_unit_zero (S := S512x128) hz2, View.ld_unit_zero (S := S1x128) hz2, View.ld_unit_zero (S := S4x64) hz2]
  dsimp only [k0_t1_loop, k0_t2_loop, Scf.Loop.trips] at t1 t2
  simp only [t1, t2, st_k0_t2_zero]
  rfl

end Cert.AttnVal
-- ==== Proof.Softmax.lean ====
module

public import Idealize.ShloMosaic.PureOps.Ideal

@[expose] public section

noncomputable section

namespace Cert.Softmax

open Idealize.ShloMosaic

/-- The weight of a score: its exponential, and nothing for a score left out. -/
def wt (s : EReal) : ℝ := (Ideal.exp s).toReal

theorem wt_bot : wt ⊥ = 0 := by
  show (0 : EReal).toReal = 0
  simp

theorem wt_coe (r : ℝ) : wt (r : EReal) = Real.exp r := rfl

/-- A score that is left out or a real number. -/
def Fit (s : EReal) : Prop := s = ⊥ ∨ ∃ r : ℝ, s = (r : EReal)

theorem exp_sub (s : EReal) (hs : Fit s) (M : ℝ) :
    Ideal.exp (s - (M : EReal)) = ((wt s * Real.exp (-M) : ℝ) : EReal) := by
  obtain rfl | ⟨r, rfl⟩ := hs
  · rw [wt_bot, EReal.bot_sub, zero_mul]; rfl
  · rw [wt_coe, ← EReal.coe_sub, ← Real.exp_add, ← sub_eq_add_neg]; rfl

/-- The running sum `x` at the running shift `m` stands for the total `X`. -/
def St (m x : EReal) (X : ℝ) : Prop :=
  (m = ⊥ ∧ x = 0 ∧ X = 0) ∨ ∃ M : ℝ, m = (M : EReal) ∧ x = ((X * Real.exp (-M) : ℝ) : EReal)

theorem St.fit {m x : EReal} {X : ℝ} (h : St m x X) : Fit m := by
  obtain ⟨h, -⟩ | ⟨M, h, -⟩ := h
  · exact .inl h
  · exact .inr ⟨M, h⟩

theorem coe_sum {n : ℕ} (f : Fin n → ℝ) : ((∑ j, f j : ℝ) : EReal) = ∑ j, (f j : EReal) := by
  exact map_sum (⟨⟨Real.toEReal, EReal.coe_zero⟩, EReal.coe_add⟩ : ℝ →+ EReal) f Finset.univ

/-- The largest of a row's scores is a real number when one of them is. -/
theorem fold_real {n : ℕ} (S : Fin n → EReal) (hS : ∀ j, Fit (S j)) (hne : ∃ j, ∃ r : ℝ, S j = (r : EReal)) :
    ∃ M : ℝ, Finset.univ.fold max ⊥ S = (M : EReal) := by
  have h1 : Finset.univ.fold max ⊥ S ≠ ⊤ := by
    refine ne_of_lt (Finset.fold_max_lt _ |>.2 ⟨bot_lt_top, fun j _ => ?_⟩)
    obtain h | ⟨r, h⟩ := hS j <;> rw [h]
    · exact bot_lt_top
    · exact EReal.coe_lt_top r
  have h2 : Finset.univ.fold max ⊥ S ≠ ⊥ := by
    obtain ⟨j, r, h⟩ := hne
    refine ne_of_gt ((Finset.lt_fold_max _).2 (.inr ⟨j, Finset.mem_univ _, ?_⟩))
    rw [h]; exact EReal.bot_lt_coe r
  exact ⟨_, (EReal.coe_toReal h1 h2).symm⟩

theorem max_real {m : EReal} (hm : Fit m) (M : ℝ) : ∃ M' : ℝ, max m (M : EReal) = (M' : EReal) := by
  obtain rfl | ⟨r, rfl⟩ := hm
  · exact ⟨M, max_eq_right bot_le⟩
  · exact ⟨max r M, (EReal.coe_strictMono.monotone.map_max).symm⟩

/-- Rescaling a running sum to a new real shift. -/
theorem St.rescale {m x : EReal} {X : ℝ} (h : St m x X) (M : ℝ) :
    Ideal.exp (m - (M : EReal)) * x = ((X * Real.exp (-M) : ℝ) : EReal) := by
  obtain ⟨rfl, rfl, rfl⟩ | ⟨M0, rfl, rfl⟩ := h
  · rw [zero_mul, mul_zero]; rfl
  · rw [exp_sub _ (.inr ⟨M0, rfl⟩), wt_coe, ← EReal.coe_mul]
    congr 1
    have : Real.exp M0 * Real.exp (-M0) = 1 := by rw [← Real.exp_add]; simp
    linear_combination X * Real.exp (-M) * this

/-- The weights of a row of scores against real coefficients, at a real shift. -/
theorem sum_weights {n : ℕ} (S : Fin n → EReal) (hS : ∀ j, Fit (S j)) (c : Fin n → ℝ) (M : ℝ) :
    ∑ j, Ideal.exp (S j - (M : EReal)) * (c j : EReal) = (((∑ j, wt (S j) * c j) * Real.exp (-M) : ℝ) : EReal) := by
  rw [Finset.sum_mul, coe_sum]
  refine Finset.sum_congr rfl fun j _ => ?_
  rw [exp_sub _ (hS j), ← EReal.coe_mul]
  congr 1; ring

/-- One block of scores taken into the running sum. -/
theorem St.step {n : ℕ} {m x : EReal} {X : ℝ} (h : St m x X) (S : Fin n → EReal) (hS : ∀ j, Fit (S j))
    (hne : ∃ j, ∃ r : ℝ, S j = (r : EReal)) (c : Fin n → ℝ) {m' : EReal} (hm' : m' = max m (Finset.univ.fold max ⊥ S)) :
    St m' (Ideal.exp (m - m') * x + ∑ j, Ideal.exp (S j - m') * (c j : EReal)) (X + ∑ j, wt (S j) * c j) := by
  obtain ⟨B, hB⟩ := fold_real S hS hne
  obtain ⟨M, hM⟩ := max_real h.fit B
  rw [hm', hB, hM, h.rescale M, sum_weights S hS c M, ← EReal.coe_add, ← add_mul]
  exact .inr ⟨M, rfl, rfl⟩

/-- The same for the sum of the weights alone. -/
theorem St.step_one {n : ℕ} {m x : EReal} {X : ℝ} (h : St m x X) (S : Fin n → EReal) (hS : ∀ j, Fit (S j))
    (hne : ∃ j, ∃ r : ℝ, S j = (r : EReal)) {m' : EReal} (hm' : m' = max m (Finset.univ.fold max ⊥ S)) :
    St m' (Ideal.exp (m - m') * x + ∑ j, Ideal.exp (S j - m')) (X + ∑ j, wt (S j)) := by
  have := h.step S hS hne (fun _ => 1) hm'
  simpa using this

/-- The quotient of two running sums at one shift is the quotient of the totals. -/
theorem St.div {m a l : EReal} {A L : ℝ} (ha : St m a A) (hl : St m l L) (hL : 0 < L) :
    Ideal.div a l = ((A / L : ℝ) : EReal) := by
  obtain ⟨-, -, h⟩ | ⟨M, rfl, rfl⟩ := hl
  · exact absurd h hL.ne'
  obtain ⟨h, -⟩ | ⟨M', h, rfl⟩ := ha
  · exact absurd h (EReal.coe_ne_bot M)
  obtain rfl : M = M' := EReal.coe_injective h
  have hp : 0 < L * Real.exp (-M) := mul_pos hL (Real.exp_pos _)
  unfold Ideal.div
  rw [if_neg (by exact_mod_cast hp.ne'), ← EReal.coe_inv, ← EReal.coe_mul]
  congr 1
  have := Real.exp_pos (-M)
  field_simp

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A full softmax at one entry is its weight over the sum of the weights. -/
theorem softmax_at {n : ℕ} (S : Fin n → EReal) (hS : ∀ j, Fit (S j)) (hne : ∃ j, ∃ r : ℝ, S j = (r : EReal))
    (hL : 0 < ∑ j, wt (S j)) {m : EReal} (hm : m = Finset.univ.fold max ⊥ S) (j : Fin n) :
    Ideal.div (Ideal.exp (S j - m)) (∑ j', Ideal.exp (S j' - m)) = ((wt (S j) / ∑ j', wt (S j') : ℝ) : EReal) := by
  obtain ⟨M, hM⟩ := fold_real S hS hne
  have e := sum_weights S hS (fun _ => 1) M
  simp only [EReal.coe_one, mul_one] at e
  rw [hm, hM, e, exp_sub _ (hS j)]
  exact St.div (m := M) (.inr ⟨M, rfl, rfl⟩) (.inr ⟨M, rfl, rfl⟩) hL

end Cert.Softmax
-- ==== Proof.AttnMath.lean ====
module

public import proofs.«01_k».proof.Proof.Softmax
public import Idealize.ShloMosaic.Lib.Pointwise

@[expose] public section

noncomputable section

namespace Cert.AttnVal

open Idealize.ShloMosaic Cert.Softmax

/-- The array of queries, keys and values: 16384 rows of 3072 lanes. -/
abbrev QKV := (⟨2, ![16384, 3072]⟩ : Shape).Idx → EReal

variable (X : QKV)

/-- An entry of the array as a real number, at any two numbers. -/
def xr (a b : ℕ) : ℝ := if h : a < 16384 ∧ b < 3072 then (X (ix2 ⟨a, h.1⟩ ⟨b, h.2⟩)).toReal else 0

theorem xr_eq (hX : ∀ i, ∃ r : ℝ, X i = (r : EReal)) (a : Fin 16384) (b : Fin 3072) : X (ix2 a b) = (xr X a.val b.val : EReal) := by
  obtain ⟨r, hr⟩ := hX (ix2 a b)
  unfold xr
  rw [dif_pos ⟨a.isLt, b.isLt⟩]
  show X (ix2 a b) = ((X (ix2 a b)).toReal : EReal)
  rw [hr]; rfl

variable (b h ci r : ℕ)

/-- The score of row `r` against row `j` in component `ci` of head `h` of batch `b`. -/
def sc (j : ℕ) : ℝ :=
  ∑ d : Fin 64, xr X (b * 8192 + r) (h * 128 + ci * 64 + d.val) * xr X (b * 8192 + j) (1024 + h * 128 + ci * 64 + d.val)

/-- The score under the causal mask. -/
def sm (j : ℕ) : EReal := if j ≤ r then (sc X b h ci r j : EReal) else ⊥

/-- The weight of row `j`. -/
def wg (j : ℕ) : ℝ := wt (sm X b h ci r j)

/-- The sum of the weights of the first `n` rows. -/
def tL (n : ℕ) : ℝ := ∑ j ∈ Finset.range n, wg X b h ci r j

/-- The weighted sum of lane `l` of the first `n` value rows. -/
def tA (l n : ℕ) : ℝ := ∑ j ∈ Finset.range n, wg X b h ci r j * xr X (b * 8192 + j) (2048 + h * 128 + l)

theorem sm_fit (j : ℕ) : Fit (sm X b h ci r j) := by
  unfold sm
  split
  · exact .inr ⟨_, rfl⟩
  · exact .inl rfl

theorem wg_pos (j : ℕ) (hj : j ≤ r) : 0 < wg X b h ci r j := by
  unfold wg sm
  rw [if_pos hj, wt_coe]
  exact Real.exp_pos _

theorem wg_zero (j : ℕ) (hj : ¬ j ≤ r) : wg X b h ci r j = 0 := by
  unfold wg sm
  rw [if_neg hj, wt_bot]

theorem wg_nonneg (j : ℕ) : 0 ≤ wg X b h ci r j := by
  by_cases hj : j ≤ r
  · exact (wg_pos X b h ci r j hj).le
  · exact (wg_zero X b h ci r j hj).ge

theorem tL_pos (n : ℕ) (hn : 0 < n) : 0 < tL X b h ci r n :=
  Finset.sum_pos' (fun j _ => wg_nonneg X b h ci r j) ⟨0, Finset.mem_range.2 hn, wg_pos X b h ci r 0 (Nat.zero_le _)⟩

theorem tL_all (n N : ℕ) (hr : r < n) (hn : n ≤ N) : tL X b h ci r n = tL X b h ci r N := by
  refine Finset.sum_subset (Finset.range_mono hn) fun j _ hj => ?_
  exact wg_zero X b h ci r j fun hjr => hj (Finset.mem_range.2 (by omega))

theorem tA_all (l n N : ℕ) (hr : r < n) (hn : n ≤ N) : tA X b h ci r l n = tA X b h ci r l N := by
  refine Finset.sum_subset (Finset.range_mono hn) fun j _ hj => ?_
  rw [wg_zero X b h ci r j fun hjr => hj (Finset.mem_range.2 (by omega)), zero_mul]

theorem range_block (f : ℕ → ℝ) (k : ℕ) :
    ∑ j ∈ Finset.range (512 * k), f j + ∑ j : Fin 512, f (512 * k + j.val) = ∑ j ∈ Finset.range (512 * (k + 1)), f j := by
  rw [Nat.mul_succ, Finset.sum_range_add, Fin.sum_univ_eq_sum_range (fun j => f (512 * k + j)) 512]

/-- One block of 512 key and value rows taken into the two running sums of a row. -/
theorem block_step (k : ℕ) (hk : 512 * k ≤ r) {m x m' : EReal} {acc : Fin 128 → EReal} {S : Fin 512 → EReal} {V : Fin 512 → Fin 128 → EReal}
    (hl : St m x (tL X b h ci r (512 * k))) (ha : ∀ l : Fin 128, St m (acc l) (tA X b h ci r l.val (512 * k)))
    (hS : ∀ j : Fin 512, S j = sm X b h ci r (512 * k + j.val))
    (hV : ∀ (j : Fin 512) (l : Fin 128), V j l = (xr X (b * 8192 + (512 * k + j.val)) (2048 + h * 128 + l.val) : EReal))
    (hm' : m' = max m (Finset.univ.fold max ⊥ S)) :
    St m' (Ideal.exp (m - m') * x + ∑ j, Ideal.exp (S j - m')) (tL X b h ci r (512 * (k + 1)))
      ∧ ∀ l : Fin 128, St m' (Ideal.exp (m - m') * acc l + ∑ j, Ideal.exp (S j - m') * V j l) (tA X b h ci r l.val (512 * (k + 1))) := by
  have hfit : ∀ j, Fit (S j) := fun j => hS j ▸ sm_fit X b h ci r _
  have hne : ∃ j, ∃ q : ℝ, S j = (q : EReal) := ⟨0, sc X b h ci r (512 * k), by
    rw [hS]; unfold sm; exact if_pos hk⟩
  constructor
  · have e := hl.step_one S hfit hne hm'
    rw [show (tL X b h ci r (512 * k) + ∑ j, wt (S j)) = tL X b h ci r (512 * (k + 1)) from by
      unfold tL; rw [← range_block]
      exact congrArg _ (Finset.sum_congr rfl fun j _ => by rw [hS]; rfl)] at e
    exact e
  · intro l
    have e := (ha l).step S hfit hne (fun j => xr X (b * 8192 + (512 * k + j.val)) (2048 + h * 128 + l.val)) hm'
    rw [show (tA X b h ci r l.val (512 * k) + ∑ j : Fin 512, wt (S j) * xr X (b * 8192 + (512 * k + j.val)) (2048 + h * 128 + l.val))
        = tA X b h ci r l.val (512 * (k + 1)) from by
      unfold tA; rw [← range_block]
      exact congrArg _ (Finset.sum_congr rfl fun j _ => by rw [hS]; rfl)] at e
    simp only [hV]
    exact e

end Cert.AttnVal
-- ==== Proof.AttnKer.lean ====
module

public import proofs.«01_k».proof.Proof.AttnOpen
public import proofs.«01_k».proof.Proof.AttnMath

@[expose] public section

set_option maxRecDepth 16384

noncomputable section

namespace Cert.AttnVal

open Idealize.ShloMosaic Idealize.ShloMosaic.TcCoe Idealize.SL.Sem
open Cert.AttnIdeal Cert.AttnIdeal.Gen Cert.Softmax

theorem bits_bot : Ideal.ofBits FTy.f32 4286578688#32 = ⊥ := by
  unfold Ideal.ofBits Ideal.ieee
  rfl

theorem lt64 : ∀ l : Fin 128, IntOp.cmpi CmpIPredicate.slt (BitVec.ofNat 32 l.val) 64#32 = if l.val < 64 then 1#1 else 0#1 := by decide +kernel

theorem ge64 : ∀ l : Fin 128, IntOp.cmpi CmpIPredicate.sge (BitVec.ofNat 32 l.val) 64#32 = if l.val < 64 then 0#1 else 1#1 := by decide +kernel

theorem le_words (a b : ℕ) (ha : a < 8192) (hb : b < 8192) : IntOp.cmpi CmpIPredicate.sle (BitVec.ofNat 32 a) (BitVec.ofNat 32 b) = if a ≤ b then 1#1 else 0#1 := by
  have e : IntOp.cmpi CmpIPredicate.sle (BitVec.ofNat 32 a) (BitVec.ofNat 32 b) = BitVec.ofBool ((BitVec.ofNat 32 a).sle (BitVec.ofNat 32 b)) := rfl
  have ha' : (BitVec.ofNat 32 a).toInt = a := by
    rw [BitVec.toInt_eq_toNat_of_lt (by rw [BitVec.toNat_ofNat]; omega), BitVec.toNat_ofNat]; omega
  have hb' : (BitVec.ofNat 32 b).toInt = b := by
    rw [BitVec.toInt_eq_toNat_of_lt (by rw [BitVec.toNat_ofNat]; omega), BitVec.toNat_ofNat]; omega
  rw [e, BitVec.sle_eq_decide, ha', hb']
  by_cases hab : a ≤ b
  · rw [if_pos hab, decide_eq_true (by exact_mod_cast hab)]; rfl
  · rw [if_neg hab, decide_eq_false (by exact_mod_cast hab)]; rfl

theorem sel_if {p : Prop} [Decidable p] (x y : EReal) :
    Scalar.select (if p then 1#1 else 0#1) x y = if p then x else y := by
  split <;> rfl

theorem q0 (v0 : Vec Ideal S512x128 .bf16) (r : Fin 512) (l : Fin 128) :
    k0_pay3 v0 (ix2 r l) = if l.val < 64 then v0 (ix2 r l) else 0 := by
  pointwise [k0_pay3, k0_pay2]
  rw [lt64, sel_if]

theorem q1 (v0 : Vec Ideal S512x128 .bf16) (r : Fin 512) (l : Fin 128) :
    k0_pay4 v0 (ix2 r l) = if l.val < 64 then 0 else v0 (ix2 r l) := by
  pointwise [k0_pay4, k0_pay2]
  rw [ge64]
  split <;> rfl

theorem mask_at (r j : Fin 512) : k0_pay5 (ix2 r j) = if j.val ≤ r.val then 1#1 else 0#1 := by
  pointwise [k0_pay5]
  exact le_words _ _ (by omega) (by omega)

/-- A contraction over 128 lanes of which the upper 64 are zero. -/
theorem sum_low (f g : ℕ → ℝ) : ∑ k : Fin 128, (if k.val < 64 then (f k.val : EReal) else 0) * (g k.val : EReal) = ((∑ d : Fin 64, f d.val * g d.val : ℝ) : EReal) := by
  rw [coe_sum]
  have hz : ∑ i : Fin 64, (if 64 + i.val < 64 then (f (64 + i.val) : EReal) else 0) * (g (64 + i.val) : EReal) = 0 :=
    Finset.sum_eq_zero fun i _ => by rw [if_neg (by omega), zero_mul]
  refine (Fin.sum_univ_add (a := 64) (b := 64) _).trans ((congrArg _ hz).trans ((add_zero _).trans ?_))
  refine Finset.sum_congr rfl fun d _ => ?_
  show (if d.val < 64 then (f d.val : EReal) else 0) * (g d.val : EReal) = _
  rw [if_pos d.isLt, EReal.coe_mul]

/-- The same with the lower 64 zero. -/
theorem sum_high (f g : ℕ → ℝ) : ∑ k : Fin 128, (if k.val < 64 then 0 else (f k.val : EReal)) * (g k.val : EReal) = ((∑ d : Fin 64, f (64 + d.val) * g (64 + d.val) : ℝ) : EReal) := by
  rw [coe_sum]
  have hz : ∑ i : Fin 64, (if i.val < 64 then 0 else (f i.val : EReal)) * (g i.val : EReal) = 0 :=
    Finset.sum_eq_zero fun i _ => by rw [if_pos i.isLt, zero_mul]
  refine (Fin.sum_univ_add (a := 64) (b := 64) _).trans ((congrArg (· + _) hz).trans ((zero_add _).trans ?_))
  refine Finset.sum_congr rfl fun d _ => ?_
  show (if 64 + d.val < 64 then 0 else (f (64 + d.val) : EReal)) * (g (64 + d.val) : EReal) = _
  rw [if_neg (by omega), EReal.coe_mul]

variable (X : QKV) (b h qi : ℕ)

/-- A block of query rows. -/
def IsQ (v0 : Vec Ideal S512x128 .bf16) : Prop := ∀ (r : Fin 512) (l : Fin 128), v0 (ix2 r l) = (xr X (b * 8192 + (512 * qi + r.val)) (h * 128 + l.val) : EReal)
/-- A block of key rows. -/
def IsK (k : ℕ) (kb : Vec Ideal S512x128 .bf16) : Prop := ∀ (j : Fin 512) (l : Fin 128), kb (ix2 j l) = (xr X (b * 8192 + (512 * k + j.val)) (1024 + h * 128 + l.val) : EReal)
/-- A block of value rows. -/
def IsV (k : ℕ) (vb : Vec Ideal S512x128 .bf16) : Prop := ∀ (j : Fin 512) (l : Fin 128), vb (ix2 j l) = (xr X (b * 8192 + (512 * k + j.val)) (2048 + h * 128 + l.val) : EReal)

variable {X b h qi}
variable {v0 kb vb : Vec Ideal S512x128 .bf16} {k : ℕ}

theorem dot0 (hq : IsQ X b h qi v0) (hk : IsK X b h k kb) (r j : Fin 512) :
    ∑ x : Fin 128, k0_pay3 v0 (ix2 r x) * kb (ix2 j x) = (sc X b h 0 (512 * qi + r.val) (512 * k + j.val) : EReal) := by
  simp only [q0, hq r, hk j]
  rw [sum_low (fun n => xr X (b * 8192 + (512 * qi + r.val)) (h * 128 + n)) (fun n => xr X (b * 8192 + (512 * k + j.val)) (1024 + h * 128 + n))]
  rfl

theorem dot1 (hq : IsQ X b h qi v0) (hk : IsK X b h k kb) (r j : Fin 512) :
    ∑ x : Fin 128, k0_pay4 v0 (ix2 r x) * kb (ix2 j x) = (sc X b h 1 (512 * qi + r.val) (512 * k + j.val) : EReal) := by
  simp only [q1, hq r, hk j]
  rw [sum_high (fun n => xr X (b * 8192 + (512 * qi + r.val)) (h * 128 + n)) (fun n => xr X (b * 8192 + (512 * k + j.val)) (1024 + h * 128 + n))]
  unfold sc
  simp only [one_mul, Nat.add_assoc]

theorem sm_before (ci : ℕ) (hkq : k < qi) (r j : Fin 512) :
    sm X b h ci (512 * qi + r.val) (512 * k + j.val) = (sc X b h ci (512 * qi + r.val) (512 * k + j.val) : EReal) :=
  if_pos (by omega)

theorem sm_diag (ci : ℕ) (r j : Fin 512) :
    sm X b h ci (512 * qi + r.val) (512 * qi + j.val) = if j.val ≤ r.val then (sc X b h ci (512 * qi + r.val) (512 * qi + j.val) : EReal) else ⊥ := by
  unfold sm
  by_cases hj : j.val ≤ r.val
  · rw [if_pos hj, if_pos (by omega)]
  · rw [if_neg hj, if_neg (by omega)]

/-- What the six carried values stand for after the first `512 * k` key and value rows. -/
def Inv (X : QKV) (b h qi k : ℕ) (s : Car) : Prop := ∀ r : Fin 512,
  (St (s.1 (ix2 r 0)) (s.2.1 (ix2 r 0)) (tL X b h 0 (512 * qi + r.val) (512 * k))
    ∧ ∀ l : Fin 128, St (s.1 (ix2 r 0)) (s.2.2.1 (ix2 r l)) (tA X b h 0 (512 * qi + r.val) l.val (512 * k)))
  ∧ (St (s.2.2.2.1 (ix2 r 0)) (s.2.2.2.2.1 (ix2 r 0)) (tL X b h 1 (512 * qi + r.val) (512 * k))
    ∧ ∀ l : Fin 128, St (s.2.2.2.1 (ix2 r 0)) (s.2.2.2.2.2 (ix2 r l)) (tA X b h 1 (512 * qi + r.val) l.val (512 * k)))

theorem Inv.zero : Inv X b h qi 0 (k0_pay6, k0_pay7, k0_pay8, k0_pay9, k0_pay10, k0_pay11) := by
  have e6 (r : Fin 512) : k0_pay6 (F := Ideal) (ix2 r 0) = ⊥ := by pointwise [k0_pay6]; exact bits_bot
  have e7 (r : Fin 512) : k0_pay7 (F := Ideal) (ix2 r 0) = 0 := by pointwise [k0_pay7]
  have e8 (r : Fin 512) (l : Fin 128) : k0_pay8 (F := Ideal) (ix2 r l) = 0 := by pointwise [k0_pay8]
  have e9 (r : Fin 512) : k0_pay9 (F := Ideal) (ix2 r 0) = ⊥ := by pointwise [k0_pay9]; exact bits_bot
  have e10 (r : Fin 512) : k0_pay10 (F := Ideal) (ix2 r 0) = 0 := by pointwise [k0_pay10]
  have e11 (r : Fin 512) (l : Fin 128) : k0_pay11 (F := Ideal) (ix2 r l) = 0 := by pointwise [k0_pay11]
  exact fun r => ⟨⟨.inl ⟨e6 r, e7 r, rfl⟩, fun l => .inl ⟨e6 r, e8 r l, rfl⟩⟩, ⟨.inl ⟨e9 r, e10 r, rfl⟩, fun l => .inl ⟨e9 r, e11 r l, rfl⟩⟩⟩

section
variable (v0 kb vb : Vec Ideal S512x128 .bf16) (m x : FVec Ideal S512x1 .f32) (a : FVec Ideal S512x128 .f32) (r : Fin 512)

theorem p12 (j : Fin 512) : k0_pay12 v0 kb (ix2 r j) = ∑ x : Fin 128, k0_pay3 v0 (ix2 r x) * kb (ix2 j x) := by pointwise [k0_pay12]
theorem p18 (j : Fin 512) : k0_pay18 v0 kb (ix2 r j) = ∑ x : Fin 128, k0_pay4 v0 (ix2 r x) * kb (ix2 j x) := by pointwise [k0_pay18]
theorem p13 : k0_pay13 v0 m kb (ix2 r 0) = max (m (ix2 r 0)) (Finset.univ.fold max ⊥ fun j : Fin 512 => k0_pay12 v0 kb (ix2 r j)) := by
  pointwise [k0_pay13]; rw [bits_bot]
theorem p19 : k0_pay19 v0 m kb (ix2 r 0) = max (m (ix2 r 0)) (Finset.univ.fold max ⊥ fun j : Fin 512 => k0_pay18 v0 kb (ix2 r j)) := by
  pointwise [k0_pay19]; rw [bits_bot]
theorem p16 : k0_pay16 v0 m x kb (ix2 r 0) = Ideal.exp (m (ix2 r 0) - k0_pay13 v0 m kb (ix2 r 0)) * x (ix2 r 0)
    + ∑ j : Fin 512, Ideal.exp (k0_pay12 v0 kb (ix2 r j) - k0_pay13 v0 m kb (ix2 r 0)) := by
  pointwise [k0_pay16, k0_pay14, k0_pay15]
theorem p22 : k0_pay22 v0 m x kb (ix2 r 0) = Ideal.exp (m (ix2 r 0) - k0_pay19 v0 m kb (ix2 r 0)) * x (ix2 r 0)
    + ∑ j : Fin 512, Ideal.exp (k0_pay18 v0 kb (ix2 r j) - k0_pay19 v0 m kb (ix2 r 0)) := by
  pointwise [k0_pay22, k0_pay20, k0_pay21]
theorem p17 (l : Fin 128) : k0_pay17 v0 m a kb vb (ix2 r l) = Ideal.exp (m (ix2 r 0) - k0_pay13 v0 m kb (ix2 r 0)) * a (ix2 r l)
    + ∑ j : Fin 512, Ideal.exp (k0_pay12 v0 kb (ix2 r j) - k0_pay13 v0 m kb (ix2 r 0)) * vb (ix2 j l) := by
  pointwise [k0_pay17, k0_pay14, k0_pay15]
theorem p23 (l : Fin 128) : k0_pay23 v0 m a kb vb (ix2 r l) = Ideal.exp (m (ix2 r 0) - k0_pay19 v0 m kb (ix2 r 0)) * a (ix2 r l)
    + ∑ j : Fin 512, Ideal.exp (k0_pay18 v0 kb (ix2 r j) - k0_pay19 v0 m kb (ix2 r 0)) * vb (ix2 j l) := by
  pointwise [k0_pay23, k0_pay20, k0_pay21]

theorem p36 (j : Fin 512) : k0_pay36 v0 kb (ix2 r j) = if j.val ≤ r.val then ∑ x : Fin 128, k0_pay3 v0 (ix2 r x) * kb (ix2 j x) else ⊥ := by
  pointwise [k0_pay36]; rw [mask_at, bits_bot, sel_if]
theorem p43 (j : Fin 512) : k0_pay43 (k0_pay4 v0) k0_pay5 kb (ix2 r j) = if j.val ≤ r.val then ∑ x : Fin 128, k0_pay4 v0 (ix2 r x) * kb (ix2 j x) else ⊥ := by
  pointwise [k0_pay43]; rw [mask_at, bits_bot, sel_if]
theorem p38 : k0_pay38 m (k0_pay37 v0 kb) (ix2 r 0) = max (m (ix2 r 0)) (Finset.univ.fold max ⊥ fun j : Fin 512 => k0_pay36 v0 kb (ix2 r j)) := by
  pointwise [k0_pay38, k0_pay37]; rw [bits_bot]
theorem p44 : k0_pay44 (k0_pay4 v0) k0_pay5 m kb (ix2 r 0) = max (m (ix2 r 0)) (Finset.univ.fold max ⊥ fun j : Fin 512 => k0_pay43 (k0_pay4 v0) k0_pay5 kb (ix2 r j)) := by
  pointwise [k0_pay44]; rw [bits_bot]
theorem p41 (s : FVec Ideal S512x512 .f32) (n : FVec Ideal S512x1 .f32) : k0_pay41 m x s n (ix2 r 0) = Ideal.exp (m (ix2 r 0) - k0_pay38 m n (ix2 r 0)) * x (ix2 r 0)
    + ∑ j : Fin 512, Ideal.exp (s (ix2 r j) - k0_pay38 m n (ix2 r 0)) := by
  pointwise [k0_pay41, k0_pay39, k0_pay40]
theorem p42 (s : FVec Ideal S512x512 .f32) (n : FVec Ideal S512x1 .f32) (l : Fin 128) : k0_pay42 m a vb s n (ix2 r l) = Ideal.exp (m (ix2 r 0) - k0_pay38 m n (ix2 r 0)) * a (ix2 r l)
    + ∑ j : Fin 512, Ideal.exp (s (ix2 r j) - k0_pay38 m n (ix2 r 0)) * vb (ix2 j l) := by
  pointwise [k0_pay42, k0_pay39, k0_pay40]
theorem p47 (q : Vec Ideal S512x128 .bf16) (w : IVec S512x512 1) : k0_pay47 q w m x kb (ix2 r 0) = Ideal.exp (m (ix2 r 0) - k0_pay44 q w m kb (ix2 r 0)) * x (ix2 r 0)
    + ∑ j : Fin 512, Ideal.exp (k0_pay43 q w kb (ix2 r j) - k0_pay44 q w m kb (ix2 r 0)) := by
  pointwise [k0_pay47, k0_pay45, k0_pay46]
theorem p48 (q : Vec Ideal S512x128 .bf16) (w : IVec S512x512 1) (l : Fin 128) : k0_pay48 q w m a kb vb (ix2 r l) = Ideal.exp (m (ix2 r 0) - k0_pay44 q w m kb (ix2 r 0)) * a (ix2 r l)
    + ∑ j : Fin 512, Ideal.exp (k0_pay43 q w kb (ix2 r j) - k0_pay44 q w m kb (ix2 r 0)) * vb (ix2 j l) := by
  pointwise [k0_pay48, k0_pay45, k0_pay46]
end

/-- One trip of the loop takes one block into the sums. -/
theorem Inv.trip {s : Car} (hs : Inv X b h qi k s) (hkq : k < qi) (hq : IsQ X b h qi v0) (hk : IsK X b h k kb) (hv : IsV X b h k vb) :
    Inv X b h qi (k + 1) (k0_pay13 v0 s.1 kb, k0_pay16 v0 s.1 s.2.1 kb, k0_pay17 v0 s.1 s.2.2.1 kb vb,
         k0_pay19 v0 s.2.2.2.1 kb, k0_pay22 v0 s.2.2.2.1 s.2.2.2.2.1 kb, k0_pay23 v0 s.2.2.2.1 s.2.2.2.2.2 kb vb) := by
  intro r
  dsimp only
  simp only [p16, p17, p22, p23]
  exact ⟨block_step X b h 0 (512 * qi + r.val) k (by omega) (hs r).1.1 (hs r).1.2
      (fun j => by rw [p12, dot0 hq hk, sm_before 0 hkq]) hv (p13 ..),
    block_step X b h 1 (512 * qi + r.val) k (by omega) (hs r).2.1 (hs r).2.2
      (fun j => by rw [p18, dot1 hq hk, sm_before 1 hkq]) hv (p19 ..)⟩

/-- The block on the diagonal and the quotients: what the kernel has before it combines the two components. -/
theorem Inv.last {s : Car} (hs : Inv X b h qi qi s) (hqi : qi < 16) (hq : IsQ X b h qi v0) (hk : IsK X b h qi kb) (hv : IsV X b h qi vb) (r : Fin 512) (l : Fin 128) :
    Ideal.div (k0_pay42 s.1 s.2.2.1 vb (k0_pay36 v0 kb) (k0_pay37 v0 kb) (ix2 r l)) (k0_pay41 s.1 s.2.1 (k0_pay36 v0 kb) (k0_pay37 v0 kb) (ix2 r 0))
        = ((tA X b h 0 (512 * qi + r.val) l.val 8192 / tL X b h 0 (512 * qi + r.val) 8192 : ℝ) : EReal)
      ∧ Ideal.div (k0_pay48 (k0_pay4 v0) k0_pay5 s.2.2.2.1 s.2.2.2.2.2 kb vb (ix2 r l)) (k0_pay47 (k0_pay4 v0) k0_pay5 s.2.2.2.1 s.2.2.2.2.1 kb (ix2 r 0))
        = ((tA X b h 1 (512 * qi + r.val) l.val 8192 / tL X b h 1 (512 * qi + r.val) 8192 : ℝ) : EReal) := by
  have e0 := block_step X b h 0 (512 * qi + r.val) qi (by omega) (hs r).1.1 (hs r).1.2
      (fun j => by rw [p36, dot0 hq hk, sm_diag 0]) hv (p38 v0 kb s.1 r)
  have e1 := block_step X b h 1 (512 * qi + r.val) qi (by omega) (hs r).2.1 (hs r).2.2
      (fun j => by rw [p43, dot1 hq hk, sm_diag 1]) hv (p44 v0 kb s.2.2.2.1 r)
  rw [p41, p42, p47, p48]
  have hn : 512 * qi + r.val < 512 * (qi + 1) := by omega
  have hN : 512 * (qi + 1) ≤ 8192 := by omega
  rw [← tA_all X b h 0 _ l.val _ _ hn hN, ← tL_all X b h 0 _ _ _ hn hN, ← tA_all X b h 1 _ l.val _ _ hn hN, ← tL_all X b h 1 _ _ _ hn hN]
  exact ⟨(e0.2 l).div e0.1 (tL_pos X b h 0 _ _ (by omega)), (e1.2 l).div e1.1 (tL_pos X b h 1 _ _ (by omega))⟩

end Cert.AttnVal
-- ==== Proof.AttnRef.lean ====
module

public import proofs.«01_k».proof.Proof.Gen.AttnRefIdeal.Read
public import proofs.«01_k».proof.Proof.AttnKer
public import proofs.«01_k».proof.Defs
public import proofs.«01_k».proof.Proof.Gen.Pre_finite
public import Idealize.ShloMosaic.Lib.ReduceAll
public import Idealize.ShloMosaic.Lib.ValueIdxRank1

@[expose] public section

set_option maxRecDepth 16384

noncomputable section

namespace Cert.AttnVal

open Idealize.ShloMosaic Cert.Softmax

/-- The weight of the second softmax map, of the four rows of `lam`. -/
def lamE (L : (⟨2, ![4, 64]⟩ : Shape).Idx → EReal) : EReal :=
  Ideal.exp (∑ d : Fin 64, L (ix2 0 d) * L (ix2 1 d)) - Ideal.exp (∑ d : Fin 64, L (ix2 2 d) * L (ix2 3 d))
    + Ideal.ofBits .f32 0x3EB60549#32

/-- The difference of the two softmax maps, applied to the values: row `r`, lane `l` of head `h` of batch `b`. -/
def dv (X : QKV) (lam : EReal) (b h r l : ℕ) : EReal :=
  ((tA X b h 0 r l 8192 / tL X b h 0 r 8192 : ℝ) : EReal) - lam * ((tA X b h 1 r l 8192 / tL X b h 1 r 8192 : ℝ) : EReal)

/-- A head's row normalized by its root mean square and scaled. -/
def rms (D : Fin 128 → EReal) (g : EReal) (l : Fin 128) : EReal :=
  D l * Ideal.rsqrt (Ideal.div (∑ x, D x * D x) (Ideal.ofBits .f32 0x43000000#32) + Ideal.ofBits .f32 0x358637BD#32) * g
    * Ideal.ofBits .f32 0x3F24FD5C#32

/-- The result of the attention at row `i`, lane `j`. -/
def outAt (X : QKV) (L : (⟨2, ![4, 64]⟩ : Shape).Idx → EReal) (G : (⟨1, ![128]⟩ : Shape).Idx → EReal) (i j : ℕ) : EReal :=
  rms (fun l => dv X (lamE L) (i / 8192) (j / 128) (i % 8192) l.val) (G (ix1 ⟨j % 128, Nat.mod_lt _ (by omega)⟩))
    ⟨j % 128, Nat.mod_lt _ (by omega)⟩

end Cert.AttnVal

namespace Cert.AttnVal.Ref

open Idealize.ShloMosaic Idealize.ShloMosaic.TcCoe Idealize.SL.Sem
open Cert.AttnRefIdeal Cert.AttnRefIdeal.Gen Cert.AttnRefIdeal.Read Cert.Softmax

variable (x0 : QKV)

theorem q_at (b : Fin 2) (h : Fin 8) (ci : Fin 2) (r : Fin 8192) (d : Fin 64) :
    val_main_v6 (F := Ideal) x0 (ix5 b h ci r d)
      = x0 (ix2 ⟨b.val * 8192 + r.val, by omega⟩ ⟨h.val * 128 + ci.val * 64 + d.val, by omega⟩) := by
  rw [val_main_v6_apply, val_main_v5_apply, val_main_v2_apply, val_main_v1_apply]
  have hb : b.val < 2 := b.isLt
  have hh : h.val < 8 := h.isLt
  have hr : r.val < 8192 := r.isLt
  have hc : ci.val < 2 := ci.isLt
  have hd : d.val < 64 := d.isLt
  show x0 _ = x0 _
  congr 1; funext a; apply Fin.ext
  match a with
  | ⟨0, _⟩ =>
    show _ = b.val * 8192 + r.val
    dsimp only [ix5_0, ix5_1, ix5_2, ix5_3, ix5_4]
    omega
  | ⟨1, _⟩ =>
    show _ = h.val * 128 + ci.val * 64 + d.val
    dsimp only [ix5_0, ix5_1, ix5_2, ix5_3, ix5_4]
    omega

theorem k_at (b : Fin 2) (h : Fin 8) (ci : Fin 2) (r : Fin 8192) (d : Fin 64) :
    val_main_v8 (F := Ideal) x0 (ix5 b h ci r d)
      = x0 (ix2 ⟨b.val * 8192 + r.val, by omega⟩ ⟨1024 + h.val * 128 + ci.val * 64 + d.val, by omega⟩) := by
  rw [val_main_v8_apply, val_main_v7_apply, val_main_v3_apply, val_main_v1_apply]
  have hb : b.val < 2 := b.isLt
  have hh : h.val < 8 := h.isLt
  have hr : r.val < 8192 := r.isLt
  have hc : ci.val < 2 := ci.isLt
  have hd : d.val < 64 := d.isLt
  show x0 _ = x0 _
  congr 1; funext a; apply Fin.ext
  match a with
  | ⟨0, _⟩ =>
    show _ = b.val * 8192 + r.val
    dsimp only [ix5_0, ix5_1, ix5_2, ix5_3, ix5_4]
    omega
  | ⟨1, _⟩ =>
    show _ = 1024 + h.val * 128 + ci.val * 64 + d.val
    dsimp only [ix5_0, ix5_1, ix5_2, ix5_3, ix5_4]
    omega

theorem v_at (b : Fin 2) (h : Fin 8) (r : Fin 8192) (l : Fin 128) :
    val_main_v10 (F := Ideal) x0 (ix4 b h r l)
      = x0 (ix2 ⟨b.val * 8192 + r.val, by omega⟩ ⟨2048 + h.val * 128 + l.val, by omega⟩) := by
  rw [val_main_v10_apply, val_main_v9_apply, val_main_v4_apply, val_main_v1_apply]
  have hb : b.val < 2 := b.isLt
  have hh : h.val < 8 := h.isLt
  have hr : r.val < 8192 := r.isLt
  have hl : l.val < 128 := l.isLt
  show x0 _ = x0 _
  congr 1; funext a; apply Fin.ext
  match a with
  | ⟨0, _⟩ =>
    show _ = b.val * 8192 + r.val
    dsimp only [ix4_0, ix4_1, ix4_2, ix4_3]
    omega
  | ⟨1, _⟩ =>
    show _ = 2048 + h.val * 128 + l.val
    dsimp only [ix4_0, ix4_1, ix4_2, ix4_3]
    omega

theorem max_at (b : Fin 2) (h : Fin 8) (ci : Fin 2) (r : Fin 8192) :
    val_main_v35 (F := Ideal) x0 (ix4 b h ci r)
      = Finset.univ.fold max ⊥ fun j : Fin 8192 => val_main_v34 (F := Ideal) x0 (ix5 b h ci r j) := by
  unfold val_main_v35
  generalize val_main_v34 (F := Ideal) x0 = y
  pointwise [val_main_cst_3]
  rw [bits_bot]

theorem score_at (hX : ∀ i, ∃ r : ℝ, x0 i = (r : EReal)) (b : Fin 2) (h : Fin 8) (ci : Fin 2) (r j : Fin 8192) :
    val_main_v34 (F := Ideal) x0 (ix5 b h ci r j) = sm x0 b.val h.val ci.val r.val j.val := by
  rw [val_main_v34_apply, val_main_call0_v1_apply, val_main_v33_apply, val_main_v31_apply, val_main_v29_apply, val_main_v27_apply,
    val_main_v32_apply, val_main_v30_apply, val_main_v27_apply, val_main_call0_v2_apply, val_main_call0_v0_apply, val_main_cst_2_apply,
    val_main_v28_apply]
  have el : ∀ k, lidx_main_v28 (ix5 b h ci r j) k = ix5 b h ci r k := fun k => funext fun a => by
    match a with
    | ⟨0, _⟩ => rfl
    | ⟨1, _⟩ => rfl
    | ⟨2, _⟩ => rfl
    | ⟨3, _⟩ => rfl
    | ⟨4, _⟩ => rfl
  have er : ∀ k, ridx_main_v28 (ix5 b h ci r j) k = ix5 b h ci j k := fun k => funext fun a => by
    match a with
    | ⟨0, _⟩ => rfl
    | ⟨1, _⟩ => rfl
    | ⟨2, _⟩ => rfl
    | ⟨3, _⟩ => rfl
    | ⟨4, _⟩ => rfl
  show Scalar.select (IntOp.cmpi .sle (BitVec.ofNat 32 j.val) (BitVec.ofNat 32 r.val)) _ (Ideal.ofBits .f32 4286578688#32) = _
  rw [le_words j.val r.val j.isLt r.isLt, sel_if, bits_bot]
  unfold sm
  congr 1
  unfold sc
  rw [coe_sum]
  refine Finset.sum_congr rfl fun k _ => ?_
  rw [el, er, q_at, k_at, xr_eq x0 hX, xr_eq x0 hX, ← EReal.coe_mul]

theorem weight_sum (b h ci r : ℕ) : ∑ j : Fin 8192, wt (sm x0 b h ci r j.val) = tL x0 b h ci r 8192 :=
  Fin.sum_univ_eq_sum_range (fun j => wg x0 b h ci r j) 8192

theorem exp_at (hX : ∀ i, ∃ r : ℝ, x0 i = (r : EReal)) (b : Fin 2) (h : Fin 8) (ci : Fin 2) (r j : Fin 8192) :
    val_main_v41 (F := Ideal) x0 (ix5 b h ci r j)
      = Ideal.exp (sm x0 b.val h.val ci.val r.val j.val
          - Finset.univ.fold max ⊥ fun j : Fin 8192 => sm x0 b.val h.val ci.val r.val j.val) := by
  rw [val_main_v41_apply, val_main_v40_apply, val_main_v39_apply, val_main_v38_apply, val_main_v37_apply, val_main_v36_apply,
    val_main_cst_4_apply, score_at x0 hX]
  have e : idx_main_v38 (idx_main_v39 (ix5 b h ci r j)) = ix4 b h ci r := funext fun a => by
    match a with
    | ⟨0, _⟩ => rfl
    | ⟨1, _⟩ => rfl
    | ⟨2, _⟩ => rfl
    | ⟨3, _⟩ => rfl
  rw [e, max_at]
  show Ideal.exp (_ - max (Ideal.ofBits .f32 4286578688#32) _) = _
  rw [bits_bot, bot_sup_eq]
  simp only [score_at x0 hX]

theorem prob_at (hX : ∀ i, ∃ r : ℝ, x0 i = (r : EReal)) (b : Fin 2) (h : Fin 8) (ci : Fin 2) (r j : Fin 8192) :
    val_main_v45 (F := Ideal) x0 (ix5 b h ci r j)
      = ((wg x0 b.val h.val ci.val r.val j.val / tL x0 b.val h.val ci.val r.val 8192 : ℝ) : EReal) := by
  rw [val_main_v45_apply, val_main_v44_apply, val_main_v43_apply, val_main_v42_apply, val_main_cst_5_apply]
  have e : ∀ k, idx_main_v42 (idx_main_v43 (idx_main_v44 (ix5 b h ci r j))) k = ix5 b h ci r k := fun k => funext fun a => by
    match a with
    | ⟨0, _⟩ => rfl
    | ⟨1, _⟩ => rfl
    | ⟨2, _⟩ => rfl
    | ⟨3, _⟩ => rfl
    | ⟨4, _⟩ => rfl
  simp only [e, exp_at x0 hX]
  show Ideal.div _ (Ideal.ofBits .f32 0x00000000#32 + _) = _
  rw [Ideal.ofBits_zero_f32, zero_add]
  have hL := tL_pos x0 b.val h.val ci.val r.val 8192 (by omega)
  rw [← weight_sum] at hL
  refine (softmax_at (fun j : Fin 8192 => sm x0 b.val h.val ci.val r.val j.val) (fun j => sm_fit x0 _ _ _ _ _) ⟨r, sc x0 b.val h.val ci.val r.val r.val, ?_⟩ hL rfl j).trans ?_
  · show sm x0 b.val h.val ci.val r.val r.val = _
    unfold sm; rw [if_pos le_rfl]
  · rw [weight_sum]; rfl

theorem probs0 (hX : ∀ i, ∃ r : ℝ, x0 i = (r : EReal)) (b : Fin 2) (h : Fin 8) (r j : Fin 8192) :
    val_main_v47 (F := Ideal) x0 (ix4 b h r j)
      = ((wg x0 b.val h.val 0 r.val j.val / tL x0 b.val h.val 0 r.val 8192 : ℝ) : EReal) := by
  rw [val_main_v47_apply, val_main_v46_apply]
  refine Eq.trans (congrArg _ ?_) (prob_at x0 hX b h 0 r j)
  have hb : b.val < 2 := b.isLt
  have hh : h.val < 8 := h.isLt
  have hr : r.val < 8192 := r.isLt
  have hj : j.val < 8192 := j.isLt
  funext a; apply Fin.ext
  match a with
  | ⟨0, _⟩ =>
    show _ = b.val
    dsimp only [ix4_0, ix4_1, ix4_2, ix4_3]
    omega
  | ⟨1, _⟩ =>
    show _ = h.val
    dsimp only [ix4_0, ix4_1, ix4_2, ix4_3]
    omega
  | ⟨2, _⟩ => rfl
  | ⟨3, _⟩ =>
    show _ = r.val
    dsimp only [ix4_0, ix4_1, ix4_2, ix4_3]
    omega
  | ⟨4, _⟩ =>
    show _ = j.val
    dsimp only [ix4_0, ix4_1, ix4_2, ix4_3]
    omega

theorem probs1 (hX : ∀ i, ∃ r : ℝ, x0 i = (r : EReal)) (b : Fin 2) (h : Fin 8) (r j : Fin 8192) :
    val_main_v49 (F := Ideal) x0 (ix4 b h r j)
      = ((wg x0 b.val h.val 1 r.val j.val / tL x0 b.val h.val 1 r.val 8192 : ℝ) : EReal) := by
  rw [val_main_v49_apply, val_main_v48_apply]
  refine Eq.trans (congrArg _ ?_) (prob_at x0 hX b h 1 r j)
  have hb : b.val < 2 := b.isLt
  have hh : h.val < 8 := h.isLt
  have hr : r.val < 8192 := r.isLt
  have hj : j.val < 8192 := j.isLt
  funext a; apply Fin.ext
  match a with
  | ⟨0, _⟩ =>
    show _ = b.val
    dsimp only [ix4_0, ix4_1, ix4_2, ix4_3]
    omega
  | ⟨1, _⟩ =>
    show _ = h.val
    dsimp only [ix4_0, ix4_1, ix4_2, ix4_3]
    omega
  | ⟨2, _⟩ => rfl
  | ⟨3, _⟩ =>
    show _ = r.val
    dsimp only [ix4_0, ix4_1, ix4_2, ix4_3]
    omega
  | ⟨4, _⟩ =>
    show _ = j.val
    dsimp only [ix4_0, ix4_1, ix4_2, ix4_3]
    omega

variable (x1 : (⟨2, ![4, 64]⟩ : Shape).Idx → EReal) (x2 : (⟨1, ![128]⟩ : Shape).Idx → EReal)

theorem lam_at (i : S_.Idx) : val_main_v26 (F := Ideal) x1 i = lamE x1 := by
  rw [val_main_v26_apply, val_main_v25_apply, val_main_v17_apply, val_main_v24_apply, val_main_v16_apply, val_main_v23_apply,
    val_main_cst_apply, val_main_cst_0_apply, val_main_cst_1_apply,
    ← Equiv.sum_comp (ValueIdx.idxEquiv1 (n := 64)).symm, ← Equiv.sum_comp (ValueIdx.idxEquiv1 (n := 64)).symm]
  show Ideal.exp (Ideal.ofBits .f32 0x00000000#32 + _) - Ideal.exp (Ideal.ofBits .f32 0x00000000#32 + _) + _ = _
  rw [Ideal.ofBits_zero_f32, zero_add, zero_add]
  unfold lamE
  have e0 : ∀ d : Fin 64, val_main_v15 (F := Ideal) x1 ((ValueIdx.idxEquiv1 (n := 64)).symm d) = x1 (ix2 0 d) * x1 (ix2 1 d) := fun d => by
    rw [val_main_v15_apply, val_main_v12_apply, val_main_v11_apply, val_main_v14_apply, val_main_v13_apply]
    show x1 _ * x1 _ = x1 _ * x1 _
    congr 2
    · funext a; apply Fin.ext
      match a with
      | ⟨0, _⟩ => rfl
      | ⟨1, _⟩ => exact Nat.mod_eq_of_lt d.isLt
    · funext a; apply Fin.ext
      match a with
      | ⟨0, _⟩ => rfl
      | ⟨1, _⟩ => exact Nat.mod_eq_of_lt d.isLt
  have e1 : ∀ d : Fin 64, val_main_v22 (F := Ideal) x1 ((ValueIdx.idxEquiv1 (n := 64)).symm d) = x1 (ix2 2 d) * x1 (ix2 3 d) := fun d => by
    rw [val_main_v22_apply, val_main_v19_apply, val_main_v18_apply, val_main_v21_apply, val_main_v20_apply]
    show x1 _ * x1 _ = x1 _ * x1 _
    congr 2
    · funext a; apply Fin.ext
      match a with
      | ⟨0, _⟩ => rfl
      | ⟨1, _⟩ => exact Nat.mod_eq_of_lt d.isLt
    · funext a; apply Fin.ext
      match a with
      | ⟨0, _⟩ => rfl
      | ⟨1, _⟩ => exact Nat.mod_eq_of_lt d.isLt
  simp only [e0, e1]
  rfl

end Cert.AttnVal.Ref
-- ==== Proof.AttnDiff.lean ====
module

public import proofs.«01_k».proof.Proof.AttnRef

@[expose] public section

set_option maxRecDepth 16384

noncomputable section

namespace Cert.AttnVal.Ref

open Idealize.ShloMosaic Idealize.ShloMosaic.TcCoe Idealize.SL.Sem
open Cert.AttnRefIdeal Cert.AttnRefIdeal.Gen Cert.AttnRefIdeal.Read Cert.Softmax

variable (x0 : QKV) (x1 : (⟨2, ![4, 64]⟩ : Shape).Idx → EReal) (x2 : (⟨1, ![128]⟩ : Shape).Idx → EReal)

theorem real_sum (w0 w1 v : ℕ → ℝ) (s0 s1 lam : ℝ) (n : ℕ) :
    ∑ k ∈ Finset.range n, (w0 k / s0 - lam * (w1 k / s1)) * v k
      = (∑ k ∈ Finset.range n, w0 k * v k) / s0 - lam * ((∑ k ∈ Finset.range n, w1 k * v k) / s1) := by
  induction n with
  | zero => simp
  | succ n ih =>
    rw [Finset.sum_range_succ, Finset.sum_range_succ, Finset.sum_range_succ, ih]
    ring

theorem real_diff (b h r l : ℕ) (s0 s1 lam : ℝ) (n : ℕ) :
    ∑ k : Fin n, (wg x0 b h 0 r k.val / s0 - lam * (wg x0 b h 1 r k.val / s1)) * xr x0 (b * 8192 + k.val) (2048 + h * 128 + l)
      = tA x0 b h 0 r l n / s0 - lam * (tA x0 b h 1 r l n / s1) := by
  unfold tA
  rw [← real_sum, ← Fin.sum_univ_eq_sum_range (fun k => (wg x0 b h 0 r k / s0 - lam * (wg x0 b h 1 r k / s1))
    * xr x0 (b * 8192 + k) (2048 + h * 128 + l)) n]

theorem term_at (hX : ∀ i, ∃ r : ℝ, x0 i = (r : EReal)) (lam : ℝ) (hlam : lamE x1 = (lam : EReal)) (b : Fin 2) (h : Fin 8) (r : Fin 8192)
    (l : Fin 128) (k : Fin 8192) :
    val_main_v52 (F := Ideal) x0 x1 (ix4 b h r k) * val_main_v10 (F := Ideal) x0 (ix4 b h k l)
      = (((wg x0 b.val h.val 0 r.val k.val / tL x0 b.val h.val 0 r.val 8192
          - lam * (wg x0 b.val h.val 1 r.val k.val / tL x0 b.val h.val 1 r.val 8192))
          * xr x0 (b.val * 8192 + k.val) (2048 + h.val * 128 + l.val) : ℝ) : EReal) := by
  rw [v_at, val_main_v52_apply, val_main_v51_apply, probs0 x0 hX, probs1 x0 hX, val_main_v50_apply, lam_at, hlam, xr_eq x0 hX]
  generalize wg x0 b.val h.val 0 r.val k.val / tL x0 b.val h.val 0 r.val 8192 = p0
  generalize wg x0 b.val h.val 1 r.val k.val / tL x0 b.val h.val 1 r.val 8192 = p1
  show ((p0 : EReal) - (lam : EReal) * (p1 : EReal)) * _ = _
  rw [← EReal.coe_mul, ← EReal.coe_sub, ← EReal.coe_mul]

theorem diff_sum (b h r l : ℕ) (lam : ℝ) (n : ℕ) :
    (∑ k : Fin n, (((wg x0 b h 0 r k.val / tL x0 b h 0 r n - lam * (wg x0 b h 1 r k.val / tL x0 b h 1 r n))
        * xr x0 (b * 8192 + k.val) (2048 + h * 128 + l) : ℝ) : EReal))
      = ((tA x0 b h 0 r l n / tL x0 b h 0 r n : ℝ) : EReal) - (lam : EReal) * ((tA x0 b h 1 r l n / tL x0 b h 1 r n : ℝ) : EReal) := by
  rw [← coe_sum, real_diff, ← EReal.coe_mul, ← EReal.coe_sub]

theorem dot_at (b : Fin 2) (h : Fin 8) (r : Fin 8192) (l : Fin 128) :
    val_main_v53 (F := Ideal) x0 x1 (ix4 b h r l)
      = ∑ k : Fin 8192, val_main_v52 (F := Ideal) x0 x1 (ix4 b h r k) * val_main_v10 (F := Ideal) x0 (ix4 b h k l) := by
  rw [val_main_v53_apply]
  refine Finset.sum_congr rfl fun k _ => ?_
  have el : lidx_main_v53 (ix4 b h r l) k = ix4 b h r k := funext fun a => by
    match a with
    | ⟨0, _⟩ => rfl
    | ⟨1, _⟩ => rfl
    | ⟨2, _⟩ => rfl
    | ⟨3, _⟩ => rfl
  have er : ridx_main_v53 (ix4 b h r l) k = ix4 b h k l := funext fun a => by
    match a with
    | ⟨0, _⟩ => rfl
    | ⟨1, _⟩ => rfl
    | ⟨2, _⟩ => rfl
    | ⟨3, _⟩ => rfl
  rw [el, er]

theorem diff_at (hX : ∀ i, ∃ r : ℝ, x0 i = (r : EReal)) (hL : ∃ r : ℝ, lamE x1 = (r : EReal)) (b : Fin 2) (h : Fin 8) (r : Fin 8192)
    (l : Fin 128) : val_main_v53 (F := Ideal) x0 x1 (ix4 b h r l) = dv x0 (lamE x1) b.val h.val r.val l.val := by
  obtain ⟨lam, hlam⟩ := hL
  have e := diff_sum x0 b.val h.val r.val l.val lam 8192
  unfold dv
  rw [dot_at, hlam, ← e]
  exact Finset.sum_congr rfl fun k _ => term_at x0 x1 hX lam hlam b h r l k

end Cert.AttnVal.Ref
-- ==== Proof.AttnNorm.lean ====
module

public import proofs.«01_k».proof.Proof.AttnDiff

@[expose] public section

set_option maxRecDepth 16384

noncomputable section

namespace Cert.AttnVal.Ref

open Idealize.ShloMosaic Idealize.ShloMosaic.TcCoe Idealize.SL.Sem
open Cert.AttnRefIdeal Cert.AttnRefIdeal.Gen Cert.AttnRefIdeal.Read Cert.Softmax

variable (x0 : QKV) (x1 : (⟨2, ![4, 64]⟩ : Shape).Idx → EReal) (x2 : (⟨1, ![128]⟩ : Shape).Idx → EReal)

theorem squares_at (D : Fin 128 → EReal) (b : Fin 2) (r : Fin 8192) (h : Fin 8)
    (e54 : ∀ l, val_main_v54 (F := Ideal) x0 x1 (ix4 b r h l) = D l) : val_main_v56 (F := Ideal) x0 x1 (ix3 b r h) = ∑ x, D x * D x := by
  rw [val_main_v56_apply, val_main_cst_6_apply, Ideal.ofBits_def, Ideal.ofBits_zero_f32, zero_add]
  refine Finset.sum_congr rfl fun k _ => ?_
  have e : idx_main_v56 (ix3 b r h) k = ix4 b r h k := funext fun a => by
    match a with
    | ⟨0, _⟩ => rfl
    | ⟨1, _⟩ => rfl
    | ⟨2, _⟩ => rfl
    | ⟨3, _⟩ => rfl
  rw [e, val_main_v55_apply, e54, Ideal.mulf_def]

theorem rms_at (D : Fin 128 → EReal) (b : Fin 2) (r : Fin 8192) (h : Fin 8) (l : Fin 128)
    (e54 : ∀ l, val_main_v54 (F := Ideal) x0 x1 (ix4 b r h l) = D l) :
    val_main_v69 (F := Ideal) x0 x1 x2 (ix4 b r h l) = rms D (x2 (ix1 l)) l := by
  have eg : idx_main_v65 (idx_main_v66 (ix4 b r h l)) = ix1 l := funext fun a => by
    match a with
    | ⟨0, _⟩ => rfl
  rw [val_main_v69_apply, val_main_v67_apply, val_main_v64_apply, e54]
  have e1 : val_main_v68 (F := Ideal) (ix4 b r h l) = Ideal.ofBits .f32 0x3F24FD5C#32 := by
    rw [val_main_v68_apply, val_main_cst_9_apply, Ideal.ofBits_def]
  have e2 : val_main_v66 (F := Ideal) x2 (ix4 b r h l) = x2 (ix1 l) := by
    rw [val_main_v66_apply, val_main_v65_apply, eg]
  have ei : idx_main_v57 (idx_main_v63 (ix4 b r h l)) = ix3 b r h := funext fun a => by
    match a with
    | ⟨0, _⟩ => rfl
    | ⟨1, _⟩ => rfl
    | ⟨2, _⟩ => rfl
  have e3 : val_main_v56 (F := Ideal) x0 x1 (idx_main_v57 (idx_main_v63 (ix4 b r h l))) = ∑ x, D x * D x := by
    rw [ei]
    exact squares_at x0 x1 D b r h e54
  have e4 : ∀ i, val_main_v60 (F := Ideal) i = Ideal.ofBits .f32 0x358637BD#32 := fun i => by
    rw [val_main_v60_apply, val_main_cst_8_apply, Ideal.ofBits_def]
  have e5 : ∀ i, val_main_v58 (F := Ideal) i = Ideal.ofBits .f32 0x43000000#32 := fun i => by
    rw [val_main_v58_apply, val_main_cst_7_apply, Ideal.ofBits_def]
  have e6 : val_main_v63 (F := Ideal) x0 x1 (ix4 b r h l)
      = Ideal.rsqrt (Ideal.div (∑ x, D x * D x) (Ideal.ofBits .f32 0x43000000#32) + Ideal.ofBits .f32 0x358637BD#32) := by
    rw [val_main_v63_apply, val_main_v62_apply, val_main_v61_apply, val_main_v59_apply, val_main_v57_apply, e3, e4, e5, Ideal.hostUnary_rsqrt_def,
      Ideal.addf_def, Ideal.hostDivf_def]
  rw [e1, e2, e6, Ideal.mulf_def, Ideal.mulf_def, Ideal.mulf_def]
  unfold rms
  rfl

theorem norm_at (hX : ∀ i, ∃ r : ℝ, x0 i = (r : EReal)) (hL : ∃ r : ℝ, lamE x1 = (r : EReal)) (b : Fin 2) (r : Fin 8192) (h : Fin 8)
    (l : Fin 128) : val_main_v69 (F := Ideal) x0 x1 x2 (ix4 b r h l)
      = rms (fun l => dv x0 (lamE x1) b.val h.val r.val l.val) (x2 (ix1 l)) l := by
  refine rms_at x0 x1 x2 (fun l => dv x0 (lamE x1) b.val h.val r.val l.val) b r h l fun l => ?_
  have e : idx_main_v54 (ix4 b r h l) = ix4 b h r l := funext fun a => by
    match a with
    | ⟨0, _⟩ => rfl
    | ⟨1, _⟩ => rfl
    | ⟨2, _⟩ => rfl
    | ⟨3, _⟩ => rfl
  rw [val_main_v54_apply, e, diff_at x0 x1 hX hL]

/-- The reference at row `i`, lane `j`. -/
theorem ref_at (hX : ∀ i, ∃ r : ℝ, x0 i = (r : EReal)) (hL : ∃ r : ℝ, lamE x1 = (r : EReal)) (i : Fin 16384) (j : Fin 1024) :
    val_main_v71 (F := Ideal) x0 x1 x2 (ix2 i j) = outAt x0 x1 x2 i.val j.val := by
  have hi : i.val < 16384 := i.isLt
  have hj : j.val < 1024 := j.isLt
  rw [val_main_v71_apply, val_main_v70_apply]
  have e : idx_main_v70 (ix2 i j) = ix4 (⟨i.val / 8192, by omega⟩ : Fin 2) (⟨i.val % 8192, by omega⟩ : Fin 8192)
      (⟨j.val / 128, by omega⟩ : Fin 8) (⟨j.val % 128, by omega⟩ : Fin 128) := by
    funext a; apply Fin.ext
    match a with
    | ⟨0, _⟩ =>
      show _ = i.val / 8192
      dsimp only [ix2_0, ix2_1]
      omega
    | ⟨1, _⟩ =>
      show _ = i.val % 8192
      dsimp only [ix2_0, ix2_1]
      omega
    | ⟨2, _⟩ =>
      show _ = j.val / 128
      dsimp only [ix2_0, ix2_1]
      omega
    | ⟨3, _⟩ =>
      show _ = j.val % 128
      dsimp only [ix2_0, ix2_1]
      omega
  rw [e, show ∀ x : EReal, FloatOps.truncf (F := Ideal) .bf16 bitsLt_bf16_f32 x = x from fun _ => rfl, norm_at x0 x1 x2 hX hL]
  unfold outAt
  rfl

/-- The largest float's bound: an entry whose absolute value is below infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by
    unfold Ideal.ofBits Ideal.ieee
    rfl
  rw [ht] at h
  have hlt : max x (-x) < ⊤ := by
    by_contra hn
    have : Ideal.cmp .olt (max x (-x)) ⊤ = BitVec.ofBool (decide (max x (-x) < ⊤)) := rfl
    rw [this, decide_eq_false hn] at h
    exact absurd h (by decide)
  induction x using EReal.rec with
  | bot => simp at hlt
  | top => simp at hlt
  | coe r => exact ⟨r, rfl⟩

/-- What the precondition says of the two arrays. -/
theorem finite_of (x0 : QKV) (hp : Cert.Pre_finite.fn (F := Ideal) x0 x1 x2 = fun _ => 1#1) :
    (∀ i, ∃ r : ℝ, x0 i = (r : EReal)) ∧ ∀ i, ∃ r : ℝ, x1 i = (r : EReal) := by
  have h := congrFun hp (fun a => a.elim0)
  obtain ⟨h0, h1⟩ := IntOp.andi_eq_one.1 h
  haveI : Subsingleton Cert.Pre_finite.S_.Idx := ⟨fun a b => funext fun i => i.elim0⟩
  exact ⟨fun i => real_of_lt _ (Host.reduce_andi_all _ _ _ _ _ h0 i), fun i => real_of_lt _ (Host.reduce_andi_all _ _ _ _ _ h1 i)⟩

theorem lam_real (h1 : ∀ i, ∃ r : ℝ, x1 i = (r : EReal)) : ∃ r : ℝ, lamE x1 = (r : EReal) := by
  choose f hf using h1
  have hc : ∃ r : ℝ, Ideal.ofBits .f32 0x3EB60549#32 = (r : EReal) := ⟨_, by unfold Ideal.ofBits Ideal.ieee; rfl⟩
  obtain ⟨r, hr⟩ := hc
  unfold lamE
  simp only [hf, ← EReal.coe_mul, ← coe_sum, hr]
  exact ⟨Real.exp _ - Real.exp _ + r, rfl⟩

end Cert.AttnVal.Ref
-- ==== Proof.AttnVal.lean ====
module

public import proofs.«01_k».proof.Proof.AttnNorm
public import proofs.«01_k».proof.Proof.Gen.AttnRefIdeal.Run
public import Idealize.ShloMosaic.Lib.Quiescent
public import Idealize.ShloMosaic.Lib.Pipeline.ValueKit.Tiles

@[expose] public section

set_option maxRecDepth 16384

noncomputable section

namespace Cert.AttnVal

open Idealize.ShloMosaic Idealize.ShloMosaic.TcCoe Idealize.SL.Sem
open Idealize.ShloMosaic.Pipeline (Dat)
open Cert.AttnIdeal Cert.AttnIdeal.Gen Cert.Softmax

theorem lam_read (x : Vec Ideal S4x64 .f32) :
    k0_pay49 x (ix2 0 0) + Ideal.ofBits .f32 0x3EB60549#32 = lamE x := by
  unfold lamE
  congr 1
  pointwise [k0_pay49]

theorem out_read (v45 : FVec Ideal S512x1 .f32) (v50 : FVec Ideal S512x128 .f32) (v65 : FVec Ideal S512x1 .f32) (v70 : FVec Ideal S512x128 .f32)
    (v84 : FVec Ideal S1x1 .f32) (v94 : Vec Ideal S1x128 .f32) (D : Fin 128 → EReal) (r : Fin 512) (l : Fin 128)
    (hD : ∀ x, Ideal.div (v50 (ix2 r x)) (v45 (ix2 r 0)) - (v84 (ix2 0 0) + Ideal.ofBits .f32 0x3EB60549#32) * Ideal.div (v70 (ix2 r x)) (v65 (ix2 r 0)) = D x) :
    k0_pay1 v45 v50 v65 v70 v84 v94 (ix2 r l) = rms D (v94 (ix2 0 l)) l := by
  unfold rms
  simp only [← hD]
  pointwise [k0_pay1]

theorem blkT_at (i : grid0.Coords) (k : Fin (k0_t1_loop i).trips) (x : Vec Ideal S8192x128 .bf16) (j : Fin 512) (l : Fin 128)
    (hj : 512 * k.val + j.val < 8192) : blkT i k x (ix2 j l) = x (ix2 ⟨512 * k.val + j.val, hj⟩ l) := by
  refine View.ld_unit_apply_of x _ _ _ _ (ix2 ⟨512 * k.val + j.val, hj⟩ l) fun a => ?_
  match a with
  | ⟨0, _⟩ => show 512 * k.val + j.val = k0_off1 i k 0 + j.val; rw [congrFun (k0_off1_eq i k) 0]; rfl
  | ⟨1, _⟩ => show l.val = k0_off1 i k 1 + l.val; rw [congrFun (k0_off1_eq i k) 1]; exact (Nat.zero_add _).symm

theorem blkD_at (i : grid0.Coords) (x : Vec Ideal S8192x128 .bf16) (j : Fin 512) (l : Fin 128)
    (hj : 512 * (i 2).val + j.val < 8192) : blkD i x (ix2 j l) = x (ix2 ⟨512 * (i 2).val + j.val, hj⟩ l) := by
  refine View.ld_unit_apply_of x _ _ _ _ (ix2 ⟨512 * (i 2).val + j.val, hj⟩ l) fun a => ?_
  match a with
  | ⟨0, _⟩ => show 512 * (i 2).val + j.val = k0_off3 i 0 + j.val; rw [congrFun (k0_off3_eq i) 0]; rfl
  | ⟨1, _⟩ => show l.val = k0_off3 i 1 + l.val; rw [congrFun (k0_off3_eq i) 1]; exact (Nat.zero_add _).symm

section
variable (c : Dev nD) (i : grid0.Coords) (a3 : Memref sig .tc .vmem S4x64 .f32) (h3 : a3.IsWhole) (a4 : Memref sig .tc .vmem S1x128 .f32) (h4 : a4.IsWhole) (a5 : Memref sig .tc .vmem S512x128 .bf16) (h5 : a5.IsWhole) (a6 : Memref sig .tc .vmem S8192x128 .bf16) (h6 : a6.IsWhole) (a7 : Memref sig .tc .vmem S8192x128 .bf16) (h7 : a7.IsWhole) (a8 : Memref sig .tc .vmem S512x128 .bf16) (h8 : a8.IsWhole)
variable (X : QKV) (b h : ℕ) (x2 : Vec Ideal S512x128 .bf16) (x3 x4 : Vec Ideal S8192x128 .bf16)

/-- The carried values before trip `n` are the running sums of the first `n` blocks. -/
theorem inv_at (hq : IsQ X b h (i 2).val x2)
    (hk : ∀ (j : Fin 8192) (l : Fin 128), x3 (ix2 j l) = (xr X (b * 8192 + j.val) (1024 + h * 128 + l.val) : EReal))
    (hv : ∀ (j : Fin 8192) (l : Fin 128), x4 (ix2 j l) = (xr X (b * 8192 + j.val) (2048 + h * 128 + l.val) : EReal)) (n : ℕ) (hn : n ≤ (i 2).val) :
    Inv X b h (i 2).val n (stK c i a3 h3 a4 h4 a5 h5 a6 h6 a7 h7 a8 h8 x2 x3 x4 n) := by
  have hi : (i 2).val < 16 := (i 2).isLt
  induction n with
  | zero =>
    unfold stK
    rw [st_k0_t1_zero]
    exact Inv.zero
  | succ n ih =>
    have hs := ih (by omega)
    have ht : n < (k0_t1_loop i).trips := by rw [trips1]; omega
    have e := st_k0_t1_succ (F := Ideal) Variants.none c none i a3 h3 a4 h4 a5 h5 a6 h6 a7 h7 a8 h8 x2 (h6.unread x3) (h7.unread x4) (k0_pay6, k0_pay7, k0_pay8, k0_pay9, k0_pay10, k0_pay11) ⟨n, ht⟩
    unfold stK
    refine (show _ = _ from e) ▸ ?_
    rw [trip_eq]
    refine Inv.trip hs (by omega) hq (fun j l => ?_) (fun j l => ?_)
    · rw [blkT_at i ⟨n, ht⟩ x3 j l (by show 512 * n + j.val < 8192; omega), hk]
    · rw [blkT_at i ⟨n, ht⟩ x4 j l (by show 512 * n + j.val < 8192; omega), hv]

/-- The body's output block. -/
theorem body_at (hq : IsQ X b h (i 2).val x2)
    (hk : ∀ (j : Fin 8192) (l : Fin 128), x3 (ix2 j l) = (xr X (b * 8192 + j.val) (1024 + h * 128 + l.val) : EReal))
    (hv : ∀ (j : Fin 8192) (l : Fin 128), x4 (ix2 j l) = (xr X (b * 8192 + j.val) (2048 + h * 128 + l.val) : EReal))
    (x0 : Vec Ideal S4x64 .f32) (x1 : Vec Ideal S1x128 .f32) (r : Fin 512) (l : Fin 128) :
    out0_A_5 (F := Ideal) c i a3 h3 a4 h4 a5 h5 a6 h6 a7 h7 a8 h8 x0 x1 x2 x3 x4 (ix2 r l)
      = rms (fun l => dv X (lamE x0) b h (512 * (i 2).val + r.val) l.val) (x1 (ix2 0 l)) l := by
  have hi : (i 2).val < 16 := (i 2).isLt
  rw [out_eq c i a3 h3 a4 h4 a5 h5 a6 h6 a7 h7 a8 h8 x0 x1 x2 x3 x4 _ rfl]
  have hs := inv_at c i a3 h3 a4 h4 a5 h5 a6 h6 a7 h7 a8 h8 X b h x2 x3 x4 hq hk hv (i 2).val le_rfl
  generalize stK c i a3 h3 a4 h4 a5 h5 a6 h6 a7 h7 a8 h8 x2 x3 x4 (i 2).val = s at hs
  refine out_read _ _ _ _ _ _ (fun l => dv X (lamE x0) b h (512 * (i 2).val + r.val) l.val) r l fun x => ?_
  have e := Inv.last hs hi hq (kb := blkD i x3) (vb := blkD i x4)
    (fun j l => by rw [blkD_at i x3 j l (by omega), hk]) (fun j l => by rw [blkD_at i x4 j l (by omega), hv]) r x
  rw [e.1, e.2, lam_read]
  rfl
end

variable (m : (ℓ : Loc nD τ sig) → Buf (Elt Ideal) ℓ)

/-- Where the windows stand at a point of the grid. -/
theorem at_point : ∀ t : Fin cfg0.N, (win0_0.index t 0 = 0 ∧ win0_0.index t 1 = 0) ∧ (win0_1.index t 0 = 0 ∧ win0_1.index t 1 = 0)
    ∧ (win0_2.index t 0 = t.val / 128 * 16 + t.val % 16 ∧ win0_2.index t 1 = t.val / 16 % 8)
    ∧ (win0_3.index t 0 = t.val / 128 ∧ win0_3.index t 1 = 8 + t.val / 16 % 8)
    ∧ (win0_4.index t 0 = t.val / 128 ∧ win0_4.index t 1 = 16 + t.val / 16 % 8)
    ∧ (win0_5.index t 0 = t.val / 128 * 16 + t.val % 16 ∧ win0_5.index t 1 = t.val / 16 % 8)
    ∧ (grid0.coords t 2).val = t.val % 16 :=
  (by decide +kernel : ∀ t : Fin grid0.N, (win0_0.index t 0 = 0 ∧ win0_0.index t 1 = 0) ∧ (win0_1.index t 0 = 0 ∧ win0_1.index t 1 = 0)
    ∧ (win0_2.index t 0 = t.val / 128 * 16 + t.val % 16 ∧ win0_2.index t 1 = t.val / 16 % 8)
    ∧ (win0_3.index t 0 = t.val / 128 ∧ win0_3.index t 1 = 8 + t.val / 16 % 8)
    ∧ (win0_4.index t 0 = t.val / 128 ∧ win0_4.index t 1 = 16 + t.val / 16 % 8)
    ∧ (win0_5.index t 0 = t.val / 128 * 16 + t.val % 16 ∧ win0_5.index t 1 = t.val / 16 % 8)
    ∧ (grid0.coords t 2).val = t.val % 16)

/-- The queries, keys and values, the four rows of `lam`, and the gain of the norm. -/
abbrev aX (c : Dev nD) : QKV := m ((c : Thread nD τ).loc main_arg0)
abbrev aL (c : Dev nD) : (⟨2, ![4, 64]⟩ : Shape).Idx → EReal := m ((c : Thread nD τ).loc main_arg1)
abbrev aG (c : Dev nD) : (⟨1, ![128]⟩ : Shape).Idx → EReal := m ((c : Thread nD τ).loc main_arg2)

theorem gain_at (c : Dev nD) (l : Fin 128) : V m c main_v0 (ix2 0 l) = aG m c (ix1 l) := by
  have e : V m c main_v0 = shapeCast _ (m ((c : Thread nD τ).loc main_arg2)) shapeCasts_S128_S1x128 := by
    unfold V hostOps0
    after_results
    rfl
  rw [e]
  exact shapeCast_apply _ shapeCasts_S128_S1x128 (ix2 0 l) (ix1 l) (by rw [Shape.rowMajor_val_two, Shape.rowMajor_val_one]; show l.val = 0 * 128 + l.val; omega)

theorem blk0 (c : Dev nD) (t : Fin cfg0.N) : iblk m c 0 t = aL m c := by
  obtain ⟨⟨h0, h1⟩, -⟩ := at_point t
  show _ = m ((c : Thread nD τ).loc main_arg1)
  rw [← V_main_arg1 m c]
  unfold iblk
  funext j
  rw [View.read_apply]
  show V m c main_arg1 _ = V m c main_arg1 _
  congr 1; funext a; apply Fin.ext
  match a with
  | ⟨0, _⟩ => show win0_0.index t 0 * 4 + 1 * (j 0).val = (j 0).val; rw [h0]; omega
  | ⟨1, _⟩ => show win0_0.index t 1 * 64 + 1 * (j 1).val = (j 1).val; rw [h1]; omega

theorem blk1 (c : Dev nD) (t : Fin cfg0.N) (l : Fin 128) : iblk m c 1 t (ix2 0 l) = aG m c (ix1 l) := by
  obtain ⟨-, ⟨h0, h1⟩, -⟩ := at_point t
  rw [← gain_at m c l]
  unfold iblk
  rw [View.read_apply]
  show V m c main_v0 _ = V m c main_v0 _
  congr 1; funext a; apply Fin.ext
  match a with
  | ⟨0, _⟩ => show win0_1.index t 0 * 1 + 1 * 0 = 0; rw [h0]
  | ⟨1, _⟩ => show win0_1.index t 1 * 128 + 1 * l.val = l.val; rw [h1]; omega

theorem blk2 (c : Dev nD) (t : Fin cfg0.N) (r : Fin 512) (l : Fin 128) (hr : t.val / 128 * 8192 + (512 * (t.val % 16) + r.val) < 16384)
    (hl : t.val / 16 % 8 * 128 + l.val < 3072) :
    iblk m c 2 t (ix2 r l) = aX m c (ix2 ⟨t.val / 128 * 8192 + (512 * (t.val % 16) + r.val), hr⟩ ⟨t.val / 16 % 8 * 128 + l.val, hl⟩) := by
  obtain ⟨-, -, ⟨h0, h1⟩, -⟩ := at_point t
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_2.index t 0 * 512 + 1 * r.val = t.val / 128 * 8192 + (512 * (t.val % 16) + r.val); rw [h0]; omega
  | ⟨1, _⟩ => show win0_2.index t 1 * 128 + 1 * l.val = t.val / 16 % 8 * 128 + l.val; rw [h1]; omega

theorem blk3 (c : Dev nD) (t : Fin cfg0.N) (r : Fin 8192) (l : Fin 128) (hr : t.val / 128 * 8192 + r.val < 16384)
    (hl : 1024 + t.val / 16 % 8 * 128 + l.val < 3072) :
    iblk m c 3 t (ix2 r l) = aX m c (ix2 ⟨t.val / 128 * 8192 + r.val, hr⟩ ⟨1024 + t.val / 16 % 8 * 128 + l.val, hl⟩) := by
  obtain ⟨-, -, -, ⟨h0, h1⟩, -⟩ := at_point t
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_3.index t 0 * 8192 + 1 * r.val = t.val / 128 * 8192 + r.val; rw [h0]; omega
  | ⟨1, _⟩ => show win0_3.index t 1 * 128 + 1 * l.val = 1024 + t.val / 16 % 8 * 128 + l.val; rw [h1]; omega

theorem blk4 (c : Dev nD) (t : Fin cfg0.N) (r : Fin 8192) (l : Fin 128) (hr : t.val / 128 * 8192 + r.val < 16384)
    (hl : 2048 + t.val / 16 % 8 * 128 + l.val < 3072) :
    iblk m c 4 t (ix2 r l) = aX m c (ix2 ⟨t.val / 128 * 8192 + r.val, hr⟩ ⟨2048 + t.val / 16 % 8 * 128 + l.val, hl⟩) := by
  obtain ⟨-, -, -, -, ⟨h0, h1⟩, -⟩ := at_point t
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_4.index t 0 * 8192 + 1 * r.val = t.val / 128 * 8192 + r.val; rw [h0]; omega
  | ⟨1, _⟩ => show win0_4.index t 1 * 128 + 1 * l.val = 2048 + t.val / 16 % 8 * 128 + l.val; rw [h1]; omega

/-- The array the kernel leaves. -/
def goal (c : Dev nD) : S16384x1024.Idx → EReal := fun i => outAt (aX m c) (aL m c) (aG m c) (i 0).val (i 1).val

theorem goal_at (c : Dev nD) (i : Fin 16384) (j : Fin 1024) : goal m c (ix2 i j) = outAt (aX m c) (aL m c) (aG m c) i.val j.val := rfl

theorem out_block (X : QKV) (L : (⟨2, ![4, 64]⟩ : Shape).Idx → EReal) (G : (⟨1, ![128]⟩ : Shape).Idx → EReal) (b h q : ℕ) (hq : q < 16)
    (r : Fin 512) (l : Fin 128) :
    outAt X L G (b * 8192 + (512 * q + r.val)) (h * 128 + l.val)
      = rms (fun l => dv X (lamE L) b h (512 * q + r.val) l.val) (G (ix1 l)) l := by
  unfold outAt
  have hr : r.val < 512 := r.isLt
  have hl : l.val < 128 := l.isLt
  have a0 : (b * 8192 + (512 * q + r.val)) / 8192 = b := by omega
  have a1 : (b * 8192 + (512 * q + r.val)) % 8192 = 512 * q + r.val := by omega
  have a2 : (h * 128 + l.val) / 128 = h := by omega
  have a3 : (⟨(h * 128 + l.val) % 128, Nat.mod_lt _ (by omega)⟩ : Fin 128) = l := Fin.ext (by show (h * 128 + l.val) % 128 = l.val; omega)
  rw [a0, a1, a2, a3]

theorem cut_at (t : Fin cfg0.N) (x : Vec Ideal S512x128 .bf16) (r : Fin 512) (l : Fin 128) :
    (cfg0.win 5).cut (grid0.coords t) x (ix2 r l) = x (ix2 r l) := rfl

theorem point_at (hX : ∀ c i, ∃ r : ℝ, aX m c i = (r : EReal)) (c : Dev nD) (t : Fin cfg0.N) (r : Fin 512) (l : Fin 128) :
    out0_A_5 (F := Ideal) c (grid0.coords t) (ms0_0 t) (hs0_0 t) (ms0_1 t) (hs0_1 t) (ms0_2 t) (hs0_2 t) (ms0_3 t) (hs0_3 t) (ms0_4 t) (hs0_4 t)
        (ms0_5 t) (hs0_5 t) (iblk m c 0 t) (iblk m c 1 t) (iblk m c 2 t) (iblk m c 3 t) (iblk m c 4 t) (ix2 r l)
      = outAt (aX m c) (aL m c) (aG m c) (t.val / 128 * 8192 + (512 * (t.val % 16) + r.val)) (t.val / 16 % 8 * 128 + l.val) := by
  have hN : cfg0.N = 256 := N_0
  have ht := t.isLt
  obtain ⟨-, -, -, -, -, -, h2⟩ := at_point t
  rw [out_block _ _ _ _ _ _ (by omega), ← blk0 m c t, ← blk1 m c t, ← h2]
  refine body_at c (grid0.coords t) (ms0_0 t) (hs0_0 t) (ms0_1 t) (hs0_1 t) (ms0_2 t) (hs0_2 t) (ms0_3 t) (hs0_3 t) (ms0_4 t) (hs0_4 t)
    (ms0_5 t) (hs0_5 t) (aX m c) (t.val / 128) (t.val / 16 % 8) (iblk m c 2 t) (iblk m c 3 t) (iblk m c 4 t) ?_ ?_ ?_
    (iblk m c 0 t) (iblk m c 1 t) r l
  · intro r l
    rw [h2, blk2 m c t r l (by omega) (by omega), xr_eq _ (hX c)]
  · intro r l
    rw [blk3 m c t r l (by omega) (by omega), xr_eq _ (hX c)]
  · intro r l
    rw [blk4 m c t r l (by omega) (by omega), xr_eq _ (hX c)]

theorem emb_at (t : Fin cfg0.N) (r : Fin 512) (l : Fin 128) (h0 : t.val / 128 * 8192 + (512 * (t.val % 16) + r.val) < 16384)
    (h1 : t.val / 16 % 8 * 128 + l.val < 1024) :
    (win0_5.blk t).view.emb (ix2 r l) = ix2 (⟨t.val / 128 * 8192 + (512 * (t.val % 16) + r.val), h0⟩ : Fin 16384)
      (⟨t.val / 16 % 8 * 128 + l.val, h1⟩ : Fin 1024) := by
  obtain ⟨-, -, -, -, -, ⟨e0, e1⟩, -⟩ := at_point t
  funext a; apply Fin.ext
  match a with
  | ⟨0, _⟩ => show win0_5.index t 0 * 512 + 1 * r.val = t.val / 128 * 8192 + (512 * (t.val % 16) + r.val); rw [e0]; omega
  | ⟨1, _⟩ => show win0_5.index t 1 * 128 + 1 * l.val = t.val / 16 % 8 * 128 + l.val; rw [e1]; omega

theorem flushed_eq (hX : ∀ c i, ∃ r : ℝ, aX m c i = (r : EReal)) (c : Dev nD) (t : Fin cfg0.N) :
    (dats m 0 c).flushed 5 t = (win0_5.blk t).view.read (Elt Ideal) (goal m c) := by
  have hN : cfg0.N = 256 := N_0
  have ht := t.isLt
  funext j
  idx_vars j
  have hj0 : j0.val < 512 := j0.isLt
  have hj1 : j1.val < 128 := j1.isLt
  rw [Value.flushed5_A, View.read_apply]
  refine (cut_at t _ j0 j1).trans ((point_at m hX c t j0 j1).trans ?_)
  show _ = goal m c ((win0_5.blk t).view.emb (ix2 j0 j1))
  rw [emb_at t j0 j1 (by omega) (by omega), goal_at]

theorem mem_blk (t : Fin cfg0.N) (i : S16384x1024.Idx) : i ∈ ((cfg0.win 5).blk t).view.set ↔
    ∀ a : Fin 2, win0_5.index t a * win0_5.size a ≤ (i a : Nat) ∧ (i a : Nat) < win0_5.index t a * win0_5.size a + win0_5.xsize (grid0.coords t) a := by
  show i ∈ ((View.whole main_v1).slice (win0_5.rect t)).set ↔ _
  rw [View.set_slice_whole, Rect.mem_set_unit]
  rfl

theorem cover (i : S16384x1024.Idx) : ∃ t : Fin cfg0.N, (cfg0.win 5).flush t = true ∧ i ∈ ((cfg0.win 5).blk t).view.set := by
  have hN : cfg0.N = 256 := N_0
  have hi0 : (i 0).val < 16384 := (i 0).isLt
  have hi1 : (i 1).val < 1024 := (i 1).isLt
  have ht : (i 0).val / 8192 * 128 + (i 1).val / 128 * 16 + (i 0).val % 8192 / 512 < cfg0.N := by omega
  refine ⟨⟨_, ht⟩, flush0_5 _, ?_⟩
  obtain ⟨-, -, -, -, -, ⟨h0, h1⟩, -⟩ := at_point ⟨_, ht⟩
  rw [mem_blk]
  intro a
  match a with
  | ⟨0, _⟩ =>
    show win0_5.index _ 0 * 512 ≤ (i 0 : Nat) ∧ (i 0 : Nat) < win0_5.index _ 0 * 512 + 512
    rw [h0]; dsimp only; omega
  | ⟨1, _⟩ =>
    show win0_5.index _ 1 * 128 ≤ (i 1 : Nat) ∧ (i 1 : Nat) < win0_5.index _ 1 * 128 + 128
    rw [h1]; dsimp only; omega

theorem result (hX : ∀ c i, ∃ r : ℝ, aX m c i = (r : EReal)) (c : Dev nD) : (dats m 0 c).arrAt 5 cfg0.N = goal m c :=
  (dats m 0 c).arrAt_eq_of_cover 5 (goal m c) (fun t _ => flushed_eq m hX c t) cover

theorem algebraic : Cert.algebraic_AttnIdeal_AttnRefIdeal_pre_finite := by
  intro m ρ m' ρ' hpre hagree
  have hfin := fun c => Ref.finite_of (aL m c) (aG m c) (aX m c) (hpre c)
  have hX : ∀ c i, ∃ r : ℝ, aX m c i = (r : EReal) := fun c => (hfin c).1
  refine ⟨fun c => goal m c, ?_, ?_⟩
  · exact (θ_run Cert.AttnIdeal.defs _ _).mono (fun _ h c => ⟨(h c).1.trans (result m hX c), (h c).2⟩) (Cert.AttnIdeal.Value.run_blocks (F := Ideal) m ρ)
  · refine (θ_run Cert.AttnRefIdeal.defs _ _).mono (fun _ h c => ⟨(h c).1.trans ?_, (h c).2⟩) (Cert.AttnRefIdeal.Value.run (F := Ideal) m' ρ')
    rw [Cert.AttnRefIdeal.Read.val_main_v71_eq, (hagree c).1, (hagree c).2.1, (hagree c).2.2]
    funext j
    idx_vars j
    exact Ref.ref_at (aX m c) (aL m c) (aG m c) (hX c) (Ref.lam_real (aL m c) (hfin c).2) j0 j1

end Cert.AttnVal
-- ==== Proof.Layer.lean ====
/-
  The mathematics the layers share: a row normalized by its root mean square and scaled, and the perceptron
  applied to a row.
-/
module

public import Idealize.ShloMosaic.PureOps.Ideal
public import Idealize.ShloMosaic.Lib.ValueIdx
public import Idealize.ShloMosaic.Lib.Pointwise

@[expose] public section

noncomputable section

namespace Cert.Layer

open Idealize.ShloMosaic

/-- A row normalized by its root mean square and scaled: its entry `l`. -/
def nrm (D : Fin 1024 → EReal) (g : EReal) (l : Fin 1024) : EReal :=
  D l * Ideal.rsqrt (Ideal.div (∑ x, D x * D x) (Ideal.ofBits .f32 0x44800000#32) + Ideal.ofBits .f32 0x358637BD#32) * g

/-- The square of the positive part. -/
def act (a : EReal) : EReal := max a (Ideal.ofBits .f32 0x00000000#32) * max a (Ideal.ofBits .f32 0x00000000#32)

/-- Row `i` of an array of 1024 columns. -/
abbrev rowOf (X : (⟨2, ![16384, 1024]⟩ : Shape).Idx → EReal) (i : Fin 16384) : Fin 1024 → EReal := fun l => X (ix2 i l)

/-- A row normalized, times column `f` of a matrix of `n` columns. -/
def dotN {n : ℕ} (D : Fin 1024 → EReal) (G : (⟨1, ![1024]⟩ : Shape).Idx → EReal) (U : (⟨2, ![1024, n]⟩ : Shape).Idx → EReal) (f : Fin n) : EReal :=
  ∑ k : Fin 1024, nrm D (G (ix1 k)) k * U (ix2 k f)

/-- The term of the second product at the hidden unit `f`. -/
def term (D : Fin 1024 → EReal) (G : (⟨1, ![1024]⟩ : Shape).Idx → EReal) (U : (⟨2, ![1024, 4096]⟩ : Shape).Idx → EReal)
    (W : (⟨2, ![4096, 1024]⟩ : Shape).Idx → EReal) (j : Fin 1024) (f : ℕ) : EReal :=
  act (dotN D G U ⟨f % 4096, Nat.mod_lt _ (by omega)⟩) * W (ix2 ⟨f % 4096, Nat.mod_lt _ (by omega)⟩ j)

theorem term_fin (D : Fin 1024 → EReal) (G : (⟨1, ![1024]⟩ : Shape).Idx → EReal) (U : (⟨2, ![1024, 4096]⟩ : Shape).Idx → EReal)
    (W : (⟨2, ![4096, 1024]⟩ : Shape).Idx → EReal) (j : Fin 1024) (f : Fin 4096) :
    term D G U W j f.val = act (dotN D G U f) * W (ix2 f j) := by
  have e : (⟨f.val % 4096, Nat.mod_lt _ (by omega)⟩ : Fin 4096) = f := Fin.ext (Nat.mod_eq_of_lt f.isLt)
  unfold term
  rw [e]

/-- The first `n` terms of the second product. -/
def part (D : Fin 1024 → EReal) (G : (⟨1, ![1024]⟩ : Shape).Idx → EReal) (U : (⟨2, ![1024, 4096]⟩ : Shape).Idx → EReal)
    (W : (⟨2, ![4096, 1024]⟩ : Shape).Idx → EReal) (j : Fin 1024) (n : ℕ) : EReal :=
  ∑ f ∈ Finset.range n, term D G U W j f

theorem part_zero (D : Fin 1024 → EReal) (G : (⟨1, ![1024]⟩ : Shape).Idx → EReal) (U : (⟨2, ![1024, 4096]⟩ : Shape).Idx → EReal)
    (W : (⟨2, ![4096, 1024]⟩ : Shape).Idx → EReal) (j : Fin 1024) : part D G U W j 0 = 0 := by
  unfold part
  rw [Finset.range_zero, Finset.sum_empty]

/-- One block of 1024 hidden units more. -/
theorem part_add (D : Fin 1024 → EReal) (G : (⟨1, ![1024]⟩ : Shape).Idx → EReal) (U : (⟨2, ![1024, 4096]⟩ : Shape).Idx → EReal)
    (W : (⟨2, ![4096, 1024]⟩ : Shape).Idx → EReal) (j : Fin 1024) (n : ℕ) :
    part D G U W j (n + 1024) = part D G U W j n + ∑ f : Fin 1024, term D G U W j (n + f.val) := by
  unfold part
  rw [Finset.sum_range_add, Fin.sum_univ_eq_sum_range (fun f => term D G U W j (n + f)) 1024]

theorem part_all (D : Fin 1024 → EReal) (G : (⟨1, ![1024]⟩ : Shape).Idx → EReal) (U : (⟨2, ![1024, 4096]⟩ : Shape).Idx → EReal)
    (W : (⟨2, ![4096, 1024]⟩ : Shape).Idx → EReal) (j : Fin 1024) :
    part D G U W j 4096 = ∑ f : Fin 4096, act (dotN D G U f) * W (ix2 f j) := by
  unfold part
  rw [← Fin.sum_univ_eq_sum_range (fun f => term D G U W j f) 4096]
  exact Finset.sum_congr rfl fun f _ => term_fin D G U W j f

/-- The perceptron added to its own input: row `D`, column `j`. -/
def mlp (D : Fin 1024 → EReal) (G : (⟨1, ![1024]⟩ : Shape).Idx → EReal) (U : (⟨2, ![1024, 4096]⟩ : Shape).Idx → EReal)
    (W : (⟨2, ![4096, 1024]⟩ : Shape).Idx → EReal) (j : Fin 1024) : EReal :=
  D j + part D G U W j 4096

end Cert.Layer

end
-- ==== Proof.MlpVal.lean ====
/-
  The perceptron of a layer: the pipelined kernel normalizes a block of rows once, then adds to a running sum the part of
  the second product over one block of hidden units at a time, and writes the sum plus the rows at the last block; the
  reference takes the two products whole.
-/
module

public import proofs.«01_k».proof.Defs
public import proofs.«01_k».proof.Proof.Gen.MlpIdeal.Value
public import proofs.«01_k».proof.Proof.Gen.MlpRefIdeal.Run
public import proofs.«01_k».proof.Proof.Gen.MlpRefIdeal.Read
public import proofs.«01_k».proof.Proof.Layer
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpVal

open Cert.MlpIdeal Cert.MlpIdeal.Gen Cert.Layer

theorem hz : (![0, 0] : Fin 2 → Nat) = fun _ => 0 := funext fun a => by fin_cases a <;> rfl

/-! ## What the body stores, as values -/

section
variable (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
variable (x0 : Vec Ideal S1024x1024 .f32) (x1 : Vec Ideal S1x1024 .f32) (x2 x3 : Vec Ideal S1024x1024 .bf16) (x4 : Vec Ideal S1x1024 .f32) (xs0 : Vec Ideal S1024x1024 .bf16) (xs1 : Vec Ideal S1024x1024 .f32)

theorem rows_A (hc0 : cond0_0 i) (hc1 : ¬cond0_1 i) :
    sout0_A_0 (F := Ideal) c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem acc_A (hc0 : cond0_0 i) (hc1 : ¬cond0_1 i) :
    sout0_A_1 (F := Ideal) c i a2 h2 a3 h3 a4 h4 a5 h5 a6 h6 a7 h7 a8 h8 a9 h9 hc0 hc1 x0 x1 x2 x3 x4 = k0_pay3 (k0_pay1 x0 x1) x2 (k0_pay2 (F := Ideal)) x3 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz]
  simp only [View.readCov_unit_zero (S := S1024x1024) _ hz, View.readAt_eq_ld, h2.read_unread, h3.read_unread, h4.read_unread, h5.read_unread,
    View.ld_unit_zero (S := S1024x1024) hz, View.ld_unit_zero (S := S1x1024) hz]

theorem acc_B (hc0 : ¬cond0_0 i) (hc1 : ¬cond0_1 i) :
    sout0_B_1 (F := Ideal) c i a2 h2 a3 h3 a4 h4 a5 h5 a6 h6 a7 h7 a8 h8 a9 h9 hc0 hc1 x0 x1 x2 x3 x4 xs0 xs1 = k0_pay3 xs0 x2 xs1 x3 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  rw [View.canon_unit_zero hz]
  simp only [View.readAt_eq_ld, h4.read_unread, h5.read_unread, h8.read_unread, h9.read_unread, View.ld_unit_zero (S := S1024x1024) hz]

theorem acc_C (hc0 : ¬cond0_0 i) (hc1 : cond0_1 i) :
    sout0_C_1 (F := Ideal) c i a2 h2 a3 h3 a4 h4 a5 h5 a6 h6 a7 h7 a8 h8 a9 h9 hc0 hc1 x0 x1 x2 x3 x4 xs0 xs1 = k0_pay3 xs0 x2 xs1 x3 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h4.read_unread, h5.read_unread, h8.read_unread, h9.read_unread, View.ld_unit_zero (S := S1024x1024) hz]

theorem out_C (hc0 : ¬cond0_0 i) (hc1 : cond0_1 i) :
    out0_C_5 (F := Ideal) c i a2 h2 a3 h3 a4 h4 a5 h5 a6 h6 a7 h7 a8 h8 a9 h9 hc0 hc1 x0 x1 x2 x3 x4 xs0 xs1 = k0_pay4 x0 (k0_pay3 xs0 x2 xs1 x3) := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readCov_unit_zero (S := S1024x1024) _ hz, View.readAt_eq_ld, h2.read_unread, h4.read_unread, h5.read_unread, h6.read_unread, h8.read_unread, h9.read_unread,
    View.ld_unit_zero (S := S1024x1024) hz, View.ld_unit_zero (S := S1x1024) hz]
end

/-! ## The stored blocks at an entry -/

theorem rows_at (x0 : Vec Ideal S1024x1024 .f32) (x1 : Vec Ideal S1x1024 .f32) (r k : Fin 1024) :
    k0_pay1 x0 x1 (ix2 r k) = nrm (fun l => x0 (ix2 r l)) (x1 (ix2 0 k)) k := by
  unfold nrm
  pointwise [k0_pay1]

theorem zero_at (r k : Fin 1024) : (k0_pay2 (F := Ideal)) (ix2 r k) = 0 := by
  pointwise [k0_pay2]

theorem acc_at (v3 v4 : Vec Ideal S1024x1024 .bf16) (v11 : Vec Ideal S1024x1024 .f32) (v12 : Vec Ideal S1024x1024 .bf16) (r l : Fin 1024) :
    k0_pay3 v3 v4 v11 v12 (ix2 r l)
      = v11 (ix2 r l) + ∑ f : Fin 1024, act (∑ k : Fin 1024, v3 (ix2 r k) * v4 (ix2 k f)) * v12 (ix2 f l) := by
  unfold act
  pointwise [k0_pay3]

theorem last_at (v22 v23 : Vec Ideal S1024x1024 .f32) (r l : Fin 1024) :
    k0_pay4 v22 v23 (ix2 r l) = v22 (ix2 r l) + v23 (ix2 r l) := by
  pointwise [k0_pay4]

variable (m : (ℓ : Loc nD τ sig) → Buf (Elt Ideal) ℓ)

/-- Where the windows stand at a point of the grid. -/
theorem at_point : ∀ t : Fin cfg0.N, (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = t.val % 4 ∧ win0_3.index t 1 = 0)
    ∧ (win0_4.index t 0 = 0 ∧ win0_4.index t 1 = 0) ∧ (win0_5.index t 0 = t.val / 4 ∧ win0_5.index t 1 = 0) :=
  (by decide +kernel : ∀ t : Fin grid0.N, (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = t.val % 4 ∧ win0_3.index t 1 = 0)
    ∧ (win0_4.index t 0 = 0 ∧ win0_4.index t 1 = 0) ∧ (win0_5.index t 0 = t.val / 4 ∧ win0_5.index t 1 = 0))

/-- The rows, the gain, the two weight matrices, and the gain of the last norm. -/
abbrev aX (c : Dev nD) : (⟨2, ![16384, 1024]⟩ : Shape).Idx → EReal := m ((c : Thread nD τ).loc main_arg0)
abbrev aG (c : Dev nD) : (⟨1, ![1024]⟩ : Shape).Idx → EReal := m ((c : Thread nD τ).loc main_arg1)
abbrev aU (c : Dev nD) : (⟨2, ![1024, 4096]⟩ : Shape).Idx → EReal := m ((c : Thread nD τ).loc main_arg2)
abbrev aW (c : Dev nD) : (⟨2, ![4096, 1024]⟩ : Shape).Idx → EReal := m ((c : Thread nD τ).loc main_arg3)
abbrev aE (c : Dev nD) : (⟨1, ![1024]⟩ : Shape).Idx → EReal := m ((c : Thread nD τ).loc main_arg4)

theorem up_at (c : Dev nD) : V m c main_v0 = aU m c := by
  unfold V hostOps0
  after_results
  rfl

theorem down_at (c : Dev nD) : V m c main_v1 = aW m c := by
  unfold V hostOps0
  after_results
  rfl

theorem gain_at (c : Dev nD) (l : Fin 1024) : V m c main_v2 (ix2 0 l) = aG m c (ix1 l) := by
  have e : V m c main_v2 = shapeCast _ (m ((c : Thread nD τ).loc main_arg1)) shapeCasts_S1024_S1x1024 := by
    unfold V hostOps0
    after_results
    rfl
  rw [e]
  exact shapeCast_apply _ shapeCasts_S1024_S1x1024 (ix2 0 l) (ix1 l) (by rw [Shape.rowMajor_val_two, Shape.rowMajor_val_one]; show l.val = 0 * 1024 + l.val; omega)

theorem last_gain (c : Dev nD) (l : Fin 1024) : V m c main_v3 (ix2 0 l) = aE m c (ix1 l) := by
  have e : V m c main_v3 = shapeCast _ (m ((c : Thread nD τ).loc main_arg4)) shapeCasts_S1024_S1x1024 := by
    unfold V hostOps0
    after_results
    rfl
  rw [e]
  exact shapeCast_apply _ shapeCasts_S1024_S1x1024 (ix2 0 l) (ix1 l) (by rw [Shape.rowMajor_val_two, Shape.rowMajor_val_one]; show l.val = 0 * 1024 + l.val; omega)

theorem blk0 (c : Dev nD) (t : Fin cfg0.N) (r l : Fin 1024) (hr : 1024 * (t.val / 4) + r.val < 16384) :
    iblk m c 0 t (ix2 r l) = aX m c (ix2 ⟨1024 * (t.val / 4) + r.val, hr⟩ l) := by
  obtain ⟨⟨h0, h1⟩, -⟩ := at_point t
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_0.index t 0 * 1024 + 1 * r.val = 1024 * (t.val / 4) + r.val; rw [h0]; omega
  | ⟨1, _⟩ => show win0_0.index t 1 * 1024 + 1 * l.val = l.val; rw [h1]; omega

theorem blk1 (c : Dev nD) (t : Fin cfg0.N) (l : Fin 1024) : iblk m c 1 t (ix2 0 l) = aG m c (ix1 l) := by
  obtain ⟨-, ⟨h0, h1⟩, -⟩ := at_point t
  rw [← gain_at m c l]
  unfold iblk
  rw [View.read_apply]
  show V m c main_v2 _ = V m c main_v2 _
  congr 1; funext a; apply Fin.ext
  match a with
  | ⟨0, _⟩ => show win0_1.index t 0 * 1 + 1 * 0 = 0; rw [h0]
  | ⟨1, _⟩ => show win0_1.index t 1 * 1024 + 1 * l.val = l.val; rw [h1]; omega

theorem blk2 (c : Dev nD) (t : Fin cfg0.N) (k f : Fin 1024) (hf : 1024 * (t.val % 4) + f.val < 4096) :
    iblk m c 2 t (ix2 k f) = aU m c (ix2 k ⟨1024 * (t.val % 4) + f.val, hf⟩) := by
  obtain ⟨-, -, ⟨h0, h1⟩, -⟩ := at_point t
  rw [← up_at m c]
  unfold iblk
  rw [View.read_apply]
  show V m c main_v0 _ = V m c main_v0 _
  congr 1; funext a; apply Fin.ext
  match a with
  | ⟨0, _⟩ => show win0_2.index t 0 * 1024 + 1 * k.val = k.val; rw [h0]; omega
  | ⟨1, _⟩ => show win0_2.index t 1 * 1024 + 1 * f.val = 1024 * (t.val % 4) + f.val; rw [h1]; omega

theorem blk3 (c : Dev nD) (t : Fin cfg0.N) (f l : Fin 1024) (hf : 1024 * (t.val % 4) + f.val < 4096) :
    iblk m c 3 t (ix2 f l) = aW m c (ix2 ⟨1024 * (t.val % 4) + f.val, hf⟩ l) := by
  obtain ⟨-, -, -, ⟨h0, h1⟩, -⟩ := at_point t
  rw [← down_at m c]
  unfold iblk
  rw [View.read_apply]
  show V m c main_v1 _ = V m c main_v1 _
  congr 1; funext a; apply Fin.ext
  match a with
  | ⟨0, _⟩ => show win0_3.index t 0 * 1024 + 1 * f.val = 1024 * (t.val % 4) + f.val; rw [h0]; omega
  | ⟨1, _⟩ => show win0_3.index t 1 * 1024 + 1 * l.val = l.val; rw [h1]; omega

theorem blk4 (c : Dev nD) (t : Fin cfg0.N) (l : Fin 1024) : iblk m c 4 t (ix2 0 l) = aE m c (ix1 l) := by
  obtain ⟨-, -, -, -, ⟨h0, h1⟩, -⟩ := at_point t
  rw [← last_gain m c l]
  unfold iblk
  rw [View.read_apply]
  show V m c main_v3 _ = V m c main_v3 _
  congr 1; funext a; apply Fin.ext
  match a with
  | ⟨0, _⟩ => show win0_4.index t 0 * 1 + 1 * 0 = 0; rw [h0]
  | ⟨1, _⟩ => show win0_4.index t 1 * 1024 + 1 * l.val = l.val; rw [h1]; omega

/-! ## What the two carried arrays hold after each point -/

/-- The row of the input that row `r` of the block at point `n` is. -/
def rowAt (n : ℕ) (r : Fin 1024) : Fin 16384 := ⟨(1024 * (n / 4) + r.val) % 16384, Nat.mod_lt _ (by omega)⟩

theorem row_eq (n : ℕ) (r : Fin 1024) (hr : 1024 * (n / 4) + r.val < 16384) : rowAt n r = ⟨1024 * (n / 4) + r.val, hr⟩ :=
  Fin.ext (Nat.mod_eq_of_lt hr)

theorem row_of_div {n n' : ℕ} (e : n / 4 = n' / 4) (r : Fin 1024) : rowAt n r = rowAt n' r :=
  Fin.ext (by show (1024 * (n / 4) + r.val) % 16384 = (1024 * (n' / 4) + r.val) % 16384; rw [e])

/-- One point's step of the sum: the block of hidden units of the point is added. -/
theorem step_at (c : Dev nD) (t : Fin cfg0.N) (x : Vec Ideal S1024x1024 .bf16) (s : Vec Ideal S1024x1024 .f32) (r l : Fin 1024)
    (hx : ∀ k, x (ix2 r k) = nrm (rowOf (aX m c) (rowAt t.val r)) (aG m c (ix1 k)) k)
    (hs : s (ix2 r l) = part (rowOf (aX m c) (rowAt t.val r)) (aG m c) (aU m c) (aW m c) l (1024 * (t.val % 4))) :
    k0_pay3 x (iblk m c 2 t) s (iblk m c 3 t) (ix2 r l)
      = part (rowOf (aX m c) (rowAt t.val r)) (aG m c) (aU m c) (aW m c) l (1024 * (t.val % 4) + 1024) := by
  rw [acc_at, hs, part_add]
  refine congrArg _ (Finset.sum_congr rfl fun f _ => ?_)
  have hf : 1024 * (t.val % 4) + f.val < 4096 := by have := f.isLt; omega
  rw [term_fin _ _ _ _ _ ⟨1024 * (t.val % 4) + f.val, hf⟩, blk3 m c t f l hf]
  unfold dotN
  refine congrArg (fun z => act z * _) (Finset.sum_congr rfl fun k _ => ?_)
  rw [hx, blk2 m c t k f hf]

theorem rows_first (c : Dev nD) (t : Fin cfg0.N) (r k : Fin 1024) :
    k0_pay1 (iblk m c 0 t) (iblk m c 1 t) (ix2 r k) = nrm (rowOf (aX m c) (rowAt t.val r)) (aG m c (ix1 k)) k := by
  have hN : cfg0.N = 64 := N_0
  have ht := t.isLt
  have hr : 1024 * (t.val / 4) + r.val < 16384 := by have := r.isLt; omega
  rw [rows_at, blk1 m c t k, row_eq _ _ hr]
  refine congrArg (fun D => nrm D _ k) (funext fun l => ?_)
  exact blk0 m c t r l hr

/-- The normalized rows and the running sum after point `n`. -/
theorem carried (c : Dev nD) : ∀ (n : ℕ) (h : n < cfg0.N),
    (∀ r k : Fin 1024, (outsAt0 m c n h).2.1 (ix2 r k) = nrm (rowOf (aX m c) (rowAt n r)) (aG m c (ix1 k)) k)
    ∧ (∀ r l : Fin 1024, (outsAt0 m c n h).2.2 (ix2 r l)
        = part (rowOf (aX m c) (rowAt n r)) (aG m c) (aU m c) (aW m c) l (1024 * (n % 4) + 1024)) := by
  intro n
  induction n with
  | zero =>
    intro h
    have e := outsAt0_A m c ⟨0, h⟩ (Nat.zero_mod _) (by show ¬0 % 4 = 3; omega)
    rw [show outsAt0 m c 0 h = _ from e]
    dsimp only
    rw [rows_A, acc_A]
    refine ⟨fun r k => rows_first m c ⟨0, h⟩ r k, fun r l => ?_⟩
    refine step_at m c ⟨0, h⟩ _ _ r l (fun k => rows_first m c ⟨0, h⟩ r k) ?_
    rw [zero_at]
    exact (part_zero _ _ _ _ _).symm
  | succ n ih =>
    intro h
    obtain ⟨i1, i2⟩ := ih (Nat.lt_of_succ_lt h)
    by_cases h0 : (n + 1) % 4 = 0
    · have e := outsAt0_A m c ⟨n + 1, h⟩ h0 (by show ¬(n + 1) % 4 = 3; omega)
      rw [show outsAt0 m c (n + 1) h = _ from e]
      dsimp only
      rw [rows_A, acc_A]
      refine ⟨fun r k => rows_first m c ⟨n + 1, h⟩ r k, fun r l => ?_⟩
      refine step_at m c ⟨n + 1, h⟩ _ _ r l (fun k => rows_first m c ⟨n + 1, h⟩ r k) ?_
      rw [zero_at]
      show _ = part _ _ _ _ l (1024 * ((n + 1) % 4))
      rw [h0]
      exact (part_zero _ _ _ _ _).symm
    · have er : ∀ r, rowAt (n + 1) r = rowAt n r := fun r => row_of_div (by omega) r
      have en : 1024 * ((n + 1) % 4) = 1024 * (n % 4) + 1024 := by omega
      by_cases h1 : (n + 1) % 4 = 3
      · have e := outsAt0_C m c ⟨n + 1, h⟩ h0 h1
        rw [show outsAt0 m c (n + 1) h = _ from e]
        dsimp only
        rw [acc_C]
        unfold sout0_C_0
        refine ⟨fun r k => (i1 r k).trans (by rw [er]), fun r l => ?_⟩
        refine step_at m c ⟨n + 1, h⟩ _ _ r l (fun k => (i1 r k).trans (by rw [er])) ((i2 r l).trans ?_)
        dsimp only
        rw [er, en]
      · have e := outsAt0_B m c ⟨n + 1, h⟩ h0 h1
        rw [show outsAt0 m c (n + 1) h = _ from e]
        dsimp only
        rw [acc_B]
        unfold sout0_B_0
        refine ⟨fun r k => (i1 r k).trans (by rw [er]), fun r l => ?_⟩
        refine step_at m c ⟨n + 1, h⟩ _ _ r l (fun k => (i1 r k).trans (by rw [er])) ((i2 r l).trans ?_)
        dsimp only
        rw [er, en]

/-! ## The result array -/

/-- The array the kernel leaves. -/
def goal (c : Dev nD) : S16384x1024.Idx → EReal := fun i => mlp (rowOf (aX m c) (i 0)) (aG m c) (aU m c) (aW m c) (i 1)

theorem goal_at (c : Dev nD) (i : Fin 16384) (j : Fin 1024) :
    goal m c (ix2 i j) = mlp (rowOf (aX m c) i) (aG m c) (aU m c) (aW m c) j := rfl

/-- The block stored at the last point of a row of points. -/
theorem point_at (c : Dev nD) (t : Fin cfg0.N) (h3 : t.val % 4 = 3) (r l : Fin 1024) :
    (outsAt0 m c t.val t.isLt).1 (ix2 r l) = goal m c (ix2 (rowAt t.val r) l) := by
  have hN : cfg0.N = 64 := N_0
  have ht := t.isLt
  have h0 : ¬t.val % 4 = 0 := by omega
  have hr : 1024 * (t.val / 4) + r.val < 16384 := by have := r.isLt; omega
  have hlt : t.val - 1 < cfg0.N := by omega
  obtain ⟨i1, i2⟩ := carried m c (t.val - 1) hlt
  have er : rowAt (t.val - 1) r = rowAt t.val r := row_of_div (by omega) r
  have hs : ∀ l, k0_pay3 (outsAt0 m c (t.val - 1) hlt).2.1 (iblk m c 2 t) (outsAt0 m c (t.val - 1) hlt).2.2 (iblk m c 3 t) (ix2 r l)
      = part (rowOf (aX m c) (rowAt t.val r)) (aG m c) (aU m c) (aW m c) l 4096 := fun l => by
    refine (step_at m c t _ _ r l (fun k => (i1 r k).trans (by rw [er])) ((i2 r l).trans ?_)).trans ?_
    · rw [er, show 1024 * ((t.val - 1) % 4) + 1024 = 1024 * (t.val % 4) by omega]
    · rw [h3]
  rw [outsAt0_C m c t h0 h3]
  dsimp only
  rw [out_C, goal_at]
  rw [last_at, hs, blk0 m c t r l hr]
  unfold mlp
  rw [row_eq _ _ hr]

theorem cut_at (t : Fin cfg0.N) (x : Vec Ideal S1024x1024 .f32) (r l : Fin 1024) :
    (cfg0.win 5).cut (grid0.coords t) x (ix2 r l) = x (ix2 r l) := rfl

theorem emb_at (t : Fin cfg0.N) (r l : Fin 1024) : (win0_5.blk t).view.emb (ix2 r l) = ix2 (rowAt t.val r) l := by
  have hN : cfg0.N = 64 := N_0
  have ht := t.isLt
  have hr : 1024 * (t.val / 4) + r.val < 16384 := by have := r.isLt; omega
  obtain ⟨-, -, -, -, -, e0, e1⟩ := at_point t
  rw [row_eq _ _ hr]
  funext a; apply Fin.ext
  match a with
  | ⟨0, _⟩ => show win0_5.index t 0 * 1024 + 1 * r.val = 1024 * (t.val / 4) + r.val; rw [e0]; omega
  | ⟨1, _⟩ => show win0_5.index t 1 * 1024 + 1 * l.val = l.val; rw [e1]; omega

theorem flushed_eq (c : Dev nD) (t : Fin cfg0.N) (hf : (cfg0.win 5).flush t = true) :
    (dats m 0 c).flushed 5 t = (win0_5.blk t).view.read (Elt Ideal) (goal m c) := by
  have h3 : t.val % 4 = 3 := (flush0_5 t).mp hf
  funext j
  idx_vars j
  rw [Value.flushed5, View.read_apply]
  refine (cut_at t _ j0 j1).trans ((point_at m c t h3 j0 j1).trans ?_)
  show _ = goal m c ((win0_5.blk t).view.emb (ix2 j0 j1))
  rw [emb_at t j0 j1]

theorem mem_blk (t : Fin cfg0.N) (i : S16384x1024.Idx) : i ∈ ((cfg0.win 5).blk t).view.set ↔
    ∀ a : Fin 2, win0_5.index t a * win0_5.size a ≤ (i a : Nat) ∧ (i a : Nat) < win0_5.index t a * win0_5.size a + win0_5.xsize (grid0.coords t) a := by
  show i ∈ ((View.whole main_v4).slice (win0_5.rect t)).set ↔ _
  rw [View.set_slice_whole, Rect.mem_set_unit]
  rfl

theorem cover (i : S16384x1024.Idx) : ∃ t : Fin cfg0.N, (cfg0.win 5).flush t = true ∧ i ∈ ((cfg0.win 5).blk t).view.set := by
  have hN : cfg0.N = 64 := N_0
  have hi0 : (i 0).val < 16384 := (i 0).isLt
  have hi1 : (i 1).val < 1024 := (i 1).isLt
  have ht : 4 * ((i 0).val / 1024) + 3 < cfg0.N := by omega
  refine ⟨⟨_, ht⟩, (flush0_5 _).mpr (by dsimp only; omega), ?_⟩
  obtain ⟨-, -, -, -, -, h0, h1⟩ := at_point ⟨_, ht⟩
  rw [mem_blk]
  intro a
  match a with
  | ⟨0, _⟩ =>
    show win0_5.index _ 0 * 1024 ≤ (i 0 : Nat) ∧ (i 0 : Nat) < win0_5.index _ 0 * 1024 + 1024
    rw [h0]; dsimp only; omega
  | ⟨1, _⟩ =>
    show win0_5.index _ 1 * 1024 ≤ (i 1 : Nat) ∧ (i 1 : Nat) < win0_5.index _ 1 * 1024 + 1024
    rw [h1]; omega

theorem result (c : Dev nD) : (dats m 0 c).arrAt 5 cfg0.N = goal m c :=
  (dats m 0 c).arrAt_eq_of_cover 5 (goal m c) (fun t hf => flushed_eq m c t hf) cover

end Cert.MlpVal

/-! ## The reference, entry by entry -/

namespace Cert.MlpVal.Ref

open Cert.MlpRefIdeal Cert.MlpRefIdeal.Gen Cert.MlpRefIdeal.Read Cert.Layer

variable (x0 : (⟨2, ![16384, 1024]⟩ : Shape).Idx → EReal) (x1 : (⟨1, ![1024]⟩ : Shape).Idx → EReal)
  (x2 : (⟨2, ![1024, 4096]⟩ : Shape).Idx → EReal) (x3 : (⟨2, ![4096, 1024]⟩ : Shape).Idx → EReal) (x4 : (⟨1, ![1024]⟩ : Shape).Idx → EReal)

theorem sq_at (i : Fin 16384) (k : Fin 1024) : val_main_v0 (F := Ideal) x0 (idx_main_v1 (ix1 i) k) = x0 (ix2 i k) * x0 (ix2 i k) := by
  have e : idx_main_v1 (ix1 i) k = ix2 i k := funext fun a => by
    match a with
    | ⟨0, _⟩ => rfl
    | ⟨1, _⟩ => rfl
  rw [val_main_v0_apply, e, Ideal.mulf_def]

theorem sum_at (i : Fin 16384) : val_main_v1 (F := Ideal) x0 (ix1 i) = ∑ k : Fin 1024, x0 (ix2 i k) * x0 (ix2 i k) := by
  rw [val_main_v1_apply, val_main_cst_apply, Ideal.ofBits_def, Ideal.ofBits_zero_f32, zero_add]
  exact Finset.sum_congr rfl fun k _ => sq_at x0 i k

theorem scale_at (i : Fin 16384) : val_main_v7 (F := Ideal) x0 (ix2 i 0)
    = Ideal.rsqrt (Ideal.div (∑ k : Fin 1024, x0 (ix2 i k) * x0 (ix2 i k)) (Ideal.ofBits .f32 0x44800000#32) + Ideal.ofBits .f32 0x358637BD#32) := by
  have e : idx_main_v2 (ix2 i 0) = ix1 i := funext fun a => by
    match a with
    | ⟨0, _⟩ => rfl
  rw [val_main_v7_apply, val_main_v6_apply, val_main_v4_apply, val_main_v2_apply, e, sum_at, val_main_v3_apply, val_main_v5_apply,
    val_main_cst_0_apply, val_main_cst_1_apply, Ideal.hostUnary_rsqrt_def, Ideal.addf_def, Ideal.hostDivf_def, Ideal.ofBits_def, Ideal.ofBits_def]

theorem norm_at (i : Fin 16384) (k : Fin 1024) : val_main_v12 (F := Ideal) x0 x1 (ix2 i k) = nrm (rowOf x0 i) (x1 (ix1 k)) k := by
  have e8 : idx_main_v8 (ix2 i k) = ix2 i 0 := funext fun a => by
    match a with
    | ⟨0, _⟩ => rfl
    | ⟨1, _⟩ => rfl
  have e10 : idx_main_v10 (idx_main_v11 (ix2 i k)) = ix1 k := funext fun a => by
    match a with
    | ⟨0, _⟩ => rfl
  rw [val_main_v12_apply, val_main_v9_apply, val_main_v8_apply, e8, scale_at, val_main_v11_apply, val_main_v10_apply, e10, Ideal.mulf_def, Ideal.mulf_def]
  rfl

theorem up_at (i : Fin 16384) (f : Fin 4096) : val_main_v13 (F := Ideal) x0 x1 x2 (ix2 i f) = dotN (rowOf x0 i) x1 x2 f := by
  rw [val_main_v13_apply]
  unfold dotN
  refine Finset.sum_congr rfl fun k _ => ?_
  have el : lidx_main_v13 (ix2 i f) k = ix2 i k := funext fun a => by
    match a with
    | ⟨0, _⟩ => rfl
    | ⟨1, _⟩ => rfl
  have er : ridx_main_v13 (ix2 i f) k = ix2 k f := funext fun a => by
    match a with
    | ⟨0, _⟩ => rfl
    | ⟨1, _⟩ => rfl
  rw [el, er, norm_at]

theorem act_at (i : Fin 16384) (f : Fin 4096) : val_main_v15 (F := Ideal) x0 x1 x2 (ix2 i f) = act (dotN (rowOf x0 i) x1 x2 f) := by
  rw [val_main_v15_apply, val_main_v14_apply, up_at, val_main_call0_v0_apply, val_main_call0_cst_apply, Ideal.mulf_def, Ideal.maximumf_def, Ideal.ofBits_def]
  rfl

theorem down_at (i : Fin 16384) (j : Fin 1024) : val_main_v16 (F := Ideal) x0 x1 x2 x3 (ix2 i j) = part (rowOf x0 i) x1 x2 x3 j 4096 := by
  rw [val_main_v16_apply, part_all]
  refine Finset.sum_congr rfl fun k _ => ?_
  have el : lidx_main_v16 (ix2 i j) k = ix2 i k := funext fun a => by
    match a with
    | ⟨0, _⟩ => rfl
    | ⟨1, _⟩ => rfl
  have er : ridx_main_v16 (ix2 i j) k = ix2 k j := funext fun a => by
    match a with
    | ⟨0, _⟩ => rfl
    | ⟨1, _⟩ => rfl
  rw [el, er, act_at]

theorem mlp_at (i : Fin 16384) (j : Fin 1024) : val_main_v17 (F := Ideal) x0 x1 x2 x3 (ix2 i j) = mlp (rowOf x0 i) x1 x2 x3 j := by
  rw [val_main_v17_apply, down_at, Ideal.addf_def]
  rfl

end Cert.MlpVal.Ref

namespace Cert.MlpVal

theorem algebraic : Cert.algebraic_MlpIdeal_MlpRefIdeal := by
  intro m ρ m' ρ' _ hagree
  refine ⟨fun c => goal m c, ?_, ?_⟩
  · exact (θ_run Cert.MlpIdeal.defs _ _).mono (fun _ h c => ⟨(h c).1.trans (result m c), (h c).2⟩) (Cert.MlpIdeal.Value.run_blocks (F := Ideal) m ρ)
  · refine (θ_run Cert.MlpRefIdeal.defs _ _).mono (fun _ h c => ⟨(h c).1.trans ?_, (h c).2⟩) (Cert.MlpRefIdeal.Value.run (F := Ideal) m' ρ')
    rw [Cert.MlpRefIdeal.Read.val_main_v17_eq, (hagree c).1, (hagree c).2.1, (hagree c).2.2.1, (hagree c).2.2.2.1]
    funext j
    idx_vars j
    exact Ref.mlp_at (aX m c) (aG m c) (aU m c) (aW m c) j0 j1

end Cert.MlpVal

end
-- ==== Proof.LastVal.lean ====
/-
  The perceptron of the last layer: as for the other layers, and the sum is normalized by its root mean square before it is
  written.
-/
module

public import proofs.«01_k».proof.Defs
public import proofs.«01_k».proof.Proof.Gen.LastIdeal.Value
public import proofs.«01_k».proof.Proof.Gen.LastRefIdeal.Run
public import proofs.«01_k».proof.Proof.Gen.LastRefIdeal.Read
public import proofs.«01_k».proof.Proof.Layer
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LastVal

open Cert.LastIdeal Cert.LastIdeal.Gen Cert.Layer

theorem hz : (![0, 0] : Fin 2 → Nat) = fun _ => 0 := funext fun a => by fin_cases a <;> rfl

/-! ## What the body stores, as values -/

section
variable (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S1x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
variable (x0 : Vec Ideal S1024x1024 .f32) (x1 : Vec Ideal S1x1024 .f32) (x2 x3 : Vec Ideal S1024x1024 .bf16) (x4 : Vec Ideal S1x1024 .f32) (xs0 : Vec Ideal S1024x1024 .bf16) (xs1 : Vec Ideal S1024x1024 .f32)

theorem rows_A (hc0 : cond0_0 i) (hc1 : ¬cond0_1 i) :
    sout0_A_0 (F := Ideal) c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem acc_A (hc0 : cond0_0 i) (hc1 : ¬cond0_1 i) :
    sout0_A_1 (F := Ideal) c i a2 h2 a3 h3 a4 h4 a5 h5 a6 h6 a7 h7 a8 h8 a9 h9 hc0 hc1 x0 x1 x2 x3 x4 = k0_pay3 (k0_pay1 x0 x1) x2 (k0_pay2 (F := Ideal)) x3 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz]
  simp only [View.readCov_unit_zero (S := S1024x1024) _ hz, View.readAt_eq_ld, h2.read_unread, h3.read_unread, h4.read_unread, h5.read_unread,
    View.ld_unit_zero (S := S1024x1024) hz, View.ld_unit_zero (S := S1x1024) hz]

theorem acc_B (hc0 : ¬cond0_0 i) (hc1 : ¬cond0_1 i) :
    sout0_B_1 (F := Ideal) c i a2 h2 a3 h3 a4 h4 a5 h5 a6 h6 a7 h7 a8 h8 a9 h9 hc0 hc1 x0 x1 x2 x3 x4 xs0 xs1 = k0_pay3 xs0 x2 xs1 x3 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  rw [View.canon_unit_zero hz]
  simp only [View.readAt_eq_ld, h4.read_unread, h5.read_unread, h8.read_unread, h9.read_unread, View.ld_unit_zero (S := S1024x1024) hz]

theorem acc_C (hc0 : ¬cond0_0 i) (hc1 : cond0_1 i) :
    sout0_C_1 (F := Ideal) c i a2 h2 a3 h3 a4 h4 a5 h5 a6 h6 a7 h7 a8 h8 a9 h9 hc0 hc1 x0 x1 x2 x3 x4 xs0 xs1 = k0_pay3 xs0 x2 xs1 x3 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h4.read_unread, h5.read_unread, h8.read_unread, h9.read_unread, View.ld_unit_zero (S := S1024x1024) hz]

theorem out_C (hc0 : ¬cond0_0 i) (hc1 : cond0_1 i) :
    out0_C_5 (F := Ideal) c i a2 h2 a3 h3 a4 h4 a5 h5 a6 h6 a7 h7 a8 h8 a9 h9 hc0 hc1 x0 x1 x2 x3 x4 xs0 xs1 = k0_pay4 x0 (k0_pay3 xs0 x2 xs1 x3) x4 := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readCov_unit_zero (S := S1024x1024) _ hz, View.readAt_eq_ld, h2.read_unread, h4.read_unread, h5.read_unread, h6.read_unread, h8.read_unread, h9.read_unread,
    View.ld_unit_zero (S := S1024x1024) hz, View.ld_unit_zero (S := S1x1024) hz]
end

/-! ## The stored blocks at an entry -/

theorem rows_at (x0 : Vec Ideal S1024x1024 .f32) (x1 : Vec Ideal S1x1024 .f32) (r k : Fin 1024) :
    k0_pay1 x0 x1 (ix2 r k) = nrm (fun l => x0 (ix2 r l)) (x1 (ix2 0 k)) k := by
  unfold nrm
  pointwise [k0_pay1]

theorem zero_at (r k : Fin 1024) : (k0_pay2 (F := Ideal)) (ix2 r k) = 0 := by
  pointwise [k0_pay2]

theorem acc_at (v3 v4 : Vec Ideal S1024x1024 .bf16) (v11 : Vec Ideal S1024x1024 .f32) (v12 : Vec Ideal S1024x1024 .bf16) (r l : Fin 1024) :
    k0_pay3 v3 v4 v11 v12 (ix2 r l)
      = v11 (ix2 r l) + ∑ f : Fin 1024, act (∑ k : Fin 1024, v3 (ix2 r k) * v4 (ix2 k f)) * v12 (ix2 f l) := by
  unfold act
  pointwise [k0_pay3]

theorem last_at (v22 v23 : Vec Ideal S1024x1024 .f32) (v25 : Vec Ideal S1x1024 .f32) (r l : Fin 1024) :
    k0_pay4 v22 v23 v25 (ix2 r l) = nrm (fun k => v22 (ix2 r k) + v23 (ix2 r k)) (v25 (ix2 0 l)) l := by
  unfold nrm
  pointwise [k0_pay4]

variable (m : (ℓ : Loc nD τ sig) → Buf (Elt Ideal) ℓ)

/-- Where the windows stand at a point of the grid. -/
theorem at_point : ∀ t : Fin cfg0.N, (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = t.val % 4 ∧ win0_3.index t 1 = 0)
    ∧ (win0_4.index t 0 = 0 ∧ win0_4.index t 1 = 0) ∧ (win0_5.index t 0 = t.val / 4 ∧ win0_5.index t 1 = 0) :=
  (by decide +kernel : ∀ t : Fin grid0.N, (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = t.val % 4 ∧ win0_3.index t 1 = 0)
    ∧ (win0_4.index t 0 = 0 ∧ win0_4.index t 1 = 0) ∧ (win0_5.index t 0 = t.val / 4 ∧ win0_5.index t 1 = 0))

/-- The rows, the gain, the two weight matrices, and the gain of the last norm. -/
abbrev aX (c : Dev nD) : (⟨2, ![16384, 1024]⟩ : Shape).Idx → EReal := m ((c : Thread nD τ).loc main_arg0)
abbrev aG (c : Dev nD) : (⟨1, ![1024]⟩ : Shape).Idx → EReal := m ((c : Thread nD τ).loc main_arg1)
abbrev aU (c : Dev nD) : (⟨2, ![1024, 4096]⟩ : Shape).Idx → EReal := m ((c : Thread nD τ).loc main_arg2)
abbrev aW (c : Dev nD) : (⟨2, ![4096, 1024]⟩ : Shape).Idx → EReal := m ((c : Thread nD τ).loc main_arg3)
abbrev aE (c : Dev nD) : (⟨1, ![1024]⟩ : Shape).Idx → EReal := m ((c : Thread nD τ).loc main_arg4)

theorem up_at (c : Dev nD) : V m c main_v0 = aU m c := by
  unfold V hostOps0
  after_results
  rfl

theorem down_at (c : Dev nD) : V m c main_v1 = aW m c := by
  unfold V hostOps0
  after_results
  rfl

theorem gain_at (c : Dev nD) (l : Fin 1024) : V m c main_v2 (ix2 0 l) = aG m c (ix1 l) := by
  have e : V m c main_v2 = shapeCast _ (m ((c : Thread nD τ).loc main_arg1)) shapeCasts_S1024_S1x1024 := by
    unfold V hostOps0
    after_results
    rfl
  rw [e]
  exact shapeCast_apply _ shapeCasts_S1024_S1x1024 (ix2 0 l) (ix1 l) (by rw [Shape.rowMajor_val_two, Shape.rowMajor_val_one]; show l.val = 0 * 1024 + l.val; omega)

theorem last_gain (c : Dev nD) (l : Fin 1024) : V m c main_v3 (ix2 0 l) = aE m c (ix1 l) := by
  have e : V m c main_v3 = shapeCast _ (m ((c : Thread nD τ).loc main_arg4)) shapeCasts_S1024_S1x1024 := by
    unfold V hostOps0
    after_results
    rfl
  rw [e]
  exact shapeCast_apply _ shapeCasts_S1024_S1x1024 (ix2 0 l) (ix1 l) (by rw [Shape.rowMajor_val_two, Shape.rowMajor_val_one]; show l.val = 0 * 1024 + l.val; omega)

theorem blk0 (c : Dev nD) (t : Fin cfg0.N) (r l : Fin 1024) (hr : 1024 * (t.val / 4) + r.val < 16384) :
    iblk m c 0 t (ix2 r l) = aX m c (ix2 ⟨1024 * (t.val / 4) + r.val, hr⟩ l) := by
  obtain ⟨⟨h0, h1⟩, -⟩ := at_point t
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_0.index t 0 * 1024 + 1 * r.val = 1024 * (t.val / 4) + r.val; rw [h0]; omega
  | ⟨1, _⟩ => show win0_0.index t 1 * 1024 + 1 * l.val = l.val; rw [h1]; omega

theorem blk1 (c : Dev nD) (t : Fin cfg0.N) (l : Fin 1024) : iblk m c 1 t (ix2 0 l) = aG m c (ix1 l) := by
  obtain ⟨-, ⟨h0, h1⟩, -⟩ := at_point t
  rw [← gain_at m c l]
  unfold iblk
  rw [View.read_apply]
  show V m c main_v2 _ = V m c main_v2 _
  congr 1; funext a; apply Fin.ext
  match a with
  | ⟨0, _⟩ => show win0_1.index t 0 * 1 + 1 * 0 = 0; rw [h0]
  | ⟨1, _⟩ => show win0_1.index t 1 * 1024 + 1 * l.val = l.val; rw [h1]; omega

theorem blk2 (c : Dev nD) (t : Fin cfg0.N) (k f : Fin 1024) (hf : 1024 * (t.val % 4) + f.val < 4096) :
    iblk m c 2 t (ix2 k f) = aU m c (ix2 k ⟨1024 * (t.val % 4) + f.val, hf⟩) := by
  obtain ⟨-, -, ⟨h0, h1⟩, -⟩ := at_point t
  rw [← up_at m c]
  unfold iblk
  rw [View.read_apply]
  show V m c main_v0 _ = V m c main_v0 _
  congr 1; funext a; apply Fin.ext
  match a with
  | ⟨0, _⟩ => show win0_2.index t 0 * 1024 + 1 * k.val = k.val; rw [h0]; omega
  | ⟨1, _⟩ => show win0_2.index t 1 * 1024 + 1 * f.val = 1024 * (t.val % 4) + f.val; rw [h1]; omega

theorem blk3 (c : Dev nD) (t : Fin cfg0.N) (f l : Fin 1024) (hf : 1024 * (t.val % 4) + f.val < 4096) :
    iblk m c 3 t (ix2 f l) = aW m c (ix2 ⟨1024 * (t.val % 4) + f.val, hf⟩ l) := by
  obtain ⟨-, -, -, ⟨h0, h1⟩, -⟩ := at_point t
  rw [← down_at m c]
  unfold iblk
  rw [View.read_apply]
  show V m c main_v1 _ = V m c main_v1 _
  congr 1; funext a; apply Fin.ext
  match a with
  | ⟨0, _⟩ => show win0_3.index t 0 * 1024 + 1 * f.val = 1024 * (t.val % 4) + f.val; rw [h0]; omega
  | ⟨1, _⟩ => show win0_3.index t 1 * 1024 + 1 * l.val = l.val; rw [h1]; omega

theorem blk4 (c : Dev nD) (t : Fin cfg0.N) (l : Fin 1024) : iblk m c 4 t (ix2 0 l) = aE m c (ix1 l) := by
  obtain ⟨-, -, -, -, ⟨h0, h1⟩, -⟩ := at_point t
  rw [← last_gain m c l]
  unfold iblk
  rw [View.read_apply]
  show V m c main_v3 _ = V m c main_v3 _
  congr 1; funext a; apply Fin.ext
  match a with
  | ⟨0, _⟩ => show win0_4.index t 0 * 1 + 1 * 0 = 0; rw [h0]
  | ⟨1, _⟩ => show win0_4.index t 1 * 1024 + 1 * l.val = l.val; rw [h1]; omega

/-! ## What the two carried arrays hold after each point -/

/-- The row of the input that row `r` of the block at point `n` is. -/
def rowAt (n : ℕ) (r : Fin 1024) : Fin 16384 := ⟨(1024 * (n / 4) + r.val) % 16384, Nat.mod_lt _ (by omega)⟩

theorem row_eq (n : ℕ) (r : Fin 1024) (hr : 1024 * (n / 4) + r.val < 16384) : rowAt n r = ⟨1024 * (n / 4) + r.val, hr⟩ :=
  Fin.ext (Nat.mod_eq_of_lt hr)

theorem row_of_div {n n' : ℕ} (e : n / 4 = n' / 4) (r : Fin 1024) : rowAt n r = rowAt n' r :=
  Fin.ext (by show (1024 * (n / 4) + r.val) % 16384 = (1024 * (n' / 4) + r.val) % 16384; rw [e])

/-- One point's step of the sum: the block of hidden units of the point is added. -/
theorem step_at (c : Dev nD) (t : Fin cfg0.N) (x : Vec Ideal S1024x1024 .bf16) (s : Vec Ideal S1024x1024 .f32) (r l : Fin 1024)
    (hx : ∀ k, x (ix2 r k) = nrm (rowOf (aX m c) (rowAt t.val r)) (aG m c (ix1 k)) k)
    (hs : s (ix2 r l) = part (rowOf (aX m c) (rowAt t.val r)) (aG m c) (aU m c) (aW m c) l (1024 * (t.val % 4))) :
    k0_pay3 x (iblk m c 2 t) s (iblk m c 3 t) (ix2 r l)
      = part (rowOf (aX m c) (rowAt t.val r)) (aG m c) (aU m c) (aW m c) l (1024 * (t.val % 4) + 1024) := by
  rw [acc_at, hs, part_add]
  refine congrArg _ (Finset.sum_congr rfl fun f _ => ?_)
  have hf : 1024 * (t.val % 4) + f.val < 4096 := by have := f.isLt; omega
  rw [term_fin _ _ _ _ _ ⟨1024 * (t.val % 4) + f.val, hf⟩, blk3 m c t f l hf]
  unfold dotN
  refine congrArg (fun z => act z * _) (Finset.sum_congr rfl fun k _ => ?_)
  rw [hx, blk2 m c t k f hf]

theorem rows_first (c : Dev nD) (t : Fin cfg0.N) (r k : Fin 1024) :
    k0_pay1 (iblk m c 0 t) (iblk m c 1 t) (ix2 r k) = nrm (rowOf (aX m c) (rowAt t.val r)) (aG m c (ix1 k)) k := by
  have hN : cfg0.N = 64 := N_0
  have ht := t.isLt
  have hr : 1024 * (t.val / 4) + r.val < 16384 := by have := r.isLt; omega
  rw [rows_at, blk1 m c t k, row_eq _ _ hr]
  refine congrArg (fun D => nrm D _ k) (funext fun l => ?_)
  exact blk0 m c t r l hr

/-- The normalized rows and the running sum after point `n`. -/
theorem carried (c : Dev nD) : ∀ (n : ℕ) (h : n < cfg0.N),
    (∀ r k : Fin 1024, (outsAt0 m c n h).2.1 (ix2 r k) = nrm (rowOf (aX m c) (rowAt n r)) (aG m c (ix1 k)) k)
    ∧ (∀ r l : Fin 1024, (outsAt0 m c n h).2.2 (ix2 r l)
        = part (rowOf (aX m c) (rowAt n r)) (aG m c) (aU m c) (aW m c) l (1024 * (n % 4) + 1024)) := by
  intro n
  induction n with
  | zero =>
    intro h
    have e := outsAt0_A m c ⟨0, h⟩ (Nat.zero_mod _) (by show ¬0 % 4 = 3; omega)
    rw [show outsAt0 m c 0 h = _ from e]
    dsimp only
    rw [rows_A, acc_A]
    refine ⟨fun r k => rows_first m c ⟨0, h⟩ r k, fun r l => ?_⟩
    refine step_at m c ⟨0, h⟩ _ _ r l (fun k => rows_first m c ⟨0, h⟩ r k) ?_
    rw [zero_at]
    exact (part_zero _ _ _ _ _).symm
  | succ n ih =>
    intro h
    obtain ⟨i1, i2⟩ := ih (Nat.lt_of_succ_lt h)
    by_cases h0 : (n + 1) % 4 = 0
    · have e := outsAt0_A m c ⟨n + 1, h⟩ h0 (by show ¬(n + 1) % 4 = 3; omega)
      rw [show outsAt0 m c (n + 1) h = _ from e]
      dsimp only
      rw [rows_A, acc_A]
      refine ⟨fun r k => rows_first m c ⟨n + 1, h⟩ r k, fun r l => ?_⟩
      refine step_at m c ⟨n + 1, h⟩ _ _ r l (fun k => rows_first m c ⟨n + 1, h⟩ r k) ?_
      rw [zero_at]
      show _ = part _ _ _ _ l (1024 * ((n + 1) % 4))
      rw [h0]
      exact (part_zero _ _ _ _ _).symm
    · have er : ∀ r, rowAt (n + 1) r = rowAt n r := fun r => row_of_div (by omega) r
      have en : 1024 * ((n + 1) % 4) = 1024 * (n % 4) + 1024 := by omega
      by_cases h1 : (n + 1) % 4 = 3
      · have e := outsAt0_C m c ⟨n + 1, h⟩ h0 h1
        rw [show outsAt0 m c (n + 1) h = _ from e]
        dsimp only
        rw [acc_C]
        unfold sout0_C_0
        refine ⟨fun r k => (i1 r k).trans (by rw [er]), fun r l => ?_⟩
        refine step_at m c ⟨n + 1, h⟩ _ _ r l (fun k => (i1 r k).trans (by rw [er])) ((i2 r l).trans ?_)
        dsimp only
        rw [er, en]
      · have e := outsAt0_B m c ⟨n + 1, h⟩ h0 h1
        rw [show outsAt0 m c (n + 1) h = _ from e]
        dsimp only
        rw [acc_B]
        unfold sout0_B_0
        refine ⟨fun r k => (i1 r k).trans (by rw [er]), fun r l => ?_⟩
        refine step_at m c ⟨n + 1, h⟩ _ _ r l (fun k => (i1 r k).trans (by rw [er])) ((i2 r l).trans ?_)
        dsimp only
        rw [er, en]

/-! ## The result array -/

/-- The array the kernel leaves. -/
def goal (c : Dev nD) : S16384x1024.Idx → EReal := fun i => nrm (mlp (rowOf (aX m c) (i 0)) (aG m c) (aU m c) (aW m c)) (aE m c (ix1 (i 1))) (i 1)

theorem goal_at (c : Dev nD) (i : Fin 16384) (j : Fin 1024) :
    goal m c (ix2 i j) = nrm (mlp (rowOf (aX m c) i) (aG m c) (aU m c) (aW m c)) (aE m c (ix1 j)) j := rfl

/-- The block stored at the last point of a row of points. -/
theorem point_at (c : Dev nD) (t : Fin cfg0.N) (h3 : t.val % 4 = 3) (r l : Fin 1024) :
    (outsAt0 m c t.val t.isLt).1 (ix2 r l) = goal m c (ix2 (rowAt t.val r) l) := by
  have hN : cfg0.N = 64 := N_0
  have ht := t.isLt
  have h0 : ¬t.val % 4 = 0 := by omega
  have hr : 1024 * (t.val / 4) + r.val < 16384 := by have := r.isLt; omega
  have hlt : t.val - 1 < cfg0.N := by omega
  obtain ⟨i1, i2⟩ := carried m c (t.val - 1) hlt
  have er : rowAt (t.val - 1) r = rowAt t.val r := row_of_div (by omega) r
  have hs : ∀ l, k0_pay3 (outsAt0 m c (t.val - 1) hlt).2.1 (iblk m c 2 t) (outsAt0 m c (t.val - 1) hlt).2.2 (iblk m c 3 t) (ix2 r l)
      = part (rowOf (aX m c) (rowAt t.val r)) (aG m c) (aU m c) (aW m c) l 4096 := fun l => by
    refine (step_at m c t _ _ r l (fun k => (i1 r k).trans (by rw [er])) ((i2 r l).trans ?_)).trans ?_
    · rw [er, show 1024 * ((t.val - 1) % 4) + 1024 = 1024 * (t.val % 4) by omega]
    · rw [h3]
  rw [outsAt0_C m c t h0 h3]
  dsimp only
  rw [out_C, goal_at]
  rw [last_at, blk4 m c t l]
  refine congrArg (fun D => nrm D _ l) (funext fun k => ?_)
  rw [hs, blk0 m c t r k hr]
  unfold mlp
  rw [row_eq _ _ hr]

theorem cut_at (t : Fin cfg0.N) (x : Vec Ideal S1024x1024 .f32) (r l : Fin 1024) :
    (cfg0.win 5).cut (grid0.coords t) x (ix2 r l) = x (ix2 r l) := rfl

theorem emb_at (t : Fin cfg0.N) (r l : Fin 1024) : (win0_5.blk t).view.emb (ix2 r l) = ix2 (rowAt t.val r) l := by
  have hN : cfg0.N = 64 := N_0
  have ht := t.isLt
  have hr : 1024 * (t.val / 4) + r.val < 16384 := by have := r.isLt; omega
  obtain ⟨-, -, -, -, -, e0, e1⟩ := at_point t
  rw [row_eq _ _ hr]
  funext a; apply Fin.ext
  match a with
  | ⟨0, _⟩ => show win0_5.index t 0 * 1024 + 1 * r.val = 1024 * (t.val / 4) + r.val; rw [e0]; omega
  | ⟨1, _⟩ => show win0_5.index t 1 * 1024 + 1 * l.val = l.val; rw [e1]; omega

theorem flushed_eq (c : Dev nD) (t : Fin cfg0.N) (hf : (cfg0.win 5).flush t = true) :
    (dats m 0 c).flushed 5 t = (win0_5.blk t).view.read (Elt Ideal) (goal m c) := by
  have h3 : t.val % 4 = 3 := (flush0_5 t).mp hf
  funext j
  idx_vars j
  rw [Value.flushed5, View.read_apply]
  refine (cut_at t _ j0 j1).trans ((point_at m c t h3 j0 j1).trans ?_)
  show _ = goal m c ((win0_5.blk t).view.emb (ix2 j0 j1))
  rw [emb_at t j0 j1]

theorem mem_blk (t : Fin cfg0.N) (i : S16384x1024.Idx) : i ∈ ((cfg0.win 5).blk t).view.set ↔
    ∀ a : Fin 2, win0_5.index t a * win0_5.size a ≤ (i a : Nat) ∧ (i a : Nat) < win0_5.index t a * win0_5.size a + win0_5.xsize (grid0.coords t) a := by
  show i ∈ ((View.whole main_v4).slice (win0_5.rect t)).set ↔ _
  rw [View.set_slice_whole, Rect.mem_set_unit]
  rfl

theorem cover (i : S16384x1024.Idx) : ∃ t : Fin cfg0.N, (cfg0.win 5).flush t = true ∧ i ∈ ((cfg0.win 5).blk t).view.set := by
  have hN : cfg0.N = 64 := N_0
  have hi0 : (i 0).val < 16384 := (i 0).isLt
  have hi1 : (i 1).val < 1024 := (i 1).isLt
  have ht : 4 * ((i 0).val / 1024) + 3 < cfg0.N := by omega
  refine ⟨⟨_, ht⟩, (flush0_5 _).mpr (by dsimp only; omega), ?_⟩
  obtain ⟨-, -, -, -, -, h0, h1⟩ := at_point ⟨_, ht⟩
  rw [mem_blk]
  intro a
  match a with
  | ⟨0, _⟩ =>
    show win0_5.index _ 0 * 1024 ≤ (i 0 : Nat) ∧ (i 0 : Nat) < win0_5.index _ 0 * 1024 + 1024
    rw [h0]; dsimp only; omega
  | ⟨1, _⟩ =>
    show win0_5.index _ 1 * 1024 ≤ (i 1 : Nat) ∧ (i 1 : Nat) < win0_5.index _ 1 * 1024 + 1024
    rw [h1]; omega

theorem result (c : Dev nD) : (dats m 0 c).arrAt 5 cfg0.N = goal m c :=
  (dats m 0 c).arrAt_eq_of_cover 5 (goal m c) (fun t hf => flushed_eq m c t hf) cover

end Cert.LastVal

/-! ## The reference, entry by entry -/

namespace Cert.LastVal.Ref

open Cert.LastRefIdeal Cert.LastRefIdeal.Gen Cert.LastRefIdeal.Read Cert.Layer

variable (x0 : (⟨2, ![16384, 1024]⟩ : Shape).Idx → EReal) (x1 : (⟨1, ![1024]⟩ : Shape).Idx → EReal)
  (x2 : (⟨2, ![1024, 4096]⟩ : Shape).Idx → EReal) (x3 : (⟨2, ![4096, 1024]⟩ : Shape).Idx → EReal) (x4 : (⟨1, ![1024]⟩ : Shape).Idx → EReal)

theorem sq_at (i : Fin 16384) (k : Fin 1024) : val_main_v0 (F := Ideal) x0 (idx_main_v1 (ix1 i) k) = x0 (ix2 i k) * x0 (ix2 i k) := by
  have e : idx_main_v1 (ix1 i) k = ix2 i k := funext fun a => by
    match a with
    | ⟨0, _⟩ => rfl
    | ⟨1, _⟩ => rfl
  rw [val_main_v0_apply, e, Ideal.mulf_def]

theorem sum_at (i : Fin 16384) : val_main_v1 (F := Ideal) x0 (ix1 i) = ∑ k : Fin 1024, x0 (ix2 i k) * x0 (ix2 i k) := by
  rw [val_main_v1_apply, val_main_cst_apply, Ideal.ofBits_def, Ideal.ofBits_zero_f32, zero_add]
  exact Finset.sum_congr rfl fun k _ => sq_at x0 i k

theorem scale_at (i : Fin 16384) : val_main_v7 (F := Ideal) x0 (ix2 i 0)
    = Ideal.rsqrt (Ideal.div (∑ k : Fin 1024, x0 (ix2 i k) * x0 (ix2 i k)) (Ideal.ofBits .f32 0x44800000#32) + Ideal.ofBits .f32 0x358637BD#32) := by
  have e : idx_main_v2 (ix2 i 0) = ix1 i := funext fun a => by
    match a with
    | ⟨0, _⟩ => rfl
  rw [val_main_v7_apply, val_main_v6_apply, val_main_v4_apply, val_main_v2_apply, e, sum_at, val_main_v3_apply, val_main_v5_apply,
    val_main_cst_0_apply, val_main_cst_1_apply, Ideal.hostUnary_rsqrt_def, Ideal.addf_def, Ideal.hostDivf_def, Ideal.ofBits_def, Ideal.ofBits_def]

theorem norm_at (i : Fin 16384) (k : Fin 1024) : val_main_v12 (F := Ideal) x0 x1 (ix2 i k) = nrm (rowOf x0 i) (x1 (ix1 k)) k := by
  have e8 : idx_main_v8 (ix2 i k) = ix2 i 0 := funext fun a => by
    match a with
    | ⟨0, _⟩ => rfl
    | ⟨1, _⟩ => rfl
  have e10 : idx_main_v10 (idx_main_v11 (ix2 i k)) = ix1 k := funext fun a => by
    match a with
    | ⟨0, _⟩ => rfl
  rw [val_main_v12_apply, val_main_v9_apply, val_main_v8_apply, e8, scale_at, val_main_v11_apply, val_main_v10_apply, e10, Ideal.mulf_def, Ideal.mulf_def]
  rfl

theorem up_at (i : Fin 16384) (f : Fin 4096) : val_main_v13 (F := Ideal) x0 x1 x2 (ix2 i f) = dotN (rowOf x0 i) x1 x2 f := by
  rw [val_main_v13_apply]
  unfold dotN
  refine Finset.sum_congr rfl fun k _ => ?_
  have el : lidx_main_v13 (ix2 i f) k = ix2 i k := funext fun a => by
    match a with
    | ⟨0, _⟩ => rfl
    | ⟨1, _⟩ => rfl
  have er : ridx_main_v13 (ix2 i f) k = ix2 k f := funext fun a => by
    match a with
    | ⟨0, _⟩ => rfl
    | ⟨1, _⟩ => rfl
  rw [el, er, norm_at]

theorem act_at (i : Fin 16384) (f : Fin 4096) : val_main_v15 (F := Ideal) x0 x1 x2 (ix2 i f) = act (dotN (rowOf x0 i) x1 x2 f) := by
  rw [val_main_v15_apply, val_main_v14_apply, up_at, val_main_call0_v0_apply, val_main_call0_cst_apply, Ideal.mulf_def, Ideal.maximumf_def, Ideal.ofBits_def]
  rfl

theorem down_at (i : Fin 16384) (j : Fin 1024) : val_main_v16 (F := Ideal) x0 x1 x2 x3 (ix2 i j) = part (rowOf x0 i) x1 x2 x3 j 4096 := by
  rw [val_main_v16_apply, part_all]
  refine Finset.sum_congr rfl fun k _ => ?_
  have el : lidx_main_v16 (ix2 i j) k = ix2 i k := funext fun a => by
    match a with
    | ⟨0, _⟩ => rfl
    | ⟨1, _⟩ => rfl
  have er : ridx_main_v16 (ix2 i j) k = ix2 k j := funext fun a => by
    match a with
    | ⟨0, _⟩ => rfl
    | ⟨1, _⟩ => rfl
  rw [el, er, act_at]

theorem mlp_at (i : Fin 16384) (j : Fin 1024) : val_main_v17 (F := Ideal) x0 x1 x2 x3 (ix2 i j) = mlp (rowOf x0 i) x1 x2 x3 j := by
  rw [val_main_v17_apply, down_at, Ideal.addf_def]
  rfl

theorem sq2_at (i : Fin 16384) (k : Fin 1024) : val_main_v18 (F := Ideal) x0 x1 x2 x3 (idx_main_v19 (ix1 i) k)
    = mlp (rowOf x0 i) x1 x2 x3 k * mlp (rowOf x0 i) x1 x2 x3 k := by
  have e : idx_main_v19 (ix1 i) k = ix2 i k := funext fun a => by
    match a with
    | ⟨0, _⟩ => rfl
    | ⟨1, _⟩ => rfl
  rw [val_main_v18_apply, e, mlp_at, Ideal.mulf_def]

theorem sum2_at (i : Fin 16384) : val_main_v19 (F := Ideal) x0 x1 x2 x3 (ix1 i)
    = ∑ k : Fin 1024, mlp (rowOf x0 i) x1 x2 x3 k * mlp (rowOf x0 i) x1 x2 x3 k := by
  rw [val_main_v19_apply, val_main_cst_2_apply, Ideal.ofBits_def, Ideal.ofBits_zero_f32, zero_add]
  exact Finset.sum_congr rfl fun k _ => sq2_at x0 x1 x2 x3 i k

theorem scale2_at (i : Fin 16384) : val_main_v25 (F := Ideal) x0 x1 x2 x3 (ix2 i 0)
    = Ideal.rsqrt (Ideal.div (∑ k : Fin 1024, mlp (rowOf x0 i) x1 x2 x3 k * mlp (rowOf x0 i) x1 x2 x3 k) (Ideal.ofBits .f32 0x44800000#32)
        + Ideal.ofBits .f32 0x358637BD#32) := by
  have e : idx_main_v20 (ix2 i 0) = ix1 i := funext fun a => by
    match a with
    | ⟨0, _⟩ => rfl
  rw [val_main_v25_apply, val_main_v24_apply, val_main_v22_apply, val_main_v20_apply, e, sum2_at, val_main_v21_apply, val_main_v23_apply,
    val_main_cst_3_apply, val_main_cst_4_apply, Ideal.hostUnary_rsqrt_def, Ideal.addf_def, Ideal.hostDivf_def, Ideal.ofBits_def, Ideal.ofBits_def]

theorem last_at (i : Fin 16384) (j : Fin 1024) :
    val_main_v30 (F := Ideal) x0 x1 x2 x3 x4 (ix2 i j) = nrm (mlp (rowOf x0 i) x1 x2 x3) (x4 (ix1 j)) j := by
  have e8 : idx_main_v26 (ix2 i j) = ix2 i 0 := funext fun a => by
    match a with
    | ⟨0, _⟩ => rfl
    | ⟨1, _⟩ => rfl
  have e10 : idx_main_v28 (idx_main_v29 (ix2 i j)) = ix1 j := funext fun a => by
    match a with
    | ⟨0, _⟩ => rfl
  rw [val_main_v30_apply, val_main_v27_apply, mlp_at, val_main_v26_apply, e8, scale2_at, val_main_v29_apply, val_main_v28_apply, e10,
    Ideal.mulf_def, Ideal.mulf_def]
  rfl

end Cert.LastVal.Ref

namespace Cert.LastVal

theorem algebraic : Cert.algebraic_LastIdeal_LastRefIdeal := by
  intro m ρ m' ρ' _ hagree
  refine ⟨fun c => goal m c, ?_, ?_⟩
  · exact (θ_run Cert.LastIdeal.defs _ _).mono (fun _ h c => ⟨(h c).1.trans (result m c), (h c).2⟩) (Cert.LastIdeal.Value.run_blocks (F := Ideal) m ρ)
  · refine (θ_run Cert.LastRefIdeal.defs _ _).mono (fun _ h c => ⟨(h c).1.trans ?_, (h c).2⟩) (Cert.LastRefIdeal.Value.run (F := Ideal) m' ρ')
    rw [Cert.LastRefIdeal.Read.val_main_v30_eq, (hagree c).1, (hagree c).2.1, (hagree c).2.2.1, (hagree c).2.2.2.1, (hagree c).2.2.2.2]
    funext j
    idx_vars j
    exact Ref.last_at (aX m c) (aG m c) (aU m c) (aW m c) (aE m c) j0 j1

end Cert.LastVal

end
-- ==== Proof.MInVal.lean ====
/-
  The input projection of the mLSTM layers: the pipelined kernel normalizes a block of rows once and multiplies it by one block of
  columns of the padded weight matrix at a time; the reference multiplies the whole normalized array by the matrix and pads the product.
-/
module

public import proofs.«01_k».proof.Defs
public import proofs.«01_k».proof.Proof.Gen.MInIdeal.Value
public import proofs.«01_k».proof.Proof.Gen.MInRefIdeal.Run
public import proofs.«01_k».proof.Proof.Gen.MInRefIdeal.Read
public import proofs.«01_k».proof.Proof.Layer
public import Idealize.ShloMosaic.Lib.KernelVsHost
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MInVal

open Cert.MInIdeal Cert.MInIdeal.Gen Cert.Layer

theorem hz : (![0, 0] : Fin 2 → Nat) = fun _ => 0 := funext fun a => by fin_cases a <;> rfl

/-- Columns of the padding value set after an array, read at an entry. -/
theorem pad_at {n p q : ℕ} (x : (⟨2, ![n, 3080]⟩ : Shape).Idx → EReal) {u : Shape} (v : u.Idx → EReal)
    (h : (⟨2, ![n, 3080]⟩ : Shape).Pads ![0, 0] ![0, q] ![0, 0] ⟨2, ![n, p]⟩) (hu : 0 < u.numel) (i : Fin n) (j : Fin p) :
    pad ⟨2, ![n, p]⟩ ![0, 0] ![0, q] ![0, 0] x v h hu (ix2 i j)
      = if hj : j.val < 3080 then x (ix2 i ⟨j.val, hj⟩) else v (Shape.Idx.first hu) := by
  by_cases hj : j.val < 3080
  · rw [dif_pos hj]
    refine pad_apply_of_inside _ _ _ x v h hu (ix2 i j) (ix2 i ⟨j.val, hj⟩) fun a => ?_
    match a with
    | ⟨0, _⟩ => show i.val = 0 + i.val * (0 + 1); omega
    | ⟨1, _⟩ => show j.val = 0 + j.val * (0 + 1); omega
  · rw [dif_neg hj]
    refine pad_apply_of_not_inside _ _ _ x v h hu (ix2 i j) (1 : Fin 2) fun hh => hj ?_
    have h2 : (j.val - 0) / (0 + 1) < 3080 := hh.2.2
    simpa using h2

/-! ## What the body stores, as values -/

section
variable (c : Dev nD) (i : grid0.Coords) (a2 : Memref sig .tc .vmem S1024x1024 .f32) (h2 : a2.IsWhole) (a3 : Memref sig .tc .vmem S1x1024 .f32) (h3 : a3.IsWhole) (a4 : Memref sig .tc .vmem S1024x640 .bf16) (h4 : a4.IsWhole) (a5 : Memref sig .tc .vmem S1024x640 .f32) (h5 : a5.IsWhole) (a6 : Memref sig .tc .vmem S1024x1024 .bf16) (h6 : a6.IsWhole)
variable (x0 : Vec Ideal S1024x1024 .f32) (x1 : Vec Ideal S1x1024 .f32) (x2 : Vec Ideal S1024x640 .bf16) (xs0 : Vec Ideal S1024x1024 .bf16)

theorem rows_A (hc0 : cond0_0 i) :
    sout0_A_0 (F := Ideal) c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem out_A (hc0 : cond0_0 i) :
    out0_A_3 (F := Ideal) c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero hz]
  simp only [View.readCov_unit_zero (S := S1024x1024) _ hz, View.readAt_eq_ld, h2.read_unread, h3.read_unread, h4.read_unread,
    View.ld_unit_zero (S := S1024x1024) hz, View.ld_unit_zero (S := S1x1024) hz, View.ld_unit_zero (S := S1024x640) hz]

theorem out_B (hc0 : ¬cond0_0 i) :
    out0_B_3 (F := Ideal) c i a2 h2 a3 h3 a4 h4 a5 h5 a6 h6 hc0 x0 x1 x2 xs0 = k0_pay2 xs0 x2 := by
  unfold out0_B_3
  rw [View.read_writes_eq_canon _ _ _ (cover0_B_3 c i a2 h2 a3 h3 a4 h4 a5 h5 a6 h6 hc0 x0 x1 x2 xs0)]
  unfold kernelRun0_B
  dsimp only
  sl_unfold_words
  rw [View.canon_unit_zero hz]
  simp only [View.readAt_eq_ld, h4.read_unread, h6.read_unread, View.ld_unit_zero (S := S1024x1024) hz, View.ld_unit_zero (S := S1024x640) hz]
end

/-! ## The stored blocks at an entry -/

theorem rows_at (x0 : Vec Ideal S1024x1024 .f32) (x1 : Vec Ideal S1x1024 .f32) (r k : Fin 1024) :
    k0_pay1 x0 x1 (ix2 r k) = nrm (fun l => x0 (ix2 r l)) (x1 (ix2 0 k)) k := by
  unfold nrm
  pointwise [k0_pay1]

theorem out_at (v3 : Vec Ideal S1024x1024 .bf16) (v4 : Vec Ideal S1024x640 .bf16) (r : Fin 1024) (l : Fin 640) :
    k0_pay2 v3 v4 (ix2 r l) = ∑ k : Fin 1024, v3 (ix2 r k) * v4 (ix2 k l) := by
  pointwise [k0_pay2]

variable (m : (ℓ : Loc nD τ sig) → Buf (Elt Ideal) ℓ)

/-- Where the windows stand at a point of the grid. -/
theorem at_point : ∀ t : Fin cfg0.N, (win0_0.index t 0 = t.val / 5 ∧ win0_0.index t 1 = 0) ∧ (win0_1.index t 0 = 0 ∧ win0_1.index t 1 = 0)
    ∧ (win0_2.index t 0 = 0 ∧ win0_2.index t 1 = t.val % 5) ∧ (win0_3.index t 0 = t.val / 5 ∧ win0_3.index t 1 = t.val % 5) :=
  (by decide +kernel : ∀ t : Fin grid0.N, (win0_0.index t 0 = t.val / 5 ∧ win0_0.index t 1 = 0) ∧ (win0_1.index t 0 = 0 ∧ win0_1.index t 1 = 0)
    ∧ (win0_2.index t 0 = 0 ∧ win0_2.index t 1 = t.val % 5) ∧ (win0_3.index t 0 = t.val / 5 ∧ win0_3.index t 1 = t.val % 5))

/-- The rows, the gain and the weight matrix. -/
abbrev aX (c : Dev nD) : (⟨2, ![16384, 1024]⟩ : Shape).Idx → EReal := m ((c : Thread nD τ).loc main_arg0)
abbrev aG (c : Dev nD) : (⟨1, ![1024]⟩ : Shape).Idx → EReal := m ((c : Thread nD τ).loc main_arg1)
abbrev aU (c : Dev nD) : (⟨2, ![1024, 3080]⟩ : Shape).Idx → EReal := m ((c : Thread nD τ).loc main_arg2)

/-- The padding value is zero. -/
theorem pad_zero (z : S_.Idx) : (sitofp .f32 (constantI S_ 32 0#32) : FVec Ideal S_ .f32) z = 0 := by
  show (((0#32 : BitVec 32).toInt : ℝ) : EReal) = 0
  rw [show (0#32 : BitVec 32).toInt = 0 from rfl, Int.cast_zero, EReal.coe_zero]

theorem weights_at (c : Dev nD) (k : Fin 1024) (j : Fin 3200) :
    V m c main_v1 (ix2 k j) = if hj : j.val < 3080 then aU m c (ix2 k ⟨j.val, hj⟩) else 0 := by
  have e : V m c main_v1 = pad S1024x3200 ![0, 0] ![0, 120] ![0, 0] (m ((c : Thread nD τ).loc main_arg2)) (sitofp (F := Ideal) .f32 (constantI S_ 32 0#32)) pads_S1024x3080_S1024x3200_000_01200 h_S_ := by
    unfold V hostOps0 hostOps0_1 hostOps0_2
    simp only [List.flatten_cons, List.flatten_nil, List.append_nil, List.cons_append, List.nil_append]
    after_results
    rfl
  rw [e]
  refine (pad_at (aU m c) _ _ _ k j).trans ?_
  rw [pad_zero]

theorem gain_at (c : Dev nD) (l : Fin 1024) : V m c main_v2 (ix2 0 l) = aG m c (ix1 l) := by
  have e : V m c main_v2 = shapeCast _ (m ((c : Thread nD τ).loc main_arg1)) shapeCasts_S1024_S1x1024 := by
    unfold V hostOps0 hostOps0_1 hostOps0_2
    simp only [List.flatten_cons, List.flatten_nil, List.append_nil, List.cons_append, List.nil_append]
    after_results
    rfl
  rw [e]
  exact shapeCast_apply _ shapeCasts_S1024_S1x1024 (ix2 0 l) (ix1 l) (by rw [Shape.rowMajor_val_two, Shape.rowMajor_val_one]; show l.val = 0 * 1024 + l.val; omega)

theorem blk0 (c : Dev nD) (t : Fin cfg0.N) (r l : Fin 1024) (hr : 1024 * (t.val / 5) + r.val < 16384) :
    iblk m c 0 t (ix2 r l) = aX m c (ix2 ⟨1024 * (t.val / 5) + r.val, hr⟩ l) := by
  obtain ⟨⟨h0, h1⟩, -⟩ := at_point t
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_0.index t 0 * 1024 + 1 * r.val = 1024 * (t.val / 5) + r.val; rw [h0]; omega
  | ⟨1, _⟩ => show win0_0.index t 1 * 1024 + 1 * l.val = l.val; rw [h1]; omega

theorem blk1 (c : Dev nD) (t : Fin cfg0.N) (l : Fin 1024) : iblk m c 1 t (ix2 0 l) = aG m c (ix1 l) := by
  obtain ⟨-, ⟨h0, h1⟩, -⟩ := at_point t
  rw [← gain_at m c l]
  unfold iblk
  rw [View.read_apply]
  show V m c main_v2 _ = V m c main_v2 _
  congr 1; funext a; apply Fin.ext
  match a with
  | ⟨0, _⟩ => show win0_1.index t 0 * 1 + 1 * 0 = 0; rw [h0]
  | ⟨1, _⟩ => show win0_1.index t 1 * 1024 + 1 * l.val = l.val; rw [h1]; omega

theorem blk2 (c : Dev nD) (t : Fin cfg0.N) (k : Fin 1024) (f : Fin 640) (hf : 640 * (t.val % 5) + f.val < 3200) :
    iblk m c 2 t (ix2 k f) = V m c main_v1 (ix2 k ⟨640 * (t.val % 5) + f.val, hf⟩) := by
  obtain ⟨-, -, ⟨h0, h1⟩, -⟩ := at_point t
  unfold iblk
  rw [View.read_apply]
  show V m c main_v1 _ = V m c main_v1 _
  congr 1; funext a; apply Fin.ext
  match a with
  | ⟨0, _⟩ => show win0_2.index t 0 * 1024 + 1 * k.val = k.val; rw [h0]; omega
  | ⟨1, _⟩ => show win0_2.index t 1 * 640 + 1 * f.val = 640 * (t.val % 5) + f.val; rw [h1]; omega

/-! ## The normalized rows that the points share -/

/-- The row of the input that row `r` of the block at point `n` is. -/
def rowAt (n : ℕ) (r : Fin 1024) : Fin 16384 := ⟨(1024 * (n / 5) + r.val) % 16384, Nat.mod_lt _ (by omega)⟩

theorem row_eq (n : ℕ) (r : Fin 1024) (hr : 1024 * (n / 5) + r.val < 16384) : rowAt n r = ⟨1024 * (n / 5) + r.val, hr⟩ :=
  Fin.ext (Nat.mod_eq_of_lt hr)

theorem row_of_div {n n' : ℕ} (e : n / 5 = n' / 5) (r : Fin 1024) : rowAt n r = rowAt n' r :=
  Fin.ext (by show (1024 * (n / 5) + r.val) % 16384 = (1024 * (n' / 5) + r.val) % 16384; rw [e])

theorem rows_first (c : Dev nD) (t : Fin cfg0.N) (r k : Fin 1024) :
    k0_pay1 (iblk m c 0 t) (iblk m c 1 t) (ix2 r k) = nrm (rowOf (aX m c) (rowAt t.val r)) (aG m c (ix1 k)) k := by
  have hN : cfg0.N = 80 := N_0
  have ht := t.isLt
  have hr : 1024 * (t.val / 5) + r.val < 16384 := by have := r.isLt; omega
  rw [rows_at, blk1 m c t k, row_eq _ _ hr]
  refine congrArg (fun D => nrm D _ k) (funext fun l => ?_)
  exact blk0 m c t r l hr

theorem carried (c : Dev nD) : ∀ (n : ℕ) (h : n < cfg0.N) (r k : Fin 1024),
    (outsAt0 m c n h).2 (ix2 r k) = nrm (rowOf (aX m c) (rowAt n r)) (aG m c (ix1 k)) k := by
  intro n
  induction n with
  | zero =>
    intro h r k
    rw [show outsAt0 m c 0 h = _ from outsAt0_A m c ⟨0, h⟩ (Nat.zero_mod _)]
    dsimp only
    rw [rows_A]
    exact rows_first m c ⟨0, h⟩ r k
  | succ n ih =>
    intro h r k
    by_cases h0 : (n + 1) % 5 = 0
    · rw [show outsAt0 m c (n + 1) h = _ from outsAt0_A m c ⟨n + 1, h⟩ h0]
      dsimp only
      rw [rows_A]
      exact rows_first m c ⟨n + 1, h⟩ r k
    · rw [show outsAt0 m c (n + 1) h = _ from outsAt0_B m c ⟨n + 1, h⟩ h0]
      dsimp only
      unfold sout0_B_0
      refine (ih (Nat.lt_of_succ_lt h) r k).trans ?_
      rw [row_of_div (show (n + 1) / 5 = n / 5 by omega)]

/-! ## The result array -/

/-- Entry `(i, j)` of the result: the normalized row times column `j`, zero in the columns set after the matrix. -/
def proj (X : (⟨2, ![16384, 1024]⟩ : Shape).Idx → EReal) (G : (⟨1, ![1024]⟩ : Shape).Idx → EReal) (U : (⟨2, ![1024, 3080]⟩ : Shape).Idx → EReal)
    (i : Fin 16384) (j : Fin 3200) : EReal :=
  if hj : j.val < 3080 then dotN (rowOf X i) G U ⟨j.val, hj⟩ else 0

/-- The array the kernel leaves. -/
def goal (c : Dev nD) : S16384x3200.Idx → EReal := fun i => proj (aX m c) (aG m c) (aU m c) (i 0) (i 1)

theorem goal_at (c : Dev nD) (i : Fin 16384) (j : Fin 3200) : goal m c (ix2 i j) = proj (aX m c) (aG m c) (aU m c) i j := rfl

/-- The column of the result that column `f` of the block at point `n` is. -/
def colAt (n : ℕ) (f : Fin 640) : Fin 3200 := ⟨640 * (n % 5) + f.val, by have := f.isLt; have := Nat.mod_lt n (show 0 < 5 by omega); omega⟩

theorem product_at (c : Dev nD) (t : Fin cfg0.N) (x : Vec Ideal S1024x1024 .bf16) (r : Fin 1024) (f : Fin 640)
    (hx : ∀ k, x (ix2 r k) = nrm (rowOf (aX m c) (rowAt t.val r)) (aG m c (ix1 k)) k) :
    k0_pay2 x (iblk m c 2 t) (ix2 r f) = goal m c (ix2 (rowAt t.val r) (colAt t.val f)) := by
  rw [out_at, goal_at]
  unfold proj
  have e : ∀ k, iblk m c 2 t (ix2 k f) = if hj : (colAt t.val f).val < 3080 then aU m c (ix2 k ⟨(colAt t.val f).val, hj⟩) else 0 :=
    fun k => (blk2 m c t k f (colAt t.val f).isLt).trans (weights_at m c k (colAt t.val f))
  by_cases hj : (colAt t.val f).val < 3080
  · rw [dif_pos hj]
    unfold dotN
    refine Finset.sum_congr rfl fun k _ => ?_
    rw [hx, e, dif_pos hj]
  · rw [dif_neg hj]
    refine Finset.sum_eq_zero fun k _ => ?_
    rw [e, dif_neg hj, mul_zero]

theorem point_at (c : Dev nD) (t : Fin cfg0.N) (r : Fin 1024) (f : Fin 640) :
    (outsAt0 m c t.val t.isLt).1 (ix2 r f) = goal m c (ix2 (rowAt t.val r) (colAt t.val f)) := by
  by_cases h0 : t.val % 5 = 0
  · rw [outsAt0_A m c t h0]
    dsimp only
    rw [out_A]
    exact product_at m c t _ r f fun k => rows_first m c t r k
  · rw [outsAt0_B m c t h0]
    dsimp only
    rw [out_B]
    refine product_at m c t _ r f fun k => (carried m c (t.val - 1) _ r k).trans ?_
    rw [row_of_div (show (t.val - 1) / 5 = t.val / 5 by omega)]

theorem cut_at (t : Fin cfg0.N) (x : Vec Ideal S1024x640 .f32) (r : Fin 1024) (f : Fin 640) :
    (cfg0.win 3).cut (grid0.coords t) x (ix2 r f) = x (ix2 r f) := rfl

theorem emb_at (t : Fin cfg0.N) (r : Fin 1024) (f : Fin 640) : (win0_3.blk t).view.emb (ix2 r f) = ix2 (rowAt t.val r) (colAt t.val f) := by
  have hN : cfg0.N = 80 := N_0
  have ht := t.isLt
  have hr : 1024 * (t.val / 5) + r.val < 16384 := by have := r.isLt; omega
  obtain ⟨-, -, -, e0, e1⟩ := at_point t
  rw [row_eq _ _ hr]
  funext a; apply Fin.ext
  match a with
  | ⟨0, _⟩ => show win0_3.index t 0 * 1024 + 1 * r.val = 1024 * (t.val / 5) + r.val; rw [e0]; omega
  | ⟨1, _⟩ => show win0_3.index t 1 * 640 + 1 * f.val = 640 * (t.val % 5) + f.val; rw [e1]; omega

theorem flushed_eq (c : Dev nD) (t : Fin cfg0.N) :
    (dats m 0 c).flushed 3 t = (win0_3.blk t).view.read (Elt Ideal) (goal m c) := by
  funext j
  idx_vars j
  rw [Value.flushed3, View.read_apply]
  refine (cut_at t _ j0 j1).trans ((point_at m c t j0 j1).trans ?_)
  show _ = goal m c ((win0_3.blk t).view.emb (ix2 j0 j1))
  rw [emb_at t j0 j1]

theorem mem_blk (t : Fin cfg0.N) (i : S16384x3200.Idx) : i ∈ ((cfg0.win 3).blk t).view.set ↔
    ∀ a : Fin 2, win0_3.index t a * win0_3.size a ≤ (i a : Nat) ∧ (i a : Nat) < win0_3.index t a * win0_3.size a + win0_3.xsize (grid0.coords t) a := by
  show i ∈ ((View.whole main_v3).slice (win0_3.rect t)).set ↔ _
  rw [View.set_slice_whole, Rect.mem_set_unit]
  rfl

theorem cover (i : S16384x3200.Idx) : ∃ t : Fin cfg0.N, (cfg0.win 3).flush t = true ∧ i ∈ ((cfg0.win 3).blk t).view.set := by
  have hN : cfg0.N = 80 := N_0
  have hi0 : (i 0).val < 16384 := (i 0).isLt
  have hi1 : (i 1).val < 3200 := (i 1).isLt
  have ht : 5 * ((i 0).val / 1024) + (i 1).val / 640 < cfg0.N := by omega
  refine ⟨⟨_, ht⟩, flush0_3 _, ?_⟩
  obtain ⟨-, -, -, h0, h1⟩ := at_point ⟨_, ht⟩
  rw [mem_blk]
  intro a
  match a with
  | ⟨0, _⟩ =>
    show win0_3.index _ 0 * 1024 ≤ (i 0 : Nat) ∧ (i 0 : Nat) < win0_3.index _ 0 * 1024 + 1024
    rw [h0]; dsimp only; omega
  | ⟨1, _⟩ =>
    show win0_3.index _ 1 * 640 ≤ (i 1 : Nat) ∧ (i 1 : Nat) < win0_3.index _ 1 * 640 + 640
    rw [h1]; dsimp only; omega

theorem result (c : Dev nD) : (dats m 0 c).arrAt 3 cfg0.N = goal m c :=
  (dats m 0 c).arrAt_eq_of_cover 3 (goal m c) (fun t _ => flushed_eq m c t) cover

end Cert.MInVal

/-! ## The reference, entry by entry -/

namespace Cert.MInVal.Ref

open Cert.MInRefIdeal Cert.MInRefIdeal.Gen Cert.MInRefIdeal.Read Cert.Layer

variable (x0 : (⟨2, ![16384, 1024]⟩ : Shape).Idx → EReal) (x1 : (⟨1, ![1024]⟩ : Shape).Idx → EReal)
  (x2 : (⟨2, ![1024, 3080]⟩ : Shape).Idx → EReal)

theorem sq_at (i : Fin 16384) (k : Fin 1024) : val_main_v0 (F := Ideal) x0 (idx_main_v1 (ix1 i) k) = x0 (ix2 i k) * x0 (ix2 i k) := by
  have e : idx_main_v1 (ix1 i) k = ix2 i k := funext fun a => by
    match a with
    | ⟨0, _⟩ => rfl
    | ⟨1, _⟩ => rfl
  rw [val_main_v0_apply, e, Ideal.mulf_def]

theorem sum_at (i : Fin 16384) : val_main_v1 (F := Ideal) x0 (ix1 i) = ∑ k : Fin 1024, x0 (ix2 i k) * x0 (ix2 i k) := by
  rw [val_main_v1_apply, val_main_cst_apply, Ideal.ofBits_def, Ideal.ofBits_zero_f32, zero_add]
  exact Finset.sum_congr rfl fun k _ => sq_at x0 i k

theorem scale_at (i : Fin 16384) : val_main_v7 (F := Ideal) x0 (ix2 i 0)
    = Ideal.rsqrt (Ideal.div (∑ k : Fin 1024, x0 (ix2 i k) * x0 (ix2 i k)) (Ideal.ofBits .f32 0x44800000#32) + Ideal.ofBits .f32 0x358637BD#32) := by
  have e : idx_main_v2 (ix2 i 0) = ix1 i := funext fun a => by
    match a with
    | ⟨0, _⟩ => rfl
  rw [val_main_v7_apply, val_main_v6_apply, val_main_v4_apply, val_main_v2_apply, e, sum_at, val_main_v3_apply, val_main_v5_apply,
    val_main_cst_0_apply, val_main_cst_1_apply, Ideal.hostUnary_rsqrt_def, Ideal.addf_def, Ideal.hostDivf_def, Ideal.ofBits_def, Ideal.ofBits_def]

theorem norm_at (i : Fin 16384) (k : Fin 1024) : val_main_v12 (F := Ideal) x0 x1 (ix2 i k) = nrm (rowOf x0 i) (x1 (ix1 k)) k := by
  have e8 : idx_main_v8 (ix2 i k) = ix2 i 0 := funext fun a => by
    match a with
    | ⟨0, _⟩ => rfl
    | ⟨1, _⟩ => rfl
  have e10 : idx_main_v10 (idx_main_v11 (ix2 i k)) = ix1 k := funext fun a => by
    match a with
    | ⟨0, _⟩ => rfl
  rw [val_main_v12_apply, val_main_v9_apply, val_main_v8_apply, e8, scale_at, val_main_v11_apply, val_main_v10_apply, e10, Ideal.mulf_def, Ideal.mulf_def]
  rfl

theorem up_at (i : Fin 16384) (f : Fin 3080) : val_main_v13 (F := Ideal) x0 x1 x2 (ix2 i f) = dotN (rowOf x0 i) x1 x2 f := by
  rw [val_main_v13_apply]
  unfold dotN
  refine Finset.sum_congr rfl fun k _ => ?_
  have el : lidx_main_v13 (ix2 i f) k = ix2 i k := funext fun a => by
    match a with
    | ⟨0, _⟩ => rfl
    | ⟨1, _⟩ => rfl
  have er : ridx_main_v13 (ix2 i f) k = ix2 k f := funext fun a => by
    match a with
    | ⟨0, _⟩ => rfl
    | ⟨1, _⟩ => rfl
  rw [el, er, norm_at]

theorem proj_at (i : Fin 16384) (j : Fin 3200) : val_main_v14 (F := Ideal) x0 x1 x2 (ix2 i j) = proj x0 x1 x2 i j := by
  unfold val_main_v14
  refine (pad_at (val_main_v13 (F := Ideal) x0 x1 x2) _ _ _ i j).trans ?_
  unfold proj
  by_cases hj : j.val < 3080
  · rw [dif_pos hj, dif_pos hj]
    exact up_at x0 x1 x2 i ⟨j.val, hj⟩
  · rw [dif_neg hj, dif_neg hj]
    exact pad_zero _

end Cert.MInVal.Ref

namespace Cert.MInVal

theorem algebraic : Cert.algebraic_MInIdeal_MInRefIdeal := by
  intro m ρ m' ρ' _ hagree
  refine ⟨fun c => goal m c, ?_, ?_⟩
  · exact (θ_run Cert.MInIdeal.defs _ _).mono (fun _ h c => ⟨(h c).1.trans (result m c), (h c).2⟩) (Cert.MInIdeal.Value.run_blocks (F := Ideal) m ρ)
  · refine (θ_run Cert.MInRefIdeal.defs _ _).mono (fun _ h c => ⟨(h c).1.trans ?_, (h c).2⟩) (Cert.MInRefIdeal.Value.run (F := Ideal) m' ρ')
    rw [Cert.MInRefIdeal.Read.val_main_v14_eq, (hagree c).1, (hagree c).2.1, (hagree c).2.2]
    funext j
    idx_vars j
    exact Ref.proj_at (aX m c) (aG m c) (aU m c) j0 j1

end Cert.MInVal

end
-- ==== Proof.SInVal.lean ====
/-
  The input projection of the SSD layers: the pipelined kernel normalizes a block of rows once and multiplies it by one block of
  columns of the padded weight matrix at a time; the reference multiplies the whole normalized array by the matrix and pads the product.
-/
module

public import proofs.«01_k».proof.Defs
public import proofs.«01_k».proof.Proof.Gen.SInIdeal.Value
public import proofs.«01_k».proof.Proof.Gen.SInRefIdeal.Run
public import proofs.«01_k».proof.Proof.Gen.SInRefIdeal.Read
public import proofs.«01_k».proof.Proof.Layer
public import Idealize.ShloMosaic.Lib.KernelVsHost
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SInVal

open Cert.SInIdeal Cert.SInIdeal.Gen Cert.Layer

theorem hz : (![0, 0] : Fin 2 → Nat) = fun _ => 0 := funext fun a => by fin_cases a <;> rfl

/-- Columns of the padding value set after an array, read at an entry. -/
theorem pad_at {n p q : ℕ} (x : (⟨2, ![n, 6176]⟩ : Shape).Idx → EReal) {u : Shape} (v : u.Idx → EReal)
    (h : (⟨2, ![n, 6176]⟩ : Shape).Pads ![0, 0] ![0, q] ![0, 0] ⟨2, ![n, p]⟩) (hu : 0 < u.numel) (i : Fin n) (j : Fin p) :
    pad ⟨2, ![n, p]⟩ ![0, 0] ![0, q] ![0, 0] x v h hu (ix2 i j)
      = if hj : j.val < 6176 then x (ix2 i ⟨j.val, hj⟩) else v (Shape.Idx.first hu) := by
  by_cases hj : j.val < 6176
  · rw [dif_pos hj]
    refine pad_apply_of_inside _ _ _ x v h hu (ix2 i j) (ix2 i ⟨j.val, hj⟩) fun a => ?_
    match a with
    | ⟨0, _⟩ => show i.val = 0 + i.val * (0 + 1); omega
    | ⟨1, _⟩ => show j.val = 0 + j.val * (0 + 1); omega
  · rw [dif_neg hj]
    refine pad_apply_of_not_inside _ _ _ x v h hu (ix2 i j) (1 : Fin 2) fun hh => hj ?_
    have h2 : (j.val - 0) / (0 + 1) < 6176 := hh.2.2
    simpa using h2

/-! ## What the body stores, as values -/

section
variable (c : Dev nD) (i : grid0.Coords) (a2 : Memref sig .tc .vmem S1024x1024 .f32) (h2 : a2.IsWhole) (a3 : Memref sig .tc .vmem S1x1024 .f32) (h3 : a3.IsWhole) (a4 : Memref sig .tc .vmem S1024x896 .bf16) (h4 : a4.IsWhole) (a5 : Memref sig .tc .vmem S1024x896 .f32) (h5 : a5.IsWhole) (a6 : Memref sig .tc .vmem S1024x1024 .bf16) (h6 : a6.IsWhole)
variable (x0 : Vec Ideal S1024x1024 .f32) (x1 : Vec Ideal S1x1024 .f32) (x2 : Vec Ideal S1024x896 .bf16) (xs0 : Vec Ideal S1024x1024 .bf16)

theorem rows_A (hc0 : cond0_0 i) :
    sout0_A_0 (F := Ideal) c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem out_A (hc0 : cond0_0 i) :
    out0_A_3 (F := Ideal) c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero hz]
  simp only [View.readCov_unit_zero (S := S1024x1024) _ hz, View.readAt_eq_ld, h2.read_unread, h3.read_unread, h4.read_unread,
    View.ld_unit_zero (S := S1024x1024) hz, View.ld_unit_zero (S := S1x1024) hz, View.ld_unit_zero (S := S1024x896) hz]

theorem out_B (hc0 : ¬cond0_0 i) :
    out0_B_3 (F := Ideal) c i a2 h2 a3 h3 a4 h4 a5 h5 a6 h6 hc0 x0 x1 x2 xs0 = k0_pay2 xs0 x2 := by
  unfold out0_B_3
  rw [View.read_writes_eq_canon _ _ _ (cover0_B_3 c i a2 h2 a3 h3 a4 h4 a5 h5 a6 h6 hc0 x0 x1 x2 xs0)]
  unfold kernelRun0_B
  dsimp only
  sl_unfold_words
  rw [View.canon_unit_zero hz]
  simp only [View.readAt_eq_ld, h4.read_unread, h6.read_unread, View.ld_unit_zero (S := S1024x1024) hz, View.ld_unit_zero (S := S1024x896) hz]
end

/-! ## The stored blocks at an entry -/

theorem rows_at (x0 : Vec Ideal S1024x1024 .f32) (x1 : Vec Ideal S1x1024 .f32) (r k : Fin 1024) :
    k0_pay1 x0 x1 (ix2 r k) = nrm (fun l => x0 (ix2 r l)) (x1 (ix2 0 k)) k := by
  unfold nrm
  pointwise [k0_pay1]

theorem out_at (v3 : Vec Ideal S1024x1024 .bf16) (v4 : Vec Ideal S1024x896 .bf16) (r : Fin 1024) (l : Fin 896) :
    k0_pay2 v3 v4 (ix2 r l) = ∑ k : Fin 1024, v3 (ix2 r k) * v4 (ix2 k l) := by
  pointwise [k0_pay2]

variable (m : (ℓ : Loc nD τ sig) → Buf (Elt Ideal) ℓ)

/-- Where the windows stand at a point of the grid. -/
theorem at_point : ∀ t : Fin cfg0.N, (win0_0.index t 0 = t.val / 7 ∧ win0_0.index t 1 = 0) ∧ (win0_1.index t 0 = 0 ∧ win0_1.index t 1 = 0)
    ∧ (win0_2.index t 0 = 0 ∧ win0_2.index t 1 = t.val % 7) ∧ (win0_3.index t 0 = t.val / 7 ∧ win0_3.index t 1 = t.val % 7) :=
  (by decide +kernel : ∀ t : Fin grid0.N, (win0_0.index t 0 = t.val / 7 ∧ win0_0.index t 1 = 0) ∧ (win0_1.index t 0 = 0 ∧ win0_1.index t 1 = 0)
    ∧ (win0_2.index t 0 = 0 ∧ win0_2.index t 1 = t.val % 7) ∧ (win0_3.index t 0 = t.val / 7 ∧ win0_3.index t 1 = t.val % 7))

/-- The rows, the gain and the weight matrix. -/
abbrev aX (c : Dev nD) : (⟨2, ![16384, 1024]⟩ : Shape).Idx → EReal := m ((c : Thread nD τ).loc main_arg0)
abbrev aG (c : Dev nD) : (⟨1, ![1024]⟩ : Shape).Idx → EReal := m ((c : Thread nD τ).loc main_arg1)
abbrev aU (c : Dev nD) : (⟨2, ![1024, 6176]⟩ : Shape).Idx → EReal := m ((c : Thread nD τ).loc main_arg2)

/-- The padding value is zero. -/
theorem pad_zero (z : S_.Idx) : (sitofp .f32 (constantI S_ 32 0#32) : FVec Ideal S_ .f32) z = 0 := by
  show (((0#32 : BitVec 32).toInt : ℝ) : EReal) = 0
  rw [show (0#32 : BitVec 32).toInt = 0 from rfl, Int.cast_zero, EReal.coe_zero]

theorem weights_at (c : Dev nD) (k : Fin 1024) (j : Fin 6272) :
    V m c main_v1 (ix2 k j) = if hj : j.val < 6176 then aU m c (ix2 k ⟨j.val, hj⟩) else 0 := by
  have e : V m c main_v1 = pad S1024x6272 ![0, 0] ![0, 96] ![0, 0] (m ((c : Thread nD τ).loc main_arg2)) (sitofp (F := Ideal) .f32 (constantI S_ 32 0#32)) pads_S1024x6176_S1024x6272_000_0960 h_S_ := by
    unfold V hostOps0 hostOps0_1 hostOps0_2
    simp only [List.flatten_cons, List.flatten_nil, List.append_nil, List.cons_append, List.nil_append]
    after_results
    rfl
  rw [e]
  refine (pad_at (aU m c) _ _ _ k j).trans ?_
  rw [pad_zero]

theorem gain_at (c : Dev nD) (l : Fin 1024) : V m c main_v2 (ix2 0 l) = aG m c (ix1 l) := by
  have e : V m c main_v2 = shapeCast _ (m ((c : Thread nD τ).loc main_arg1)) shapeCasts_S1024_S1x1024 := by
    unfold V hostOps0 hostOps0_1 hostOps0_2
    simp only [List.flatten_cons, List.flatten_nil, List.append_nil, List.cons_append, List.nil_append]
    after_results
    rfl
  rw [e]
  exact shapeCast_apply _ shapeCasts_S1024_S1x1024 (ix2 0 l) (ix1 l) (by rw [Shape.rowMajor_val_two, Shape.rowMajor_val_one]; show l.val = 0 * 1024 + l.val; omega)

theorem blk0 (c : Dev nD) (t : Fin cfg0.N) (r l : Fin 1024) (hr : 1024 * (t.val / 7) + r.val < 16384) :
    iblk m c 0 t (ix2 r l) = aX m c (ix2 ⟨1024 * (t.val / 7) + r.val, hr⟩ l) := by
  obtain ⟨⟨h0, h1⟩, -⟩ := at_point t
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_0.index t 0 * 1024 + 1 * r.val = 1024 * (t.val / 7) + r.val; rw [h0]; omega
  | ⟨1, _⟩ => show win0_0.index t 1 * 1024 + 1 * l.val = l.val; rw [h1]; omega

theorem blk1 (c : Dev nD) (t : Fin cfg0.N) (l : Fin 1024) : iblk m c 1 t (ix2 0 l) = aG m c (ix1 l) := by
  obtain ⟨-, ⟨h0, h1⟩, -⟩ := at_point t
  rw [← gain_at m c l]
  unfold iblk
  rw [View.read_apply]
  show V m c main_v2 _ = V m c main_v2 _
  congr 1; funext a; apply Fin.ext
  match a with
  | ⟨0, _⟩ => show win0_1.index t 0 * 1 + 1 * 0 = 0; rw [h0]
  | ⟨1, _⟩ => show win0_1.index t 1 * 1024 + 1 * l.val = l.val; rw [h1]; omega

theorem blk2 (c : Dev nD) (t : Fin cfg0.N) (k : Fin 1024) (f : Fin 896) (hf : 896 * (t.val % 7) + f.val < 6272) :
    iblk m c 2 t (ix2 k f) = V m c main_v1 (ix2 k ⟨896 * (t.val % 7) + f.val, hf⟩) := by
  obtain ⟨-, -, ⟨h0, h1⟩, -⟩ := at_point t
  unfold iblk
  rw [View.read_apply]
  show V m c main_v1 _ = V m c main_v1 _
  congr 1; funext a; apply Fin.ext
  match a with
  | ⟨0, _⟩ => show win0_2.index t 0 * 1024 + 1 * k.val = k.val; rw [h0]; omega
  | ⟨1, _⟩ => show win0_2.index t 1 * 896 + 1 * f.val = 896 * (t.val % 7) + f.val; rw [h1]; omega

/-! ## The normalized rows that the points share -/

/-- The row of the input that row `r` of the block at point `n` is. -/
def rowAt (n : ℕ) (r : Fin 1024) : Fin 16384 := ⟨(1024 * (n / 7) + r.val) % 16384, Nat.mod_lt _ (by omega)⟩

theorem row_eq (n : ℕ) (r : Fin 1024) (hr : 1024 * (n / 7) + r.val < 16384) : rowAt n r = ⟨1024 * (n / 7) + r.val, hr⟩ :=
  Fin.ext (Nat.mod_eq_of_lt hr)

theorem row_of_div {n n' : ℕ} (e : n / 7 = n' / 7) (r : Fin 1024) : rowAt n r = rowAt n' r :=
  Fin.ext (by show (1024 * (n / 7) + r.val) % 16384 = (1024 * (n' / 7) + r.val) % 16384; rw [e])

theorem rows_first (c : Dev nD) (t : Fin cfg0.N) (r k : Fin 1024) :
    k0_pay1 (iblk m c 0 t) (iblk m c 1 t) (ix2 r k) = nrm (rowOf (aX m c) (rowAt t.val r)) (aG m c (ix1 k)) k := by
  have hN : cfg0.N = 112 := N_0
  have ht := t.isLt
  have hr : 1024 * (t.val / 7) + r.val < 16384 := by have := r.isLt; omega
  rw [rows_at, blk1 m c t k, row_eq _ _ hr]
  refine congrArg (fun D => nrm D _ k) (funext fun l => ?_)
  exact blk0 m c t r l hr

theorem carried (c : Dev nD) : ∀ (n : ℕ) (h : n < cfg0.N) (r k : Fin 1024),
    (outsAt0 m c n h).2 (ix2 r k) = nrm (rowOf (aX m c) (rowAt n r)) (aG m c (ix1 k)) k := by
  intro n
  induction n with
  | zero =>
    intro h r k
    rw [show outsAt0 m c 0 h = _ from outsAt0_A m c ⟨0, h⟩ (Nat.zero_mod _)]
    dsimp only
    rw [rows_A]
    exact rows_first m c ⟨0, h⟩ r k
  | succ n ih =>
    intro h r k
    by_cases h0 : (n + 1) % 7 = 0
    · rw [show outsAt0 m c (n + 1) h = _ from outsAt0_A m c ⟨n + 1, h⟩ h0]
      dsimp only
      rw [rows_A]
      exact rows_first m c ⟨n + 1, h⟩ r k
    · rw [show outsAt0 m c (n + 1) h = _ from outsAt0_B m c ⟨n + 1, h⟩ h0]
      dsimp only
      unfold sout0_B_0
      refine (ih (Nat.lt_of_succ_lt h) r k).trans ?_
      rw [row_of_div (show (n + 1) / 7 = n / 7 by omega)]

/-! ## The result array -/

/-- Entry `(i, j)` of the result: the normalized row times column `j`, zero in the columns set after the matrix. -/
def proj (X : (⟨2, ![16384, 1024]⟩ : Shape).Idx → EReal) (G : (⟨1, ![1024]⟩ : Shape).Idx → EReal) (U : (⟨2, ![1024, 6176]⟩ : Shape).Idx → EReal)
    (i : Fin 16384) (j : Fin 6272) : EReal :=
  if hj : j.val < 6176 then dotN (rowOf X i) G U ⟨j.val, hj⟩ else 0

/-- The array the kernel leaves. -/
def goal (c : Dev nD) : S16384x6272.Idx → EReal := fun i => proj (aX m c) (aG m c) (aU m c) (i 0) (i 1)

theorem goal_at (c : Dev nD) (i : Fin 16384) (j : Fin 6272) : goal m c (ix2 i j) = proj (aX m c) (aG m c) (aU m c) i j := rfl

/-- The column of the result that column `f` of the block at point `n` is. -/
def colAt (n : ℕ) (f : Fin 896) : Fin 6272 := ⟨896 * (n % 7) + f.val, by have := f.isLt; have := Nat.mod_lt n (show 0 < 7 by omega); omega⟩

theorem product_at (c : Dev nD) (t : Fin cfg0.N) (x : Vec Ideal S1024x1024 .bf16) (r : Fin 1024) (f : Fin 896)
    (hx : ∀ k, x (ix2 r k) = nrm (rowOf (aX m c) (rowAt t.val r)) (aG m c (ix1 k)) k) :
    k0_pay2 x (iblk m c 2 t) (ix2 r f) = goal m c (ix2 (rowAt t.val r) (colAt t.val f)) := by
  rw [out_at, goal_at]
  unfold proj
  have e : ∀ k, iblk m c 2 t (ix2 k f) = if hj : (colAt t.val f).val < 6176 then aU m c (ix2 k ⟨(colAt t.val f).val, hj⟩) else 0 :=
    fun k => (blk2 m c t k f (colAt t.val f).isLt).trans (weights_at m c k (colAt t.val f))
  by_cases hj : (colAt t.val f).val < 6176
  · rw [dif_pos hj]
    unfold dotN
    refine Finset.sum_congr rfl fun k _ => ?_
    rw [hx, e, dif_pos hj]
  · rw [dif_neg hj]
    refine Finset.sum_eq_zero fun k _ => ?_
    rw [e, dif_neg hj, mul_zero]

theorem point_at (c : Dev nD) (t : Fin cfg0.N) (r : Fin 1024) (f : Fin 896) :
    (outsAt0 m c t.val t.isLt).1 (ix2 r f) = goal m c (ix2 (rowAt t.val r) (colAt t.val f)) := by
  by_cases h0 : t.val % 7 = 0
  · rw [outsAt0_A m c t h0]
    dsimp only
    rw [out_A]
    exact product_at m c t _ r f fun k => rows_first m c t r k
  · rw [outsAt0_B m c t h0]
    dsimp only
    rw [out_B]
    refine product_at m c t _ r f fun k => (carried m c (t.val - 1) _ r k).trans ?_
    rw [row_of_div (show (t.val - 1) / 7 = t.val / 7 by omega)]

theorem cut_at (t : Fin cfg0.N) (x : Vec Ideal S1024x896 .f32) (r : Fin 1024) (f : Fin 896) :
    (cfg0.win 3).cut (grid0.coords t) x (ix2 r f) = x (ix2 r f) := rfl

theorem emb_at (t : Fin cfg0.N) (r : Fin 1024) (f : Fin 896) : (win0_3.blk t).view.emb (ix2 r f) = ix2 (rowAt t.val r) (colAt t.val f) := by
  have hN : cfg0.N = 112 := N_0
  have ht := t.isLt
  have hr : 1024 * (t.val / 7) + r.val < 16384 := by have := r.isLt; omega
  obtain ⟨-, -, -, e0, e1⟩ := at_point t
  rw [row_eq _ _ hr]
  funext a; apply Fin.ext
  match a with
  | ⟨0, _⟩ => show win0_3.index t 0 * 1024 + 1 * r.val = 1024 * (t.val / 7) + r.val; rw [e0]; omega
  | ⟨1, _⟩ => show win0_3.index t 1 * 896 + 1 * f.val = 896 * (t.val % 7) + f.val; rw [e1]; omega

theorem flushed_eq (c : Dev nD) (t : Fin cfg0.N) :
    (dats m 0 c).flushed 3 t = (win0_3.blk t).view.read (Elt Ideal) (goal m c) := by
  funext j
  idx_vars j
  rw [Value.flushed3, View.read_apply]
  refine (cut_at t _ j0 j1).trans ((point_at m c t j0 j1).trans ?_)
  show _ = goal m c ((win0_3.blk t).view.emb (ix2 j0 j1))
  rw [emb_at t j0 j1]

theorem mem_blk (t : Fin cfg0.N) (i : S16384x6272.Idx) : i ∈ ((cfg0.win 3).blk t).view.set ↔
    ∀ a : Fin 2, win0_3.index t a * win0_3.size a ≤ (i a : Nat) ∧ (i a : Nat) < win0_3.index t a * win0_3.size a + win0_3.xsize (grid0.coords t) a := by
  show i ∈ ((View.whole main_v3).slice (win0_3.rect t)).set ↔ _
  rw [View.set_slice_whole, Rect.mem_set_unit]
  rfl

theorem cover (i : S16384x6272.Idx) : ∃ t : Fin cfg0.N, (cfg0.win 3).flush t = true ∧ i ∈ ((cfg0.win 3).blk t).view.set := by
  have hN : cfg0.N = 112 := N_0
  have hi0 : (i 0).val < 16384 := (i 0).isLt
  have hi1 : (i 1).val < 6272 := (i 1).isLt
  have ht : 7 * ((i 0).val / 1024) + (i 1).val / 896 < cfg0.N := by omega
  refine ⟨⟨_, ht⟩, flush0_3 _, ?_⟩
  obtain ⟨-, -, -, h0, h1⟩ := at_point ⟨_, ht⟩
  rw [mem_blk]
  intro a
  match a with
  | ⟨0, _⟩ =>
    show win0_3.index _ 0 * 1024 ≤ (i 0 : Nat) ∧ (i 0 : Nat) < win0_3.index _ 0 * 1024 + 1024
    rw [h0]; dsimp only; omega
  | ⟨1, _⟩ =>
    show win0_3.index _ 1 * 896 ≤ (i 1 : Nat) ∧ (i 1 : Nat) < win0_3.index _ 1 * 896 + 896
    rw [h1]; dsimp only; omega

theorem result (c : Dev nD) : (dats m 0 c).arrAt 3 cfg0.N = goal m c :=
  (dats m 0 c).arrAt_eq_of_cover 3 (goal m c) (fun t _ => flushed_eq m c t) cover

end Cert.SInVal

/-! ## The reference, entry by entry -/

namespace Cert.SInVal.Ref

open Cert.SInRefIdeal Cert.SInRefIdeal.Gen Cert.SInRefIdeal.Read Cert.Layer

variable (x0 : (⟨2, ![16384, 1024]⟩ : Shape).Idx → EReal) (x1 : (⟨1, ![1024]⟩ : Shape).Idx → EReal)
  (x2 : (⟨2, ![1024, 6176]⟩ : Shape).Idx → EReal)

theorem sq_at (i : Fin 16384) (k : Fin 1024) : val_main_v0 (F := Ideal) x0 (idx_main_v1 (ix1 i) k) = x0 (ix2 i k) * x0 (ix2 i k) := by
  have e : idx_main_v1 (ix1 i) k = ix2 i k := funext fun a => by
    match a with
    | ⟨0, _⟩ => rfl
    | ⟨1, _⟩ => rfl
  rw [val_main_v0_apply, e, Ideal.mulf_def]

theorem sum_at (i : Fin 16384) : val_main_v1 (F := Ideal) x0 (ix1 i) = ∑ k : Fin 1024, x0 (ix2 i k) * x0 (ix2 i k) := by
  rw [val_main_v1_apply, val_main_cst_apply, Ideal.ofBits_def, Ideal.ofBits_zero_f32, zero_add]
  exact Finset.sum_congr rfl fun k _ => sq_at x0 i k

theorem scale_at (i : Fin 16384) : val_main_v7 (F := Ideal) x0 (ix2 i 0)
    = Ideal.rsqrt (Ideal.div (∑ k : Fin 1024, x0 (ix2 i k) * x0 (ix2 i k)) (Ideal.ofBits .f32 0x44800000#32) + Ideal.ofBits .f32 0x358637BD#32) := by
  have e : idx_main_v2 (ix2 i 0) = ix1 i := funext fun a => by
    match a with
    | ⟨0, _⟩ => rfl
  rw [val_main_v7_apply, val_main_v6_apply, val_main_v4_apply, val_main_v2_apply, e, sum_at, val_main_v3_apply, val_main_v5_apply,
    val_main_cst_0_apply, val_main_cst_1_apply, Ideal.hostUnary_rsqrt_def, Ideal.addf_def, Ideal.hostDivf_def, Ideal.ofBits_def, Ideal.ofBits_def]

theorem norm_at (i : Fin 16384) (k : Fin 1024) : val_main_v12 (F := Ideal) x0 x1 (ix2 i k) = nrm (rowOf x0 i) (x1 (ix1 k)) k := by
  have e8 : idx_main_v8 (ix2 i k) = ix2 i 0 := funext fun a => by
    match a with
    | ⟨0, _⟩ => rfl
    | ⟨1, _⟩ => rfl
  have e10 : idx_main_v10 (idx_main_v11 (ix2 i k)) = ix1 k := funext fun a => by
    match a with
    | ⟨0, _⟩ => rfl
  rw [val_main_v12_apply, val_main_v9_apply, val_main_v8_apply, e8, scale_at, val_main_v11_apply, val_main_v10_apply, e10, Ideal.mulf_def, Ideal.mulf_def]
  rfl

theorem up_at (i : Fin 16384) (f : Fin 6176) : val_main_v13 (F := Ideal) x0 x1 x2 (ix2 i f) = dotN (rowOf x0 i) x1 x2 f := by
  rw [val_main_v13_apply]
  unfold dotN
  refine Finset.sum_congr rfl fun k _ => ?_
  have el : lidx_main_v13 (ix2 i f) k = ix2 i k := funext fun a => by
    match a with
    | ⟨0, _⟩ => rfl
    | ⟨1, _⟩ => rfl
  have er : ridx_main_v13 (ix2 i f) k = ix2 k f := funext fun a => by
    match a with
    | ⟨0, _⟩ => rfl
    | ⟨1, _⟩ => rfl
  rw [el, er, norm_at]

theorem proj_at (i : Fin 16384) (j : Fin 6272) : val_main_v14 (F := Ideal) x0 x1 x2 (ix2 i j) = proj x0 x1 x2 i j := by
  unfold val_main_v14
  refine (pad_at (val_main_v13 (F := Ideal) x0 x1 x2) _ _ _ i j).trans ?_
  unfold proj
  by_cases hj : j.val < 6176
  · rw [dif_pos hj, dif_pos hj]
    exact up_at x0 x1 x2 i ⟨j.val, hj⟩
  · rw [dif_neg hj, dif_neg hj]
    exact pad_zero _

end Cert.SInVal.Ref

namespace Cert.SInVal

theorem algebraic : Cert.algebraic_SInIdeal_SInRefIdeal := by
  intro m ρ m' ρ' _ hagree
  refine ⟨fun c => goal m c, ?_, ?_⟩
  · exact (θ_run Cert.SInIdeal.defs _ _).mono (fun _ h c => ⟨(h c).1.trans (result m c), (h c).2⟩) (Cert.SInIdeal.Value.run_blocks (F := Ideal) m ρ)
  · refine (θ_run Cert.SInRefIdeal.defs _ _).mono (fun _ h c => ⟨(h c).1.trans ?_, (h c).2⟩) (Cert.SInRefIdeal.Value.run (F := Ideal) m' ρ')
    rw [Cert.SInRefIdeal.Read.val_main_v14_eq, (hagree c).1, (hagree c).2.1, (hagree c).2.2]
    funext j
    idx_vars j
    exact Ref.proj_at (aX m c) (aG m c) (aU m c) j0 j1

end Cert.SInVal

end
-- ==== Proof.OutVal.lean ====
/-
  The output projection of the attention layers: the pipelined kernel adds to a block of rows of the residual stream
  the product of the same rows of the mixed heads with the weight matrix; the reference is the one whole product.
-/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutVal

open Cert.OutIdeal Cert.OutIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-- Where each window's block lies at point `t`. -/
theorem at_point : ∀ t : Fin cfg0.N, win0_0.index t 0 = t.val ∧ win0_0.index t 1 = 0
    ∧ win0_1.index t 0 = 0 ∧ win0_1.index t 1 = 0 ∧ win0_2.index t 0 = t.val ∧ win0_2.index t 1 = 0
    ∧ win0_3.index t 0 = t.val ∧ win0_3.index t 1 = 0 :=
  (by decide +kernel : ∀ t : Fin grid0.N, win0_0.index t 0 = t.val ∧ win0_0.index t 1 = 0
    ∧ win0_1.index t 0 = 0 ∧ win0_1.index t 1 = 0 ∧ win0_2.index t 0 = t.val ∧ win0_2.index t 1 = 0
    ∧ win0_3.index t 0 = t.val ∧ win0_3.index t 1 = 0)

/-- The projected residual, entry by entry: the residual plus the row of the mixed heads times the column of the weights. -/
def proj (x : FVec Ideal S16384x1024 .bf16) (w : FVec Ideal S1024x1024 .f32) (h : FVec Ideal S16384x1024 .f32) :
    FVec Ideal S16384x1024 .f32 :=
  fun i => h i + ∑ k : Fin 1024, x (ix2 (i 0) k) * w (ix2 k (i 1))

/-- The weights as the region finds them: the argument, rounded to the narrower format, which changes nothing here. -/
theorem weights (c : Dev nD) : V m c main_v0 = m ((c : Thread nD τ).loc main_arg1) := by
  unfold V hostOps0
  after_results
  rfl

theorem blk0 (c : Dev nD) (t : Fin cfg0.N) (r : Fin 1024) (k : Fin 1024) (hr : t.val * 1024 + r.val < 16384) :
    iblk m c 0 t (ix2 r k) = m ((c : Thread nD τ).loc main_arg0) (ix2 ⟨t.val * 1024 + r.val, hr⟩ k) := by
  obtain ⟨h0, h1, -⟩ := at_point t
  rw [← V_main_arg0 m c]
  unfold iblk
  rw [View.read_apply]
  show V m c main_arg0 _ = V m c main_arg0 _
  congr 1
  funext a
  apply Fin.ext
  match a with
  | ⟨0, _⟩ => show win0_0.index t 0 * 1024 + 1 * r.val = t.val * 1024 + r.val; rw [h0]; omega
  | ⟨1, _⟩ => show win0_0.index t 1 * 1024 + 1 * k.val = k.val; rw [h1]; omega

theorem blk1 (c : Dev nD) (t : Fin cfg0.N) (k : Fin 1024) (l : Fin 1024) :
    iblk m c 1 t (ix2 k l) = m ((c : Thread nD τ).loc main_arg1) (ix2 k l) := by
  obtain ⟨-, -, h0, h1, -⟩ := at_point t
  rw [← weights m c]
  unfold iblk
  rw [View.read_apply]
  show V m c main_v0 _ = V m c main_v0 _
  congr 1
  funext a
  apply Fin.ext
  match a with
  | ⟨0, _⟩ => show win0_1.index t 0 * 1024 + 1 * k.val = k.val; rw [h0]; omega
  | ⟨1, _⟩ => show win0_1.index t 1 * 1024 + 1 * l.val = l.val; rw [h1]; omega

theorem blk2 (c : Dev nD) (t : Fin cfg0.N) (r : Fin 1024) (l : Fin 1024) (hr : t.val * 1024 + r.val < 16384) :
    iblk m c 2 t (ix2 r l) = m ((c : Thread nD τ).loc main_arg2) (ix2 ⟨t.val * 1024 + r.val, hr⟩ l) := by
  obtain ⟨-, -, -, -, h0, h1, -⟩ := at_point t
  rw [← V_main_arg2 m c]
  unfold iblk
  rw [View.read_apply]
  show V m c main_arg2 _ = V m c main_arg2 _
  congr 1
  funext a
  apply Fin.ext
  match a with
  | ⟨0, _⟩ => show win0_2.index t 0 * 1024 + 1 * r.val = t.val * 1024 + r.val; rw [h0]; omega
  | ⟨1, _⟩ => show win0_2.index t 1 * 1024 + 1 * l.val = l.val; rw [h1]; omega

/-- The stored block at an entry. -/
theorem pay_at (v0 : Vec Ideal S1024x1024 .f32) (v1 v2 : Vec Ideal S1024x1024 .bf16) (r l : Fin 1024) :
    k0_pay1 v0 v1 v2 (ix2 r l) = v0 (ix2 r l) + ∑ k : Fin 1024, v1 (ix2 r k) * v2 (ix2 k l) := by
  pointwise [k0_pay1]

abbrev goal (c : Dev nD) : FVec Ideal S16384x1024 .f32 :=
  proj (m ((c : Thread nD τ).loc main_arg0)) (m ((c : Thread nD τ).loc main_arg1)) (m ((c : Thread nD τ).loc main_arg2))

theorem flushed_eq (c : Dev nD) (t : Fin cfg0.N) :
    (dats m 0 c).flushed 3 t = (win0_3.blk t).view.read (Elt Ideal) (goal m c) := by
  rw [Value.flushed3]
  unfold out0_3
  rw [View.canon_unit_zero hz2]
  simp only [View.ld_unit_zero (S := S1024x1024) hz2]
  have hN : cfg0.N = 16 := N_0
  have ht := t.isLt
  obtain ⟨-, -, -, -, -, -, h0, h1⟩ := at_point t
  funext j
  idx_vars j
  have hr : t.val * 1024 + j0.val < 16384 := by have := j0.isLt; omega
  rw [View.read_apply]
  have e : (win0_3.blk t).view.emb (ix2 j0 j1) = ix2 ⟨t.val * 1024 + j0.val, hr⟩ j1 := by
    funext a
    apply Fin.ext
    match a with
    | ⟨0, _⟩ => show win0_3.index t 0 * 1024 + 1 * j0.val = t.val * 1024 + j0.val; rw [h0]; omega
    | ⟨1, _⟩ => show win0_3.index t 1 * 1024 + 1 * j1.val = j1.val; rw [h1]; omega
  show k0_pay1 (iblk m c 2 t) (iblk m c 0 t) (iblk m c 1 t) (ix2 j0 j1) = goal m c ((win0_3.blk t).view.emb (ix2 j0 j1))
  rw [e, pay_at, blk2 m c t j0 j1 hr]
  show _ + _ = _ + _
  refine congrArg _ (Finset.sum_congr rfl fun k _ => ?_)
  rw [blk0 m c t j0 k hr, blk1 m c t k j1]
  rfl

theorem mem_blk (t : Fin cfg0.N) (i : S16384x1024.Idx) :
    i ∈ ((cfg0.win 3).blk t).view.set ↔ ∀ a : Fin 2, win0_3.index t a * win0_3.size a ≤ (i a : Nat)
      ∧ (i a : Nat) < win0_3.index t a * win0_3.size a + win0_3.xsize (grid0.coords t) a := by
  show i ∈ ((View.whole main_v1).slice (win0_3.rect t)).set ↔ _
  rw [View.set_slice_whole, Rect.mem_set_unit]
  rfl

theorem cover (i : S16384x1024.Idx) :
    ∃ t : Fin cfg0.N, (cfg0.win 3).flush t = true ∧ i ∈ ((cfg0.win 3).blk t).view.set := by
  have hN : cfg0.N = 16 := N_0
  have hi0 : (i 0 : Nat) < 16384 := (i 0).isLt
  have hi1 : (i 1 : Nat) < 1024 := (i 1).isLt
  have ht : (i 0 : Nat) / 1024 < cfg0.N := by omega
  refine ⟨⟨(i 0 : Nat) / 1024, ht⟩, flush0_3 _, ?_⟩
  obtain ⟨-, -, -, -, -, -, h0, h1⟩ := at_point ⟨(i 0 : Nat) / 1024, ht⟩
  rw [mem_blk]
  intro a
  match a with
  | ⟨0, _⟩ =>
    show win0_3.index _ 0 * 1024 ≤ (i 0 : Nat) ∧ (i 0 : Nat) < win0_3.index _ 0 * 1024 + 1024
    rw [h0]; dsimp only; omega
  | ⟨1, _⟩ =>
    show win0_3.index _ 1 * 1024 ≤ (i 1 : Nat) ∧ (i 1 : Nat) < win0_3.index _ 1 * 1024 + 1024
    rw [h1]; omega

/-- The result array after the run. -/
theorem result (c : Dev nD) : (dats m 0 c).arrAt 3 cfg0.N = goal m c :=
  (dats m 0 c).arrAt_eq_of_cover 3 (goal m c) (fun t _ => flushed_eq m c t) cover

/-- The reference's composed term is the same function. -/
theorem ref_eq (x : FVec Ideal S16384x1024 .bf16) (w : FVec Ideal S1024x1024 .f32) (h : FVec Ideal S16384x1024 .f32) :
    Cert.OutRefIdeal.Read.val_main_v2 (F := Ideal) x w h = proj x w h := by
  funext i
  idx_vars i
  unfold proj
  rw [Cert.OutRefIdeal.Read.val_main_v2_apply, Cert.OutRefIdeal.Read.val_main_v1_apply]
  refine congrArg _ (Finset.sum_congr rfl fun k _ => ?_)
  have el : Cert.OutRefIdeal.Read.lidx_main_v1 (ix2 i0 i1) k = ix2 i0 k := funext fun a => by
    match a with
    | ⟨0, _⟩ => rfl
    | ⟨1, _⟩ => rfl
  have er : Cert.OutRefIdeal.Read.ridx_main_v1 (ix2 i0 i1) k = ix2 k i1 := funext fun a => by
    match a with
    | ⟨0, _⟩ => rfl
    | ⟨1, _⟩ => rfl
  rw [el, er]
  rfl

theorem algebraic : Cert.algebraic_OutIdeal_OutRefIdeal := by
  intro m ρ m' ρ' _ hagree
  refine ⟨fun c => goal m c, ?_, ?_⟩
  · exact (θ_run Cert.OutIdeal.defs _ _).mono (fun _ h c => ⟨(h c).1.trans (result m c), (h c).2⟩)
      (Cert.OutIdeal.Value.run_blocks (F := Ideal) m ρ)
  · refine (θ_run Cert.OutRefIdeal.defs _ _).mono (fun _ h c => ⟨(h c).1.trans ?_, (h c).2⟩)
      (Cert.OutRefIdeal.Value.run (F := Ideal) m' ρ')
    rw [Cert.OutRefIdeal.Read.val_main_v2_eq, ref_eq, (hagree c).1, (hagree c).2.1, (hagree c).2.2]

end Cert.OutVal

end
-- ==== Proof.SOutVal.lean ====
/-
  The output projection of the state-space layer, whose mixed heads are twice as wide: the pipelined kernel adds to a block of rows of the residual stream
  the product of the same rows of the mixed heads with the weight matrix; the reference is the one whole product.
-/
module

public import proofs.«01_k».proof.Defs
public import proofs.«01_k».proof.Proof.Gen.SOutIdeal.Value
public import proofs.«01_k».proof.Proof.Gen.SOutRefIdeal.Run
public import proofs.«01_k».proof.Proof.Gen.SOutRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SOutVal

open Cert.SOutIdeal Cert.SOutIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-- Where each window's block lies at point `t`. -/
theorem at_point : ∀ t : Fin cfg0.N, win0_0.index t 0 = t.val ∧ win0_0.index t 1 = 0
    ∧ win0_1.index t 0 = 0 ∧ win0_1.index t 1 = 0 ∧ win0_2.index t 0 = t.val ∧ win0_2.index t 1 = 0
    ∧ win0_3.index t 0 = t.val ∧ win0_3.index t 1 = 0 :=
  (by decide +kernel : ∀ t : Fin grid0.N, win0_0.index t 0 = t.val ∧ win0_0.index t 1 = 0
    ∧ win0_1.index t 0 = 0 ∧ win0_1.index t 1 = 0 ∧ win0_2.index t 0 = t.val ∧ win0_2.index t 1 = 0
    ∧ win0_3.index t 0 = t.val ∧ win0_3.index t 1 = 0)

/-- The projected residual, entry by entry: the residual plus the row of the mixed heads times the column of the weights. -/
def proj (x : FVec Ideal S16384x2048 .bf16) (w : FVec Ideal S2048x1024 .f32) (h : FVec Ideal S16384x1024 .f32) :
    FVec Ideal S16384x1024 .f32 :=
  fun i => h i + ∑ k : Fin 2048, x (ix2 (i 0) k) * w (ix2 k (i 1))

/-- The weights as the region finds them: the argument, rounded to the narrower format, which changes nothing here. -/
theorem weights (c : Dev nD) : V m c main_v0 = m ((c : Thread nD τ).loc main_arg1) := by
  unfold V hostOps0
  after_results
  rfl

theorem blk0 (c : Dev nD) (t : Fin cfg0.N) (r : Fin 1024) (k : Fin 2048) (hr : t.val * 1024 + r.val < 16384) :
    iblk m c 0 t (ix2 r k) = m ((c : Thread nD τ).loc main_arg0) (ix2 ⟨t.val * 1024 + r.val, hr⟩ k) := by
  obtain ⟨h0, h1, -⟩ := at_point t
  rw [← V_main_arg0 m c]
  unfold iblk
  rw [View.read_apply]
  show V m c main_arg0 _ = V m c main_arg0 _
  congr 1
  funext a
  apply Fin.ext
  match a with
  | ⟨0, _⟩ => show win0_0.index t 0 * 1024 + 1 * r.val = t.val * 1024 + r.val; rw [h0]; omega
  | ⟨1, _⟩ => show win0_0.index t 1 * 2048 + 1 * k.val = k.val; rw [h1]; omega

theorem blk1 (c : Dev nD) (t : Fin cfg0.N) (k : Fin 2048) (l : Fin 1024) :
    iblk m c 1 t (ix2 k l) = m ((c : Thread nD τ).loc main_arg1) (ix2 k l) := by
  obtain ⟨-, -, h0, h1, -⟩ := at_point t
  rw [← weights m c]
  unfold iblk
  rw [View.read_apply]
  show V m c main_v0 _ = V m c main_v0 _
  congr 1
  funext a
  apply Fin.ext
  match a with
  | ⟨0, _⟩ => show win0_1.index t 0 * 2048 + 1 * k.val = k.val; rw [h0]; omega
  | ⟨1, _⟩ => show win0_1.index t 1 * 1024 + 1 * l.val = l.val; rw [h1]; omega

theorem blk2 (c : Dev nD) (t : Fin cfg0.N) (r : Fin 1024) (l : Fin 1024) (hr : t.val * 1024 + r.val < 16384) :
    iblk m c 2 t (ix2 r l) = m ((c : Thread nD τ).loc main_arg2) (ix2 ⟨t.val * 1024 + r.val, hr⟩ l) := by
  obtain ⟨-, -, -, -, h0, h1, -⟩ := at_point t
  rw [← V_main_arg2 m c]
  unfold iblk
  rw [View.read_apply]
  show V m c main_arg2 _ = V m c main_arg2 _
  congr 1
  funext a
  apply Fin.ext
  match a with
  | ⟨0, _⟩ => show win0_2.index t 0 * 1024 + 1 * r.val = t.val * 1024 + r.val; rw [h0]; omega
  | ⟨1, _⟩ => show win0_2.index t 1 * 1024 + 1 * l.val = l.val; rw [h1]; omega

/-- The stored block at an entry. -/
theorem pay_at (v0 : Vec Ideal S1024x1024 .f32) (v1 : Vec Ideal S1024x2048 .bf16) (v2 : Vec Ideal S2048x1024 .bf16) (r l : Fin 1024) :
    k0_pay1 v0 v1 v2 (ix2 r l) = v0 (ix2 r l) + ∑ k : Fin 2048, v1 (ix2 r k) * v2 (ix2 k l) := by
  pointwise [k0_pay1]

abbrev goal (c : Dev nD) : FVec Ideal S16384x1024 .f32 :=
  proj (m ((c : Thread nD τ).loc main_arg0)) (m ((c : Thread nD τ).loc main_arg1)) (m ((c : Thread nD τ).loc main_arg2))

theorem flushed_eq (c : Dev nD) (t : Fin cfg0.N) :
    (dats m 0 c).flushed 3 t = (win0_3.blk t).view.read (Elt Ideal) (goal m c) := by
  rw [Value.flushed3]
  unfold out0_3
  rw [View.canon_unit_zero hz2]
  simp only [View.ld_unit_zero (S := S1024x1024) hz2, View.ld_unit_zero (S := S1024x2048) hz2,
    View.ld_unit_zero (S := S2048x1024) hz2]
  have hN : cfg0.N = 16 := N_0
  have ht := t.isLt
  obtain ⟨-, -, -, -, -, -, h0, h1⟩ := at_point t
  funext j
  idx_vars j
  have hr : t.val * 1024 + j0.val < 16384 := by have := j0.isLt; omega
  rw [View.read_apply]
  have e : (win0_3.blk t).view.emb (ix2 j0 j1) = ix2 ⟨t.val * 1024 + j0.val, hr⟩ j1 := by
    funext a
    apply Fin.ext
    match a with
    | ⟨0, _⟩ => show win0_3.index t 0 * 1024 + 1 * j0.val = t.val * 1024 + j0.val; rw [h0]; omega
    | ⟨1, _⟩ => show win0_3.index t 1 * 1024 + 1 * j1.val = j1.val; rw [h1]; omega
  show k0_pay1 (iblk m c 2 t) (iblk m c 0 t) (iblk m c 1 t) (ix2 j0 j1) = goal m c ((win0_3.blk t).view.emb (ix2 j0 j1))
  rw [e, pay_at, blk2 m c t j0 j1 hr]
  show _ + _ = _ + _
  refine congrArg _ (Finset.sum_congr rfl fun k _ => ?_)
  rw [blk0 m c t j0 k hr, blk1 m c t k j1]
  rfl

theorem mem_blk (t : Fin cfg0.N) (i : S16384x1024.Idx) :
    i ∈ ((cfg0.win 3).blk t).view.set ↔ ∀ a : Fin 2, win0_3.index t a * win0_3.size a ≤ (i a : Nat)
      ∧ (i a : Nat) < win0_3.index t a * win0_3.size a + win0_3.xsize (grid0.coords t) a := by
  show i ∈ ((View.whole main_v1).slice (win0_3.rect t)).set ↔ _
  rw [View.set_slice_whole, Rect.mem_set_unit]
  rfl

theorem cover (i : S16384x1024.Idx) :
    ∃ t : Fin cfg0.N, (cfg0.win 3).flush t = true ∧ i ∈ ((cfg0.win 3).blk t).view.set := by
  have hN : cfg0.N = 16 := N_0
  have hi0 : (i 0 : Nat) < 16384 := (i 0).isLt
  have hi1 : (i 1 : Nat) < 1024 := (i 1).isLt
  have ht : (i 0 : Nat) / 1024 < cfg0.N := by omega
  refine ⟨⟨(i 0 : Nat) / 1024, ht⟩, flush0_3 _, ?_⟩
  obtain ⟨-, -, -, -, -, -, h0, h1⟩ := at_point ⟨(i 0 : Nat) / 1024, ht⟩
  rw [mem_blk]
  intro a
  match a with
  | ⟨0, _⟩ =>
    show win0_3.index _ 0 * 1024 ≤ (i 0 : Nat) ∧ (i 0 : Nat) < win0_3.index _ 0 * 1024 + 1024
    rw [h0]; dsimp only; omega
  | ⟨1, _⟩ =>
    show win0_3.index _ 1 * 1024 ≤ (i 1 : Nat) ∧ (i 1 : Nat) < win0_3.index _ 1 * 1024 + 1024
    rw [h1]; omega

/-- The result array after the run. -/
theorem result (c : Dev nD) : (dats m 0 c).arrAt 3 cfg0.N = goal m c :=
  (dats m 0 c).arrAt_eq_of_cover 3 (goal m c) (fun t _ => flushed_eq m c t) cover

/-- The reference's composed term is the same function. -/
theorem ref_eq (x : FVec Ideal S16384x2048 .bf16) (w : FVec Ideal S2048x1024 .f32) (h : FVec Ideal S16384x1024 .f32) :
    Cert.SOutRefIdeal.Read.val_main_v2 (F := Ideal) x w h = proj x w h := by
  funext i
  idx_vars i
  unfold proj
  rw [Cert.SOutRefIdeal.Read.val_main_v2_apply, Cert.SOutRefIdeal.Read.val_main_v1_apply]
  refine congrArg _ (Finset.sum_congr rfl fun k _ => ?_)
  have el : Cert.SOutRefIdeal.Read.lidx_main_v1 (ix2 i0 i1) k = ix2 i0 k := funext fun a => by
    match a with
    | ⟨0, _⟩ => rfl
    | ⟨1, _⟩ => rfl
  have er : Cert.SOutRefIdeal.Read.ridx_main_v1 (ix2 i0 i1) k = ix2 k i1 := funext fun a => by
    match a with
    | ⟨0, _⟩ => rfl
    | ⟨1, _⟩ => rfl
  rw [el, er]
  rfl

theorem algebraic : Cert.algebraic_SOutIdeal_SOutRefIdeal := by
  intro m ρ m' ρ' _ hagree
  refine ⟨fun c => goal m c, ?_, ?_⟩
  · exact (θ_run Cert.SOutIdeal.defs _ _).mono (fun _ h c => ⟨(h c).1.trans (result m c), (h c).2⟩)
      (Cert.SOutIdeal.Value.run_blocks (F := Ideal) m ρ)
  · refine (θ_run Cert.SOutRefIdeal.defs _ _).mono (fun _ h c => ⟨(h c).1.trans ?_, (h c).2⟩)
      (Cert.SOutRefIdeal.Value.run (F := Ideal) m' ρ')
    rw [Cert.SOutRefIdeal.Read.val_main_v2_eq, ref_eq, (hagree c).1, (hagree c).2.1, (hagree c).2.2]

end Cert.SOutVal

end
-- ==== Proof.RopeRef.lean ====
/-
  The reference of the projection with rotary positions, entry by entry: the normalized rows times the weights, the
  first two thirds of the columns turned by the angles of the row's position, the first third scaled.
-/
module

public import proofs.«01_k».proof.Defs
public import proofs.«01_k».proof.Proof.Gen.RopeRefIdeal.Run
public import proofs.«01_k».proof.Proof.Gen.RopeRefIdeal.Read
public import proofs.«01_k».proof.Proof.Layer
public import Idealize.ShloMosaic.Lib.KernelVsHost
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.RopeVal

open Cert.Layer

/-- The tables of cosines and sines, at a position and a frequency. -/
def cosT : (⟨2, ![8192, 32]⟩ : Shape).Idx → EReal := Cert.RopeRefIdeal.Read.val_main_v34 (F := Ideal)
def sinT : (⟨2, ![8192, 32]⟩ : Shape).Idx → EReal := Cert.RopeRefIdeal.Read.val_main_v36 (F := Ideal)

/-- Column `n`, frequency of column `n`, position of row `i`. -/
def col (n : ℕ) : Fin 3072 := ⟨n % 3072, Nat.mod_lt _ (by omega)⟩
def ang (n : ℕ) : Fin 32 := ⟨n % 32, Nat.mod_lt _ (by omega)⟩
def pos (i : Fin 16384) : Fin 8192 := ⟨i.val % 8192, Nat.mod_lt _ (by omega)⟩

theorem col_eq (n : ℕ) (h : n < 3072) : col n = ⟨n, h⟩ := Fin.ext (Nat.mod_eq_of_lt h)

/-- Entry `(i, n)` of the normalized rows times the weights. -/
def prj (X : (⟨2, ![16384, 1024]⟩ : Shape).Idx → EReal) (G : (⟨1, ![1024]⟩ : Shape).Idx → EReal) (U : (⟨2, ![1024, 3072]⟩ : Shape).Idx → EReal)
    (i : Fin 16384) (n : ℕ) : EReal := dotN (rowOf X i) G U (col n)

/-- Entry `n` of a row `p` turned: in every group of 64, the first half and the second half are the coordinates of 32 planes. -/
def spun (p : ℕ → EReal) (c s : Fin 32 → EReal) (n : ℕ) : EReal :=
  if n % 64 < 32 then p n * c (ang n) - p (n + 32) * s (ang n) else p n * c (ang n) + p (n - 32) * s (ang n)

/-- Entry `(i, n)` turned by the angles of the row's position. -/
def turn (X : (⟨2, ![16384, 1024]⟩ : Shape).Idx → EReal) (G : (⟨1, ![1024]⟩ : Shape).Idx → EReal) (U : (⟨2, ![1024, 3072]⟩ : Shape).Idx → EReal)
    (i : Fin 16384) (n : ℕ) : EReal := spun (prj X G U i) (fun e => cosT (ix2 (pos i) e)) (fun e => sinT (ix2 (pos i) e)) n

/-- Entry `(i, j)` of the result: queries turned and scaled, keys turned, values as they are. -/
def ropeAt (X : (⟨2, ![16384, 1024]⟩ : Shape).Idx → EReal) (G : (⟨1, ![1024]⟩ : Shape).Idx → EReal) (U : (⟨2, ![1024, 3072]⟩ : Shape).Idx → EReal)
    (i : Fin 16384) (j : Fin 3072) : EReal :=
  if j.val < 1024 then turn X G U i j.val * Ideal.ofBits .f32 0x3E000000#32
  else if j.val < 2048 then turn X G U i j.val else prj X G U i j.val

end Cert.RopeVal

namespace Cert.RopeVal.Ref

open Cert.RopeRefIdeal Cert.RopeRefIdeal.Gen Cert.RopeRefIdeal.Read Cert.Layer

variable (x0 : (⟨2, ![16384, 1024]⟩ : Shape).Idx → EReal) (x1 : (⟨1, ![1024]⟩ : Shape).Idx → EReal)
  (x2 : (⟨2, ![1024, 3072]⟩ : Shape).Idx → EReal)

theorem sq_at (i : Fin 16384) (k : Fin 1024) : val_main_v0 (F := Ideal) x0 (idx_main_v1 (ix1 i) k) = x0 (ix2 i k) * x0 (ix2 i k) := by
  have e : idx_main_v1 (ix1 i) k = ix2 i k := funext fun a => by
    match a with
    | ⟨0, _⟩ => rfl
    | ⟨1, _⟩ => rfl
  rw [val_main_v0_apply, e, Ideal.mulf_def]

theorem sum_at (i : Fin 16384) : val_main_v1 (F := Ideal) x0 (ix1 i) = ∑ k : Fin 1024, x0 (ix2 i k) * x0 (ix2 i k) := by
  rw [val_main_v1_apply, val_main_cst_apply, Ideal.ofBits_def, Ideal.ofBits_zero_f32, zero_add]
  exact Finset.sum_congr rfl fun k _ => sq_at x0 i k

theorem scale_at (i : Fin 16384) : val_main_v7 (F := Ideal) x0 (ix2 i 0)
    = Ideal.rsqrt (Ideal.div (∑ k : Fin 1024, x0 (ix2 i k) * x0 (ix2 i k)) (Ideal.ofBits .f32 0x44800000#32) + Ideal.ofBits .f32 0x358637BD#32) := by
  have e : idx_main_v2 (ix2 i 0) = ix1 i := funext fun a => by
    match a with
    | ⟨0, _⟩ => rfl
  rw [val_main_v7_apply, val_main_v6_apply, val_main_v4_apply, val_main_v2_apply, e, sum_at, val_main_v3_apply, val_main_v5_apply,
    val_main_cst_0_apply, val_main_cst_1_apply, Ideal.hostUnary_rsqrt_def, Ideal.addf_def, Ideal.hostDivf_def, Ideal.ofBits_def, Ideal.ofBits_def]

theorem norm_at (i : Fin 16384) (k : Fin 1024) : val_main_v12 (F := Ideal) x0 x1 (ix2 i k) = nrm (rowOf x0 i) (x1 (ix1 k)) k := by
  have e8 : idx_main_v8 (ix2 i k) = ix2 i 0 := funext fun a => by
    match a with
    | ⟨0, _⟩ => rfl
    | ⟨1, _⟩ => rfl
  have e10 : idx_main_v10 (idx_main_v11 (ix2 i k)) = ix1 k := funext fun a => by
    match a with
    | ⟨0, _⟩ => rfl
  rw [val_main_v12_apply, val_main_v9_apply, val_main_v8_apply, e8, scale_at, val_main_v11_apply, val_main_v10_apply, e10, Ideal.mulf_def, Ideal.mulf_def]
  rfl

/-- The row of the flat array that position `s` of sequence `b` is. -/
def rowI (b : Fin 2) (s : Fin 8192) : Fin 16384 := ⟨b.val * 8192 + s.val, by have := b.isLt; have := s.isLt; omega⟩

theorem pos_rowI (b : Fin 2) (s : Fin 8192) : pos (rowI b s) = s :=
  Fin.ext (by show (b.val * 8192 + s.val) % 8192 = s.val; have := s.isLt; omega)

theorem split_at (b : Fin 2) (s : Fin 8192) (k : Fin 1024) : val_main_v13 (F := Ideal) x0 x1 (ix3 b s k) = nrm (rowOf x0 (rowI b s)) (x1 (ix1 k)) k := by
  rw [← norm_at x0 x1 (rowI b s) k]
  unfold val_main_v13
  generalize val_main_v12 (F := Ideal) x0 x1 = y
  exact shapeCast_apply y _ (ix3 b s k) (ix2 (rowI b s) k) (by rw [Shape.rowMajor_val_two, Shape.rowMajor_val_three]; rfl)

theorem up_at (b : Fin 2) (s : Fin 8192) (j : Fin 3072) : val_main_v14 (F := Ideal) x0 x1 x2 (ix3 b s j) = prj x0 x1 x2 (rowI b s) j.val := by
  rw [val_main_v14_apply]
  unfold prj dotN
  rw [col_eq j.val j.isLt]
  refine Finset.sum_congr rfl fun k _ => ?_
  have el : lidx_main_v14 (ix3 b s j) k = ix3 b s k := funext fun a => by
    match a with
    | ⟨0, _⟩ => rfl
    | ⟨1, _⟩ => rfl
    | ⟨2, _⟩ => rfl
  have er : ridx_main_v14 (ix3 b s j) k = ix2 k j := funext fun a => by
    match a with
    | ⟨0, _⟩ => rfl
    | ⟨1, _⟩ => rfl
  rw [el, er, split_at]

theorem cos_at (s : Fin 8192) (e : Fin 32) : val_main_v35 (F := Ideal) (ix4 s 0 0 e) = cosT (ix2 s e) := by
  unfold val_main_v35 cosT
  generalize val_main_v34 (F := Ideal) = y
  exact shapeCast_apply y _ (ix4 s 0 0 e) (ix2 s e) (by
    rw [Shape.rowMajor_val_two, Shape.rowMajor_val_four]
    show s.val * 32 + e.val = ((s.val * 1 + 0) * 1 + 0) * 32 + e.val
    omega)

theorem sin_at (s : Fin 8192) (e : Fin 32) : val_main_v37 (F := Ideal) (ix4 s 0 0 e) = sinT (ix2 s e) := by
  unfold val_main_v37 sinT
  generalize val_main_v36 (F := Ideal) = y
  exact shapeCast_apply y _ (ix4 s 0 0 e) (ix2 s e) (by
    rw [Shape.rowMajor_val_two, Shape.rowMajor_val_four]
    show s.val * 32 + e.val = ((s.val * 1 + 0) * 1 + 0) * 32 + e.val
    omega)

theorem third_at (b : Fin 2) (s : Fin 8192) (j : Fin 1024) : val_main_v17 (F := Ideal) x0 x1 x2 (ix3 b s j) = prj x0 x1 x2 (rowI b s) (2048 + j.val) := by
  have e : idx_main_v17 (ix3 b s j) = ix3 b s ⟨2048 + j.val, by have := j.isLt; omega⟩ := funext fun a => by
    match a with
    | ⟨0, _⟩ => rfl
    | ⟨1, _⟩ => rfl
    | ⟨2, _⟩ => rfl
  rw [val_main_v17_apply, e, up_at]

theorem wide42_at (b : Fin 2) (s : Fin 8192) (h : Fin 8) (p : Fin 2) (e : Fin 32) :
    val_main_v42 (F := Ideal) (ix5 b s h p e) = cosT (ix2 s e) := by
  have e1 : idx_main_v42 (ix5 b s h p e) = ix5 0 s 0 0 e := funext fun a => by
    match a with
    | ⟨0, _⟩ => rfl
    | ⟨1, _⟩ => rfl
    | ⟨2, _⟩ => rfl
    | ⟨3, _⟩ => rfl
    | ⟨4, _⟩ => rfl
  have e2 : idx_main_v41 (ix5 0 s 0 0 e) = ix4 s 0 0 e := funext fun a => by
    match a with
    | ⟨0, _⟩ => rfl
    | ⟨1, _⟩ => rfl
    | ⟨2, _⟩ => rfl
    | ⟨3, _⟩ => rfl
  rw [val_main_v42_apply, e1, val_main_v41_apply, e2, cos_at]

theorem wide45_at (b : Fin 2) (s : Fin 8192) (h : Fin 8) (p : Fin 2) (e : Fin 32) :
    val_main_v45 (F := Ideal) (ix5 b s h p e) = sinT (ix2 s e) := by
  have e1 : idx_main_v45 (ix5 b s h p e) = ix5 0 s 0 0 e := funext fun a => by
    match a with
    | ⟨0, _⟩ => rfl
    | ⟨1, _⟩ => rfl
    | ⟨2, _⟩ => rfl
    | ⟨3, _⟩ => rfl
    | ⟨4, _⟩ => rfl
  have e2 : idx_main_v44 (ix5 0 s 0 0 e) = ix4 s 0 0 e := funext fun a => by
    match a with
    | ⟨0, _⟩ => rfl
    | ⟨1, _⟩ => rfl
    | ⟨2, _⟩ => rfl
    | ⟨3, _⟩ => rfl
  rw [val_main_v45_apply, e1, val_main_v44_apply, e2, sin_at]

theorem wide49_at (b : Fin 2) (s : Fin 8192) (h : Fin 8) (p : Fin 2) (e : Fin 32) :
    val_main_v49 (F := Ideal) (ix5 b s h p e) = cosT (ix2 s e) := by
  have e1 : idx_main_v49 (ix5 b s h p e) = ix5 0 s 0 0 e := funext fun a => by
    match a with
    | ⟨0, _⟩ => rfl
    | ⟨1, _⟩ => rfl
    | ⟨2, _⟩ => rfl
    | ⟨3, _⟩ => rfl
    | ⟨4, _⟩ => rfl
  have e2 : idx_main_v48 (ix5 0 s 0 0 e) = ix4 s 0 0 e := funext fun a => by
    match a with
    | ⟨0, _⟩ => rfl
    | ⟨1, _⟩ => rfl
    | ⟨2, _⟩ => rfl
    | ⟨3, _⟩ => rfl
  rw [val_main_v49_apply, e1, val_main_v48_apply, e2, cos_at]

theorem wide52_at (b : Fin 2) (s : Fin 8192) (h : Fin 8) (p : Fin 2) (e : Fin 32) :
    val_main_v52 (F := Ideal) (ix5 b s h p e) = sinT (ix2 s e) := by
  have e1 : idx_main_v52 (ix5 b s h p e) = ix5 0 s 0 0 e := funext fun a => by
    match a with
    | ⟨0, _⟩ => rfl
    | ⟨1, _⟩ => rfl
    | ⟨2, _⟩ => rfl
    | ⟨3, _⟩ => rfl
    | ⟨4, _⟩ => rfl
  have e2 : idx_main_v51 (ix5 0 s 0 0 e) = ix4 s 0 0 e := funext fun a => by
    match a with
    | ⟨0, _⟩ => rfl
    | ⟨1, _⟩ => rfl
    | ⟨2, _⟩ => rfl
    | ⟨3, _⟩ => rfl
  rw [val_main_v52_apply, e1, val_main_v51_apply, e2, sin_at]

theorem wide63_at (b : Fin 2) (s : Fin 8192) (h : Fin 8) (p : Fin 2) (e : Fin 32) :
    val_main_v63 (F := Ideal) (ix5 b s h p e) = cosT (ix2 s e) := by
  have e1 : idx_main_v63 (ix5 b s h p e) = ix5 0 s 0 0 e := funext fun a => by
    match a with
    | ⟨0, _⟩ => rfl
    | ⟨1, _⟩ => rfl
    | ⟨2, _⟩ => rfl
    | ⟨3, _⟩ => rfl
    | ⟨4, _⟩ => rfl
  have e2 : idx_main_v62 (ix5 0 s 0 0 e) = ix4 s 0 0 e := funext fun a => by
    match a with
    | ⟨0, _⟩ => rfl
    | ⟨1, _⟩ => rfl
    | ⟨2, _⟩ => rfl
    | ⟨3, _⟩ => rfl
  rw [val_main_v63_apply, e1, val_main_v62_apply, e2, cos_at]

theorem wide66_at (b : Fin 2) (s : Fin 8192) (h : Fin 8) (p : Fin 2) (e : Fin 32) :
    val_main_v66 (F := Ideal) (ix5 b s h p e) = sinT (ix2 s e) := by
  have e1 : idx_main_v66 (ix5 b s h p e) = ix5 0 s 0 0 e := funext fun a => by
    match a with
    | ⟨0, _⟩ => rfl
    | ⟨1, _⟩ => rfl
    | ⟨2, _⟩ => rfl
    | ⟨3, _⟩ => rfl
    | ⟨4, _⟩ => rfl
  have e2 : idx_main_v65 (ix5 0 s 0 0 e) = ix4 s 0 0 e := funext fun a => by
    match a with
    | ⟨0, _⟩ => rfl
    | ⟨1, _⟩ => rfl
    | ⟨2, _⟩ => rfl
    | ⟨3, _⟩ => rfl
  rw [val_main_v66_apply, e1, val_main_v65_apply, e2, sin_at]

theorem wide70_at (b : Fin 2) (s : Fin 8192) (h : Fin 8) (p : Fin 2) (e : Fin 32) :
    val_main_v70 (F := Ideal) (ix5 b s h p e) = cosT (ix2 s e) := by
  have e1 : idx_main_v70 (ix5 b s h p e) = ix5 0 s 0 0 e := funext fun a => by
    match a with
    | ⟨0, _⟩ => rfl
    | ⟨1, _⟩ => rfl
    | ⟨2, _⟩ => rfl
    | ⟨3, _⟩ => rfl
    | ⟨4, _⟩ => rfl
  have e2 : idx_main_v69 (ix5 0 s 0 0 e) = ix4 s 0 0 e := funext fun a => by
    match a with
    | ⟨0, _⟩ => rfl
    | ⟨1, _⟩ => rfl
    | ⟨2, _⟩ => rfl
    | ⟨3, _⟩ => rfl
  rw [val_main_v70_apply, e1, val_main_v69_apply, e2, cos_at]

theorem wide73_at (b : Fin 2) (s : Fin 8192) (h : Fin 8) (p : Fin 2) (e : Fin 32) :
    val_main_v73 (F := Ideal) (ix5 b s h p e) = sinT (ix2 s e) := by
  have e1 : idx_main_v73 (ix5 b s h p e) = ix5 0 s 0 0 e := funext fun a => by
    match a with
    | ⟨0, _⟩ => rfl
    | ⟨1, _⟩ => rfl
    | ⟨2, _⟩ => rfl
    | ⟨3, _⟩ => rfl
    | ⟨4, _⟩ => rfl
  have e2 : idx_main_v72 (ix5 0 s 0 0 e) = ix4 s 0 0 e := funext fun a => by
    match a with
    | ⟨0, _⟩ => rfl
    | ⟨1, _⟩ => rfl
    | ⟨2, _⟩ => rfl
    | ⟨3, _⟩ => rfl
  rw [val_main_v73_apply, e1, val_main_v72_apply, e2, sin_at]

theorem slice15_at (b : Fin 2) (s : Fin 8192) (j : Fin 1024) : val_main_v15 (F := Ideal) x0 x1 x2 (ix3 b s j) = prj x0 x1 x2 (rowI b s) (0 + j.val) := by
  have e : idx_main_v15 (ix3 b s j) = ix3 b s ⟨0 + j.val, by have := j.isLt; omega⟩ := funext fun a => by
    match a with
    | ⟨0, _⟩ => rfl
    | ⟨1, _⟩ => rfl
    | ⟨2, _⟩ => exact Fin.ext (by show j.val = 0 + j.val; omega)
  rw [val_main_v15_apply, e, up_at]

theorem heads15_at (b : Fin 2) (s : Fin 8192) (h : Fin 8) (p : Fin 2) (d : Fin 64) :
    val_main_v38 (F := Ideal) x0 x1 x2 (ix5 b s h p d) = prj x0 x1 x2 (rowI b s) (0 + (h.val * 128 + p.val * 64 + d.val)) := by
  have hj : h.val * 128 + p.val * 64 + d.val < 1024 := by have := h.isLt; have := p.isLt; have := d.isLt; omega
  refine Eq.trans ?_ (slice15_at x0 x1 x2 b s ⟨_, hj⟩)
  unfold val_main_v38
  generalize val_main_v15 (F := Ideal) x0 x1 x2 = y
  exact shapeCast_apply y _ (ix5 b s h p d) (ix3 b s ⟨_, hj⟩) (by
    rw [Shape.rowMajor_val_three, Shape.rowMajor_val_five]
    show (b.val * 8192 + s.val) * 1024 + (h.val * 128 + p.val * 64 + d.val) = (((b.val * 8192 + s.val) * 8 + h.val) * 2 + p.val) * 64 + d.val
    omega)

theorem low15_at (b : Fin 2) (s : Fin 8192) (h : Fin 8) (p : Fin 2) (e : Fin 32) :
    val_main_v39 (F := Ideal) x0 x1 x2 (ix5 b s h p e) = prj x0 x1 x2 (rowI b s) (0 + (h.val * 128 + p.val * 64 + e.val)) := by
  have e1 : idx_main_v39 (ix5 b s h p e) = ix5 b s h p ⟨e.val, by have := e.isLt; omega⟩ := funext fun a => by
    match a with
    | ⟨0, _⟩ => rfl
    | ⟨1, _⟩ => rfl
    | ⟨2, _⟩ => rfl
    | ⟨3, _⟩ => rfl
    | ⟨4, _⟩ => rfl
  rw [val_main_v39_apply, e1, heads15_at]

theorem high15_at (b : Fin 2) (s : Fin 8192) (h : Fin 8) (p : Fin 2) (e : Fin 32) :
    val_main_v40 (F := Ideal) x0 x1 x2 (ix5 b s h p e) = prj x0 x1 x2 (rowI b s) (0 + (h.val * 128 + p.val * 64 + (32 + e.val))) := by
  have e1 : idx_main_v40 (ix5 b s h p e) = ix5 b s h p ⟨32 + e.val, by have := e.isLt; omega⟩ := funext fun a => by
    match a with
    | ⟨0, _⟩ => rfl
    | ⟨1, _⟩ => rfl
    | ⟨2, _⟩ => rfl
    | ⟨3, _⟩ => rfl
    | ⟨4, _⟩ => rfl
  rw [val_main_v40_apply, e1, heads15_at]

theorem lowTurned15_at (b : Fin 2) (s : Fin 8192) (h : Fin 8) (p : Fin 2) (d : Fin 64) (hd : d.val < 32) :
    val_main_v47 (F := Ideal) x0 x1 x2 (ix5 b s h p ⟨d.val, hd⟩) = turn x0 x1 x2 (rowI b s) (0 + (h.val * 128 + p.val * 64 + d.val)) := by
  have ea : ang (0 + (h.val * 128 + p.val * 64 + d.val)) = ⟨d.val, hd⟩ := Fin.ext (by
    show (0 + (h.val * 128 + p.val * 64 + d.val)) % 32 = d.val; omega)
  have en : 0 + (h.val * 128 + p.val * 64 + (32 + d.val)) = 0 + (h.val * 128 + p.val * 64 + d.val) + 32 := by omega
  unfold turn spun
  rw [if_pos (by have := p.isLt; omega), ea, pos_rowI, val_main_v47_apply, val_main_v43_apply, val_main_v46_apply, low15_at, high15_at,
    wide42_at, wide45_at, Ideal.subf_def, Ideal.mulf_def, Ideal.mulf_def]
  dsimp only
  rw [en]

theorem highTurned15_at (b : Fin 2) (s : Fin 8192) (h : Fin 8) (p : Fin 2) (d : Fin 64) (hd : ¬d.val < 32) (he : d.val - 32 < 32) :
    val_main_v54 (F := Ideal) x0 x1 x2 (ix5 b s h p ⟨d.val - 32, he⟩) = turn x0 x1 x2 (rowI b s) (0 + (h.val * 128 + p.val * 64 + d.val)) := by
  have ea : ang (0 + (h.val * 128 + p.val * 64 + d.val)) = ⟨d.val - 32, he⟩ := Fin.ext (by
    show (0 + (h.val * 128 + p.val * 64 + d.val)) % 32 = d.val - 32; omega)
  have en : 0 + (h.val * 128 + p.val * 64 + (32 + (d.val - 32))) = 0 + (h.val * 128 + p.val * 64 + d.val) := by omega
  have em : 0 + (h.val * 128 + p.val * 64 + (d.val - 32)) = 0 + (h.val * 128 + p.val * 64 + d.val) - 32 := by omega
  unfold turn spun
  rw [if_neg (by have := p.isLt; have := d.isLt; omega), ea, pos_rowI, val_main_v54_apply, val_main_v50_apply, val_main_v53_apply, low15_at, high15_at,
    wide49_at, wide52_at, Ideal.addf_def, Ideal.mulf_def, Ideal.mulf_def]
  dsimp only
  rw [en, em]

theorem joined15_at (b : Fin 2) (s : Fin 8192) (h : Fin 8) (p : Fin 2) (d : Fin 64) :
    val_main_v55 (F := Ideal) x0 x1 x2 (ix5 b s h p d) = turn x0 x1 x2 (rowI b s) (0 + (h.val * 128 + p.val * 64 + d.val)) := by
  by_cases hd : d.val < 32
  · refine Eq.trans ?_ (lowTurned15_at x0 x1 x2 b s h p d hd)
    unfold val_main_v55
    generalize val_main_v47 (F := Ideal) x0 x1 x2 = y1
    generalize val_main_v54 (F := Ideal) x0 x1 x2 = y2
    exact concatenate_pair_apply_left 4 y1 y2 _ (ix5 b s h p d) rfl (ix5 b s h p ⟨d.val, hd⟩) (fun a => by
      match a with
      | ⟨0, _⟩ => rfl
      | ⟨1, _⟩ => rfl
      | ⟨2, _⟩ => rfl
      | ⟨3, _⟩ => rfl
      | ⟨4, _⟩ => rfl)
  · have he : d.val - 32 < 32 := by have := d.isLt; omega
    refine Eq.trans ?_ (highTurned15_at x0 x1 x2 b s h p d hd he)
    unfold val_main_v55
    generalize val_main_v47 (F := Ideal) x0 x1 x2 = y1
    generalize val_main_v54 (F := Ideal) x0 x1 x2 = y2
    exact concatenate_pair_apply_right 4 y1 y2 _ (ix5 b s h p d) rfl rfl (ix5 b s h p ⟨d.val - 32, he⟩) (fun a ha => by
      match a with
      | ⟨0, _⟩ => rfl
      | ⟨1, _⟩ => rfl
      | ⟨2, _⟩ => rfl
      | ⟨3, _⟩ => rfl
      | ⟨4, _⟩ => exact absurd rfl ha) (by show d.val - 32 + 32 = d.val; omega)

theorem flat15_at (b : Fin 2) (s : Fin 8192) (j : Fin 1024) :
    val_main_v56 (F := Ideal) x0 x1 x2 (ix3 b s j) = turn x0 x1 x2 (rowI b s) (0 + j.val) := by
  have h1 : j.val / 128 < 8 := by have := j.isLt; omega
  have h2 : j.val % 128 / 64 < 2 := by omega
  have h3 : j.val % 64 < 64 := by omega
  have en : j.val / 128 * 128 + j.val % 128 / 64 * 64 + j.val % 64 = j.val := by omega
  have e := joined15_at x0 x1 x2 b s ⟨_, h1⟩ ⟨_, h2⟩ ⟨_, h3⟩
  dsimp only at e
  rw [en] at e
  refine Eq.trans ?_ e
  unfold val_main_v56
  generalize val_main_v55 (F := Ideal) x0 x1 x2 = y
  exact shapeCast_apply y _ (ix3 b s j) (ix5 b s ⟨_, h1⟩ ⟨_, h2⟩ ⟨_, h3⟩) (by
    rw [Shape.rowMajor_val_three, Shape.rowMajor_val_five]
    show (((b.val * 8192 + s.val) * 8 + j.val / 128) * 2 + j.val % 128 / 64) * 64 + j.val % 64 = (b.val * 8192 + s.val) * 1024 + j.val
    omega)

theorem slice16_at (b : Fin 2) (s : Fin 8192) (j : Fin 1024) : val_main_v16 (F := Ideal) x0 x1 x2 (ix3 b s j) = prj x0 x1 x2 (rowI b s) (1024 + j.val) := by
  have e : idx_main_v16 (ix3 b s j) = ix3 b s ⟨1024 + j.val, by have := j.isLt; omega⟩ := funext fun a => by
    match a with
    | ⟨0, _⟩ => rfl
    | ⟨1, _⟩ => rfl
    | ⟨2, _⟩ => exact Fin.ext (by show 1024 + j.val = 1024 + j.val; omega)
  rw [val_main_v16_apply, e, up_at]

theorem heads16_at (b : Fin 2) (s : Fin 8192) (h : Fin 8) (p : Fin 2) (d : Fin 64) :
    val_main_v59 (F := Ideal) x0 x1 x2 (ix5 b s h p d) = prj x0 x1 x2 (rowI b s) (1024 + (h.val * 128 + p.val * 64 + d.val)) := by
  have hj : h.val * 128 + p.val * 64 + d.val < 1024 := by have := h.isLt; have := p.isLt; have := d.isLt; omega
  refine Eq.trans ?_ (slice16_at x0 x1 x2 b s ⟨_, hj⟩)
  unfold val_main_v59
  generalize val_main_v16 (F := Ideal) x0 x1 x2 = y
  exact shapeCast_apply y _ (ix5 b s h p d) (ix3 b s ⟨_, hj⟩) (by
    rw [Shape.rowMajor_val_three, Shape.rowMajor_val_five]
    show (b.val * 8192 + s.val) * 1024 + (h.val * 128 + p.val * 64 + d.val) = (((b.val * 8192 + s.val) * 8 + h.val) * 2 + p.val) * 64 + d.val
    omega)

theorem low16_at (b : Fin 2) (s : Fin 8192) (h : Fin 8) (p : Fin 2) (e : Fin 32) :
    val_main_v60 (F := Ideal) x0 x1 x2 (ix5 b s h p e) = prj x0 x1 x2 (rowI b s) (1024 + (h.val * 128 + p.val * 64 + e.val)) := by
  have e1 : idx_main_v60 (ix5 b s h p e) = ix5 b s h p ⟨e.val, by have := e.isLt; omega⟩ := funext fun a => by
    match a with
    | ⟨0, _⟩ => rfl
    | ⟨1, _⟩ => rfl
    | ⟨2, _⟩ => rfl
    | ⟨3, _⟩ => rfl
    | ⟨4, _⟩ => rfl
  rw [val_main_v60_apply, e1, heads16_at]

theorem high16_at (b : Fin 2) (s : Fin 8192) (h : Fin 8) (p : Fin 2) (e : Fin 32) :
    val_main_v61 (F := Ideal) x0 x1 x2 (ix5 b s h p e) = prj x0 x1 x2 (rowI b s) (1024 + (h.val * 128 + p.val * 64 + (32 + e.val))) := by
  have e1 : idx_main_v61 (ix5 b s h p e) = ix5 b s h p ⟨32 + e.val, by have := e.isLt; omega⟩ := funext fun a => by
    match a with
    | ⟨0, _⟩ => rfl
    | ⟨1, _⟩ => rfl
    | ⟨2, _⟩ => rfl
    | ⟨3, _⟩ => rfl
    | ⟨4, _⟩ => rfl
  rw [val_main_v61_apply, e1, heads16_at]

theorem lowTurned16_at (b : Fin 2) (s : Fin 8192) (h : Fin 8) (p : Fin 2) (d : Fin 64) (hd : d.val < 32) :
    val_main_v68 (F := Ideal) x0 x1 x2 (ix5 b s h p ⟨d.val, hd⟩) = turn x0 x1 x2 (rowI b s) (1024 + (h.val * 128 + p.val * 64 + d.val)) := by
  have ea : ang (1024 + (h.val * 128 + p.val * 64 + d.val)) = ⟨d.val, hd⟩ := Fin.ext (by
    show (1024 + (h.val * 128 + p.val * 64 + d.val)) % 32 = d.val; omega)
  have en : 1024 + (h.val * 128 + p.val * 64 + (32 + d.val)) = 1024 + (h.val * 128 + p.val * 64 + d.val) + 32 := by omega
  unfold turn spun
  rw [if_pos (by have := p.isLt; omega), ea, pos_rowI, val_main_v68_apply, val_main_v64_apply, val_main_v67_apply, low16_at, high16_at,
    wide63_at, wide66_at, Ideal.subf_def, Ideal.mulf_def, Ideal.mulf_def]
  dsimp only
  rw [en]

theorem highTurned16_at (b : Fin 2) (s : Fin 8192) (h : Fin 8) (p : Fin 2) (d : Fin 64) (hd : ¬d.val < 32) (he : d.val - 32 < 32) :
    val_main_v75 (F := Ideal) x0 x1 x2 (ix5 b s h p ⟨d.val - 32, he⟩) = turn x0 x1 x2 (rowI b s) (1024 + (h.val * 128 + p.val * 64 + d.val)) := by
  have ea : ang (1024 + (h.val * 128 + p.val * 64 + d.val)) = ⟨d.val - 32, he⟩ := Fin.ext (by
    show (1024 + (h.val * 128 + p.val * 64 + d.val)) % 32 = d.val - 32; omega)
  have en : 1024 + (h.val * 128 + p.val * 64 + (32 + (d.val - 32))) = 1024 + (h.val * 128 + p.val * 64 + d.val) := by omega
  have em : 1024 + (h.val * 128 + p.val * 64 + (d.val - 32)) = 1024 + (h.val * 128 + p.val * 64 + d.val) - 32 := by omega
  unfold turn spun
  rw [if_neg (by have := p.isLt; have := d.isLt; omega), ea, pos_rowI, val_main_v75_apply, val_main_v71_apply, val_main_v74_apply, low16_at, high16_at,
    wide70_at, wide73_at, Ideal.addf_def, Ideal.mulf_def, Ideal.mulf_def]
  dsimp only
  rw [en, em]

theorem joined16_at (b : Fin 2) (s : Fin 8192) (h : Fin 8) (p : Fin 2) (d : Fin 64) :
    val_main_v76 (F := Ideal) x0 x1 x2 (ix5 b s h p d) = turn x0 x1 x2 (rowI b s) (1024 + (h.val * 128 + p.val * 64 + d.val)) := by
  by_cases hd : d.val < 32
  · refine Eq.trans ?_ (lowTurned16_at x0 x1 x2 b s h p d hd)
    unfold val_main_v76
    generalize val_main_v68 (F := Ideal) x0 x1 x2 = y1
    generalize val_main_v75 (F := Ideal) x0 x1 x2 = y2
    exact concatenate_pair_apply_left 4 y1 y2 _ (ix5 b s h p d) rfl (ix5 b s h p ⟨d.val, hd⟩) (fun a => by
      match a with
      | ⟨0, _⟩ => rfl
      | ⟨1, _⟩ => rfl
      | ⟨2, _⟩ => rfl
      | ⟨3, _⟩ => rfl
      | ⟨4, _⟩ => rfl)
  · have he : d.val - 32 < 32 := by have := d.isLt; omega
    refine Eq.trans ?_ (highTurned16_at x0 x1 x2 b s h p d hd he)
    unfold val_main_v76
    generalize val_main_v68 (F := Ideal) x0 x1 x2 = y1
    generalize val_main_v75 (F := Ideal) x0 x1 x2 = y2
    exact concatenate_pair_apply_right 4 y1 y2 _ (ix5 b s h p d) rfl rfl (ix5 b s h p ⟨d.val - 32, he⟩) (fun a ha => by
      match a with
      | ⟨0, _⟩ => rfl
      | ⟨1, _⟩ => rfl
      | ⟨2, _⟩ => rfl
      | ⟨3, _⟩ => rfl
      | ⟨4, _⟩ => exact absurd rfl ha) (by show d.val - 32 + 32 = d.val; omega)

theorem flat16_at (b : Fin 2) (s : Fin 8192) (j : Fin 1024) :
    val_main_v77 (F := Ideal) x0 x1 x2 (ix3 b s j) = turn x0 x1 x2 (rowI b s) (1024 + j.val) := by
  have h1 : j.val / 128 < 8 := by have := j.isLt; omega
  have h2 : j.val % 128 / 64 < 2 := by omega
  have h3 : j.val % 64 < 64 := by omega
  have en : j.val / 128 * 128 + j.val % 128 / 64 * 64 + j.val % 64 = j.val := by omega
  have e := joined16_at x0 x1 x2 b s ⟨_, h1⟩ ⟨_, h2⟩ ⟨_, h3⟩
  dsimp only at e
  rw [en] at e
  refine Eq.trans ?_ e
  unfold val_main_v77
  generalize val_main_v76 (F := Ideal) x0 x1 x2 = y
  exact shapeCast_apply y _ (ix3 b s j) (ix5 b s ⟨_, h1⟩ ⟨_, h2⟩ ⟨_, h3⟩) (by
    rw [Shape.rowMajor_val_three, Shape.rowMajor_val_five]
    show (((b.val * 8192 + s.val) * 8 + j.val / 128) * 2 + j.val % 128 / 64) * 64 + j.val % 64 = (b.val * 8192 + s.val) * 1024 + j.val
    omega)

theorem piece0_at (b : Fin 2) (s : Fin 8192) (j : Fin 3072) (hj : j.val - 0 < 1024) (hp : 0 ≤ j.val) :
    val_main_v78 (F := Ideal) x0 x1 x2 (ix3 b s j) = val_main_v58 (F := Ideal) x0 x1 x2 (ix3 b s ⟨j.val - 0, hj⟩) := by
  unfold val_main_v78
  generalize val_main_v58 (F := Ideal) x0 x1 x2 = y0
  generalize val_main_v77 (F := Ideal) x0 x1 x2 = y1
  generalize val_main_v17 (F := Ideal) x0 x1 x2 = y2
  exact concatenate_apply_piece 2 [⟨S2x8192x1024, y0⟩, ⟨S2x8192x1024, y1⟩, ⟨S2x8192x1024, y2⟩] concatenates_S2x8192x1024_S2x8192x1024_S2x8192x1024_S2x8192x3072_d2
    (ix3 b s j) 0 (by show 0 < 3; omega) S2x8192x1024 y0 rfl rfl 0 rfl (ix3 b s ⟨j.val - 0, hj⟩) (fun a ha => by
      match a with
      | ⟨0, _⟩ => rfl
      | ⟨1, _⟩ => rfl
      | ⟨2, _⟩ => exact absurd rfl ha) (by show 0 + (j.val - 0) = j.val; omega)

theorem piece1_at (b : Fin 2) (s : Fin 8192) (j : Fin 3072) (hj : j.val - 1024 < 1024) (hp : 1024 ≤ j.val) :
    val_main_v78 (F := Ideal) x0 x1 x2 (ix3 b s j) = val_main_v77 (F := Ideal) x0 x1 x2 (ix3 b s ⟨j.val - 1024, hj⟩) := by
  unfold val_main_v78
  generalize val_main_v58 (F := Ideal) x0 x1 x2 = y0
  generalize val_main_v77 (F := Ideal) x0 x1 x2 = y1
  generalize val_main_v17 (F := Ideal) x0 x1 x2 = y2
  exact concatenate_apply_piece 2 [⟨S2x8192x1024, y0⟩, ⟨S2x8192x1024, y1⟩, ⟨S2x8192x1024, y2⟩] concatenates_S2x8192x1024_S2x8192x1024_S2x8192x1024_S2x8192x3072_d2
    (ix3 b s j) 1 (by show 1 < 3; omega) S2x8192x1024 y1 rfl rfl 1024 rfl (ix3 b s ⟨j.val - 1024, hj⟩) (fun a ha => by
      match a with
      | ⟨0, _⟩ => rfl
      | ⟨1, _⟩ => rfl
      | ⟨2, _⟩ => exact absurd rfl ha) (by show 1024 + (j.val - 1024) = j.val; omega)

theorem piece2_at (b : Fin 2) (s : Fin 8192) (j : Fin 3072) (hj : j.val - 2048 < 1024) (hp : 2048 ≤ j.val) :
    val_main_v78 (F := Ideal) x0 x1 x2 (ix3 b s j) = val_main_v17 (F := Ideal) x0 x1 x2 (ix3 b s ⟨j.val - 2048, hj⟩) := by
  unfold val_main_v78
  generalize val_main_v58 (F := Ideal) x0 x1 x2 = y0
  generalize val_main_v77 (F := Ideal) x0 x1 x2 = y1
  generalize val_main_v17 (F := Ideal) x0 x1 x2 = y2
  exact concatenate_apply_piece 2 [⟨S2x8192x1024, y0⟩, ⟨S2x8192x1024, y1⟩, ⟨S2x8192x1024, y2⟩] concatenates_S2x8192x1024_S2x8192x1024_S2x8192x1024_S2x8192x3072_d2
    (ix3 b s j) 2 (by show 2 < 3; omega) S2x8192x1024 y2 rfl rfl 2048 rfl (ix3 b s ⟨j.val - 2048, hj⟩) (fun a ha => by
      match a with
      | ⟨0, _⟩ => rfl
      | ⟨1, _⟩ => rfl
      | ⟨2, _⟩ => exact absurd rfl ha) (by show 2048 + (j.val - 2048) = j.val; omega)

theorem scaled_at (b : Fin 2) (s : Fin 8192) (j : Fin 1024) :
    val_main_v58 (F := Ideal) x0 x1 x2 (ix3 b s j) = turn x0 x1 x2 (rowI b s) (0 + j.val) * Ideal.ofBits .f32 0x3E000000#32 := by
  rw [val_main_v58_apply, flat15_at, val_main_v57_apply, val_main_cst_6_apply, Ideal.mulf_def, Ideal.ofBits_def]

theorem whole_at (b : Fin 2) (s : Fin 8192) (j : Fin 3072) : val_main_v78 (F := Ideal) x0 x1 x2 (ix3 b s j) = ropeAt x0 x1 x2 (rowI b s) j := by
  have hj := j.isLt
  unfold ropeAt
  by_cases h1 : j.val < 1024
  · rw [if_pos h1, piece0_at x0 x1 x2 b s j (by omega) (by omega), scaled_at]
    dsimp only
    rw [show 0 + (j.val - 0) = j.val by omega]
  · rw [if_neg h1]
    by_cases h2 : j.val < 2048
    · rw [if_pos h2, piece1_at x0 x1 x2 b s j (by omega) (by omega), flat16_at]
      dsimp only
      rw [show 1024 + (j.val - 1024) = j.val by omega]
    · rw [if_neg h2, piece2_at x0 x1 x2 b s j (by omega) (by omega), third_at]
      dsimp only
      rw [show 2048 + (j.val - 2048) = j.val by omega]

theorem rope_at (i : Fin 16384) (j : Fin 3072) : val_main_v80 (F := Ideal) x0 x1 x2 (ix2 i j) = ropeAt x0 x1 x2 i j := by
  have hb : i.val / 8192 < 2 := by have := i.isLt; omega
  have hs : i.val % 8192 < 8192 := by omega
  have ei : rowI ⟨_, hb⟩ ⟨_, hs⟩ = i := Fin.ext (by show i.val / 8192 * 8192 + i.val % 8192 = i.val; omega)
  have e := whole_at x0 x1 x2 ⟨_, hb⟩ ⟨_, hs⟩ j
  rw [ei] at e
  refine Eq.trans ?_ e
  unfold val_main_v80 val_main_v79
  generalize val_main_v78 (F := Ideal) x0 x1 x2 = y
  exact shapeCast_apply y _ (ix2 i j) (ix3 ⟨_, hb⟩ ⟨_, hs⟩ j) (by
    rw [Shape.rowMajor_val_two, Shape.rowMajor_val_three]
    show (i.val / 8192 * 8192 + i.val % 8192) * 3072 + j.val = i.val * 3072 + j.val
    omega)

end Cert.RopeVal.Ref

end
-- ==== Proof.RopeVal.lean ====
/-
  The input projection with rotary positions: the pipelined kernel normalizes a block of rows once, multiplies it by one block of
  columns at a time, and turns the blocks of queries and of keys, 128 columns at a time, by rotating the lanes; the reference turns
  the two halves of every head's planes and joins them.
-/
module

public import proofs.«01_k».proof.Defs
public import proofs.«01_k».proof.Proof.Gen.RopeIdeal.Value
public import proofs.«01_k».proof.Proof.Gen.RopeRefIdeal.Run
public import proofs.«01_k».proof.Proof.Gen.RopeRefIdeal.Read
public import proofs.«01_k».proof.Proof.RopeRef
public import Idealize.ShloMosaic.Lib.KernelVsHost
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RopeVal

open Cert.RopeIdeal Cert.RopeIdeal.Gen Cert.Layer

theorem hz : (![0, 0] : Fin 2 → Nat) = fun _ => 0 := funext fun a => by fin_cases a <;> rfl

/-! ## A block of 128 columns turned -/

/-- The columns a turned entry is made of, and its lane. -/
def lane (f : Fin 1024) : Fin 128 := ⟨f.val % 128, Nat.mod_lt _ (by omega)⟩
def fwd (f : Fin 1024) : Fin 1024 := ⟨(f.val + 32) % 1024, Nat.mod_lt _ (by omega)⟩
def bwd (f : Fin 1024) : Fin 1024 := ⟨(f.val + 992) % 1024, Nat.mod_lt _ (by omega)⟩

/-- Entry `(r, f)` of a block turned: itself times the first table plus its partner times the second, scaled. -/
def turnAt (q : EReal) (acc : S1024x1024.Idx → EReal) (C S : S1024x128.Idx → EReal) (r f : Fin 1024) : EReal :=
  (acc (ix2 r f) * C (ix2 r (lane f)) + (if f.val % 64 < 32 then acc (ix2 r (fwd f)) else acc (ix2 r (bwd f))) * S (ix2 r (lane f))) * q

def turned (q : EReal) (acc : S1024x1024.Idx → EReal) (C S : S1024x128.Idx → EReal) : S1024x1024.Idx → EReal :=
  fun y => turnAt q acc C S (y 0) (y 1)

/-- The 128 columns from `o` on, as the body computes them. -/
def chunk (o : ℕ) (h : S1024x1024.Slices ![0, o] S1024x128) (q : EReal) (acc : FVec Ideal S1024x1024 .f32) (C S : FVec Ideal S1024x128 .f32) :
    FVec Ideal S1024x128 .bf16 :=
  truncf .bf16 (mulf (addf (mulf (extractStridedSlice S1024x128 ![0, o] acc h) C)
    (mulf (select k0_pay8 (dynamicRotate 1 96#32 none (extractStridedSlice S1024x128 ![0, o] acc h) rotates_S1024x128_d1)
      (dynamicRotate 1 32#32 none (extractStridedSlice S1024x128 ![0, o] acc h) rotates_S1024x128_d1)) S)) (broadcast S1024x128 q)) bitsLt_bf16_f32

theorem mask_lane : ∀ l : Fin 128, Scalar.cmpi .slt (Scalar.andi (BitVec.ofNat 32 l.val) 63#32) 32#32 = if l.val % 64 < 32 then 1#1 else 0#1 := by
  decide

theorem mask_at (r : Fin 1024) (l : Fin 128) : k0_pay8 (ix2 r l) = if l.val % 64 < 32 then 1#1 else 0#1 := by
  rw [← mask_lane l]
  show Scalar.cmpi .slt (Scalar.andi (BitVec.ofNat 32 (0 * 128 + l.val)) 63#32) 32#32 = _
  rw [Nat.zero_mul, Nat.zero_add]

theorem slice_at (o : ℕ) (h : S1024x1024.Slices ![0, o] S1024x128) (acc : FVec Ideal S1024x1024 .f32) (r : Fin 1024) (l : Fin 128) (hl : o + l.val < 1024) :
    extractStridedSlice S1024x128 ![0, o] acc h (ix2 r l) = acc (ix2 r ⟨o + l.val, hl⟩) :=
  extractStridedSlice_apply ![0, o] acc h (ix2 r l) (ix2 r ⟨o + l.val, hl⟩) (fun a => by
    match a with
    | ⟨0, _⟩ => show r.val = 0 + r.val; omega
    | ⟨1, _⟩ => rfl)

theorem fwd_at (x : FVec Ideal S1024x128 .f32) (r : Fin 1024) (l : Fin 128) :
    dynamicRotate 1 96#32 none x rotates_S1024x128_d1 (ix2 r l) = x (ix2 r ⟨(l.val + 32) % 128, Nat.mod_lt _ (by omega)⟩) :=
  dynamicRotate_apply 1 96#32 x rotates_S1024x128_d1 (ix2 r l) (ix2 r ⟨(l.val + 32) % 128, Nat.mod_lt _ (by omega)⟩) (fun b => by
    match b with
    | ⟨0, _⟩ => rfl
    | ⟨1, _⟩ => show (l.val + 32) % 128 = (l.val + 128 - 96 % 128) % 128; omega)

theorem bwd_at (x : FVec Ideal S1024x128 .f32) (r : Fin 1024) (l : Fin 128) :
    dynamicRotate 1 32#32 none x rotates_S1024x128_d1 (ix2 r l) = x (ix2 r ⟨(l.val + 96) % 128, Nat.mod_lt _ (by omega)⟩) :=
  dynamicRotate_apply 1 32#32 x rotates_S1024x128_d1 (ix2 r l) (ix2 r ⟨(l.val + 96) % 128, Nat.mod_lt _ (by omega)⟩) (fun b => by
    match b with
    | ⟨0, _⟩ => rfl
    | ⟨1, _⟩ => show (l.val + 96) % 128 = (l.val + 128 - 32 % 128) % 128; omega)

theorem choose_eq (p : Prop) [Decidable p] (x y : EReal) : Scalar.select (if p then 1#1 else 0#1) x y = if p then x else y := by
  by_cases h : p
  · rw [if_pos h, if_pos h]; rfl
  · rw [if_neg h, if_neg h]; rfl

theorem partner_at (o : ℕ) (ho : o % 128 = 0) (h : S1024x1024.Slices ![0, o] S1024x128) (acc : FVec Ideal S1024x1024 .f32) (r : Fin 1024) (l : Fin 128)
    (hl : o + l.val < 1024) :
    select k0_pay8 (dynamicRotate 1 96#32 none (extractStridedSlice S1024x128 ![0, o] acc h) rotates_S1024x128_d1)
      (dynamicRotate 1 32#32 none (extractStridedSlice S1024x128 ![0, o] acc h) rotates_S1024x128_d1) (ix2 r l)
      = if (o + l.val) % 64 < 32 then acc (ix2 r (fwd ⟨o + l.val, hl⟩)) else acc (ix2 r (bwd ⟨o + l.val, hl⟩)) := by
  have hlt := l.isLt
  refine Eq.trans (b := Scalar.select (k0_pay8 (ix2 r l)) (dynamicRotate 1 96#32 none (extractStridedSlice S1024x128 ![0, o] acc h) rotates_S1024x128_d1 (ix2 r l))
    (dynamicRotate 1 32#32 none (extractStridedSlice S1024x128 ![0, o] acc h) rotates_S1024x128_d1 (ix2 r l))) rfl ?_
  rw [mask_at, choose_eq]
  by_cases hm : l.val % 64 < 32
  · rw [if_pos hm, if_pos (by omega), fwd_at, slice_at o h acc r _ (by show o + (l.val + 32) % 128 < 1024; omega)]
    exact congrArg (fun z => acc (ix2 r z)) (Fin.ext (by show o + (l.val + 32) % 128 = (o + l.val + 32) % 1024; omega))
  · rw [if_neg hm, if_neg (by omega), bwd_at, slice_at o h acc r _ (by show o + (l.val + 96) % 128 < 1024; omega)]
    exact congrArg (fun z => acc (ix2 r z)) (Fin.ext (by show o + (l.val + 96) % 128 = (o + l.val + 992) % 1024; omega))

theorem chunk_at (o : ℕ) (ho : o % 128 = 0) (h : S1024x1024.Slices ![0, o] S1024x128) (q : EReal) (acc : FVec Ideal S1024x1024 .f32)
    (C S : FVec Ideal S1024x128 .f32) (r : Fin 1024) (l : Fin 128) (hl : o + l.val < 1024) :
    chunk o h q acc C S (ix2 r l) = turnAt q acc C S r ⟨o + l.val, hl⟩ := by
  have el : lane ⟨o + l.val, hl⟩ = l := Fin.ext (by show (o + l.val) % 128 = l.val; have := l.isLt; omega)
  unfold turnAt
  rw [el, ← slice_at o h acc r l hl]
  refine Eq.trans ?_ (congrArg (fun z => (extractStridedSlice S1024x128 ![0, o] acc h (ix2 r l) * C (ix2 r l) + z * S (ix2 r l)) * q)
    (partner_at o ho h acc r l hl))
  rfl

theorem unit_at (o : ℕ) (inb) (r : Fin 1024) (l : Fin 128) (hl : o + l.val < 1024) :
    (Rect.unit (s := S1024x1024) ![0, o] S1024x128.size inb).emb (ix2 r l) = ix2 r ⟨o + l.val, hl⟩ := by
  funext a; apply Fin.ext
  match a with
  | ⟨0, _⟩ => show 0 + 1 * r.val = r.val; omega
  | ⟨1, _⟩ => show o + 1 * l.val = o + l.val; omega

theorem piece (o : ℕ) (ho : o % 128 = 0) (hb : o + 128 ≤ 1024) (h : S1024x1024.Slices ![0, o] S1024x128) (q : EReal) (acc : FVec Ideal S1024x1024 .f32)
    (C S : FVec Ideal S1024x128 .f32) (inb) (x : S1024x128.Idx) :
    chunk o h q acc C S x = turned q acc C S ((Rect.unit (s := S1024x1024) ![0, o] S1024x128.size inb).emb x) := by
  idx_vars x
  have hl : o + x1.val < 1024 := by have : x1.val < 128 := x1.isLt; omega
  rw [unit_at o inb x0 x1 hl, chunk_at o ho h q acc C S x0 x1 hl]
  rfl

/-! ## What the body stores, as values -/

theorem table_id (v : Vec Ideal S1024x128 .f32) : k0_pay6 (F := Ideal) v = v := by
  funext j
  exact shapeCast_apply v _ j j rfl

theorem table_id' (v : Vec Ideal S1024x128 .f32) : k0_pay7 (F := Ideal) v = v := by
  funext j
  exact shapeCast_apply v _ j j rfl

theorem pay0_eq (a : BitVec 32) (v3 v4 : Vec Ideal S1024x1024 .bf16) (v13 v15 : Vec Ideal S1024x128 .f32) :
    k0_pay10 (F := Ideal) a (k0_pay2 v3 v4) v13 v15
      = chunk 0 slices_S1024x1024_o0_0_S1024x128 (k0_pay9 (F := Ideal) a) (k0_pay2 (F := Ideal) v3 v4) v13 v15 :=
  Eq.trans (b := chunk 0 slices_S1024x1024_o0_0_S1024x128 (k0_pay9 (F := Ideal) a) (k0_pay2 (F := Ideal) v3 v4) (k0_pay6 v13) (k0_pay7 v15)) rfl
    (by rw [table_id, table_id'])

theorem pay128_eq (a : BitVec 32) (v3 v4 : Vec Ideal S1024x1024 .bf16) (v13 v15 : Vec Ideal S1024x128 .f32) :
    k0_pay11 (F := Ideal) a (k0_pay2 v3 v4) v13 v15
      = chunk 128 slices_S1024x1024_o0_128_S1024x128 (k0_pay9 (F := Ideal) a) (k0_pay2 (F := Ideal) v3 v4) v13 v15 :=
  Eq.trans (b := chunk 128 slices_S1024x1024_o0_128_S1024x128 (k0_pay9 (F := Ideal) a) (k0_pay2 (F := Ideal) v3 v4) (k0_pay6 v13) (k0_pay7 v15)) rfl
    (by rw [table_id, table_id'])

theorem pay256_eq (a : BitVec 32) (v3 v4 : Vec Ideal S1024x1024 .bf16) (v13 v15 : Vec Ideal S1024x128 .f32) :
    k0_pay15 (F := Ideal) (k0_pay9 a) (k0_pay13 (k0_pay2 v3 v4) v13) (k0_pay14 (k0_pay2 v3 v4) v15)
      = chunk 256 slices_S1024x1024_o0_256_S1024x128 (k0_pay9 (F := Ideal) a) (k0_pay2 (F := Ideal) v3 v4) v13 v15 :=
  Eq.trans (b := chunk 256 slices_S1024x1024_o0_256_S1024x128 (k0_pay9 (F := Ideal) a) (k0_pay2 (F := Ideal) v3 v4) (k0_pay6 v13) (k0_pay7 v15)) rfl
    (by rw [table_id, table_id'])

theorem pay384_eq (a : BitVec 32) (v3 v4 : Vec Ideal S1024x1024 .bf16) (v13 v15 : Vec Ideal S1024x128 .f32) :
    k0_pay16 (F := Ideal) (k0_pay2 v3 v4) (k0_pay6 v13) (k0_pay7 v15) k0_pay8 (k0_pay9 a)
      = chunk 384 slices_S1024x1024_o0_384_S1024x128 (k0_pay9 (F := Ideal) a) (k0_pay2 (F := Ideal) v3 v4) v13 v15 :=
  Eq.trans (b := chunk 384 slices_S1024x1024_o0_384_S1024x128 (k0_pay9 (F := Ideal) a) (k0_pay2 (F := Ideal) v3 v4) (k0_pay6 v13) (k0_pay7 v15)) rfl
    (by rw [table_id, table_id'])

theorem pay512_eq (a : BitVec 32) (v3 v4 : Vec Ideal S1024x1024 .bf16) (v13 v15 : Vec Ideal S1024x128 .f32) :
    k0_pay17 (F := Ideal) (k0_pay2 v3 v4) (k0_pay6 v13) (k0_pay7 v15) k0_pay8 (k0_pay9 a)
      = chunk 512 slices_S1024x1024_o0_512_S1024x128 (k0_pay9 (F := Ideal) a) (k0_pay2 (F := Ideal) v3 v4) v13 v15 :=
  Eq.trans (b := chunk 512 slices_S1024x1024_o0_512_S1024x128 (k0_pay9 (F := Ideal) a) (k0_pay2 (F := Ideal) v3 v4) (k0_pay6 v13) (k0_pay7 v15)) rfl
    (by rw [table_id, table_id'])

theorem pay640_eq (a : BitVec 32) (v3 v4 : Vec Ideal S1024x1024 .bf16) (v13 v15 : Vec Ideal S1024x128 .f32) :
    k0_pay18 (F := Ideal) (k0_pay2 v3 v4) (k0_pay6 v13) (k0_pay7 v15) k0_pay8 (k0_pay9 a)
      = chunk 640 slices_S1024x1024_o0_640_S1024x128 (k0_pay9 (F := Ideal) a) (k0_pay2 (F := Ideal) v3 v4) v13 v15 :=
  Eq.trans (b := chunk 640 slices_S1024x1024_o0_640_S1024x128 (k0_pay9 (F := Ideal) a) (k0_pay2 (F := Ideal) v3 v4) (k0_pay6 v13) (k0_pay7 v15)) rfl
    (by rw [table_id, table_id'])

theorem pay768_eq (a : BitVec 32) (v3 v4 : Vec Ideal S1024x1024 .bf16) (v13 v15 : Vec Ideal S1024x128 .f32) :
    k0_pay3 (F := Ideal) (k0_pay6 v13) (k0_pay7 v15) k0_pay8 (k0_pay9 a) (k0_pay19 (k0_pay2 v3 v4)) (k0_pay20 (k0_pay2 v3 v4)) 32#32
      = chunk 768 slices_S1024x1024_o0_768_S1024x128 (k0_pay9 (F := Ideal) a) (k0_pay2 (F := Ideal) v3 v4) v13 v15 :=
  Eq.trans (b := chunk 768 slices_S1024x1024_o0_768_S1024x128 (k0_pay9 (F := Ideal) a) (k0_pay2 (F := Ideal) v3 v4) (k0_pay6 v13) (k0_pay7 v15)) rfl
    (by rw [table_id, table_id'])

theorem pay896_eq (a : BitVec 32) (v3 v4 : Vec Ideal S1024x1024 .bf16) (v13 v15 : Vec Ideal S1024x128 .f32) :
    k0_pay4 (F := Ideal) v3 v4 (k0_pay6 v13) (k0_pay7 v15) k0_pay8 (k0_pay9 a)
      = chunk 896 slices_S1024x1024_o0_896_S1024x128 (k0_pay9 (F := Ideal) a) (k0_pay2 (F := Ideal) v3 v4) v13 v15 :=
  Eq.trans (b := chunk 896 slices_S1024x1024_o0_896_S1024x128 (k0_pay9 (F := Ideal) a) (k0_pay2 (F := Ideal) v3 v4) (k0_pay6 v13) (k0_pay7 v15)) rfl
    (by rw [table_id, table_id'])

section
variable (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1024 .bf16) (h4 : a4.IsWhole) (a5 : Memref sig .tc .vmem S1024x128 .f32) (h5 : a5.IsWhole) (a6 : Memref sig .tc .vmem S1024x128 .f32) (h6 : a6.IsWhole) (a7 : Memref sig .tc .vmem S1024x1024 .bf16) (h7 : a7.IsWhole) (a8 : Memref sig .tc .vmem S1024x1024 .bf16) (h8 : a8.IsWhole)
variable (x0 : Vec Ideal S1024x1024 .f32) (x1 : Vec Ideal S1x1024 .f32) (x2 : Vec Ideal S1024x1024 .bf16) (x3 x4 : Vec Ideal S1024x128 .f32) (xs0 : Vec Ideal S1024x1024 .bf16)

theorem rows_A (hc0 : cond0_0 i) (hc1 : cond0_1 i) (hc2 : ¬cond0_2 i) :
    sout0_A_0 (F := Ideal) c i a2 h2 a3 h3 a4 h4 a5 h5 a6 h6 a7 h7 a8 h8 hc0 hc1 hc2 x0 x1 x2 x3 x4 = k0_pay1 x0 x1 := by
  unfold sout0_A_0
  rw [View.read_writes_eq_canon _ _ _ (scover0_A_0 c i a2 h2 a3 h3 a4 h4 a5 h5 a6 h6 a7 h7 a8 h8 hc0 hc1 hc2 x0 x1 x2 x3 x4)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem out_C (hc0 : ¬cond0_0 i) (hc1 : ¬cond0_1 i) (hc2 : cond0_2 i) :
    out0_C_5 (F := Ideal) c i a2 h2 a3 h3 a4 h4 a5 h5 a6 h6 a7 h7 a8 h8 hc0 hc1 hc2 x0 x1 x2 x3 x4 xs0 = k0_pay5 xs0 x2 := by
  unfold out0_C_5
  rw [View.read_writes_eq_canon _ _ _ (cover0_C_5 c i a2 h2 a3 h3 a4 h4 a5 h5 a6 h6 a7 h7 a8 h8 hc0 hc1 hc2 x0 x1 x2 x3 x4 xs0)]
  unfold kernelRun0_C
  dsimp only
  sl_unfold_words
  rw [View.canon_unit_zero hz]
  simp only [View.readAt_eq_ld, h4.read_unread, h8.read_unread, View.ld_unit_zero (S := S1024x1024) hz]

theorem out_A (hc0 : cond0_0 i) (hc1 : cond0_1 i) (hc2 : ¬cond0_2 i) :
    out0_A_5 (F := Ideal) c i a2 h2 a3 h3 a4 h4 a5 h5 a6 h6 a7 h7 a8 h8 hc0 hc1 hc2 x0 x1 x2 x3 x4 = turned (k0_pay9 (F := Ideal) (BitVec.ofNat 32 (i 1).val)) (k0_pay2 (F := Ideal) (k0_pay1 x0 x1) x2) x3 x4 := by
  unfold out0_A_5
  rw [View.read_writes_eq_canon _ _ _ (cover0_A_5 c i a2 h2 a3 h3 a4 h4 a5 h5 a6 h6 a7 h7 a8 h8 hc0 hc1 hc2 x0 x1 x2 x3 x4)]
  funext y
  refine View.canon_apply_of_pieces _ _ ?_ y (cover0_A_5 c i a2 h2 a3 h3 a4 h4 a5 h5 a6 h6 a7 h7 a8 h8 hc0 hc1 hc2 x0 x1 x2 x3 x4 y)
  unfold kernelRun0_A
  dsimp only
  sl_unfold_words
  simp only [List.forall_mem_cons, View.readCov_unit_zero (S := S1024x1024) _ hz, View.readAt_eq_ld, h2.read_unread, h3.read_unread, h4.read_unread,
    h5.read_unread, h6.read_unread, h8.read_unread, View.ld_unit_zero (S := S1024x1024) hz, View.ld_unit_zero (S := S1x1024) hz,
    View.ld_unit_zero (S := S1024x128) hz]
  refine ⟨?_, ?_, ?_, ?_, ?_, ?_, ?_, ?_, by simp⟩
  · exact fun x => (congrFun (pay896_eq _ _ _ _ _) x).trans (piece 896 rfl (by omega) _ _ _ _ _ _ x)
  · exact fun x => (congrFun (pay768_eq _ _ _ _ _) x).trans (piece 768 rfl (by omega) _ _ _ _ _ _ x)
  · exact fun x => (congrFun (pay640_eq _ _ _ _ _) x).trans (piece 640 rfl (by omega) _ _ _ _ _ _ x)
  · exact fun x => (congrFun (pay512_eq _ _ _ _ _) x).trans (piece 512 rfl (by omega) _ _ _ _ _ _ x)
  · exact fun x => (congrFun (pay384_eq _ _ _ _ _) x).trans (piece 384 rfl (by omega) _ _ _ _ _ _ x)
  · exact fun x => (congrFun (pay256_eq _ _ _ _ _) x).trans (piece 256 rfl (by omega) _ _ _ _ _ _ x)
  · exact fun x => (congrFun (pay128_eq _ _ _ _ _) x).trans (piece 128 rfl (by omega) _ _ _ _ _ _ x)
  · exact fun x => (congrFun (pay0_eq _ _ _ _ _) x).trans (piece 0 rfl (by omega) _ _ _ _ _ _ x)

theorem out_B (hc0 : ¬cond0_0 i) (hc1 : cond0_1 i) (hc2 : ¬cond0_2 i) :
    out0_B_5 (F := Ideal) c i a2 h2 a3 h3 a4 h4 a5 h5 a6 h6 a7 h7 a8 h8 hc0 hc1 hc2 x0 x1 x2 x3 x4 xs0 = turned (k0_pay9 (F := Ideal) (BitVec.ofNat 32 (i 1).val)) (k0_pay2 (F := Ideal) xs0 x2) x3 x4 := by
  unfold out0_B_5
  rw [View.read_writes_eq_canon _ _ _ (cover0_B_5 c i a2 h2 a3 h3 a4 h4 a5 h5 a6 h6 a7 h7 a8 h8 hc0 hc1 hc2 x0 x1 x2 x3 x4 xs0)]
  funext y
  refine View.canon_apply_of_pieces _ _ ?_ y (cover0_B_5 c i a2 h2 a3 h3 a4 h4 a5 h5 a6 h6 a7 h7 a8 h8 hc0 hc1 hc2 x0 x1 x2 x3 x4 xs0 y)
  unfold kernelRun0_B
  dsimp only
  sl_unfold_words
  simp only [List.forall_mem_cons, View.readCov_unit_zero (S := S1024x1024) _ hz, View.readAt_eq_ld, h2.read_unread, h3.read_unread, h4.read_unread,
    h5.read_unread, h6.read_unread, h8.read_unread, View.ld_unit_zero (S := S1024x1024) hz, View.ld_unit_zero (S := S1x1024) hz,
    View.ld_unit_zero (S := S1024x128) hz]
  refine ⟨?_, ?_, ?_, ?_, ?_, ?_, ?_, ?_, by simp⟩
  · exact fun x => (congrFun (pay896_eq _ _ _ _ _) x).trans (piece 896 rfl (by omega) _ _ _ _ _ _ x)
  · exact fun x => (congrFun (pay768_eq _ _ _ _ _) x).trans (piece 768 rfl (by omega) _ _ _ _ _ _ x)
  · exact fun x => (congrFun (pay640_eq _ _ _ _ _) x).trans (piece 640 rfl (by omega) _ _ _ _ _ _ x)
  · exact fun x => (congrFun (pay512_eq _ _ _ _ _) x).trans (piece 512 rfl (by omega) _ _ _ _ _ _ x)
  · exact fun x => (congrFun (pay384_eq _ _ _ _ _) x).trans (piece 384 rfl (by omega) _ _ _ _ _ _ x)
  · exact fun x => (congrFun (pay256_eq _ _ _ _ _) x).trans (piece 256 rfl (by omega) _ _ _ _ _ _ x)
  · exact fun x => (congrFun (pay128_eq _ _ _ _ _) x).trans (piece 128 rfl (by omega) _ _ _ _ _ _ x)
  · exact fun x => (congrFun (pay0_eq _ _ _ _ _) x).trans (piece 0 rfl (by omega) _ _ _ _ _ _ x)
end

/-! ## The stored blocks at an entry -/

theorem rows_at (x0 : Vec Ideal S1024x1024 .f32) (x1 : Vec Ideal S1x1024 .f32) (r k : Fin 1024) :
    k0_pay1 x0 x1 (ix2 r k) = nrm (fun l => x0 (ix2 r l)) (x1 (ix2 0 k)) k := by
  unfold nrm
  pointwise [k0_pay1]

theorem out_at (v3 v4 : Vec Ideal S1024x1024 .bf16) (r l : Fin 1024) :
    k0_pay2 v3 v4 (ix2 r l) = ∑ k : Fin 1024, v3 (ix2 r k) * v4 (ix2 k l) := by
  pointwise [k0_pay2]

theorem out_at' (v3 v4 : Vec Ideal S1024x1024 .bf16) (r l : Fin 1024) :
    k0_pay5 v3 v4 (ix2 r l) = k0_pay2 v3 v4 (ix2 r l) := rfl

variable (m : (ℓ : Loc nD τ sig) → Buf (Elt Ideal) ℓ)

/-- Where the windows stand at a point of the grid. -/
theorem at_point : ∀ t : Fin cfg0.N, (win0_0.index t 0 = t.val / 3 ∧ win0_0.index t 1 = 0) ∧ (win0_1.index t 0 = 0 ∧ win0_1.index t 1 = 0)
    ∧ (win0_2.index t 0 = 0 ∧ win0_2.index t 1 = t.val % 3) ∧ (win0_3.index t 0 = t.val / 3 % 8 ∧ win0_3.index t 1 = 0)
    ∧ (win0_4.index t 0 = t.val / 3 % 8 ∧ win0_4.index t 1 = 0) ∧ (win0_5.index t 0 = t.val / 3 ∧ win0_5.index t 1 = t.val % 3)
    ∧ (grid0.coords t 1).val = t.val % 3 :=
  (by decide +kernel : ∀ t : Fin grid0.N, (win0_0.index t 0 = t.val / 3 ∧ win0_0.index t 1 = 0) ∧ (win0_1.index t 0 = 0 ∧ win0_1.index t 1 = 0)
    ∧ (win0_2.index t 0 = 0 ∧ win0_2.index t 1 = t.val % 3) ∧ (win0_3.index t 0 = t.val / 3 % 8 ∧ win0_3.index t 1 = 0)
    ∧ (win0_4.index t 0 = t.val / 3 % 8 ∧ win0_4.index t 1 = 0) ∧ (win0_5.index t 0 = t.val / 3 ∧ win0_5.index t 1 = t.val % 3)
    ∧ (grid0.coords t 1).val = t.val % 3)

/-- The rows, the gain and the weight matrix. -/
abbrev aX (c : Dev nD) : (⟨2, ![16384, 1024]⟩ : Shape).Idx → EReal := m ((c : Thread nD τ).loc main_arg0)
abbrev aG (c : Dev nD) : (⟨1, ![1024]⟩ : Shape).Idx → EReal := m ((c : Thread nD τ).loc main_arg1)
abbrev aU (c : Dev nD) : (⟨2, ![1024, 3072]⟩ : Shape).Idx → EReal := m ((c : Thread nD τ).loc main_arg2)

theorem weights_eq (c : Dev nD) : V m c main_v26 = aU m c := by
  unfold V hostOps0
  after_results
  rfl

theorem gain_at (c : Dev nD) (l : Fin 1024) : V m c main_v27 (ix2 0 l) = aG m c (ix1 l) := by
  have e : V m c main_v27 = shapeCast _ (m ((c : Thread nD τ).loc main_arg1)) shapeCasts_S1024_S1x1024 := by
    unfold V hostOps0
    after_results
    rfl
  rw [e]
  exact shapeCast_apply _ shapeCasts_S1024_S1x1024 (ix2 0 l) (ix1 l) (by rw [Shape.rowMajor_val_two, Shape.rowMajor_val_one]; show l.val = 0 * 1024 + l.val; omega)

theorem cosTable_eq (c : Dev nD) : V m c main_v20 = shapeCast S8192x128 (broadcastInDim S1x8192x4x32 ![0, 1, 2, 3]
    bcast_S1x8192x1x32_S1x8192x4x32_0_1_2_3 (shapeCast S1x8192x1x32 (cosT : S8192x32.Idx → EReal) shapeCasts_S8192x32_S1x8192x1x32)) shapeCasts_S1x8192x4x32_S8192x128 := by
  unfold V hostOps0
  after_results
  rfl

/-- The sines with the signs of the two halves of a head. -/
def negT (y : S8192x32.Idx → EReal) : S8192x32.Idx → EReal := Host.negf (F := Ideal) (φ := .f32) y
def signed (y : S8192x32.Idx → EReal) : S8192x64.Idx → EReal :=
  concatenate S8192x64 1 [⟨S8192x32, negT y⟩, ⟨S8192x32, y⟩] concatenates_S8192x32_S8192x32_S8192x64_d1

theorem sinTable_eq (c : Dev nD) : V m c main_v25 = shapeCast S8192x128 (broadcastInDim S1x8192x2x64 ![0, 1, 2, 3]
    bcast_S1x8192x1x64_S1x8192x2x64_0_1_2_3 (shapeCast S1x8192x1x64 (signed sinT) shapeCasts_S8192x64_S1x8192x1x64)) shapeCasts_S1x8192x2x64_S8192x128 := by
  unfold V hostOps0
  after_results
  rfl

theorem cosTable_at (c : Dev nD) (s : Fin 8192) (l : Fin 128) : V m c main_v20 (ix2 s l) = cosT (ix2 s (ang l.val)) := by
  rw [cosTable_eq]
  generalize cosT = y
  have h1 : l.val / 32 < 4 := by have := l.isLt; omega
  refine (shapeCast_apply _ shapeCasts_S1x8192x4x32_S8192x128 (ix2 s l) (ix4 0 s ⟨l.val / 32, h1⟩ (ang l.val)) ?_).trans ?_
  · rw [Shape.rowMajor_val_two, Shape.rowMajor_val_four]
    show ((0 * 8192 + s.val) * 4 + l.val / 32) * 32 + l.val % 32 = s.val * 128 + l.val
    omega
  refine (broadcastInDim_apply ![0, 1, 2, 3] bcast_S1x8192x1x32_S1x8192x4x32_0_1_2_3 _ (ix4 0 s ⟨l.val / 32, h1⟩ (ang l.val)) (ix4 0 s 0 (ang l.val)) ?_).trans ?_
  · intro a
    match a with
    | ⟨0, _⟩ => rfl
    | ⟨1, _⟩ => rfl
    | ⟨2, _⟩ => rfl
    | ⟨3, _⟩ => rfl
  exact shapeCast_apply y shapeCasts_S8192x32_S1x8192x1x32 (ix4 0 s 0 (ang l.val)) (ix2 s (ang l.val)) (by
    rw [Shape.rowMajor_val_two, Shape.rowMajor_val_four]
    show s.val * 32 + l.val % 32 = ((0 * 8192 + s.val) * 1 + 0) * 32 + l.val % 32
    omega)

theorem signed_at (y : S8192x32.Idx → EReal) (s : Fin 8192) (d : Fin 64) :
    signed y (ix2 s d)
      = if d.val < 32 then -(y (ix2 s (ang d.val))) else y (ix2 s (ang d.val)) := by
  have hd64 := d.isLt
  unfold signed
  by_cases hd : d.val < 32
  · rw [if_pos hd]
    refine (concatenate_pair_apply_left 1 (negT y) y _ (ix2 s d) rfl (ix2 s (ang d.val)) (fun a => ?_)).trans ?_
    · match a with
      | ⟨0, _⟩ => rfl
      | ⟨1, _⟩ => show d.val % 32 = d.val; omega
    rfl
  · rw [if_neg hd]
    exact concatenate_pair_apply_right 1 (negT y) y _ (ix2 s d) rfl rfl (ix2 s (ang d.val)) (fun a ha => by
      match a with
      | ⟨0, _⟩ => rfl
      | ⟨1, _⟩ => exact absurd rfl ha) (by show d.val % 32 + 32 = d.val; omega)

theorem sinTable_at (c : Dev nD) (s : Fin 8192) (l : Fin 128) :
    V m c main_v25 (ix2 s l) = if l.val % 64 < 32 then -(sinT (ix2 s (ang l.val))) else sinT (ix2 s (ang l.val)) := by
  have h1 : l.val / 64 < 2 := by have := l.isLt; omega
  have h2 : l.val % 64 < 64 := by omega
  have ea : ang (l.val % 64) = ang l.val := Fin.ext (by show l.val % 64 % 32 = l.val % 32; omega)
  have e := signed_at sinT s ⟨_, h2⟩
  dsimp only at e
  rw [ea] at e
  rw [sinTable_eq, ← e]
  generalize signed sinT = y
  refine (shapeCast_apply _ shapeCasts_S1x8192x2x64_S8192x128 (ix2 s l) (ix4 0 s ⟨l.val / 64, h1⟩ ⟨_, h2⟩) ?_).trans ?_
  · rw [Shape.rowMajor_val_two, Shape.rowMajor_val_four]
    show ((0 * 8192 + s.val) * 2 + l.val / 64) * 64 + l.val % 64 = s.val * 128 + l.val
    omega
  refine (broadcastInDim_apply ![0, 1, 2, 3] bcast_S1x8192x1x64_S1x8192x2x64_0_1_2_3 _ (ix4 0 s ⟨l.val / 64, h1⟩ ⟨_, h2⟩) (ix4 0 s 0 ⟨_, h2⟩) ?_).trans ?_
  · intro a
    match a with
    | ⟨0, _⟩ => rfl
    | ⟨1, _⟩ => rfl
    | ⟨2, _⟩ => rfl
    | ⟨3, _⟩ => rfl
  exact shapeCast_apply y shapeCasts_S8192x64_S1x8192x1x64 (ix4 0 s 0 ⟨_, h2⟩) (ix2 s ⟨_, h2⟩) (by
    rw [Shape.rowMajor_val_two, Shape.rowMajor_val_four]
    show s.val * 64 + l.val % 64 = ((0 * 8192 + s.val) * 1 + 0) * 64 + l.val % 64
    omega)

theorem blk0 (c : Dev nD) (t : Fin cfg0.N) (r l : Fin 1024) (hr : 1024 * (t.val / 3) + r.val < 16384) :
    iblk m c 0 t (ix2 r l) = aX m c (ix2 ⟨1024 * (t.val / 3) + r.val, hr⟩ l) := by
  obtain ⟨⟨h0, h1⟩, -⟩ := at_point t
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_0.index t 0 * 1024 + 1 * r.val = 1024 * (t.val / 3) + r.val; rw [h0]; omega
  | ⟨1, _⟩ => show win0_0.index t 1 * 1024 + 1 * l.val = l.val; rw [h1]; omega

theorem blk1 (c : Dev nD) (t : Fin cfg0.N) (l : Fin 1024) : iblk m c 1 t (ix2 0 l) = aG m c (ix1 l) := by
  obtain ⟨-, ⟨h0, h1⟩, -⟩ := at_point t
  rw [← gain_at m c l]
  unfold iblk
  rw [View.read_apply]
  show V m c main_v27 _ = V m c main_v27 _
  congr 1; funext a; apply Fin.ext
  match a with
  | ⟨0, _⟩ => show win0_1.index t 0 * 1 + 1 * 0 = 0; rw [h0]
  | ⟨1, _⟩ => show win0_1.index t 1 * 1024 + 1 * l.val = l.val; rw [h1]; omega

theorem blk2 (c : Dev nD) (t : Fin cfg0.N) (k f : Fin 1024) (hf : 1024 * (t.val % 3) + f.val < 3072) :
    iblk m c 2 t (ix2 k f) = aU m c (ix2 k ⟨1024 * (t.val % 3) + f.val, hf⟩) := by
  obtain ⟨-, -, ⟨h0, h1⟩, -⟩ := at_point t
  rw [← weights_eq m c]
  unfold iblk
  rw [View.read_apply]
  show V m c main_v26 _ = V m c main_v26 _
  congr 1; funext a; apply Fin.ext
  match a with
  | ⟨0, _⟩ => show win0_2.index t 0 * 1024 + 1 * k.val = k.val; rw [h0]; omega
  | ⟨1, _⟩ => show win0_2.index t 1 * 1024 + 1 * f.val = 1024 * (t.val % 3) + f.val; rw [h1]; omega

theorem blk3 (c : Dev nD) (t : Fin cfg0.N) (r : Fin 1024) (l : Fin 128) (hs : 1024 * (t.val / 3 % 8) + r.val < 8192) :
    iblk m c 3 t (ix2 r l) = V m c main_v20 (ix2 ⟨1024 * (t.val / 3 % 8) + r.val, hs⟩ l) := by
  obtain ⟨-, -, -, ⟨h0, h1⟩, -⟩ := at_point t
  unfold iblk
  rw [View.read_apply]
  show V m c main_v20 _ = V m c main_v20 _
  congr 1; funext a; apply Fin.ext
  match a with
  | ⟨0, _⟩ => show win0_3.index t 0 * 1024 + 1 * r.val = 1024 * (t.val / 3 % 8) + r.val; rw [h0]; omega
  | ⟨1, _⟩ => show win0_3.index t 1 * 128 + 1 * l.val = l.val; rw [h1]; omega

theorem blk4 (c : Dev nD) (t : Fin cfg0.N) (r : Fin 1024) (l : Fin 128) (hs : 1024 * (t.val / 3 % 8) + r.val < 8192) :
    iblk m c 4 t (ix2 r l) = V m c main_v25 (ix2 ⟨1024 * (t.val / 3 % 8) + r.val, hs⟩ l) := by
  obtain ⟨-, -, -, -, ⟨h0, h1⟩, -⟩ := at_point t
  unfold iblk
  rw [View.read_apply]
  show V m c main_v25 _ = V m c main_v25 _
  congr 1; funext a; apply Fin.ext
  match a with
  | ⟨0, _⟩ => show win0_4.index t 0 * 1024 + 1 * r.val = 1024 * (t.val / 3 % 8) + r.val; rw [h0]; omega
  | ⟨1, _⟩ => show win0_4.index t 1 * 128 + 1 * l.val = l.val; rw [h1]; omega

/-! ## The normalized rows that the points share -/

/-- The row of the input that row `r` of the block at point `n` is. -/
def rowAt (n : ℕ) (r : Fin 1024) : Fin 16384 := ⟨(1024 * (n / 3) + r.val) % 16384, Nat.mod_lt _ (by omega)⟩

theorem row_eq (n : ℕ) (r : Fin 1024) (hr : 1024 * (n / 3) + r.val < 16384) : rowAt n r = ⟨1024 * (n / 3) + r.val, hr⟩ :=
  Fin.ext (Nat.mod_eq_of_lt hr)

theorem row_of_div {n n' : ℕ} (e : n / 3 = n' / 3) (r : Fin 1024) : rowAt n r = rowAt n' r :=
  Fin.ext (by show (1024 * (n / 3) + r.val) % 16384 = (1024 * (n' / 3) + r.val) % 16384; rw [e])

theorem rows_first (c : Dev nD) (t : Fin cfg0.N) (r k : Fin 1024) :
    k0_pay1 (iblk m c 0 t) (iblk m c 1 t) (ix2 r k) = nrm (rowOf (aX m c) (rowAt t.val r)) (aG m c (ix1 k)) k := by
  have hN : cfg0.N = 48 := N_0
  have ht := t.isLt
  have hr : 1024 * (t.val / 3) + r.val < 16384 := by have := r.isLt; omega
  rw [rows_at, blk1 m c t k, row_eq _ _ hr]
  refine congrArg (fun D => nrm D _ k) (funext fun l => ?_)
  exact blk0 m c t r l hr

theorem carried (c : Dev nD) : ∀ (n : ℕ) (h : n < cfg0.N) (r k : Fin 1024),
    (outsAt0 m c n h).2 (ix2 r k) = nrm (rowOf (aX m c) (rowAt n r)) (aG m c (ix1 k)) k := by
  intro n
  induction n with
  | zero =>
    intro h r k
    rw [show outsAt0 m c 0 h = _ from outsAt0_A m c ⟨0, h⟩ (Nat.zero_mod _) (by show 0 % 3 ≤ 1; omega) (by show ¬0 % 3 = 2; omega)]
    dsimp only
    rw [rows_A]
    exact rows_first m c ⟨0, h⟩ r k
  | succ n ih =>
    intro h r k
    by_cases h0 : (n + 1) % 3 = 0
    · rw [show outsAt0 m c (n + 1) h = _ from outsAt0_A m c ⟨n + 1, h⟩ h0 (by show (n + 1) % 3 ≤ 1; omega) (by show ¬(n + 1) % 3 = 2; omega)]
      dsimp only
      rw [rows_A]
      exact rows_first m c ⟨n + 1, h⟩ r k
    · have step : (outsAt0 m c n (Nat.lt_of_succ_lt h)).2 (ix2 r k) = nrm (rowOf (aX m c) (rowAt (n + 1) r)) (aG m c (ix1 k)) k := by
        refine (ih (Nat.lt_of_succ_lt h) r k).trans ?_
        rw [row_of_div (show (n + 1) / 3 = n / 3 by omega)]
      by_cases h1 : (n + 1) % 3 ≤ 1
      · rw [show outsAt0 m c (n + 1) h = _ from outsAt0_B m c ⟨n + 1, h⟩ h0 h1 (by show ¬(n + 1) % 3 = 2; omega)]
        dsimp only
        unfold sout0_B_0
        exact step
      · rw [show outsAt0 m c (n + 1) h = _ from outsAt0_C m c ⟨n + 1, h⟩ h0 h1 (by show (n + 1) % 3 = 2; omega)]
        dsimp only
        unfold sout0_C_0
        exact step

/-! ## The result array -/

/-- The array the kernel leaves. -/
def goal (c : Dev nD) : S16384x3072.Idx → EReal := fun i => ropeAt (aX m c) (aG m c) (aU m c) (i 0) (i 1)

theorem goal_at (c : Dev nD) (i : Fin 16384) (j : Fin 3072) : goal m c (ix2 i j) = ropeAt (aX m c) (aG m c) (aU m c) i j := rfl

/-- The column of the result that column `f` of the block at point `n` is. -/
def colAt (n : ℕ) (f : Fin 1024) : Fin 3072 := ⟨1024 * (n % 3) + f.val, by have := f.isLt; have := Nat.mod_lt n (show 0 < 3 by omega); omega⟩

theorem product_at (c : Dev nD) (t : Fin cfg0.N) (x : Vec Ideal S1024x1024 .bf16) (r f : Fin 1024)
    (hx : ∀ k, x (ix2 r k) = nrm (rowOf (aX m c) (rowAt t.val r)) (aG m c (ix1 k)) k) :
    k0_pay2 (F := Ideal) x (iblk m c 2 t) (ix2 r f) = prj (aX m c) (aG m c) (aU m c) (rowAt t.val r) (1024 * (t.val % 3) + f.val) := by
  have hf : 1024 * (t.val % 3) + f.val < 3072 := (colAt t.val f).isLt
  rw [out_at]
  unfold prj dotN
  rw [col_eq _ hf]
  refine Finset.sum_congr rfl fun k _ => ?_
  rw [hx, blk2 m c t k f hf]

/-- A block turned is every row turned, when the tables hold the angles and their signs. -/
theorem turnAt_eq (q : EReal) (acc : S1024x1024.Idx → EReal) (C S : S1024x128.Idx → EReal) (r f : Fin 1024) (p : ℕ → EReal) (cs sn : Fin 32 → EReal)
    (b : ℕ) (hb : b % 1024 = 0) (hacc : ∀ g : Fin 1024, acc (ix2 r g) = p (b + g.val)) (hC : ∀ l : Fin 128, C (ix2 r l) = cs (ang l.val))
    (hS : ∀ l : Fin 128, S (ix2 r l) = if l.val % 64 < 32 then -(sn (ang l.val)) else sn (ang l.val)) :
    turnAt q acc C S r f = spun p cs sn (b + f.val) * q := by
  have hf := f.isLt
  have ea : ang (lane f).val = ang (b + f.val) := Fin.ext (by show f.val % 128 % 32 = (b + f.val) % 32; omega)
  unfold turnAt spun
  rw [hC, hS, ea, hacc, hacc, hacc]
  by_cases hm : f.val % 64 < 32
  · rw [if_pos hm, if_pos (show (lane f).val % 64 < 32 by show f.val % 128 % 64 < 32; omega), if_pos (show (b + f.val) % 64 < 32 by omega),
      show b + (fwd f).val = b + f.val + 32 by show b + (f.val + 32) % 1024 = b + f.val + 32; omega, mul_neg, ← sub_eq_add_neg]
  · rw [if_neg hm, if_neg (show ¬(lane f).val % 64 < 32 by show ¬f.val % 128 % 64 < 32; omega), if_neg (show ¬(b + f.val) % 64 < 32 by omega),
      show b + (bwd f).val = b + f.val - 32 by show b + (f.val + 992) % 1024 = b + f.val - 32; omega]

theorem turned_at (c : Dev nD) (t : Fin cfg0.N) (q : EReal) (x : Vec Ideal S1024x1024 .bf16) (r f : Fin 1024)
    (hx : ∀ k, x (ix2 r k) = nrm (rowOf (aX m c) (rowAt t.val r)) (aG m c (ix1 k)) k) :
    turned q (k0_pay2 (F := Ideal) x (iblk m c 2 t)) (iblk m c 3 t) (iblk m c 4 t) (ix2 r f)
      = turn (aX m c) (aG m c) (aU m c) (rowAt t.val r) (1024 * (t.val % 3) + f.val) * q := by
  have hN : cfg0.N = 48 := N_0
  have ht := t.isLt
  have hr : 1024 * (t.val / 3) + r.val < 16384 := by have := r.isLt; omega
  have hs : 1024 * (t.val / 3 % 8) + r.val < 8192 := by have := r.isLt; omega
  have ep : pos (rowAt t.val r) = ⟨1024 * (t.val / 3 % 8) + r.val, hs⟩ := by
    rw [row_eq _ _ hr]
    exact Fin.ext (by show (1024 * (t.val / 3) + r.val) % 8192 = 1024 * (t.val / 3 % 8) + r.val; have := r.isLt; omega)
  unfold turn
  rw [ep]
  refine turnAt_eq q _ _ _ r f _ _ _ _ (by omega) (fun g => product_at m c t x r g hx) (fun l => ?_) (fun l => ?_)
  · rw [blk3 m c t r l hs, cosTable_at]
  · rw [blk4 m c t r l hs, sinTable_at]

theorem scale_zero : k0_pay9 (F := Ideal) (BitVec.ofNat 32 0) = Ideal.ofBits .f32 0x3E000000#32 := rfl

theorem scale_one : k0_pay9 (F := Ideal) (BitVec.ofNat 32 1) = 1 := by
  refine Eq.trans ?_ Ideal.ofBits_one_f32
  rfl

theorem point_at (c : Dev nD) (t : Fin cfg0.N) (r f : Fin 1024) :
    (outsAt0 m c t.val t.isLt).1 (ix2 r f) = goal m c (ix2 (rowAt t.val r) (colAt t.val f)) := by
  have hf := f.isLt
  obtain ⟨-, -, -, -, -, -, hq⟩ := at_point t
  rw [goal_at]
  unfold ropeAt
  by_cases h0 : t.val % 3 = 0
  · rw [outsAt0_A m c t h0 (by omega) (by omega)]
    dsimp only
    rw [out_A, turned_at m c t _ _ r f fun k => rows_first m c t r k, hq, if_pos (show (colAt t.val f).val < 1024 by show 1024 * (t.val % 3) + f.val < 1024; omega)]
    rw [show BitVec.ofNat 32 (t.val % 3) = BitVec.ofNat 32 0 by rw [h0], scale_zero]
    rfl
  · have hx : ∀ k, (outsAt0 m c (t.val - 1) (Nat.lt_of_le_of_lt (Nat.sub_le _ _) t.isLt)).2 (ix2 r k) = nrm (rowOf (aX m c) (rowAt t.val r)) (aG m c (ix1 k)) k :=
      fun k => (carried m c (t.val - 1) _ r k).trans (by rw [row_of_div (show (t.val - 1) / 3 = t.val / 3 by omega)])
    rw [if_neg (show ¬(colAt t.val f).val < 1024 by show ¬1024 * (t.val % 3) + f.val < 1024; omega)]
    by_cases h1 : t.val % 3 ≤ 1
    · rw [outsAt0_B m c t h0 h1 (by omega)]
      dsimp only
      rw [out_B, turned_at m c t _ _ r f hx, hq, if_pos (show (colAt t.val f).val < 2048 by show 1024 * (t.val % 3) + f.val < 2048; omega)]
      rw [show BitVec.ofNat 32 (t.val % 3) = BitVec.ofNat 32 1 by rw [show t.val % 3 = 1 by omega], scale_one, mul_one]
      rfl
    · rw [outsAt0_C m c t h0 h1 (by omega)]
      dsimp only
      rw [out_C, out_at', product_at m c t _ r f hx, if_neg (show ¬(colAt t.val f).val < 2048 by show ¬1024 * (t.val % 3) + f.val < 2048; omega)]
      rfl

theorem cut_at (t : Fin cfg0.N) (x : Vec Ideal S1024x1024 .bf16) (r f : Fin 1024) :
    (cfg0.win 5).cut (grid0.coords t) x (ix2 r f) = x (ix2 r f) := rfl

theorem emb_at (t : Fin cfg0.N) (r f : Fin 1024) : (win0_5.blk t).view.emb (ix2 r f) = ix2 (rowAt t.val r) (colAt t.val f) := by
  have hN : cfg0.N = 48 := N_0
  have ht := t.isLt
  have hr : 1024 * (t.val / 3) + r.val < 16384 := by have := r.isLt; omega
  obtain ⟨-, -, -, -, -, ⟨e0, e1⟩, -⟩ := at_point t
  rw [row_eq _ _ hr]
  funext a; apply Fin.ext
  match a with
  | ⟨0, _⟩ => show win0_5.index t 0 * 1024 + 1 * r.val = 1024 * (t.val / 3) + r.val; rw [e0]; omega
  | ⟨1, _⟩ => show win0_5.index t 1 * 1024 + 1 * f.val = 1024 * (t.val % 3) + f.val; rw [e1]; omega

theorem flushed_eq (c : Dev nD) (t : Fin cfg0.N) :
    (dats m 0 c).flushed 5 t = (win0_5.blk t).view.read (Elt Ideal) (goal m c) := by
  funext j
  idx_vars j
  rw [Value.flushed5, View.read_apply]
  refine (cut_at t _ j0 j1).trans ((point_at m c t j0 j1).trans ?_)
  show _ = goal m c ((win0_5.blk t).view.emb (ix2 j0 j1))
  rw [emb_at t j0 j1]

theorem mem_blk (t : Fin cfg0.N) (i : S16384x3072.Idx) : i ∈ ((cfg0.win 5).blk t).view.set ↔
    ∀ a : Fin 2, win0_5.index t a * win0_5.size a ≤ (i a : Nat) ∧ (i a : Nat) < win0_5.index t a * win0_5.size a + win0_5.xsize (grid0.coords t) a := by
  show i ∈ ((View.whole main_v28).slice (win0_5.rect t)).set ↔ _
  rw [View.set_slice_whole, Rect.mem_set_unit]
  rfl

theorem cover (i : S16384x3072.Idx) : ∃ t : Fin cfg0.N, (cfg0.win 5).flush t = true ∧ i ∈ ((cfg0.win 5).blk t).view.set := by
  have hN : cfg0.N = 48 := N_0
  have hi0 : (i 0).val < 16384 := (i 0).isLt
  have hi1 : (i 1).val < 3072 := (i 1).isLt
  have ht : 3 * ((i 0).val / 1024) + (i 1).val / 1024 < cfg0.N := by omega
  refine ⟨⟨_, ht⟩, flush0_5 _, ?_⟩
  obtain ⟨-, -, -, -, -, ⟨h0, h1⟩, -⟩ := at_point ⟨_, ht⟩
  rw [mem_blk]
  intro a
  match a with
  | ⟨0, _⟩ =>
    show win0_5.index _ 0 * 1024 ≤ (i 0 : Nat) ∧ (i 0 : Nat) < win0_5.index _ 0 * 1024 + 1024
    rw [h0]; dsimp only; omega
  | ⟨1, _⟩ =>
    show win0_5.index _ 1 * 1024 ≤ (i 1 : Nat) ∧ (i 1 : Nat) < win0_5.index _ 1 * 1024 + 1024
    rw [h1]; dsimp only; omega

theorem result (c : Dev nD) : (dats m 0 c).arrAt 5 cfg0.N = goal m c :=
  (dats m 0 c).arrAt_eq_of_cover 5 (goal m c) (fun t _ => flushed_eq m c t) cover

end Cert.RopeVal

namespace Cert.RopeVal

theorem algebraic : Cert.algebraic_RopeIdeal_RopeRefIdeal := by
  intro m ρ m' ρ' _ hagree
  refine ⟨fun c => goal m c, ?_, ?_⟩
  · exact (θ_run Cert.RopeIdeal.defs _ _).mono (fun _ h c => ⟨(h c).1.trans (result m c), (h c).2⟩) (Cert.RopeIdeal.Value.run_blocks (F := Ideal) m ρ)
  · refine (θ_run Cert.RopeRefIdeal.defs _ _).mono (fun _ h c => ⟨(h c).1.trans ?_, (h c).2⟩) (Cert.RopeRefIdeal.Value.run (F := Ideal) m' ρ')
    rw [Cert.RopeRefIdeal.Read.val_main_v80_eq, (hagree c).1, (hagree c).2.1, (hagree c).2.2]
    funext j
    idx_vars j
    exact Ref.rope_at (aX m c) (aG m c) (aU m c) j0 j1

end Cert.RopeVal

end
-- ==== Proof.MCoreMath.lean ====
/-
  The mathematics of one chunk of the mLSTM recurrence: prefix sums by doubling, the state that a chunk leaves and its output rows.
-/
module

public import proofs.«01_k».proof.Proof.Layer

@[expose] public section

noncomputable section

open Idealize.ShloMosaic

namespace Cert.Rec

/-! ## Prefix sums by doubling -/

/-- The sum of the entries up to place `t`. -/
def pre (f : Fin 128 → EReal) (t : Fin 128) : EReal := ∑ s : Fin 128, if s.val ≤ t.val then f s else 0

/-- The entries of a column at every natural number. -/
def ext (f : Fin 128 → EReal) (n : ℕ) : EReal := if h : n < 128 then f ⟨n, h⟩ else 0

/-- The sum of the `s` entries that end at place `r`. -/
def win (g : ℕ → EReal) (s r : ℕ) : EReal := ∑ j ∈ Finset.range s, if j ≤ r then g (r - j) else 0

theorem win_one (g : ℕ → EReal) (r : ℕ) : win g 1 r = g r := by
  unfold win
  rw [Finset.sum_range_one, if_pos (Nat.zero_le r), Nat.sub_zero]

theorem win_double (g : ℕ → EReal) (s r : ℕ) : win g (s + s) r = win g s r + if s ≤ r then win g s (r - s) else 0 := by
  unfold win
  rw [Finset.sum_range_add]
  congr 1
  by_cases h : s ≤ r
  · rw [if_pos h]
    refine Finset.sum_congr rfl fun j _ => ?_
    by_cases hj : j ≤ r - s
    · rw [if_pos hj, if_pos (by omega), show r - (s + j) = r - s - j by omega]
    · rw [if_neg hj, if_neg (by omega)]
  · rw [if_neg h]
    exact Finset.sum_eq_zero fun j _ => if_neg (by omega)

theorem win_full (f : Fin 128 → EReal) (t : Fin 128) : win (ext f) 128 t.val = pre f t := by
  have ht := t.isLt
  have split : ∀ g : ℕ → EReal, (∑ j ∈ Finset.range 128, if j ≤ t.val then g j else 0) = ∑ j ∈ Finset.range (t.val + 1), g j := by
    intro g
    generalize t.val = r at ht ⊢
    obtain ⟨k, hk⟩ : ∃ k, 128 = (r + 1) + k := ⟨127 - r, by omega⟩
    rw [hk, Finset.sum_range_add, Finset.sum_eq_zero (s := Finset.range k) (fun j _ => if_neg (by omega)), add_zero]
    exact Finset.sum_congr rfl fun j hj => if_pos (by have := Finset.mem_range.mp hj; omega)
  have e1 : win (ext f) 128 t.val = ∑ j ∈ Finset.range (t.val + 1), ext f (t.val - j) := split fun j => ext f (t.val - j)
  have e2 : pre f t = ∑ j ∈ Finset.range (t.val + 1), ext f j := by
    rw [← split (ext f), Finset.sum_range]
    unfold pre
    refine Finset.sum_congr rfl fun s _ => ?_
    unfold ext
    rw [dif_pos s.isLt]
  rw [e1, e2, ← Finset.sum_range_reflect (ext f) (t.val + 1)]
  refine Finset.sum_congr rfl fun j hj => ?_
  rw [show t.val + 1 - 1 - j = t.val - j by omega]

/-- One doubling step at a place: a window of `s` becomes a window of `s + s`. -/
theorem win_step (f x y : Fin 128 → EReal) (s : ℕ) (hx : ∀ r : Fin 128, x r = win (ext f) s r.val)
    (hy : ∀ r : Fin 128, y r = x r + if s ≤ r.val then x ⟨(r.val + (128 - s % 128)) % 128, Nat.mod_lt _ (by omega)⟩ else 0) (hs : s < 128) (r : Fin 128) :
    y r = win (ext f) (s + s) r.val := by
  have hr := r.isLt
  rw [hy, win_double, hx]
  by_cases h : s ≤ r.val
  · rw [if_pos h, if_pos h, hx]
    dsimp only
    rw [show (r.val + (128 - s % 128)) % 128 = r.val - s by omega]
  · rw [if_neg h, if_neg h]

/-! ## Gates -/

/-- A gate's value held within fifteen. -/
def cap (x : EReal) : EReal := Ideal.ofBits .f32 0x41700000#32 * Ideal.tanh (Ideal.div x (Ideal.ofBits .f32 0x41700000#32))

/-- The logarithm of the sigmoid. -/
def logsig (x : EReal) : EReal := -(max (-x) 0 + Ideal.log1p (Ideal.exp (-(max (-x) (-(-x))))))

/-! ## One chunk of one head -/

/-- The last place of a chunk. -/
def lastP : Fin 128 := ⟨127, by omega⟩

/-- The scale of the queries. -/
def qs : EReal := Ideal.ofBits .f32 0x3DB504F3#32

section chunk
variable (b li : Fin 128 → EReal) (m : EReal)

/-- The logarithm of the weight of place `s` in the row `t`. -/
def dlog (t s : Fin 128) : EReal := if s.val ≤ t.val then b t - b s + li s else ⊥

/-- The largest logarithm in the row `t`, the carried state's counted. -/
def peak (t : Fin 128) : EReal := max (b t + m) (Finset.univ.fold max ⊥ fun s => dlog b li t s)

/-- The logarithm of the weight of place `s` in the state at the end of the chunk. -/
def wlog (s : Fin 128) : EReal := b lastP - b s + li s

/-- The largest of them. -/
def locm : EReal := Finset.univ.fold max ⊥ fun s => wlog b li s

/-- The stabilizer of the new state. -/
def newm : EReal := max (b lastP + m) (locm b li)

/-- How much of the carried state is kept, and how much of the chunk's own part is added. -/
def aold : EReal := Ideal.exp (b lastP + m - newm b li m)
def aloc : EReal := Ideal.exp (locm b li - newm b li m)

variable (q k : Fin 128 → Fin 128 → EReal) (v c : Fin 128 → Fin 256 → EReal) (n : Fin 128 → EReal)

/-- The key at place `s`, weighted. -/
def kw (s d : Fin 128) : EReal := k s d * Ideal.exp (wlog b li s - locm b li)

/-- The new state. -/
def newc (d : Fin 128) (e : Fin 256) : EReal := aold b li m * c d e + aloc b li m * ∑ s : Fin 128, kw b li k s d * v s e
def newn (d : Fin 128) : EReal := aold b li m * n d + aloc b li m * ∑ s : Fin 128, kw b li k s d

/-- The weight of place `s` in the row `t`. -/
def wt (t s : Fin 128) : EReal := Ideal.exp (dlog b li t s - peak b li m t) * ((∑ d : Fin 128, q t d * k s d) * qs)

/-- The weight of the carried state in the row `t`. -/
def carry (t : Fin 128) : EReal := Ideal.exp (b t + m - peak b li m t)

def num (t : Fin 128) (e : Fin 256) : EReal :=
  (∑ s : Fin 128, wt b li m q k t s * v s e) + carry b li m t * ((∑ d : Fin 128, q t d * c d e) * qs)

def den (t : Fin 128) : EReal := (∑ s : Fin 128, wt b li m q k t s) + carry b li m t * ((∑ d : Fin 128, q t d * n d) * qs)

/-- The row `t` before its norm. -/
def hs (t : Fin 128) (e : Fin 256) : EReal :=
  Ideal.div (num b li m q k v c t e) (max (max (den b li m q k n t) (-den b li m q k n t)) (Ideal.exp (-peak b li m t)))

end chunk

/-- A row normalized, scaled and gated. -/
def gated (H : Fin 256 → EReal) (g o : EReal) (e : Fin 256) : EReal :=
  Ideal.logistic o * (H e * Ideal.rsqrt (Ideal.div (∑ x : Fin 256, H x * H x) (Ideal.ofBits .f32 0x43800000#32) + Ideal.ofBits .f32 0x358637BD#32) * g)

/-! ## The recurrence -/

/-- The scale of the queries is a real number, at least zero. -/
theorem qs_real : ∃ r : ℝ, 0 ≤ r ∧ qs = (r : EReal) := by
  refine ⟨(1 : ℝ) * (2 ^ 23 + 0x3504F3 : ℕ) * (2 : ℝ) ^ ((123 : ℤ) - (2 ^ (8 - 1) - 1) - (23 : ℕ)), by positivity, ?_⟩
  show Ideal.ieee 8 23 0x3DB504F3#32 = _
  have e1 : ((0x3DB504F3#32).extractLsb' (8 + 23) 1 == 1#1) = false := by decide
  have e2 : ((0x3DB504F3#32).extractLsb' 23 8).toNat = 123 := by decide
  have e3 : ((0x3DB504F3#32).extractLsb' 0 23).toNat = 0x3504F3 := by decide
  unfold Ideal.ieee
  dsimp only
  rw [e1, e2, e3, if_neg (by decide), if_neg (by decide), if_neg (by decide)]
  rfl

/-- A real factor, at least zero, is moved into a sum. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

section layer
variable (X : (⟨2, ![16384, 3200]⟩ : Shape).Idx → EReal) (G : (⟨1, ![8]⟩ : Shape).Idx → EReal) (N : (⟨1, ![1024]⟩ : Shape).Idx → EReal)
variable (a : Fin 2) (h : Fin 4)

/-- The row that place `t` of chunk `j` of sequence `a` is. -/
def rowC (j : ℕ) (t : Fin 128) : Fin 16384 := ⟨(8192 * a.val + 128 * j + t.val) % 16384, Nat.mod_lt _ (by omega)⟩

def qO (j : ℕ) (t d : Fin 128) : EReal := X (ix2 (rowC a j t) ⟨128 * h.val + d.val, by omega⟩)
def kO (j : ℕ) (t d : Fin 128) : EReal := X (ix2 (rowC a j t) ⟨512 + 128 * h.val + d.val, by omega⟩)
def vO (j : ℕ) (t : Fin 128) (e : Fin 256) : EReal := X (ix2 (rowC a j t) ⟨1024 + 256 * h.val + e.val, by omega⟩)
def oO (j : ℕ) (t : Fin 128) (e : Fin 256) : EReal := X (ix2 (rowC a j t) ⟨2048 + 256 * h.val + e.val, by omega⟩)
def gO (e : Fin 256) : EReal := N (ix1 ⟨256 * h.val + e.val, by omega⟩)

/-- The logarithm of the input gate, and the running sum of the logarithms of the forget gate. -/
def liO (j : ℕ) (t : Fin 128) : EReal := cap (X (ix2 (rowC a j t) ⟨3072 + h.val, by omega⟩) + G (ix1 ⟨h.val, by omega⟩))
def lfO (j : ℕ) (t : Fin 128) : EReal := logsig (cap (X (ix2 (rowC a j t) ⟨3076 + h.val, by omega⟩) + G (ix1 ⟨4 + h.val, by omega⟩)))
def bO (j : ℕ) (t : Fin 128) : EReal := pre (lfO X G a h j) t

/-- The state before chunk `j`. -/
def mSt : ℕ → EReal
  | 0 => 0
  | j + 1 => newm (bO X G a h j) (liO X G a h j) (mSt j)

def cSt : ℕ → Fin 128 → Fin 256 → EReal
  | 0 => fun _ _ => 0
  | j + 1 => newc (bO X G a h j) (liO X G a h j) (mSt X G a h j) (kO X a h j) (vO X a h j) (cSt j)

def nSt : ℕ → Fin 128 → EReal
  | 0 => fun _ => 0
  | j + 1 => newn (bO X G a h j) (liO X G a h j) (mSt X G a h j) (kO X a h j) (nSt j)

/-- Row `t` of chunk `j`, column `e` of the head. -/
def outO (j : ℕ) (t : Fin 128) (e : Fin 256) : EReal :=
  gated (hs (bO X G a h j) (liO X G a h j) (mSt X G a h j) (qO X a h j) (kO X a h j) (vO X a h j) (cSt X G a h j) (nSt X G a h j) t)
    (gO N h e) (oO X a h j t e) e

end layer

end Cert.Rec

end
-- ==== Proof.MCoreHead.lean ====
module

public import proofs.«01_k».proof.Proof.MCoreMath
public import proofs.«01_k».proof.Proof.AttnKer
public import proofs.«01_k».proof.Proof.Gen.MCoreIdeal.Skeleton
public import Idealize.ShloMosaic.Lib.Pointwise

/-! One head of a chunk, the kernel's way: its vectors named alike for every head, and what stands at each of their entries. -/

@[expose] public section

set_option maxRecDepth 16384

noncomputable section

namespace Cert.MCoreVal

open Idealize.ShloMosaic Idealize.ShloMosaic.TcCoe Idealize.SL.Sem
open Cert.MCoreIdeal Cert.MCoreIdeal.Gen Cert.Rec
open Cert.AttnVal (bits_bot sel_if le_words)

theorem sl_b : ∀ h : Fin 4, S128x128.Slices ![0, 4 + h.val] S128x1 := by decide
theorem sl_i : ∀ h : Fin 4, S128x128.Slices ![0, h.val] S128x1 := by decide
theorem sl_bt : ∀ h : Fin 4, S128x128.Slices ![4 + h.val, 0] S1x128 := by decide
theorem sl_it : ∀ h : Fin 4, S128x128.Slices ![h.val, 0] S1x128 := by decide

/-- The head's column of the running sums, and of the input gates. -/
def colB (h : Fin 4) (B : FVec Ideal S128x128 .f32) : FVec Ideal S128x1 .f32 := extractStridedSlice S128x1 ![0, 4 + h.val] B (sl_b h)
def colI (h : Fin 4) (I : FVec Ideal S128x128 .f32) : FVec Ideal S128x1 .f32 := extractStridedSlice S128x1 ![0, h.val] I (sl_i h)

/-- The last running sum. -/
def lastV (b : FVec Ideal S128x1 .f32) : FVec Ideal S1x1 .f32 := extractStridedSlice S1x1 ![127, 0] b slices_S128x1_o127_0_S1x1

/-- The logarithms of the weights. -/
def dlogV (h : Fin 4) (B BT IT : FVec Ideal S128x128 .f32) : FVec Ideal S128x128 .f32 :=
  select k0_pay12
    (addf (subf (broadcastTo S128x128 (colB h B) broadcasts_S128x1_S128x128)
      (broadcastTo S128x128 (extractStridedSlice S1x128 ![4 + h.val, 0] BT (sl_bt h)) broadcasts_S1x128_S128x128))
      (broadcastTo S128x128 (extractStridedSlice S1x128 ![h.val, 0] IT (sl_it h)) broadcasts_S1x128_S128x128))
    (broadcast S128x128 (Scalar.ofBits .f32 0xFF800000#32))

/-- The carried logarithm of each row. -/
def carV (b : FVec Ideal S128x1 .f32) (m : FVec Ideal S1x1 .f32) : FVec Ideal S128x1 .f32 :=
  addf b (broadcastTo S128x1 m broadcasts_S1x1_S128x1)

/-- The largest logarithm of each row. -/
def peakV (d : FVec Ideal S128x128 .f32) (cv : FVec Ideal S128x1 .f32) : FVec Ideal S128x1 .f32 :=
  maximumf cv (shapeCast S128x1 (multiReduction .maximumf [1] S128 d 0xFF800000#32 reduces_S128x128_S128 (.inl rfl) rfl) shapeCasts_S128_S128x1)

/-- The weights. -/
def wtV (d : FVec Ideal S128x128 .f32) (pk : FVec Ideal S128x1 .f32) (q k : FVec Ideal S128x128 .f32) : FVec Ideal S128x128 .f32 :=
  mulf (exp (subf d (broadcastTo S128x128 pk broadcasts_S128x1_S128x128)))
    (mulf (matmul dot_S128x128_S128x128_S128x128_1_1_0_0_n_n none (k0_pay14 (F := Ideal) q) (truncf .bf16 k bitsLt_bf16_f32) (constant S128x128 .f32 0x00000000#32))
      (broadcast S128x128 (Scalar.ofBits .f32 0x3DB504F3#32)))

def carryV (cv pk : FVec Ideal S128x1 .f32) : FVec Ideal S128x1 .f32 := exp (subf cv pk)

/-- The numerators. -/
def numV (w : FVec Ideal S128x128 .f32) (cr : FVec Ideal S128x1 .f32) (q : FVec Ideal S128x128 .f32) (v : FVec Ideal S128x256 .f32)
    (c : FVec Ideal S1x128x256 .f32) : FVec Ideal S128x256 .f32 :=
  addf (matmul dot_S128x128_S128x256_S128x256_1_0_0_1_n_n none (truncf .bf16 w bitsLt_bf16_f32) (k0_pay13 (F := Ideal) v) (constant S128x256 .f32 0x00000000#32))
    (mulf (broadcastTo S128x256 cr broadcasts_S128x1_S128x256)
      (mulf (matmul dot_S128x128_S128x256_S128x256_1_0_0_1_n_n none (k0_pay14 (F := Ideal) q) (truncf .bf16 (k0_pay18 (F := Ideal) c) bitsLt_bf16_f32) (constant S128x256 .f32 0x00000000#32))
        (broadcast S128x256 (Scalar.ofBits .f32 0x3DB504F3#32))))

theorem mask_at (t s : Fin 128) : k0_pay12 (ix2 t s) = if s.val ≤ t.val then 1#1 else 0#1 := by
  pointwise [k0_pay12]
  exact le_words _ _ (by omega) (by omega)

section entries
variable (h : Fin 4) (B I BT IT : FVec Ideal S128x128 .f32)

theorem colB_at (t : Fin 128) : colB h B (ix2 t 0) = B (ix2 t ⟨4 + h.val, by omega⟩) := by
  pointwise [colB]
theorem colI_at (t : Fin 128) : colI h I (ix2 t 0) = I (ix2 t ⟨h.val, by omega⟩) := by
  pointwise [colI]
theorem lastV_at (b : FVec Ideal S128x1 .f32) : lastV b (ix2 0 0) = b (ix2 lastP 0) := by
  pointwise [lastV]
  rfl
theorem m_at (m : FVec Ideal S1x1x128 .f32) : k0_pay20 (F := Ideal) m (ix2 0 0) = m (ix3 0 0 0) := by
  pointwise [k0_pay20]

theorem dlogV_at (t s : Fin 128) : dlogV h B BT IT (ix2 t s) =
    if s.val ≤ t.val then B (ix2 t ⟨4 + h.val, by omega⟩) - BT (ix2 ⟨4 + h.val, by omega⟩ s) + IT (ix2 ⟨h.val, by omega⟩ s) else ⊥ := by
  pointwise [dlogV, colB]
  rw [mask_at, bits_bot, sel_if]

variable (bV liV cv pk cr : FVec Ideal S128x1 .f32) (m : FVec Ideal S1x1 .f32) (d w : FVec Ideal S128x128 .f32)
  (q k : FVec Ideal S128x128 .f32) (v : FVec Ideal S128x256 .f32) (c : FVec Ideal S1x128x256 .f32) (n : FVec Ideal S1x1x128 .f32)

theorem carV_at (t : Fin 128) : carV bV m (ix2 t 0) = bV (ix2 t 0) + m (ix2 0 0) := by
  pointwise [carV]
theorem peakV_at (t : Fin 128) : peakV d cv (ix2 t 0) = max (cv (ix2 t 0)) (Finset.univ.fold max ⊥ fun s : Fin 128 => d (ix2 t s)) := by
  pointwise [peakV]
  rw [bits_bot]
theorem wtV_at (t s : Fin 128) : wtV d pk q k (ix2 t s) = Ideal.exp (d (ix2 t s) - pk (ix2 t 0)) * ((∑ x : Fin 128, q (ix2 t x) * k (ix2 s x)) * qs) := by
  pointwise [wtV, k0_pay14]
  rfl
theorem carryV_at (t : Fin 128) : carryV cv pk (ix2 t 0) = Ideal.exp (cv (ix2 t 0) - pk (ix2 t 0)) := by
  pointwise [carryV]
theorem numV_at (t : Fin 128) (e : Fin 256) : numV w cr q v c (ix2 t e) =
    (∑ s : Fin 128, w (ix2 t s) * v (ix2 s e)) + cr (ix2 t 0) * ((∑ x : Fin 128, q (ix2 t x) * c (ix3 0 x e)) * qs) := by
  pointwise [numV, k0_pay14, k0_pay13, k0_pay18]
  rfl
theorem hsV_at (u : FVec Ideal S128x256 .f32) (t : Fin 128) (e : Fin 256) : k0_pay28 (F := Ideal) q pk w cr u (k0_pay27 (F := Ideal) n) (ix2 t e) =
    Ideal.div (u (ix2 t e)) (max (max ((∑ s : Fin 128, w (ix2 t s)) + cr (ix2 t 0) * ((∑ x : Fin 128, q (ix2 t x) * n (ix3 0 0 x)) * qs))
      (-((∑ s : Fin 128, w (ix2 t s)) + cr (ix2 t 0) * ((∑ x : Fin 128, q (ix2 t x) * n (ix3 0 0 x)) * qs)))) (Ideal.exp (-pk (ix2 t 0)))) := by
  pointwise [k0_pay28, k0_pay27, k0_pay19]
  rw [Ideal.absf_def, zero_sub]
  rfl
theorem outV_at (u : FVec Ideal S128x256 .f32) (g : FVec Ideal S1x256 .f32) (o : FVec Ideal S128x256 .f32) (t : Fin 128) (e : Fin 256) :
    k0_pay41 (F := Ideal) u g o (ix2 t e) = gated (fun x => u (ix2 t x)) (g (ix2 0 e)) (o (ix2 t e)) e := by
  pointwise [k0_pay41]
  rfl

variable (last : FVec Ideal S1x1 .f32)
theorem wlogV_at (s : Fin 128) : k0_pay29 (F := Ideal) bV liV last (ix2 s 0) = last (ix2 0 0) - bV (ix2 s 0) + liV (ix2 s 0) := by
  pointwise [k0_pay29]
theorem locV_at : k0_pay30 (F := Ideal) bV liV last (ix2 0 0) = Finset.univ.fold max ⊥ fun s : Fin 128 => k0_pay29 (F := Ideal) bV liV last (ix2 s 0) := by
  pointwise [k0_pay30]
  rw [bits_bot]
theorem kwV_at (s x : Fin 128) : k0_pay31 (F := Ideal) k bV liV last (ix2 s x) =
    k (ix2 s x) * Ideal.exp (k0_pay29 (F := Ideal) bV liV last (ix2 s 0) - k0_pay30 (F := Ideal) bV liV last (ix2 0 0)) := by
  pointwise [k0_pay31]
theorem nlocV_at (x : Fin 128) : k0_pay32 (F := Ideal) k bV liV last (ix2 0 x) = ∑ s : Fin 128, k0_pay31 (F := Ideal) k bV liV last (ix2 s x) := by
  pointwise [k0_pay32]
theorem newmV_at : k0_pay33 (F := Ideal) bV liV last m (ix2 0 0) = max (last (ix2 0 0) + m (ix2 0 0)) (k0_pay30 (F := Ideal) bV liV last (ix2 0 0)) := by
  pointwise [k0_pay33]
theorem aoldV_at : k0_pay34 (F := Ideal) bV liV last m (ix2 0 0) = Ideal.exp (last (ix2 0 0) + m (ix2 0 0) - k0_pay33 (F := Ideal) bV liV last m (ix2 0 0)) := by
  pointwise [k0_pay34]
theorem alocV_at : k0_pay35 (F := Ideal) bV liV last m (ix2 0 0) = Ideal.exp (k0_pay30 (F := Ideal) bV liV last (ix2 0 0) - k0_pay33 (F := Ideal) bV liV last m (ix2 0 0)) := by
  pointwise [k0_pay35]
theorem newcV_at (x : Fin 128) (e : Fin 256) : k0_pay36 (F := Ideal) k (k0_pay13 (F := Ideal) v) bV liV last (k0_pay18 (F := Ideal) c) m (ix3 0 x e) =
    k0_pay34 (F := Ideal) bV liV last m (ix2 0 0) * c (ix3 0 x e) + k0_pay35 (F := Ideal) bV liV last m (ix2 0 0) * ∑ s : Fin 128, k0_pay31 (F := Ideal) k bV liV last (ix2 s x) * v (ix2 s e) := by
  pointwise [k0_pay36, k0_pay13, k0_pay18]
theorem newnV_at (x : Fin 128) : k0_pay39 (F := Ideal) (k0_pay32 (F := Ideal) k bV liV last) (k0_pay37 (F := Ideal) bV liV last (k0_pay19 (F := Ideal) n) m) (k0_pay38 (F := Ideal) bV liV last m) (ix3 0 0 x) =
    k0_pay34 (F := Ideal) bV liV last m (ix2 0 0) * n (ix3 0 0 x) + k0_pay35 (F := Ideal) bV liV last m (ix2 0 0) * k0_pay32 (F := Ideal) k bV liV last (ix2 0 x) := by
  pointwise [k0_pay39, k0_pay37, k0_pay38, k0_pay19]
theorem storem_at (x : Fin 128) : k0_pay40 (F := Ideal) m (ix3 0 0 x) = m (ix2 0 0) := by
  pointwise [k0_pay40]

end entries

end Cert.MCoreVal

end
-- ==== Proof.MCoreGates.lean ====
module

public import proofs.«01_k».proof.Proof.MCoreHead
public import Idealize.ShloMosaic.Lib.KernelVsHost

/-! The gates of a chunk, and the running sums the kernel forms by seven doubling steps. -/

@[expose] public section

set_option maxRecDepth 16384

noncomputable section

namespace Cert.MCoreVal

open Idealize.ShloMosaic Idealize.ShloMosaic.TcCoe Idealize.SL.Sem
open Cert.MCoreIdeal Cert.MCoreIdeal.Gen Cert.Rec
open Cert.AttnVal (bits_bot sel_if le_words)

/-- A step with the rotated rows given. -/
def dblW (s : BitVec 32) (x r : FVec Ideal S128x128 .f32) : FVec Ideal S128x128 .f32 :=
  addf x (select (cmpi .sge (iota .tc S128x128 32 [0] iota_S128x128_d0_w32) (broadcast S128x128 s)) r (broadcast S128x128 (Scalar.ofBits .f32 0x00000000#32)))

/-- One doubling step. -/
def dbl (s : BitVec 32) (x : FVec Ideal S128x128 .f32) : FVec Ideal S128x128 .f32 := dblW s x (dynamicRotate 0 s none x rotates_S128x128_d0)

theorem rot_at (s : BitVec 32) (x : FVec Ideal S128x128 .f32) (t l : Fin 128) :
    dynamicRotate 0 s none x rotates_S128x128_d0 (ix2 t l) = x (ix2 ⟨(t.val + (128 - s.toNat % 128)) % 128, Nat.mod_lt _ (by omega)⟩ l) :=
  dynamicRotate_apply 0 s x rotates_S128x128_d0 (ix2 t l) (ix2 ⟨(t.val + (128 - s.toNat % 128)) % 128, Nat.mod_lt _ (by omega)⟩ l) (fun b => by
    match b with
    | ⟨0, _⟩ =>
      show (t.val + (128 - s.toNat % 128)) % 128 = (t.val + 128 - s.toNat % 128) % 128
      have : s.toNat % 128 < 128 := Nat.mod_lt _ (by omega)
      congr 1; omega
    | ⟨1, _⟩ => rfl)

theorem ge_words (t : Fin 128) (s : BitVec 32) (hs : s.toNat < 128) :
    IntOp.cmpi CmpIPredicate.sge (BitVec.ofNat 32 t.val) s = if s.toNat ≤ t.val then 1#1 else 0#1 := by
  have e := le_words s.toNat t.val (by omega) (by omega)
  rw [BitVec.ofNat_toNat, BitVec.setWidth_eq] at e
  exact e

theorem dbl_at (s : BitVec 32) (hs : s.toNat < 128) (x : FVec Ideal S128x128 .f32) (t l : Fin 128) :
    dbl s x (ix2 t l) = x (ix2 t l) + if s.toNat ≤ t.val then x (ix2 ⟨(t.val + (128 - s.toNat % 128)) % 128, Nat.mod_lt _ (by omega)⟩ l) else 0 := by
  rw [← rot_at s x t l]
  unfold dbl
  generalize dynamicRotate 0 s none x rotates_S128x128_d0 = r
  pointwise [dblW]
  rw [ge_words t s hs, sel_if]

theorem dbl_win (s : BitVec 32) (hs : s.toNat < 128) (x : FVec Ideal S128x128 .f32) (f : Fin 128 → EReal) (l : Fin 128)
    (h : ∀ t : Fin 128, x (ix2 t l) = win (ext f) s.toNat t.val) (t : Fin 128) : dbl s x (ix2 t l) = win (ext f) (s.toNat + s.toNat) t.val :=
  win_step f (fun t => x (ix2 t l)) (fun t => dbl s x (ix2 t l)) s.toNat h (fun r => dbl_at s hs x r l) hs t

/-- The logarithms of the sigmoids of the gates. -/
def logV (G : FVec Ideal S128x128 .f32) (x1 : FVec Ideal S1x128 .f32) : FVec Ideal S128x128 .f32 :=
  subf (broadcast S128x128 (Scalar.ofBits .f32 0x00000000#32))
    (addf (maximumf (subf (broadcast S128x128 (Scalar.ofBits .f32 0x00000000#32)) (k0_pay7 (F := Ideal) G x1)) (broadcast S128x128 (Scalar.ofBits .f32 0x00000000#32)))
      (log1p (exp (subf (broadcast S128x128 (Scalar.ofBits .f32 0x00000000#32))
        (absf (subf (broadcast S128x128 (Scalar.ofBits .f32 0x00000000#32)) (k0_pay7 (F := Ideal) G x1)))))))

/-- The running sums. -/
def sumV (G : FVec Ideal S128x128 .f32) (x1 : FVec Ideal S1x128 .f32) : FVec Ideal S128x128 .f32 :=
  k0_pay9 (F := Ideal) (iota .tc S128x128 32 [0] iota_S128x128_d0_w32) (k0_pay8 (F := Ideal) G x1) 4#32

theorem gate_at (G : FVec Ideal S128x128 .f32) (x1 : FVec Ideal S1x128 .f32) (t l : Fin 128) :
    k0_pay7 (F := Ideal) G x1 (ix2 t l) = cap (G (ix2 t l) + x1 (ix2 0 l)) := by
  pointwise [k0_pay7]
  rfl

theorem logV_at (G : FVec Ideal S128x128 .f32) (x1 : FVec Ideal S1x128 .f32) (t l : Fin 128) :
    logV G x1 (ix2 t l) = logsig (cap (G (ix2 t l) + x1 (ix2 0 l))) := by
  rw [← gate_at]
  pointwise [logV]
  rw [Ideal.absf_def]
  simp only [zero_sub]
  rfl

theorem sum_steps (G : FVec Ideal S128x128 .f32) (x1 : FVec Ideal S1x128 .f32) :
    sumV G x1 = dbl 64#32 (dbl 32#32 (dbl 16#32 (dbl 8#32 (dbl 4#32 (dbl 2#32 (dbl 1#32 (logV G x1))))))) := rfl

theorem sumV_at (G : FVec Ideal S128x128 .f32) (x1 : FVec Ideal S1x128 .f32) (t l : Fin 128) :
    sumV G x1 (ix2 t l) = pre (fun s => logsig (cap (G (ix2 s l) + x1 (ix2 0 l)))) t := by
  rw [sum_steps, ← win_full]
  refine dbl_win 64#32 (by decide) _ _ l (fun t => ?_) t
  refine dbl_win 32#32 (by decide) _ _ l (fun t => ?_) t
  refine dbl_win 16#32 (by decide) _ _ l (fun t => ?_) t
  refine dbl_win 8#32 (by decide) _ _ l (fun t => ?_) t
  refine dbl_win 4#32 (by decide) _ _ l (fun t => ?_) t
  refine dbl_win 2#32 (by decide) _ _ l (fun t => ?_) t
  refine dbl_win 1#32 (by decide) _ _ l (fun t => ?_) t
  rw [logV_at]
  refine Eq.trans ?_ (win_one _ _).symm
  unfold ext
  rw [dif_pos t.isLt]

theorem sumT_at (G : FVec Ideal S128x128 .f32) (x1 : FVec Ideal S1x128 .f32) (l t : Fin 128) :
    k0_pay10 (F := Ideal) (iota .tc S128x128 32 [0] iota_S128x128_d0_w32) (k0_pay8 (F := Ideal) G x1) 4#32 (ix2 l t) = sumV G x1 (ix2 t l) := by
  have e : k0_pay10 (F := Ideal) (iota .tc S128x128 32 [0] iota_S128x128_d0_w32) (k0_pay8 (F := Ideal) G x1) 4#32
    = transpose S128x128 [1, 0] (sumV G x1) transposes_S128x128_p1_0_S128x128 := rfl
  rw [e]
  generalize sumV G x1 = w
  pointwise []

theorem gateT_at (I : FVec Ideal S128x128 .f32) (l t : Fin 128) : k0_pay11 (F := Ideal) I (ix2 l t) = I (ix2 t l) := by
  pointwise [k0_pay11]

end Cert.MCoreVal

end
-- ==== Proof.MCoreStep.lean ====
module

public import proofs.«01_k».proof.Proof.MCoreGates

/-! One chunk of one head as the kernel computes it: the new state and the output rows, in the mathematics of the recurrence. -/

@[expose] public section

set_option maxRecDepth 16384

noncomputable section

namespace Cert.MCoreVal

open Idealize.ShloMosaic Idealize.ShloMosaic.TcCoe Idealize.SL.Sem
open Cert.MCoreIdeal Cert.MCoreIdeal.Gen Cert.Rec

section head
variable (h : Fin 4) (G : FVec Ideal S128x128 .f32) (x1 : FVec Ideal S1x128 .f32)
  (q k : FVec Ideal S128x128 .f32) (v o : FVec Ideal S128x256 .f32) (g : FVec Ideal S1x256 .f32)
  (c : FVec Ideal S1x128x256 .f32) (n m : FVec Ideal S1x1x128 .f32)

/-- The head's running sums and input gates, as vectors. -/
def bV : FVec Ideal S128x1 .f32 := colB h (sumV G x1)
def liV : FVec Ideal S128x1 .f32 := colI h (k0_pay7 (F := Ideal) G x1)
def laV : FVec Ideal S1x1 .f32 := lastV (bV h G x1)
def dV : FVec Ideal S128x128 .f32 := dlogV h (sumV G x1)
  (k0_pay10 (F := Ideal) (iota .tc S128x128 32 [0] iota_S128x128_d0_w32) (k0_pay8 (F := Ideal) G x1) 4#32) (k0_pay11 (F := Ideal) (k0_pay7 (F := Ideal) G x1))
def cvV : FVec Ideal S128x1 .f32 := carV (bV h G x1) (k0_pay20 (F := Ideal) m)
def pkV : FVec Ideal S128x1 .f32 := peakV (dV h G x1) (cvV h G x1 m)
def wV : FVec Ideal S128x128 .f32 := wtV (dV h G x1) (pkV h G x1 m) q k
def crV : FVec Ideal S128x1 .f32 := carryV (cvV h G x1 m) (pkV h G x1 m)
def uV : FVec Ideal S128x256 .f32 := numV (wV h G x1 q k m) (crV h G x1 m) q v c
def hV : FVec Ideal S128x256 .f32 :=
  k0_pay28 (F := Ideal) q (pkV h G x1 m) (wV h G x1 q k m) (crV h G x1 m) (uV h G x1 q k v c m) (k0_pay27 (F := Ideal) n)

/-- What the head stores: its rows, and its new state. -/
def headO : FVec Ideal S128x256 .bf16 := k0_pay41 (F := Ideal) (hV h G x1 q k v c n m) g o
def headC : FVec Ideal S1x128x256 .f32 :=
  k0_pay36 (F := Ideal) k (k0_pay13 (F := Ideal) v) (bV h G x1) (liV h G x1) (laV h G x1) (k0_pay18 (F := Ideal) c) (k0_pay20 (F := Ideal) m)
def headN : FVec Ideal S1x1x128 .f32 :=
  k0_pay39 (F := Ideal) (k0_pay32 (F := Ideal) k (bV h G x1) (liV h G x1) (laV h G x1))
    (k0_pay37 (F := Ideal) (bV h G x1) (liV h G x1) (laV h G x1) (k0_pay19 (F := Ideal) n) (k0_pay20 (F := Ideal) m))
    (k0_pay38 (F := Ideal) (bV h G x1) (liV h G x1) (laV h G x1) (k0_pay20 (F := Ideal) m))
def headM : FVec Ideal S1x1x128 .f32 := k0_pay40 (F := Ideal) (k0_pay33 (F := Ideal) (bV h G x1) (liV h G x1) (laV h G x1) (k0_pay20 (F := Ideal) m))

/-- The running sums and the input gates, as functions. -/
def bF (t : Fin 128) : EReal := pre (fun s => logsig (cap (G (ix2 s ⟨4 + h.val, by omega⟩) + x1 (ix2 0 ⟨4 + h.val, by omega⟩)))) t
def liF (t : Fin 128) : EReal := cap (G (ix2 t ⟨h.val, by omega⟩) + x1 (ix2 0 ⟨h.val, by omega⟩))

theorem bV_at (t : Fin 128) : bV h G x1 (ix2 t 0) = bF h G x1 t := by
  unfold bV; rw [colB_at, sumV_at]; rfl
theorem liV_at (t : Fin 128) : liV h G x1 (ix2 t 0) = liF h G x1 t := by
  unfold liV; rw [colI_at, gate_at]; rfl
theorem laV_at : laV h G x1 (ix2 0 0) = bF h G x1 lastP := by
  unfold laV; rw [lastV_at, bV_at]
theorem dV_at (t s : Fin 128) : dV h G x1 (ix2 t s) = dlog (bF h G x1) (liF h G x1) t s := by
  unfold dV; rw [dlogV_at, sumT_at, gateT_at, sumV_at, sumV_at, gate_at]; rfl
theorem cvV_at (t : Fin 128) : cvV h G x1 m (ix2 t 0) = bF h G x1 t + m (ix3 0 0 0) := by
  unfold cvV; rw [carV_at, bV_at, m_at]
theorem pkV_at (t : Fin 128) : pkV h G x1 m (ix2 t 0) = peak (bF h G x1) (liF h G x1) (m (ix3 0 0 0)) t := by
  unfold pkV; rw [peakV_at, cvV_at]; simp only [dV_at]; rfl
theorem wV_at (t s : Fin 128) : wV h G x1 q k m (ix2 t s) =
    wt (bF h G x1) (liF h G x1) (m (ix3 0 0 0)) (fun t d => q (ix2 t d)) (fun t d => k (ix2 t d)) t s := by
  unfold wV; rw [wtV_at, dV_at, pkV_at]; rfl
theorem crV_at (t : Fin 128) : crV h G x1 m (ix2 t 0) = carry (bF h G x1) (liF h G x1) (m (ix3 0 0 0)) t := by
  unfold crV; rw [carryV_at, cvV_at, pkV_at]; rfl
theorem uV_at (t : Fin 128) (e : Fin 256) : uV h G x1 q k v c m (ix2 t e) =
    num (bF h G x1) (liF h G x1) (m (ix3 0 0 0)) (fun t d => q (ix2 t d)) (fun t d => k (ix2 t d)) (fun t e => v (ix2 t e)) (fun d e => c (ix3 0 d e)) t e := by
  unfold uV; rw [numV_at, crV_at]; simp only [wV_at]; rfl
theorem hV_at (t : Fin 128) (e : Fin 256) : hV h G x1 q k v c n m (ix2 t e) =
    hs (bF h G x1) (liF h G x1) (m (ix3 0 0 0)) (fun t d => q (ix2 t d)) (fun t d => k (ix2 t d)) (fun t e => v (ix2 t e)) (fun d e => c (ix3 0 d e))
      (fun d => n (ix3 0 0 d)) t e := by
  unfold hV; rw [hsV_at, uV_at, crV_at, pkV_at]; simp only [wV_at]; rfl
theorem headO_at (t : Fin 128) (e : Fin 256) : headO h G x1 q k v o g c n m (ix2 t e) =
    gated (hs (bF h G x1) (liF h G x1) (m (ix3 0 0 0)) (fun t d => q (ix2 t d)) (fun t d => k (ix2 t d)) (fun t e => v (ix2 t e)) (fun d e => c (ix3 0 d e))
      (fun d => n (ix3 0 0 d)) t) (g (ix2 0 e)) (o (ix2 t e)) e := by
  unfold headO; rw [outV_at]; simp only [hV_at]

theorem wlV_at (s : Fin 128) : k0_pay29 (F := Ideal) (bV h G x1) (liV h G x1) (laV h G x1) (ix2 s 0) = wlog (bF h G x1) (liF h G x1) s := by
  rw [wlogV_at, laV_at, bV_at, liV_at]; rfl
theorem loV_at : k0_pay30 (F := Ideal) (bV h G x1) (liV h G x1) (laV h G x1) (ix2 0 0) = locm (bF h G x1) (liF h G x1) := by
  rw [locV_at]; simp only [wlV_at]; rfl
theorem kV_at (s d : Fin 128) : k0_pay31 (F := Ideal) k (bV h G x1) (liV h G x1) (laV h G x1) (ix2 s d) =
    kw (bF h G x1) (liF h G x1) (fun t d => k (ix2 t d)) s d := by
  rw [kwV_at, wlV_at, loV_at]; rfl
theorem nmV_at : k0_pay33 (F := Ideal) (bV h G x1) (liV h G x1) (laV h G x1) (k0_pay20 (F := Ideal) m) (ix2 0 0) =
    newm (bF h G x1) (liF h G x1) (m (ix3 0 0 0)) := by
  rw [newmV_at, laV_at, loV_at, m_at]; rfl
theorem aoV_at : k0_pay34 (F := Ideal) (bV h G x1) (liV h G x1) (laV h G x1) (k0_pay20 (F := Ideal) m) (ix2 0 0) =
    aold (bF h G x1) (liF h G x1) (m (ix3 0 0 0)) := by
  rw [aoldV_at, laV_at, nmV_at, m_at]; rfl
theorem alV_at : k0_pay35 (F := Ideal) (bV h G x1) (liV h G x1) (laV h G x1) (k0_pay20 (F := Ideal) m) (ix2 0 0) =
    aloc (bF h G x1) (liF h G x1) (m (ix3 0 0 0)) := by
  rw [alocV_at, loV_at, nmV_at]; rfl
theorem headC_at (d : Fin 128) (e : Fin 256) : headC h G x1 k v c m (ix3 0 d e) =
    newc (bF h G x1) (liF h G x1) (m (ix3 0 0 0)) (fun t d => k (ix2 t d)) (fun t e => v (ix2 t e)) (fun d e => c (ix3 0 d e)) d e := by
  unfold headC; rw [newcV_at, aoV_at, alV_at]; simp only [kV_at]; rfl
theorem headN_at (d : Fin 128) : headN h G x1 k n m (ix3 0 0 d) =
    newn (bF h G x1) (liF h G x1) (m (ix3 0 0 0)) (fun t d => k (ix2 t d)) (fun d => n (ix3 0 0 d)) d := by
  unfold headN; rw [newnV_at, aoV_at, alV_at, nlocV_at]; simp only [kV_at]; rfl
theorem headM_at (x : Fin 128) : headM h G x1 m (ix3 0 0 x) = newm (bF h G x1) (liF h G x1) (m (ix3 0 0 0)) := by
  unfold headM; rw [storem_at, nmV_at]

end head

/-! The four heads' pieces, of a block of rows and the carried arrays. -/

section pieces
variable (x0 : Vec Ideal S128x3200 .f32) (x1 : Vec Ideal S1x128 .f32) (x2 : Vec Ideal S1x1024 .f32) (xs0 : Vec Ideal S4x128x256 .f32) (xs1 xs2 : Vec Ideal S4x1x128 .f32)

/-- The gates of the block. -/
def gaB : FVec Ideal S128x128 .f32 := View.ld x0 (Rect.unit ![0, 3072] ![128, 128] inb_S128x3200_S128x128_0_3072)

theorem gaB_at (t l : Fin 128) : gaB x0 (ix2 t l) = x0 (ix2 t ⟨3072 + l.val, by omega⟩) := by
  unfold gaB
  have e : (Rect.unit ![0, 3072] ![128, 128] inb_S128x3200_S128x128_0_3072).emb (ix2 t l) = ix2 t (⟨3072 + l.val, by omega⟩ : Fin 3200) := by
    funext a
    match a with
    | ⟨0, _⟩ => exact Fin.ext (show 0 + 1 * t.val = t.val by omega)
    | ⟨1, _⟩ => exact Fin.ext (show 3072 + 1 * l.val = 3072 + l.val by omega)
  exact congrArg x0 e

/-- The gates' logarithms in one head, and its parts of the block. -/
def bK (h : Fin 4) : Fin 128 → EReal := bF h (gaB x0) x1
def liK (h : Fin 4) : Fin 128 → EReal := liF h (gaB x0) x1
def qK (h : Fin 4) (t d : Fin 128) : EReal := x0 (ix2 t ⟨128 * h.val + d.val, by omega⟩)
def kK (h : Fin 4) (t d : Fin 128) : EReal := x0 (ix2 t ⟨512 + 128 * h.val + d.val, by omega⟩)
def vK (h : Fin 4) (t : Fin 128) (e : Fin 256) : EReal := x0 (ix2 t ⟨1024 + 256 * h.val + e.val, by omega⟩)
def oK (h : Fin 4) (t : Fin 128) (e : Fin 256) : EReal := x0 (ix2 t ⟨2048 + 256 * h.val + e.val, by omega⟩)
def gK (h : Fin 4) (e : Fin 256) : EReal := x2 (ix2 0 ⟨256 * h.val + e.val, by omega⟩)
def mK (h : Fin 4) : EReal := xs2 (ix3 h 0 0)
def nK (h : Fin 4) (d : Fin 128) : EReal := xs1 (ix3 h 0 d)
def cK (h : Fin 4) (d : Fin 128) (e : Fin 256) : EReal := xs0 (ix3 h d e)

/-- The arrays a chunk leaves. -/
def cSpec (i : S4x128x256.Idx) : EReal :=
  newc (bK x0 x1 (i 0)) (liK x0 x1 (i 0)) (mK xs2 (i 0)) (kK x0 (i 0)) (vK x0 (i 0)) (cK xs0 (i 0)) (i 1) (i 2)
def nSpec (i : S4x1x128.Idx) : EReal :=
  newn (bK x0 x1 (i 0)) (liK x0 x1 (i 0)) (mK xs2 (i 0)) (kK x0 (i 0)) (nK xs1 (i 0)) (i 2)
def mSpec (i : S4x1x128.Idx) : EReal := newm (bK x0 x1 (i 0)) (liK x0 x1 (i 0)) (mK xs2 (i 0))
def rowsK (h : Fin 4) (t : Fin 128) (e : Fin 256) : EReal :=
  gated (hs (bK x0 x1 h) (liK x0 x1 h) (mK xs2 h) (qK x0 h) (kK x0 h) (vK x0 h) (cK xs0 h) (nK xs1 h) t) (gK x2 h e) (oK x0 h t e) e
def oSpec (i : S128x1024.Idx) : EReal :=
  rowsK x0 x1 x2 xs0 xs1 xs2 ⟨(i 1).val / 256, by have : (i 1).val < 1024 := (i 1).isLt; omega⟩ (i 0) ⟨(i 1).val % 256, Nat.mod_lt _ (by omega)⟩

theorem in_q : ∀ (h : Fin 4) (a : Fin 2), (![0, 128 * h.val] : Fin 2 → ℕ) a + (![128, 128] : Fin 2 → ℕ) a ≤ S128x3200.size a := by decide
theorem in_k : ∀ (h : Fin 4) (a : Fin 2), (![0, 512 + 128 * h.val] : Fin 2 → ℕ) a + (![128, 128] : Fin 2 → ℕ) a ≤ S128x3200.size a := by decide
theorem in_v : ∀ (h : Fin 4) (a : Fin 2), (![0, 1024 + 256 * h.val] : Fin 2 → ℕ) a + (![128, 256] : Fin 2 → ℕ) a ≤ S128x3200.size a := by decide
theorem in_o : ∀ (h : Fin 4) (a : Fin 2), (![0, 2048 + 256 * h.val] : Fin 2 → ℕ) a + (![128, 256] : Fin 2 → ℕ) a ≤ S128x3200.size a := by decide
theorem in_g : ∀ (h : Fin 4) (a : Fin 2), (![0, 256 * h.val] : Fin 2 → ℕ) a + (![1, 256] : Fin 2 → ℕ) a ≤ S1x1024.size a := by decide
theorem in_c : ∀ (h : Fin 4) (a : Fin 3), (![h.val, 0, 0] : Fin 3 → ℕ) a + (![1, 128, 256] : Fin 3 → ℕ) a ≤ S4x128x256.size a := by decide
theorem in_n : ∀ (h : Fin 4) (a : Fin 3), (![h.val, 0, 0] : Fin 3 → ℕ) a + (![1, 1, 128] : Fin 3 → ℕ) a ≤ S4x1x128.size a := by decide
theorem in_r : ∀ (h : Fin 4) (a : Fin 2), (![0, 256 * h.val] : Fin 2 → ℕ) a + (![128, 256] : Fin 2 → ℕ) a ≤ S128x1024.size a := by decide

def qB (h : Fin 4) : FVec Ideal S128x128 .f32 := View.ld x0 (Rect.unit ![0, 128 * h.val] ![128, 128] (in_q h))
def kB (h : Fin 4) : FVec Ideal S128x128 .f32 := View.ld x0 (Rect.unit ![0, 512 + 128 * h.val] ![128, 128] (in_k h))
def vB (h : Fin 4) : FVec Ideal S128x256 .f32 := View.ld x0 (Rect.unit ![0, 1024 + 256 * h.val] ![128, 256] (in_v h))
def oB (h : Fin 4) : FVec Ideal S128x256 .f32 := View.ld x0 (Rect.unit ![0, 2048 + 256 * h.val] ![128, 256] (in_o h))
def gB (h : Fin 4) : FVec Ideal S1x256 .f32 := View.ld x2 (Rect.unit ![0, 256 * h.val] ![1, 256] (in_g h))
def cB (h : Fin 4) : FVec Ideal S1x128x256 .f32 := View.ld xs0 (Rect.unit ![h.val, 0, 0] ![1, 128, 256] (in_c h))
def nB (h : Fin 4) : FVec Ideal S1x1x128 .f32 := View.ld xs1 (Rect.unit ![h.val, 0, 0] ![1, 1, 128] (in_n h))

theorem qB_at (h : Fin 4) (t d : Fin 128) : qB x0 h (ix2 t d) = qK x0 h t d := by
  refine congrArg x0 (funext fun a => ?_)
  match a with
  | ⟨0, _⟩ => exact Fin.ext (show 0 + 1 * t.val = t.val by omega)
  | ⟨1, _⟩ => exact Fin.ext (show 128 * h.val + 1 * d.val = 128 * h.val + d.val by omega)
theorem kB_at (h : Fin 4) (t d : Fin 128) : kB x0 h (ix2 t d) = kK x0 h t d := by
  refine congrArg x0 (funext fun a => ?_)
  match a with
  | ⟨0, _⟩ => exact Fin.ext (show 0 + 1 * t.val = t.val by omega)
  | ⟨1, _⟩ => exact Fin.ext (show 512 + 128 * h.val + 1 * d.val = 512 + 128 * h.val + d.val by omega)
theorem vB_at (h : Fin 4) (t : Fin 128) (e : Fin 256) : vB x0 h (ix2 t e) = vK x0 h t e := by
  refine congrArg x0 (funext fun a => ?_)
  match a with
  | ⟨0, _⟩ => exact Fin.ext (show 0 + 1 * t.val = t.val by omega)
  | ⟨1, _⟩ => exact Fin.ext (show 1024 + 256 * h.val + 1 * e.val = 1024 + 256 * h.val + e.val by omega)
theorem oB_at (h : Fin 4) (t : Fin 128) (e : Fin 256) : oB x0 h (ix2 t e) = oK x0 h t e := by
  refine congrArg x0 (funext fun a => ?_)
  match a with
  | ⟨0, _⟩ => exact Fin.ext (show 0 + 1 * t.val = t.val by omega)
  | ⟨1, _⟩ => exact Fin.ext (show 2048 + 256 * h.val + 1 * e.val = 2048 + 256 * h.val + e.val by omega)
theorem gB_at (h : Fin 4) (e : Fin 256) : gB x2 h (ix2 0 e) = gK x2 h e := by
  refine congrArg x2 (funext fun a => ?_)
  match a with
  | ⟨0, _⟩ => exact Fin.ext rfl
  | ⟨1, _⟩ => exact Fin.ext (show 256 * h.val + 1 * e.val = 256 * h.val + e.val by omega)
theorem embC (h : Fin 4) (d : Fin 128) (e : Fin 256) : (Rect.unit (s := S4x128x256) ![h.val, 0, 0] ![1, 128, 256] (in_c h)).emb (ix3 0 d e) = ix3 h d e := by
  funext a
  match a with
  | ⟨0, _⟩ => exact Fin.ext (show h.val + 1 * 0 = h.val by omega)
  | ⟨1, _⟩ => exact Fin.ext (show 0 + 1 * d.val = d.val by omega)
  | ⟨2, _⟩ => exact Fin.ext (show 0 + 1 * e.val = e.val by omega)
theorem embN (h : Fin 4) (d : Fin 128) : (Rect.unit (s := S4x1x128) ![h.val, 0, 0] ![1, 1, 128] (in_n h)).emb (ix3 0 0 d) = ix3 h 0 d := by
  funext a
  match a with
  | ⟨0, _⟩ => exact Fin.ext (show h.val + 1 * 0 = h.val by omega)
  | ⟨1, _⟩ => exact Fin.ext rfl
  | ⟨2, _⟩ => exact Fin.ext (show 0 + 1 * d.val = d.val by omega)
theorem embO (h : Fin 4) (t : Fin 128) (e : Fin 256) : (Rect.unit (s := S128x1024) ![0, 256 * h.val] ![128, 256] (in_r h)).emb (ix2 t e) =
    ix2 t (⟨256 * h.val + e.val, by omega⟩ : Fin 1024) := by
  funext a
  match a with
  | ⟨0, _⟩ => exact Fin.ext (show 0 + 1 * t.val = t.val by omega)
  | ⟨1, _⟩ => exact Fin.ext (show 256 * h.val + 1 * e.val = 256 * h.val + e.val by omega)
theorem cB_at (h : Fin 4) (d : Fin 128) (e : Fin 256) : cB xs0 h (ix3 0 d e) = cK xs0 h d e := congrArg xs0 (embC h d e)
theorem nB_at (h : Fin 4) (d : Fin 128) : nB xs1 h (ix3 0 0 d) = nK xs1 h d := congrArg xs1 (embN h d)
theorem mB_at (h : Fin 4) : nB xs2 h (ix3 0 0 0) = mK xs2 h := congrArg xs2 (embN h 0)

/-- A head's stored arrays are the chunk's, at the places they are stored. -/
theorem pieceC (h : Fin 4) (x : S1x128x256.Idx) : headC h (gaB x0) x1 (kB x0 h) (vB x0 h) (cB xs0 h) (nB xs2 h) x =
    cSpec x0 x1 xs0 xs2 ((Rect.unit (s := S4x128x256) ![h.val, 0, 0] ![1, 128, 256] (in_c h)).emb x) := by
  obtain ⟨z, d, e, rfl⟩ : ∃ (z : Fin 1) (d : Fin 128) (e : Fin 256), x = ix3 z d e := ⟨x 0, x 1, x 2, funext fun a => by fin_cases a <;> rfl⟩
  obtain rfl : z = 0 := Subsingleton.elim _ _
  rw [headC_at, embC]
  simp only [kB_at, vB_at, cB_at, mB_at]
  rfl
theorem pieceN (h : Fin 4) (x : S1x1x128.Idx) : headN h (gaB x0) x1 (kB x0 h) (nB xs1 h) (nB xs2 h) x =
    nSpec x0 x1 xs1 xs2 ((Rect.unit (s := S4x1x128) ![h.val, 0, 0] ![1, 1, 128] (in_n h)).emb x) := by
  obtain ⟨z, y, d, rfl⟩ : ∃ (z y : Fin 1) (d : Fin 128), x = ix3 z y d := ⟨x 0, x 1, x 2, funext fun a => by fin_cases a <;> rfl⟩
  obtain rfl : z = 0 := Subsingleton.elim _ _
  obtain rfl : y = 0 := Subsingleton.elim _ _
  rw [headN_at, embN]
  simp only [kB_at, nB_at, mB_at]
  rfl
theorem pieceM (h : Fin 4) (x : S1x1x128.Idx) : headM h (gaB x0) x1 (nB xs2 h) x =
    mSpec x0 x1 xs2 ((Rect.unit (s := S4x1x128) ![h.val, 0, 0] ![1, 1, 128] (in_n h)).emb x) := by
  obtain ⟨z, y, d, rfl⟩ : ∃ (z y : Fin 1) (d : Fin 128), x = ix3 z y d := ⟨x 0, x 1, x 2, funext fun a => by fin_cases a <;> rfl⟩
  obtain rfl : z = 0 := Subsingleton.elim _ _
  obtain rfl : y = 0 := Subsingleton.elim _ _
  rw [headM_at, embN, mB_at]
  rfl
theorem oSpec_at (h : Fin 4) (t : Fin 128) (e : Fin 256) : oSpec x0 x1 x2 xs0 xs1 xs2 (ix2 t (⟨256 * h.val + e.val, by omega⟩ : Fin 1024)) =
    rowsK x0 x1 x2 xs0 xs1 xs2 h t e := by
  have e1 : (⟨(256 * h.val + e.val) / 256, by omega⟩ : Fin 4) = h := Fin.ext (by show (256 * h.val + e.val) / 256 = h.val; omega)
  have e2 : (⟨(256 * h.val + e.val) % 256, Nat.mod_lt _ (by omega)⟩ : Fin 256) = e := Fin.ext (by show (256 * h.val + e.val) % 256 = e.val; omega)
  show rowsK x0 x1 x2 xs0 xs1 xs2 ⟨(256 * h.val + e.val) / 256, _⟩ t ⟨(256 * h.val + e.val) % 256, _⟩ = _
  rw [e1, e2]
theorem pieceO (h : Fin 4) (x : S128x256.Idx) : headO h (gaB x0) x1 (qB x0 h) (kB x0 h) (vB x0 h) (oB x0 h) (gB x2 h) (cB xs0 h) (nB xs1 h) (nB xs2 h) x =
    oSpec x0 x1 x2 xs0 xs1 xs2 ((Rect.unit (s := S128x1024) ![0, 256 * h.val] ![128, 256] (in_r h)).emb x) := by
  obtain ⟨t, e, rfl⟩ : ∃ (t : Fin 128) (e : Fin 256), x = ix2 t e := ⟨x 0, x 1, funext fun a => by fin_cases a <;> rfl⟩
  rw [headO_at, embO, oSpec_at]
  simp only [qB_at, kB_at, vB_at, oB_at, gB_at, cB_at, nB_at, mB_at]
  rfl

end pieces

end Cert.MCoreVal

end
-- ==== Proof.MCoreOpen.lean ====
module

public import proofs.«01_k».proof.Proof.MCoreStep
public import proofs.«01_k».proof.Proof.Gen.MCoreIdeal.Frame
public import Idealize.ShloMosaic.Lib.Pipeline.Value
public import Idealize.ShloMosaic.Lib.Pipeline.CanonAppend

/-! What the kernel's body leaves at a grid point: in its output block and in the arrays it carries, head by head. -/

@[expose] public section

set_option maxRecDepth 16384

noncomputable section

namespace Cert.MCoreVal

open Idealize.ShloMosaic Idealize.ShloMosaic.TcCoe Idealize.SL.Sem
open Cert.MCoreIdeal Cert.MCoreIdeal.Gen Cert.Rec

theorem hz2 : (![0, 0] : Fin 2 → Nat) = fun _ => 0 := funext fun a => by fin_cases a <;> rfl
theorem hz3 : (![0, 0, 0] : Fin 3 → Nat) = fun _ => 0 := funext fun a => by fin_cases a <;> rfl

/-- A read of one head's block passes over what was stored for another head. -/
theorem passC (v : View sig .tc .vmem S4x128x256 .f32) (a b : ℕ) (hab : a ≠ b) (inb : ∀ x : Fin 3, (![a, 0, 0] : Fin 3 → ℕ) x + (![1, 128, 256] : Fin 3 → ℕ) x ≤ S4x128x256.size x)
    (inb' : ∀ x : Fin 3, (![b, 0, 0] : Fin 3 → ℕ) x + (![1, 128, 256] : Fin 3 → ℕ) x ≤ S4x128x256.size x)
    (w : (Rect.unit (s := S4x128x256) ![a, 0, 0] ![1, 128, 256] inb).shape.Idx → Elt Ideal .f32) (L : List (View.Piece (Elt Ideal) S4x128x256 .f32)) :
    v.readCov (⟨Rect.unit ![a, 0, 0] ![1, 128, 256] inb, w⟩ :: L) (Rect.unit ![b, 0, 0] ![1, 128, 256] inb').toLoadRect =
      v.readCov L (Rect.unit ![b, 0, 0] ![1, 128, 256] inb').toLoadRect :=
  View.readCov_cons_of_disjoint v _ L _ (Rect.unit_disjoint (inb := inb) (inb' := inb') 0 (by show a + 1 ≤ b ∨ b + 1 ≤ a; omega))
theorem passN (v : View sig .tc .vmem S4x1x128 .f32) (a b : ℕ) (hab : a ≠ b) (inb : ∀ x : Fin 3, (![a, 0, 0] : Fin 3 → ℕ) x + (![1, 1, 128] : Fin 3 → ℕ) x ≤ S4x1x128.size x)
    (inb' : ∀ x : Fin 3, (![b, 0, 0] : Fin 3 → ℕ) x + (![1, 1, 128] : Fin 3 → ℕ) x ≤ S4x1x128.size x)
    (w : (Rect.unit (s := S4x1x128) ![a, 0, 0] ![1, 1, 128] inb).shape.Idx → Elt Ideal .f32) (L : List (View.Piece (Elt Ideal) S4x1x128 .f32)) :
    v.readCov (⟨Rect.unit ![a, 0, 0] ![1, 1, 128] inb, w⟩ :: L) (Rect.unit ![b, 0, 0] ![1, 1, 128] inb').toLoadRect =
      v.readCov L (Rect.unit ![b, 0, 0] ![1, 1, 128] inb').toLoadRect :=
  View.readCov_cons_of_disjoint v _ L _ (Rect.unit_disjoint (inb := inb) (inb' := inb') 0 (by show a + 1 ≤ b ∨ b + 1 ≤ a; omega))

/-- A read of what one store of the whole array left. -/
theorem readWhole {S : Shape} (v : View sig .tc .vmem S .f32) {off : Fin S.rank → Nat} (h : off = fun _ => 0) (inb : ∀ a, off a + S.size a ≤ S.size a)
    (w : S.Idx → Elt Ideal .f32) (r : Rect S) : v.readCov [(⟨Rect.unit off S.size inb, w⟩ : View.Piece (Elt Ideal) S .f32)] r.toLoadRect = View.ld w r := by
  rw [View.readCov_eq_canon_ld, View.canon_unit_zero h inb w]
  subst h
  exact fun y => ⟨_, List.mem_singleton_self _, by show y ∈ (Rect.whole S).set; rw [Rect.set_whole]; exact Finset.mem_univ y⟩

section
variable (c : Dev nD) (i : grid0.Coords) (a2 : Memref sig .tc .vmem S128x3200 .f32) (h2 : a2.IsWhole) (a3 : Memref sig .tc .vmem S1x128 .f32) (h3 : a3.IsWhole)
  (a4 : Memref sig .tc .vmem S1x1024 .f32) (h4 : a4.IsWhole) (a5 : Memref sig .tc .vmem S128x1024 .bf16) (h5 : a5.IsWhole) (a6 : Memref sig .tc .vmem S4x128x256 .f32) (h6 : a6.IsWhole)
  (a7 : Memref sig .tc .vmem S4x1x128 .f32) (h7 : a7.IsWhole) (a8 : Memref sig .tc .vmem S4x1x128 .f32) (h8 : a8.IsWhole)
  (x0 : Vec Ideal S128x3200 .f32) (x1 : Vec Ideal S1x128 .f32) (x2 : Vec Ideal S1x1024 .f32) (xs0 : Vec Ideal S4x128x256 .f32) (xs1 xs2 : Vec Ideal S4x1x128 .f32)

theorem m_B (hc0 : ¬cond0_0 i) :
    sout0_B_2 (F := Ideal) c i a2 h2 a3 h3 a4 h4 a5 h5 a6 h6 a7 h7 a8 h8 hc0 x0 x1 x2 xs0 xs1 xs2 = mSpec x0 x1 xs2 := by
  unfold sout0_B_2
  rw [View.read_writes_eq_canon _ _ _ (scover0_B_2 c i a2 h2 a3 h3 a4 h4 a5 h5 a6 h6 a7 h7 a8 h8 hc0 x0 x1 x2 xs0 xs1 xs2)]
  funext y
  refine View.canon_apply_of_pieces _ _ ?_ y (scover0_B_2 c i a2 h2 a3 h3 a4 h4 a5 h5 a6 h6 a7 h7 a8 h8 hc0 x0 x1 x2 xs0 xs1 xs2 y)
  unfold kernelRun0_B
  dsimp only
  sl_unfold_words
  simp only [List.forall_mem_cons, View.readAt_eq_ld, h2.read_unread, h3.read_unread, h4.read_unread, h6.read_unread, h7.read_unread, h8.read_unread, View.ld_unit_zero (S := S1x128) hz2]
  exact ⟨pieceM x0 x1 xs2 3, pieceM x0 x1 xs2 2, pieceM x0 x1 xs2 1, pieceM x0 x1 xs2 0, fun p hp => absurd hp List.not_mem_nil⟩

theorem n_B (hc0 : ¬cond0_0 i) :
    sout0_B_1 (F := Ideal) c i a2 h2 a3 h3 a4 h4 a5 h5 a6 h6 a7 h7 a8 h8 hc0 x0 x1 x2 xs0 xs1 xs2 = nSpec x0 x1 xs1 xs2 := by
  unfold sout0_B_1
  rw [View.read_writes_eq_canon _ _ _ (scover0_B_1 c i a2 h2 a3 h3 a4 h4 a5 h5 a6 h6 a7 h7 a8 h8 hc0 x0 x1 x2 xs0 xs1 xs2)]
  funext y
  refine View.canon_apply_of_pieces _ _ ?_ y (scover0_B_1 c i a2 h2 a3 h3 a4 h4 a5 h5 a6 h6 a7 h7 a8 h8 hc0 x0 x1 x2 xs0 xs1 xs2 y)
  unfold kernelRun0_B
  dsimp only
  sl_unfold_words
  simp only [List.forall_mem_cons, View.readAt_eq_ld, h2.read_unread, h3.read_unread, h4.read_unread, h6.read_unread, h7.read_unread, h8.read_unread, View.ld_unit_zero (S := S1x128) hz2]
  exact ⟨pieceN x0 x1 xs1 xs2 3, pieceN x0 x1 xs1 xs2 2, pieceN x0 x1 xs1 xs2 1, pieceN x0 x1 xs1 xs2 0, fun p hp => absurd hp List.not_mem_nil⟩

theorem c_B (hc0 : ¬cond0_0 i) :
    sout0_B_0 (F := Ideal) c i a2 h2 a3 h3 a4 h4 a5 h5 a6 h6 a7 h7 a8 h8 hc0 x0 x1 x2 xs0 xs1 xs2 = cSpec x0 x1 xs0 xs2 := by
  unfold sout0_B_0
  rw [View.read_writes_eq_canon _ _ _ (scover0_B_0 c i a2 h2 a3 h3 a4 h4 a5 h5 a6 h6 a7 h7 a8 h8 hc0 x0 x1 x2 xs0 xs1 xs2)]
  funext y
  refine View.canon_apply_of_pieces _ _ ?_ y (scover0_B_0 c i a2 h2 a3 h3 a4 h4 a5 h5 a6 h6 a7 h7 a8 h8 hc0 x0 x1 x2 xs0 xs1 xs2 y)
  unfold kernelRun0_B
  dsimp only
  sl_unfold_words
  simp only [List.forall_mem_cons, View.readAt_eq_ld, h2.read_unread, h3.read_unread, h4.read_unread, h6.read_unread, h7.read_unread, h8.read_unread, View.ld_unit_zero (S := S1x128) hz2]
  exact ⟨pieceC x0 x1 xs0 xs2 3, pieceC x0 x1 xs0 xs2 2, pieceC x0 x1 xs0 xs2 1, pieceC x0 x1 xs0 xs2 0, fun p hp => absurd hp List.not_mem_nil⟩

theorem o_B (hc0 : ¬cond0_0 i) :
    out0_B_3 (F := Ideal) c i a2 h2 a3 h3 a4 h4 a5 h5 a6 h6 a7 h7 a8 h8 hc0 x0 x1 x2 xs0 xs1 xs2 = oSpec x0 x1 x2 xs0 xs1 xs2 := by
  unfold out0_B_3
  rw [View.read_writes_eq_canon _ _ _ (cover0_B_3 c i a2 h2 a3 h3 a4 h4 a5 h5 a6 h6 a7 h7 a8 h8 hc0 x0 x1 x2 xs0 xs1 xs2)]
  funext y
  refine View.canon_apply_of_pieces _ _ ?_ y (cover0_B_3 c i a2 h2 a3 h3 a4 h4 a5 h5 a6 h6 a7 h7 a8 h8 hc0 x0 x1 x2 xs0 xs1 xs2 y)
  unfold kernelRun0_B
  dsimp only
  sl_unfold_words
  simp only [List.forall_mem_cons, View.readAt_eq_ld, h2.read_unread, h3.read_unread, h4.read_unread, h6.read_unread, h7.read_unread, h8.read_unread, View.ld_unit_zero (S := S1x128) hz2]
  exact ⟨pieceO x0 x1 x2 xs0 xs1 xs2 3, pieceO x0 x1 x2 xs0 xs1 xs2 2, pieceO x0 x1 x2 xs0 xs1 xs2 1, pieceO x0 x1 x2 xs0 xs1 xs2 0, fun p hp => absurd hp List.not_mem_nil⟩

/-- The arrays the first chunk starts from. -/
abbrev z0 : Vec Ideal S4x128x256 .f32 := k0_pay4 (F := Ideal)
abbrev z1 : Vec Ideal S4x1x128 .f32 := k0_pay5 (F := Ideal)
abbrev z2 : Vec Ideal S4x1x128 .f32 := k0_pay6 (F := Ideal)

theorem o_A (hc0 : cond0_0 i) :
    out0_A_3 (F := Ideal) c i a2 h2 a3 h3 a4 h4 a5 h5 a6 h6 a7 h7 a8 h8 hc0 x0 x1 x2 = oSpec x0 x1 x2 z0 z1 z2 := by
  unfold out0_A_3
  rw [View.read_writes_eq_canon _ _ _ (cover0_A_3 c i a2 h2 a3 h3 a4 h4 a5 h5 a6 h6 a7 h7 a8 h8 hc0 x0 x1 x2)]
  funext y
  refine View.canon_apply_of_pieces _ _ ?_ y (cover0_A_3 c i a2 h2 a3 h3 a4 h4 a5 h5 a6 h6 a7 h7 a8 h8 hc0 x0 x1 x2 y)
  unfold kernelRun0_A
  dsimp only
  sl_unfold_words
  simp (disch := decide) only [List.forall_mem_cons, View.readAt_eq_ld, h2.read_unread, h3.read_unread, h4.read_unread, View.ld_unit_zero (S := S1x128) hz2,
    passC, passN, readWhole (S := S4x128x256) _ hz3, readWhole (S := S4x1x128) _ hz3]
  exact ⟨pieceO x0 x1 x2 z0 z1 z2 3, pieceO x0 x1 x2 z0 z1 z2 2, pieceO x0 x1 x2 z0 z1 z2 1, pieceO x0 x1 x2 z0 z1 z2 0, fun p hp => absurd hp List.not_mem_nil⟩

theorem memC (k : Fin 4) (d : Fin 128) (e : Fin 256) : (ix3 k d e : S4x128x256.Idx) ∈ (Rect.unit (s := S4x128x256) ![k.val, 0, 0] ![1, 128, 256] (in_c k)).set := by
  rw [← embC]
  exact LoadRect.idx_mem _ _
theorem memN (k : Fin 4) (d : Fin 128) : (ix3 k 0 d : S4x1x128.Idx) ∈ (Rect.unit (s := S4x1x128) ![k.val, 0, 0] ![1, 1, 128] (in_n k)).set := by
  rw [← embN]
  exact LoadRect.idx_mem _ _

theorem c_A (hc0 : cond0_0 i) :
    sout0_A_0 (F := Ideal) c i a2 h2 a3 h3 a4 h4 a5 h5 a6 h6 a7 h7 a8 h8 hc0 x0 x1 x2 = cSpec x0 x1 z0 z2 := by
  unfold sout0_A_0
  rw [View.read_writes_eq_canon _ _ _ (scover0_A_0 c i a2 h2 a3 h3 a4 h4 a5 h5 a6 h6 a7 h7 a8 h8 hc0 x0 x1 x2)]
  unfold kernelRun0_A
  dsimp only
  sl_unfold_words
  simp (disch := decide) only [View.readAt_eq_ld, h2.read_unread, h3.read_unread, h4.read_unread, View.ld_unit_zero (S := S1x128) hz2,
    passC, passN, readWhole (S := S4x128x256) _ hz3, readWhole (S := S4x1x128) _ hz3]
  funext y
  refine View.canon_append_of_pieces (Val := Elt Ideal) (e := .f32) (cSpec x0 x1 z0 z2) [_] [_, _, _, _] ?_ y ?_
  · simp only [List.forall_mem_cons]
    exact ⟨pieceC x0 x1 z0 z2 3, pieceC x0 x1 z0 z2 2, pieceC x0 x1 z0 z2 1, pieceC x0 x1 z0 z2 0, fun p hp => absurd hp List.not_mem_nil⟩
  · obtain ⟨k, d, e, rfl⟩ : ∃ (k : Fin 4) (d : Fin 128) (e : Fin 256), y = ix3 k d e := ⟨y 0, y 1, y 2, funext fun a => by fin_cases a <;> rfl⟩
    match k with
    | 0 => exact ⟨_, .tail _ (.tail _ (.tail _ (.head _))), memC 0 d e⟩
    | 1 => exact ⟨_, .tail _ (.tail _ (.head _)), memC 1 d e⟩
    | 2 => exact ⟨_, .tail _ (.head _), memC 2 d e⟩
    | 3 => exact ⟨_, .head _, memC 3 d e⟩

theorem n_A (hc0 : cond0_0 i) :
    sout0_A_1 (F := Ideal) c i a2 h2 a3 h3 a4 h4 a5 h5 a6 h6 a7 h7 a8 h8 hc0 x0 x1 x2 = nSpec x0 x1 z1 z2 := by
  unfold sout0_A_1
  rw [View.read_writes_eq_canon _ _ _ (scover0_A_1 c i a2 h2 a3 h3 a4 h4 a5 h5 a6 h6 a7 h7 a8 h8 hc0 x0 x1 x2)]
  unfold kernelRun0_A
  dsimp only
  sl_unfold_words
  simp (disch := decide) only [View.readAt_eq_ld, h2.read_unread, h3.read_unread, h4.read_unread, View.ld_unit_zero (S := S1x128) hz2,
    passC, passN, readWhole (S := S4x128x256) _ hz3, readWhole (S := S4x1x128) _ hz3]
  funext y
  refine View.canon_append_of_pieces (Val := Elt Ideal) (e := .f32) (nSpec x0 x1 z1 z2) [_] [_, _, _, _] ?_ y ?_
  · simp only [List.forall_mem_cons]
    exact ⟨pieceN x0 x1 z1 z2 3, pieceN x0 x1 z1 z2 2, pieceN x0 x1 z1 z2 1, pieceN x0 x1 z1 z2 0, fun p hp => absurd hp List.not_mem_nil⟩
  · obtain ⟨k, z, d, rfl⟩ : ∃ (k : Fin 4) (z : Fin 1) (d : Fin 128), y = ix3 k z d := ⟨y 0, y 1, y 2, funext fun a => by fin_cases a <;> rfl⟩
    obtain rfl : z = 0 := Subsingleton.elim _ _
    match k with
    | 0 => exact ⟨_, .tail _ (.tail _ (.tail _ (.head _))), memN 0 d⟩
    | 1 => exact ⟨_, .tail _ (.tail _ (.head _)), memN 1 d⟩
    | 2 => exact ⟨_, .tail _ (.head _), memN 2 d⟩
    | 3 => exact ⟨_, .head _, memN 3 d⟩

theorem m_A (hc0 : cond0_0 i) :
    sout0_A_2 (F := Ideal) c i a2 h2 a3 h3 a4 h4 a5 h5 a6 h6 a7 h7 a8 h8 hc0 x0 x1 x2 = mSpec x0 x1 z2 := by
  unfold sout0_A_2
  rw [View.read_writes_eq_canon _ _ _ (scover0_A_2 c i a2 h2 a3 h3 a4 h4 a5 h5 a6 h6 a7 h7 a8 h8 hc0 x0 x1 x2)]
  unfold kernelRun0_A
  dsimp only
  sl_unfold_words
  simp (disch := decide) only [View.readAt_eq_ld, h2.read_unread, h3.read_unread, h4.read_unread, View.ld_unit_zero (S := S1x128) hz2,
    passC, passN, readWhole (S := S4x128x256) _ hz3, readWhole (S := S4x1x128) _ hz3]
  funext y
  refine View.canon_append_of_pieces (Val := Elt Ideal) (e := .f32) (mSpec x0 x1 z2) [_] [_, _, _, _] ?_ y ?_
  · simp only [List.forall_mem_cons]
    exact ⟨pieceM x0 x1 z2 3, pieceM x0 x1 z2 2, pieceM x0 x1 z2 1, pieceM x0 x1 z2 0, fun p hp => absurd hp List.not_mem_nil⟩
  · obtain ⟨k, z, d, rfl⟩ : ∃ (k : Fin 4) (z : Fin 1) (d : Fin 128), y = ix3 k z d := ⟨y 0, y 1, y 2, funext fun a => by fin_cases a <;> rfl⟩
    obtain rfl : z = 0 := Subsingleton.elim _ _
    match k with
    | 0 => exact ⟨_, .tail _ (.tail _ (.tail _ (.head _))), memN 0 d⟩
    | 1 => exact ⟨_, .tail _ (.tail _ (.head _)), memN 1 d⟩
    | 2 => exact ⟨_, .tail _ (.head _), memN 2 d⟩
    | 3 => exact ⟨_, .head _, memN 3 d⟩

end

end Cert.MCoreVal

end
-- ==== Proof.MCoreKer.lean ====
module

public import proofs.«01_k».proof.Proof.MCoreOpen
public import proofs.«01_k».proof.Proof.Gen.MCoreIdeal.Value
public import Idealize.ShloMosaic.Lib.KernelVsHost

/-! The kernel's result: chunk after chunk, the carried arrays are the states of the recurrence, and the blocks its rows. -/

@[expose] public section

set_option maxRecDepth 16384

noncomputable section

namespace Cert.MCoreVal

open Idealize.ShloMosaic Idealize.ShloMosaic.TcCoe Idealize.SL.Sem
open Cert.MCoreIdeal Cert.MCoreIdeal.Gen Cert.Rec

variable (m : (ℓ : Loc nD τ sig) → Buf (Elt Ideal) ℓ)

/-- Where the windows stand at a point of the grid. -/
theorem at_point : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0))

/-- The projected rows, the gates' biases and the gain. -/
abbrev aX (c : Dev nD) : (⟨2, ![16384, 3200]⟩ : Shape).Idx → EReal := m ((c : Thread nD τ).loc main_arg0)
abbrev aB (c : Dev nD) : (⟨1, ![8]⟩ : Shape).Idx → EReal := m ((c : Thread nD τ).loc main_arg1)
abbrev aG (c : Dev nD) : (⟨1, ![1024]⟩ : Shape).Idx → EReal := m ((c : Thread nD τ).loc main_arg2)

theorem bias_at (c : Dev nD) (l : Fin 8) : V m c main_v1 (ix2 0 (⟨l.val, by omega⟩ : Fin 128)) = aB m c (ix1 l) := by
  have e : V m c main_v1 = shapeCast _ (pad S128 ![0] ![120] ![0] (m ((c : Thread nD τ).loc main_arg1)) (sitofp (F := Ideal) .f32 (constantI S_ 32 0#32)) pads_S8_S128_01200 h_S_)
      shapeCasts_S128_S1x128 := by
    unfold V hostOps0 hostOps0_1 hostOps0_2
    simp only [List.flatten_cons, List.flatten_nil, List.append_nil, List.cons_append, List.nil_append]
    after_results
    rfl
  rw [e]
  refine (shapeCast_apply _ shapeCasts_S128_S1x128 (ix2 0 (⟨l.val, by omega⟩ : Fin 128)) (ix1 (⟨l.val, by omega⟩ : Fin 128))
    (by rw [Shape.rowMajor_val_two, Shape.rowMajor_val_one]; show l.val = 0 * 128 + l.val; omega)).trans ?_
  refine pad_apply_of_inside _ _ _ _ _ _ _ _ (ix1 l) fun a => ?_
  match a with
  | ⟨0, _⟩ => show l.val = 0 + l.val * (0 + 1); omega

theorem gain_at (c : Dev nD) (l : Fin 1024) : V m c main_v2 (ix2 0 l) = aG m c (ix1 l) := by
  have e : V m c main_v2 = shapeCast _ (m ((c : Thread nD τ).loc main_arg2)) shapeCasts_S1024_S1x1024 := by
    unfold V hostOps0 hostOps0_1 hostOps0_2
    simp only [List.flatten_cons, List.flatten_nil, List.append_nil, List.cons_append, List.nil_append]
    after_results
    rfl
  rw [e]
  exact shapeCast_apply _ shapeCasts_S1024_S1x1024 (ix2 0 l) (ix1 l) (by rw [Shape.rowMajor_val_two, Shape.rowMajor_val_one]; show l.val = 0 * 1024 + l.val; omega)

/-- The sequence and the chunk of a point. -/
def seqAt (n : ℕ) : Fin 2 := ⟨n / 64 % 2, Nat.mod_lt _ (by omega)⟩

theorem row_val (t : Fin cfg0.N) (r : Fin 128) : (rowC (seqAt t.val) (t.val % 64) r).val = 128 * t.val + r.val := by
  have hN : cfg0.N = 128 := N_0
  have ht := t.isLt
  have hr := r.isLt
  show (8192 * (t.val / 64 % 2) + 128 * (t.val % 64) + r.val) % 16384 = _
  omega

theorem blk0 (c : Dev nD) (t : Fin cfg0.N) (r : Fin 128) (l : Fin 3200) :
    iblk m c 0 t (ix2 r l) = aX m c (ix2 (rowC (seqAt t.val) (t.val % 64) r) l) := by
  obtain ⟨⟨h0, h1⟩, -⟩ := at_point t
  have hv := row_val t r
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_0.index t 0 * 128 + 1 * r.val = (rowC (seqAt t.val) (t.val % 64) r).val; rw [h0, hv]; omega
  | ⟨1, _⟩ => show win0_0.index t 1 * 3200 + 1 * l.val = l.val; rw [h1]; omega

theorem blk1 (c : Dev nD) (t : Fin cfg0.N) (l : Fin 8) (l' : Fin 128) (hl : l'.val = l.val) : iblk m c 1 t (ix2 0 l') = aB m c (ix1 l) := by
  obtain ⟨-, ⟨h0, h1⟩, -⟩ := at_point t
  rw [← bias_at m c l]
  unfold iblk
  rw [View.read_apply]
  show V m c main_v1 _ = V m c main_v1 _
  congr 1; funext a; apply Fin.ext
  match a with
  | ⟨0, _⟩ => show win0_1.index t 0 * 1 + 1 * 0 = 0; rw [h0]
  | ⟨1, _⟩ => show win0_1.index t 1 * 128 + 1 * l'.val = l.val; rw [h1]; omega

theorem blk2 (c : Dev nD) (t : Fin cfg0.N) (l : Fin 1024) : iblk m c 2 t (ix2 0 l) = aG m c (ix1 l) := by
  obtain ⟨-, -, ⟨h0, h1⟩, -⟩ := at_point t
  rw [← gain_at m c l]
  unfold iblk
  rw [View.read_apply]
  show V m c main_v2 _ = V m c main_v2 _
  congr 1; funext a; apply Fin.ext
  match a with
  | ⟨0, _⟩ => show win0_2.index t 0 * 1 + 1 * 0 = 0; rw [h0]
  | ⟨1, _⟩ => show win0_2.index t 1 * 1024 + 1 * l.val = l.val; rw [h1]; omega

section point
variable (c : Dev nD) (t : Fin cfg0.N) (h : Fin 4)

theorem li_eq : liK (iblk m c 0 t) (iblk m c 1 t) h = liO (aX m c) (aB m c) (seqAt t.val) h (t.val % 64) := by
  funext s
  show cap (gaB (iblk m c 0 t) (ix2 s ⟨h.val, _⟩) + iblk m c 1 t (ix2 0 ⟨h.val, _⟩)) = _
  rw [gaB_at, blk0, blk1 m c t ⟨h.val, by omega⟩ _ rfl]
  rfl
theorem b_eq : bK (iblk m c 0 t) (iblk m c 1 t) h = bO (aX m c) (aB m c) (seqAt t.val) h (t.val % 64) := by
  funext s
  unfold bK bF bO
  refine congrArg (fun f => pre f s) (funext fun r => ?_)
  show logsig (cap (gaB (iblk m c 0 t) (ix2 r ⟨4 + h.val, _⟩) + iblk m c 1 t (ix2 0 ⟨4 + h.val, _⟩))) = _
  have e : ∀ p, (⟨3072 + (4 + h.val), p⟩ : Fin 3200) = ⟨3076 + h.val, by omega⟩ := fun p => Fin.ext (by show 3072 + (4 + h.val) = 3076 + h.val; omega)
  rw [gaB_at, blk0, blk1 m c t ⟨4 + h.val, by omega⟩ _ rfl]
  unfold lfO
  dsimp only
  rw [e]
theorem q_eq : qK (iblk m c 0 t) h = qO (aX m c) (seqAt t.val) h (t.val % 64) := funext fun _ => funext fun _ => blk0 m c t _ _
theorem k_eq : kK (iblk m c 0 t) h = kO (aX m c) (seqAt t.val) h (t.val % 64) := funext fun _ => funext fun _ => blk0 m c t _ _
theorem v_eq : vK (iblk m c 0 t) h = vO (aX m c) (seqAt t.val) h (t.val % 64) := funext fun _ => funext fun _ => blk0 m c t _ _
theorem o_eq : oK (iblk m c 0 t) h = oO (aX m c) (seqAt t.val) h (t.val % 64) := funext fun _ => funext fun _ => blk0 m c t _ _
theorem g_eq : gK (iblk m c 2 t) h = gO (aG m c) h := funext fun _ => blk2 m c t _

/-- The carried arrays hold the state before chunk `j` of sequence `a`. -/
def Carries (a : Fin 2) (j : ℕ) (y0 : Vec Ideal S4x128x256 .f32) (y1 y2 : Vec Ideal S4x1x128 .f32) : Prop :=
  ∀ h : Fin 4, cK y0 h = cSt (aX m c) (aB m c) a h j ∧ nK y1 h = nSt (aX m c) (aB m c) a h j ∧ mK y2 h = mSt (aX m c) (aB m c) a h j

variable {m c t}
variable {y0 : Vec Ideal S4x128x256 .f32} {y1 y2 : Vec Ideal S4x1x128 .f32}

theorem Carries.next (H : Carries m c (seqAt t.val) (t.val % 64) y0 y1 y2) :
    Carries m c (seqAt t.val) (t.val % 64 + 1) (cSpec (iblk m c 0 t) (iblk m c 1 t) y0 y2) (nSpec (iblk m c 0 t) (iblk m c 1 t) y1 y2)
      (mSpec (iblk m c 0 t) (iblk m c 1 t) y2) := by
  intro h
  obtain ⟨e0, e1, e2⟩ := H h
  refine ⟨?_, ?_, ?_⟩
  · funext d e
    show newc (bK _ _ h) (liK _ _ h) (mK y2 h) (kK _ h) (vK _ h) (cK y0 h) d e = _
    rw [b_eq, li_eq, k_eq, v_eq, e0, e2]
    rfl
  · funext d
    show newn (bK _ _ h) (liK _ _ h) (mK y2 h) (kK _ h) (nK y1 h) d = _
    rw [b_eq, li_eq, k_eq, e1, e2]
    rfl
  · show newm (bK _ _ h) (liK _ _ h) (mK y2 h) = _
    rw [b_eq, li_eq, e2]
    rfl

theorem Carries.rows (H : Carries m c (seqAt t.val) (t.val % 64) y0 y1 y2) (r : Fin 128) (e : Fin 256) :
    rowsK (iblk m c 0 t) (iblk m c 1 t) (iblk m c 2 t) y0 y1 y2 h r e = outO (aX m c) (aB m c) (aG m c) (seqAt t.val) h (t.val % 64) r e := by
  obtain ⟨e0, e1, e2⟩ := H h
  unfold rowsK
  rw [b_eq, li_eq, q_eq, k_eq, v_eq, o_eq, g_eq, e0, e1, e2]
  rfl

variable (m c)
theorem Carries.start (a : Fin 2) : Carries m c a 0 z0 z1 z2 := by
  intro h
  refine ⟨?_, ?_, ?_⟩
  · funext d e
    show k0_pay4 (F := Ideal) (ix3 h d e) = 0
    pointwise [k0_pay4]
  · funext d
    show k0_pay5 (F := Ideal) (ix3 h 0 d) = 0
    pointwise [k0_pay5]
  · show k0_pay6 (F := Ideal) (ix3 h 0 0) = 0
    pointwise [k0_pay6]

end point

theorem carried (c : Dev nD) : ∀ (n : ℕ) (h : n < cfg0.N),
    Carries m c (seqAt n) (n % 64 + 1) (outsAt0 m c n h).2.1 (outsAt0 m c n h).2.2.1 (outsAt0 m c n h).2.2.2 := by
  have first : ∀ t : Fin cfg0.N, t.val % 64 = 0 →
      Carries m c (seqAt t.val) (t.val % 64 + 1) (outsAt0 m c t.val t.isLt).2.1 (outsAt0 m c t.val t.isLt).2.2.1 (outsAt0 m c t.val t.isLt).2.2.2 := by
    intro t h0
    rw [outsAt0_A m c t h0]
    dsimp only
    rw [c_A, n_A, m_A]
    have s := Carries.start m c (seqAt t.val)
    rw [← h0] at s
    exact s.next
  intro n
  induction n with
  | zero => exact fun h => first ⟨0, h⟩ (Nat.zero_mod _)
  | succ n ih =>
    intro h
    by_cases h0 : (n + 1) % 64 = 0
    · exact first ⟨n + 1, h⟩ h0
    · rw [show outsAt0 m c (n + 1) h = _ from outsAt0_B m c ⟨n + 1, h⟩ h0]
      dsimp only
      rw [c_B, n_B, m_B]
      have s := ih (Nat.lt_of_succ_lt h)
      have e1 : seqAt n = seqAt (n + 1) := Fin.ext (by show n / 64 % 2 = (n + 1) / 64 % 2; omega)
      have e2 : n % 64 + 1 = (n + 1) % 64 := by omega
      rw [e1, e2] at s
      exact Carries.next (t := ⟨n + 1, h⟩) s

/-! ## The result array -/

/-- Row `i`, column `l` of the result. -/
def mcore (X : (⟨2, ![16384, 3200]⟩ : Shape).Idx → EReal) (B : (⟨1, ![8]⟩ : Shape).Idx → EReal) (G : (⟨1, ![1024]⟩ : Shape).Idx → EReal)
    (i : Fin 16384) (l : Fin 1024) : EReal :=
  outO X B G ⟨i.val / 8192, by omega⟩ ⟨l.val / 256, by omega⟩ (i.val % 8192 / 128) ⟨i.val % 128, Nat.mod_lt _ (by omega)⟩ ⟨l.val % 256, Nat.mod_lt _ (by omega)⟩

/-- The array the kernel leaves. -/
def goal (c : Dev nD) : S16384x1024.Idx → EReal := fun i => mcore (aX m c) (aB m c) (aG m c) (i 0) (i 1)

theorem goal_at (c : Dev nD) (i : Fin 16384) (l : Fin 1024) : goal m c (ix2 i l) = mcore (aX m c) (aB m c) (aG m c) i l := rfl

theorem block_at (c : Dev nD) (t : Fin cfg0.N) (r : Fin 128) (l : Fin 1024) (y0 : Vec Ideal S4x128x256 .f32) (y1 y2 : Vec Ideal S4x1x128 .f32)
    (H : Carries m c (seqAt t.val) (t.val % 64) y0 y1 y2) :
    oSpec (iblk m c 0 t) (iblk m c 1 t) (iblk m c 2 t) y0 y1 y2 (ix2 r l) = goal m c (ix2 (rowC (seqAt t.val) (t.val % 64) r) l) := by
  have hN : cfg0.N = 128 := N_0
  have ht := t.isLt
  have hr := r.isLt
  have hv := row_val t r
  show rowsK _ _ _ _ _ _ ⟨l.val / 256, _⟩ r ⟨l.val % 256, _⟩ = _
  rw [H.rows, goal_at]
  unfold mcore
  have e1 : (⟨(rowC (seqAt t.val) (t.val % 64) r).val / 8192, by omega⟩ : Fin 2) = seqAt t.val := Fin.ext (by show (rowC (seqAt t.val) (t.val % 64) r).val / 8192 = t.val / 64 % 2; omega)
  have e2 : (rowC (seqAt t.val) (t.val % 64) r).val % 8192 / 128 = t.val % 64 := by omega
  have e3 : (⟨(rowC (seqAt t.val) (t.val % 64) r).val % 128, Nat.mod_lt _ (by omega)⟩ : Fin 128) = r := Fin.ext (by show (rowC (seqAt t.val) (t.val % 64) r).val % 128 = r.val; omega)
  rw [e1, e2, e3]

theorem point_at (c : Dev nD) (t : Fin cfg0.N) (r : Fin 128) (l : Fin 1024) :
    (outsAt0 m c t.val t.isLt).1 (ix2 r l) = goal m c (ix2 (rowC (seqAt t.val) (t.val % 64) r) l) := by
  by_cases h0 : t.val % 64 = 0
  · rw [outsAt0_A m c t h0]
    dsimp only
    rw [o_A]
    have s := Carries.start m c (seqAt t.val)
    rw [← h0] at s
    exact block_at m c t r l _ _ _ s
  · rw [outsAt0_B m c t h0]
    dsimp only
    rw [o_B]
    have s := carried m c (t.val - 1) (Nat.lt_of_le_of_lt (Nat.sub_le _ _) t.isLt)
    have e1 : seqAt (t.val - 1) = seqAt t.val := Fin.ext (by show (t.val - 1) / 64 % 2 = t.val / 64 % 2; omega)
    have e2 : (t.val - 1) % 64 + 1 = t.val % 64 := by omega
    rw [e1, e2] at s
    exact block_at m c t r l _ _ _ s

theorem cut_at (t : Fin cfg0.N) (x : Vec Ideal S128x1024 .bf16) (r : Fin 128) (f : Fin 1024) :
    (cfg0.win 3).cut (grid0.coords t) x (ix2 r f) = x (ix2 r f) := rfl

theorem emb_at (t : Fin cfg0.N) (r : Fin 128) (f : Fin 1024) : (win0_3.blk t).view.emb (ix2 r f) = ix2 (rowC (seqAt t.val) (t.val % 64) r) f := by
  have hv := row_val t r
  obtain ⟨-, -, -, ⟨e0, e1⟩⟩ := at_point t
  funext a; apply Fin.ext
  match a with
  | ⟨0, _⟩ => show win0_3.index t 0 * 128 + 1 * r.val = (rowC (seqAt t.val) (t.val % 64) r).val; rw [e0, hv]; omega
  | ⟨1, _⟩ => show win0_3.index t 1 * 1024 + 1 * f.val = f.val; rw [e1]; omega

theorem flushed_eq (c : Dev nD) (t : Fin cfg0.N) :
    (dats m 0 c).flushed 3 t = (win0_3.blk t).view.read (Elt Ideal) (goal m c) := by
  funext j
  idx_vars j
  rw [Value.flushed3, View.read_apply]
  refine (cut_at t _ j0 j1).trans ((point_at m c t j0 j1).trans ?_)
  show _ = goal m c ((win0_3.blk t).view.emb (ix2 j0 j1))
  rw [emb_at t j0 j1]

theorem mem_blk (t : Fin cfg0.N) (i : S16384x1024.Idx) : i ∈ ((cfg0.win 3).blk t).view.set ↔
    ∀ a : Fin 2, win0_3.index t a * win0_3.size a ≤ (i a : Nat) ∧ (i a : Nat) < win0_3.index t a * win0_3.size a + win0_3.xsize (grid0.coords t) a := by
  show i ∈ ((View.whole main_v3).slice (win0_3.rect t)).set ↔ _
  rw [View.set_slice_whole, Rect.mem_set_unit]
  rfl

theorem cover (i : S16384x1024.Idx) : ∃ t : Fin cfg0.N, (cfg0.win 3).flush t = true ∧ i ∈ ((cfg0.win 3).blk t).view.set := by
  have hN : cfg0.N = 128 := N_0
  have hi0 : (i 0).val < 16384 := (i 0).isLt
  have hi1 : (i 1).val < 1024 := (i 1).isLt
  have ht : (i 0).val / 128 < cfg0.N := by omega
  refine ⟨⟨_, ht⟩, flush0_3 _, ?_⟩
  obtain ⟨-, -, -, ⟨h0, h1⟩⟩ := at_point ⟨_, ht⟩
  rw [mem_blk]
  intro a
  match a with
  | ⟨0, _⟩ =>
    show win0_3.index _ 0 * 128 ≤ (i 0 : Nat) ∧ (i 0 : Nat) < win0_3.index _ 0 * 128 + 128
    rw [h0]; dsimp only; omega
  | ⟨1, _⟩ =>
    show win0_3.index _ 1 * 1024 ≤ (i 1 : Nat) ∧ (i 1 : Nat) < win0_3.index _ 1 * 1024 + 1024
    rw [h1]; omega

theorem result (c : Dev nD) : (dats m 0 c).arrAt 3 cfg0.N = goal m c :=
  (dats m 0 c).arrAt_eq_of_cover 3 (goal m c) (fun t _ => flushed_eq m c t) cover

end Cert.MCoreVal

end
-- ==== Proof.MCoreRef.lean ====
module

public import proofs.«01_k».proof.Proof.MCoreMath
public import proofs.«01_k».proof.Proof.AttnVal
public import proofs.«01_k».proof.Proof.Gen.MCoreRefIdeal.Step
public import Idealize.ShloMosaic.Lib.Pointwise
public import Idealize.ShloMosaic.Lib.WordCmp

/-! One trip of the reference's loop, entry by entry: the state it hands on is the recurrence's next, and the rows it writes are the recurrence's. -/

@[expose] public section

set_option maxRecDepth 16384

noncomputable section

namespace Cert.MCoreRef

open Idealize.ShloMosaic Idealize.ShloMosaic.TcCoe Idealize.SL.Sem
open Cert.MCoreRefIdeal Cert.MCoreRefIdeal.Gen Cert.MCoreRefIdeal.Step Cert.Rec Cert.AttnVal

variable (X : (⟨2, ![16384, 3200]⟩ : Shape).Idx → EReal) (B : (⟨1, ![8]⟩ : Shape).Idx → EReal) (N : (⟨1, ![1024]⟩ : Shape).Idx → EReal)

/-- The state before trip `j` holds the recurrence's state before chunk `j`, and the trip reads the rows of that chunk. -/
structure At (j : ℕ) (s : State Ideal) : Prop where
  row : ∀ (a : Fin 2) (t : Fin 128) (l : Fin 3200), b4 j s (ix3 a t l) = X (ix2 (rowC a j t) l)
  bias : s.main_v8_1 = B
  gain : s.main_v8_3 = N
  c : ∀ (a : Fin 2) (h : Fin 4) (d : Fin 128) (e : Fin 256), s.main_v8_5 (ix4 a h d e) = cSt X B a h j d e
  n : ∀ (a : Fin 2) (h : Fin 4) (d : Fin 128), s.main_v8_6 (ix3 a h d) = nSt X B a h j d
  m : ∀ (a : Fin 2) (h : Fin 4), s.main_v8_7 (ix2 a h) = mSt X B a h j

theorem mask_words : ∀ t x : Fin 128, Scalar.select (IntOp.cmpi .sge (IntOp.addi (BitVec.ofNat 32 t.val) 0#32) (BitVec.ofNat 32 x.val)) 1#1 0#1 = if x.val ≤ t.val then 1#1 else 0#1 := by
  decide +kernel

theorem mask_at (t x : Fin 128) : K_main_v1 (F := Ideal) (ix2 t x) = if x.val ≤ t.val then 1#1 else 0#1 := by
  pointwise [K_main_v1, K_main_call0_v4, K_main_call0_v2, K_main_call0_v3, K_main_v0, K_main_call0_v5, K_main_c, K_main_call0_c_0, K_main_call0_v0, K_main_call0_v1, K_main_call0_c]
  exact mask_words t x

section trip
variable {X B N} {j : ℕ} {s : State Ideal} (H : At X B N j s) (a : Fin 2) (h : Fin 4) (t x d : Fin 128) (e : Fin 256)
include H

theorem q_at : b10 j s (ix4 a h t d) = qO X a h j t d * qs := by
  pointwise [b5, b6, b7, b8, b9, b10]
  rw [H.row]
  refine congrArg (· * qs) (congrArg (fun l => X (ix2 (rowC a j t) l)) (Fin.ext ?_))
  show h.val * 128 + d.val = 128 * h.val + d.val
  omega
theorem k_at : b13 j s (ix4 a h t d) = kO X a h j t d := by
  pointwise [b11, b12, b13]
  rw [H.row]
  refine congrArg (fun l => X (ix2 (rowC a j t) l)) (Fin.ext ?_)
  show 512 + (h.val * 128 + d.val) = 512 + 128 * h.val + d.val
  omega
theorem v_at : b16 j s (ix4 a h t e) = vO X a h j t e := by
  pointwise [b14, b15, b16]
  rw [H.row]
  refine congrArg (fun l => X (ix2 (rowC a j t) l)) (Fin.ext ?_)
  show 1024 + (h.val * 256 + e.val) = 1024 + 256 * h.val + e.val
  omega
theorem o_at (l : Fin 1024) (hl : l.val = 256 * h.val + e.val) : b17 j s (ix3 a t l) = oO X a h j t e := by
  pointwise [b17]
  rw [H.row]
  refine congrArg (fun l => X (ix2 (rowC a j t) l)) (Fin.ext ?_)
  show 2048 + l.val = 2048 + 256 * h.val + e.val
  omega
theorem li_at : b30 j s (ix3 a h t) = liO X B a h j t := by
  pointwise [b18, b19, b20, b21, b22, b23, b24, b25, b26, b27, b28, b29, b30]
  rw [H.row, H.bias]
  rfl
theorem cap_at : b43 j s (ix3 a t h) = -cap (X (ix2 (rowC a j t) ⟨3076 + h.val, by omega⟩) + B (ix1 ⟨4 + h.val, by omega⟩)) := by
  pointwise [b31, b32, b33, b34, b35, b36, b37, b38, b39, b40, b41, b42, b43]
  rw [H.row, H.bias]
  rfl
theorem lf_at : b53 j s (ix3 a h t) = lfO X B a h j t := by
  pointwise [b44, b45, b46, b47, b48, b49, b50, b51, b52, b53]
  rw [Ideal.absf_def, cap_at H]
  rfl
theorem b_at : b62 j s (ix3 a h t) = bO X B a h j t := by
  pointwise [b54, b55, b56, b57, b58, b59, b60, b61, b62]
  unfold bO pre
  refine Finset.sum_congr rfl fun x _ => ?_
  rw [mask_at, sel_if, lf_at H]
theorem last_at : b64 j s (ix2 a h) = bO X B a h j lastP := by
  pointwise [b63, b64]
  exact b_at H a h lastP
theorem d_at : b77 j s (ix4 a h t x) = dlog (bO X B a h j) (liO X B a h j) t x := by
  pointwise [b65, b66, b67, b68, b69, b70, b71, b72, b73, b74, b75, b76, b77]
  rw [mask_at, sel_if, b_at H, b_at H, li_at H, bits_bot]
  rfl
theorem w_at : b81 j s (ix3 a h x) = wlog (bO X B a h j) (liO X B a h j) x := by
  pointwise [b78, b79, b80, b81]
  rw [last_at H, b_at H, li_at H]
  rfl
theorem loc_at : b83 j s (ix2 a h) = locm (bO X B a h j) (liO X B a h j) := by
  pointwise [b82, b83]
  rw [bits_bot]
  exact congrArg (fun f => Finset.fold max ⊥ f Finset.univ) (funext fun x => w_at H a h x)
theorem kw_at : b90 j s (ix4 a h x d) = kw (bO X B a h j) (liO X B a h j) (kO X a h j) x d := by
  pointwise [b84, b85, b86, b87, b88, b89, b90]
  rw [k_at H, w_at H, loc_at H]
  rfl
theorem m_at : b95 j s (ix2 a h) = mSt X B a h (j + 1) := by
  pointwise [b94, b95]
  rw [last_at H, loc_at H, H.m]
  rfl
theorem c_at : b107 j s (ix4 a h d e) = cSt X B a h (j + 1) d e := by
  pointwise [b91, b96, b97, b98, b99, b100, b101, b102, b103, b104, b105, b106, b107]
  rw [last_at H, loc_at H, m_at H, H.m, H.c]
  simp only [kw_at H, v_at H]
  rfl
theorem n_at : b114 j s (ix3 a h d) = nSt X B a h (j + 1) d := by
  pointwise [b92, b93, b96, b97, b98, b99, b100, b108, b109, b110, b111, b112, b113, b114]
  rw [last_at H, loc_at H, m_at H, H.m, H.n]
  simp only [kw_at H]
  rfl
theorem peak_at : b120 j s (ix3 a h t) = peak (bO X B a h j) (liO X B a h j) (mSt X B a h j) t := by
  pointwise [b115, b116, b117, b118, b119, b120]
  rw [b_at H, H.m, bits_bot]
  exact congrArg (fun f => max _ (Finset.fold max ⊥ f Finset.univ)) (funext fun x => d_at H a h t x)
omit H in
theorem scaled {ι : Type} [Fintype ι] (f g : ι → EReal) : ∑ i, f i * qs * g i = (∑ i, f i * g i) * qs := by
  obtain ⟨r, hr, er⟩ := qs_real
  rw [er, sum_mul_real _ _ r hr]
  exact Finset.sum_congr rfl fun i _ => by rw [mul_assoc, mul_assoc, mul_comm (r : EReal)]
theorem wt_at : b126 j s (ix4 a h t x) = wt (bO X B a h j) (liO X B a h j) (mSt X B a h j) (qO X a h j) (kO X a h j) t x := by
  pointwise [b121, b122, b123, b124, b125, b126]
  rw [d_at H, peak_at H]
  simp only [q_at H, k_at H]
  rw [scaled]
  rfl
theorem carry_at : b128 j s (ix3 a h t) = carry (bO X B a h j) (liO X B a h j) (mSt X B a h j) t := by
  pointwise [b115, b116, b117, b127, b128]
  rw [b_at H, peak_at H, H.m]
  rfl
theorem num_at : b134 j s (ix4 a h t e) = num (bO X B a h j) (liO X B a h j) (mSt X B a h j) (qO X a h j) (kO X a h j) (vO X a h j) (cSt X B a h j) t e := by
  pointwise [b129, b130, b131, b132, b133, b134]
  rw [carry_at H]
  simp only [wt_at H, v_at H, q_at H, H.c]
  rw [scaled]
  rfl
theorem den_at : b143 j s (ix3 a h t) = den (bO X B a h j) (liO X B a h j) (mSt X B a h j) (qO X a h j) (kO X a h j) (nSt X B a h j) t := by
  pointwise [b135, b136, b137, b138, b139, b140, b141, b142, b143]
  rw [carry_at H]
  simp only [wt_at H, q_at H, H.n]
  rw [scaled]
  rfl
theorem hs_at : b150 j s (ix4 a h t e) = hs (bO X B a h j) (liO X B a h j) (mSt X B a h j) (qO X a h j) (kO X a h j) (vO X a h j) (cSt X B a h j) (nSt X B a h j) t e := by
  pointwise [b144, b145, b146, b147, b148, b149, b150]
  rw [Ideal.absf_def, num_at H, den_at H, peak_at H]
  rfl
theorem norm_at : b167 j s (ix4 a h t e) = (fun K : Fin 256 → EReal => K e * Ideal.rsqrt (Ideal.div (∑ y : Fin 256, K y * K y) (Ideal.ofBits .f32 0x43800000#32) + Ideal.ofBits .f32 0x358637BD#32) * gO N h e)
    (hs (bO X B a h j) (liO X B a h j) (mSt X B a h j) (qO X a h j) (kO X a h j) (vO X a h j) (cSt X B a h j) (nSt X B a h j) t) := by
  pointwise [b151, b152, b153, b154, b155, b156, b157, b158, b159, b160, b161, b162, b163, b164, b165, b166, b167]
  rw [H.gain]
  simp only [hs_at H]
  refine congrArg (fun l => _ * N (ix1 l)) (Fin.ext ?_)
  show h.val * 256 + e.val = 256 * h.val + e.val
  omega
theorem row_at (l : Fin 1024) (hl : l.val = 256 * h.val + e.val) : b178 j s (ix3 a t l) = outO X B N a h j t e := by
  have e1 : b169 j s (ix3 a t l) = b167 j s (ix4 a h t e) := by
    unfold b169
    refine (shapeCast_apply _ shapeCasts_S2x128x4x256_S2x128x1024 (ix3 a t l) (ix4 a t h e)
      (by rw [Shape.rowMajor_val_three, Shape.rowMajor_val_four]; show ((a.val * 128 + t.val) * 4 + h.val) * 256 + e.val = (a.val * 128 + t.val) * 1024 + l.val; omega)).trans ?_
    pointwise [b168]
  pointwise [b170, b171, b172, b173, b174, b175, b176, b177, b178]
  rw [e1, norm_at H, o_at H a h t e l hl]
  rfl

end trip

end Cert.MCoreRef

end
-- ==== Proof.MCoreTrips.lean ====
module

public import proofs.«01_k».proof.Proof.Gen.MCoreRefIdeal.Run
public import proofs.«01_k».proof.Proof.Gen.MCoreRefIdeal.Step

/-! The reference's loop, trip by trip: at contents that hold a state, every value of one trip is the one named for it in the
reference's step, so each trip takes the state to its step, and the result is the one read off state 64. -/

@[expose] public section

noncomputable section

namespace Cert.MCoreRefIdeal.Trips

open Idealize.ShloMosaic Idealize.ShloMosaic.TcCoe Idealize.SL.Sem Idealize.ShloMosaic.StableHlo
open Cert.MCoreRefIdeal Cert.MCoreRefIdeal.Gen Cert.MCoreRefIdeal.Value
open Cert.MCoreRefIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v8_5) = s.main_v8_5
  f_6 : V0 (Proc.devRef .tc main_v8_6) = s.main_v8_6
  f_7 : V0 (Proc.devRef .tc main_v8_7) = s.main_v8_7
  f_8 : V0 (Proc.devRef .tc main_v8_8) = s.main_v8_8
  f_0 : V0 (Proc.devRef .tc main_v8_0) = s.main_v8_0
  f_1 : V0 (Proc.devRef .tc main_v8_1) = s.main_v8_1
  f_3 : V0 (Proc.devRef .tc main_v8_3) = s.main_v8_3
  n_4 : V0 (Proc.devRef .tc main_v8_4) = constantI S_ 32 (BitVec.ofNat 32 j)
  k_2 : V0 (Proc.devRef .tc main_v8_2) = Step.K_main_v1 (F := F)

variable {V0 s j}

section
set_option maxRecDepth 8192
variable (h : Holds V0 s j)
include h
theorem al_0 : (constantI S_ 32 0#32 : (Proc.devRef .tc main_while0b_call1_c : DevRef τ sig).ty.Contents (Elt F)) = Step.b0 j s := by
  unfold Step.b0
  rfl
theorem al_1 : (constantI S_ 32 0#32 : (Proc.devRef .tc main_while0b_call1_c_0 : DevRef τ sig).ty.Contents (Elt F)) = Step.b1 j s := by
  unfold Step.b1
  rfl
theorem al_2 : (constantI S_ 32 0#32 : (Proc.devRef .tc main_while0b_call1_c_1 : DevRef τ sig).ty.Contents (Elt F)) = Step.b2 j s := by
  unfold Step.b2
  rfl
theorem al_3 : (Host.dynamicSlice S1x2x128x3200 (V0 (Proc.devRef .tc main_v8_0)) (fun k => (((![V0 (Proc.devRef .tc main_v8_4), constantI S_ 32 0#32, constantI S_ 32 0#32, constantI S_ 32 0#32] : Fin 4 → (⟨S_, .i32⟩ : BufTy).Contents (Elt F))) k (Shape.Idx.first h_S_)).toInt) sliceFits_S64x2x128x3200_S1x2x128x3200 : (Proc.devRef .tc main_while0b_call1_v0 : DevRef τ sig).ty.Contents (Elt F)) = Step.b3 j s := by
  unfold Step.b3
  rw [← al_0 h, ← al_1 h, ← al_2 h, h.f_0, h.n_4]
  try rfl
theorem al_4 : (res_main_while0b_v12 V0 : (Proc.devRef .tc main_while0b_v12 : DevRef τ sig).ty.Contents (Elt F)) = Step.b4 j s := by
  unfold res_main_while0b_v12 Step.b4
  rw [← al_3 h]
  try rfl
theorem al_5 : (extractStridedSlice S2x128x512 ![0, 0, 0] (res_main_while0b_v12 V0) slices_S2x128x3200_S2x128x512_0_0_0 : (Proc.devRef .tc main_while0b_v13 : DevRef τ sig).ty.Contents (Elt F)) = Step.b5 j s := by
  unfold Step.b5
  rw [← al_4 h]
  try rfl
theorem al_6 : (shapeCast S2x128x4x128 (extractStridedSlice S2x128x512 ![0, 0, 0] (res_main_while0b_v12 V0) slices_S2x128x3200_S2x128x512_0_0_0) shapeCasts_S2x128x512_S2x128x4x128 : (Proc.devRef .tc main_while0b_v14 : DevRef τ sig).ty.Contents (Elt F)) = Step.b6 j s := by
  unfold Step.b6
  rw [← al_5 h]
  try rfl
theorem al_7 : (transpose S2x4x128x128 [0, 2, 1, 3] (shapeCast S2x128x4x128 (extractStridedSlice S2x128x512 ![0, 0, 0] (res_main_while0b_v12 V0) slices_S2x128x3200_S2x128x512_0_0_0) shapeCasts_S2x128x512_S2x128x4x128) transposes_S2x128x4x128_S2x4x128x128_0_2_1_3 : (Proc.devRef .tc main_while0b_v15 : DevRef τ sig).ty.Contents (Elt F)) = Step.b7 j s := by
  unfold Step.b7
  rw [← al_6 h]
  try rfl
theorem al_8 : (constant S_ .f32 0x3DB504F3#32 : (Proc.devRef .tc main_while0b_cst_12 : DevRef τ sig).ty.Contents (Elt F)) = Step.b8 j s := by
  unfold Step.b8
  rfl
theorem al_9 : (broadcastInDim S2x4x128x128 ![] bcast_S_S2x4x128x128 (constant S_ .f32 0x3DB504F3#32) : (Proc.devRef .tc main_while0b_v16 : DevRef τ sig).ty.Contents (Elt F)) = Step.b9 j s := by
  unfold Step.b9
  rw [← al_8 h]
  try rfl
theorem al_10 : (res_main_while0b_v17 V0 : (Proc.devRef .tc main_while0b_v17 : DevRef τ sig).ty.Contents (Elt F)) = Step.b10 j s := by
  unfold res_main_while0b_v17 Step.b10
  rw [← al_7 h, ← al_9 h]
  try rfl
theorem al_11 : (extractStridedSlice S2x128x512 ![0, 0, 512] (res_main_while0b_v12 V0) slices_S2x128x3200_S2x128x512_0_0_512 : (Proc.devRef .tc main_while0b_v18 : DevRef τ sig).ty.Contents (Elt F)) = Step.b11 j s := by
  unfold Step.b11
  rw [← al_4 h]
  try rfl
theorem al_12 : (shapeCast S2x128x4x128 (extractStridedSlice S2x128x512 ![0, 0, 512] (res_main_while0b_v12 V0) slices_S2x128x3200_S2x128x512_0_0_512) shapeCasts_S2x128x512_S2x128x4x128 : (Proc.devRef .tc main_while0b_v19 : DevRef τ sig).ty.Contents (Elt F)) = Step.b12 j s := by
  unfold Step.b12
  rw [← al_11 h]
  try rfl
theorem al_13 : (res_main_while0b_v20 V0 : (Proc.devRef .tc main_while0b_v20 : DevRef τ sig).ty.Contents (Elt F)) = Step.b13 j s := by
  unfold res_main_while0b_v20 Step.b13
  rw [← al_12 h]
  try rfl
theorem al_14 : (extractStridedSlice S2x128x1024 ![0, 0, 1024] (res_main_while0b_v12 V0) slices_S2x128x3200_S2x128x1024_0_0_1024 : (Proc.devRef .tc main_while0b_v21 : DevRef τ sig).ty.Contents (Elt F)) = Step.b14 j s := by
  unfold Step.b14
  rw [← al_4 h]
  try rfl
theorem al_15 : (shapeCast S2x128x4x256 (extractStridedSlice S2x128x1024 ![0, 0, 1024] (res_main_while0b_v12 V0) slices_S2x128x3200_S2x128x1024_0_0_1024) shapeCasts_S2x128x1024_S2x128x4x256 : (Proc.devRef .tc main_while0b_v22 : DevRef τ sig).ty.Contents (Elt F)) = Step.b15 j s := by
  unfold Step.b15
  rw [← al_14 h]
  try rfl
theorem al_16 : (res_main_while0b_v23 V0 : (Proc.devRef .tc main_while0b_v23 : DevRef τ sig).ty.Contents (Elt F)) = Step.b16 j s := by
  unfold res_main_while0b_v23 Step.b16
  rw [← al_15 h]
  try rfl
theorem al_17 : (extractStridedSlice S2x128x1024 ![0, 0, 2048] (res_main_while0b_v12 V0) slices_S2x128x3200_S2x128x1024_0_0_2048 : (Proc.devRef .tc main_while0b_v24 : DevRef τ sig).ty.Contents (Elt F)) = Step.b17 j s := by
  unfold Step.b17
  rw [← al_4 h]
  try rfl
theorem al_18 : (extractStridedSlice S2x128x4 ![0, 0, 3072] (res_main_while0b_v12 V0) slices_S2x128x3200_S2x128x4_0_0_3072 : (Proc.devRef .tc main_while0b_v25 : DevRef τ sig).ty.Contents (Elt F)) = Step.b18 j s := by
  unfold Step.b18
  rw [← al_4 h]
  try rfl
theorem al_19 : (extractStridedSlice S4 ![0] (V0 (Proc.devRef .tc main_v8_1)) slices_S8_S4_0 : (Proc.devRef .tc main_while0b_v26 : DevRef τ sig).ty.Contents (Elt F)) = Step.b19 j s := by
  unfold Step.b19
  rw [h.f_1]
  try rfl
theorem al_20 : (broadcastInDim S1x1x4 ![2] bcast_S4_S1x1x4_2 (extractStridedSlice S4 ![0] (V0 (Proc.devRef .tc main_v8_1)) slices_S8_S4_0) : (Proc.devRef .tc main_while0b_v27 : DevRef τ sig).ty.Contents (Elt F)) = Step.b20 j s := by
  unfold Step.b20
  rw [← al_19 h]
  try rfl
theorem al_21 : (broadcastInDim S2x128x4 ![0, 1, 2] bcast_S1x1x4_S2x128x4_0_1_2 (broadcastInDim S1x1x4 ![2] bcast_S4_S1x1x4_2 (extractStridedSlice S4 ![0] (V0 (Proc.devRef .tc main_v8_1)) slices_S8_S4_0)) : (Proc.devRef .tc main_while0b_v28 : DevRef τ sig).ty.Contents (Elt F)) = Step.b21 j s := by
  unfold Step.b21
  rw [← al_20 h]
  try rfl
theorem al_22 : (addf (extractStridedSlice S2x128x4 ![0, 0, 3072] (res_main_while0b_v12 V0) slices_S2x128x3200_S2x128x4_0_0_3072) (broadcastInDim S2x128x4 ![0, 1, 2] bcast_S1x1x4_S2x128x4_0_1_2 (broadcastInDim S1x1x4 ![2] bcast_S4_S1x1x4_2 (extractStridedSlice S4 ![0] (V0 (Proc.devRef .tc main_v8_1)) slices_S8_S4_0))) : (Proc.devRef .tc main_while0b_v29 : DevRef τ sig).ty.Contents (Elt F)) = Step.b22 j s := by
  unfold Step.b22
  rw [← al_18 h, ← al_21 h]
  try rfl
theorem al_23 : (constant S_ .f32 0x41700000#32 : (Proc.devRef .tc main_while0b_cst_13 : DevRef τ sig).ty.Contents (Elt F)) = Step.b23 j s := by
  unfold Step.b23
  rfl
theorem al_24 : (broadcastInDim S2x128x4 ![] bcast_S_S2x128x4 (constant S_ .f32 0x41700000#32) : (Proc.devRef .tc main_while0b_v30 : DevRef τ sig).ty.Contents (Elt F)) = Step.b24 j s := by
  unfold Step.b24
  rw [← al_23 h]
  try rfl
theorem al_25 : (Host.divf (addf (extractStridedSlice S2x128x4 ![0, 0, 3072] (res_main_while0b_v12 V0) slices_S2x128x3200_S2x128x4_0_0_3072) (broadcastInDim S2x128x4 ![0, 1, 2] bcast_S1x1x4_S2x128x4_0_1_2 (broadcastInDim S1x1x4 ![2] bcast_S4_S1x1x4_2 (extractStridedSlice S4 ![0] (V0 (Proc.devRef .tc main_v8_1)) slices_S8_S4_0)))) (broadcastInDim S2x128x4 ![] bcast_S_S2x128x4 (constant S_ .f32 0x41700000#32)) : (Proc.devRef .tc main_while0b_v31 : DevRef τ sig).ty.Contents (Elt F)) = Step.b25 j s := by
  unfold Step.b25
  rw [← al_22 h, ← al_24 h]
  try rfl
theorem al_26 : (Host.tanh (Host.divf (addf (extractStridedSlice S2x128x4 ![0, 0, 3072] (res_main_while0b_v12 V0) slices_S2x128x3200_S2x128x4_0_0_3072) (broadcastInDim S2x128x4 ![0, 1, 2] bcast_S1x1x4_S2x128x4_0_1_2 (broadcastInDim S1x1x4 ![2] bcast_S4_S1x1x4_2 (extractStridedSlice S4 ![0] (V0 (Proc.devRef .tc main_v8_1)) slices_S8_S4_0)))) (broadcastInDim S2x128x4 ![] bcast_S_S2x128x4 (constant S_ .f32 0x41700000#32))) : (Proc.devRef .tc main_while0b_v32 : DevRef τ sig).ty.Contents (Elt F)) = Step.b26 j s := by
  unfold Step.b26
  rw [← al_25 h]
  try rfl
theorem al_27 : (constant S_ .f32 0x41700000#32 : (Proc.devRef .tc main_while0b_cst_14 : DevRef τ sig).ty.Contents (Elt F)) = Step.b27 j s := by
  unfold Step.b27
  rfl
theorem al_28 : (broadcastInDim S2x128x4 ![] bcast_S_S2x128x4 (constant S_ .f32 0x41700000#32) : (Proc.devRef .tc main_while0b_v33 : DevRef τ sig).ty.Contents (Elt F)) = Step.b28 j s := by
  unfold Step.b28
  rw [← al_27 h]
  try rfl
theorem al_29 : (mulf (broadcastInDim S2x128x4 ![] bcast_S_S2x128x4 (constant S_ .f32 0x41700000#32)) (Host.tanh (Host.divf (addf (extractStridedSlice S2x128x4 ![0, 0, 3072] (res_main_while0b_v12 V0) slices_S2x128x3200_S2x128x4_0_0_3072) (broadcastInDim S2x128x4 ![0, 1, 2] bcast_S1x1x4_S2x128x4_0_1_2 (broadcastInDim S1x1x4 ![2] bcast_S4_S1x1x4_2 (extractStridedSlice S4 ![0] (V0 (Proc.devRef .tc main_v8_1)) slices_S8_S4_0)))) (broadcastInDim S2x128x4 ![] bcast_S_S2x128x4 (constant S_ .f32 0x41700000#32)))) : (Proc.devRef .tc main_while0b_v34 : DevRef τ sig).ty.Contents (Elt F)) = Step.b29 j s := by
  unfold Step.b29
  rw [← al_28 h, ← al_26 h]
  try rfl
theorem al_30 : (res_main_while0b_v35 V0 : (Proc.devRef .tc main_while0b_v35 : DevRef τ sig).ty.Contents (Elt F)) = Step.b30 j s := by
  unfold res_main_while0b_v35 Step.b30
  rw [← al_29 h]
  try rfl
theorem al_31 : (extractStridedSlice S2x128x4 ![0, 0, 3076] (res_main_while0b_v12 V0) slices_S2x128x3200_S2x128x4_0_0_3076 : (Proc.devRef .tc main_while0b_v36 : DevRef τ sig).ty.Contents (Elt F)) = Step.b31 j s := by
  unfold Step.b31
  rw [← al_4 h]
  try rfl
theorem al_32 : (extractStridedSlice S4 ![4] (V0 (Proc.devRef .tc main_v8_1)) slices_S8_S4_4 : (Proc.devRef .tc main_while0b_v37 : DevRef τ sig).ty.Contents (Elt F)) = Step.b32 j s := by
  unfold Step.b32
  rw [h.f_1]
  try rfl
theorem al_33 : (broadcastInDim S1x1x4 ![2] bcast_S4_S1x1x4_2 (extractStridedSlice S4 ![4] (V0 (Proc.devRef .tc main_v8_1)) slices_S8_S4_4) : (Proc.devRef .tc main_while0b_v38 : DevRef τ sig).ty.Contents (Elt F)) = Step.b33 j s := by
  unfold Step.b33
  rw [← al_32 h]
  try rfl
theorem al_34 : (broadcastInDim S2x128x4 ![0, 1, 2] bcast_S1x1x4_S2x128x4_0_1_2 (broadcastInDim S1x1x4 ![2] bcast_S4_S1x1x4_2 (extractStridedSlice S4 ![4] (V0 (Proc.devRef .tc main_v8_1)) slices_S8_S4_4)) : (Proc.devRef .tc main_while0b_v39 : DevRef τ sig).ty.Contents (Elt F)) = Step.b34 j s := by
  unfold Step.b34
  rw [← al_33 h]
  try rfl
theorem al_35 : (addf (extractStridedSlice S2x128x4 ![0, 0, 3076] (res_main_while0b_v12 V0) slices_S2x128x3200_S2x128x4_0_0_3076) (broadcastInDim S2x128x4 ![0, 1, 2] bcast_S1x1x4_S2x128x4_0_1_2 (broadcastInDim S1x1x4 ![2] bcast_S4_S1x1x4_2 (extractStridedSlice S4 ![4] (V0 (Proc.devRef .tc main_v8_1)) slices_S8_S4_4))) : (Proc.devRef .tc main_while0b_v40 : DevRef τ sig).ty.Contents (Elt F)) = Step.b35 j s := by
  unfold Step.b35
  rw [← al_31 h, ← al_34 h]
  try rfl
theorem al_36 : (constant S_ .f32 0x41700000#32 : (Proc.devRef .tc main_while0b_cst_15 : DevRef τ sig).ty.Contents (Elt F)) = Step.b36 j s := by
  unfold Step.b36
  rfl
theorem al_37 : (broadcastInDim S2x128x4 ![] bcast_S_S2x128x4 (constant S_ .f32 0x41700000#32) : (Proc.devRef .tc main_while0b_v41 : DevRef τ sig).ty.Contents (Elt F)) = Step.b37 j s := by
  unfold Step.b37
  rw [← al_36 h]
  try rfl
theorem al_38 : (Host.divf (addf (extractStridedSlice S2x128x4 ![0, 0, 3076] (res_main_while0b_v12 V0) slices_S2x128x3200_S2x128x4_0_0_3076) (broadcastInDim S2x128x4 ![0, 1, 2] bcast_S1x1x4_S2x128x4_0_1_2 (broadcastInDim S1x1x4 ![2] bcast_S4_S1x1x4_2 (extractStridedSlice S4 ![4] (V0 (Proc.devRef .tc main_v8_1)) slices_S8_S4_4)))) (broadcastInDim S2x128x4 ![] bcast_S_S2x128x4 (constant S_ .f32 0x41700000#32)) : (Proc.devRef .tc main_while0b_v42 : DevRef τ sig).ty.Contents (Elt F)) = Step.b38 j s := by
  unfold Step.b38
  rw [← al_35 h, ← al_37 h]
  try rfl
theorem al_39 : (Host.tanh (Host.divf (addf (extractStridedSlice S2x128x4 ![0, 0, 3076] (res_main_while0b_v12 V0) slices_S2x128x3200_S2x128x4_0_0_3076) (broadcastInDim S2x128x4 ![0, 1, 2] bcast_S1x1x4_S2x128x4_0_1_2 (broadcastInDim S1x1x4 ![2] bcast_S4_S1x1x4_2 (extractStridedSlice S4 ![4] (V0 (Proc.devRef .tc main_v8_1)) slices_S8_S4_4)))) (broadcastInDim S2x128x4 ![] bcast_S_S2x128x4 (constant S_ .f32 0x41700000#32))) : (Proc.devRef .tc main_while0b_v43 : DevRef τ sig).ty.Contents (Elt F)) = Step.b39 j s := by
  unfold Step.b39
  rw [← al_38 h]
  try rfl
theorem al_40 : (constant S_ .f32 0x41700000#32 : (Proc.devRef .tc main_while0b_cst_16 : DevRef τ sig).ty.Contents (Elt F)) = Step.b40 j s := by
  unfold Step.b40
  rfl
theorem al_41 : (broadcastInDim S2x128x4 ![] bcast_S_S2x128x4 (constant S_ .f32 0x41700000#32) : (Proc.devRef .tc main_while0b_v44 : DevRef τ sig).ty.Contents (Elt F)) = Step.b41 j s := by
  unfold Step.b41
  rw [← al_40 h]
  try rfl
theorem al_42 : (mulf (broadcastInDim S2x128x4 ![] bcast_S_S2x128x4 (constant S_ .f32 0x41700000#32)) (Host.tanh (Host.divf (addf (extractStridedSlice S2x128x4 ![0, 0, 3076] (res_main_while0b_v12 V0) slices_S2x128x3200_S2x128x4_0_0_3076) (broadcastInDim S2x128x4 ![0, 1, 2] bcast_S1x1x4_S2x128x4_0_1_2 (broadcastInDim S1x1x4 ![2] bcast_S4_S1x1x4_2 (extractStridedSlice S4 ![4] (V0 (Proc.devRef .tc main_v8_1)) slices_S8_S4_4)))) (broadcastInDim S2x128x4 ![] bcast_S_S2x128x4 (constant S_ .f32 0x41700000#32)))) : (Proc.devRef .tc main_while0b_v45 : DevRef τ sig).ty.Contents (Elt F)) = Step.b42 j s := by
  unfold Step.b42
  rw [← al_41 h, ← al_39 h]
  try rfl
theorem al_43 : (res_main_while0b_v46 V0 : (Proc.devRef .tc main_while0b_v46 : DevRef τ sig).ty.Contents (Elt F)) = Step.b43 j s := by
  unfold res_main_while0b_v46 Step.b43
  rw [← al_42 h]
  try rfl
theorem al_44 : (constant S_ .f32 0x00000000#32 : (Proc.devRef .tc main_while0b_cst_17 : DevRef τ sig).ty.Contents (Elt F)) = Step.b44 j s := by
  unfold Step.b44
  rfl
theorem al_45 : (broadcastInDim S2x128x4 ![] bcast_S_S2x128x4 (constant S_ .f32 0x00000000#32) : (Proc.devRef .tc main_while0b_v47 : DevRef τ sig).ty.Contents (Elt F)) = Step.b45 j s := by
  unfold Step.b45
  rw [← al_44 h]
  try rfl
theorem al_46 : (maximumf (res_main_while0b_v46 V0) (broadcastInDim S2x128x4 ![] bcast_S_S2x128x4 (constant S_ .f32 0x00000000#32)) : (Proc.devRef .tc main_while0b_v48 : DevRef τ sig).ty.Contents (Elt F)) = Step.b46 j s := by
  unfold Step.b46
  rw [← al_43 h, ← al_45 h]
  try rfl
theorem al_47 : (Host.absf (res_main_while0b_v46 V0) : (Proc.devRef .tc main_while0b_v49 : DevRef τ sig).ty.Contents (Elt F)) = Step.b47 j s := by
  unfold Step.b47
  rw [← al_43 h]
  try rfl
theorem al_48 : (Host.negf (Host.absf (res_main_while0b_v46 V0)) : (Proc.devRef .tc main_while0b_v50 : DevRef τ sig).ty.Contents (Elt F)) = Step.b48 j s := by
  unfold Step.b48
  rw [← al_47 h]
  try rfl
theorem al_49 : (Host.exp (Host.negf (Host.absf (res_main_while0b_v46 V0))) : (Proc.devRef .tc main_while0b_v51 : DevRef τ sig).ty.Contents (Elt F)) = Step.b49 j s := by
  unfold Step.b49
  rw [← al_48 h]
  try rfl
theorem al_50 : (Host.log1p (Host.exp (Host.negf (Host.absf (res_main_while0b_v46 V0)))) : (Proc.devRef .tc main_while0b_v52 : DevRef τ sig).ty.Contents (Elt F)) = Step.b50 j s := by
  unfold Step.b50
  rw [← al_49 h]
  try rfl
theorem al_51 : (addf (maximumf (res_main_while0b_v46 V0) (broadcastInDim S2x128x4 ![] bcast_S_S2x128x4 (constant S_ .f32 0x00000000#32))) (Host.log1p (Host.exp (Host.negf (Host.absf (res_main_while0b_v46 V0))))) : (Proc.devRef .tc main_while0b_v53 : DevRef τ sig).ty.Contents (Elt F)) = Step.b51 j s := by
  unfold Step.b51
  rw [← al_46 h, ← al_50 h]
  try rfl
theorem al_52 : (Host.negf (addf (maximumf (res_main_while0b_v46 V0) (broadcastInDim S2x128x4 ![] bcast_S_S2x128x4 (constant S_ .f32 0x00000000#32))) (Host.log1p (Host.exp (Host.negf (Host.absf (res_main_while0b_v46 V0)))))) : (Proc.devRef .tc main_while0b_v54 : DevRef τ sig).ty.Contents (Elt F)) = Step.b52 j s := by
  unfold Step.b52
  rw [← al_51 h]
  try rfl
theorem al_53 : (transpose S2x4x128 [0, 2, 1] (Host.negf (addf (maximumf (res_main_while0b_v46 V0) (broadcastInDim S2x128x4 ![] bcast_S_S2x128x4 (constant S_ .f32 0x00000000#32))) (Host.log1p (Host.exp (Host.negf (Host.absf (res_main_while0b_v46 V0))))))) transposes_S2x128x4_S2x4x128_0_2_1 : (Proc.devRef .tc main_while0b_v55 : DevRef τ sig).ty.Contents (Elt F)) = Step.b53 j s := by
  unfold Step.b53
  rw [← al_52 h]
  try rfl
theorem al_54 : (broadcastInDim S2x4x1x128 ![0, 1, 3] bcast_S2x4x128_S2x4x1x128_0_1_3 (transpose S2x4x128 [0, 2, 1] (Host.negf (addf (maximumf (res_main_while0b_v46 V0) (broadcastInDim S2x128x4 ![] bcast_S_S2x128x4 (constant S_ .f32 0x00000000#32))) (Host.log1p (Host.exp (Host.negf (Host.absf (res_main_while0b_v46 V0))))))) transposes_S2x128x4_S2x4x128_0_2_1) : (Proc.devRef .tc main_while0b_v56 : DevRef τ sig).ty.Contents (Elt F)) = Step.b54 j s := by
  unfold Step.b54
  rw [← al_53 h]
  try rfl
theorem al_55 : (constant S_ .f32 0x00000000#32 : (Proc.devRef .tc main_while0b_cst_18 : DevRef τ sig).ty.Contents (Elt F)) = Step.b55 j s := by
  unfold Step.b55
  rfl
theorem al_56 : (id (constant S_ .f32 0x00000000#32) : (Proc.devRef .tc main_while0b_call2_v0 : DevRef τ sig).ty.Contents (Elt F)) = Step.b56 j s := by
  unfold Step.b56
  rw [← al_55 h]
  try rfl
theorem al_57 : (broadcastInDim S2x4x128x128 ![2, 3] bcast_S128x128_S2x4x128x128_2_3 (V0 (Proc.devRef .tc main_v8_2)) : (Proc.devRef .tc main_while0b_call2_v1 : DevRef τ sig).ty.Contents (Elt F)) = Step.b57 j s := by
  unfold Step.b57
  rw [h.k_2]
  try rfl
theorem al_58 : (broadcastInDim S2x4x128x128 ![0, 1, 2, 3] bcast_S2x4x1x128_S2x4x128x128_0_1_2_3 (broadcastInDim S2x4x1x128 ![0, 1, 3] bcast_S2x4x128_S2x4x1x128_0_1_3 (transpose S2x4x128 [0, 2, 1] (Host.negf (addf (maximumf (res_main_while0b_v46 V0) (broadcastInDim S2x128x4 ![] bcast_S_S2x128x4 (constant S_ .f32 0x00000000#32))) (Host.log1p (Host.exp (Host.negf (Host.absf (res_main_while0b_v46 V0))))))) transposes_S2x128x4_S2x4x128_0_2_1)) : (Proc.devRef .tc main_while0b_call2_v2 : DevRef τ sig).ty.Contents (Elt F)) = Step.b58 j s := by
  unfold Step.b58
  rw [← al_54 h]
  try rfl
theorem al_59 : (broadcastInDim S2x4x128x128 ![] bcast_S_S2x4x128x128 (id (constant S_ .f32 0x00000000#32)) : (Proc.devRef .tc main_while0b_call2_v3 : DevRef τ sig).ty.Contents (Elt F)) = Step.b59 j s := by
  unfold Step.b59
  rw [← al_56 h]
  try rfl
theorem al_60 : (select (broadcastInDim S2x4x128x128 ![2, 3] bcast_S128x128_S2x4x128x128_2_3 (V0 (Proc.devRef .tc main_v8_2))) (broadcastInDim S2x4x128x128 ![0, 1, 2, 3] bcast_S2x4x1x128_S2x4x128x128_0_1_2_3 (broadcastInDim S2x4x1x128 ![0, 1, 3] bcast_S2x4x128_S2x4x1x128_0_1_3 (transpose S2x4x128 [0, 2, 1] (Host.negf (addf (maximumf (res_main_while0b_v46 V0) (broadcastInDim S2x128x4 ![] bcast_S_S2x128x4 (constant S_ .f32 0x00000000#32))) (Host.log1p (Host.exp (Host.negf (Host.absf (res_main_while0b_v46 V0))))))) transposes_S2x128x4_S2x4x128_0_2_1))) (broadcastInDim S2x4x128x128 ![] bcast_S_S2x4x128x128 (id (constant S_ .f32 0x00000000#32))) : (Proc.devRef .tc main_while0b_v57 : DevRef τ sig).ty.Contents (Elt F)) = Step.b60 j s := by
  unfold Step.b60
  rw [← al_57 h, ← al_58 h, ← al_59 h]
  try rfl
theorem al_61 : (constant S_ .f32 0x00000000#32 : (Proc.devRef .tc main_while0b_cst_19 : DevRef τ sig).ty.Contents (Elt F)) = Step.b61 j s := by
  unfold Step.b61
  rfl
theorem al_62 : (res_main_while0b_v58 V0 : (Proc.devRef .tc main_while0b_v58 : DevRef τ sig).ty.Contents (Elt F)) = Step.b62 j s := by
  unfold res_main_while0b_v58 Step.b62
  rw [← al_60 h, ← al_61 h]
  try rfl
theorem al_63 : (extractStridedSlice S2x4x1 ![0, 0, 127] (res_main_while0b_v58 V0) slices_S2x4x128_S2x4x1_0_0_127 : (Proc.devRef .tc main_while0b_v59 : DevRef τ sig).ty.Contents (Elt F)) = Step.b63 j s := by
  unfold Step.b63
  rw [← al_62 h]
  try rfl
theorem al_64 : (res_main_while0b_v60 V0 : (Proc.devRef .tc main_while0b_v60 : DevRef τ sig).ty.Contents (Elt F)) = Step.b64 j s := by
  unfold res_main_while0b_v60 Step.b64
  rw [← al_63 h]
  try rfl
theorem al_65 : (broadcastInDim S2x4x128x1 ![0, 1, 2] bcast_S2x4x128_S2x4x128x1_0_1_2 (res_main_while0b_v58 V0) : (Proc.devRef .tc main_while0b_v61 : DevRef τ sig).ty.Contents (Elt F)) = Step.b65 j s := by
  unfold Step.b65
  rw [← al_62 h]
  try rfl
theorem al_66 : (broadcastInDim S2x4x1x128 ![0, 1, 3] bcast_S2x4x128_S2x4x1x128_0_1_3 (res_main_while0b_v58 V0) : (Proc.devRef .tc main_while0b_v62 : DevRef τ sig).ty.Contents (Elt F)) = Step.b66 j s := by
  unfold Step.b66
  rw [← al_62 h]
  try rfl
theorem al_67 : (broadcastInDim S2x4x128x128 ![0, 1, 2, 3] bcast_S2x4x128x1_S2x4x128x128_0_1_2_3 (broadcastInDim S2x4x128x1 ![0, 1, 2] bcast_S2x4x128_S2x4x128x1_0_1_2 (res_main_while0b_v58 V0)) : (Proc.devRef .tc main_while0b_v63 : DevRef τ sig).ty.Contents (Elt F)) = Step.b67 j s := by
  unfold Step.b67
  rw [← al_65 h]
  try rfl
theorem al_68 : (broadcastInDim S2x4x128x128 ![0, 1, 2, 3] bcast_S2x4x1x128_S2x4x128x128_0_1_2_3 (broadcastInDim S2x4x1x128 ![0, 1, 3] bcast_S2x4x128_S2x4x1x128_0_1_3 (res_main_while0b_v58 V0)) : (Proc.devRef .tc main_while0b_v64 : DevRef τ sig).ty.Contents (Elt F)) = Step.b68 j s := by
  unfold Step.b68
  rw [← al_66 h]
  try rfl
theorem al_69 : (subf (broadcastInDim S2x4x128x128 ![0, 1, 2, 3] bcast_S2x4x128x1_S2x4x128x128_0_1_2_3 (broadcastInDim S2x4x128x1 ![0, 1, 2] bcast_S2x4x128_S2x4x128x1_0_1_2 (res_main_while0b_v58 V0))) (broadcastInDim S2x4x128x128 ![0, 1, 2, 3] bcast_S2x4x1x128_S2x4x128x128_0_1_2_3 (broadcastInDim S2x4x1x128 ![0, 1, 3] bcast_S2x4x128_S2x4x1x128_0_1_3 (res_main_while0b_v58 V0))) : (Proc.devRef .tc main_while0b_v65 : DevRef τ sig).ty.Contents (Elt F)) = Step.b69 j s := by
  unfold Step.b69
  rw [← al_67 h, ← al_68 h]
  try rfl
theorem al_70 : (broadcastInDim S2x4x1x128 ![0, 1, 3] bcast_S2x4x128_S2x4x1x128_0_1_3 (res_main_while0b_v35 V0) : (Proc.devRef .tc main_while0b_v66 : DevRef τ sig).ty.Contents (Elt F)) = Step.b70 j s := by
  unfold Step.b70
  rw [← al_30 h]
  try rfl
theorem al_71 : (broadcastInDim S2x4x128x128 ![0, 1, 2, 3] bcast_S2x4x1x128_S2x4x128x128_0_1_2_3 (broadcastInDim S2x4x1x128 ![0, 1, 3] bcast_S2x4x128_S2x4x1x128_0_1_3 (res_main_while0b_v35 V0)) : (Proc.devRef .tc main_while0b_v67 : DevRef τ sig).ty.Contents (Elt F)) = Step.b71 j s := by
  unfold Step.b71
  rw [← al_70 h]
  try rfl
theorem al_72 : (addf (subf (broadcastInDim S2x4x128x128 ![0, 1, 2, 3] bcast_S2x4x128x1_S2x4x128x128_0_1_2_3 (broadcastInDim S2x4x128x1 ![0, 1, 2] bcast_S2x4x128_S2x4x128x1_0_1_2 (res_main_while0b_v58 V0))) (broadcastInDim S2x4x128x128 ![0, 1, 2, 3] bcast_S2x4x1x128_S2x4x128x128_0_1_2_3 (broadcastInDim S2x4x1x128 ![0, 1, 3] bcast_S2x4x128_S2x4x1x128_0_1_3 (res_main_while0b_v58 V0)))) (broadcastInDim S2x4x128x128 ![0, 1, 2, 3] bcast_S2x4x1x128_S2x4x128x128_0_1_2_3 (broadcastInDim S2x4x1x128 ![0, 1, 3] bcast_S2x4x128_S2x4x1x128_0_1_3 (res_main_while0b_v35 V0))) : (Proc.devRef .tc main_while0b_v68 : DevRef τ sig).ty.Contents (Elt F)) = Step.b72 j s := by
  unfold Step.b72
  rw [← al_69 h, ← al_71 h]
  try rfl
theorem al_73 : (constant S_ .f32 0xFF800000#32 : (Proc.devRef .tc main_while0b_cst_20 : DevRef τ sig).ty.Contents (Elt F)) = Step.b73 j s := by
  unfold Step.b73
  rfl
theorem al_74 : (id (constant S_ .f32 0xFF800000#32) : (Proc.devRef .tc main_while0b_call3_v0 : DevRef τ sig).ty.Contents (Elt F)) = Step.b74 j s := by
  unfold Step.b74
  rw [← al_73 h]
  try rfl
theorem al_75 : (broadcastInDim S2x4x128x128 ![2, 3] bcast_S128x128_S2x4x128x128_2_3 (V0 (Proc.devRef .tc main_v8_2)) : (Proc.devRef .tc main_while0b_call3_v1 : DevRef τ sig).ty.Contents (Elt F)) = Step.b75 j s := by
  unfold Step.b75
  rw [h.k_2]
  try rfl
theorem al_76 : (broadcastInDim S2x4x128x128 ![] bcast_S_S2x4x128x128 (id (constant S_ .f32 0xFF800000#32)) : (Proc.devRef .tc main_while0b_call3_v2 : DevRef τ sig).ty.Contents (Elt F)) = Step.b76 j s := by
  unfold Step.b76
  rw [← al_74 h]
  try rfl
theorem al_77 : (res_main_while0b_v69 V0 : (Proc.devRef .tc main_while0b_v69 : DevRef τ sig).ty.Contents (Elt F)) = Step.b77 j s := by
  unfold res_main_while0b_v69 Step.b77
  rw [← al_75 h, ← al_72 h, ← al_76 h]
  try rfl
theorem al_78 : (broadcastInDim S2x4x1 ![0, 1] bcast_S2x4_S2x4x1_0_1 (res_main_while0b_v60 V0) : (Proc.devRef .tc main_while0b_v70 : DevRef τ sig).ty.Contents (Elt F)) = Step.b78 j s := by
  unfold Step.b78
  rw [← al_64 h]
  try rfl
theorem al_79 : (broadcastInDim S2x4x128 ![0, 1, 2] bcast_S2x4x1_S2x4x128_0_1_2 (broadcastInDim S2x4x1 ![0, 1] bcast_S2x4_S2x4x1_0_1 (res_main_while0b_v60 V0)) : (Proc.devRef .tc main_while0b_v71 : DevRef τ sig).ty.Contents (Elt F)) = Step.b79 j s := by
  unfold Step.b79
  rw [← al_78 h]
  try rfl
theorem al_80 : (subf (broadcastInDim S2x4x128 ![0, 1, 2] bcast_S2x4x1_S2x4x128_0_1_2 (broadcastInDim S2x4x1 ![0, 1] bcast_S2x4_S2x4x1_0_1 (res_main_while0b_v60 V0))) (res_main_while0b_v58 V0) : (Proc.devRef .tc main_while0b_v72 : DevRef τ sig).ty.Contents (Elt F)) = Step.b80 j s := by
  unfold Step.b80
  rw [← al_79 h, ← al_62 h]
  try rfl
theorem al_81 : (res_main_while0b_v73 V0 : (Proc.devRef .tc main_while0b_v73 : DevRef τ sig).ty.Contents (Elt F)) = Step.b81 j s := by
  unfold res_main_while0b_v73 Step.b81
  rw [← al_80 h, ← al_30 h]
  try rfl
theorem al_82 : (constant S_ .f32 0xFF800000#32 : (Proc.devRef .tc main_while0b_cst_21 : DevRef τ sig).ty.Contents (Elt F)) = Step.b82 j s := by
  unfold Step.b82
  rfl
theorem al_83 : (res_main_while0b_v74 V0 : (Proc.devRef .tc main_while0b_v74 : DevRef τ sig).ty.Contents (Elt F)) = Step.b83 j s := by
  unfold res_main_while0b_v74 Step.b83
  rw [← al_81 h, ← al_82 h]
  try rfl
theorem al_84 : (broadcastInDim S2x4x1 ![0, 1] bcast_S2x4_S2x4x1_0_1 (res_main_while0b_v74 V0) : (Proc.devRef .tc main_while0b_v75 : DevRef τ sig).ty.Contents (Elt F)) = Step.b84 j s := by
  unfold Step.b84
  rw [← al_83 h]
  try rfl
theorem al_85 : (broadcastInDim S2x4x128 ![0, 1, 2] bcast_S2x4x1_S2x4x128_0_1_2 (broadcastInDim S2x4x1 ![0, 1] bcast_S2x4_S2x4x1_0_1 (res_main_while0b_v74 V0)) : (Proc.devRef .tc main_while0b_v76 : DevRef τ sig).ty.Contents (Elt F)) = Step.b85 j s := by
  unfold Step.b85
  rw [← al_84 h]
  try rfl
theorem al_86 : (subf (res_main_while0b_v73 V0) (broadcastInDim S2x4x128 ![0, 1, 2] bcast_S2x4x1_S2x4x128_0_1_2 (broadcastInDim S2x4x1 ![0, 1] bcast_S2x4_S2x4x1_0_1 (res_main_while0b_v74 V0))) : (Proc.devRef .tc main_while0b_v77 : DevRef τ sig).ty.Contents (Elt F)) = Step.b86 j s := by
  unfold Step.b86
  rw [← al_81 h, ← al_85 h]
  try rfl
theorem al_87 : (Host.exp (subf (res_main_while0b_v73 V0) (broadcastInDim S2x4x128 ![0, 1, 2] bcast_S2x4x1_S2x4x128_0_1_2 (broadcastInDim S2x4x1 ![0, 1] bcast_S2x4_S2x4x1_0_1 (res_main_while0b_v74 V0)))) : (Proc.devRef .tc main_while0b_v78 : DevRef τ sig).ty.Contents (Elt F)) = Step.b87 j s := by
  unfold Step.b87
  rw [← al_86 h]
  try rfl
theorem al_88 : (broadcastInDim S2x4x128x1 ![0, 1, 2] bcast_S2x4x128_S2x4x128x1_0_1_2 (Host.exp (subf (res_main_while0b_v73 V0) (broadcastInDim S2x4x128 ![0, 1, 2] bcast_S2x4x1_S2x4x128_0_1_2 (broadcastInDim S2x4x1 ![0, 1] bcast_S2x4_S2x4x1_0_1 (res_main_while0b_v74 V0))))) : (Proc.devRef .tc main_while0b_v79 : DevRef τ sig).ty.Contents (Elt F)) = Step.b88 j s := by
  unfold Step.b88
  rw [← al_87 h]
  try rfl
theorem al_89 : (broadcastInDim S2x4x128x128 ![0, 1, 2, 3] bcast_S2x4x128x1_S2x4x128x128_0_1_2_3 (broadcastInDim S2x4x128x1 ![0, 1, 2] bcast_S2x4x128_S2x4x128x1_0_1_2 (Host.exp (subf (res_main_while0b_v73 V0) (broadcastInDim S2x4x128 ![0, 1, 2] bcast_S2x4x1_S2x4x128_0_1_2 (broadcastInDim S2x4x1 ![0, 1] bcast_S2x4_S2x4x1_0_1 (res_main_while0b_v74 V0)))))) : (Proc.devRef .tc main_while0b_v80 : DevRef τ sig).ty.Contents (Elt F)) = Step.b89 j s := by
  unfold Step.b89
  rw [← al_88 h]
  try rfl
theorem al_90 : (res_main_while0b_v81 V0 : (Proc.devRef .tc main_while0b_v81 : DevRef τ sig).ty.Contents (Elt F)) = Step.b90 j s := by
  unfold res_main_while0b_v81 Step.b90
  rw [← al_13 h, ← al_89 h]
  try rfl
theorem al_91 : (Host.dotGeneral dot_S2x4x128x128_S2x4x128x256_S2x4x128x256_2_2_3_3_01_01 none (res_main_while0b_v81 V0) (res_main_while0b_v23 V0) : (Proc.devRef .tc main_while0b_v82 : DevRef τ sig).ty.Contents (Elt F)) = Step.b91 j s := by
  unfold Step.b91
  rw [← al_90 h, ← al_16 h]
  try rfl
theorem al_92 : (constant S_ .f32 0x00000000#32 : (Proc.devRef .tc main_while0b_cst_22 : DevRef τ sig).ty.Contents (Elt F)) = Step.b92 j s := by
  unfold Step.b92
  rfl
theorem al_93 : (Host.reduceAdd (res_main_while0b_v81 V0) (constant S_ .f32 0x00000000#32) reducesTo_S2x4x128x128_S2x4x128_d2 h_S_ : (Proc.devRef .tc main_while0b_v83 : DevRef τ sig).ty.Contents (Elt F)) = Step.b93 j s := by
  unfold Step.b93
  rw [← al_90 h, ← al_92 h]
  try rfl
theorem al_94 : (addf (res_main_while0b_v60 V0) (V0 (Proc.devRef .tc main_v8_7)) : (Proc.devRef .tc main_while0b_v84 : DevRef τ sig).ty.Contents (Elt F)) = Step.b94 j s := by
  unfold Step.b94
  rw [← al_64 h, h.f_7]
  try rfl
theorem al_95 : (res_main_while0b_v85 V0 : (Proc.devRef .tc main_while0b_v85 : DevRef τ sig).ty.Contents (Elt F)) = Step.b95 j s := by
  unfold res_main_while0b_v85 Step.b95
  rw [← al_94 h, ← al_83 h]
  try rfl
theorem al_96 : (addf (res_main_while0b_v60 V0) (V0 (Proc.devRef .tc main_v8_7)) : (Proc.devRef .tc main_while0b_v86 : DevRef τ sig).ty.Contents (Elt F)) = Step.b96 j s := by
  unfold Step.b96
  rw [← al_64 h, h.f_7]
  try rfl
theorem al_97 : (subf (addf (res_main_while0b_v60 V0) (V0 (Proc.devRef .tc main_v8_7))) (res_main_while0b_v85 V0) : (Proc.devRef .tc main_while0b_v87 : DevRef τ sig).ty.Contents (Elt F)) = Step.b97 j s := by
  unfold Step.b97
  rw [← al_96 h, ← al_95 h]
  try rfl
theorem al_98 : (res_main_while0b_v88 V0 : (Proc.devRef .tc main_while0b_v88 : DevRef τ sig).ty.Contents (Elt F)) = Step.b98 j s := by
  unfold res_main_while0b_v88 Step.b98
  rw [← al_97 h]
  try rfl
theorem al_99 : (subf (res_main_while0b_v74 V0) (res_main_while0b_v85 V0) : (Proc.devRef .tc main_while0b_v89 : DevRef τ sig).ty.Contents (Elt F)) = Step.b99 j s := by
  unfold Step.b99
  rw [← al_83 h, ← al_95 h]
  try rfl
theorem al_100 : (res_main_while0b_v90 V0 : (Proc.devRef .tc main_while0b_v90 : DevRef τ sig).ty.Contents (Elt F)) = Step.b100 j s := by
  unfold res_main_while0b_v90 Step.b100
  rw [← al_99 h]
  try rfl
theorem al_101 : (broadcastInDim S2x4x1x1 ![0, 1] bcast_S2x4_S2x4x1x1_0_1 (res_main_while0b_v88 V0) : (Proc.devRef .tc main_while0b_v91 : DevRef τ sig).ty.Contents (Elt F)) = Step.b101 j s := by
  unfold Step.b101
  rw [← al_98 h]
  try rfl
theorem al_102 : (broadcastInDim S2x4x128x256 ![0, 1, 2, 3] bcast_S2x4x1x1_S2x4x128x256_0_1_2_3 (broadcastInDim S2x4x1x1 ![0, 1] bcast_S2x4_S2x4x1x1_0_1 (res_main_while0b_v88 V0)) : (Proc.devRef .tc main_while0b_v92 : DevRef τ sig).ty.Contents (Elt F)) = Step.b102 j s := by
  unfold Step.b102
  rw [← al_101 h]
  try rfl
theorem al_103 : (mulf (broadcastInDim S2x4x128x256 ![0, 1, 2, 3] bcast_S2x4x1x1_S2x4x128x256_0_1_2_3 (broadcastInDim S2x4x1x1 ![0, 1] bcast_S2x4_S2x4x1x1_0_1 (res_main_while0b_v88 V0))) (V0 (Proc.devRef .tc main_v8_5)) : (Proc.devRef .tc main_while0b_v93 : DevRef τ sig).ty.Contents (Elt F)) = Step.b103 j s := by
  unfold Step.b103
  rw [← al_102 h, h.f_5]
  try rfl
theorem al_104 : (broadcastInDim S2x4x1x1 ![0, 1] bcast_S2x4_S2x4x1x1_0_1 (res_main_while0b_v90 V0) : (Proc.devRef .tc main_while0b_v94 : DevRef τ sig).ty.Contents (Elt F)) = Step.b104 j s := by
  unfold Step.b104
  rw [← al_100 h]
  try rfl
theorem al_105 : (broadcastInDim S2x4x128x256 ![0, 1, 2, 3] bcast_S2x4x1x1_S2x4x128x256_0_1_2_3 (broadcastInDim S2x4x1x1 ![0, 1] bcast_S2x4_S2x4x1x1_0_1 (res_main_while0b_v90 V0)) : (Proc.devRef .tc main_while0b_v95 : DevRef τ sig).ty.Contents (Elt F)) = Step.b105 j s := by
  unfold Step.b105
  rw [← al_104 h]
  try rfl
theorem al_106 : (mulf (broadcastInDim S2x4x128x256 ![0, 1, 2, 3] bcast_S2x4x1x1_S2x4x128x256_0_1_2_3 (broadcastInDim S2x4x1x1 ![0, 1] bcast_S2x4_S2x4x1x1_0_1 (res_main_while0b_v90 V0))) (Host.dotGeneral dot_S2x4x128x128_S2x4x128x256_S2x4x128x256_2_2_3_3_01_01 none (res_main_while0b_v81 V0) (res_main_while0b_v23 V0)) : (Proc.devRef .tc main_while0b_v96 : DevRef τ sig).ty.Contents (Elt F)) = Step.b106 j s := by
  unfold Step.b106
  rw [← al_105 h, ← al_91 h]
  try rfl
theorem al_107 : (addf (mulf (broadcastInDim S2x4x128x256 ![0, 1, 2, 3] bcast_S2x4x1x1_S2x4x128x256_0_1_2_3 (broadcastInDim S2x4x1x1 ![0, 1] bcast_S2x4_S2x4x1x1_0_1 (res_main_while0b_v88 V0))) (V0 (Proc.devRef .tc main_v8_5))) (mulf (broadcastInDim S2x4x128x256 ![0, 1, 2, 3] bcast_S2x4x1x1_S2x4x128x256_0_1_2_3 (broadcastInDim S2x4x1x1 ![0, 1] bcast_S2x4_S2x4x1x1_0_1 (res_main_while0b_v90 V0))) (Host.dotGeneral dot_S2x4x128x128_S2x4x128x256_S2x4x128x256_2_2_3_3_01_01 none (res_main_while0b_v81 V0) (res_main_while0b_v23 V0))) : (Proc.devRef .tc main_while0b_v97 : DevRef τ sig).ty.Contents (Elt F)) = Step.b107 j s := by
  unfold Step.b107
  rw [← al_103 h, ← al_106 h]
  try rfl
theorem al_108 : (broadcastInDim S2x4x1 ![0, 1] bcast_S2x4_S2x4x1_0_1 (res_main_while0b_v88 V0) : (Proc.devRef .tc main_while0b_v98 : DevRef τ sig).ty.Contents (Elt F)) = Step.b108 j s := by
  unfold Step.b108
  rw [← al_98 h]
  try rfl
theorem al_109 : (broadcastInDim S2x4x128 ![0, 1, 2] bcast_S2x4x1_S2x4x128_0_1_2 (broadcastInDim S2x4x1 ![0, 1] bcast_S2x4_S2x4x1_0_1 (res_main_while0b_v88 V0)) : (Proc.devRef .tc main_while0b_v99 : DevRef τ sig).ty.Contents (Elt F)) = Step.b109 j s := by
  unfold Step.b109
  rw [← al_108 h]
  try rfl
theorem al_110 : (mulf (broadcastInDim S2x4x128 ![0, 1, 2] bcast_S2x4x1_S2x4x128_0_1_2 (broadcastInDim S2x4x1 ![0, 1] bcast_S2x4_S2x4x1_0_1 (res_main_while0b_v88 V0))) (V0 (Proc.devRef .tc main_v8_6)) : (Proc.devRef .tc main_while0b_v100 : DevRef τ sig).ty.Contents (Elt F)) = Step.b110 j s := by
  unfold Step.b110
  rw [← al_109 h, h.f_6]
  try rfl
theorem al_111 : (broadcastInDim S2x4x1 ![0, 1] bcast_S2x4_S2x4x1_0_1 (res_main_while0b_v90 V0) : (Proc.devRef .tc main_while0b_v101 : DevRef τ sig).ty.Contents (Elt F)) = Step.b111 j s := by
  unfold Step.b111
  rw [← al_100 h]
  try rfl
theorem al_112 : (broadcastInDim S2x4x128 ![0, 1, 2] bcast_S2x4x1_S2x4x128_0_1_2 (broadcastInDim S2x4x1 ![0, 1] bcast_S2x4_S2x4x1_0_1 (res_main_while0b_v90 V0)) : (Proc.devRef .tc main_while0b_v102 : DevRef τ sig).ty.Contents (Elt F)) = Step.b112 j s := by
  unfold Step.b112
  rw [← al_111 h]
  try rfl
theorem al_113 : (mulf (broadcastInDim S2x4x128 ![0, 1, 2] bcast_S2x4x1_S2x4x128_0_1_2 (broadcastInDim S2x4x1 ![0, 1] bcast_S2x4_S2x4x1_0_1 (res_main_while0b_v90 V0))) (Host.reduceAdd (res_main_while0b_v81 V0) (constant S_ .f32 0x00000000#32) reducesTo_S2x4x128x128_S2x4x128_d2 h_S_) : (Proc.devRef .tc main_while0b_v103 : DevRef τ sig).ty.Contents (Elt F)) = Step.b113 j s := by
  unfold Step.b113
  rw [← al_112 h, ← al_93 h]
  try rfl
theorem al_114 : (addf (mulf (broadcastInDim S2x4x128 ![0, 1, 2] bcast_S2x4x1_S2x4x128_0_1_2 (broadcastInDim S2x4x1 ![0, 1] bcast_S2x4_S2x4x1_0_1 (res_main_while0b_v88 V0))) (V0 (Proc.devRef .tc main_v8_6))) (mulf (broadcastInDim S2x4x128 ![0, 1, 2] bcast_S2x4x1_S2x4x128_0_1_2 (broadcastInDim S2x4x1 ![0, 1] bcast_S2x4_S2x4x1_0_1 (res_main_while0b_v90 V0))) (Host.reduceAdd (res_main_while0b_v81 V0) (constant S_ .f32 0x00000000#32) reducesTo_S2x4x128x128_S2x4x128_d2 h_S_)) : (Proc.devRef .tc main_while0b_v104 : DevRef τ sig).ty.Contents (Elt F)) = Step.b114 j s := by
  unfold Step.b114
  rw [← al_110 h, ← al_113 h]
  try rfl
theorem al_115 : (broadcastInDim S2x4x1 ![0, 1] bcast_S2x4_S2x4x1_0_1 (V0 (Proc.devRef .tc main_v8_7)) : (Proc.devRef .tc main_while0b_v105 : DevRef τ sig).ty.Contents (Elt F)) = Step.b115 j s := by
  unfold Step.b115
  rw [h.f_7]
  try rfl
theorem al_116 : (broadcastInDim S2x4x128 ![0, 1, 2] bcast_S2x4x1_S2x4x128_0_1_2 (broadcastInDim S2x4x1 ![0, 1] bcast_S2x4_S2x4x1_0_1 (V0 (Proc.devRef .tc main_v8_7))) : (Proc.devRef .tc main_while0b_v106 : DevRef τ sig).ty.Contents (Elt F)) = Step.b116 j s := by
  unfold Step.b116
  rw [← al_115 h]
  try rfl
theorem al_117 : (res_main_while0b_v107 V0 : (Proc.devRef .tc main_while0b_v107 : DevRef τ sig).ty.Contents (Elt F)) = Step.b117 j s := by
  unfold res_main_while0b_v107 Step.b117
  rw [← al_62 h, ← al_116 h]
  try rfl
theorem al_118 : (constant S_ .f32 0xFF800000#32 : (Proc.devRef .tc main_while0b_cst_23 : DevRef τ sig).ty.Contents (Elt F)) = Step.b118 j s := by
  unfold Step.b118
  rfl
theorem al_119 : (Host.reduce FloatOps.maximumf (res_main_while0b_v69 V0) (constant S_ .f32 0xFF800000#32) reducesTo_S2x4x128x128_S2x4x128_d3 h_S_ : (Proc.devRef .tc main_while0b_v108 : DevRef τ sig).ty.Contents (Elt F)) = Step.b119 j s := by
  unfold Step.b119
  rw [← al_77 h, ← al_118 h]
  try rfl
theorem al_120 : (res_main_while0b_v109 V0 : (Proc.devRef .tc main_while0b_v109 : DevRef τ sig).ty.Contents (Elt F)) = Step.b120 j s := by
  unfold res_main_while0b_v109 Step.b120
  rw [← al_117 h, ← al_119 h]
  try rfl
theorem al_121 : (broadcastInDim S2x4x128x1 ![0, 1, 2] bcast_S2x4x128_S2x4x128x1_0_1_2 (res_main_while0b_v109 V0) : (Proc.devRef .tc main_while0b_v110 : DevRef τ sig).ty.Contents (Elt F)) = Step.b121 j s := by
  unfold Step.b121
  rw [← al_120 h]
  try rfl
theorem al_122 : (broadcastInDim S2x4x128x128 ![0, 1, 2, 3] bcast_S2x4x128x1_S2x4x128x128_0_1_2_3 (broadcastInDim S2x4x128x1 ![0, 1, 2] bcast_S2x4x128_S2x4x128x1_0_1_2 (res_main_while0b_v109 V0)) : (Proc.devRef .tc main_while0b_v111 : DevRef τ sig).ty.Contents (Elt F)) = Step.b122 j s := by
  unfold Step.b122
  rw [← al_121 h]
  try rfl
theorem al_123 : (subf (res_main_while0b_v69 V0) (broadcastInDim S2x4x128x128 ![0, 1, 2, 3] bcast_S2x4x128x1_S2x4x128x128_0_1_2_3 (broadcastInDim S2x4x128x1 ![0, 1, 2] bcast_S2x4x128_S2x4x128x1_0_1_2 (res_main_while0b_v109 V0))) : (Proc.devRef .tc main_while0b_v112 : DevRef τ sig).ty.Contents (Elt F)) = Step.b123 j s := by
  unfold Step.b123
  rw [← al_77 h, ← al_122 h]
  try rfl
theorem al_124 : (Host.exp (subf (res_main_while0b_v69 V0) (broadcastInDim S2x4x128x128 ![0, 1, 2, 3] bcast_S2x4x128x1_S2x4x128x128_0_1_2_3 (broadcastInDim S2x4x128x1 ![0, 1, 2] bcast_S2x4x128_S2x4x128x1_0_1_2 (res_main_while0b_v109 V0)))) : (Proc.devRef .tc main_while0b_v113 : DevRef τ sig).ty.Contents (Elt F)) = Step.b124 j s := by
  unfold Step.b124
  rw [← al_123 h]
  try rfl
theorem al_125 : (Host.dotGeneral dot_S2x4x128x128_S2x4x128x128_S2x4x128x128_3_3_2_2_01_01 none (res_main_while0b_v17 V0) (res_main_while0b_v20 V0) : (Proc.devRef .tc main_while0b_v114 : DevRef τ sig).ty.Contents (Elt F)) = Step.b125 j s := by
  unfold Step.b125
  rw [← al_10 h, ← al_13 h]
  try rfl
theorem al_126 : (res_main_while0b_v115 V0 : (Proc.devRef .tc main_while0b_v115 : DevRef τ sig).ty.Contents (Elt F)) = Step.b126 j s := by
  unfold res_main_while0b_v115 Step.b126
  rw [← al_124 h, ← al_125 h]
  try rfl
theorem al_127 : (subf (res_main_while0b_v107 V0) (res_main_while0b_v109 V0) : (Proc.devRef .tc main_while0b_v116 : DevRef τ sig).ty.Contents (Elt F)) = Step.b127 j s := by
  unfold Step.b127
  rw [← al_117 h, ← al_120 h]
  try rfl
theorem al_128 : (res_main_while0b_v117 V0 : (Proc.devRef .tc main_while0b_v117 : DevRef τ sig).ty.Contents (Elt F)) = Step.b128 j s := by
  unfold res_main_while0b_v117 Step.b128
  rw [← al_127 h]
  try rfl
theorem al_129 : (Host.dotGeneral dot_S2x4x128x128_S2x4x128x256_S2x4x128x256_3_2_2_3_01_01 none (res_main_while0b_v115 V0) (res_main_while0b_v23 V0) : (Proc.devRef .tc main_while0b_v118 : DevRef τ sig).ty.Contents (Elt F)) = Step.b129 j s := by
  unfold Step.b129
  rw [← al_126 h, ← al_16 h]
  try rfl
theorem al_130 : (broadcastInDim S2x4x128x1 ![0, 1, 2] bcast_S2x4x128_S2x4x128x1_0_1_2 (res_main_while0b_v117 V0) : (Proc.devRef .tc main_while0b_v119 : DevRef τ sig).ty.Contents (Elt F)) = Step.b130 j s := by
  unfold Step.b130
  rw [← al_128 h]
  try rfl
theorem al_131 : (Host.dotGeneral dot_S2x4x128x128_S2x4x128x256_S2x4x128x256_3_2_2_3_01_01 none (res_main_while0b_v17 V0) (V0 (Proc.devRef .tc main_v8_5)) : (Proc.devRef .tc main_while0b_v120 : DevRef τ sig).ty.Contents (Elt F)) = Step.b131 j s := by
  unfold Step.b131
  rw [← al_10 h, h.f_5]
  try rfl
theorem al_132 : (broadcastInDim S2x4x128x256 ![0, 1, 2, 3] bcast_S2x4x128x1_S2x4x128x256_0_1_2_3 (broadcastInDim S2x4x128x1 ![0, 1, 2] bcast_S2x4x128_S2x4x128x1_0_1_2 (res_main_while0b_v117 V0)) : (Proc.devRef .tc main_while0b_v121 : DevRef τ sig).ty.Contents (Elt F)) = Step.b132 j s := by
  unfold Step.b132
  rw [← al_130 h]
  try rfl
theorem al_133 : (mulf (broadcastInDim S2x4x128x256 ![0, 1, 2, 3] bcast_S2x4x128x1_S2x4x128x256_0_1_2_3 (broadcastInDim S2x4x128x1 ![0, 1, 2] bcast_S2x4x128_S2x4x128x1_0_1_2 (res_main_while0b_v117 V0))) (Host.dotGeneral dot_S2x4x128x128_S2x4x128x256_S2x4x128x256_3_2_2_3_01_01 none (res_main_while0b_v17 V0) (V0 (Proc.devRef .tc main_v8_5))) : (Proc.devRef .tc main_while0b_v122 : DevRef τ sig).ty.Contents (Elt F)) = Step.b133 j s := by
  unfold Step.b133
  rw [← al_132 h, ← al_131 h]
  try rfl
theorem al_134 : (addf (Host.dotGeneral dot_S2x4x128x128_S2x4x128x256_S2x4x128x256_3_2_2_3_01_01 none (res_main_while0b_v115 V0) (res_main_while0b_v23 V0)) (mulf (broadcastInDim S2x4x128x256 ![0, 1, 2, 3] bcast_S2x4x128x1_S2x4x128x256_0_1_2_3 (broadcastInDim S2x4x128x1 ![0, 1, 2] bcast_S2x4x128_S2x4x128x1_0_1_2 (res_main_while0b_v117 V0))) (Host.dotGeneral dot_S2x4x128x128_S2x4x128x256_S2x4x128x256_3_2_2_3_01_01 none (res_main_while0b_v17 V0) (V0 (Proc.devRef .tc main_v8_5)))) : (Proc.devRef .tc main_while0b_v123 : DevRef τ sig).ty.Contents (Elt F)) = Step.b134 j s := by
  unfold Step.b134
  rw [← al_129 h, ← al_133 h]
  try rfl
theorem al_135 : (constant S_ .f32 0x00000000#32 : (Proc.devRef .tc main_while0b_cst_24 : DevRef τ sig).ty.Contents (Elt F)) = Step.b135 j s := by
  unfold Step.b135
  rfl
theorem al_136 : (Host.reduceAdd (res_main_while0b_v115 V0) (constant S_ .f32 0x00000000#32) reducesTo_S2x4x128x128_S2x4x128_d3 h_S_ : (Proc.devRef .tc main_while0b_v124 : DevRef τ sig).ty.Contents (Elt F)) = Step.b136 j s := by
  unfold Step.b136
  rw [← al_126 h, ← al_135 h]
  try rfl
theorem al_137 : (broadcastInDim S2x4x1x128 ![0, 1, 3] bcast_S2x4x128_S2x4x1x128_0_1_3 (V0 (Proc.devRef .tc main_v8_6)) : (Proc.devRef .tc main_while0b_v125 : DevRef τ sig).ty.Contents (Elt F)) = Step.b137 j s := by
  unfold Step.b137
  rw [h.f_6]
  try rfl
theorem al_138 : (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6))) : (Proc.devRef .tc main_while0b_v126 : DevRef τ sig).ty.Contents (Elt F)) = Step.b138 j s := by
  unfold Step.b138
  rw [← al_137 h]
  try rfl
theorem al_139 : (mulf (res_main_while0b_v17 V0) (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6)))) : (Proc.devRef .tc main_while0b_v127 : DevRef τ sig).ty.Contents (Elt F)) = Step.b139 j s := by
  unfold Step.b139
  rw [← al_10 h, ← al_138 h]
  try rfl
theorem al_140 : (constant S_ .f32 0x00000000#32 : (Proc.devRef .tc main_while0b_cst_25 : DevRef τ sig).ty.Contents (Elt F)) = Step.b140 j s := by
  unfold Step.b140
  rfl
theorem al_141 : (Host.reduceAdd (mulf (res_main_while0b_v17 V0) (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6))))) (constant S_ .f32 0x00000000#32) reducesTo_S2x4x128x128_S2x4x128_d3 h_S_ : (Proc.devRef .tc main_while0b_v128 : DevRef τ sig).ty.Contents (Elt F)) = Step.b141 j s := by
  unfold Step.b141
  rw [← al_139 h, ← al_140 h]
  try rfl
theorem al_142 : (mulf (res_main_while0b_v117 V0) (Host.reduceAdd (mulf (res_main_while0b_v17 V0) (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6))))) (constant S_ .f32 0x00000000#32) reducesTo_S2x4x128x128_S2x4x128_d3 h_S_) : (Proc.devRef .tc main_while0b_v129 : DevRef τ sig).ty.Contents (Elt F)) = Step.b142 j s := by
  unfold Step.b142
  rw [← al_128 h, ← al_141 h]
  try rfl
theorem al_143 : (addf (Host.reduceAdd (res_main_while0b_v115 V0) (constant S_ .f32 0x00000000#32) reducesTo_S2x4x128x128_S2x4x128_d3 h_S_) (mulf (res_main_while0b_v117 V0) (Host.reduceAdd (mulf (res_main_while0b_v17 V0) (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6))))) (constant S_ .f32 0x00000000#32) reducesTo_S2x4x128x128_S2x4x128_d3 h_S_)) : (Proc.devRef .tc main_while0b_v130 : DevRef τ sig).ty.Contents (Elt F)) = Step.b143 j s := by
  unfold Step.b143
  rw [← al_136 h, ← al_142 h]
  try rfl
theorem al_144 : (Host.absf (addf (Host.reduceAdd (res_main_while0b_v115 V0) (constant S_ .f32 0x00000000#32) reducesTo_S2x4x128x128_S2x4x128_d3 h_S_) (mulf (res_main_while0b_v117 V0) (Host.reduceAdd (mulf (res_main_while0b_v17 V0) (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6))))) (constant S_ .f32 0x00000000#32) reducesTo_S2x4x128x128_S2x4x128_d3 h_S_))) : (Proc.devRef .tc main_while0b_v131 : DevRef τ sig).ty.Contents (Elt F)) = Step.b144 j s := by
  unfold Step.b144
  rw [← al_143 h]
  try rfl
theorem al_145 : (Host.negf (res_main_while0b_v109 V0) : (Proc.devRef .tc main_while0b_v132 : DevRef τ sig).ty.Contents (Elt F)) = Step.b145 j s := by
  unfold Step.b145
  rw [← al_120 h]
  try rfl
theorem al_146 : (Host.exp (Host.negf (res_main_while0b_v109 V0)) : (Proc.devRef .tc main_while0b_v133 : DevRef τ sig).ty.Contents (Elt F)) = Step.b146 j s := by
  unfold Step.b146
  rw [← al_145 h]
  try rfl
theorem al_147 : (maximumf (Host.absf (addf (Host.reduceAdd (res_main_while0b_v115 V0) (constant S_ .f32 0x00000000#32) reducesTo_S2x4x128x128_S2x4x128_d3 h_S_) (mulf (res_main_while0b_v117 V0) (Host.reduceAdd (mulf (res_main_while0b_v17 V0) (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6))))) (constant S_ .f32 0x00000000#32) reducesTo_S2x4x128x128_S2x4x128_d3 h_S_)))) (Host.exp (Host.negf (res_main_while0b_v109 V0))) : (Proc.devRef .tc main_while0b_v134 : DevRef τ sig).ty.Contents (Elt F)) = Step.b147 j s := by
  unfold Step.b147
  rw [← al_144 h, ← al_146 h]
  try rfl
theorem al_148 : (broadcastInDim S2x4x128x1 ![0, 1, 2] bcast_S2x4x128_S2x4x128x1_0_1_2 (maximumf (Host.absf (addf (Host.reduceAdd (res_main_while0b_v115 V0) (constant S_ .f32 0x00000000#32) reducesTo_S2x4x128x128_S2x4x128_d3 h_S_) (mulf (res_main_while0b_v117 V0) (Host.reduceAdd (mulf (res_main_while0b_v17 V0) (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6))))) (constant S_ .f32 0x00000000#32) reducesTo_S2x4x128x128_S2x4x128_d3 h_S_)))) (Host.exp (Host.negf (res_main_while0b_v109 V0)))) : (Proc.devRef .tc main_while0b_v135 : DevRef τ sig).ty.Contents (Elt F)) = Step.b148 j s := by
  unfold Step.b148
  rw [← al_147 h]
  try rfl
theorem al_149 : (broadcastInDim S2x4x128x256 ![0, 1, 2, 3] bcast_S2x4x128x1_S2x4x128x256_0_1_2_3 (broadcastInDim S2x4x128x1 ![0, 1, 2] bcast_S2x4x128_S2x4x128x1_0_1_2 (maximumf (Host.absf (addf (Host.reduceAdd (res_main_while0b_v115 V0) (constant S_ .f32 0x00000000#32) reducesTo_S2x4x128x128_S2x4x128_d3 h_S_) (mulf (res_main_while0b_v117 V0) (Host.reduceAdd (mulf (res_main_while0b_v17 V0) (broadcastInDim S2x4x128x128 ![0, 1, 2, 3] bcast_S2x4x1x128_S2x4x128x128_0_1_2_3 (broadcastInDim S2x4x1x128 ![0, 1, 3] bcast_S2x4x128_S2x4x1x128_0_1_3 (V0 (Proc.devRef .tc main_v8_6))))) (constant S_ .f32 0x00000000#32) reducesTo_S2x4x128x128_S2x4x128_d3 h_S_)))) (Host.exp (Host.negf (res_main_while0b_v109 V0))))) : (Proc.devRef .tc main_while0b_v136 : DevRef τ sig).ty.Contents (Elt F)) = Step.b149 j s := by
  unfold Step.b149
  rw [← al_148 h]
  try rfl
theorem al_150 : (res_main_while0b_v137 V0 : (Proc.devRef .tc main_while0b_v137 : DevRef τ sig).ty.Contents (Elt F)) = Step.b150 j s := by
  unfold res_main_while0b_v137 Step.b150
  rw [← al_134 h, ← al_149 h]
  try rfl
theorem al_151 : (shapeCast S4x1x256 (V0 (Proc.devRef .tc main_v8_3)) shapeCasts_S1024_S4x1x256 : (Proc.devRef .tc main_while0b_v138 : DevRef τ sig).ty.Contents (Elt F)) = Step.b151 j s := by
  unfold Step.b151
  rw [h.f_3]
  try rfl
theorem al_152 : (mulf (res_main_while0b_v137 V0) (res_main_while0b_v137 V0) : (Proc.devRef .tc main_while0b_v139 : DevRef τ sig).ty.Contents (Elt F)) = Step.b152 j s := by
  unfold Step.b152
  rw [← al_150 h]
  try rfl
theorem al_153 : (constant S_ .f32 0x00000000#32 : (Proc.devRef .tc main_while0b_cst_26 : DevRef τ sig).ty.Contents (Elt F)) = Step.b153 j s := by
  unfold Step.b153
  rfl
theorem al_154 : (Host.reduceAdd (mulf (res_main_while0b_v137 V0) (res_main_while0b_v137 V0)) (constant S_ .f32 0x00000000#32) reducesTo_S2x4x128x256_S2x4x128_d3 h_S_ : (Proc.devRef .tc main_while0b_v140 : DevRef τ sig).ty.Contents (Elt F)) = Step.b154 j s := by
  unfold Step.b154
  rw [← al_152 h, ← al_153 h]
  try rfl
theorem al_155 : (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_) : (Proc.devRef .tc main_while0b_v141 : DevRef τ sig).ty.Contents (Elt F)) = Step.b155 j s := by
  unfold Step.b155
  rw [← al_154 h]
  try rfl
theorem al_156 : (constant S_ .f32 0x43800000#32 : (Proc.devRef .tc main_while0b_cst_27 : DevRef τ sig).ty.Contents (Elt F)) = Step.b156 j s := by
  unfold Step.b156
  rfl
theorem al_157 : (broadcastInDim S2x4x128x1 ![] bcast_S_S2x4x128x1 (constant S_ .f32 0x43800000#32) : (Proc.devRef .tc main_while0b_v142 : DevRef τ sig).ty.Contents (Elt F)) = Step.b157 j s := by
  unfold Step.b157
  rw [← al_156 h]
  try rfl
theorem al_158 : (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32)) : (Proc.devRef .tc main_while0b_v143 : DevRef τ sig).ty.Contents (Elt F)) = Step.b158 j s := by
  unfold Step.b158
  rw [← al_155 h, ← al_157 h]
  try rfl
theorem al_159 : (constant S_ .f32 0x358637BD#32 : (Proc.devRef .tc main_while0b_cst_28 : DevRef τ sig).ty.Contents (Elt F)) = Step.b159 j s := by
  unfold Step.b159
  rfl
theorem al_160 : (broadcastInDim S2x4x128x1 ![] bcast_S_S2x4x128x1 (constant S_ .f32 0x358637BD#32) : (Proc.devRef .tc main_while0b_v144 : DevRef τ sig).ty.Contents (Elt F)) = Step.b160 j s := by
  unfold Step.b160
  rw [← al_159 h]
  try rfl
theorem al_161 : (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32)) : (Proc.devRef .tc main_while0b_v145 : DevRef τ sig).ty.Contents (Elt F)) = Step.b161 j s := by
  unfold Step.b161
  rw [← al_158 h, ← al_160 h]
  try rfl
theorem al_162 : (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32))) : (Proc.devRef .tc main_while0b_v146 : DevRef τ sig).ty.Contents (Elt F)) = Step.b162 j s := by
  unfold Step.b162
  rw [← al_161 h]
  try rfl
theorem al_163 : (broadcastInDim S2x4x128x256 ![0, 1, 2, 3] bcast_S2x4x128x1_S2x4x128x256_0_1_2_3 (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32)))) : (Proc.devRef .tc main_while0b_v147 : DevRef τ sig).ty.Contents (Elt F)) = Step.b163 j s := by
  unfold Step.b163
  rw [← al_162 h]
  try rfl
theorem al_164 : (mulf (res_main_while0b_v137 V0) (broadcastInDim S2x4x128x256 ![0, 1, 2, 3] bcast_S2x4x128x1_S2x4x128x256_0_1_2_3 (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32))))) : (Proc.devRef .tc main_while0b_v148 : DevRef τ sig).ty.Contents (Elt F)) = Step.b164 j s := by
  unfold Step.b164
  rw [← al_150 h, ← al_163 h]
  try rfl
theorem al_165 : (broadcastInDim S1x4x1x256 ![1, 2, 3] bcast_S4x1x256_S1x4x1x256_1_2_3 (shapeCast S4x1x256 (V0 (Proc.devRef .tc main_v8_3)) shapeCasts_S1024_S4x1x256) : (Proc.devRef .tc main_while0b_v149 : DevRef τ sig).ty.Contents (Elt F)) = Step.b165 j s := by
  unfold Step.b165
  rw [← al_151 h]
  try rfl
theorem al_166 : (broadcastInDim S2x4x128x256 ![0, 1, 2, 3] bcast_S1x4x1x256_S2x4x128x256_0_1_2_3 (broadcastInDim S1x4x1x256 ![1, 2, 3] bcast_S4x1x256_S1x4x1x256_1_2_3 (shapeCast S4x1x256 (V0 (Proc.devRef .tc main_v8_3)) shapeCasts_S1024_S4x1x256)) : (Proc.devRef .tc main_while0b_v150 : DevRef τ sig).ty.Contents (Elt F)) = Step.b166 j s := by
  unfold Step.b166
  rw [← al_165 h]
  try rfl
theorem al_167 : (mulf (mulf (res_main_while0b_v137 V0) (broadcastInDim S2x4x128x256 ![0, 1, 2, 3] bcast_S2x4x128x1_S2x4x128x256_0_1_2_3 (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32)))))) (broadcastInDim S2x4x128x256 ![0, 1, 2, 3] bcast_S1x4x1x256_S2x4x128x256_0_1_2_3 (broadcastInDim S1x4x1x256 ![1, 2, 3] bcast_S4x1x256_S1x4x1x256_1_2_3 (shapeCast S4x1x256 (V0 (Proc.devRef .tc main_v8_3)) shapeCasts_S1024_S4x1x256))) : (Proc.devRef .tc main_while0b_v151 : DevRef τ sig).ty.Contents (Elt F)) = Step.b167 j s := by
  unfold Step.b167
  rw [← al_164 h, ← al_166 h]
  try rfl
theorem al_168 : (transpose S2x128x4x256 [0, 2, 1, 3] (mulf (mulf (res_main_while0b_v137 V0) (broadcastInDim S2x4x128x256 ![0, 1, 2, 3] bcast_S2x4x128x1_S2x4x128x256_0_1_2_3 (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32)))))) (broadcastInDim S2x4x128x256 ![0, 1, 2, 3] bcast_S1x4x1x256_S2x4x128x256_0_1_2_3 (broadcastInDim S1x4x1x256 ![1, 2, 3] bcast_S4x1x256_S1x4x1x256_1_2_3 (shapeCast S4x1x256 (V0 (Proc.devRef .tc main_v8_3)) shapeCasts_S1024_S4x1x256)))) transposes_S2x4x128x256_S2x128x4x256_0_2_1_3 : (Proc.devRef .tc main_while0b_v152 : DevRef τ sig).ty.Contents (Elt F)) = Step.b168 j s := by
  unfold Step.b168
  rw [← al_167 h]
  try rfl
theorem al_169 : (shapeCast S2x128x1024 (transpose S2x128x4x256 [0, 2, 1, 3] (mulf (mulf (res_main_while0b_v137 V0) (broadcastInDim S2x4x128x256 ![0, 1, 2, 3] bcast_S2x4x128x1_S2x4x128x256_0_1_2_3 (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32)))))) (broadcastInDim S2x4x128x256 ![0, 1, 2, 3] bcast_S1x4x1x256_S2x4x128x256_0_1_2_3 (broadcastInDim S1x4x1x256 ![1, 2, 3] bcast_S4x1x256_S1x4x1x256_1_2_3 (shapeCast S4x1x256 (V0 (Proc.devRef .tc main_v8_3)) shapeCasts_S1024_S4x1x256)))) transposes_S2x4x128x256_S2x128x4x256_0_2_1_3) shapeCasts_S2x128x4x256_S2x128x1024 : (Proc.devRef .tc main_while0b_v153 : DevRef τ sig).ty.Contents (Elt F)) = Step.b169 j s := by
  unfold Step.b169
  rw [← al_168 h]
  try rfl
theorem al_170 : (Host.negf (extractStridedSlice S2x128x1024 ![0, 0, 2048] (res_main_while0b_v12 V0) slices_S2x128x3200_S2x128x1024_0_0_2048) : (Proc.devRef .tc main_while0b_v154 : DevRef τ sig).ty.Contents (Elt F)) = Step.b170 j s := by
  unfold Step.b170
  rw [← al_17 h]
  try rfl
theorem al_171 : (Host.exp (Host.negf (extractStridedSlice S2x128x1024 ![0, 0, 2048] (res_main_while0b_v12 V0) slices_S2x128x3200_S2x128x1024_0_0_2048)) : (Proc.devRef .tc main_while0b_v155 : DevRef τ sig).ty.Contents (Elt F)) = Step.b171 j s := by
  unfold Step.b171
  rw [← al_170 h]
  try rfl
theorem al_172 : (constant S_ .f32 0x3F800000#32 : (Proc.devRef .tc main_while0b_cst_29 : DevRef τ sig).ty.Contents (Elt F)) = Step.b172 j s := by
  unfold Step.b172
  rfl
theorem al_173 : (broadcastInDim S2x128x1024 ![] bcast_S_S2x128x1024 (constant S_ .f32 0x3F800000#32) : (Proc.devRef .tc main_while0b_v156 : DevRef τ sig).ty.Contents (Elt F)) = Step.b173 j s := by
  unfold Step.b173
  rw [← al_172 h]
  try rfl
theorem al_174 : (addf (broadcastInDim S2x128x1024 ![] bcast_S_S2x128x1024 (constant S_ .f32 0x3F800000#32)) (Host.exp (Host.negf (extractStridedSlice S2x128x1024 ![0, 0, 2048] (res_main_while0b_v12 V0) slices_S2x128x3200_S2x128x1024_0_0_2048))) : (Proc.devRef .tc main_while0b_v157 : DevRef τ sig).ty.Contents (Elt F)) = Step.b174 j s := by
  unfold Step.b174
  rw [← al_173 h, ← al_171 h]
  try rfl
theorem al_175 : (constant S_ .f32 0x3F800000#32 : (Proc.devRef .tc main_while0b_cst_30 : DevRef τ sig).ty.Contents (Elt F)) = Step.b175 j s := by
  unfold Step.b175
  rfl
theorem al_176 : (broadcastInDim S2x128x1024 ![] bcast_S_S2x128x1024 (constant S_ .f32 0x3F800000#32) : (Proc.devRef .tc main_while0b_v158 : DevRef τ sig).ty.Contents (Elt F)) = Step.b176 j s := by
  unfold Step.b176
  rw [← al_175 h]
  try rfl
theorem al_177 : (Host.divf (broadcastInDim S2x128x1024 ![] bcast_S_S2x128x1024 (constant S_ .f32 0x3F800000#32)) (addf (broadcastInDim S2x128x1024 ![] bcast_S_S2x128x1024 (constant S_ .f32 0x3F800000#32)) (Host.exp (Host.negf (extractStridedSlice S2x128x1024 ![0, 0, 2048] (res_main_while0b_v12 V0) slices_S2x128x3200_S2x128x1024_0_0_2048)))) : (Proc.devRef .tc main_while0b_v159 : DevRef τ sig).ty.Contents (Elt F)) = Step.b177 j s := by
  unfold Step.b177
  rw [← al_176 h, ← al_174 h]
  try rfl
theorem al_178 : (mulf (Host.divf (broadcastInDim S2x128x1024 ![] bcast_S_S2x128x1024 (constant S_ .f32 0x3F800000#32)) (addf (broadcastInDim S2x128x1024 ![] bcast_S_S2x128x1024 (constant S_ .f32 0x3F800000#32)) (Host.exp (Host.negf (extractStridedSlice S2x128x1024 ![0, 0, 2048] (res_main_while0b_v12 V0) slices_S2x128x3200_S2x128x1024_0_0_2048))))) (shapeCast S2x128x1024 (transpose S2x128x4x256 [0, 2, 1, 3] (mulf (mulf (res_main_while0b_v137 V0) (broadcastInDim S2x4x128x256 ![0, 1, 2, 3] bcast_S2x4x128x1_S2x4x128x256_0_1_2_3 (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32)))))) (broadcastInDim S2x4x128x256 ![0, 1, 2, 3] bcast_S1x4x1x256_S2x4x128x256_0_1_2_3 (broadcastInDim S1x4x1x256 ![1, 2, 3] bcast_S4x1x256_S1x4x1x256_1_2_3 (shapeCast S4x1x256 (V0 (Proc.devRef .tc main_v8_3)) shapeCasts_S1024_S4x1x256)))) transposes_S2x4x128x256_S2x128x4x256_0_2_1_3) shapeCasts_S2x128x4x256_S2x128x1024) : (Proc.devRef .tc main_while0b_v160 : DevRef τ sig).ty.Contents (Elt F)) = Step.b178 j s := by
  unfold Step.b178
  rw [← al_177 h, ← al_169 h]
  try rfl
theorem al_179 : (broadcastInDim S1x2x128x1024 ![1, 2, 3] bcast_S2x128x1024_S1x2x128x1024_1_2_3 (mulf (Host.divf (broadcastInDim S2x128x1024 ![] bcast_S_S2x128x1024 (constant S_ .f32 0x3F800000#32)) (addf (broadcastInDim S2x128x1024 ![] bcast_S_S2x128x1024 (constant S_ .f32 0x3F800000#32)) (Host.exp (Host.negf (extractStridedSlice S2x128x1024 ![0, 0, 2048] (res_main_while0b_v12 V0) slices_S2x128x3200_S2x128x1024_0_0_2048))))) (shapeCast S2x128x1024 (transpose S2x128x4x256 [0, 2, 1, 3] (mulf (mulf (res_main_while0b_v137 V0) (broadcastInDim S2x4x128x256 ![0, 1, 2, 3] bcast_S2x4x128x1_S2x4x128x256_0_1_2_3 (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32)))))) (broadcastInDim S2x4x128x256 ![0, 1, 2, 3] bcast_S1x4x1x256_S2x4x128x256_0_1_2_3 (broadcastInDim S1x4x1x256 ![1, 2, 3] bcast_S4x1x256_S1x4x1x256_1_2_3 (shapeCast S4x1x256 (V0 (Proc.devRef .tc main_v8_3)) shapeCasts_S1024_S4x1x256)))) transposes_S2x4x128x256_S2x128x4x256_0_2_1_3) shapeCasts_S2x128x4x256_S2x128x1024)) : (Proc.devRef .tc main_while0b_call4_v0 : DevRef τ sig).ty.Contents (Elt F)) = Step.b179 j s := by
  unfold Step.b179
  rw [← al_178 h]
  try rfl
theorem al_180 : (constantI S_ 32 0#32 : (Proc.devRef .tc main_while0b_call4_c : DevRef τ sig).ty.Contents (Elt F)) = Step.b180 j s := by
  unfold Step.b180
  rfl
theorem al_181 : (constantI S_ 32 0#32 : (Proc.devRef .tc main_while0b_call4_c_0 : DevRef τ sig).ty.Contents (Elt F)) = Step.b181 j s := by
  unfold Step.b181
  rfl
theorem al_182 : (constantI S_ 32 0#32 : (Proc.devRef .tc main_while0b_call4_c_1 : DevRef τ sig).ty.Contents (Elt F)) = Step.b182 j s := by
  unfold Step.b182
  rfl
theorem al_183 : (Host.dynamicUpdateSlice (V0 (Proc.devRef .tc main_v8_8)) (broadcastInDim S1x2x128x1024 ![1, 2, 3] bcast_S2x128x1024_S1x2x128x1024_1_2_3 (mulf (Host.divf (broadcastInDim S2x128x1024 ![] bcast_S_S2x128x1024 (constant S_ .f32 0x3F800000#32)) (addf (broadcastInDim S2x128x1024 ![] bcast_S_S2x128x1024 (constant S_ .f32 0x3F800000#32)) (Host.exp (Host.negf (extractStridedSlice S2x128x1024 ![0, 0, 2048] (res_main_while0b_v12 V0) slices_S2x128x3200_S2x128x1024_0_0_2048))))) (shapeCast S2x128x1024 (transpose S2x128x4x256 [0, 2, 1, 3] (mulf (mulf (res_main_while0b_v137 V0) (broadcastInDim S2x4x128x256 ![0, 1, 2, 3] bcast_S2x4x128x1_S2x4x128x256_0_1_2_3 (Host.rsqrt (addf (Host.divf (broadcastInDim S2x4x128x1 ![0, 1, 2] bcast_S2x4x128_S2x4x128x1_0_1_2 (Host.reduceAdd (mulf (res_main_while0b_v137 V0) (res_main_while0b_v137 V0)) (constant S_ .f32 0x00000000#32) reducesTo_S2x4x128x256_S2x4x128_d3 h_S_)) (broadcastInDim S2x4x128x1 ![] bcast_S_S2x4x128x1 (constant S_ .f32 0x43800000#32))) (broadcastInDim S2x4x128x1 ![] bcast_S_S2x4x128x1 (constant S_ .f32 0x358637BD#32)))))) (broadcastInDim S2x4x128x256 ![0, 1, 2, 3] bcast_S1x4x1x256_S2x4x128x256_0_1_2_3 (broadcastInDim S1x4x1x256 ![1, 2, 3] bcast_S4x1x256_S1x4x1x256_1_2_3 (shapeCast S4x1x256 (V0 (Proc.devRef .tc main_v8_3)) shapeCasts_S1024_S4x1x256)))) transposes_S2x4x128x256_S2x128x4x256_0_2_1_3) shapeCasts_S2x128x4x256_S2x128x1024))) (fun k => (((![V0 (Proc.devRef .tc main_v8_4), constantI S_ 32 0#32, constantI S_ 32 0#32, constantI S_ 32 0#32] : Fin 4 → (⟨S_, .i32⟩ : BufTy).Contents (Elt F))) k (Shape.Idx.first h_S_)).toInt) updateFits_S64x2x128x1024_S1x2x128x1024 : (Proc.devRef .tc main_while0b_v161 : DevRef τ sig).ty.Contents (Elt F)) = Step.b183 j s := by
  unfold Step.b183
  rw [← al_179 h, ← al_180 h, ← al_181 h, ← al_182 h, h.f_8, h.n_4]
  try rfl
end

/-! One trip's step of the carried values is `step`, field by field; a counter steps to the next number. -/

theorem step_5 (h : Holds V0 s j) : step_main_v8_5 V0 = (step j s).main_v8_5 := by
  unfold step_main_v8_5 Step.step
  show id (addf (mulf (broadcastInDim S2x4x128x256 ![0, 1, 2, 3] bcast_S2x4x1x1_S2x4x128x256_0_1_2_3 (broadcastInDim S2x4x1x1 ![0, 1] bcast_S2x4_S2x4x1x1_0_1 (res_main_while0b_v88 V0))) (V0 (Proc.devRef .tc main_v8_5))) (mulf (broadcastInDim S2x4x128x256 ![0, 1, 2, 3] bcast_S2x4x1x1_S2x4x128x256_0_1_2_3 (broadcastInDim S2x4x1x1 ![0, 1] bcast_S2x4_S2x4x1x1_0_1 (res_main_while0b_v90 V0))) (Host.dotGeneral dot_S2x4x128x128_S2x4x128x256_S2x4x128x256_2_2_3_3_01_01 none (res_main_while0b_v81 V0) (res_main_while0b_v23 V0)))) = _
  rw [al_107 h]
  try rfl
theorem step_6 (h : Holds V0 s j) : step_main_v8_6 V0 = (step j s).main_v8_6 := by
  unfold step_main_v8_6 Step.step
  show id (addf (mulf (broadcastInDim S2x4x128 ![0, 1, 2] bcast_S2x4x1_S2x4x128_0_1_2 (broadcastInDim S2x4x1 ![0, 1] bcast_S2x4_S2x4x1_0_1 (res_main_while0b_v88 V0))) (V0 (Proc.devRef .tc main_v8_6))) (mulf (broadcastInDim S2x4x128 ![0, 1, 2] bcast_S2x4x1_S2x4x128_0_1_2 (broadcastInDim S2x4x1 ![0, 1] bcast_S2x4_S2x4x1_0_1 (res_main_while0b_v90 V0))) (Host.reduceAdd (res_main_while0b_v81 V0) (constant S_ .f32 0x00000000#32) reducesTo_S2x4x128x128_S2x4x128_d2 h_S_))) = _
  rw [al_114 h]
  try rfl
theorem step_7 (h : Holds V0 s j) : step_main_v8_7 V0 = (step j s).main_v8_7 := by
  unfold step_main_v8_7 Step.step
  show id (res_main_while0b_v85 V0) = _
  rw [al_95 h]
  try rfl
theorem step_8 (h : Holds V0 s j) : step_main_v8_8 V0 = (step j s).main_v8_8 := by
  unfold step_main_v8_8 Step.step
  exact al_183 h
theorem step_4 (h : Holds V0 s j) : step_main_v8_4 V0 = constantI S_ 32 (BitVec.ofNat 32 (j + 1)) := by
  unfold step_main_v8_4
  rw [h.n_4]
  funext i
  show BitVec.ofNat 32 j + 1#32 = BitVec.ofNat 32 (j + 1)
  simp only [BitVec.ofNat_add]

set_option maxRecDepth 8192 in
theorem out_main_v11_holds (h : Holds V0 s j) : out_main_v11 V0 = Step.R_main_v11 s := by
  unfold out_main_v11 Step.R_main_v11
  rw [h.f_8]
  try rfl

/-- One trip keeps the valuation holding: `step` of the state, the same set-up values, the next number. -/
theorem holds_step (h : Holds V0 s j) : Holds (STEP V0) (step j s) (j + 1) where
  f_5 := (STEP_main_v8_5 V0).trans (step_5 h)
  f_6 := (STEP_main_v8_6 V0).trans (step_6 h)
  f_7 := (STEP_main_v8_7 V0).trans (step_7 h)
  f_8 := (STEP_main_v8_8 V0).trans (step_8 h)
  n_4 := (STEP_main_v8_4 V0).trans (step_4 h)
  k_2 := (STEP_main_v8_2 V0).trans h.k_2
  f_0 := (STEP_main_v8_0 V0).trans h.f_0
  f_1 := (STEP_main_v8_1 V0).trans h.f_1
  f_3 := (STEP_main_v8_3 V0).trans h.f_3

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg0))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `MCoreRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v11) = Step.R_main_v11 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 64
    ⟨(h c).1.trans (out_main_v11_holds hk), (h c).2.1, (h c).2.2.1, (h c).2.2.2⟩) (Value.run m ρ)

end Cert.MCoreRefIdeal.Trips

end
-- ==== Proof.MCoreVal.lean ====
module

public import proofs.«01_k».proof.Proof.MCoreKer
public import proofs.«01_k».proof.Proof.MCoreRef
public import proofs.«01_k».proof.Proof.MCoreTrips
public import proofs.«01_k».proof.Proof.Gen.MCoreIdeal.Frame
public import proofs.«01_k».proof.Proof.Gen.MCore.Frame

/-! The reference's 64 trips leave the rows that the kernel leaves. -/

@[expose] public section

set_option maxRecDepth 16384

noncomputable section

namespace Cert.MCoreRef

open Idealize.ShloMosaic Idealize.ShloMosaic.TcCoe Idealize.SL.Sem
open Idealize.ShloMosaic.WordCmp
open Cert.MCoreRefIdeal Cert.MCoreRefIdeal.Gen Cert.MCoreRefIdeal.Step Cert.Rec

section iterate
variable (X : (⟨2, ![16384, 3200]⟩ : Shape).Idx → EReal) (B : (⟨1, ![8]⟩ : Shape).Idx → EReal) (N : (⟨1, ![1024]⟩ : Shape).Idx → EReal)

/-- The reference's states, trip after trip. -/
def iter : ℕ → State Ideal
  | 0 => init B N X
  | n + 1 => step n (iter n)

theorem iter_rows : ∀ n, (iter X B N n).main_v8_0 = A_main_v6 (F := Ideal) X
  | 0 => rfl
  | n + 1 => iter_rows n
theorem iter_bias : ∀ n, (iter X B N n).main_v8_1 = B
  | 0 => rfl
  | n + 1 => iter_bias n
theorem iter_gain : ∀ n, (iter X B N n).main_v8_3 = N
  | 0 => rfl
  | n + 1 => iter_gain n

theorem rows_at (n : Fin 64) (a : Fin 2) (t : Fin 128) (l : Fin 3200) : A_main_v6 (F := Ideal) X (ix4 n a t l) = X (ix2 (rowC a n.val t) l) := by
  have e : A_main_v6 (F := Ideal) X (ix4 n a t l) = A_main_v5 (F := Ideal) X (ix4 a n t l) := by
    pointwise [A_main_v6]
  rw [e]
  have ha := a.isLt
  have hn := n.isLt
  have ht := t.isLt
  unfold A_main_v5
  exact shapeCast_apply _ shapeCasts_S16384x3200_S2x64x128x3200 (ix4 a n t l) (ix2 (rowC a n.val t) l)
    (by rw [Shape.rowMajor_val_two, Shape.rowMajor_val_four]; show (8192 * a.val + 128 * n.val + t.val) % 16384 * 3200 + l.val = ((a.val * 64 + n.val) * 128 + t.val) * 3200 + l.val; omega)

theorem start_at (n : ℕ) (hn : n < 64) (y0 y1 y2 : (⟨S_, .i32⟩ : BufTy).Contents (Elt Ideal)) (e0 : y0 = constantI S_ 32 0#32) (e1 : y1 = constantI S_ 32 0#32)
    (e2 : y2 = constantI S_ 32 0#32) (k : Fin 4) :
    ((![(constantI S_ 32 (BitVec.ofNat 32 n) : (⟨S_, .i32⟩ : BufTy).Contents (Elt Ideal)), y0, y1, y2] : Fin 4 → (⟨S_, .i32⟩ : BufTy).Contents (Elt Ideal)) k
      (Shape.Idx.first h_S_)).toInt = ((![n, 0, 0, 0] : Fin 4 → ℕ) k : Int) := by
  subst e0 e1 e2
  match k with
  | ⟨0, _⟩ => show (BitVec.ofNat 32 n).toInt = (n : Int); exact toInt_ofNat_of_lt (by omega)
  | ⟨1, _⟩ => rfl
  | ⟨2, _⟩ => rfl
  | ⟨3, _⟩ => rfl

theorem slices_n (n : ℕ) (hn : n < 64) : S64x2x128x3200.Slices ![n, 0, 0, 0] S1x2x128x3200 :=
  ⟨rfl, fun a => by
    match a with
    | ⟨0, _⟩ => show n + 1 ≤ 64; omega
    | ⟨1, _⟩ => show 0 + 2 ≤ 2; omega
    | ⟨2, _⟩ => show 0 + 128 ≤ 128; omega
    | ⟨3, _⟩ => show 0 + 3200 ≤ 3200; omega⟩

theorem updates_n (n : ℕ) (hn : n < 64) : S64x2x128x1024.Slices ![n, 0, 0, 0] S1x2x128x1024 :=
  ⟨rfl, fun a => by
    match a with
    | ⟨0, _⟩ => show n + 1 ≤ 64; omega
    | ⟨1, _⟩ => show 0 + 2 ≤ 2; omega
    | ⟨2, _⟩ => show 0 + 128 ≤ 128; omega
    | ⟨3, _⟩ => show 0 + 1024 ≤ 1024; omega⟩

theorem chunk_at (n : ℕ) (hn : n < 64) (s : State Ideal) (a : Fin 2) (t : Fin 128) (l : Fin 3200) : b4 n s (ix3 a t l) = s.main_v8_0 (ix4 ⟨n, hn⟩ a t l) := by
  unfold b4
  refine (shapeCast_apply _ shapeCasts_S1x2x128x3200_S2x128x3200 (ix3 a t l) (ix4 0 a t l)
    (by rw [Shape.rowMajor_val_three, Shape.rowMajor_val_four]; show ((0 * 2 + a.val) * 128 + t.val) * 3200 + l.val = (a.val * 128 + t.val) * 3200 + l.val; omega)).trans ?_
  unfold b3
  rw [dynamicSlice_eq_extract _ _ _ _ ![n, 0, 0, 0] (slices_n n hn) (start_at n hn _ _ _ rfl rfl rfl)]
  unfold extractStridedSlice
  refine congrArg s.main_v8_0 (funext fun k => Fin.ext ?_)
  match k with
  | ⟨0, _⟩ => show n + 0 = n; omega
  | ⟨1, _⟩ => show 0 + a.val = a.val; omega
  | ⟨2, _⟩ => show 0 + t.val = t.val; omega
  | ⟨3, _⟩ => show 0 + l.val = l.val; omega

theorem written_at (n : ℕ) (hn : n < 64) (s : State Ideal) (i : Fin 64) (a : Fin 2) (t : Fin 128) (l : Fin 1024) :
    b183 n s (ix4 i a t l) = if i.val = n then b178 n s (ix3 a t l) else s.main_v8_8 (ix4 i a t l) := by
  unfold b183
  rw [dynamicUpdateSlice_eq_update _ _ _ _ ![n, 0, 0, 0] (updates_n n hn) (start_at n hn _ _ _ rfl rfl rfl)]
  unfold updateSlice
  by_cases h : i.val = n
  · have hin : ∀ k : Fin 4, (![n, 0, 0, 0] : Fin 4 → ℕ) k ≤ ((ix4 i a t l : S64x2x128x1024.Idx) k).val
        ∧ ((ix4 i a t l : S64x2x128x1024.Idx) k).val < (![n, 0, 0, 0] : Fin 4 → ℕ) k + S1x2x128x1024.size (k.cast rfl) := by
      intro k
      match k with
      | ⟨0, _⟩ => show n ≤ i.val ∧ i.val < n + 1; omega
      | ⟨1, _⟩ => show 0 ≤ a.val ∧ a.val < 0 + 2; omega
      | ⟨2, _⟩ => show 0 ≤ t.val ∧ t.val < 0 + 128; omega
      | ⟨3, _⟩ => show 0 ≤ l.val ∧ l.val < 0 + 1024; omega
    rw [if_pos h]
    refine (dif_pos hin).trans ?_
    have e : b179 n s (ix4 0 a t l) = b178 n s (ix3 a t l) := by pointwise [b179]
    refine Eq.trans (congrArg (b179 n s) (funext fun k => Fin.ext ?_)) e
    match k with
    | ⟨0, _⟩ => show i.val - n = 0; omega
    | ⟨1, _⟩ => show a.val - 0 = a.val; omega
    | ⟨2, _⟩ => show t.val - 0 = t.val; omega
    | ⟨3, _⟩ => show l.val - 0 = l.val; omega
  · rw [if_neg h]
    refine dif_neg fun hin => h ?_
    have h0 : n ≤ i.val ∧ i.val < n + 1 := hin (0 : Fin 4)
    omega

theorem at_iter : ∀ n, n < 64 → At X B N n (iter X B N n)
  | 0, hn => by
    refine ⟨fun a t l => ?_, iter_bias X B N 0, iter_gain X B N 0, fun a h d e => ?_, fun a h d => ?_, fun a h => ?_⟩
    · rw [chunk_at 0 hn, iter_rows, rows_at]
    · show K_main_v2 (F := Ideal) (ix4 a h d e) = 0
      pointwise [K_main_v2, K_main_cst]
    · show K_main_v3 (F := Ideal) (ix3 a h d) = 0
      pointwise [K_main_v3, K_main_cst_0]
    · show K_main_v4 (F := Ideal) (ix2 a h) = 0
      pointwise [K_main_v4, K_main_cst_1]
  | n + 1, hn => by
    have H := at_iter n (by omega)
    refine ⟨fun a t l => ?_, iter_bias X B N (n + 1), iter_gain X B N (n + 1), fun a h d e => c_at H a h d e, fun a h d => n_at H a h d, fun a h => m_at H a h⟩
    rw [chunk_at (n + 1) hn, iter_rows, rows_at]

/-- After `n` trips the rows of the first `n` chunks are written. -/
theorem stack_at : ∀ n, n ≤ 64 → ∀ (i : Fin 64) (a : Fin 2) (t : Fin 128) (l : Fin 1024) (h : Fin 4) (e : Fin 256), l.val = 256 * h.val + e.val → i.val < n →
    (iter X B N n).main_v8_8 (ix4 i a t l) = outO X B N a h i.val t e
  | 0, _, i, _, _, _, _, _, _, hi => absurd hi (Nat.not_lt_zero _)
  | n + 1, hn, i, a, t, l, h, e, hl, hi => by
    show b183 n (iter X B N n) (ix4 i a t l) = _
    rw [written_at n (by omega)]
    by_cases hin : i.val = n
    · rw [if_pos hin, row_at (at_iter X B N n (by omega)) a h t e l hl, hin]
    · rw [if_neg hin]
      exact stack_at n (by omega) i a t l h e hl (by omega)

theorem last_row (i : Fin 16384) (l : Fin 1024) :
    R_main_v11 (iter X B N 64) (ix2 i l) = Cert.MCoreVal.mcore X B N i l := by
  have hi := i.isLt
  have hl := l.isLt
  have e : R_main_v11 (iter X B N 64) (ix2 i l)
      = (iter X B N 64).main_v8_8 (ix4 (⟨i.val % 8192 / 128, by omega⟩ : Fin 64) (⟨i.val / 8192, by omega⟩ : Fin 2) (⟨i.val % 128, by omega⟩ : Fin 128) l) := by
    unfold R_main_v11
    show shapeCast _ (transpose S2x64x128x1024 [1, 0, 2, 3] (iter X B N 64).main_v8_8 transposes_S64x2x128x1024_S2x64x128x1024_1_0_2_3) shapeCasts_S2x64x128x1024_S16384x1024 (ix2 i l) = _
    refine (shapeCast_apply _ shapeCasts_S2x64x128x1024_S16384x1024 (ix2 i l)
      (ix4 (⟨i.val / 8192, by omega⟩ : Fin 2) (⟨i.val % 8192 / 128, by omega⟩ : Fin 64) (⟨i.val % 128, by omega⟩ : Fin 128) l)
      (by rw [Shape.rowMajor_val_two, Shape.rowMajor_val_four]; show ((i.val / 8192 * 64 + i.val % 8192 / 128) * 128 + i.val % 128) * 1024 + l.val = i.val * 1024 + l.val; omega)).trans ?_
    pointwise []
  rw [e]
  exact stack_at X B N 64 (le_refl _) _ _ _ l ⟨l.val / 256, by omega⟩ ⟨l.val % 256, by omega⟩ (by show l.val = 256 * (l.val / 256) + l.val % 256; omega) (by show i.val % 8192 / 128 < 64; omega)

end iterate

end Cert.MCoreRef

namespace Cert.MCoreVal

open Idealize.ShloMosaic Idealize.ShloMosaic.TcCoe Idealize.SL.Sem

theorem algebraic : Cert.algebraic_MCoreIdeal_MCoreRefIdeal := by
  intro m ρ m' ρ' _ hagree
  refine ⟨fun c => goal m c, ?_, ?_⟩
  · exact (θ_run Cert.MCoreIdeal.defs _ _).mono (fun _ h c => ⟨(h c).1.trans (result m c), (h c).2⟩) (Cert.MCoreIdeal.Value.run_blocks (F := Ideal) m ρ)
  · have hrun := Cert.MCoreRefIdeal.Trips.run_iter (F := Ideal) m' ρ'
      (fun c => Cert.MCoreRef.iter (m' ((c.tc : Thread Cert.MCoreRefIdeal.nD Cert.MCoreRefIdeal.τ).loc Cert.MCoreRefIdeal.main_arg0))
        (m' ((c.tc : Thread Cert.MCoreRefIdeal.nD Cert.MCoreRefIdeal.τ).loc Cert.MCoreRefIdeal.main_arg1))
        (m' ((c.tc : Thread Cert.MCoreRefIdeal.nD Cert.MCoreRefIdeal.τ).loc Cert.MCoreRefIdeal.main_arg2))) (fun c => rfl) (fun c n => rfl)
    refine (θ_run _ _ _).mono (fun _ h c => ⟨(h c).1.trans ?_, (h c).2⟩) hrun
    rw [(hagree c).1, (hagree c).2.1, (hagree c).2.2]
    funext i
    idx_vars i
    exact Cert.MCoreRef.last_row (aX m c) (aB m c) (aG m c) i0 i1

end Cert.MCoreVal

end
-- ==== Proof.SCoreMath.lean ====
/-
  The mathematics of one chunk of the SSD recurrence, column by column: the convolution over the rows before, the step sizes, the state and the output rows.
-/
module

public import proofs.«01_k».proof.Proof.MCoreMath

@[expose] public section

noncomputable section

open Idealize.ShloMosaic

namespace Cert.Ssd

open Cert.Rec (pre lastP)

/-- A value times its sigmoid. -/
def silu (y : EReal) : EReal := y * Ideal.logistic y

/-- The softplus of a value. -/
def splus (x : EReal) : EReal := max x 0 + Ideal.log1p (Ideal.exp (-(max x (-x))))

section column
variable (cum d : Fin 128 → EReal) (b c : Fin 128 → Fin 128 → EReal) (x s : Fin 128 → EReal)

/-- The decay from place `u` to place `t`. -/
def dec (t u : Fin 128) : EReal := Ideal.exp (if u.val ≤ t.val then cum t - cum u else ⊥)

/-- The row `t` of a column: the carried state's part and the chunk's own. -/
def yCol (t : Fin 128) : EReal :=
  Ideal.exp (cum t) * (∑ n : Fin 128, c t n * s n) + ∑ u : Fin 128, (∑ n : Fin 128, c t n * b u n) * dec cum t u * (x u * d u)

/-- The state the chunk leaves in a column. -/
def sCol (n : Fin 128) : EReal :=
  Ideal.exp (cum lastP) * s n + ∑ u : Fin 128, b u n * (x u * d u * Ideal.exp (cum lastP - cum u))

end column

/-- An entry of a row, divided by the root mean square of its group and scaled. -/
def normed (Y : Fin 256 → EReal) (g : EReal) (e : Fin 256) : EReal :=
  Y e * Ideal.rsqrt (Ideal.div (∑ x : Fin 256, Y x * Y x) (Ideal.ofBits .f32 0x43800000#32) + Ideal.ofBits .f32 0x358637BD#32) * g

/-- The head and the group of a column. -/
def hd (l : Fin 2048) : Fin 32 := ⟨l.val / 64, by omega⟩
def gp (l : Fin 2048) : Fin 8 := ⟨l.val / 256, by omega⟩

section layer
variable (X : (⟨2, ![16384, 6272]⟩ : Shape).Idx → EReal) (W : (⟨2, ![4, 4096]⟩ : Shape).Idx → EReal) (B : (⟨1, ![4096]⟩ : Shape).Idx → EReal)
  (T : (⟨1, ![32]⟩ : Shape).Idx → EReal) (L : (⟨1, ![32]⟩ : Shape).Idx → EReal) (D : (⟨1, ![32]⟩ : Shape).Idx → EReal) (N : (⟨1, ![2048]⟩ : Shape).Idx → EReal)
variable (a : Fin 2)

/-- The row of place `n` of sequence `a`. -/
def rowN (n : ℕ) : Fin 16384 := ⟨(8192 * a.val + n) % 16384, Nat.mod_lt _ (by omega)⟩

/-- The convolved columns, three rows of zeros before the first. -/
def raw (p : ℕ) (l : Fin 4096) : EReal := if p < 3 then 0 else X (ix2 (rowN a (p - 3)) ⟨2048 + l.val, by omega⟩)

/-- The convolution at place `n`, and its silu. -/
def conv (n : ℕ) (l : Fin 4096) : EReal :=
  B (ix1 l) + W (ix2 0 l) * raw X a n l + W (ix2 1 l) * raw X a (n + 1) l + W (ix2 2 l) * raw X a (n + 2) l + W (ix2 3 l) * raw X a (n + 3) l

def uO (j : ℕ) (t : Fin 128) (l : Fin 4096) : EReal := silu (conv X W B a (128 * j + t.val) l)

def xO (l : Fin 2048) (j : ℕ) (t : Fin 128) : EReal := uO X W B a j t ⟨l.val, by omega⟩
def bO (g : Fin 8) (j : ℕ) (t n : Fin 128) : EReal := uO X W B a j t ⟨2048 + 128 * g.val + n.val, by omega⟩
def cO (g : Fin 8) (j : ℕ) (t n : Fin 128) : EReal := uO X W B a j t ⟨3072 + 128 * g.val + n.val, by omega⟩

/-- The step sizes of a head, and the running sums of the logarithms of its decay. -/
def dtO (h : Fin 32) (j : ℕ) (t : Fin 128) : EReal := splus (X (ix2 (rowN a (128 * j + t.val)) ⟨6144 + h.val, by omega⟩) + T (ix1 h))
def cumO (h : Fin 32) (j : ℕ) (t : Fin 128) : EReal := pre (fun s => dtO X T a h j s * -Ideal.exp (L (ix1 h))) t

/-- The state of a column before chunk `j`. -/
def sSt (l : Fin 2048) : ℕ → Fin 128 → EReal
  | 0 => fun _ => 0
  | j + 1 => sCol (cumO X T L a (hd l) j) (dtO X T a (hd l) j) (bO X W B a (gp l) j) (xO X W B a l j) (sSt l j)

/-- Row `t` of chunk `j` in a column, before the norm and after it. -/
def yO (j : ℕ) (t : Fin 128) (l : Fin 2048) : EReal :=
  (yCol (cumO X T L a (hd l) j) (dtO X T a (hd l) j) (bO X W B a (gp l) j) (cO X W B a (gp l) j) (xO X W B a l j) (sSt X W B T L a l j) t
    + D (ix1 (hd l)) * xO X W B a l j t) * silu (X (ix2 (rowN a (128 * j + t.val)) ⟨l.val, by omega⟩))

def outO (j : ℕ) (t : Fin 128) (g : Fin 8) (e : Fin 256) : EReal :=
  normed (fun e' => yO X W B T L D a j t ⟨256 * g.val + e'.val, by omega⟩) (N (ix1 ⟨256 * g.val + e.val, by omega⟩)) e

end layer

end Cert.Ssd

end
-- ==== Proof.SCoreHead.lean ====
module

public import proofs.«01_k».proof.Proof.SCoreMath
public import proofs.«01_k».proof.Proof.AttnKer
public import proofs.«01_k».proof.Proof.Gen.SCoreIdeal.Skeleton
public import Idealize.ShloMosaic.Lib.Pointwise
public import Idealize.ShloMosaic.Lib.KernelVsHost

/-! One group of four heads of a chunk, the kernel's way: its vectors named alike for every group, and what stands at each of their entries. -/

@[expose] public section

set_option maxRecDepth 16384

noncomputable section

namespace Cert.SCoreVal

open Idealize.ShloMosaic Idealize.ShloMosaic.TcCoe Idealize.SL.Sem
open Cert.SCoreIdeal Cert.SCoreIdeal.Gen Cert.Ssd
open Cert.Rec (pre win win_one win_full win_step ext lastP)
open Cert.AttnVal (bits_bot sel_if le_words)

/-! ## The running sums -/

/-- A step with the rotated rows given. -/
def dblW (s : BitVec 32) (x r : FVec Ideal S128x128 .f32) : FVec Ideal S128x128 .f32 :=
  addf x (select (cmpi .sge (iota .tc S128x128 32 [0] iota_S128x128_d0_w32) (broadcast S128x128 s)) r (broadcast S128x128 (Scalar.ofBits .f32 0x00000000#32)))

/-- One doubling step. -/
def dbl (s : BitVec 32) (x : FVec Ideal S128x128 .f32) : FVec Ideal S128x128 .f32 := dblW s x (dynamicRotate 0 s none x rotates_S128x128_d0)

theorem rot_at (s : BitVec 32) (x : FVec Ideal S128x128 .f32) (t l : Fin 128) :
    dynamicRotate 0 s none x rotates_S128x128_d0 (ix2 t l) = x (ix2 ⟨(t.val + (128 - s.toNat % 128)) % 128, Nat.mod_lt _ (by omega)⟩ l) :=
  dynamicRotate_apply 0 s x rotates_S128x128_d0 (ix2 t l) (ix2 ⟨(t.val + (128 - s.toNat % 128)) % 128, Nat.mod_lt _ (by omega)⟩ l) (fun b => by
    match b with
    | ⟨0, _⟩ =>
      show (t.val + (128 - s.toNat % 128)) % 128 = (t.val + 128 - s.toNat % 128) % 128
      have : s.toNat % 128 < 128 := Nat.mod_lt _ (by omega)
      congr 1; omega
    | ⟨1, _⟩ => rfl)

theorem ge_words (t : Fin 128) (s : BitVec 32) (hs : s.toNat < 128) :
    IntOp.cmpi CmpIPredicate.sge (BitVec.ofNat 32 t.val) s = if s.toNat ≤ t.val then 1#1 else 0#1 := by
  have e := le_words s.toNat t.val (by omega) (by omega)
  rw [BitVec.ofNat_toNat, BitVec.setWidth_eq] at e
  exact e

theorem dbl_at (s : BitVec 32) (hs : s.toNat < 128) (x : FVec Ideal S128x128 .f32) (t l : Fin 128) :
    dbl s x (ix2 t l) = x (ix2 t l) + if s.toNat ≤ t.val then x (ix2 ⟨(t.val + (128 - s.toNat % 128)) % 128, Nat.mod_lt _ (by omega)⟩ l) else 0 := by
  rw [← rot_at s x t l]
  unfold dbl
  generalize dynamicRotate 0 s none x rotates_S128x128_d0 = r
  pointwise [dblW]
  rw [ge_words t s hs, sel_if]

theorem dbl_win (s : BitVec 32) (hs : s.toNat < 128) (x : FVec Ideal S128x128 .f32) (f : Fin 128 → EReal) (l : Fin 128)
    (h : ∀ t : Fin 128, x (ix2 t l) = win (ext f) s.toNat t.val) (t : Fin 128) : dbl s x (ix2 t l) = win (ext f) (s.toNat + s.toNat) t.val :=
  win_step f (fun t => x (ix2 t l)) (fun t => dbl s x (ix2 t l)) s.toNat h (fun r => dbl_at s hs x r l) hs t

section sums
variable (G : FVec Ideal S128x128 .f32) (y t' : FVec Ideal S1x128 .f32)

/-- The step sizes, the running sums and their transpose. -/
def dtV : FVec Ideal S128x128 .f32 := k0_pay7 (F := Ideal) G y
def cumV : FVec Ideal S128x128 .f32 := k0_pay10 (F := Ideal) (k0_pay8 (F := Ideal) G y t') (iota .tc S128x128 32 [0] iota_S128x128_d0_w32) k0_pay9 1#32
def cumT : FVec Ideal S128x128 .f32 := k0_pay11 (F := Ideal) (k0_pay8 (F := Ideal) G y t') (iota .tc S128x128 32 [0] iota_S128x128_d0_w32) k0_pay9 1#32

theorem dtV_at (t l : Fin 128) : dtV G y (ix2 t l) = splus (G (ix2 t l) + y (ix2 0 l)) := by
  pointwise [dtV, k0_pay7]
  rw [Ideal.absf_def, zero_sub]
  rfl

theorem da_at (t l : Fin 128) : k0_pay8 (F := Ideal) G y t' (ix2 t l) = splus (G (ix2 t l) + y (ix2 0 l)) * -Ideal.exp (t' (ix2 0 l)) := by
  rw [← dtV_at]
  unfold dtV
  pointwise [k0_pay8]
  rw [zero_sub]

theorem sum_steps : cumV G y t' = dbl 64#32 (dbl 32#32 (dbl 16#32 (dbl 8#32 (dbl 4#32 (dbl 2#32 (dbl 1#32 (k0_pay8 (F := Ideal) G y t'))))))) := rfl

theorem cumV_at (t l : Fin 128) : cumV G y t' (ix2 t l) = pre (fun s => splus (G (ix2 s l) + y (ix2 0 l)) * -Ideal.exp (t' (ix2 0 l))) t := by
  rw [sum_steps, ← win_full]
  refine dbl_win 64#32 (by decide) _ _ l (fun t => ?_) t
  refine dbl_win 32#32 (by decide) _ _ l (fun t => ?_) t
  refine dbl_win 16#32 (by decide) _ _ l (fun t => ?_) t
  refine dbl_win 8#32 (by decide) _ _ l (fun t => ?_) t
  refine dbl_win 4#32 (by decide) _ _ l (fun t => ?_) t
  refine dbl_win 2#32 (by decide) _ _ l (fun t => ?_) t
  refine dbl_win 1#32 (by decide) _ _ l (fun t => ?_) t
  rw [da_at]
  refine Eq.trans ?_ (win_one _ _).symm
  unfold ext
  rw [dif_pos t.isLt]

theorem cumT_at (l t : Fin 128) : cumT G y t' (ix2 l t) = cumV G y t' (ix2 t l) := by
  have e : cumT G y t' = transpose S128x128 [1, 0] (cumV G y t') transposes_S128x128_p1_0_S128x128 := rfl
  rw [e]
  generalize cumV G y t' = w
  pointwise []

end sums

/-! ## The convolution -/

theorem convX_at (b w0 w1 w2 w3 : FVec Ideal S1x256 .f32) (e0 e1 e2 e3 : FVec Ideal S128x256 .f32) (t : Fin 128) (e : Fin 256) :
    k0_pay17 (F := Ideal) b w0 e0 w1 e1 w2 e2 w3 e3 (ix2 t e) =
      silu (b (ix2 0 e) + w0 (ix2 0 e) * e0 (ix2 t e) + w1 (ix2 0 e) * e1 (ix2 t e) + w2 (ix2 0 e) * e2 (ix2 t e) + w3 (ix2 0 e) * e3 (ix2 t e)) := by
  pointwise [k0_pay17]
  rfl

theorem convB_at (b w0 w1 w2 w3 : FVec Ideal S1x128 .f32) (e0 e1 e2 e3 : FVec Ideal S128x128 .f32) (t e : Fin 128) :
    k0_pay19 (F := Ideal) (k0_pay18 (F := Ideal) b) w0 e0 w1 e1 w2 e2 w3 e3 (ix2 t e) =
      silu (b (ix2 0 e) + w0 (ix2 0 e) * e0 (ix2 t e) + w1 (ix2 0 e) * e1 (ix2 t e) + w2 (ix2 0 e) * e2 (ix2 t e) + w3 (ix2 0 e) * e3 (ix2 t e)) := by
  pointwise [k0_pay19, k0_pay18]
  rfl

/-! ## Four heads side by side in the lanes -/

theorem sl_c : ∀ k : Fin 32, S128x128.Slices ![0, k.val] S128x1 := by decide
theorem sl_r : ∀ k : Fin 32, S128x128.Slices ![k.val, 0] S1x128 := by decide
theorem sl_1 : ∀ k : Fin 32, S1x128.Slices ![0, k.val] S1x1 := by decide

/-- The heads of a group. -/
def hk (g : Fin 8) (p : Fin 4) : Fin 32 := ⟨4 * g.val + p.val, by omega⟩

def colV (k : Fin 32) (v : FVec Ideal S128x128 .f32) : FVec Ideal S128x1 .f32 := extractStridedSlice S128x1 ![0, k.val] v (sl_c k)
def onV (k : Fin 32) (v : FVec Ideal S128x128 .f32) : FVec Ideal S128x256 .f32 :=
  broadcastTo S128x256 (shapeCast S128x1 (colV k v) shapeCasts_S128x1_S128x1) broadcasts_S128x1_S128x256
def col1 (k : Fin 32) (v : FVec Ideal S1x128 .f32) : FVec Ideal S1x1 .f32 := extractStridedSlice S1x1 ![0, k.val] v (sl_1 k)
def on1 (k : Fin 32) (v : FVec Ideal S1x128 .f32) : FVec Ideal S1x256 .f32 :=
  broadcastTo S1x256 (shapeCast S1x1 (col1 k v) shapeCasts_S1x1_S1x1) broadcasts_S1x1_S1x256

/-- The lanes' heads' columns. -/
def expV (g : Fin 8) (v : FVec Ideal S128x128 .f32) : FVec Ideal S128x256 .f32 :=
  select (cmpi .slt (iota .tc S128x256 32 [1] iota_S128x256_d1_w32) (broadcast S128x256 64#32)) (onV (hk g 0) v)
    (select (cmpi .slt (iota .tc S128x256 32 [1] iota_S128x256_d1_w32) (broadcast S128x256 128#32)) (onV (hk g 1) v)
      (select (cmpi .slt (iota .tc S128x256 32 [1] iota_S128x256_d1_w32) (broadcast S128x256 192#32)) (onV (hk g 2) v) (onV (hk g 3) v)))
def exp1 (g : Fin 8) (v : FVec Ideal S1x128 .f32) : FVec Ideal S1x256 .f32 :=
  select (cmpi .slt (iota .tc S1x256 32 [1] iota_S1x256_d1_w32) (broadcast S1x256 64#32)) (on1 (hk g 0) v)
    (select (cmpi .slt (iota .tc S1x256 32 [1] iota_S1x256_d1_w32) (broadcast S1x256 128#32)) (on1 (hk g 1) v)
      (select (cmpi .slt (iota .tc S1x256 32 [1] iota_S1x256_d1_w32) (broadcast S1x256 192#32)) (on1 (hk g 2) v) (on1 (hk g 3) v)))

/-- The lane's column of the per-head arrays. -/
def lk (g : Fin 8) (e : Fin 256) : Fin 128 := ⟨4 * g.val + e.val / 64, by omega⟩

theorem onV_at (k : Fin 32) (v : FVec Ideal S128x128 .f32) (t : Fin 128) (e : Fin 256) : onV k v (ix2 t e) = v (ix2 t ⟨k.val, by omega⟩) := by
  pointwise [onV, colV]
theorem on1_at (k : Fin 32) (v : FVec Ideal S1x128 .f32) (e : Fin 256) : on1 k v (ix2 0 e) = v (ix2 0 ⟨k.val, by omega⟩) := by
  pointwise [on1, col1]

theorem lt_words : ∀ e : Fin 256, IntOp.cmpi CmpIPredicate.slt (BitVec.ofNat 32 e.val) 64#32 = (if e.val < 64 then 1#1 else 0#1)
    ∧ IntOp.cmpi CmpIPredicate.slt (BitVec.ofNat 32 e.val) 128#32 = (if e.val < 128 then 1#1 else 0#1)
    ∧ IntOp.cmpi CmpIPredicate.slt (BitVec.ofNat 32 e.val) 192#32 = (if e.val < 192 then 1#1 else 0#1) := by decide +kernel

theorem pick (g : Fin 8) (e : Fin 256) (f : Fin 128 → EReal) :
    (if e.val < 64 then f ⟨(hk g 0).val, by omega⟩ else if e.val < 128 then f ⟨(hk g 1).val, by omega⟩ else if e.val < 192 then f ⟨(hk g 2).val, by omega⟩
      else f ⟨(hk g 3).val, by omega⟩) = f (lk g e) := by
  have he := e.isLt
  unfold lk
  split_ifs with h0 h1 h2
  · exact congrArg f (Fin.ext (by show 4 * g.val + 0 = 4 * g.val + e.val / 64; omega))
  · exact congrArg f (Fin.ext (by show 4 * g.val + 1 = 4 * g.val + e.val / 64; omega))
  · exact congrArg f (Fin.ext (by show 4 * g.val + 2 = 4 * g.val + e.val / 64; omega))
  · exact congrArg f (Fin.ext (by show 4 * g.val + 3 = 4 * g.val + e.val / 64; omega))

theorem expV_at (g : Fin 8) (v : FVec Ideal S128x128 .f32) (t : Fin 128) (e : Fin 256) : expV g v (ix2 t e) = v (ix2 t (lk g e)) := by
  obtain ⟨h0, h1, h2⟩ := lt_words e
  pointwise [expV]
  rw [h0, h1, h2, sel_if, sel_if, sel_if, onV_at, onV_at, onV_at, onV_at]
  exact pick g e fun l => v (ix2 t l)
theorem exp1_at (g : Fin 8) (v : FVec Ideal S1x128 .f32) (e : Fin 256) : exp1 g v (ix2 0 e) = v (ix2 0 (lk g e)) := by
  obtain ⟨h0, h1, h2⟩ := lt_words e
  pointwise [exp1]
  rw [h0, h1, h2, sel_if, sel_if, sel_if, on1_at, on1_at, on1_at, on1_at]
  exact pick g e fun l => v (ix2 0 l)

/-! ## The rows and the state of a group -/

theorem mask_at (t s : Fin 128) : k0_pay16 (ix2 t s) = if s.val ≤ t.val then 1#1 else 0#1 := by
  pointwise [k0_pay16]
  exact le_words s.val t.val (by omega) (by omega)

/-- The decay inside the chunk, of one head. -/
def decV (k : Fin 32) (C CT : FVec Ideal S128x128 .f32) : FVec Ideal S128x128 .f32 :=
  exp (select k0_pay16 (subf (broadcastTo S128x128 (colV k C) broadcasts_S128x1_S128x128)
    (broadcastTo S128x128 (extractStridedSlice S1x128 ![k.val, 0] CT (sl_r k)) broadcasts_S1x128_S128x128)) (broadcast S128x128 (Scalar.ofBits .f32 0xFF800000#32)))

theorem decV_at (k : Fin 32) (C CT : FVec Ideal S128x128 .f32) (t s : Fin 128) :
    decV k C CT (ix2 t s) = Ideal.exp (if s.val ≤ t.val then C (ix2 t ⟨k.val, by omega⟩) - CT (ix2 ⟨k.val, by omega⟩ s) else ⊥) := by
  pointwise [decV, colV]
  rw [mask_at, bits_bot, sel_if]

/-- The lanes of one head of the group. -/
def laneV (p : Fin 4) : IVec S128x256 1 :=
  andi (cmpi .sge (iota .tc S128x256 32 [1] iota_S128x256_d1_w32) (broadcast S128x256 (BitVec.ofNat 32 (64 * p.val))))
    (cmpi .slt (iota .tc S128x256 32 [1] iota_S128x256_d1_w32) (broadcast S128x256 (BitVec.ofNat 32 (64 * p.val + 64))))

theorem lane_words : ∀ (p : Fin 4) (e : Fin 256), IntOp.andi (IntOp.cmpi CmpIPredicate.sge (BitVec.ofNat 32 e.val) (BitVec.ofNat 32 (64 * p.val)))
    (IntOp.cmpi CmpIPredicate.slt (BitVec.ofNat 32 e.val) (BitVec.ofNat 32 (64 * p.val + 64))) = if e.val / 64 = p.val then 1#1 else 0#1 := by decide +kernel

theorem laneV_at (p : Fin 4) (t : Fin 128) (e : Fin 256) : laneV p (ix2 t e) = if e.val / 64 = p.val then 1#1 else 0#1 := by
  pointwise [laneV]
  exact lane_words p e

/-- One head's own part of the group's rows. -/
def partV (g : Fin 8) (p : Fin 4) (C CT cb : FVec Ideal S128x128 .f32) (xd : FVec Ideal S128x256 .f32) : FVec Ideal S128x256 .f32 :=
  matmul dot_S128x128_S128x256_S128x256_1_0_0_1_n_n none (truncf .bf16 (mulf cb (decV (hk g p) C CT)) bitsLt_bf16_f32)
    (truncf .bf16 (select (laneV p) xd (broadcast S128x256 (Scalar.ofBits .f32 0x00000000#32))) bitsLt_bf16_f32) (constant S128x256 .f32 0x00000000#32)

theorem partV_at (g : Fin 8) (p : Fin 4) (C CT cb : FVec Ideal S128x128 .f32) (xd : FVec Ideal S128x256 .f32) (t : Fin 128) (e : Fin 256) :
    partV g p C CT cb xd (ix2 t e) = ∑ s : Fin 128, cb (ix2 t s) * decV (hk g p) C CT (ix2 t s) * (if e.val / 64 = p.val then xd (ix2 s e) else 0) := by
  pointwise [partV]
  simp only [laneV_at, sel_if, mul_ite, mul_zero]

section group
variable (g : Fin 8) (C CT : FVec Ideal S128x128 .f32) (Dt : FVec Ideal S128x128 .f32) (x : FVec Ideal S128x256 .f32) (b c : FVec Ideal S128x128 .bf16)
  (s : FVec Ideal S1x128x256 .f32) (ds ng : FVec Ideal S1x256 .f32) (z : FVec Ideal S128x256 .f32)

def xdV : FVec Ideal S128x256 .f32 := mulf x (expV g Dt)
def cbV : FVec Ideal S128x128 .f32 := matmul dot_S128x128_S128x128_S128x128_1_1_0_0_n_n none c b (constant S128x128 .f32 0x00000000#32)
def offV : FVec Ideal S128x256 .f32 :=
  mulf (expV g (k0_pay13 (F := Ideal) C)) (matmul dot_S128x128_S128x256_S128x256_1_0_0_1_n_n none c
    (truncf .bf16 (shapeCast S128x256 s shapeCasts_S1x128x256_S128x256) bitsLt_bf16_f32) (constant S128x256 .f32 0x00000000#32))
def rowsV : FVec Ideal S128x256 .f32 :=
  addf (addf (addf (addf (offV g C c s) (partV g 0 C CT (cbV b c) (xdV g Dt x))) (partV g 1 C CT (cbV b c) (xdV g Dt x))) (partV g 2 C CT (cbV b c) (xdV g Dt x)))
    (partV g 3 C CT (cbV b c) (xdV g Dt x))
def outV : FVec Ideal S128x256 .bf16 := k0_pay37 (F := Ideal) x (rowsV g C CT Dt x b c s) ds z ng
def stV : FVec Ideal S1x128x256 .f32 :=
  shapeCast S1x128x256 (addf (mulf (broadcastTo S128x256 (exp1 g (k0_pay15 (F := Ideal) C)) broadcasts_S1x256_S128x256) (shapeCast S128x256 s shapeCasts_S1x128x256_S128x256))
    (matmul dot_S128x128_S128x256_S128x256_1_0_0_1_n_n none (truncf .bf16 (transpose S128x128 [1, 0] (extf .f32 b bitsLt_bf16_f32) transposes_S128x128_p1_0_S128x128) bitsLt_bf16_f32)
      (truncf .bf16 (mulf (xdV g Dt x) (expV g (k0_pay14 (F := Ideal) C))) bitsLt_bf16_f32) (constant S128x256 .f32 0x00000000#32))) shapeCasts_S128x256_S1x128x256

theorem xdV_at (t : Fin 128) (e : Fin 256) : xdV g Dt x (ix2 t e) = x (ix2 t e) * Dt (ix2 t (lk g e)) := by
  rw [← expV_at g Dt t e]; pointwise [xdV]
theorem cbV_at (t u : Fin 128) : cbV b c (ix2 t u) = ∑ n : Fin 128, c (ix2 t n) * b (ix2 u n) := by
  pointwise [cbV]
theorem ecum_at (t l : Fin 128) : k0_pay13 (F := Ideal) C (ix2 t l) = Ideal.exp (C (ix2 t l)) := by
  pointwise [k0_pay13]
theorem wdec_at (t l : Fin 128) : k0_pay14 (F := Ideal) C (ix2 t l) = Ideal.exp (C (ix2 lastP l) - C (ix2 t l)) := by
  pointwise [k0_pay14, k0_pay12]
  rfl
theorem elast_at (l : Fin 128) : k0_pay15 (F := Ideal) C (ix2 0 l) = Ideal.exp (C (ix2 lastP l)) := by
  pointwise [k0_pay15, k0_pay12]
  rfl
theorem offV_at (t : Fin 128) (e : Fin 256) : offV g C c s (ix2 t e) = Ideal.exp (C (ix2 t (lk g e))) * ∑ n : Fin 128, c (ix2 t n) * s (ix3 0 n e) := by
  rw [← ecum_at, ← expV_at g (k0_pay13 (F := Ideal) C) t e]; pointwise [offV]

/-- The lane's column of the mathematics. -/
abbrev colF (V : FVec Ideal S128x128 .f32) (e : Fin 256) (t : Fin 128) : EReal := V (ix2 t (lk g e))

theorem rowsV_at (hT : ∀ l t : Fin 128, CT (ix2 l t) = C (ix2 t l)) (t : Fin 128) (e : Fin 256) : rowsV g C CT Dt x b c s (ix2 t e) =
    yCol (colF g C e) (colF g Dt e) (fun t n => b (ix2 t n)) (fun t n => c (ix2 t n)) (fun t => x (ix2 t e)) (fun n => s (ix3 0 n e)) t := by
  have he := e.isLt
  have zero : ∀ p : Fin 4, e.val / 64 ≠ p.val → partV g p C CT (cbV b c) (xdV g Dt x) (ix2 t e) = 0 := by
    intro p hp
    rw [partV_at]
    refine Finset.sum_eq_zero fun u _ => ?_
    rw [if_neg hp, mul_zero]
  have one : ∀ p : Fin 4, e.val / 64 = p.val → partV g p C CT (cbV b c) (xdV g Dt x) (ix2 t e) =
      ∑ u : Fin 128, (∑ n : Fin 128, c (ix2 t n) * b (ix2 u n)) * dec (colF g C e) t u * (x (ix2 u e) * Dt (ix2 u (lk g e))) := by
    intro p hp
    rw [partV_at]
    refine Finset.sum_congr rfl fun u _ => ?_
    have el : (⟨(hk g p).val, by omega⟩ : Fin 128) = lk g e := Fin.ext (by show 4 * g.val + p.val = 4 * g.val + e.val / 64; omega)
    rw [if_pos hp, cbV_at, decV_at, hT, el, xdV_at]
    rfl
  have add4 : rowsV g C CT Dt x b c s (ix2 t e) = offV g C c s (ix2 t e) + partV g 0 C CT (cbV b c) (xdV g Dt x) (ix2 t e) + partV g 1 C CT (cbV b c) (xdV g Dt x) (ix2 t e)
      + partV g 2 C CT (cbV b c) (xdV g Dt x) (ix2 t e) + partV g 3 C CT (cbV b c) (xdV g Dt x) (ix2 t e) := by
    pointwise [rowsV]
  rw [add4, offV_at]
  unfold yCol
  obtain h | h | h | h : e.val / 64 = 0 ∨ e.val / 64 = 1 ∨ e.val / 64 = 2 ∨ e.val / 64 = 3 := by omega
  · rw [one 0 h, zero 1 (by rw [h]; decide), zero 2 (by rw [h]; decide), zero 3 (by rw [h]; decide), add_zero, add_zero, add_zero]
  · rw [zero 0 (by rw [h]; decide), one 1 h, zero 2 (by rw [h]; decide), zero 3 (by rw [h]; decide), add_zero, add_zero, add_zero]
  · rw [zero 0 (by rw [h]; decide), zero 1 (by rw [h]; decide), one 2 h, zero 3 (by rw [h]; decide), add_zero, add_zero, add_zero]
  · rw [zero 0 (by rw [h]; decide), zero 1 (by rw [h]; decide), zero 2 (by rw [h]; decide), one 3 h, add_zero, add_zero, add_zero]

theorem outV_at (y : FVec Ideal S128x256 .f32) (t : Fin 128) (e : Fin 256) : k0_pay37 (F := Ideal) x y ds z ng (ix2 t e) =
    normed (fun e => (y (ix2 t e) + ds (ix2 0 e) * x (ix2 t e)) * silu (z (ix2 t e))) (ng (ix2 0 e)) e := by
  pointwise [k0_pay37]
  rfl

theorem stV_at (n : Fin 128) (e : Fin 256) : stV g C Dt x b s (ix3 0 n e) =
    sCol (colF g C e) (colF g Dt e) (fun t n => b (ix2 t n)) (fun t => x (ix2 t e)) (fun n => s (ix3 0 n e)) n := by
  pointwise [stV]
  simp only [exp1_at, elast_at, xdV_at, expV_at, wdec_at]
  rfl

end group

end Cert.SCoreVal

end
-- ==== Proof.SCoreStep.lean ====
module

public import proofs.«01_k».proof.Proof.SCoreHead

/-! The pieces one chunk stores, of its blocks and of what it found carried: each group's rows and state, in the mathematics of the recurrence. -/

@[expose] public section

set_option maxRecDepth 16384

noncomputable section

namespace Cert.SCoreVal

open Idealize.ShloMosaic Idealize.ShloMosaic.TcCoe Idealize.SL.Sem
open Cert.SCoreIdeal Cert.SCoreIdeal.Gen Cert.Ssd
open Cert.Rec (pre lastP)

/-- The rows the convolution reads: eight carried ones, then the chunk's. -/
def eE (P : S136x4096.Idx → EReal) (x1 x2 : Vec Ideal S128x2048 .f32) (i : S136x4096.Idx) : EReal :=
  if (i 0).val < 8 then P i
  else if h : (i 1).val < 2048 then x1 (ix2 ⟨((i 0).val - 8) % 128, Nat.mod_lt _ (by omega)⟩ ⟨(i 1).val, h⟩)
  else x2 (ix2 ⟨((i 0).val - 8) % 128, Nat.mod_lt _ (by omega)⟩ ⟨(i 1).val % 2048, Nat.mod_lt _ (by omega)⟩)

section pieces
variable (E : S136x4096.Idx → EReal) (x0 : Vec Ideal S128x2048 .f32) (x3 : Vec Ideal S128x128 .f32) (x4 : Vec Ideal S4x4096 .f32) (x5 : Vec Ideal S1x4096 .f32)
  (x6 x7 : Vec Ideal S1x128 .f32) (x8 x9 : Vec Ideal S1x2048 .f32) (xs : Vec Ideal S8x128x256 .f32)

/-- The convolved columns, the step sizes and their running sums, as functions. -/
def uK (l : Fin 4096) (t : Fin 128) : EReal :=
  silu (x5 (ix2 0 l) + x4 (ix2 0 l) * E (ix2 ⟨5 + t.val, by omega⟩ l) + x4 (ix2 1 l) * E (ix2 ⟨6 + t.val, by omega⟩ l)
    + x4 (ix2 2 l) * E (ix2 ⟨7 + t.val, by omega⟩ l) + x4 (ix2 3 l) * E (ix2 ⟨8 + t.val, by omega⟩ l))
def dK (h : Fin 128) (t : Fin 128) : EReal := splus (x3 (ix2 t h) + x6 (ix2 0 h))
def cK (h : Fin 128) (t : Fin 128) : EReal := pre (fun s => splus (x3 (ix2 s h) + x6 (ix2 0 h)) * -Ideal.exp (x7 (ix2 0 h))) t
def xK (g : Fin 8) (e : Fin 256) (t : Fin 128) : EReal := uK E x4 x5 ⟨256 * g.val + e.val, by omega⟩ t
def bK (g : Fin 8) (t n : Fin 128) : EReal := uK E x4 x5 ⟨2048 + 128 * g.val + n.val, by omega⟩ t
def ccK (g : Fin 8) (t n : Fin 128) : EReal := uK E x4 x5 ⟨3072 + 128 * g.val + n.val, by omega⟩ t

/-- A column's state, row before the norm, and the arrays the chunk leaves. -/
def sK (g : Fin 8) (n : Fin 128) (e : Fin 256) : EReal :=
  sCol (cK x3 x6 x7 (lk g e)) (dK x3 x6 (lk g e)) (bK E x4 x5 g) (xK E x4 x5 g e) (fun n => xs (ix3 g n e)) n
def yK (g : Fin 8) (t : Fin 128) (e : Fin 256) : EReal :=
  (yCol (cK x3 x6 x7 (lk g e)) (dK x3 x6 (lk g e)) (bK E x4 x5 g) (ccK E x4 x5 g) (xK E x4 x5 g e) (fun n => xs (ix3 g n e)) t
    + x8 (ix2 0 ⟨256 * g.val + e.val, by omega⟩) * xK E x4 x5 g e t) * silu (x0 (ix2 t ⟨256 * g.val + e.val, by omega⟩))
def rowsK (g : Fin 8) (t : Fin 128) (e : Fin 256) : EReal :=
  normed (fun e => yK E x0 x3 x4 x5 x6 x7 x8 xs g t e) (x9 (ix2 0 ⟨256 * g.val + e.val, by omega⟩)) e
def sSpec (i : S8x128x256.Idx) : EReal := sK E x3 x4 x5 x6 x7 xs (i 0) (i 1) (i 2)
def oSpec (i : S128x2048.Idx) : EReal :=
  rowsK E x0 x3 x4 x5 x6 x7 x8 x9 xs ⟨(i 1).val / 256, by have : (i 1).val < 2048 := (i 1).isLt; omega⟩ (i 0) ⟨(i 1).val % 256, Nat.mod_lt _ (by omega)⟩

theorem in_ex : ∀ (j : Fin 4) (g : Fin 8) (a : Fin 2), (![5 + j.val, 256 * g.val] : Fin 2 → ℕ) a + (![128, 256] : Fin 2 → ℕ) a ≤ S136x4096.size a := by decide
theorem in_eb : ∀ (j : Fin 4) (g : Fin 8) (a : Fin 2), (![5 + j.val, 2048 + 128 * g.val] : Fin 2 → ℕ) a + (![128, 128] : Fin 2 → ℕ) a ≤ S136x4096.size a := by decide
theorem in_ec : ∀ (j : Fin 4) (g : Fin 8) (a : Fin 2), (![5 + j.val, 3072 + 128 * g.val] : Fin 2 → ℕ) a + (![128, 128] : Fin 2 → ℕ) a ≤ S136x4096.size a := by decide
theorem in_wx : ∀ (j : Fin 4) (g : Fin 8) (a : Fin 2), (![j.val, 256 * g.val] : Fin 2 → ℕ) a + (![1, 256] : Fin 2 → ℕ) a ≤ S4x4096.size a := by decide
theorem in_wb : ∀ (j : Fin 4) (g : Fin 8) (a : Fin 2), (![j.val, 2048 + 128 * g.val] : Fin 2 → ℕ) a + (![1, 128] : Fin 2 → ℕ) a ≤ S4x4096.size a := by decide
theorem in_wc : ∀ (j : Fin 4) (g : Fin 8) (a : Fin 2), (![j.val, 3072 + 128 * g.val] : Fin 2 → ℕ) a + (![1, 128] : Fin 2 → ℕ) a ≤ S4x4096.size a := by decide
theorem in_bx : ∀ (g : Fin 8) (a : Fin 2), (![0, 256 * g.val] : Fin 2 → ℕ) a + (![1, 256] : Fin 2 → ℕ) a ≤ S1x4096.size a := by decide
theorem in_bb : ∀ (g : Fin 8) (a : Fin 2), (![0, 2048 + 128 * g.val] : Fin 2 → ℕ) a + (![1, 128] : Fin 2 → ℕ) a ≤ S1x4096.size a := by decide
theorem in_bc : ∀ (g : Fin 8) (a : Fin 2), (![0, 3072 + 128 * g.val] : Fin 2 → ℕ) a + (![1, 128] : Fin 2 → ℕ) a ≤ S1x4096.size a := by decide
theorem in_d : ∀ (g : Fin 8) (a : Fin 2), (![0, 256 * g.val] : Fin 2 → ℕ) a + (![1, 256] : Fin 2 → ℕ) a ≤ S1x2048.size a := by decide
theorem in_r : ∀ (g : Fin 8) (a : Fin 2), (![0, 256 * g.val] : Fin 2 → ℕ) a + (![128, 256] : Fin 2 → ℕ) a ≤ S128x2048.size a := by decide
theorem in_s : ∀ (g : Fin 8) (a : Fin 3), (![g.val, 0, 0] : Fin 3 → ℕ) a + (![1, 128, 256] : Fin 3 → ℕ) a ≤ S8x128x256.size a := by decide

def ldE (E : Vec Ideal S136x4096 .f32) (r : Rect S136x4096) : r.shape.Idx → EReal := View.ld E r

def xB (g : Fin 8) : FVec Ideal S128x256 .f32 := k0_pay17 (F := Ideal) (View.ld x5 (Rect.unit ![0, 256 * g.val] ![1, 256] (in_bx g)))
  (View.ld x4 (Rect.unit ![(0 : Fin 4).val, 256 * g.val] ![1, 256] (in_wx 0 g))) (ldE E (Rect.unit ![5 + (0 : Fin 4).val, 256 * g.val] ![128, 256] (in_ex 0 g)))
  (View.ld x4 (Rect.unit ![(1 : Fin 4).val, 256 * g.val] ![1, 256] (in_wx 1 g))) (ldE E (Rect.unit ![5 + (1 : Fin 4).val, 256 * g.val] ![128, 256] (in_ex 1 g)))
  (View.ld x4 (Rect.unit ![(2 : Fin 4).val, 256 * g.val] ![1, 256] (in_wx 2 g))) (ldE E (Rect.unit ![5 + (2 : Fin 4).val, 256 * g.val] ![128, 256] (in_ex 2 g)))
  (View.ld x4 (Rect.unit ![(3 : Fin 4).val, 256 * g.val] ![1, 256] (in_wx 3 g))) (ldE E (Rect.unit ![5 + (3 : Fin 4).val, 256 * g.val] ![128, 256] (in_ex 3 g)))
def bB (g : Fin 8) : FVec Ideal S128x128 .bf16 := k0_pay19 (F := Ideal) (k0_pay18 (F := Ideal) (View.ld x5 (Rect.unit ![0, 2048 + 128 * g.val] ![1, 128] (in_bb g))))
  (View.ld x4 (Rect.unit ![(0 : Fin 4).val, 2048 + 128 * g.val] ![1, 128] (in_wb 0 g))) (ldE E (Rect.unit ![5 + (0 : Fin 4).val, 2048 + 128 * g.val] ![128, 128] (in_eb 0 g)))
  (View.ld x4 (Rect.unit ![(1 : Fin 4).val, 2048 + 128 * g.val] ![1, 128] (in_wb 1 g))) (ldE E (Rect.unit ![5 + (1 : Fin 4).val, 2048 + 128 * g.val] ![128, 128] (in_eb 1 g)))
  (View.ld x4 (Rect.unit ![(2 : Fin 4).val, 2048 + 128 * g.val] ![1, 128] (in_wb 2 g))) (ldE E (Rect.unit ![5 + (2 : Fin 4).val, 2048 + 128 * g.val] ![128, 128] (in_eb 2 g)))
  (View.ld x4 (Rect.unit ![(3 : Fin 4).val, 2048 + 128 * g.val] ![1, 128] (in_wb 3 g))) (ldE E (Rect.unit ![5 + (3 : Fin 4).val, 2048 + 128 * g.val] ![128, 128] (in_eb 3 g)))
def ccB (g : Fin 8) : FVec Ideal S128x128 .bf16 := k0_pay19 (F := Ideal) (k0_pay18 (F := Ideal) (View.ld x5 (Rect.unit ![0, 3072 + 128 * g.val] ![1, 128] (in_bc g))))
  (View.ld x4 (Rect.unit ![(0 : Fin 4).val, 3072 + 128 * g.val] ![1, 128] (in_wc 0 g))) (ldE E (Rect.unit ![5 + (0 : Fin 4).val, 3072 + 128 * g.val] ![128, 128] (in_ec 0 g)))
  (View.ld x4 (Rect.unit ![(1 : Fin 4).val, 3072 + 128 * g.val] ![1, 128] (in_wc 1 g))) (ldE E (Rect.unit ![5 + (1 : Fin 4).val, 3072 + 128 * g.val] ![128, 128] (in_ec 1 g)))
  (View.ld x4 (Rect.unit ![(2 : Fin 4).val, 3072 + 128 * g.val] ![1, 128] (in_wc 2 g))) (ldE E (Rect.unit ![5 + (2 : Fin 4).val, 3072 + 128 * g.val] ![128, 128] (in_ec 2 g)))
  (View.ld x4 (Rect.unit ![(3 : Fin 4).val, 3072 + 128 * g.val] ![1, 128] (in_wc 3 g))) (ldE E (Rect.unit ![5 + (3 : Fin 4).val, 3072 + 128 * g.val] ![128, 128] (in_ec 3 g)))
def vB (x : Vec Ideal S1x2048 .f32) (g : Fin 8) : FVec Ideal S1x256 .f32 := View.ld x (Rect.unit ![0, 256 * g.val] ![1, 256] (in_d g))
def zB (g : Fin 8) : FVec Ideal S128x256 .f32 := View.ld x0 (Rect.unit ![0, 256 * g.val] ![128, 256] (in_r g))
def sB (g : Fin 8) : FVec Ideal S1x128x256 .f32 := View.ld xs (Rect.unit ![g.val, 0, 0] ![1, 128, 256] (in_s g))

/-- The entry of a block at a rectangle's place. -/
theorem ld_at {R C r k a b : ℕ} (x : Vec Ideal (⟨2, ![R, C]⟩ : Shape) .f32) (inb : ∀ z : Fin 2, (![a, b] : Fin 2 → ℕ) z + (![r, k] : Fin 2 → ℕ) z ≤ (⟨2, ![R, C]⟩ : Shape).size z)
    (i : Fin r) (j : Fin k) (i' : Fin R) (j' : Fin C) (hi : i'.val = a + i.val) (hj : j'.val = b + j.val) :
    View.ld x (Rect.unit (s := (⟨2, ![R, C]⟩ : Shape)) ![a, b] ![r, k] inb) (ix2 i j) = x (ix2 i' j') := by
  refine congrArg x (funext fun z => ?_)
  match z with
  | ⟨0, _⟩ => exact Fin.ext (show a + 1 * i.val = i'.val by omega)
  | ⟨1, _⟩ => exact Fin.ext (show b + 1 * j.val = j'.val by omega)

theorem xB_at (g : Fin 8) (t : Fin 128) (e : Fin 256) : xB E x4 x5 g (ix2 t e) = xK E x4 x5 g e t := by
  unfold xB xK uK ldE
  rw [convX_at]
  have hb := ld_at x5 (in_bx g) 0 e 0 (⟨256 * g.val + e.val, by omega⟩ : Fin 4096) rfl rfl
  have hw := fun j : Fin 4 => ld_at x4 (in_wx j g) 0 e j (⟨256 * g.val + e.val, by omega⟩ : Fin 4096) rfl rfl
  have he := fun (j : Fin 4) (r : Fin 136) (hr : r.val = 5 + j.val + t.val) => ld_at (E : Vec Ideal S136x4096 .f32) (in_ex j g) t e r (⟨256 * g.val + e.val, by omega⟩ : Fin 4096) hr rfl
  refine congrArg silu ?_
  refine congrArg₂ (· + ·) (congrArg₂ (· + ·) (congrArg₂ (· + ·) (congrArg₂ (· + ·) hb ?_) ?_) ?_) ?_
  · exact congrArg₂ (· * ·) (hw 0) (he 0 ⟨5 + t.val, by omega⟩ rfl)
  · exact congrArg₂ (· * ·) (hw 1) (he 1 ⟨6 + t.val, by omega⟩ rfl)
  · exact congrArg₂ (· * ·) (hw 2) (he 2 ⟨7 + t.val, by omega⟩ rfl)
  · exact congrArg₂ (· * ·) (hw 3) (he 3 ⟨8 + t.val, by omega⟩ rfl)
theorem bB_at (g : Fin 8) (t n : Fin 128) : bB E x4 x5 g (ix2 t n) = bK E x4 x5 g t n := by
  unfold bB bK uK ldE
  rw [convB_at]
  have hb := ld_at x5 (in_bb g) 0 n 0 (⟨2048 + 128 * g.val + n.val, by omega⟩ : Fin 4096) rfl rfl
  have hw := fun j : Fin 4 => ld_at x4 (in_wb j g) 0 n j (⟨2048 + 128 * g.val + n.val, by omega⟩ : Fin 4096) rfl rfl
  have he := fun (j : Fin 4) (r : Fin 136) (hr : r.val = 5 + j.val + t.val) => ld_at (E : Vec Ideal S136x4096 .f32) (in_eb j g) t n r (⟨2048 + 128 * g.val + n.val, by omega⟩ : Fin 4096) hr rfl
  refine congrArg silu ?_
  refine congrArg₂ (· + ·) (congrArg₂ (· + ·) (congrArg₂ (· + ·) (congrArg₂ (· + ·) hb ?_) ?_) ?_) ?_
  · exact congrArg₂ (· * ·) (hw 0) (he 0 ⟨5 + t.val, by omega⟩ rfl)
  · exact congrArg₂ (· * ·) (hw 1) (he 1 ⟨6 + t.val, by omega⟩ rfl)
  · exact congrArg₂ (· * ·) (hw 2) (he 2 ⟨7 + t.val, by omega⟩ rfl)
  · exact congrArg₂ (· * ·) (hw 3) (he 3 ⟨8 + t.val, by omega⟩ rfl)
theorem ccB_at (g : Fin 8) (t n : Fin 128) : ccB E x4 x5 g (ix2 t n) = ccK E x4 x5 g t n := by
  unfold ccB ccK uK ldE
  rw [convB_at]
  have hb := ld_at x5 (in_bc g) 0 n 0 (⟨3072 + 128 * g.val + n.val, by omega⟩ : Fin 4096) rfl rfl
  have hw := fun j : Fin 4 => ld_at x4 (in_wc j g) 0 n j (⟨3072 + 128 * g.val + n.val, by omega⟩ : Fin 4096) rfl rfl
  have he := fun (j : Fin 4) (r : Fin 136) (hr : r.val = 5 + j.val + t.val) => ld_at (E : Vec Ideal S136x4096 .f32) (in_ec j g) t n r (⟨3072 + 128 * g.val + n.val, by omega⟩ : Fin 4096) hr rfl
  refine congrArg silu ?_
  refine congrArg₂ (· + ·) (congrArg₂ (· + ·) (congrArg₂ (· + ·) (congrArg₂ (· + ·) hb ?_) ?_) ?_) ?_
  · exact congrArg₂ (· * ·) (hw 0) (he 0 ⟨5 + t.val, by omega⟩ rfl)
  · exact congrArg₂ (· * ·) (hw 1) (he 1 ⟨6 + t.val, by omega⟩ rfl)
  · exact congrArg₂ (· * ·) (hw 2) (he 2 ⟨7 + t.val, by omega⟩ rfl)
  · exact congrArg₂ (· * ·) (hw 3) (he 3 ⟨8 + t.val, by omega⟩ rfl)
theorem vB_at (x : Vec Ideal S1x2048 .f32) (g : Fin 8) (e : Fin 256) : vB x g (ix2 0 e) = x (ix2 0 ⟨256 * g.val + e.val, by omega⟩) :=
  ld_at x (in_d g) 0 e 0 (⟨256 * g.val + e.val, by omega⟩ : Fin 2048) rfl rfl
theorem zB_at (g : Fin 8) (t : Fin 128) (e : Fin 256) : zB x0 g (ix2 t e) = x0 (ix2 t ⟨256 * g.val + e.val, by omega⟩) :=
  ld_at x0 (in_r g) t e t (⟨256 * g.val + e.val, by omega⟩ : Fin 2048) (by omega) rfl
theorem embS (g : Fin 8) (n : Fin 128) (e : Fin 256) : (Rect.unit (s := S8x128x256) ![g.val, 0, 0] ![1, 128, 256] (in_s g)).emb (ix3 0 n e) = ix3 g n e := by
  funext a
  match a with
  | ⟨0, _⟩ => exact Fin.ext (show g.val + 1 * 0 = g.val by omega)
  | ⟨1, _⟩ => exact Fin.ext (show 0 + 1 * n.val = n.val by omega)
  | ⟨2, _⟩ => exact Fin.ext (show 0 + 1 * e.val = e.val by omega)
theorem embO (g : Fin 8) (t : Fin 128) (e : Fin 256) : (Rect.unit (s := S128x2048) ![0, 256 * g.val] ![128, 256] (in_r g)).emb (ix2 t e) =
    ix2 t (⟨256 * g.val + e.val, by omega⟩ : Fin 2048) := by
  funext a
  match a with
  | ⟨0, _⟩ => exact Fin.ext (show 0 + 1 * t.val = t.val by omega)
  | ⟨1, _⟩ => exact Fin.ext (show 256 * g.val + 1 * e.val = 256 * g.val + e.val by omega)
theorem sB_at (g : Fin 8) (n : Fin 128) (e : Fin 256) : sB xs g (ix3 0 n e) = xs (ix3 g n e) := congrArg xs (embS g n e)

/-- A group's stored arrays are the chunk's, at the places they are stored. -/
theorem pieceS (g : Fin 8) (x : S1x128x256.Idx) : stV g (cumV x3 x6 x7) (dtV x3 x6) (xB E x4 x5 g) (bB E x4 x5 g) (sB xs g) x =
    sSpec E x3 x4 x5 x6 x7 xs ((Rect.unit (s := S8x128x256) ![g.val, 0, 0] ![1, 128, 256] (in_s g)).emb x) := by
  obtain ⟨z, n, e, rfl⟩ : ∃ (z : Fin 1) (n : Fin 128) (e : Fin 256), x = ix3 z n e := ⟨x 0, x 1, x 2, funext fun a => by fin_cases a <;> rfl⟩
  obtain rfl : z = 0 := Subsingleton.elim _ _
  rw [stV_at, embS]
  unfold colF
  simp only [cumV_at, dtV_at, xB_at, bB_at, sB_at]
  rfl
theorem oSpec_at (g : Fin 8) (t : Fin 128) (e : Fin 256) : oSpec E x0 x3 x4 x5 x6 x7 x8 x9 xs (ix2 t (⟨256 * g.val + e.val, by omega⟩ : Fin 2048)) =
    rowsK E x0 x3 x4 x5 x6 x7 x8 x9 xs g t e := by
  have e1 : (⟨(256 * g.val + e.val) / 256, by omega⟩ : Fin 8) = g := Fin.ext (by show (256 * g.val + e.val) / 256 = g.val; omega)
  have e2 : (⟨(256 * g.val + e.val) % 256, Nat.mod_lt _ (by omega)⟩ : Fin 256) = e := Fin.ext (by show (256 * g.val + e.val) % 256 = e.val; omega)
  show rowsK E x0 x3 x4 x5 x6 x7 x8 x9 xs ⟨(256 * g.val + e.val) / 256, _⟩ t ⟨(256 * g.val + e.val) % 256, _⟩ = _
  rw [e1, e2]
theorem pieceO (g : Fin 8) (x : S128x256.Idx) : outV g (cumV x3 x6 x7) (cumT x3 x6 x7) (dtV x3 x6) (xB E x4 x5 g) (bB E x4 x5 g) (ccB E x4 x5 g) (sB xs g) (vB x8 g) (vB x9 g) (zB x0 g) x =
    oSpec E x0 x3 x4 x5 x6 x7 x8 x9 xs ((Rect.unit (s := S128x2048) ![0, 256 * g.val] ![128, 256] (in_r g)).emb x) := by
  obtain ⟨t, e, rfl⟩ : ∃ (t : Fin 128) (e : Fin 256), x = ix2 t e := ⟨x 0, x 1, funext fun a => by fin_cases a <;> rfl⟩
  unfold outV
  rw [outV_at, embO, oSpec_at]
  simp only [rowsV_at _ _ _ _ _ _ _ _ (cumT_at x3 x6 x7)]
  unfold colF
  simp only [cumV_at, dtV_at, xB_at, bB_at, ccB_at, sB_at, vB_at, zB_at]
  rfl

end pieces

end Cert.SCoreVal

end
-- ==== Proof.SCoreOpen.lean ====
module

public import proofs.«01_k».proof.Proof.SCoreStep
public import proofs.«01_k».proof.Proof.Gen.SCoreIdeal.Frame
public import Idealize.ShloMosaic.Lib.Pipeline.Value
public import Idealize.ShloMosaic.Lib.Pipeline.CanonAppend
public import Idealize.ShloMosaic.Lib.WritesUnit

/-! What the kernel's body leaves at a grid point: in its output block and in the arrays it carries, group by group. -/

@[expose] public section

set_option maxRecDepth 16384

noncomputable section

namespace Cert.SCoreVal

open Idealize.ShloMosaic Idealize.ShloMosaic.TcCoe Idealize.SL.Sem
open Cert.SCoreIdeal Cert.SCoreIdeal.Gen Cert.Ssd

theorem hz2 : (![0, 0] : Fin 2 → Nat) = fun _ => 0 := funext fun a => by fin_cases a <;> rfl
theorem hz3 : (![0, 0, 0] : Fin 3 → Nat) = fun _ => 0 := funext fun a => by fin_cases a <;> rfl

/-! ## The rows the convolution reads, as stored piece by piece -/

theorem pay5_eq (x : Vec Ideal S128x2048 .f32) : k0_pay5 (F := Ideal) x = x :=
  funext fun i => shapeCast_apply x shapeCasts_S128x2048_S128x2048 i i rfl
theorem pay6_eq (x : Vec Ideal S128x2048 .f32) : k0_pay6 (F := Ideal) x = x :=
  funext fun i => shapeCast_apply x shapeCasts_S128x2048_S128x2048 i i rfl
theorem pay2_eq (x : Vec Ideal S8x4096 .f32) : k0_pay2 (F := Ideal) x = x :=
  funext fun i => shapeCast_apply x shapeCasts_S8x4096_S8x4096 i i rfl

abbrev rX : Rect S136x4096 := Rect.unit ![8, 0] ![128, 2048] inb_S136x4096_S128x2048_8_0
abbrev rB : Rect S136x4096 := Rect.unit ![8, 2048] ![128, 2048] inb_S136x4096_S128x2048_8_2048
abbrev rT : Rect S136x4096 := Rect.unit ![0, 0] ![8, 4096] inb_S136x4096_S8x4096_0_0

section rows
variable (P : S136x4096.Idx → EReal) (x1 x2 : Vec Ideal S128x2048 .f32)

theorem low (r : Fin 136) (l : Fin 4096) (h : r.val < 8) : eE P x1 x2 (ix2 r l) = P (ix2 r l) := if_pos h
theorem xs_at (t : Fin 128) (e : Fin 2048) (r : Fin 136) (l : Fin 4096) (hr : r.val = 8 + t.val) (hl : l.val = e.val) : eE P x1 x2 (ix2 r l) = x1 (ix2 t e) := by
  have h0 : ¬ r.val < 8 := by omega
  have h1 : l.val < 2048 := by omega
  refine (if_neg h0).trans ((dif_pos h1).trans (congrArg₂ (fun a b => x1 (ix2 a b)) (Fin.ext ?_) (Fin.ext hl)))
  show (r.val - 8) % 128 = t.val
  omega
theorem bs_at (t : Fin 128) (e : Fin 2048) (r : Fin 136) (l : Fin 4096) (hr : r.val = 8 + t.val) (hl : l.val = 2048 + e.val) : eE P x1 x2 (ix2 r l) = x2 (ix2 t e) := by
  have h0 : ¬ r.val < 8 := by omega
  have h1 : ¬ l.val < 2048 := by omega
  refine (if_neg h0).trans ((dif_neg h1).trans (congrArg₂ (fun a b => x2 (ix2 a b)) (Fin.ext ?_) (Fin.ext ?_)))
  · show (r.val - 8) % 128 = t.val
    omega
  · show l.val % 2048 = e.val
    omega

theorem embX (t : Fin 128) (e : Fin 2048) : rX.emb (ix2 t e) = ix2 (⟨8 + t.val, by omega⟩ : Fin 136) (⟨e.val, by omega⟩ : Fin 4096) := by
  funext a
  match a with
  | ⟨0, _⟩ => exact Fin.ext (show 8 + 1 * t.val = 8 + t.val by omega)
  | ⟨1, _⟩ => exact Fin.ext (show 0 + 1 * e.val = e.val by omega)
theorem embB (t : Fin 128) (e : Fin 2048) : rB.emb (ix2 t e) = ix2 (⟨8 + t.val, by omega⟩ : Fin 136) (⟨2048 + e.val, by omega⟩ : Fin 4096) := by
  funext a
  match a with
  | ⟨0, _⟩ => exact Fin.ext (show 8 + 1 * t.val = 8 + t.val by omega)
  | ⟨1, _⟩ => exact Fin.ext (show 2048 + 1 * e.val = 2048 + e.val by omega)
theorem embT (t : Fin 8) (e : Fin 4096) : rT.emb (ix2 t e) = ix2 (⟨t.val, by omega⟩ : Fin 136) e := by
  funext a
  match a with
  | ⟨0, _⟩ => exact Fin.ext (show 0 + 1 * t.val = t.val by omega)
  | ⟨1, _⟩ => exact Fin.ext (show 0 + 1 * e.val = e.val by omega)

theorem pX (x : S128x2048.Idx) : k0_pay5 (F := Ideal) x1 x = eE P x1 x2 (rX.emb x) := by
  obtain ⟨t, e, rfl⟩ : ∃ (t : Fin 128) (e : Fin 2048), x = ix2 t e := ⟨x 0, x 1, funext fun a => by fin_cases a <;> rfl⟩
  rw [pay5_eq, embX]
  exact (xs_at P x1 x2 t e _ _ rfl rfl).symm
theorem pB (x : S128x2048.Idx) : k0_pay6 (F := Ideal) x2 x = eE P x1 x2 (rB.emb x) := by
  obtain ⟨t, e, rfl⟩ : ∃ (t : Fin 128) (e : Fin 2048), x = ix2 t e := ⟨x 0, x 1, funext fun a => by fin_cases a <;> rfl⟩
  rw [pay6_eq, embB]
  exact (bs_at P x1 x2 t e _ _ rfl rfl).symm

theorem memX (y : S136x4096.Idx) (h0 : 8 ≤ (y 0).val) (h1 : (y 1).val < 2048) : y ∈ rX.set := by
  rw [Rect.mem_set_unit]
  have := (y 0).isLt
  intro a
  match a with
  | ⟨0, _⟩ => exact ⟨h0, (y 0).isLt⟩
  | ⟨1, _⟩ => exact ⟨Nat.zero_le _, by show (y 1).val < 0 + 2048; omega⟩
theorem memB (y : S136x4096.Idx) (h0 : 8 ≤ (y 0).val) (h1 : ¬ (y 1).val < 2048) : y ∈ rB.set := by
  rw [Rect.mem_set_unit]
  intro a
  match a with
  | ⟨0, _⟩ => exact ⟨h0, (y 0).isLt⟩
  | ⟨1, _⟩ => exact ⟨by show 2048 ≤ (y 1).val; omega, (y 1).isLt⟩
theorem memT (y : S136x4096.Idx) (h0 : (y 0).val < 8) : y ∈ rT.set := by
  rw [Rect.mem_set_unit]
  intro a
  match a with
  | ⟨0, _⟩ => exact ⟨Nat.zero_le _, by show (y 0).val < 0 + 8; omega⟩
  | ⟨1, _⟩ => exact ⟨Nat.zero_le _, by have h := (y 1).isLt; show (y 1).val < 0 + 4096; exact lt_of_lt_of_eq h rfl⟩

/-- The two stored pieces, and a first one over them. -/
abbrev two : List (View.Piece (Elt Ideal) S136x4096 .f32) := [⟨rB, k0_pay6 (F := Ideal) x2⟩, ⟨rX, k0_pay5 (F := Ideal) x1⟩]

theorem two_pieces : ∀ p ∈ two x1 x2, ∀ x : p.1.shape.Idx, p.2 x = eE P x1 x2 (p.1.emb x) := by
  simp only [List.forall_mem_cons]
  exact ⟨pB P x1 x2, pX P x1 x2, fun p hp => absurd hp List.not_mem_nil⟩
theorem two_cover (y : S136x4096.Idx) (h0 : 8 ≤ (y 0).val) : ∃ p ∈ two x1 x2, y ∈ p.1.set := by
  by_cases h1 : (y 1).val < 2048
  · exact ⟨_, .tail _ (.head _), memX y h0 h1⟩
  · exact ⟨_, .head _, memB y h0 h1⟩

/-- Loads of the chunk's own rows. -/
theorem cov1 (v : View sig .tc .vmem S136x4096 .f32) (a b n k : ℕ) (ha : 8 ≤ a) (inb : ∀ z : Fin 2, (![a, b] : Fin 2 → ℕ) z + (![n, k] : Fin 2 → ℕ) z ≤ S136x4096.size z) :
    v.readCov (two x1 x2) (Rect.unit (s := S136x4096) ![a, b] ![n, k] inb).toLoadRect = View.ld (eE P x1 x2) (Rect.unit (s := S136x4096) ![a, b] ![n, k] inb) := by
  have hc : ∀ j : (Rect.unit (s := S136x4096) ![a, b] ![n, k] inb).toLoadRect.shape.Idx, ∃ p ∈ two x1 x2, (Rect.unit (s := S136x4096) ![a, b] ![n, k] inb).toLoadRect.idx j ∈ p.1.set := by
    intro j
    refine two_cover x1 x2 _ ?_
    show 8 ≤ a + 1 * (j 0).val
    omega
  rw [View.readCov_eq_canon v _ _ hc]
  funext j
  exact View.canon_apply_of_pieces _ _ (two_pieces P x1 x2) _ (hc j)

/-- Loads that reach into the carried rows. -/
theorem readB (a13 : Memref sig .tc .vmem S136x4096 .f32) (h13 : a13.IsWhole) (xs0 : Vec Ideal S136x4096 .f32) :
    View.read (Elt Ideal) a13.view (a13.view.writes (Elt Ideal) (h13.unread xs0) (two x1 x2)) = eE xs0 x1 x2 := by
  funext y
  by_cases h0 : (y 0).val < 8
  · rw [View.read_writes_cons_unit_of_not_mem a13.view (h13.unread xs0) inb_S136x4096_S128x2048_8_2048 _ _ y rfl 0 (Or.inl h0),
      View.read_writes_cons_unit_of_not_mem a13.view (h13.unread xs0) inb_S136x4096_S128x2048_8_0 _ _ y rfl 0 (Or.inl h0)]
    refine Eq.trans ?_ (if_pos h0).symm
    exact congrFun (h13.read_unread xs0) y
  · have hc := two_cover x1 x2 y (by omega)
    rw [View.read_writes_apply_eq_canon _ _ _ _ hc]
    exact View.canon_apply_of_pieces _ _ (two_pieces xs0 x1 x2) _ hc

/-- Before the first chunk the carried rows are zero. -/
abbrev zE : S136x4096.Idx → EReal := fun _ => 0

theorem pZ (x : S8x4096.Idx) : k0_pay3 (F := Ideal) x = eE zE x1 x2 (rT.emb x) := by
  obtain ⟨t, e, rfl⟩ : ∃ (t : Fin 8) (e : Fin 4096), x = ix2 t e := ⟨x 0, x 1, funext fun a => by fin_cases a <;> rfl⟩
  rw [embT, low _ _ _ _ _ (by show t.val < 8; exact t.isLt)]
  pointwise [k0_pay3]

/-- The two stored pieces over the zeros. -/
abbrev three : List (View.Piece (Elt Ideal) S136x4096 .f32) := [⟨rB, k0_pay6 (F := Ideal) x2⟩, ⟨rX, k0_pay5 (F := Ideal) x1⟩, ⟨rT, k0_pay3 (F := Ideal)⟩]

theorem three_pieces : ∀ p ∈ three x1 x2, ∀ x : p.1.shape.Idx, p.2 x = eE zE x1 x2 (p.1.emb x) := by
  simp only [List.forall_mem_cons]
  exact ⟨pB zE x1 x2, pX zE x1 x2, pZ x1 x2, fun p hp => absurd hp List.not_mem_nil⟩
theorem three_cover (y : S136x4096.Idx) : ∃ p ∈ three x1 x2, y ∈ p.1.set := by
  by_cases h0 : (y 0).val < 8
  · exact ⟨_, .tail _ (.tail _ (.head _)), memT y h0⟩
  · obtain ⟨p, hp, hy⟩ := two_cover x1 x2 y (by omega)
    refine ⟨p, ?_, hy⟩
    rcases List.mem_cons.mp hp with rfl | hp
    · exact .head _
    · rcases List.mem_cons.mp hp with rfl | hp
      · exact .tail _ (.head _)
      · exact absurd hp List.not_mem_nil
theorem covA (v : View sig .tc .vmem S136x4096 .f32) (r : Rect S136x4096) : v.readCov (three x1 x2) r.toLoadRect = View.ld (eE zE x1 x2) r := by
  rw [View.readCov_eq_canon_ld v _ _ (three_cover x1 x2)]
  refine congrArg (fun G : S136x4096.Idx → Elt Ideal .f32 => View.ld G r) (funext fun y => ?_)
  exact View.canon_apply_of_pieces _ _ (three_pieces x1 x2) y (three_cover x1 x2 y)

/-- The carried rows a chunk leaves: its last eight. -/
def tl (E : S136x4096.Idx → EReal) (i : S136x4096.Idx) : EReal := E (ix2 ⟨128 + (i 0).val % 8, by omega⟩ (i 1))

theorem pT (E : S136x4096.Idx → EReal) (inb : ∀ z : Fin 2, (![128, 0] : Fin 2 → ℕ) z + (![8, 4096] : Fin 2 → ℕ) z ≤ S136x4096.size z) (x : S8x4096.Idx) :
    k0_pay2 (F := Ideal) (View.ld (E : Vec Ideal S136x4096 .f32) (Rect.unit (s := S136x4096) ![128, 0] ![8, 4096] inb)) x = eE (tl E) x1 x2 (rT.emb x) := by
  obtain ⟨t, e, rfl⟩ : ∃ (t : Fin 8) (e : Fin 4096), x = ix2 t e := ⟨x 0, x 1, funext fun a => by fin_cases a <;> rfl⟩
  have ht := t.isLt
  rw [embT, low _ _ _ _ _ (by show t.val < 8; exact t.isLt), pay2_eq]
  exact ld_at (E : Vec Ideal S136x4096 .f32) inb t e (⟨128 + t.val % 8, by omega⟩ : Fin 136) e (by show 128 + t.val % 8 = 128 + t.val; omega) (by omega)

end rows

/-- A read of one group's block passes over what was stored for another group. -/
theorem passS (v : View sig .tc .vmem S8x128x256 .f32) (a b : ℕ) (hab : a ≠ b) (inb : ∀ x : Fin 3, (![a, 0, 0] : Fin 3 → ℕ) x + (![1, 128, 256] : Fin 3 → ℕ) x ≤ S8x128x256.size x)
    (inb' : ∀ x : Fin 3, (![b, 0, 0] : Fin 3 → ℕ) x + (![1, 128, 256] : Fin 3 → ℕ) x ≤ S8x128x256.size x)
    (w : (Rect.unit (s := S8x128x256) ![a, 0, 0] ![1, 128, 256] inb).shape.Idx → Elt Ideal .f32) (L : List (View.Piece (Elt Ideal) S8x128x256 .f32)) :
    v.readCov (⟨Rect.unit ![a, 0, 0] ![1, 128, 256] inb, w⟩ :: L) (Rect.unit ![b, 0, 0] ![1, 128, 256] inb').toLoadRect =
      v.readCov L (Rect.unit ![b, 0, 0] ![1, 128, 256] inb').toLoadRect :=
  View.readCov_cons_of_disjoint v _ L _ (Rect.unit_disjoint (inb := inb) (inb' := inb') 0 (by show a + 1 ≤ b ∨ b + 1 ≤ a; omega))

/-- A read of what one store of the whole array left. -/
theorem readWhole {S : Shape} (v : View sig .tc .vmem S .f32) {off : Fin S.rank → Nat} (h : off = fun _ => 0) (inb : ∀ a, off a + S.size a ≤ S.size a)
    (w : S.Idx → Elt Ideal .f32) (r : Rect S) : v.readCov [(⟨Rect.unit off S.size inb, w⟩ : View.Piece (Elt Ideal) S .f32)] r.toLoadRect = View.ld w r := by
  rw [View.readCov_eq_canon_ld, View.canon_unit_zero h inb w]
  subst h
  exact fun y => ⟨_, List.mem_singleton_self _, by show y ∈ (Rect.whole S).set; rw [Rect.set_whole]; exact Finset.mem_univ y⟩

/-- The state the first chunk starts from. -/
abbrev z1 : Vec Ideal S8x128x256 .f32 := k0_pay4 (F := Ideal)

section
variable (c : Dev nD) (i : grid0.Coords) (a2 : Memref sig .tc .vmem S128x2048 .f32) (h2 : a2.IsWhole) (a3 : Memref sig .tc .vmem S128x2048 .f32) (h3 : a3.IsWhole)
  (a4 : Memref sig .tc .vmem S128x2048 .f32) (h4 : a4.IsWhole) (a5 : Memref sig .tc .vmem S128x128 .f32) (h5 : a5.IsWhole) (a6 : Memref sig .tc .vmem S4x4096 .f32) (h6 : a6.IsWhole)
  (a7 : Memref sig .tc .vmem S1x4096 .f32) (h7 : a7.IsWhole) (a8 : Memref sig .tc .vmem S1x128 .f32) (h8 : a8.IsWhole) (a9 : Memref sig .tc .vmem S1x128 .f32) (h9 : a9.IsWhole)
  (a10 : Memref sig .tc .vmem S1x2048 .f32) (h10 : a10.IsWhole) (a11 : Memref sig .tc .vmem S1x2048 .f32) (h11 : a11.IsWhole) (a12 : Memref sig .tc .vmem S128x2048 .bf16) (h12 : a12.IsWhole)
  (a13 : Memref sig .tc .vmem S136x4096 .f32) (h13 : a13.IsWhole) (a14 : Memref sig .tc .vmem S8x128x256 .f32) (h14 : a14.IsWhole)
  (x0 x1 x2 : Vec Ideal S128x2048 .f32) (x3 : Vec Ideal S128x128 .f32) (x4 : Vec Ideal S4x4096 .f32) (x5 : Vec Ideal S1x4096 .f32) (x6 x7 : Vec Ideal S1x128 .f32)
  (x8 x9 : Vec Ideal S1x2048 .f32) (xs0 : Vec Ideal S136x4096 .f32) (xs1 : Vec Ideal S8x128x256 .f32)

theorem memS (k : Fin 8) (d : Fin 128) (e : Fin 256) : (ix3 k d e : S8x128x256.Idx) ∈ (Rect.unit (s := S8x128x256) ![k.val, 0, 0] ![1, 128, 256] (in_s k)).set := by
  rw [← embS]
  exact LoadRect.idx_mem _ _

set_option maxHeartbeats 4000000 in
theorem o_B (hc0 : ¬cond0_0 i) :
    out0_B_10 (F := Ideal) c i a2 h2 a3 h3 a4 h4 a5 h5 a6 h6 a7 h7 a8 h8 a9 h9 a10 h10 a11 h11 a12 h12 a13 h13 a14 h14 hc0 x0 x1 x2 x3 x4 x5 x6 x7 x8 x9 xs0 xs1 = oSpec (eE xs0 x1 x2) x0 x3 x4 x5 x6 x7 x8 x9 xs1 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 hc0 x0 x1 x2 x3 x4 x5 x6 x7 x8 x9 xs0 xs1)]
  funext y
  have hc := cover0_B_10 c i a2 h2 a3 h3 a4 h4 a5 h5 a6 h6 a7 h7 a8 h8 a9 h9 a10 h10 a11 h11 a12 h12 a13 h13 a14 h14 hc0 x0 x1 x2 x3 x4 x5 x6 x7 x8 x9 xs0 xs1 y
  revert hc
  unfold kernelRun0_B
  dsimp only
  sl_unfold_words
  simp (disch := decide) only [View.readAt_eq_ld, h2.read_unread, h3.read_unread, h4.read_unread, h5.read_unread, h6.read_unread, h7.read_unread, h8.read_unread, h9.read_unread, h10.read_unread, h11.read_unread, h14.read_unread, View.ld_unit_zero (S := S1x128) hz2, View.ld_unit_zero (S := S128x128) hz2, View.ld_unit_zero (S := S128x2048) hz2, cov1 xs0, readB]
  intro hc
  refine View.canon_apply_of_pieces _ _ ?_ y hc
  simp only [List.forall_mem_cons]
  exact ⟨pieceO (eE xs0 x1 x2) x0 x3 x4 x5 x6 x7 x8 x9 xs1 7, pieceO (eE xs0 x1 x2) x0 x3 x4 x5 x6 x7 x8 x9 xs1 6, pieceO (eE xs0 x1 x2) x0 x3 x4 x5 x6 x7 x8 x9 xs1 5, pieceO (eE xs0 x1 x2) x0 x3 x4 x5 x6 x7 x8 x9 xs1 4, pieceO (eE xs0 x1 x2) x0 x3 x4 x5 x6 x7 x8 x9 xs1 3, pieceO (eE xs0 x1 x2) x0 x3 x4 x5 x6 x7 x8 x9 xs1 2, pieceO (eE xs0 x1 x2) x0 x3 x4 x5 x6 x7 x8 x9 xs1 1, pieceO (eE xs0 x1 x2) x0 x3 x4 x5 x6 x7 x8 x9 xs1 0, fun p hp => absurd hp List.not_mem_nil⟩

set_option maxHeartbeats 4000000 in
theorem s_B (hc0 : ¬cond0_0 i) :
    sout0_B_1 (F := Ideal) c i a2 h2 a3 h3 a4 h4 a5 h5 a6 h6 a7 h7 a8 h8 a9 h9 a10 h10 a11 h11 a12 h12 a13 h13 a14 h14 hc0 x0 x1 x2 x3 x4 x5 x6 x7 x8 x9 xs0 xs1 = sSpec (eE xs0 x1 x2) x3 x4 x5 x6 x7 xs1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 hc0 x0 x1 x2 x3 x4 x5 x6 x7 x8 x9 xs0 xs1)]
  funext y
  have hc := scover0_B_1 c i a2 h2 a3 h3 a4 h4 a5 h5 a6 h6 a7 h7 a8 h8 a9 h9 a10 h10 a11 h11 a12 h12 a13 h13 a14 h14 hc0 x0 x1 x2 x3 x4 x5 x6 x7 x8 x9 xs0 xs1 y
  revert hc
  unfold kernelRun0_B
  dsimp only
  sl_unfold_words
  simp (disch := decide) only [View.readAt_eq_ld, h2.read_unread, h3.read_unread, h4.read_unread, h5.read_unread, h6.read_unread, h7.read_unread, h8.read_unread, h9.read_unread, h10.read_unread, h11.read_unread, h14.read_unread, View.ld_unit_zero (S := S1x128) hz2, View.ld_unit_zero (S := S128x128) hz2, View.ld_unit_zero (S := S128x2048) hz2, cov1 xs0, readB]
  intro hc
  refine View.canon_apply_of_pieces _ _ ?_ y hc
  simp only [List.forall_mem_cons]
  exact ⟨pieceS (eE xs0 x1 x2) x3 x4 x5 x6 x7 xs1 7, pieceS (eE xs0 x1 x2) x3 x4 x5 x6 x7 xs1 6, pieceS (eE xs0 x1 x2) x3 x4 x5 x6 x7 xs1 5, pieceS (eE xs0 x1 x2) x3 x4 x5 x6 x7 xs1 4, pieceS (eE xs0 x1 x2) x3 x4 x5 x6 x7 xs1 3, pieceS (eE xs0 x1 x2) x3 x4 x5 x6 x7 xs1 2, pieceS (eE xs0 x1 x2) x3 x4 x5 x6 x7 xs1 1, pieceS (eE xs0 x1 x2) x3 x4 x5 x6 x7 xs1 0, fun p hp => absurd hp List.not_mem_nil⟩

set_option maxHeartbeats 4000000 in
theorem o_A (hc0 : cond0_0 i) :
    out0_A_10 (F := Ideal) c i a2 h2 a3 h3 a4 h4 a5 h5 a6 h6 a7 h7 a8 h8 a9 h9 a10 h10 a11 h11 a12 h12 a13 h13 a14 h14 hc0 x0 x1 x2 x3 x4 x5 x6 x7 x8 x9 = oSpec (eE zE x1 x2) x0 x3 x4 x5 x6 x7 x8 x9 z1 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 hc0 x0 x1 x2 x3 x4 x5 x6 x7 x8 x9)]
  funext y
  have hc := cover0_A_10 c i a2 h2 a3 h3 a4 h4 a5 h5 a6 h6 a7 h7 a8 h8 a9 h9 a10 h10 a11 h11 a12 h12 a13 h13 a14 h14 hc0 x0 x1 x2 x3 x4 x5 x6 x7 x8 x9 y
  revert hc
  unfold kernelRun0_A
  dsimp only
  sl_unfold_words
  simp (disch := decide) only [View.readAt_eq_ld, h2.read_unread, h3.read_unread, h4.read_unread, h5.read_unread, h6.read_unread, h7.read_unread, h8.read_unread, h9.read_unread, h10.read_unread, h11.read_unread, View.ld_unit_zero (S := S1x128) hz2, View.ld_unit_zero (S := S128x128) hz2, View.ld_unit_zero (S := S128x2048) hz2, cov1 zE, covA, passS, readWhole (S := S8x128x256) _ hz3]
  intro hc
  refine View.canon_apply_of_pieces _ _ ?_ y hc
  simp only [List.forall_mem_cons]
  exact ⟨pieceO (eE zE x1 x2) x0 x3 x4 x5 x6 x7 x8 x9 z1 7, pieceO (eE zE x1 x2) x0 x3 x4 x5 x6 x7 x8 x9 z1 6, pieceO (eE zE x1 x2) x0 x3 x4 x5 x6 x7 x8 x9 z1 5, pieceO (eE zE x1 x2) x0 x3 x4 x5 x6 x7 x8 x9 z1 4, pieceO (eE zE x1 x2) x0 x3 x4 x5 x6 x7 x8 x9 z1 3, pieceO (eE zE x1 x2) x0 x3 x4 x5 x6 x7 x8 x9 z1 2, pieceO (eE zE x1 x2) x0 x3 x4 x5 x6 x7 x8 x9 z1 1, pieceO (eE zE x1 x2) x0 x3 x4 x5 x6 x7 x8 x9 z1 0, fun p hp => absurd hp List.not_mem_nil⟩

set_option maxHeartbeats 4000000 in
theorem s_A (hc0 : cond0_0 i) :
    sout0_A_1 (F := Ideal) c i a2 h2 a3 h3 a4 h4 a5 h5 a6 h6 a7 h7 a8 h8 a9 h9 a10 h10 a11 h11 a12 h12 a13 h13 a14 h14 hc0 x0 x1 x2 x3 x4 x5 x6 x7 x8 x9 = sSpec (eE zE x1 x2) x3 x4 x5 x6 x7 z1 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc0 x0 x1 x2 x3 x4 x5 x6 x7 x8 x9)]
  funext y
  have hc := scover0_A_1 c i a2 h2 a3 h3 a4 h4 a5 h5 a6 h6 a7 h7 a8 h8 a9 h9 a10 h10 a11 h11 a12 h12 a13 h13 a14 h14 hc0 x0 x1 x2 x3 x4 x5 x6 x7 x8 x9 y
  revert hc
  unfold kernelRun0_A
  dsimp only
  sl_unfold_words
  simp (disch := decide) only [View.readAt_eq_ld, h2.read_unread, h3.read_unread, h4.read_unread, h5.read_unread, h6.read_unread, h7.read_unread, h8.read_unread, h9.read_unread, h10.read_unread, h11.read_unread, View.ld_unit_zero (S := S1x128) hz2, View.ld_unit_zero (S := S128x128) hz2, View.ld_unit_zero (S := S128x2048) hz2, cov1 zE, covA, passS, readWhole (S := S8x128x256) _ hz3]
  intro hc
  refine View.canon_append_of_pieces (Val := Elt Ideal) (e := .f32) (sSpec (eE zE x1 x2) x3 x4 x5 x6 x7 z1) [_] [_, _, _, _, _, _, _, _] ?_ y ?_
  · simp only [List.forall_mem_cons]
    exact ⟨pieceS (eE zE x1 x2) x3 x4 x5 x6 x7 z1 7, pieceS (eE zE x1 x2) x3 x4 x5 x6 x7 z1 6, pieceS (eE zE x1 x2) x3 x4 x5 x6 x7 z1 5, pieceS (eE zE x1 x2) x3 x4 x5 x6 x7 z1 4, pieceS (eE zE x1 x2) x3 x4 x5 x6 x7 z1 3, pieceS (eE zE x1 x2) x3 x4 x5 x6 x7 z1 2, pieceS (eE zE x1 x2) x3 x4 x5 x6 x7 z1 1, pieceS (eE zE x1 x2) x3 x4 x5 x6 x7 z1 0, fun p hp => absurd hp List.not_mem_nil⟩
  · obtain ⟨k, d, e, rfl⟩ : ∃ (k : Fin 8) (d : Fin 128) (e : Fin 256), y = ix3 k d e := ⟨y 0, y 1, y 2, funext fun a => by fin_cases a <;> rfl⟩
    match k with
    | 0 => exact ⟨_, .tail _ (.tail _ (.tail _ (.tail _ (.tail _ (.tail _ (.tail _ (.head _))))))), memS 0 d e⟩
    | 1 => exact ⟨_, .tail _ (.tail _ (.tail _ (.tail _ (.tail _ (.tail _ (.head _)))))), memS 1 d e⟩
    | 2 => exact ⟨_, .tail _ (.tail _ (.tail _ (.tail _ (.tail _ (.head _))))), memS 2 d e⟩
    | 3 => exact ⟨_, .tail _ (.tail _ (.tail _ (.tail _ (.head _)))), memS 3 d e⟩
    | 4 => exact ⟨_, .tail _ (.tail _ (.tail _ (.head _))), memS 4 d e⟩
    | 5 => exact ⟨_, .tail _ (.tail _ (.head _)), memS 5 d e⟩
    | 6 => exact ⟨_, .tail _ (.head _), memS 6 d e⟩
    | 7 => exact ⟨_, .head _, memS 7 d e⟩

set_option maxHeartbeats 4000000 in
theorem e_B (hc0 : ¬cond0_0 i) :
    sout0_B_0 (F := Ideal) c i a2 h2 a3 h3 a4 h4 a5 h5 a6 h6 a7 h7 a8 h8 a9 h9 a10 h10 a11 h11 a12 h12 a13 h13 a14 h14 hc0 x0 x1 x2 x3 x4 x5 x6 x7 x8 x9 xs0 xs1 = eE (tl (eE xs0 x1 x2)) x1 x2 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 hc0 x0 x1 x2 x3 x4 x5 x6 x7 x8 x9 xs0 xs1)]
  funext y
  have hc := scover0_B_0 c i a2 h2 a3 h3 a4 h4 a5 h5 a6 h6 a7 h7 a8 h8 a9 h9 a10 h10 a11 h11 a12 h12 a13 h13 a14 h14 hc0 x0 x1 x2 x3 x4 x5 x6 x7 x8 x9 xs0 xs1 y
  revert hc
  unfold kernelRun0_B
  dsimp only
  sl_unfold_words
  simp (disch := decide) only [View.readAt_eq_ld, h2.read_unread, h3.read_unread, h4.read_unread, h5.read_unread, h6.read_unread, h7.read_unread, h8.read_unread, h9.read_unread, h10.read_unread, h11.read_unread, h14.read_unread, View.ld_unit_zero (S := S1x128) hz2, View.ld_unit_zero (S := S128x128) hz2, View.ld_unit_zero (S := S128x2048) hz2, cov1 xs0, readB]
  intro hc
  refine View.canon_apply_of_pieces _ _ ?_ y hc
  simp only [List.forall_mem_cons]
  exact ⟨pT x1 x2 (eE xs0 x1 x2) _, pB _ x1 x2, pX _ x1 x2, fun p hp => absurd hp List.not_mem_nil⟩

set_option maxHeartbeats 4000000 in
theorem e_A (hc0 : cond0_0 i) :
    sout0_A_0 (F := Ideal) c i a2 h2 a3 h3 a4 h4 a5 h5 a6 h6 a7 h7 a8 h8 a9 h9 a10 h10 a11 h11 a12 h12 a13 h13 a14 h14 hc0 x0 x1 x2 x3 x4 x5 x6 x7 x8 x9 = eE (tl (eE zE x1 x2)) x1 x2 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 x0 x1 x2 x3 x4 x5 x6 x7 x8 x9)]
  funext y
  have hc := scover0_A_0 c i a2 h2 a3 h3 a4 h4 a5 h5 a6 h6 a7 h7 a8 h8 a9 h9 a10 h10 a11 h11 a12 h12 a13 h13 a14 h14 hc0 x0 x1 x2 x3 x4 x5 x6 x7 x8 x9 y
  revert hc
  unfold kernelRun0_A
  dsimp only
  sl_unfold_words
  simp (disch := decide) only [View.readAt_eq_ld, h2.read_unread, h3.read_unread, h4.read_unread, h5.read_unread, h6.read_unread, h7.read_unread, h8.read_unread, h9.read_unread, h10.read_unread, h11.read_unread, View.ld_unit_zero (S := S1x128) hz2, View.ld_unit_zero (S := S128x128) hz2, View.ld_unit_zero (S := S128x2048) hz2, cov1 zE, covA, passS, readWhole (S := S8x128x256) _ hz3]
  intro hc
  refine View.canon_append_of_pieces (Val := Elt Ideal) (e := .f32) (eE (tl (eE zE x1 x2)) x1 x2) [_] [_, _, _] ?_ y ?_
  · simp only [List.forall_mem_cons]
    exact ⟨pT x1 x2 (eE zE x1 x2) _, pB _ x1 x2, pX _ x1 x2, fun p hp => absurd hp List.not_mem_nil⟩
  · by_cases h0 : (y 0).val < 8
    · exact ⟨_, .head _, memT y h0⟩
    · by_cases h1 : (y 1).val < 2048
      · exact ⟨_, .tail _ (.tail _ (.head _)), memX y (by omega) h1⟩
      · exact ⟨_, .tail _ (.head _), memB y (by omega) h1⟩

end

end Cert.SCoreVal

end
-- ==== Proof.SCoreKer.lean ====
module

public import proofs.«01_k».proof.Proof.SCoreOpen
public import proofs.«01_k».proof.Proof.Gen.SCoreIdeal.Value
public import Idealize.ShloMosaic.Lib.KernelVsHost

/-! The kernel's result: chunk after chunk, the carried arrays are the last rows and the states of the recurrence, and the blocks its rows. -/

@[expose] public section

set_option maxRecDepth 16384

noncomputable section

namespace Cert.SCoreVal

open Idealize.ShloMosaic Idealize.ShloMosaic.TcCoe Idealize.SL.Sem
open Cert.SCoreIdeal Cert.SCoreIdeal.Gen Cert.Ssd
open Cert.Rec (pre lastP)

variable (m : (ℓ : Loc nD τ sig) → Buf (Elt Ideal) ℓ)

/-- Where the windows stand at a point of the grid. -/
theorem at_point : ∀ t : Fin cfg0.N, (win0_0.index t 0 = t.val ∧ win0_0.index t 1 = 0) ∧ (win0_1.index t 0 = t.val ∧ win0_1.index t 1 = 1)
    ∧ (win0_2.index t 0 = t.val ∧ win0_2.index t 1 = 2) ∧ (win0_3.index t 0 = t.val ∧ win0_3.index t 1 = 48) ∧ (win0_10.index t 0 = t.val ∧ win0_10.index t 1 = 0) :=
  (by decide +kernel : ∀ t : Fin grid0.N, (win0_0.index t 0 = t.val ∧ win0_0.index t 1 = 0) ∧ (win0_1.index t 0 = t.val ∧ win0_1.index t 1 = 1)
    ∧ (win0_2.index t 0 = t.val ∧ win0_2.index t 1 = 2) ∧ (win0_3.index t 0 = t.val ∧ win0_3.index t 1 = 48) ∧ (win0_10.index t 0 = t.val ∧ win0_10.index t 1 = 0))
theorem at_zero : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) :=
  (by decide +kernel : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0))

/-- The projected rows, the convolution's weights and bias, the step sizes' bias, the decay's logarithms, the skip weights and the gain. -/
abbrev aX (c : Dev nD) : (⟨2, ![16384, 6272]⟩ : Shape).Idx → EReal := m ((c : Thread nD τ).loc main_arg0)
abbrev aW (c : Dev nD) : (⟨2, ![4, 4096]⟩ : Shape).Idx → EReal := m ((c : Thread nD τ).loc main_arg1)
abbrev aB (c : Dev nD) : (⟨1, ![4096]⟩ : Shape).Idx → EReal := m ((c : Thread nD τ).loc main_arg2)
abbrev aT (c : Dev nD) : (⟨1, ![32]⟩ : Shape).Idx → EReal := m ((c : Thread nD τ).loc main_arg3)
abbrev aL (c : Dev nD) : (⟨1, ![32]⟩ : Shape).Idx → EReal := m ((c : Thread nD τ).loc main_arg4)
abbrev aD (c : Dev nD) : (⟨1, ![32]⟩ : Shape).Idx → EReal := m ((c : Thread nD τ).loc main_arg5)
abbrev aN (c : Dev nD) : (⟨1, ![2048]⟩ : Shape).Idx → EReal := m ((c : Thread nD τ).loc main_arg6)

theorem padded (x : FVec Ideal S32 .f32) (h : Fin 32) (l : Fin 128) (hl : l.val = h.val) :
    shapeCast _ (pad S128 ![0] ![96] ![0] x (sitofp (F := Ideal) .f32 (constantI S_ 32 0#32)) pads_S32_S128_0960 h_S_) shapeCasts_S128_S1x128 (ix2 0 l) = x (ix1 h) := by
  refine (shapeCast_apply _ shapeCasts_S128_S1x128 (ix2 0 l) (ix1 l)
    (by rw [Shape.rowMajor_val_two, Shape.rowMajor_val_one]; show l.val = 0 * 128 + l.val; omega)).trans ?_
  refine pad_apply_of_inside _ _ _ _ _ _ _ _ (ix1 h) fun a => ?_
  match a with
  | ⟨0, _⟩ => show l.val = 0 + h.val * (0 + 1); omega

theorem spread (x : FVec Ideal S32 .f32) (l : Fin 2048) :
    shapeCast _ (shapeCast _ (broadcastInDim S32x64 ![0] bcast_S32_S32x64_0 x) shapeCasts_S32x64_S2048) shapeCasts_S2048_S1x2048 (ix2 0 l) = x (ix1 (hd l)) := by
  refine (shapeCast_apply _ shapeCasts_S2048_S1x2048 (ix2 0 l) (ix1 l)
    (by rw [Shape.rowMajor_val_two, Shape.rowMajor_val_one]; show l.val = 0 * 2048 + l.val; omega)).trans ?_
  have hl := l.isLt
  refine (shapeCast_apply _ shapeCasts_S32x64_S2048 (ix1 l) (ix2 (hd l) (⟨l.val % 64, Nat.mod_lt _ (by omega)⟩ : Fin 64))
    (by rw [Shape.rowMajor_val_two, Shape.rowMajor_val_one]; show l.val / 64 * 64 + l.val % 64 = l.val; omega)).trans ?_
  pointwise []

theorem cb_at (c : Dev nD) (l : Fin 4096) : V m c main_v0 (ix2 0 l) = aB m c (ix1 l) := by
  have e : V m c main_v0 = shapeCast _ (m ((c : Thread nD τ).loc main_arg2)) shapeCasts_S4096_S1x4096 := by
    unfold V hostOps0 hostOps0_1 hostOps0_2 hostOps0_3 hostOps0_4
    simp only [List.flatten_cons, List.flatten_nil, List.append_nil, List.cons_append, List.nil_append]
    after_results
    rfl
  rw [e]
  exact shapeCast_apply _ shapeCasts_S4096_S1x4096 (ix2 0 l) (ix1 l) (by rw [Shape.rowMajor_val_two, Shape.rowMajor_val_one]; show l.val = 0 * 4096 + l.val; omega)

theorem tb_at (c : Dev nD) (h : Fin 32) (l : Fin 128) (hl : l.val = h.val) : V m c main_v2 (ix2 0 l) = aT m c (ix1 h) := by
  have e : V m c main_v2 = shapeCast _ (pad S128 ![0] ![96] ![0] (m ((c : Thread nD τ).loc main_arg3)) (sitofp (F := Ideal) .f32 (constantI S_ 32 0#32)) pads_S32_S128_0960 h_S_)
      shapeCasts_S128_S1x128 := by
    unfold V hostOps0 hostOps0_1 hostOps0_2 hostOps0_3 hostOps0_4
    simp only [List.flatten_cons, List.flatten_nil, List.append_nil, List.cons_append, List.nil_append]
    after_results
    rfl
  rw [e]
  exact padded _ h l hl

theorem la_at (c : Dev nD) (h : Fin 32) (l : Fin 128) (hl : l.val = h.val) : V m c main_v4 (ix2 0 l) = aL m c (ix1 h) := by
  have e : V m c main_v4 = shapeCast _ (pad S128 ![0] ![96] ![0] (m ((c : Thread nD τ).loc main_arg4)) (sitofp (F := Ideal) .f32 (constantI S_ 32 0#32)) pads_S32_S128_0960 h_S_)
      shapeCasts_S128_S1x128 := by
    unfold V hostOps0 hostOps0_1 hostOps0_2 hostOps0_3 hostOps0_4
    simp only [List.flatten_cons, List.flatten_nil, List.append_nil, List.cons_append, List.nil_append]
    after_results
    rfl
  rw [e]
  exact padded _ h l hl

theorem ds_at (c : Dev nD) (l : Fin 2048) : V m c main_v7 (ix2 0 l) = aD m c (ix1 (hd l)) := by
  have e : V m c main_v7 = shapeCast _ (shapeCast _ (broadcastInDim S32x64 ![0] bcast_S32_S32x64_0 (m ((c : Thread nD τ).loc main_arg5))) shapeCasts_S32x64_S2048) shapeCasts_S2048_S1x2048 := by
    unfold V hostOps0 hostOps0_1 hostOps0_2 hostOps0_3 hostOps0_4
    simp only [List.flatten_cons, List.flatten_nil, List.append_nil, List.cons_append, List.nil_append]
    after_results
    rfl
  rw [e]
  exact spread _ l

theorem ng_at (c : Dev nD) (l : Fin 2048) : V m c main_v8 (ix2 0 l) = aN m c (ix1 l) := by
  have e : V m c main_v8 = shapeCast _ (m ((c : Thread nD τ).loc main_arg6)) shapeCasts_S2048_S1x2048 := by
    unfold V hostOps0 hostOps0_1 hostOps0_2 hostOps0_3 hostOps0_4
    simp only [List.flatten_cons, List.flatten_nil, List.append_nil, List.cons_append, List.nil_append]
    after_results
    rfl
  rw [e]
  exact shapeCast_apply _ shapeCasts_S2048_S1x2048 (ix2 0 l) (ix1 l) (by rw [Shape.rowMajor_val_two, Shape.rowMajor_val_one]; show l.val = 0 * 2048 + l.val; omega)

/-- The sequence and the chunk of a point. -/
def seqAt (n : ℕ) : Fin 2 := ⟨n / 64 % 2, Nat.mod_lt _ (by omega)⟩

theorem row_val (t : Fin cfg0.N) (r : Fin 128) : (rowN (seqAt t.val) (128 * (t.val % 64) + r.val)).val = 128 * t.val + r.val := by
  have hN : cfg0.N = 128 := N_0
  have ht := t.isLt
  have hr := r.isLt
  show (8192 * (t.val / 64 % 2) + (128 * (t.val % 64) + r.val)) % 16384 = _
  omega

theorem blk0 (c : Dev nD) (t : Fin cfg0.N) (r : Fin 128) (l : Fin 2048) :
    X0_0 m c t (ix2 r l) = aX m c (ix2 (rowN (seqAt t.val) (128 * (t.val % 64) + r.val)) ⟨l.val, by omega⟩) := by
  have h := at_point t
  have h0 := h.1.1
  have h1 := h.1.2
  have hv := row_val t r
  show _ = m ((c : Thread nD τ).loc main_arg0) _
  rw [← V_main_arg0 m c]
  unfold X0_0 Pipeline.Window.fill
  rw [dif_pos (moved0_0 t _)]
  unfold iblk
  rw [View.read_apply]
  show V m c main_arg0 _ = V m c main_arg0 _
  congr 1; funext a; apply Fin.ext
  match a with
  | ⟨0, _⟩ => show win0_0.index t 0 * 128 + 1 * r.val = (rowN (seqAt t.val) (128 * (t.val % 64) + r.val)).val; rw [h0, hv]; omega
  | ⟨1, _⟩ => show win0_0.index t 1 * 2048 + 1 * l.val = l.val; rw [h1]; omega

theorem blk1 (c : Dev nD) (t : Fin cfg0.N) (r : Fin 128) (l : Fin 2048) :
    X0_1 m c t (ix2 r l) = aX m c (ix2 (rowN (seqAt t.val) (128 * (t.val % 64) + r.val)) ⟨2048 + l.val, by omega⟩) := by
  have h := at_point t
  have h0 := h.2.1.1
  have h1 := h.2.1.2
  have hv := row_val t r
  show _ = m ((c : Thread nD τ).loc main_arg0) _
  rw [← V_main_arg0 m c]
  unfold X0_1 Pipeline.Window.fill
  rw [dif_pos (moved0_1 t _)]
  unfold iblk
  rw [View.read_apply]
  show V m c main_arg0 _ = V m c main_arg0 _
  congr 1; funext a; apply Fin.ext
  match a with
  | ⟨0, _⟩ => show win0_1.index t 0 * 128 + 1 * r.val = (rowN (seqAt t.val) (128 * (t.val % 64) + r.val)).val; rw [h0, hv]; omega
  | ⟨1, _⟩ => show win0_1.index t 1 * 2048 + 1 * l.val = 2048 + l.val; rw [h1]; omega

theorem blk2 (c : Dev nD) (t : Fin cfg0.N) (r : Fin 128) (l : Fin 2048) :
    X0_2 m c t (ix2 r l) = aX m c (ix2 (rowN (seqAt t.val) (128 * (t.val % 64) + r.val)) ⟨4096 + l.val, by omega⟩) := by
  have h := at_point t
  have h0 := h.2.2.1.1
  have h1 := h.2.2.1.2
  have hv := row_val t r
  show _ = m ((c : Thread nD τ).loc main_arg0) _
  rw [← V_main_arg0 m c]
  unfold X0_2 Pipeline.Window.fill
  rw [dif_pos (moved0_2 t _)]
  unfold iblk
  rw [View.read_apply]
  show V m c main_arg0 _ = V m c main_arg0 _
  congr 1; funext a; apply Fin.ext
  match a with
  | ⟨0, _⟩ => show win0_2.index t 0 * 128 + 1 * r.val = (rowN (seqAt t.val) (128 * (t.val % 64) + r.val)).val; rw [h0, hv]; omega
  | ⟨1, _⟩ => show win0_2.index t 1 * 2048 + 1 * l.val = 4096 + l.val; rw [h1]; omega

theorem blk3 (c : Dev nD) (t : Fin cfg0.N) (r : Fin 128) (h : Fin 32) (l : Fin 128) (hl : l.val = h.val) :
    iblk m c 3 t (ix2 r l) = aX m c (ix2 (rowN (seqAt t.val) (128 * (t.val % 64) + r.val)) ⟨6144 + h.val, by omega⟩) := by
  obtain ⟨-, -, -, ⟨h0, h1⟩, -⟩ := at_point t
  have hv := row_val t r
  show _ = m ((c : Thread nD τ).loc main_arg0) _
  rw [← V_main_arg0 m c]
  unfold iblk
  rw [View.read_apply]
  show V m c main_arg0 _ = V m c main_arg0 _
  congr 1; funext a; apply Fin.ext
  match a with
  | ⟨0, _⟩ => show win0_3.index t 0 * 128 + 1 * r.val = (rowN (seqAt t.val) (128 * (t.val % 64) + r.val)).val; rw [h0, hv]; omega
  | ⟨1, _⟩ => show win0_3.index t 1 * 128 + 1 * l.val = 6144 + h.val; rw [h1]; omega

theorem blk4 (c : Dev nD) (t : Fin cfg0.N) (k : Fin 4) (l : Fin 4096) : iblk m c 4 t (ix2 k l) = aW m c (ix2 k l) := by
  obtain ⟨⟨h0, h1⟩, -⟩ := at_zero t
  show _ = m ((c : Thread nD τ).loc main_arg1) _
  rw [← V_main_arg1 m c]
  unfold iblk
  rw [View.read_apply]
  show V m c main_arg1 _ = V m c main_arg1 _
  congr 1; funext a; apply Fin.ext
  match a with
  | ⟨0, _⟩ => show win0_4.index t 0 * 4 + 1 * k.val = k.val; rw [h0]; omega
  | ⟨1, _⟩ => show win0_4.index t 1 * 4096 + 1 * l.val = l.val; rw [h1]; omega

theorem blk5 (c : Dev nD) (t : Fin cfg0.N) (l : Fin 4096) : iblk m c 5 t (ix2 0 l) = aB m c (ix1 l) := by
  obtain ⟨-, ⟨h0, h1⟩, -⟩ := at_zero t
  rw [← cb_at m c l]
  unfold iblk
  rw [View.read_apply]
  show V m c main_v0 _ = V m c main_v0 _
  congr 1; funext a; apply Fin.ext
  match a with
  | ⟨0, _⟩ => show win0_5.index t 0 * 1 + 1 * 0 = 0; rw [h0]
  | ⟨1, _⟩ => show win0_5.index t 1 * 4096 + 1 * l.val = l.val; rw [h1]; omega

theorem blk6 (c : Dev nD) (t : Fin cfg0.N) (h : Fin 32) (l : Fin 128) (hl : l.val = h.val) : iblk m c 6 t (ix2 0 l) = aT m c (ix1 h) := by
  obtain ⟨-, -, ⟨h0, h1⟩, -⟩ := at_zero t
  rw [← tb_at m c h l hl]
  unfold iblk
  rw [View.read_apply]
  show V m c main_v2 _ = V m c main_v2 _
  congr 1; funext a; apply Fin.ext
  match a with
  | ⟨0, _⟩ => show win0_6.index t 0 * 1 + 1 * 0 = 0; rw [h0]
  | ⟨1, _⟩ => show win0_6.index t 1 * 128 + 1 * l.val = l.val; rw [h1]; omega

theorem blk7 (c : Dev nD) (t : Fin cfg0.N) (h : Fin 32) (l : Fin 128) (hl : l.val = h.val) : iblk m c 7 t (ix2 0 l) = aL m c (ix1 h) := by
  obtain ⟨-, -, -, ⟨h0, h1⟩, -⟩ := at_zero t
  rw [← la_at m c h l hl]
  unfold iblk
  rw [View.read_apply]
  show V m c main_v4 _ = V m c main_v4 _
  congr 1; funext a; apply Fin.ext
  match a with
  | ⟨0, _⟩ => show win0_7.index t 0 * 1 + 1 * 0 = 0; rw [h0]
  | ⟨1, _⟩ => show win0_7.index t 1 * 128 + 1 * l.val = l.val; rw [h1]; omega

theorem blk8 (c : Dev nD) (t : Fin cfg0.N) (l : Fin 2048) : iblk m c 8 t (ix2 0 l) = aD m c (ix1 (hd l)) := by
  obtain ⟨-, -, -, -, ⟨h0, h1⟩, -⟩ := at_zero t
  rw [← ds_at m c l]
  unfold iblk
  rw [View.read_apply]
  show V m c main_v7 _ = V m c main_v7 _
  congr 1; funext a; apply Fin.ext
  match a with
  | ⟨0, _⟩ => show win0_8.index t 0 * 1 + 1 * 0 = 0; rw [h0]
  | ⟨1, _⟩ => show win0_8.index t 1 * 2048 + 1 * l.val = l.val; rw [h1]; omega

theorem blk9 (c : Dev nD) (t : Fin cfg0.N) (l : Fin 2048) : iblk m c 9 t (ix2 0 l) = aN m c (ix1 l) := by
  obtain ⟨-, -, -, -, -, ⟨h0, h1⟩⟩ := at_zero t
  rw [← ng_at m c l]
  unfold iblk
  rw [View.read_apply]
  show V m c main_v8 _ = V m c main_v8 _
  congr 1; funext a; apply Fin.ext
  match a with
  | ⟨0, _⟩ => show win0_9.index t 0 * 1 + 1 * 0 = 0; rw [h0]
  | ⟨1, _⟩ => show win0_9.index t 1 * 2048 + 1 * l.val = l.val; rw [h1]; omega

/-- A group's column. -/
def cl (g : Fin 8) (e : Fin 256) : Fin 2048 := ⟨256 * g.val + e.val, by omega⟩

theorem gp_cl (g : Fin 8) (e : Fin 256) : gp (cl g e) = g := Fin.ext (by show (256 * g.val + e.val) / 256 = g.val; omega)
theorem lk_cl (g : Fin 8) (e : Fin 256) : (lk g e).val = (hd (cl g e)).val := by show 4 * g.val + e.val / 64 = (256 * g.val + e.val) / 64; omega

section point
variable (c : Dev nD) (t : Fin cfg0.N)

/-- The rows the convolution reads at a chunk, from the third before it. -/
def Halo (a : Fin 2) (j : ℕ) (E : S136x4096.Idx → EReal) : Prop :=
  ∀ (p : ℕ) (r : Fin 136) (l : Fin 4096), r.val = 5 + p → E (ix2 r l) = raw (aX m c) a (128 * j + p) l

/-- The carried arrays hold the rows and the state before chunk `j` of sequence `a`. -/
def Carries (a : Fin 2) (j : ℕ) (y0 : S136x4096.Idx → EReal) (y1 : Vec Ideal S8x128x256 .f32) : Prop :=
  (∀ (p : ℕ) (r : Fin 136) (l : Fin 4096), p < 3 → r.val = 5 + p → y0 (ix2 r l) = raw (aX m c) a (128 * j + p) l)
    ∧ ∀ (g : Fin 8) (n : Fin 128) (e : Fin 256), y1 (ix3 g n e) = sSt (aX m c) (aW m c) (aB m c) (aT m c) (aL m c) a (cl g e) j n

variable {m c t}
variable {y0 : S136x4096.Idx → EReal} {y1 : Vec Ideal S8x128x256 .f32}

theorem Carries.halo (H : Carries m c (seqAt t.val) (t.val % 64) y0 y1) : Halo m c (seqAt t.val) (t.val % 64) (eE y0 (X0_1 m c t) (X0_2 m c t)) := by
  intro p r l hr
  have hr' := r.isLt
  have hl' := l.isLt
  by_cases hp : p < 3
  · rw [low _ _ _ _ _ (by omega)]
    exact H.1 p r l hp hr
  · have e1 : raw (aX m c) (seqAt t.val) (128 * (t.val % 64) + p) l = aX m c (ix2 (rowN (seqAt t.val) (128 * (t.val % 64) + p - 3)) ⟨2048 + l.val, by omega⟩) := if_neg (by omega)
    rw [e1]
    have e2 : 128 * (t.val % 64) + p - 3 = 128 * (t.val % 64) + (p - 3) := by omega
    rw [e2]
    by_cases hl : l.val < 2048
    · rw [xs_at y0 _ _ (⟨p - 3, by omega⟩ : Fin 128) (⟨l.val, hl⟩ : Fin 2048) r l (by show r.val = 8 + (p - 3); omega) rfl, blk1]
    · rw [bs_at y0 _ _ (⟨p - 3, by omega⟩ : Fin 128) (⟨l.val - 2048, by omega⟩ : Fin 2048) r l (by show r.val = 8 + (p - 3); omega) (by show l.val = 2048 + (l.val - 2048); omega), blk2]
      exact congrArg (fun q => aX m c (ix2 _ q)) (Fin.ext (by show 4096 + (l.val - 2048) = 2048 + l.val; omega))

section halo
variable {E : S136x4096.Idx → EReal} (H : Halo m c (seqAt t.val) (t.val % 64) E) (g : Fin 8) (e : Fin 256)
include H

theorem u_eq (l : Fin 4096) (r : Fin 128) : uK E (iblk m c 4 t) (iblk m c 5 t) l r = uO (aX m c) (aW m c) (aB m c) (seqAt t.val) (t.val % 64) r l := by
  have hr := r.isLt
  unfold uK uO conv
  rw [H r.val ⟨5 + r.val, by omega⟩ l rfl, H (r.val + 1) ⟨6 + r.val, by omega⟩ l (by show 6 + r.val = 5 + (r.val + 1); omega),
    H (r.val + 2) ⟨7 + r.val, by omega⟩ l (by show 7 + r.val = 5 + (r.val + 2); omega), H (r.val + 3) ⟨8 + r.val, by omega⟩ l (by show 8 + r.val = 5 + (r.val + 3); omega)]
  rw [blk5, blk4, blk4, blk4, blk4]
  rfl
theorem x_eq : xK E (iblk m c 4 t) (iblk m c 5 t) g e = xO (aX m c) (aW m c) (aB m c) (seqAt t.val) (cl g e) (t.val % 64) := funext fun r => u_eq H _ r
theorem b_eq : bK E (iblk m c 4 t) (iblk m c 5 t) g = bO (aX m c) (aW m c) (aB m c) (seqAt t.val) g (t.val % 64) := funext fun r => funext fun n => u_eq H _ r
theorem cc_eq : ccK E (iblk m c 4 t) (iblk m c 5 t) g = cO (aX m c) (aW m c) (aB m c) (seqAt t.val) g (t.val % 64) := funext fun r => funext fun n => u_eq H _ r

end halo

variable (m c t)
theorem d_eq (g : Fin 8) (e : Fin 256) : dK (iblk m c 3 t) (iblk m c 6 t) (lk g e) = dtO (aX m c) (aT m c) (seqAt t.val) (hd (cl g e)) (t.val % 64) := by
  funext r
  unfold dK dtO
  rw [blk3 m c t r _ _ (lk_cl g e), blk6 m c t _ _ (lk_cl g e)]
theorem c_eq (g : Fin 8) (e : Fin 256) : cK (iblk m c 3 t) (iblk m c 6 t) (iblk m c 7 t) (lk g e) = cumO (aX m c) (aT m c) (aL m c) (seqAt t.val) (hd (cl g e)) (t.val % 64) := by
  funext r
  unfold cK cumO
  refine congrArg (fun f => pre f r) (funext fun s => ?_)
  have h := congrFun (d_eq m c t g e) s
  unfold dK at h
  rw [h, blk7 m c t _ _ (lk_cl g e)]
variable {m c t}

theorem Carries.next (H : Carries m c (seqAt t.val) (t.val % 64) y0 y1) :
    Carries m c (seqAt t.val) (t.val % 64 + 1) (eE (tl (eE y0 (X0_1 m c t) (X0_2 m c t))) (X0_1 m c t) (X0_2 m c t))
      (sSpec (eE y0 (X0_1 m c t) (X0_2 m c t)) (iblk m c 3 t) (iblk m c 4 t) (iblk m c 5 t) (iblk m c 6 t) (iblk m c 7 t) y1) := by
  refine ⟨fun p r l hp hr => ?_, fun g n e => ?_⟩
  · rw [low _ _ _ _ _ (by omega)]
    have e1 : 128 * (t.val % 64 + 1) + p = 128 * (t.val % 64) + (128 + p) := by omega
    rw [e1]
    exact H.halo (128 + p) ⟨128 + r.val % 8, by omega⟩ l (by show 128 + r.val % 8 = 5 + (128 + p); omega)
  · show sK _ _ _ _ _ _ y1 g n e = _
    unfold sK
    rw [c_eq, d_eq, b_eq H.halo, x_eq H.halo, funext fun n => H.2 g n e]
    have e1 : sSt (aX m c) (aW m c) (aB m c) (aT m c) (aL m c) (seqAt t.val) (cl g e) (t.val % 64 + 1) =
        sCol (cumO (aX m c) (aT m c) (aL m c) (seqAt t.val) (hd (cl g e)) (t.val % 64)) (dtO (aX m c) (aT m c) (seqAt t.val) (hd (cl g e)) (t.val % 64))
          (bO (aX m c) (aW m c) (aB m c) (seqAt t.val) (gp (cl g e)) (t.val % 64)) (xO (aX m c) (aW m c) (aB m c) (seqAt t.val) (cl g e) (t.val % 64))
          (sSt (aX m c) (aW m c) (aB m c) (aT m c) (aL m c) (seqAt t.val) (cl g e) (t.val % 64)) := rfl
    rw [e1, gp_cl]

theorem Carries.rows (H : Carries m c (seqAt t.val) (t.val % 64) y0 y1) (g : Fin 8) (r : Fin 128) (e : Fin 256) :
    rowsK (eE y0 (X0_1 m c t) (X0_2 m c t)) (X0_0 m c t) (iblk m c 3 t) (iblk m c 4 t) (iblk m c 5 t) (iblk m c 6 t) (iblk m c 7 t) (iblk m c 8 t) (iblk m c 9 t) y1 g r e =
      outO (aX m c) (aW m c) (aB m c) (aT m c) (aL m c) (aD m c) (aN m c) (seqAt t.val) (t.val % 64) r g e := by
  unfold rowsK outO
  rw [blk9]
  refine congrArg (fun Y => normed Y _ e) (funext fun e => ?_)
  unfold yK yO
  rw [c_eq, d_eq, b_eq H.halo, cc_eq H.halo, x_eq H.halo, funext fun n => H.2 g n e, blk8, blk0]
  show (yCol (cumO _ _ _ _ (hd (cl g e)) _) (dtO _ _ _ (hd (cl g e)) _) _ _ _ _ r + aD m c (ix1 (hd (cl g e))) * _) * silu (aX m c (ix2 _ ⟨(cl g e).val, _⟩)) =
    (yCol (cumO _ _ _ _ (hd (cl g e)) _) (dtO _ _ _ (hd (cl g e)) _) (bO _ _ _ _ (gp (cl g e)) _) (cO _ _ _ _ (gp (cl g e)) _) _ _ r + aD m c (ix1 (hd (cl g e))) * _) * silu (aX m c (ix2 _ ⟨(cl g e).val, _⟩))
  rw [gp_cl]
  rfl

variable (m c)
theorem Carries.start (a : Fin 2) : Carries m c a 0 zE z1 := by
  refine ⟨fun p r l hp hr => ?_, fun g n e => ?_⟩
  · exact (if_pos (by omega : 128 * 0 + p < 3)).symm
  · show k0_pay4 (F := Ideal) (ix3 g n e) = 0
    pointwise [k0_pay4]

end point

theorem carried (c : Dev nD) : ∀ (n : ℕ) (h : n < cfg0.N), Carries m c (seqAt n) (n % 64 + 1) (outsAt0 m c n h).2.1 (outsAt0 m c n h).2.2 := by
  have first : ∀ t : Fin cfg0.N, t.val % 64 = 0 → Carries m c (seqAt t.val) (t.val % 64 + 1) (outsAt0 m c t.val t.isLt).2.1 (outsAt0 m c t.val t.isLt).2.2 := by
    intro t h0
    rw [outsAt0_A m c t h0]
    dsimp only
    rw [e_A, s_A]
    have s := Carries.start m c (seqAt t.val)
    rw [← h0] at s
    exact s.next
  intro n
  induction n with
  | zero => exact fun h => first ⟨0, h⟩ (Nat.zero_mod _)
  | succ n ih =>
    intro h
    by_cases h0 : (n + 1) % 64 = 0
    · exact first ⟨n + 1, h⟩ h0
    · rw [show outsAt0 m c (n + 1) h = _ from outsAt0_B m c ⟨n + 1, h⟩ h0]
      dsimp only
      rw [e_B, s_B]
      have s := ih (Nat.lt_of_succ_lt h)
      have e1 : seqAt n = seqAt (n + 1) := Fin.ext (by show n / 64 % 2 = (n + 1) / 64 % 2; omega)
      have e2 : n % 64 + 1 = (n + 1) % 64 := by omega
      rw [e1, e2] at s
      exact Carries.next (t := ⟨n + 1, h⟩) s

/-! ## The result array -/

/-- Row `i`, column `l` of the result. -/
def score (X : (⟨2, ![16384, 6272]⟩ : Shape).Idx → EReal) (W : (⟨2, ![4, 4096]⟩ : Shape).Idx → EReal) (B : (⟨1, ![4096]⟩ : Shape).Idx → EReal)
    (T L D : (⟨1, ![32]⟩ : Shape).Idx → EReal) (N : (⟨1, ![2048]⟩ : Shape).Idx → EReal) (i : Fin 16384) (l : Fin 2048) : EReal :=
  outO X W B T L D N ⟨i.val / 8192, by omega⟩ (i.val % 8192 / 128) ⟨i.val % 128, Nat.mod_lt _ (by omega)⟩ ⟨l.val / 256, by omega⟩ ⟨l.val % 256, Nat.mod_lt _ (by omega)⟩

/-- The array the kernel leaves. -/
def goal (c : Dev nD) : S16384x2048.Idx → EReal := fun i => score (aX m c) (aW m c) (aB m c) (aT m c) (aL m c) (aD m c) (aN m c) (i 0) (i 1)

theorem goal_at (c : Dev nD) (i : Fin 16384) (l : Fin 2048) : goal m c (ix2 i l) = score (aX m c) (aW m c) (aB m c) (aT m c) (aL m c) (aD m c) (aN m c) i l := rfl

/-- The row of the array that row `r` of a point's block is. -/
def rowP (t : Fin cfg0.N) (r : Fin 128) : Fin 16384 := rowN (seqAt t.val) (128 * (t.val % 64) + r.val)

theorem block_at (c : Dev nD) (t : Fin cfg0.N) (r : Fin 128) (l : Fin 2048) (y0 : S136x4096.Idx → EReal) (y1 : Vec Ideal S8x128x256 .f32)
    (H : Carries m c (seqAt t.val) (t.val % 64) y0 y1) :
    oSpec (eE y0 (X0_1 m c t) (X0_2 m c t)) (X0_0 m c t) (iblk m c 3 t) (iblk m c 4 t) (iblk m c 5 t) (iblk m c 6 t) (iblk m c 7 t) (iblk m c 8 t) (iblk m c 9 t) y1 (ix2 r l) =
      goal m c (ix2 (rowP t r) l) := by
  have hN : cfg0.N = 128 := N_0
  have ht := t.isLt
  have hr := r.isLt
  have hv : (rowP t r).val = 128 * t.val + r.val := row_val t r
  show rowsK _ _ _ _ _ _ _ _ _ _ ⟨l.val / 256, _⟩ r ⟨l.val % 256, _⟩ = _
  rw [H.rows, goal_at]
  unfold score
  have e1 : (⟨(rowP t r).val / 8192, by omega⟩ : Fin 2) = seqAt t.val := Fin.ext (by show (rowP t r).val / 8192 = t.val / 64 % 2; omega)
  have e2 : (rowP t r).val % 8192 / 128 = t.val % 64 := by omega
  have e3 : (⟨(rowP t r).val % 128, Nat.mod_lt _ (by omega)⟩ : Fin 128) = r := Fin.ext (by show (rowP t r).val % 128 = r.val; omega)
  rw [e1, e2, e3]

theorem point_at (c : Dev nD) (t : Fin cfg0.N) (r : Fin 128) (l : Fin 2048) :
    (outsAt0 m c t.val t.isLt).1 (ix2 r l) = goal m c (ix2 (rowP t r) l) := by
  by_cases h0 : t.val % 64 = 0
  · rw [outsAt0_A m c t h0]
    dsimp only
    rw [o_A]
    have s := Carries.start m c (seqAt t.val)
    rw [← h0] at s
    exact block_at m c t r l _ _ s
  · rw [outsAt0_B m c t h0]
    dsimp only
    rw [o_B]
    have s := carried m c (t.val - 1) (Nat.lt_of_le_of_lt (Nat.sub_le _ _) t.isLt)
    have e1 : seqAt (t.val - 1) = seqAt t.val := Fin.ext (by show (t.val - 1) / 64 % 2 = t.val / 64 % 2; omega)
    have e2 : (t.val - 1) % 64 + 1 = t.val % 64 := by omega
    rw [e1, e2] at s
    exact block_at m c t r l _ _ s

theorem cut_at (t : Fin cfg0.N) (x : Vec Ideal S128x2048 .bf16) (r : Fin 128) (f : Fin 2048) :
    (cfg0.win 10).cut (grid0.coords t) x (ix2 r f) = x (ix2 r f) := rfl

theorem emb_at (t : Fin cfg0.N) (r : Fin 128) (f : Fin 2048) : (win0_10.blk t).view.emb (ix2 r f) = ix2 (rowP t r) f := by
  have hv : (rowP t r).val = 128 * t.val + r.val := row_val t r
  obtain ⟨-, -, -, -, ⟨e0, e1⟩⟩ := at_point t
  funext a; apply Fin.ext
  match a with
  | ⟨0, _⟩ => show win0_10.index t 0 * 128 + 1 * r.val = (rowP t r).val; rw [e0, hv]; omega
  | ⟨1, _⟩ => show win0_10.index t 1 * 2048 + 1 * f.val = f.val; rw [e1]; omega

theorem flushed_eq (c : Dev nD) (t : Fin cfg0.N) :
    (dats m 0 c).flushed 10 t = (win0_10.blk t).view.read (Elt Ideal) (goal m c) := by
  funext j
  idx_vars j
  rw [Value.flushed10, View.read_apply]
  refine (cut_at t _ j0 j1).trans ((point_at m c t j0 j1).trans ?_)
  show _ = goal m c ((win0_10.blk t).view.emb (ix2 j0 j1))
  rw [emb_at t j0 j1]

theorem mem_blk (t : Fin cfg0.N) (i : S16384x2048.Idx) : i ∈ ((cfg0.win 10).blk t).view.set ↔
    ∀ a : Fin 2, win0_10.index t a * win0_10.size a ≤ (i a : Nat) ∧ (i a : Nat) < win0_10.index t a * win0_10.size a + win0_10.xsize (grid0.coords t) a := by
  show i ∈ ((View.whole main_v9).slice (win0_10.rect t)).set ↔ _
  rw [View.set_slice_whole, Rect.mem_set_unit]
  rfl

theorem cover (i : S16384x2048.Idx) : ∃ t : Fin cfg0.N, (cfg0.win 10).flush t = true ∧ i ∈ ((cfg0.win 10).blk t).view.set := by
  have hN : cfg0.N = 128 := N_0
  have hi0 : (i 0).val < 16384 := (i 0).isLt
  have hi1 : (i 1).val < 2048 := (i 1).isLt
  have ht : (i 0).val / 128 < cfg0.N := by omega
  refine ⟨⟨_, ht⟩, flush0_10 _, ?_⟩
  obtain ⟨-, -, -, -, ⟨h0, h1⟩⟩ := at_point ⟨_, ht⟩
  rw [mem_blk]
  intro a
  match a with
  | ⟨0, _⟩ =>
    show win0_10.index _ 0 * 128 ≤ (i 0 : Nat) ∧ (i 0 : Nat) < win0_10.index _ 0 * 128 + 128
    rw [h0]; dsimp only; omega
  | ⟨1, _⟩ =>
    show win0_10.index _ 1 * 2048 ≤ (i 1 : Nat) ∧ (i 1 : Nat) < win0_10.index _ 1 * 2048 + 2048
    rw [h1]; omega

theorem result (c : Dev nD) : (dats m 0 c).arrAt 10 cfg0.N = goal m c :=
  (dats m 0 c).arrAt_eq_of_cover 10 (goal m c) (fun t _ => flushed_eq m c t) cover

end Cert.SCoreVal

end
-- ==== Proof.SCoreRef.lean ====
module

public import proofs.«01_k».proof.Proof.SCoreMath
public import proofs.«01_k».proof.Proof.AttnVal
public import proofs.«01_k».proof.Proof.Gen.SCoreRefIdeal.Step
public import Idealize.ShloMosaic.Lib.Pointwise
public import Idealize.ShloMosaic.Lib.WordCmp

/-! One trip of the reference's loop, entry by entry: the state it hands on is the recurrence's next, and the rows it writes are the recurrence's. -/

@[expose] public section

set_option maxRecDepth 16384

noncomputable section

namespace Cert.SCoreRef

open Idealize.ShloMosaic Idealize.ShloMosaic.TcCoe Idealize.SL.Sem
open Cert.SCoreRefIdeal Cert.SCoreRefIdeal.Gen Cert.SCoreRefIdeal.Step Cert.Ssd Cert.AttnVal
open Cert.Rec (pre lastP)

variable (X : (⟨2, ![16384, 6272]⟩ : Shape).Idx → EReal) (W : (⟨2, ![4, 4096]⟩ : Shape).Idx → EReal) (B : (⟨1, ![4096]⟩ : Shape).Idx → EReal)
  (T : (⟨1, ![32]⟩ : Shape).Idx → EReal) (L : (⟨1, ![32]⟩ : Shape).Idx → EReal) (D : (⟨1, ![32]⟩ : Shape).Idx → EReal) (N : (⟨1, ![2048]⟩ : Shape).Idx → EReal)

/-- A column of a head. -/
def lc (h : Fin 32) (e : Fin 64) : Fin 2048 := ⟨64 * h.val + e.val, by omega⟩

/-- The state before trip `j` holds the recurrence's state before chunk `j`, and the trip reads the rows of that chunk. -/
structure At (j : ℕ) (s : State Ideal) : Prop where
  u : ∀ (a : Fin 2) (t : Fin 128) (l : Fin 4096), b4 j s (ix3 a t l) = uO X W B a j t l
  d : ∀ (a : Fin 2) (t : Fin 128) (h : Fin 32), b9 j s (ix3 a t h) = dtO X T a h j t
  z : ∀ (a : Fin 2) (t : Fin 128) (l : Fin 2048), b14 j s (ix3 a t l) = X (ix2 (rowN a (128 * j + t.val)) ⟨l.val, by omega⟩)
  al : ∀ h : Fin 32, s.main_v64_3 (ix1 h) = -Ideal.exp (L (ix1 h))
  skip : s.main_v64_5 = D
  gain : s.main_v64_6 = N
  s : ∀ (a : Fin 2) (h : Fin 32) (n : Fin 128) (e : Fin 64), s.main_v64_8 (ix4 a h n e) = sSt X W B T L a (lc h e) j n

theorem mask_words : ∀ t x : Fin 128, Scalar.select (IntOp.cmpi .sge (IntOp.addi (BitVec.ofNat 32 t.val) 0#32) (BitVec.ofNat 32 x.val)) 1#1 0#1 = if x.val ≤ t.val then 1#1 else 0#1 := by
  decide +kernel

theorem mask_at (t x : Fin 128) : K_main_v1 (F := Ideal) (ix2 t x) = if x.val ≤ t.val then 1#1 else 0#1 := by
  pointwise [K_main_v1, K_main_call0_v4, K_main_call0_v2, K_main_call0_v3, K_main_v0, K_main_call0_v5, K_main_c, K_main_call0_c_0, K_main_call0_v0, K_main_call0_v1, K_main_call0_c]
  exact mask_words t x

/-- The group of a head. -/
def gh (h : Fin 32) : Fin 8 := ⟨h.val / 4, by omega⟩

theorem hd_lc (h : Fin 32) (e : Fin 64) : hd (lc h e) = h := Fin.ext (by show (64 * h.val + e.val) / 64 = h.val; omega)
theorem gp_lc (h : Fin 32) (e : Fin 64) : gp (lc h e) = gh h := Fin.ext (by show (64 * h.val + e.val) / 256 = h.val / 4; omega)

section trip
variable {X W B T L D N} {j : ℕ} {s : State Ideal} (H : At X W B T L D N j s) (a : Fin 2) (h : Fin 32) (t x n : Fin 128) (e : Fin 64)
include H

theorem x_at : b17 j s (ix4 a h t e) = xO X W B a (lc h e) j t := by
  have e1 : b17 j s (ix4 a h t e) = b16 j s (ix4 a t h e) := by pointwise [b17]
  have e2 : b16 j s (ix4 a t h e) = b15 j s (ix3 a t (lc h e)) := by
    unfold b16
    exact shapeCast_apply _ shapeCasts_S2x128x2048_S2x128x32x64 (ix4 a t h e) (ix3 a t (lc h e))
      (by rw [Shape.rowMajor_val_three, Shape.rowMajor_val_four]; show (a.val * 128 + t.val) * 2048 + (64 * h.val + e.val) = ((a.val * 128 + t.val) * 32 + h.val) * 64 + e.val; omega)
  rw [e1, e2]
  pointwise [b15]
  rw [H.u]
  rfl
theorem bm_at : b23 j s (ix4 a h t n) = bO X W B a (gh h) j t n := by
  have e1 : b23 j s (ix4 a h t n) = b20 j s (ix4 a (gh h) t n) := by
    unfold b23
    refine (shapeCast_apply _ shapeCasts_S2x8x4x128x128_S2x32x128x128 (ix4 a h t n) (ix5 a (gh h) (⟨h.val % 4, by omega⟩ : Fin 4) t n)
      (by rw [Shape.rowMajor_val_four, Shape.rowMajor_val_five]; show (((a.val * 8 + h.val / 4) * 4 + h.val % 4) * 128 + t.val) * 128 + n.val = ((a.val * 32 + h.val) * 128 + t.val) * 128 + n.val; omega)).trans ?_
    pointwise [b22, b21]
  have e2 : b20 j s (ix4 a (gh h) t n) = b19 j s (ix4 a t (gh h) n) := by pointwise [b20]
  have e3 : b19 j s (ix4 a t (gh h) n) = b18 j s (ix3 a t (⟨128 * (gh h).val + n.val, by omega⟩ : Fin 1024)) := by
    unfold b19
    exact shapeCast_apply _ shapeCasts_S2x128x1024_S2x128x8x128 (ix4 a t (gh h) n) (ix3 a t (⟨128 * (gh h).val + n.val, by omega⟩ : Fin 1024))
      (by rw [Shape.rowMajor_val_three, Shape.rowMajor_val_four]; show (a.val * 128 + t.val) * 1024 + (128 * (gh h).val + n.val) = ((a.val * 128 + t.val) * 8 + (gh h).val) * 128 + n.val; omega)
  rw [e1, e2, e3]
  pointwise [b18]
  rw [H.u]
  unfold bO
  exact congrArg (fun l => uO X W B a j t l) (Fin.ext (by show 2048 + (128 * (gh h).val + n.val) = 2048 + 128 * (gh h).val + n.val; omega))
theorem cm_at : b29 j s (ix4 a h t n) = cO X W B a (gh h) j t n := by
  have e1 : b29 j s (ix4 a h t n) = b26 j s (ix4 a (gh h) t n) := by
    unfold b29
    refine (shapeCast_apply _ shapeCasts_S2x8x4x128x128_S2x32x128x128 (ix4 a h t n) (ix5 a (gh h) (⟨h.val % 4, by omega⟩ : Fin 4) t n)
      (by rw [Shape.rowMajor_val_four, Shape.rowMajor_val_five]; show (((a.val * 8 + h.val / 4) * 4 + h.val % 4) * 128 + t.val) * 128 + n.val = ((a.val * 32 + h.val) * 128 + t.val) * 128 + n.val; omega)).trans ?_
    pointwise [b28, b27]
  have e2 : b26 j s (ix4 a (gh h) t n) = b25 j s (ix4 a t (gh h) n) := by pointwise [b26]
  have e3 : b25 j s (ix4 a t (gh h) n) = b24 j s (ix3 a t (⟨128 * (gh h).val + n.val, by omega⟩ : Fin 1024)) := by
    unfold b25
    exact shapeCast_apply _ shapeCasts_S2x128x1024_S2x128x8x128 (ix4 a t (gh h) n) (ix3 a t (⟨128 * (gh h).val + n.val, by omega⟩ : Fin 1024))
      (by rw [Shape.rowMajor_val_three, Shape.rowMajor_val_four]; show (a.val * 128 + t.val) * 1024 + (128 * (gh h).val + n.val) = ((a.val * 128 + t.val) * 8 + (gh h).val) * 128 + n.val; omega)
  rw [e1, e2, e3]
  pointwise [b24]
  rw [H.u]
  unfold cO
  exact congrArg (fun l => uO X W B a j t l) (Fin.ext (by show 3072 + (128 * (gh h).val + n.val) = 3072 + 128 * (gh h).val + n.val; omega))
theorem d_at : b30 j s (ix3 a h t) = dtO X T a h j t := by
  pointwise [b30]
  rw [H.d]
theorem da_at : b34 j s (ix3 a h t) = dtO X T a h j t * -Ideal.exp (L (ix1 h)) := by
  pointwise [b31, b32, b33, b34]
  rw [d_at H, H.al]
theorem cum_at : b43 j s (ix3 a h t) = cumO X T L a h j t := by
  pointwise [b35, b36, b37, b38, b39, b40, b41, b42, b43]
  unfold cumO pre
  refine Finset.sum_congr rfl fun x _ => ?_
  rw [mask_at, sel_if, da_at H]
theorem last_at : b45 j s (ix2 a h) = cumO X T L a h j lastP := by
  pointwise [b44, b45]
  exact cum_at H a h lastP
theorem dec_at : b56 j s (ix4 a h t x) = dec (cumO X T L a h j) t x := by
  pointwise [b46, b47, b48, b49, b50, b51, b52, b53, b54, b55, b56]
  rw [mask_at, sel_if, cum_at H, cum_at H, bits_bot]
  rfl
theorem xd_at : b59 j s (ix4 a h t e) = xO X W B a (lc h e) j t * dtO X T a h j t := by
  pointwise [b57, b58, b59]
  rw [x_at H, d_at H]
theorem w_at : b61 j s (ix4 a h t x) = (∑ n : Fin 128, cO X W B a (gh h) j t n * bO X W B a (gh h) j x n) * dec (cumO X T L a h j) t x := by
  pointwise [b60, b61]
  rw [dec_at H]
  simp only [bm_at H, cm_at H]
theorem y_at : b81 j s (ix4 a h t e) = yCol (cumO X T L a h j) (dtO X T a h j) (bO X W B a (gh h) j) (cO X W B a (gh h) j) (xO X W B a (lc h e) j) (sSt X W B T L a (lc h e) j) t := by
  pointwise [b62, b63, b64, b65, b66, b67, b81]
  rw [cum_at H]
  simp only [w_at H, xd_at H, cm_at H, H.s]
  rfl
theorem st_at : b80 j s (ix4 a h n e) = sSt X W B T L a (lc h e) (j + 1) n := by
  pointwise [b68, b69, b70, b71, b72, b73, b74, b75, b76, b77, b78, b79, b80]
  simp only [xd_at H, bm_at H, last_at H, cum_at H, H.s]
  have e1 : sSt X W B T L a (lc h e) (j + 1) = sCol (cumO X T L a (hd (lc h e)) j) (dtO X T a (hd (lc h e)) j) (bO X W B a (gp (lc h e)) j) (xO X W B a (lc h e) j)
      (sSt X W B T L a (lc h e) j) := rfl
  rw [e1, hd_lc, gp_lc]
  rfl
theorem ys_at : b86 j s (ix4 a h t e) = yCol (cumO X T L a h j) (dtO X T a h j) (bO X W B a (gh h) j) (cO X W B a (gh h) j) (xO X W B a (lc h e) j) (sSt X W B T L a (lc h e) j) t
    + D (ix1 h) * xO X W B a (lc h e) j t := by
  pointwise [b82, b83, b84, b85, b86]
  rw [y_at H, x_at H, H.skip]
theorem gate_at (l : Fin 2048) : b98 j s (ix3 a t l) = yO X W B T L D a j t l := by
  have el : lc (hd l) ⟨l.val % 64, Nat.mod_lt _ (by omega)⟩ = l := Fin.ext (by show 64 * (l.val / 64) + l.val % 64 = l.val; omega)
  have eg : gh (hd l) = gp l := Fin.ext (by show l.val / 64 / 4 = l.val / 256; omega)
  have e1 : b88 j s (ix3 a t l) = b86 j s (ix4 a (hd l) t ⟨l.val % 64, Nat.mod_lt _ (by omega)⟩) := by
    unfold b88
    refine (shapeCast_apply _ shapeCasts_S2x128x32x64_S2x128x2048 (ix3 a t l) (ix4 a t (hd l) (⟨l.val % 64, Nat.mod_lt _ (by omega)⟩ : Fin 64))
      (by rw [Shape.rowMajor_val_three, Shape.rowMajor_val_four]; show ((a.val * 128 + t.val) * 32 + l.val / 64) * 64 + l.val % 64 = (a.val * 128 + t.val) * 2048 + l.val; omega)).trans ?_
    pointwise [b87]
  pointwise [b89, b90, b91, b92, b93, b94, b95, b96, b97, b98]
  rw [e1, ys_at H, H.z, el, eg]
  rfl
theorem row_at (g : Fin 8) (f : Fin 256) (l : Fin 2048) (hl : l.val = 256 * g.val + f.val) : b117 j s (ix3 a t l) = outO X W B T L D N a j t g f := by
  have e1 : b117 j s (ix3 a t l) = b116 j s (ix4 a t g f) := by
    unfold b117
    exact shapeCast_apply _ shapeCasts_S2x128x8x256_S2x128x2048 (ix3 a t l) (ix4 a t g f)
      (by rw [Shape.rowMajor_val_three, Shape.rowMajor_val_four]; show ((a.val * 128 + t.val) * 8 + g.val) * 256 + f.val = (a.val * 128 + t.val) * 2048 + l.val; omega)
  have e2 : ∀ f : Fin 256, b99 j s (ix4 a t g f) = yO X W B T L D a j t ⟨256 * g.val + f.val, by omega⟩ := by
    intro f
    rw [← gate_at H]
    unfold b99
    exact shapeCast_apply _ shapeCasts_S2x128x2048_S2x128x8x256 (ix4 a t g f) (ix3 a t (⟨256 * g.val + f.val, by omega⟩ : Fin 2048))
      (by rw [Shape.rowMajor_val_three, Shape.rowMajor_val_four]; show (a.val * 128 + t.val) * 2048 + (256 * g.val + f.val) = ((a.val * 128 + t.val) * 8 + g.val) * 256 + f.val; omega)
  have e3 : b100 j s (ix2 g f) = N (ix1 ⟨256 * g.val + f.val, by omega⟩) := by
    rw [← H.gain]
    unfold b100
    exact shapeCast_apply _ shapeCasts_S2048_S8x256 (ix2 g f) (ix1 (⟨256 * g.val + f.val, by omega⟩ : Fin 2048))
      (by rw [Shape.rowMajor_val_one, Shape.rowMajor_val_two]; show 256 * g.val + f.val = g.val * 256 + f.val; omega)
  rw [e1]
  pointwise [b101, b102, b103, b104, b105, b106, b107, b108, b109, b110, b111, b112, b113, b114, b115, b116]
  simp only [e2, e3]
  rfl

end trip

end Cert.SCoreRef

end
-- ==== Proof.SCoreFeed.lean ====
module

public import proofs.«01_k».proof.Proof.SCoreRef
public import Idealize.ShloMosaic.Lib.KernelVsHost

/-! What the reference's trips are handed, and what they leave: the convolved columns, the step sizes and the gate's columns chunk by chunk, and the rows written. -/

@[expose] public section

set_option maxRecDepth 16384

noncomputable section

namespace Cert.SCoreRef

open Idealize.ShloMosaic Idealize.ShloMosaic.TcCoe Idealize.SL.Sem
open Idealize.ShloMosaic.WordCmp
open Cert.SCoreRefIdeal Cert.SCoreRefIdeal.Gen Cert.SCoreRefIdeal.Step Cert.Ssd

section feed
variable (X : (⟨2, ![16384, 6272]⟩ : Shape).Idx → EReal) (W : (⟨2, ![4, 4096]⟩ : Shape).Idx → EReal) (B : (⟨1, ![4096]⟩ : Shape).Idx → EReal)
  (T : (⟨1, ![32]⟩ : Shape).Idx → EReal) (L : (⟨1, ![32]⟩ : Shape).Idx → EReal) (D : (⟨1, ![32]⟩ : Shape).Idx → EReal) (N : (⟨1, ![2048]⟩ : Shape).Idx → EReal)
variable (a : Fin 2) (p : Fin 8192)

theorem v2_at (l : Fin 6272) : A_main_v2 (F := Ideal) X W B T L (ix3 a p l) = X (ix2 (rowN a p.val) l) := by
  have ha := a.isLt
  have hp := p.isLt
  unfold A_main_v2
  exact shapeCast_apply _ shapeCasts_S16384x6272_S2x8192x6272 (ix3 a p l) (ix2 (rowN a p.val) l)
    (by rw [Shape.rowMajor_val_two, Shape.rowMajor_val_three]; show (8192 * a.val + p.val) % 16384 * 6272 + l.val = (a.val * 8192 + p.val) * 6272 + l.val; omega)

theorem v3_at (l : Fin 4096) : A_main_v3 (F := Ideal) X W B T L (ix3 a p l) = X (ix2 (rowN a p.val) ⟨2048 + l.val, by omega⟩) := by
  unfold A_main_v3 extractStridedSlice
  refine Eq.trans (congrArg (A_main_v2 (F := Ideal) X W B T L) (funext fun k => Fin.ext ?_)) (v2_at X W B T L a p _)
  match k with
  | ⟨0, _⟩ => show 0 + a.val = a.val; omega
  | ⟨1, _⟩ => show 0 + p.val = p.val; omega
  | ⟨2, _⟩ => rfl

theorem fill_zero : K_main_call1_v0 (F := Ideal) (Shape.Idx.first h_S_) = 0 := by
  unfold K_main_call1_v0 K_main_c_0
  show (((0#32 : BitVec 32).toInt : ℝ) : EReal) = 0
  simp

theorem v4_at (p : Fin 8195) (l : Fin 4096) : A_main_v4 (F := Ideal) X W B T L (ix3 a p l) = raw X a p.val l := by
  have hp := p.isLt
  unfold A_main_v4 raw
  by_cases h : p.val < 3
  · rw [if_pos h]
    refine (pad_apply_of_not_inside _ _ _ _ _ _ _ (ix3 a p l) (1 : Fin 3) fun hh => ?_).trans fill_zero
    have h3 : 3 ≤ p.val := hh.1
    omega
  · rw [if_neg h]
    refine (pad_apply_of_inside _ _ _ _ _ _ _ (ix3 a p l) (ix3 a (⟨p.val - 3, by omega⟩ : Fin 8192) l) fun k => ?_).trans (v3_at X W B T L a _ l)
    match k with
    | ⟨0, _⟩ => show a.val = 0 + a.val * (0 + 1); omega
    | ⟨1, _⟩ => show p.val = 3 + (p.val - 3) * (0 + 1); omega
    | ⟨2, _⟩ => show l.val = 0 + l.val * (0 + 1); omega

theorem w0_at (l : Fin 4096) : A_main_v6 (F := Ideal) X W B T L (ix1 l) = W (ix2 0 l) := by
  unfold A_main_v6
  refine (shapeCast_apply _ shapeCasts_S1x4096_S4096 (ix1 l) (ix2 0 l) (by rw [Shape.rowMajor_val_two, Shape.rowMajor_val_one]; show 0 * 4096 + l.val = l.val; omega)).trans ?_
  unfold A_main_v5 extractStridedSlice
  refine congrArg W (funext fun k => Fin.ext ?_)
  match k with
  | ⟨0, _⟩ => rfl
  | ⟨1, _⟩ => show 0 + l.val = l.val; omega
theorem t0_at (l : Fin 4096) : A_main_v7 (F := Ideal) X W B T L (ix3 a p l) = raw X a (p.val + 0) l := by
  unfold A_main_v7 extractStridedSlice
  refine Eq.trans (congrArg (A_main_v4 (F := Ideal) X W B T L) (funext fun k => Fin.ext ?_)) (v4_at X W B T L a (⟨p.val + 0, by omega⟩ : Fin 8195) l)
  match k with
  | ⟨0, _⟩ => show 0 + a.val = a.val; omega
  | ⟨1, _⟩ => show 0 + p.val = p.val + 0; omega
  | ⟨2, _⟩ => show 0 + l.val = l.val; omega

theorem w1_at (l : Fin 4096) : A_main_v15 (F := Ideal) X W B T L (ix1 l) = W (ix2 1 l) := by
  unfold A_main_v15
  refine (shapeCast_apply _ shapeCasts_S1x4096_S4096 (ix1 l) (ix2 0 l) (by rw [Shape.rowMajor_val_two, Shape.rowMajor_val_one]; show 0 * 4096 + l.val = l.val; omega)).trans ?_
  unfold A_main_v14 extractStridedSlice
  refine congrArg W (funext fun k => Fin.ext ?_)
  match k with
  | ⟨0, _⟩ => rfl
  | ⟨1, _⟩ => show 0 + l.val = l.val; omega
theorem t1_at (l : Fin 4096) : A_main_v16 (F := Ideal) X W B T L (ix3 a p l) = raw X a (p.val + 1) l := by
  unfold A_main_v16 extractStridedSlice
  refine Eq.trans (congrArg (A_main_v4 (F := Ideal) X W B T L) (funext fun k => Fin.ext ?_)) (v4_at X W B T L a (⟨p.val + 1, by omega⟩ : Fin 8195) l)
  match k with
  | ⟨0, _⟩ => show 0 + a.val = a.val; omega
  | ⟨1, _⟩ => show 1 + p.val = p.val + 1; omega
  | ⟨2, _⟩ => show 0 + l.val = l.val; omega

theorem w2_at (l : Fin 4096) : A_main_v22 (F := Ideal) X W B T L (ix1 l) = W (ix2 2 l) := by
  unfold A_main_v22
  refine (shapeCast_apply _ shapeCasts_S1x4096_S4096 (ix1 l) (ix2 0 l) (by rw [Shape.rowMajor_val_two, Shape.rowMajor_val_one]; show 0 * 4096 + l.val = l.val; omega)).trans ?_
  unfold A_main_v21 extractStridedSlice
  refine congrArg W (funext fun k => Fin.ext ?_)
  match k with
  | ⟨0, _⟩ => rfl
  | ⟨1, _⟩ => show 0 + l.val = l.val; omega
theorem t2_at (l : Fin 4096) : A_main_v23 (F := Ideal) X W B T L (ix3 a p l) = raw X a (p.val + 2) l := by
  unfold A_main_v23 extractStridedSlice
  refine Eq.trans (congrArg (A_main_v4 (F := Ideal) X W B T L) (funext fun k => Fin.ext ?_)) (v4_at X W B T L a (⟨p.val + 2, by omega⟩ : Fin 8195) l)
  match k with
  | ⟨0, _⟩ => show 0 + a.val = a.val; omega
  | ⟨1, _⟩ => show 2 + p.val = p.val + 2; omega
  | ⟨2, _⟩ => show 0 + l.val = l.val; omega

theorem w3_at (l : Fin 4096) : A_main_v29 (F := Ideal) X W B T L (ix1 l) = W (ix2 3 l) := by
  unfold A_main_v29
  refine (shapeCast_apply _ shapeCasts_S1x4096_S4096 (ix1 l) (ix2 0 l) (by rw [Shape.rowMajor_val_two, Shape.rowMajor_val_one]; show 0 * 4096 + l.val = l.val; omega)).trans ?_
  unfold A_main_v28 extractStridedSlice
  refine congrArg W (funext fun k => Fin.ext ?_)
  match k with
  | ⟨0, _⟩ => rfl
  | ⟨1, _⟩ => show 0 + l.val = l.val; omega
theorem t3_at (l : Fin 4096) : A_main_v30 (F := Ideal) X W B T L (ix3 a p l) = raw X a (p.val + 3) l := by
  unfold A_main_v30 extractStridedSlice
  refine Eq.trans (congrArg (A_main_v4 (F := Ideal) X W B T L) (funext fun k => Fin.ext ?_)) (v4_at X W B T L a (⟨p.val + 3, by omega⟩ : Fin 8195) l)
  match k with
  | ⟨0, _⟩ => show 0 + a.val = a.val; omega
  | ⟨1, _⟩ => show 3 + p.val = p.val + 3; omega
  | ⟨2, _⟩ => show 0 + l.val = l.val; omega

theorem conv_at (l : Fin 4096) : A_main_v34 (F := Ideal) X W B T L (ix3 a p l) = conv X W B a p.val l := by
  pointwise [A_main_v8, A_main_v9, A_main_v10, A_main_v11, A_main_v12, A_main_v13, A_main_v17, A_main_v18, A_main_v19, A_main_v20, A_main_v24, A_main_v25, A_main_v26, A_main_v27,
    A_main_v31, A_main_v32, A_main_v33, A_main_v34]
  rw [w0_at, w1_at, w2_at, w3_at, t0_at, t1_at, t2_at, t3_at]
  rfl
theorem u_at (l : Fin 4096) : A_main_v41 (F := Ideal) X W B T L (ix3 a p l) = silu (conv X W B a p.val l) := by
  pointwise [A_main_v35, A_main_v36, A_main_v38, A_main_v40, A_main_v41, K_main_v37, K_main_v39, K_main_cst, K_main_cst_1]
  rw [conv_at]
  rfl
theorem v42_at (h : Fin 32) : A_main_v42 (F := Ideal) X W B T L (ix3 a p h) = X (ix2 (rowN a p.val) ⟨6144 + h.val, by omega⟩) := by
  unfold A_main_v42 extractStridedSlice
  refine Eq.trans (congrArg (A_main_v2 (F := Ideal) X W B T L) (funext fun k => Fin.ext ?_)) (v2_at X W B T L a p _)
  match k with
  | ⟨0, _⟩ => show 0 + a.val = a.val; omega
  | ⟨1, _⟩ => show 0 + p.val = p.val; omega
  | ⟨2, _⟩ => rfl
theorem dt_at (h : Fin 32) : A_main_v52 (F := Ideal) X W B T L (ix3 a p h) = splus (X (ix2 (rowN a p.val) ⟨6144 + h.val, by omega⟩) + T (ix1 h)) := by
  have e : A_main_v45 (F := Ideal) X W B T L (ix3 a p h) = X (ix2 (rowN a p.val) ⟨6144 + h.val, by omega⟩) + T (ix1 h) := by
    pointwise [A_main_v43, A_main_v44, A_main_v45]
    rw [v42_at]
  pointwise [A_main_v47, A_main_v48, A_main_v49, A_main_v50, A_main_v51, A_main_v52, K_main_v46, K_main_cst_2]
  rw [e, Ideal.absf_def]
  rfl
theorem v60_at (l : Fin 2048) : A_main_v60 (F := Ideal) X W B T L (ix3 a p l) = X (ix2 (rowN a p.val) ⟨l.val, by omega⟩) := by
  unfold A_main_v60 extractStridedSlice
  refine Eq.trans (congrArg (A_main_v2 (F := Ideal) X W B T L) (funext fun k => Fin.ext ?_)) (v2_at X W B T L a p _)
  match k with
  | ⟨0, _⟩ => show 0 + a.val = a.val; omega
  | ⟨1, _⟩ => show 0 + p.val = p.val; omega
  | ⟨2, _⟩ => show 0 + l.val = l.val; omega

theorem rows_u (n : Fin 64) (t : Fin 128) (l : Fin 4096) :
    A_main_v57 (F := Ideal) X W B T L (ix4 n a t l) = A_main_v41 (F := Ideal) X W B T L (ix3 a (⟨128 * n.val + t.val, by omega⟩ : Fin 8192) l) := by
  have e : A_main_v57 (F := Ideal) X W B T L (ix4 n a t l) = A_main_v56 (F := Ideal) X W B T L (ix4 a n t l) := by
    pointwise [A_main_v57]
  rw [e]
  unfold A_main_v56
  exact shapeCast_apply _ shapeCasts_S2x8192x4096_S2x64x128x4096 (ix4 a n t l) (ix3 a (⟨128 * n.val + t.val, by omega⟩ : Fin 8192) l)
    (by rw [Shape.rowMajor_val_three, Shape.rowMajor_val_four]; show (a.val * 8192 + (128 * n.val + t.val)) * 4096 + l.val = ((a.val * 64 + n.val) * 128 + t.val) * 4096 + l.val; omega)

theorem rows_d (n : Fin 64) (t : Fin 128) (l : Fin 32) :
    A_main_v59 (F := Ideal) X W B T L (ix4 n a t l) = A_main_v52 (F := Ideal) X W B T L (ix3 a (⟨128 * n.val + t.val, by omega⟩ : Fin 8192) l) := by
  have e : A_main_v59 (F := Ideal) X W B T L (ix4 n a t l) = A_main_v58 (F := Ideal) X W B T L (ix4 a n t l) := by
    pointwise [A_main_v59]
  rw [e]
  unfold A_main_v58
  exact shapeCast_apply _ shapeCasts_S2x8192x32_S2x64x128x32 (ix4 a n t l) (ix3 a (⟨128 * n.val + t.val, by omega⟩ : Fin 8192) l)
    (by rw [Shape.rowMajor_val_three, Shape.rowMajor_val_four]; show (a.val * 8192 + (128 * n.val + t.val)) * 32 + l.val = ((a.val * 64 + n.val) * 128 + t.val) * 32 + l.val; omega)

theorem rows_z (n : Fin 64) (t : Fin 128) (l : Fin 2048) :
    A_main_v62 (F := Ideal) X W B T L (ix4 n a t l) = A_main_v60 (F := Ideal) X W B T L (ix3 a (⟨128 * n.val + t.val, by omega⟩ : Fin 8192) l) := by
  have e : A_main_v62 (F := Ideal) X W B T L (ix4 n a t l) = A_main_v61 (F := Ideal) X W B T L (ix4 a n t l) := by
    pointwise [A_main_v62]
  rw [e]
  unfold A_main_v61
  exact shapeCast_apply _ shapeCasts_S2x8192x2048_S2x64x128x2048 (ix4 a n t l) (ix3 a (⟨128 * n.val + t.val, by omega⟩ : Fin 8192) l)
    (by rw [Shape.rowMajor_val_three, Shape.rowMajor_val_four]; show (a.val * 8192 + (128 * n.val + t.val)) * 2048 + l.val = ((a.val * 64 + n.val) * 128 + t.val) * 2048 + l.val; omega)

theorem al_at (h : Fin 32) : A_main_v54 (F := Ideal) X W B T L (ix1 h) = -Ideal.exp (L (ix1 h)) := by
  pointwise [A_main_v53, A_main_v54]

end feed

section iterate
variable (X : (⟨2, ![16384, 6272]⟩ : Shape).Idx → EReal) (W : (⟨2, ![4, 4096]⟩ : Shape).Idx → EReal) (B : (⟨1, ![4096]⟩ : Shape).Idx → EReal)
  (T : (⟨1, ![32]⟩ : Shape).Idx → EReal) (L : (⟨1, ![32]⟩ : Shape).Idx → EReal) (D : (⟨1, ![32]⟩ : Shape).Idx → EReal) (N : (⟨1, ![2048]⟩ : Shape).Idx → EReal)

/-- The reference's states, trip after trip. -/
def iter : ℕ → State Ideal
  | 0 => init D N X W B T L
  | n + 1 => step n (iter n)

theorem iter_u : ∀ n, (iter X W B T L D N n).main_v64_0 = A_main_v57 (F := Ideal) X W B T L
  | 0 => rfl
  | n + 1 => iter_u n
theorem iter_d : ∀ n, (iter X W B T L D N n).main_v64_1 = A_main_v59 (F := Ideal) X W B T L
  | 0 => rfl
  | n + 1 => iter_d n
theorem iter_z : ∀ n, (iter X W B T L D N n).main_v64_2 = A_main_v62 (F := Ideal) X W B T L
  | 0 => rfl
  | n + 1 => iter_z n
theorem iter_al : ∀ n, (iter X W B T L D N n).main_v64_3 = A_main_v54 (F := Ideal) X W B T L
  | 0 => rfl
  | n + 1 => iter_al n
theorem iter_skip : ∀ n, (iter X W B T L D N n).main_v64_5 = D
  | 0 => rfl
  | n + 1 => iter_skip n
theorem iter_gain : ∀ n, (iter X W B T L D N n).main_v64_6 = N
  | 0 => rfl
  | n + 1 => iter_gain n

theorem start_at (n : ℕ) (hn : n < 64) (y0 y1 y2 : (⟨S_, .i32⟩ : BufTy).Contents (Elt Ideal)) (e0 : y0 = constantI S_ 32 0#32) (e1 : y1 = constantI S_ 32 0#32)
    (e2 : y2 = constantI S_ 32 0#32) (k : Fin 4) :
    ((![(constantI S_ 32 (BitVec.ofNat 32 n) : (⟨S_, .i32⟩ : BufTy).Contents (Elt Ideal)), y0, y1, y2] : Fin 4 → (⟨S_, .i32⟩ : BufTy).Contents (Elt Ideal)) k
      (Shape.Idx.first h_S_)).toInt = ((![n, 0, 0, 0] : Fin 4 → ℕ) k : Int) := by
  subst e0 e1 e2
  match k with
  | ⟨0, _⟩ => show (BitVec.ofNat 32 n).toInt = (n : Int); exact toInt_ofNat_of_lt (by omega)
  | ⟨1, _⟩ => rfl
  | ⟨2, _⟩ => rfl
  | ⟨3, _⟩ => rfl

theorem slices_u (n : ℕ) (hn : n < 64) : S64x2x128x4096.Slices ![n, 0, 0, 0] S1x2x128x4096 :=
  ⟨rfl, fun a => by
    match a with
    | ⟨0, _⟩ => show n + 1 ≤ 64; omega
    | ⟨1, _⟩ => show 0 + 2 ≤ 2; omega
    | ⟨2, _⟩ => show 0 + 128 ≤ 128; omega
    | ⟨3, _⟩ => show 0 + 4096 ≤ 4096; omega⟩
theorem chunk_u (n : ℕ) (hn : n < 64) (s : State Ideal) (a : Fin 2) (t : Fin 128) (l : Fin 4096) : b4 n s (ix3 a t l) = s.main_v64_0 (ix4 ⟨n, hn⟩ a t l) := by
  unfold b4
  refine (shapeCast_apply _ shapeCasts_S1x2x128x4096_S2x128x4096 (ix3 a t l) (ix4 0 a t l)
    (by rw [Shape.rowMajor_val_three, Shape.rowMajor_val_four]; show ((0 * 2 + a.val) * 128 + t.val) * 4096 + l.val = (a.val * 128 + t.val) * 4096 + l.val; omega)).trans ?_
  unfold b3
  rw [dynamicSlice_eq_extract _ _ _ _ ![n, 0, 0, 0] (slices_u n hn) (start_at n hn _ _ _ rfl rfl rfl)]
  unfold extractStridedSlice
  refine congrArg s.main_v64_0 (funext fun k => Fin.ext ?_)
  match k with
  | ⟨0, _⟩ => show n + 0 = n; omega
  | ⟨1, _⟩ => show 0 + a.val = a.val; omega
  | ⟨2, _⟩ => show 0 + t.val = t.val; omega
  | ⟨3, _⟩ => show 0 + l.val = l.val; omega

theorem slices_d (n : ℕ) (hn : n < 64) : S64x2x128x32.Slices ![n, 0, 0, 0] S1x2x128x32 :=
  ⟨rfl, fun a => by
    match a with
    | ⟨0, _⟩ => show n + 1 ≤ 64; omega
    | ⟨1, _⟩ => show 0 + 2 ≤ 2; omega
    | ⟨2, _⟩ => show 0 + 128 ≤ 128; omega
    | ⟨3, _⟩ => show 0 + 32 ≤ 32; omega⟩
theorem chunk_d (n : ℕ) (hn : n < 64) (s : State Ideal) (a : Fin 2) (t : Fin 128) (l : Fin 32) : b9 n s (ix3 a t l) = s.main_v64_1 (ix4 ⟨n, hn⟩ a t l) := by
  unfold b9
  refine (shapeCast_apply _ shapeCasts_S1x2x128x32_S2x128x32 (ix3 a t l) (ix4 0 a t l)
    (by rw [Shape.rowMajor_val_three, Shape.rowMajor_val_four]; show ((0 * 2 + a.val) * 128 + t.val) * 32 + l.val = (a.val * 128 + t.val) * 32 + l.val; omega)).trans ?_
  unfold b8
  rw [dynamicSlice_eq_extract _ _ _ _ ![n, 0, 0, 0] (slices_d n hn) (start_at n hn _ _ _ rfl rfl rfl)]
  unfold extractStridedSlice
  refine congrArg s.main_v64_1 (funext fun k => Fin.ext ?_)
  match k with
  | ⟨0, _⟩ => show n + 0 = n; omega
  | ⟨1, _⟩ => show 0 + a.val = a.val; omega
  | ⟨2, _⟩ => show 0 + t.val = t.val; omega
  | ⟨3, _⟩ => show 0 + l.val = l.val; omega

theorem slices_z (n : ℕ) (hn : n < 64) : S64x2x128x2048.Slices ![n, 0, 0, 0] S1x2x128x2048 :=
  ⟨rfl, fun a => by
    match a with
    | ⟨0, _⟩ => show n + 1 ≤ 64; omega
    | ⟨1, _⟩ => show 0 + 2 ≤ 2; omega
    | ⟨2, _⟩ => show 0 + 128 ≤ 128; omega
    | ⟨3, _⟩ => show 0 + 2048 ≤ 2048; omega⟩
theorem chunk_z (n : ℕ) (hn : n < 64) (s : State Ideal) (a : Fin 2) (t : Fin 128) (l : Fin 2048) : b14 n s (ix3 a t l) = s.main_v64_2 (ix4 ⟨n, hn⟩ a t l) := by
  unfold b14
  refine (shapeCast_apply _ shapeCasts_S1x2x128x2048_S2x128x2048 (ix3 a t l) (ix4 0 a t l)
    (by rw [Shape.rowMajor_val_three, Shape.rowMajor_val_four]; show ((0 * 2 + a.val) * 128 + t.val) * 2048 + l.val = (a.val * 128 + t.val) * 2048 + l.val; omega)).trans ?_
  unfold b13
  rw [dynamicSlice_eq_extract _ _ _ _ ![n, 0, 0, 0] (slices_z n hn) (start_at n hn _ _ _ rfl rfl rfl)]
  unfold extractStridedSlice
  refine congrArg s.main_v64_2 (funext fun k => Fin.ext ?_)
  match k with
  | ⟨0, _⟩ => show n + 0 = n; omega
  | ⟨1, _⟩ => show 0 + a.val = a.val; omega
  | ⟨2, _⟩ => show 0 + t.val = t.val; omega
  | ⟨3, _⟩ => show 0 + l.val = l.val; omega

theorem written_at (n : ℕ) (hn : n < 64) (s : State Ideal) (i : Fin 64) (a : Fin 2) (t : Fin 128) (l : Fin 2048) :
    b122 n s (ix4 i a t l) = if i.val = n then b117 n s (ix3 a t l) else s.main_v64_9 (ix4 i a t l) := by
  unfold b122
  rw [dynamicUpdateSlice_eq_update _ _ _ _ ![n, 0, 0, 0] (slices_z n hn) (start_at n hn _ _ _ rfl rfl rfl)]
  unfold updateSlice
  by_cases h : i.val = n
  · have hin : ∀ k : Fin 4, (![n, 0, 0, 0] : Fin 4 → ℕ) k ≤ ((ix4 i a t l : S64x2x128x2048.Idx) k).val
        ∧ ((ix4 i a t l : S64x2x128x2048.Idx) k).val < (![n, 0, 0, 0] : Fin 4 → ℕ) k + S1x2x128x2048.size (k.cast rfl) := by
      intro k
      match k with
      | ⟨0, _⟩ => show n ≤ i.val ∧ i.val < n + 1; omega
      | ⟨1, _⟩ => show 0 ≤ a.val ∧ a.val < 0 + 2; omega
      | ⟨2, _⟩ => show 0 ≤ t.val ∧ t.val < 0 + 128; omega
      | ⟨3, _⟩ => show 0 ≤ l.val ∧ l.val < 0 + 2048; omega
    rw [if_pos h]
    refine (dif_pos hin).trans ?_
    have e : b118 n s (ix4 0 a t l) = b117 n s (ix3 a t l) := by pointwise [b118]
    refine Eq.trans (congrArg (b118 n s) (funext fun k => Fin.ext ?_)) e
    match k with
    | ⟨0, _⟩ => show i.val - n = 0; omega
    | ⟨1, _⟩ => show a.val - 0 = a.val; omega
    | ⟨2, _⟩ => show t.val - 0 = t.val; omega
    | ⟨3, _⟩ => show l.val - 0 = l.val; omega
  · rw [if_neg h]
    refine dif_neg fun hin => h ?_
    have h0 : n ≤ i.val ∧ i.val < n + 1 := hin (0 : Fin 4)
    omega

theorem feed_u (n : ℕ) (hn : n < 64) (a : Fin 2) (t : Fin 128) (l : Fin 4096) : b4 n (iter X W B T L D N n) (ix3 a t l) = uO X W B a n t l := by
  rw [chunk_u n hn, iter_u, rows_u, u_at]
  rfl
theorem feed_d (n : ℕ) (hn : n < 64) (a : Fin 2) (t : Fin 128) (h : Fin 32) : b9 n (iter X W B T L D N n) (ix3 a t h) = dtO X T a h n t := by
  rw [chunk_d n hn, iter_d, rows_d, dt_at]
  rfl
theorem feed_z (n : ℕ) (hn : n < 64) (a : Fin 2) (t : Fin 128) (l : Fin 2048) : b14 n (iter X W B T L D N n) (ix3 a t l) = X (ix2 (rowN a (128 * n + t.val)) ⟨l.val, by omega⟩) := by
  rw [chunk_z n hn, iter_z, rows_z, v60_at]
theorem feed_al (n : ℕ) (h : Fin 32) : (iter X W B T L D N n).main_v64_3 (ix1 h) = -Ideal.exp (L (ix1 h)) := by
  rw [iter_al, al_at]

theorem at_iter : ∀ n, n < 64 → At X W B T L D N n (iter X W B T L D N n)
  | 0, hn => by
    refine ⟨feed_u X W B T L D N 0 hn, feed_d X W B T L D N 0 hn, feed_z X W B T L D N 0 hn, feed_al X W B T L D N 0, iter_skip X W B T L D N 0, iter_gain X W B T L D N 0, fun a h n e => ?_⟩
    show K_main_v55 (F := Ideal) (ix4 a h n e) = 0
    pointwise [K_main_v55, K_main_cst_3]
  | n + 1, hn => by
    have H := at_iter n (by omega)
    exact ⟨feed_u X W B T L D N _ hn, feed_d X W B T L D N _ hn, feed_z X W B T L D N _ hn, feed_al X W B T L D N _, iter_skip X W B T L D N _, iter_gain X W B T L D N _,
      fun a h n e => st_at H a h n e⟩

/-- After `n` trips the rows of the first `n` chunks are written. -/
theorem stack_at : ∀ n, n ≤ 64 → ∀ (i : Fin 64) (a : Fin 2) (t : Fin 128) (l : Fin 2048) (g : Fin 8) (e : Fin 256), l.val = 256 * g.val + e.val → i.val < n →
    (iter X W B T L D N n).main_v64_9 (ix4 i a t l) = outO X W B T L D N a i.val t g e
  | 0, _, i, _, _, _, _, _, _, hi => absurd hi (Nat.not_lt_zero _)
  | n + 1, hn, i, a, t, l, g, e, hl, hi => by
    show b122 n (iter X W B T L D N n) (ix4 i a t l) = _
    rw [written_at n (by omega)]
    by_cases hin : i.val = n
    · rw [if_pos hin, row_at (at_iter X W B T L D N n (by omega)) a t g e l hl, hin]
    · rw [if_neg hin]
      exact stack_at n (by omega) i a t l g e hl (by omega)

theorem rows_out (i : Fin 16384) (l : Fin 2048) :
    R_main_v67 (iter X W B T L D N 64) (ix2 i l) = outO X W B T L D N ⟨i.val / 8192, by omega⟩ (i.val % 8192 / 128) ⟨i.val % 128, Nat.mod_lt _ (by omega)⟩ ⟨l.val / 256, by omega⟩
      ⟨l.val % 256, Nat.mod_lt _ (by omega)⟩ := by
  have hi := i.isLt
  have hl := l.isLt
  have e : R_main_v67 (iter X W B T L D N 64) (ix2 i l)
      = (iter X W B T L D N 64).main_v64_9 (ix4 (⟨i.val % 8192 / 128, by omega⟩ : Fin 64) (⟨i.val / 8192, by omega⟩ : Fin 2) (⟨i.val % 128, by omega⟩ : Fin 128) l) := by
    unfold R_main_v67
    show shapeCast _ (transpose S2x64x128x2048 [1, 0, 2, 3] (iter X W B T L D N 64).main_v64_9 transposes_S64x2x128x2048_S2x64x128x2048_1_0_2_3) shapeCasts_S2x64x128x2048_S16384x2048 (ix2 i l) = _
    refine (shapeCast_apply _ shapeCasts_S2x64x128x2048_S16384x2048 (ix2 i l)
      (ix4 (⟨i.val / 8192, by omega⟩ : Fin 2) (⟨i.val % 8192 / 128, by omega⟩ : Fin 64) (⟨i.val % 128, by omega⟩ : Fin 128) l)
      (by rw [Shape.rowMajor_val_two, Shape.rowMajor_val_four]; show ((i.val / 8192 * 64 + i.val % 8192 / 128) * 128 + i.val % 128) * 2048 + l.val = i.val * 2048 + l.val; omega)).trans ?_
    pointwise []
  rw [e]
  exact stack_at X W B T L D N 64 (le_refl _) _ _ _ l ⟨l.val / 256, by omega⟩ ⟨l.val % 256, by omega⟩ (by show l.val = 256 * (l.val / 256) + l.val % 256; omega) (by show i.val % 8192 / 128 < 64; omega)

end iterate

end Cert.SCoreRef

end
-- ==== Proof.SCoreTrips.lean ====
module

public import proofs.«01_k».proof.Proof.Gen.SCoreRefIdeal.Run
public import proofs.«01_k».proof.Proof.Gen.SCoreRefIdeal.Step

/-! The reference's loop, trip by trip: at contents that hold a state, every value of one trip is the one named for it in the
reference's step, so each trip takes the state to its step, and the result is the one read off state 64. -/

@[expose] public section

noncomputable section

namespace Cert.SCoreRefIdeal.Trips

open Idealize.ShloMosaic Idealize.ShloMosaic.TcCoe Idealize.SL.Sem Idealize.ShloMosaic.StableHlo
open Cert.SCoreRefIdeal Cert.SCoreRefIdeal.Gen Cert.SCoreRefIdeal.Value
open Cert.SCoreRefIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v64_8) = s.main_v64_8
  f_9 : V0 (Proc.devRef .tc main_v64_9) = s.main_v64_9
  f_0 : V0 (Proc.devRef .tc main_v64_0) = s.main_v64_0
  f_1 : V0 (Proc.devRef .tc main_v64_1) = s.main_v64_1
  f_2 : V0 (Proc.devRef .tc main_v64_2) = s.main_v64_2
  f_3 : V0 (Proc.devRef .tc main_v64_3) = s.main_v64_3
  f_5 : V0 (Proc.devRef .tc main_v64_5) = s.main_v64_5
  f_6 : V0 (Proc.devRef .tc main_v64_6) = s.main_v64_6
  n_7 : V0 (Proc.devRef .tc main_v64_7) = constantI S_ 32 (BitVec.ofNat 32 j)
  k_4 : V0 (Proc.devRef .tc main_v64_4) = Step.K_main_v1 (F := F)

variable {V0 s j}

section
set_option maxRecDepth 8192
variable (h : Holds V0 s j)
include h
theorem al_0 : (constantI S_ 32 0#32 : (Proc.devRef .tc main_while0b_call2_c : DevRef τ sig).ty.Contents (Elt F)) = Step.b0 j s := by
  unfold Step.b0
  rfl
theorem al_1 : (constantI S_ 32 0#32 : (Proc.devRef .tc main_while0b_call2_c_0 : DevRef τ sig).ty.Contents (Elt F)) = Step.b1 j s := by
  unfold Step.b1
  rfl
theorem al_2 : (constantI S_ 32 0#32 : (Proc.devRef .tc main_while0b_call2_c_1 : DevRef τ sig).ty.Contents (Elt F)) = Step.b2 j s := by
  unfold Step.b2
  rfl
theorem al_3 : (Host.dynamicSlice S1x2x128x4096 (V0 (Proc.devRef .tc main_v64_0)) (fun k => (((![V0 (Proc.devRef .tc main_v64_7), constantI S_ 32 0#32, constantI S_ 32 0#32, constantI S_ 32 0#32] : Fin 4 → (⟨S_, .i32⟩ : BufTy).Contents (Elt F))) k (Shape.Idx.first h_S_)).toInt) sliceFits_S64x2x128x4096_S1x2x128x4096 : (Proc.devRef .tc main_while0b_call2_v0 : DevRef τ sig).ty.Contents (Elt F)) = Step.b3 j s := by
  unfold Step.b3
  rw [← al_0 h, ← al_1 h, ← al_2 h, h.f_0, h.n_7]
  try rfl
theorem al_4 : (res_main_while0b_v68 V0 : (Proc.devRef .tc main_while0b_v68 : DevRef τ sig).ty.Contents (Elt F)) = Step.b4 j s := by
  unfold res_main_while0b_v68 Step.b4
  rw [← al_3 h]
  try rfl
theorem al_5 : (constantI S_ 32 0#32 : (Proc.devRef .tc main_while0b_call3_c : DevRef τ sig).ty.Contents (Elt F)) = Step.b5 j s := by
  unfold Step.b5
  rfl
theorem al_6 : (constantI S_ 32 0#32 : (Proc.devRef .tc main_while0b_call3_c_0 : DevRef τ sig).ty.Contents (Elt F)) = Step.b6 j s := by
  unfold Step.b6
  rfl
theorem al_7 : (constantI S_ 32 0#32 : (Proc.devRef .tc main_while0b_call3_c_1 : DevRef τ sig).ty.Contents (Elt F)) = Step.b7 j s := by
  unfold Step.b7
  rfl
theorem al_8 : (Host.dynamicSlice S1x2x128x32 (V0 (Proc.devRef .tc main_v64_1)) (fun k => (((![V0 (Proc.devRef .tc main_v64_7), constantI S_ 32 0#32, constantI S_ 32 0#32, constantI S_ 32 0#32] : Fin 4 → (⟨S_, .i32⟩ : BufTy).Contents (Elt F))) k (Shape.Idx.first h_S_)).toInt) sliceFits_S64x2x128x32_S1x2x128x32 : (Proc.devRef .tc main_while0b_call3_v0 : DevRef τ sig).ty.Contents (Elt F)) = Step.b8 j s := by
  unfold Step.b8
  rw [← al_5 h, ← al_6 h, ← al_7 h, h.f_1, h.n_7]
  try rfl
theorem al_9 : (shapeCast S2x128x32 (Host.dynamicSlice S1x2x128x32 (V0 (Proc.devRef .tc main_v64_1)) (fun k => (((![V0 (Proc.devRef .tc main_v64_7), constantI S_ 32 0#32, constantI S_ 32 0#32, constantI S_ 32 0#32] : Fin 4 → (⟨S_, .i32⟩ : BufTy).Contents (Elt F))) k (Shape.Idx.first h_S_)).toInt) sliceFits_S64x2x128x32_S1x2x128x32) shapeCasts_S1x2x128x32_S2x128x32 : (Proc.devRef .tc main_while0b_v69 : DevRef τ sig).ty.Contents (Elt F)) = Step.b9 j s := by
  unfold Step.b9
  rw [← al_8 h]
  try rfl
theorem al_10 : (constantI S_ 32 0#32 : (Proc.devRef .tc main_while0b_call4_c : DevRef τ sig).ty.Contents (Elt F)) = Step.b10 j s := by
  unfold Step.b10
  rfl
theorem al_11 : (constantI S_ 32 0#32 : (Proc.devRef .tc main_while0b_call4_c_0 : DevRef τ sig).ty.Contents (Elt F)) = Step.b11 j s := by
  unfold Step.b11
  rfl
theorem al_12 : (constantI S_ 32 0#32 : (Proc.devRef .tc main_while0b_call4_c_1 : DevRef τ sig).ty.Contents (Elt F)) = Step.b12 j s := by
  unfold Step.b12
  rfl
theorem al_13 : (Host.dynamicSlice S1x2x128x2048 (V0 (Proc.devRef .tc main_v64_2)) (fun k => (((![V0 (Proc.devRef .tc main_v64_7), constantI S_ 32 0#32, constantI S_ 32 0#32, constantI S_ 32 0#32] : Fin 4 → (⟨S_, .i32⟩ : BufTy).Contents (Elt F))) k (Shape.Idx.first h_S_)).toInt) sliceFits_S64x2x128x2048_S1x2x128x2048 : (Proc.devRef .tc main_while0b_call4_v0 : DevRef τ sig).ty.Contents (Elt F)) = Step.b13 j s := by
  unfold Step.b13
  rw [← al_10 h, ← al_11 h, ← al_12 h, h.f_2, h.n_7]
  try rfl
theorem al_14 : (res_main_while0b_v70 V0 : (Proc.devRef .tc main_while0b_v70 : DevRef τ sig).ty.Contents (Elt F)) = Step.b14 j s := by
  unfold res_main_while0b_v70 Step.b14
  rw [← al_13 h]
  try rfl
theorem al_15 : (extractStridedSlice S2x128x2048 ![0, 0, 0] (res_main_while0b_v68 V0) slices_S2x128x4096_S2x128x2048_0_0_0 : (Proc.devRef .tc main_while0b_v71 : DevRef τ sig).ty.Contents (Elt F)) = Step.b15 j s := by
  unfold Step.b15
  rw [← al_4 h]
  try rfl
theorem al_16 : (shapeCast S2x128x32x64 (extractStridedSlice S2x128x2048 ![0, 0, 0] (res_main_while0b_v68 V0) slices_S2x128x4096_S2x128x2048_0_0_0) shapeCasts_S2x128x2048_S2x128x32x64 : (Proc.devRef .tc main_while0b_v72 : DevRef τ sig).ty.Contents (Elt F)) = Step.b16 j s := by
  unfold Step.b16
  rw [← al_15 h]
  try rfl
theorem al_17 : (res_main_while0b_v73 V0 : (Proc.devRef .tc main_while0b_v73 : DevRef τ sig).ty.Contents (Elt F)) = Step.b17 j s := by
  unfold res_main_while0b_v73 Step.b17
  rw [← al_16 h]
  try rfl
theorem al_18 : (extractStridedSlice S2x128x1024 ![0, 0, 2048] (res_main_while0b_v68 V0) slices_S2x128x4096_S2x128x1024_0_0_2048 : (Proc.devRef .tc main_while0b_v74 : DevRef τ sig).ty.Contents (Elt F)) = Step.b18 j s := by
  unfold Step.b18
  rw [← al_4 h]
  try rfl
theorem al_19 : (shapeCast S2x128x8x128 (extractStridedSlice S2x128x1024 ![0, 0, 2048] (res_main_while0b_v68 V0) slices_S2x128x4096_S2x128x1024_0_0_2048) shapeCasts_S2x128x1024_S2x128x8x128 : (Proc.devRef .tc main_while0b_v75 : DevRef τ sig).ty.Contents (Elt F)) = Step.b19 j s := by
  unfold Step.b19
  rw [← al_18 h]
  try rfl
theorem al_20 : (transpose S2x8x128x128 [0, 2, 1, 3] (shapeCast S2x128x8x128 (extractStridedSlice S2x128x1024 ![0, 0, 2048] (res_main_while0b_v68 V0) slices_S2x128x4096_S2x128x1024_0_0_2048) shapeCasts_S2x128x1024_S2x128x8x128) transposes_S2x128x8x128_S2x8x128x128_0_2_1_3 : (Proc.devRef .tc main_while0b_v76 : DevRef τ sig).ty.Contents (Elt F)) = Step.b20 j s := by
  unfold Step.b20
  rw [← al_19 h]
  try rfl
theorem al_21 : (broadcastInDim S2x8x1x128x128 ![0, 1, 3, 4] bcast_S2x8x128x128_S2x8x1x128x128_0_1_3_4 (transpose S2x8x128x128 [0, 2, 1, 3] (shapeCast S2x128x8x128 (extractStridedSlice S2x128x1024 ![0, 0, 2048] (res_main_while0b_v68 V0) slices_S2x128x4096_S2x128x1024_0_0_2048) shapeCasts_S2x128x1024_S2x128x8x128) transposes_S2x128x8x128_S2x8x128x128_0_2_1_3) : (Proc.devRef .tc main_while0b_v77 : DevRef τ sig).ty.Contents (Elt F)) = Step.b21 j s := by
  unfold Step.b21
  rw [← al_20 h]
  try rfl
theorem al_22 : (broadcastInDim S2x8x4x128x128 ![0, 1, 2, 3, 4] bcast_S2x8x1x128x128_S2x8x4x128x128_0_1_2_3_4 (broadcastInDim S2x8x1x128x128 ![0, 1, 3, 4] bcast_S2x8x128x128_S2x8x1x128x128_0_1_3_4 (transpose S2x8x128x128 [0, 2, 1, 3] (shapeCast S2x128x8x128 (extractStridedSlice S2x128x1024 ![0, 0, 2048] (res_main_while0b_v68 V0) slices_S2x128x4096_S2x128x1024_0_0_2048) shapeCasts_S2x128x1024_S2x128x8x128) transposes_S2x128x8x128_S2x8x128x128_0_2_1_3)) : (Proc.devRef .tc main_while0b_v78 : DevRef τ sig).ty.Contents (Elt F)) = Step.b22 j s := by
  unfold Step.b22
  rw [← al_21 h]
  try rfl
theorem al_23 : (res_main_while0b_v79 V0 : (Proc.devRef .tc main_while0b_v79 : DevRef τ sig).ty.Contents (Elt F)) = Step.b23 j s := by
  unfold res_main_while0b_v79 Step.b23
  rw [← al_22 h]
  try rfl
theorem al_24 : (extractStridedSlice S2x128x1024 ![0, 0, 3072] (res_main_while0b_v68 V0) slices_S2x128x4096_S2x128x1024_0_0_3072 : (Proc.devRef .tc main_while0b_v80 : DevRef τ sig).ty.Contents (Elt F)) = Step.b24 j s := by
  unfold Step.b24
  rw [← al_4 h]
  try rfl
theorem al_25 : (shapeCast S2x128x8x128 (extractStridedSlice S2x128x1024 ![0, 0, 3072] (res_main_while0b_v68 V0) slices_S2x128x4096_S2x128x1024_0_0_3072) shapeCasts_S2x128x1024_S2x128x8x128 : (Proc.devRef .tc main_while0b_v81 : DevRef τ sig).ty.Contents (Elt F)) = Step.b25 j s := by
  unfold Step.b25
  rw [← al_24 h]
  try rfl
theorem al_26 : (transpose S2x8x128x128 [0, 2, 1, 3] (shapeCast S2x128x8x128 (extractStridedSlice S2x128x1024 ![0, 0, 3072] (res_main_while0b_v68 V0) slices_S2x128x4096_S2x128x1024_0_0_3072) shapeCasts_S2x128x1024_S2x128x8x128) transposes_S2x128x8x128_S2x8x128x128_0_2_1_3 : (Proc.devRef .tc main_while0b_v82 : DevRef τ sig).ty.Contents (Elt F)) = Step.b26 j s := by
  unfold Step.b26
  rw [← al_25 h]
  try rfl
theorem al_27 : (broadcastInDim S2x8x1x128x128 ![0, 1, 3, 4] bcast_S2x8x128x128_S2x8x1x128x128_0_1_3_4 (transpose S2x8x128x128 [0, 2, 1, 3] (shapeCast S2x128x8x128 (extractStridedSlice S2x128x1024 ![0, 0, 3072] (res_main_while0b_v68 V0) slices_S2x128x4096_S2x128x1024_0_0_3072) shapeCasts_S2x128x1024_S2x128x8x128) transposes_S2x128x8x128_S2x8x128x128_0_2_1_3) : (Proc.devRef .tc main_while0b_v83 : DevRef τ sig).ty.Contents (Elt F)) = Step.b27 j s := by
  unfold Step.b27
  rw [← al_26 h]
  try rfl
theorem al_28 : (broadcastInDim S2x8x4x128x128 ![0, 1, 2, 3, 4] bcast_S2x8x1x128x128_S2x8x4x128x128_0_1_2_3_4 (broadcastInDim S2x8x1x128x128 ![0, 1, 3, 4] bcast_S2x8x128x128_S2x8x1x128x128_0_1_3_4 (transpose S2x8x128x128 [0, 2, 1, 3] (shapeCast S2x128x8x128 (extractStridedSlice S2x128x1024 ![0, 0, 3072] (res_main_while0b_v68 V0) slices_S2x128x4096_S2x128x1024_0_0_3072) shapeCasts_S2x128x1024_S2x128x8x128) transposes_S2x128x8x128_S2x8x128x128_0_2_1_3)) : (Proc.devRef .tc main_while0b_v84 : DevRef τ sig).ty.Contents (Elt F)) = Step.b28 j s := by
  unfold Step.b28
  rw [← al_27 h]
  try rfl
theorem al_29 : (res_main_while0b_v85 V0 : (Proc.devRef .tc main_while0b_v85 : DevRef τ sig).ty.Contents (Elt F)) = Step.b29 j s := by
  unfold res_main_while0b_v85 Step.b29
  rw [← al_28 h]
  try rfl
theorem al_30 : (res_main_while0b_v86 V0 : (Proc.devRef .tc main_while0b_v86 : DevRef τ sig).ty.Contents (Elt F)) = Step.b30 j s := by
  unfold res_main_while0b_v86 Step.b30
  rw [← al_9 h]
  try rfl
theorem al_31 : (broadcastInDim S32x1 ![0] bcast_S32_S32x1_0 (V0 (Proc.devRef .tc main_v64_3)) : (Proc.devRef .tc main_while0b_v87 : DevRef τ sig).ty.Contents (Elt F)) = Step.b31 j s := by
  unfold Step.b31
  rw [h.f_3]
  try rfl
theorem al_32 : (broadcastInDim S1x32x1 ![1, 2] bcast_S32x1_S1x32x1_1_2 (broadcastInDim S32x1 ![0] bcast_S32_S32x1_0 (V0 (Proc.devRef .tc main_v64_3))) : (Proc.devRef .tc main_while0b_v88 : DevRef τ sig).ty.Contents (Elt F)) = Step.b32 j s := by
  unfold Step.b32
  rw [← al_31 h]
  try rfl
theorem al_33 : (broadcastInDim S2x32x128 ![0, 1, 2] bcast_S1x32x1_S2x32x128_0_1_2 (broadcastInDim S1x32x1 ![1, 2] bcast_S32x1_S1x32x1_1_2 (broadcastInDim S32x1 ![0] bcast_S32_S32x1_0 (V0 (Proc.devRef .tc main_v64_3)))) : (Proc.devRef .tc main_while0b_v89 : DevRef τ sig).ty.Contents (Elt F)) = Step.b33 j s := by
  unfold Step.b33
  rw [← al_32 h]
  try rfl
theorem al_34 : (mulf (res_main_while0b_v86 V0) (broadcastInDim S2x32x128 ![0, 1, 2] bcast_S1x32x1_S2x32x128_0_1_2 (broadcastInDim S1x32x1 ![1, 2] bcast_S32x1_S1x32x1_1_2 (broadcastInDim S32x1 ![0] bcast_S32_S32x1_0 (V0 (Proc.devRef .tc main_v64_3))))) : (Proc.devRef .tc main_while0b_v90 : DevRef τ sig).ty.Contents (Elt F)) = Step.b34 j s := by
  unfold Step.b34
  rw [← al_30 h, ← al_33 h]
  try rfl
theorem al_35 : (broadcastInDim S2x32x1x128 ![0, 1, 3] bcast_S2x32x128_S2x32x1x128_0_1_3 (mulf (res_main_while0b_v86 V0) (broadcastInDim S2x32x128 ![0, 1, 2] bcast_S1x32x1_S2x32x128_0_1_2 (broadcastInDim S1x32x1 ![1, 2] bcast_S32x1_S1x32x1_1_2 (broadcastInDim S32x1 ![0] bcast_S32_S32x1_0 (V0 (Proc.devRef .tc main_v64_3)))))) : (Proc.devRef .tc main_while0b_v91 : DevRef τ sig).ty.Contents (Elt F)) = Step.b35 j s := by
  unfold Step.b35
  rw [← al_34 h]
  try rfl
theorem al_36 : (constant S_ .f32 0x00000000#32 : (Proc.devRef .tc main_while0b_cst_15 : DevRef τ sig).ty.Contents (Elt F)) = Step.b36 j s := by
  unfold Step.b36
  rfl
theorem al_37 : (id (constant S_ .f32 0x00000000#32) : (Proc.devRef .tc main_while0b_call5_v0 : DevRef τ sig).ty.Contents (Elt F)) = Step.b37 j s := by
  unfold Step.b37
  rw [← al_36 h]
  try rfl
theorem al_38 : (broadcastInDim S2x32x128x128 ![2, 3] bcast_S128x128_S2x32x128x128_2_3 (V0 (Proc.devRef .tc main_v64_4)) : (Proc.devRef .tc main_while0b_call5_v1 : DevRef τ sig).ty.Contents (Elt F)) = Step.b38 j s := by
  unfold Step.b38
  rw [h.k_4]
  try rfl
theorem al_39 : (broadcastInDim S2x32x128x128 ![0, 1, 2, 3] bcast_S2x32x1x128_S2x32x128x128_0_1_2_3 (broadcastInDim S2x32x1x128 ![0, 1, 3] bcast_S2x32x128_S2x32x1x128_0_1_3 (mulf (res_main_while0b_v86 V0) (broadcastInDim S2x32x128 ![0, 1, 2] bcast_S1x32x1_S2x32x128_0_1_2 (broadcastInDim S1x32x1 ![1, 2] bcast_S32x1_S1x32x1_1_2 (broadcastInDim S32x1 ![0] bcast_S32_S32x1_0 (V0 (Proc.devRef .tc main_v64_3))))))) : (Proc.devRef .tc main_while0b_call5_v2 : DevRef τ sig).ty.Contents (Elt F)) = Step.b39 j s := by
  unfold Step.b39
  rw [← al_35 h]
  try rfl
theorem al_40 : (broadcastInDim S2x32x128x128 ![] bcast_S_S2x32x128x128 (id (constant S_ .f32 0x00000000#32)) : (Proc.devRef .tc main_while0b_call5_v3 : DevRef τ sig).ty.Contents (Elt F)) = Step.b40 j s := by
  unfold Step.b40
  rw [← al_37 h]
  try rfl
theorem al_41 : (select (broadcastInDim S2x32x128x128 ![2, 3] bcast_S128x128_S2x32x128x128_2_3 (V0 (Proc.devRef .tc main_v64_4))) (broadcastInDim S2x32x128x128 ![0, 1, 2, 3] bcast_S2x32x1x128_S2x32x128x128_0_1_2_3 (broadcastInDim S2x32x1x128 ![0, 1, 3] bcast_S2x32x128_S2x32x1x128_0_1_3 (mulf (res_main_while0b_v86 V0) (broadcastInDim S2x32x128 ![0, 1, 2] bcast_S1x32x1_S2x32x128_0_1_2 (broadcastInDim S1x32x1 ![1, 2] bcast_S32x1_S1x32x1_1_2 (broadcastInDim S32x1 ![0] bcast_S32_S32x1_0 (V0 (Proc.devRef .tc main_v64_3)))))))) (broadcastInDim S2x32x128x128 ![] bcast_S_S2x32x128x128 (id (constant S_ .f32 0x00000000#32))) : (Proc.devRef .tc main_while0b_v92 : DevRef τ sig).ty.Contents (Elt F)) = Step.b41 j s := by
  unfold Step.b41
  rw [← al_38 h, ← al_39 h, ← al_40 h]
  try rfl
theorem al_42 : (constant S_ .f32 0x00000000#32 : (Proc.devRef .tc main_while0b_cst_16 : DevRef τ sig).ty.Contents (Elt F)) = Step.b42 j s := by
  unfold Step.b42
  rfl
theorem al_43 : (res_main_while0b_v93 V0 : (Proc.devRef .tc main_while0b_v93 : DevRef τ sig).ty.Contents (Elt F)) = Step.b43 j s := by
  unfold res_main_while0b_v93 Step.b43
  rw [← al_41 h, ← al_42 h]
  try rfl
theorem al_44 : (extractStridedSlice S2x32x1 ![0, 0, 127] (res_main_while0b_v93 V0) slices_S2x32x128_S2x32x1_0_0_127 : (Proc.devRef .tc main_while0b_v94 : DevRef τ sig).ty.Contents (Elt F)) = Step.b44 j s := by
  unfold Step.b44
  rw [← al_43 h]
  try rfl
theorem al_45 : (res_main_while0b_v95 V0 : (Proc.devRef .tc main_while0b_v95 : DevRef τ sig).ty.Contents (Elt F)) = Step.b45 j s := by
  unfold res_main_while0b_v95 Step.b45
  rw [← al_44 h]
  try rfl
theorem al_46 : (broadcastInDim S2x32x128x1 ![0, 1, 2] bcast_S2x32x128_S2x32x128x1_0_1_2 (res_main_while0b_v93 V0) : (Proc.devRef .tc main_while0b_v96 : DevRef τ sig).ty.Contents (Elt F)) = Step.b46 j s := by
  unfold Step.b46
  rw [← al_43 h]
  try rfl
theorem al_47 : (broadcastInDim S2x32x1x128 ![0, 1, 3] bcast_S2x32x128_S2x32x1x128_0_1_3 (res_main_while0b_v93 V0) : (Proc.devRef .tc main_while0b_v97 : DevRef τ sig).ty.Contents (Elt F)) = Step.b47 j s := by
  unfold Step.b47
  rw [← al_43 h]
  try rfl
theorem al_48 : (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0)) : (Proc.devRef .tc main_while0b_v98 : DevRef τ sig).ty.Contents (Elt F)) = Step.b48 j s := by
  unfold Step.b48
  rw [← al_46 h]
  try rfl
theorem al_49 : (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)) : (Proc.devRef .tc main_while0b_v99 : DevRef τ sig).ty.Contents (Elt F)) = Step.b49 j s := by
  unfold Step.b49
  rw [← al_47 h]
  try rfl
theorem al_50 : (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0))) : (Proc.devRef .tc main_while0b_v100 : DevRef τ sig).ty.Contents (Elt F)) = Step.b50 j s := by
  unfold Step.b50
  rw [← al_48 h, ← al_49 h]
  try rfl
theorem al_51 : (constant S_ .f32 0xFF800000#32 : (Proc.devRef .tc main_while0b_cst_17 : DevRef τ sig).ty.Contents (Elt F)) = Step.b51 j s := by
  unfold Step.b51
  rfl
theorem al_52 : (id (constant S_ .f32 0xFF800000#32) : (Proc.devRef .tc main_while0b_call6_v0 : DevRef τ sig).ty.Contents (Elt F)) = Step.b52 j s := by
  unfold Step.b52
  rw [← al_51 h]
  try rfl
theorem al_53 : (broadcastInDim S2x32x128x128 ![2, 3] bcast_S128x128_S2x32x128x128_2_3 (V0 (Proc.devRef .tc main_v64_4)) : (Proc.devRef .tc main_while0b_call6_v1 : DevRef τ sig).ty.Contents (Elt F)) = Step.b53 j s := by
  unfold Step.b53
  rw [h.k_4]
  try rfl
theorem al_54 : (broadcastInDim S2x32x128x128 ![] bcast_S_S2x32x128x128 (id (constant S_ .f32 0xFF800000#32)) : (Proc.devRef .tc main_while0b_call6_v2 : DevRef τ sig).ty.Contents (Elt F)) = Step.b54 j s := by
  unfold Step.b54
  rw [← al_52 h]
  try rfl
theorem al_55 : (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32))) : (Proc.devRef .tc main_while0b_v101 : DevRef τ sig).ty.Contents (Elt F)) = Step.b55 j s := by
  unfold Step.b55
  rw [← al_53 h, ← al_50 h, ← al_54 h]
  try rfl
theorem al_56 : (Host.exp (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32)))) : (Proc.devRef .tc main_while0b_v102 : DevRef τ sig).ty.Contents (Elt F)) = Step.b56 j s := by
  unfold Step.b56
  rw [← al_55 h]
  try rfl
theorem al_57 : (broadcastInDim S2x32x128x1 ![0, 1, 2] bcast_S2x32x128_S2x32x128x1_0_1_2 (res_main_while0b_v86 V0) : (Proc.devRef .tc main_while0b_v103 : DevRef τ sig).ty.Contents (Elt F)) = Step.b57 j s := by
  unfold Step.b57
  rw [← al_30 h]
  try rfl
theorem al_58 : (broadcastInDim S2x32x128x64 ![0, 1, 2, 3] bcast_S2x32x128x1_S2x32x128x64_0_1_2_3 (broadcastInDim S2x32x128x1 ![0, 1, 2] bcast_S2x32x128_S2x32x128x1_0_1_2 (res_main_while0b_v86 V0)) : (Proc.devRef .tc main_while0b_v104 : DevRef τ sig).ty.Contents (Elt F)) = Step.b58 j s := by
  unfold Step.b58
  rw [← al_57 h]
  try rfl
theorem al_59 : (res_main_while0b_v105 V0 : (Proc.devRef .tc main_while0b_v105 : DevRef τ sig).ty.Contents (Elt F)) = Step.b59 j s := by
  unfold res_main_while0b_v105 Step.b59
  rw [← al_17 h, ← al_58 h]
  try rfl
theorem al_60 : (Host.dotGeneral dot_S2x32x128x128_S2x32x128x128_S2x32x128x128_3_3_2_2_01_01 none (res_main_while0b_v85 V0) (res_main_while0b_v79 V0) : (Proc.devRef .tc main_while0b_v106 : DevRef τ sig).ty.Contents (Elt F)) = Step.b60 j s := by
  unfold Step.b60
  rw [← al_29 h, ← al_23 h]
  try rfl
theorem al_61 : (mulf (Host.dotGeneral dot_S2x32x128x128_S2x32x128x128_S2x32x128x128_3_3_2_2_01_01 none (res_main_while0b_v85 V0) (res_main_while0b_v79 V0)) (Host.exp (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32))))) : (Proc.devRef .tc main_while0b_v107 : DevRef τ sig).ty.Contents (Elt F)) = Step.b61 j s := by
  unfold Step.b61
  rw [← al_60 h, ← al_56 h]
  try rfl
theorem al_62 : (Host.dotGeneral dot_S2x32x128x128_S2x32x128x64_S2x32x128x64_3_2_2_3_01_01 none (mulf (Host.dotGeneral dot_S2x32x128x128_S2x32x128x128_S2x32x128x128_3_3_2_2_01_01 none (res_main_while0b_v85 V0) (res_main_while0b_v79 V0)) (Host.exp (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32)))))) (res_main_while0b_v105 V0) : (Proc.devRef .tc main_while0b_v108 : DevRef τ sig).ty.Contents (Elt F)) = Step.b62 j s := by
  unfold Step.b62
  rw [← al_61 h, ← al_59 h]
  try rfl
theorem al_63 : (Host.exp (res_main_while0b_v93 V0) : (Proc.devRef .tc main_while0b_v109 : DevRef τ sig).ty.Contents (Elt F)) = Step.b63 j s := by
  unfold Step.b63
  rw [← al_43 h]
  try rfl
theorem al_64 : (broadcastInDim S2x32x128x1 ![0, 1, 2] bcast_S2x32x128_S2x32x128x1_0_1_2 (Host.exp (res_main_while0b_v93 V0)) : (Proc.devRef .tc main_while0b_v110 : DevRef τ sig).ty.Contents (Elt F)) = Step.b64 j s := by
  unfold Step.b64
  rw [← al_63 h]
  try rfl
theorem al_65 : (Host.dotGeneral dot_S2x32x128x128_S2x32x128x64_S2x32x128x64_3_2_2_3_01_01 none (res_main_while0b_v85 V0) (V0 (Proc.devRef .tc main_v64_8)) : (Proc.devRef .tc main_while0b_v111 : DevRef τ sig).ty.Contents (Elt F)) = Step.b65 j s := by
  unfold Step.b65
  rw [← al_29 h, h.f_8]
  try rfl
theorem al_66 : (broadcastInDim S2x32x128x64 ![0, 1, 2, 3] bcast_S2x32x128x1_S2x32x128x64_0_1_2_3 (broadcastInDim S2x32x128x1 ![0, 1, 2] bcast_S2x32x128_S2x32x128x1_0_1_2 (Host.exp (res_main_while0b_v93 V0))) : (Proc.devRef .tc main_while0b_v112 : DevRef τ sig).ty.Contents (Elt F)) = Step.b66 j s := by
  unfold Step.b66
  rw [← al_64 h]
  try rfl
theorem al_67 : (mulf (broadcastInDim S2x32x128x64 ![0, 1, 2, 3] bcast_S2x32x128x1_S2x32x128x64_0_1_2_3 (broadcastInDim S2x32x128x1 ![0, 1, 2] bcast_S2x32x128_S2x32x128x1_0_1_2 (Host.exp (res_main_while0b_v93 V0)))) (Host.dotGeneral dot_S2x32x128x128_S2x32x128x64_S2x32x128x64_3_2_2_3_01_01 none (res_main_while0b_v85 V0) (V0 (Proc.devRef .tc main_v64_8))) : (Proc.devRef .tc main_while0b_v113 : DevRef τ sig).ty.Contents (Elt F)) = Step.b67 j s := by
  unfold Step.b67
  rw [← al_66 h, ← al_65 h]
  try rfl
theorem al_68 : (broadcastInDim S2x32x1 ![0, 1] bcast_S2x32_S2x32x1_0_1 (res_main_while0b_v95 V0) : (Proc.devRef .tc main_while0b_v114 : DevRef τ sig).ty.Contents (Elt F)) = Step.b68 j s := by
  unfold Step.b68
  rw [← al_45 h]
  try rfl
theorem al_69 : (broadcastInDim S2x32x128 ![0, 1, 2] bcast_S2x32x1_S2x32x128_0_1_2 (broadcastInDim S2x32x1 ![0, 1] bcast_S2x32_S2x32x1_0_1 (res_main_while0b_v95 V0)) : (Proc.devRef .tc main_while0b_v115 : DevRef τ sig).ty.Contents (Elt F)) = Step.b69 j s := by
  unfold Step.b69
  rw [← al_68 h]
  try rfl
theorem al_70 : (subf (broadcastInDim S2x32x128 ![0, 1, 2] bcast_S2x32x1_S2x32x128_0_1_2 (broadcastInDim S2x32x1 ![0, 1] bcast_S2x32_S2x32x1_0_1 (res_main_while0b_v95 V0))) (res_main_while0b_v93 V0) : (Proc.devRef .tc main_while0b_v116 : DevRef τ sig).ty.Contents (Elt F)) = Step.b70 j s := by
  unfold Step.b70
  rw [← al_69 h, ← al_43 h]
  try rfl
theorem al_71 : (Host.exp (subf (broadcastInDim S2x32x128 ![0, 1, 2] bcast_S2x32x1_S2x32x128_0_1_2 (broadcastInDim S2x32x1 ![0, 1] bcast_S2x32_S2x32x1_0_1 (res_main_while0b_v95 V0))) (res_main_while0b_v93 V0)) : (Proc.devRef .tc main_while0b_v117 : DevRef τ sig).ty.Contents (Elt F)) = Step.b71 j s := by
  unfold Step.b71
  rw [← al_70 h]
  try rfl
theorem al_72 : (broadcastInDim S2x32x128x1 ![0, 1, 2] bcast_S2x32x128_S2x32x128x1_0_1_2 (Host.exp (subf (broadcastInDim S2x32x128 ![0, 1, 2] bcast_S2x32x1_S2x32x128_0_1_2 (broadcastInDim S2x32x1 ![0, 1] bcast_S2x32_S2x32x1_0_1 (res_main_while0b_v95 V0))) (res_main_while0b_v93 V0))) : (Proc.devRef .tc main_while0b_v118 : DevRef τ sig).ty.Contents (Elt F)) = Step.b72 j s := by
  unfold Step.b72
  rw [← al_71 h]
  try rfl
theorem al_73 : (broadcastInDim S2x32x128x64 ![0, 1, 2, 3] bcast_S2x32x128x1_S2x32x128x64_0_1_2_3 (broadcastInDim S2x32x128x1 ![0, 1, 2] bcast_S2x32x128_S2x32x128x1_0_1_2 (Host.exp (subf (broadcastInDim S2x32x128 ![0, 1, 2] bcast_S2x32x1_S2x32x128_0_1_2 (broadcastInDim S2x32x1 ![0, 1] bcast_S2x32_S2x32x1_0_1 (res_main_while0b_v95 V0))) (res_main_while0b_v93 V0)))) : (Proc.devRef .tc main_while0b_v119 : DevRef τ sig).ty.Contents (Elt F)) = Step.b73 j s := by
  unfold Step.b73
  rw [← al_72 h]
  try rfl
theorem al_74 : (mulf (res_main_while0b_v105 V0) (broadcastInDim S2x32x128x64 ![0, 1, 2, 3] bcast_S2x32x128x1_S2x32x128x64_0_1_2_3 (broadcastInDim S2x32x128x1 ![0, 1, 2] bcast_S2x32x128_S2x32x128x1_0_1_2 (Host.exp (subf (broadcastInDim S2x32x128 ![0, 1, 2] bcast_S2x32x1_S2x32x128_0_1_2 (broadcastInDim S2x32x1 ![0, 1] bcast_S2x32_S2x32x1_0_1 (res_main_while0b_v95 V0))) (res_main_while0b_v93 V0))))) : (Proc.devRef .tc main_while0b_v120 : DevRef τ sig).ty.Contents (Elt F)) = Step.b74 j s := by
  unfold Step.b74
  rw [← al_59 h, ← al_73 h]
  try rfl
theorem al_75 : (Host.exp (res_main_while0b_v95 V0) : (Proc.devRef .tc main_while0b_v121 : DevRef τ sig).ty.Contents (Elt F)) = Step.b75 j s := by
  unfold Step.b75
  rw [← al_45 h]
  try rfl
theorem al_76 : (broadcastInDim S2x32x1x1 ![0, 1] bcast_S2x32_S2x32x1x1_0_1 (Host.exp (res_main_while0b_v95 V0)) : (Proc.devRef .tc main_while0b_v122 : DevRef τ sig).ty.Contents (Elt F)) = Step.b76 j s := by
  unfold Step.b76
  rw [← al_75 h]
  try rfl
theorem al_77 : (broadcastInDim S2x32x128x64 ![0, 1, 2, 3] bcast_S2x32x1x1_S2x32x128x64_0_1_2_3 (broadcastInDim S2x32x1x1 ![0, 1] bcast_S2x32_S2x32x1x1_0_1 (Host.exp (res_main_while0b_v95 V0))) : (Proc.devRef .tc main_while0b_v123 : DevRef τ sig).ty.Contents (Elt F)) = Step.b77 j s := by
  unfold Step.b77
  rw [← al_76 h]
  try rfl
theorem al_78 : (mulf (broadcastInDim S2x32x128x64 ![0, 1, 2, 3] bcast_S2x32x1x1_S2x32x128x64_0_1_2_3 (broadcastInDim S2x32x1x1 ![0, 1] bcast_S2x32_S2x32x1x1_0_1 (Host.exp (res_main_while0b_v95 V0)))) (V0 (Proc.devRef .tc main_v64_8)) : (Proc.devRef .tc main_while0b_v124 : DevRef τ sig).ty.Contents (Elt F)) = Step.b78 j s := by
  unfold Step.b78
  rw [← al_77 h, h.f_8]
  try rfl
theorem al_79 : (Host.dotGeneral dot_S2x32x128x128_S2x32x128x64_S2x32x128x64_2_2_3_3_01_01 none (res_main_while0b_v79 V0) (mulf (res_main_while0b_v105 V0) (broadcastInDim S2x32x128x64 ![0, 1, 2, 3] bcast_S2x32x128x1_S2x32x128x64_0_1_2_3 (broadcastInDim S2x32x128x1 ![0, 1, 2] bcast_S2x32x128_S2x32x128x1_0_1_2 (Host.exp (subf (broadcastInDim S2x32x128 ![0, 1, 2] bcast_S2x32x1_S2x32x128_0_1_2 (broadcastInDim S2x32x1 ![0, 1] bcast_S2x32_S2x32x1_0_1 (res_main_while0b_v95 V0))) (res_main_while0b_v93 V0)))))) : (Proc.devRef .tc main_while0b_v125 : DevRef τ sig).ty.Contents (Elt F)) = Step.b79 j s := by
  unfold Step.b79
  rw [← al_23 h, ← al_74 h]
  try rfl
theorem al_80 : (addf (mulf (broadcastInDim S2x32x128x64 ![0, 1, 2, 3] bcast_S2x32x1x1_S2x32x128x64_0_1_2_3 (broadcastInDim S2x32x1x1 ![0, 1] bcast_S2x32_S2x32x1x1_0_1 (Host.exp (res_main_while0b_v95 V0)))) (V0 (Proc.devRef .tc main_v64_8))) (Host.dotGeneral dot_S2x32x128x128_S2x32x128x64_S2x32x128x64_2_2_3_3_01_01 none (res_main_while0b_v79 V0) (mulf (res_main_while0b_v105 V0) (broadcastInDim S2x32x128x64 ![0, 1, 2, 3] bcast_S2x32x128x1_S2x32x128x64_0_1_2_3 (broadcastInDim S2x32x128x1 ![0, 1, 2] bcast_S2x32x128_S2x32x128x1_0_1_2 (Host.exp (subf (broadcastInDim S2x32x128 ![0, 1, 2] bcast_S2x32x1_S2x32x128_0_1_2 (broadcastInDim S2x32x1 ![0, 1] bcast_S2x32_S2x32x1_0_1 (res_main_while0b_v95 V0))) (res_main_while0b_v93 V0))))))) : (Proc.devRef .tc main_while0b_v126 : DevRef τ sig).ty.Contents (Elt F)) = Step.b80 j s := by
  unfold Step.b80
  rw [← al_78 h, ← al_79 h]
  try rfl
theorem al_81 : (addf (mulf (broadcastInDim S2x32x128x64 ![0, 1, 2, 3] bcast_S2x32x128x1_S2x32x128x64_0_1_2_3 (broadcastInDim S2x32x128x1 ![0, 1, 2] bcast_S2x32x128_S2x32x128x1_0_1_2 (Host.exp (res_main_while0b_v93 V0)))) (Host.dotGeneral dot_S2x32x128x128_S2x32x128x64_S2x32x128x64_3_2_2_3_01_01 none (res_main_while0b_v85 V0) (V0 (Proc.devRef .tc main_v64_8)))) (Host.dotGeneral dot_S2x32x128x128_S2x32x128x64_S2x32x128x64_3_2_2_3_01_01 none (mulf (Host.dotGeneral dot_S2x32x128x128_S2x32x128x128_S2x32x128x128_3_3_2_2_01_01 none (res_main_while0b_v85 V0) (res_main_while0b_v79 V0)) (Host.exp (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32)))))) (res_main_while0b_v105 V0)) : (Proc.devRef .tc main_while0b_v127 : DevRef τ sig).ty.Contents (Elt F)) = Step.b81 j s := by
  unfold Step.b81
  rw [← al_67 h, ← al_62 h]
  try rfl
theorem al_82 : (broadcastInDim S32x1x1 ![0] bcast_S32_S32x1x1_0 (V0 (Proc.devRef .tc main_v64_5)) : (Proc.devRef .tc main_while0b_v128 : DevRef τ sig).ty.Contents (Elt F)) = Step.b82 j s := by
  unfold Step.b82
  rw [h.f_5]
  try rfl
theorem al_83 : (broadcastInDim S1x32x1x1 ![1, 2, 3] bcast_S32x1x1_S1x32x1x1_1_2_3 (broadcastInDim S32x1x1 ![0] bcast_S32_S32x1x1_0 (V0 (Proc.devRef .tc main_v64_5))) : (Proc.devRef .tc main_while0b_v129 : DevRef τ sig).ty.Contents (Elt F)) = Step.b83 j s := by
  unfold Step.b83
  rw [← al_82 h]
  try rfl
theorem al_84 : (broadcastInDim S2x32x128x64 ![0, 1, 2, 3] bcast_S1x32x1x1_S2x32x128x64_0_1_2_3 (broadcastInDim S1x32x1x1 ![1, 2, 3] bcast_S32x1x1_S1x32x1x1_1_2_3 (broadcastInDim S32x1x1 ![0] bcast_S32_S32x1x1_0 (V0 (Proc.devRef .tc main_v64_5)))) : (Proc.devRef .tc main_while0b_v130 : DevRef τ sig).ty.Contents (Elt F)) = Step.b84 j s := by
  unfold Step.b84
  rw [← al_83 h]
  try rfl
theorem al_85 : (mulf (broadcastInDim S2x32x128x64 ![0, 1, 2, 3] bcast_S1x32x1x1_S2x32x128x64_0_1_2_3 (broadcastInDim S1x32x1x1 ![1, 2, 3] bcast_S32x1x1_S1x32x1x1_1_2_3 (broadcastInDim S32x1x1 ![0] bcast_S32_S32x1x1_0 (V0 (Proc.devRef .tc main_v64_5))))) (res_main_while0b_v73 V0) : (Proc.devRef .tc main_while0b_v131 : DevRef τ sig).ty.Contents (Elt F)) = Step.b85 j s := by
  unfold Step.b85
  rw [← al_84 h, ← al_17 h]
  try rfl
theorem al_86 : (addf (addf (mulf (broadcastInDim S2x32x128x64 ![0, 1, 2, 3] bcast_S2x32x128x1_S2x32x128x64_0_1_2_3 (broadcastInDim S2x32x128x1 ![0, 1, 2] bcast_S2x32x128_S2x32x128x1_0_1_2 (Host.exp (res_main_while0b_v93 V0)))) (Host.dotGeneral dot_S2x32x128x128_S2x32x128x64_S2x32x128x64_3_2_2_3_01_01 none (res_main_while0b_v85 V0) (V0 (Proc.devRef .tc main_v64_8)))) (Host.dotGeneral dot_S2x32x128x128_S2x32x128x64_S2x32x128x64_3_2_2_3_01_01 none (mulf (Host.dotGeneral dot_S2x32x128x128_S2x32x128x128_S2x32x128x128_3_3_2_2_01_01 none (res_main_while0b_v85 V0) (res_main_while0b_v79 V0)) (Host.exp (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32)))))) (res_main_while0b_v105 V0))) (mulf (broadcastInDim S2x32x128x64 ![0, 1, 2, 3] bcast_S1x32x1x1_S2x32x128x64_0_1_2_3 (broadcastInDim S1x32x1x1 ![1, 2, 3] bcast_S32x1x1_S1x32x1x1_1_2_3 (broadcastInDim S32x1x1 ![0] bcast_S32_S32x1x1_0 (V0 (Proc.devRef .tc main_v64_5))))) (res_main_while0b_v73 V0)) : (Proc.devRef .tc main_while0b_v132 : DevRef τ sig).ty.Contents (Elt F)) = Step.b86 j s := by
  unfold Step.b86
  rw [← al_81 h, ← al_85 h]
  try rfl
theorem al_87 : (transpose S2x128x32x64 [0, 2, 1, 3] (addf (addf (mulf (broadcastInDim S2x32x128x64 ![0, 1, 2, 3] bcast_S2x32x128x1_S2x32x128x64_0_1_2_3 (broadcastInDim S2x32x128x1 ![0, 1, 2] bcast_S2x32x128_S2x32x128x1_0_1_2 (Host.exp (res_main_while0b_v93 V0)))) (Host.dotGeneral dot_S2x32x128x128_S2x32x128x64_S2x32x128x64_3_2_2_3_01_01 none (res_main_while0b_v85 V0) (V0 (Proc.devRef .tc main_v64_8)))) (Host.dotGeneral dot_S2x32x128x128_S2x32x128x64_S2x32x128x64_3_2_2_3_01_01 none (mulf (Host.dotGeneral dot_S2x32x128x128_S2x32x128x128_S2x32x128x128_3_3_2_2_01_01 none (res_main_while0b_v85 V0) (res_main_while0b_v79 V0)) (Host.exp (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32)))))) (res_main_while0b_v105 V0))) (mulf (broadcastInDim S2x32x128x64 ![0, 1, 2, 3] bcast_S1x32x1x1_S2x32x128x64_0_1_2_3 (broadcastInDim S1x32x1x1 ![1, 2, 3] bcast_S32x1x1_S1x32x1x1_1_2_3 (broadcastInDim S32x1x1 ![0] bcast_S32_S32x1x1_0 (V0 (Proc.devRef .tc main_v64_5))))) (res_main_while0b_v73 V0))) transposes_S2x32x128x64_S2x128x32x64_0_2_1_3 : (Proc.devRef .tc main_while0b_v133 : DevRef τ sig).ty.Contents (Elt F)) = Step.b87 j s := by
  unfold Step.b87
  rw [← al_86 h]
  try rfl
theorem al_88 : (shapeCast S2x128x2048 (transpose S2x128x32x64 [0, 2, 1, 3] (addf (addf (mulf (broadcastInDim S2x32x128x64 ![0, 1, 2, 3] bcast_S2x32x128x1_S2x32x128x64_0_1_2_3 (broadcastInDim S2x32x128x1 ![0, 1, 2] bcast_S2x32x128_S2x32x128x1_0_1_2 (Host.exp (res_main_while0b_v93 V0)))) (Host.dotGeneral dot_S2x32x128x128_S2x32x128x64_S2x32x128x64_3_2_2_3_01_01 none (res_main_while0b_v85 V0) (V0 (Proc.devRef .tc main_v64_8)))) (Host.dotGeneral dot_S2x32x128x128_S2x32x128x64_S2x32x128x64_3_2_2_3_01_01 none (mulf (Host.dotGeneral dot_S2x32x128x128_S2x32x128x128_S2x32x128x128_3_3_2_2_01_01 none (res_main_while0b_v85 V0) (res_main_while0b_v79 V0)) (Host.exp (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32)))))) (res_main_while0b_v105 V0))) (mulf (broadcastInDim S2x32x128x64 ![0, 1, 2, 3] bcast_S1x32x1x1_S2x32x128x64_0_1_2_3 (broadcastInDim S1x32x1x1 ![1, 2, 3] bcast_S32x1x1_S1x32x1x1_1_2_3 (broadcastInDim S32x1x1 ![0] bcast_S32_S32x1x1_0 (V0 (Proc.devRef .tc main_v64_5))))) (res_main_while0b_v73 V0))) transposes_S2x32x128x64_S2x128x32x64_0_2_1_3) shapeCasts_S2x128x32x64_S2x128x2048 : (Proc.devRef .tc main_while0b_v134 : DevRef τ sig).ty.Contents (Elt F)) = Step.b88 j s := by
  unfold Step.b88
  rw [← al_87 h]
  try rfl
theorem al_89 : (Host.negf (res_main_while0b_v70 V0) : (Proc.devRef .tc main_while0b_v135 : DevRef τ sig).ty.Contents (Elt F)) = Step.b89 j s := by
  unfold Step.b89
  rw [← al_14 h]
  try rfl
theorem al_90 : (Host.exp (Host.negf (res_main_while0b_v70 V0)) : (Proc.devRef .tc main_while0b_v136 : DevRef τ sig).ty.Contents (Elt F)) = Step.b90 j s := by
  unfold Step.b90
  rw [← al_89 h]
  try rfl
theorem al_91 : (constant S_ .f32 0x3F800000#32 : (Proc.devRef .tc main_while0b_cst_18 : DevRef τ sig).ty.Contents (Elt F)) = Step.b91 j s := by
  unfold Step.b91
  rfl
theorem al_92 : (broadcastInDim S2x128x2048 ![] bcast_S_S2x128x2048 (constant S_ .f32 0x3F800000#32) : (Proc.devRef .tc main_while0b_v137 : DevRef τ sig).ty.Contents (Elt F)) = Step.b92 j s := by
  unfold Step.b92
  rw [← al_91 h]
  try rfl
theorem al_93 : (addf (broadcastInDim S2x128x2048 ![] bcast_S_S2x128x2048 (constant S_ .f32 0x3F800000#32)) (Host.exp (Host.negf (res_main_while0b_v70 V0))) : (Proc.devRef .tc main_while0b_v138 : DevRef τ sig).ty.Contents (Elt F)) = Step.b93 j s := by
  unfold Step.b93
  rw [← al_92 h, ← al_90 h]
  try rfl
theorem al_94 : (constant S_ .f32 0x3F800000#32 : (Proc.devRef .tc main_while0b_cst_19 : DevRef τ sig).ty.Contents (Elt F)) = Step.b94 j s := by
  unfold Step.b94
  rfl
theorem al_95 : (broadcastInDim S2x128x2048 ![] bcast_S_S2x128x2048 (constant S_ .f32 0x3F800000#32) : (Proc.devRef .tc main_while0b_v139 : DevRef τ sig).ty.Contents (Elt F)) = Step.b95 j s := by
  unfold Step.b95
  rw [← al_94 h]
  try rfl
theorem al_96 : (Host.divf (broadcastInDim S2x128x2048 ![] bcast_S_S2x128x2048 (constant S_ .f32 0x3F800000#32)) (addf (broadcastInDim S2x128x2048 ![] bcast_S_S2x128x2048 (constant S_ .f32 0x3F800000#32)) (Host.exp (Host.negf (res_main_while0b_v70 V0)))) : (Proc.devRef .tc main_while0b_v140 : DevRef τ sig).ty.Contents (Elt F)) = Step.b96 j s := by
  unfold Step.b96
  rw [← al_95 h, ← al_93 h]
  try rfl
theorem al_97 : (mulf (res_main_while0b_v70 V0) (Host.divf (broadcastInDim S2x128x2048 ![] bcast_S_S2x128x2048 (constant S_ .f32 0x3F800000#32)) (addf (broadcastInDim S2x128x2048 ![] bcast_S_S2x128x2048 (constant S_ .f32 0x3F800000#32)) (Host.exp (Host.negf (res_main_while0b_v70 V0))))) : (Proc.devRef .tc main_while0b_v141 : DevRef τ sig).ty.Contents (Elt F)) = Step.b97 j s := by
  unfold Step.b97
  rw [← al_14 h, ← al_96 h]
  try rfl
theorem al_98 : (mulf (shapeCast S2x128x2048 (transpose S2x128x32x64 [0, 2, 1, 3] (addf (addf (mulf (broadcastInDim S2x32x128x64 ![0, 1, 2, 3] bcast_S2x32x128x1_S2x32x128x64_0_1_2_3 (broadcastInDim S2x32x128x1 ![0, 1, 2] bcast_S2x32x128_S2x32x128x1_0_1_2 (Host.exp (res_main_while0b_v93 V0)))) (Host.dotGeneral dot_S2x32x128x128_S2x32x128x64_S2x32x128x64_3_2_2_3_01_01 none (res_main_while0b_v85 V0) (V0 (Proc.devRef .tc main_v64_8)))) (Host.dotGeneral dot_S2x32x128x128_S2x32x128x64_S2x32x128x64_3_2_2_3_01_01 none (mulf (Host.dotGeneral dot_S2x32x128x128_S2x32x128x128_S2x32x128x128_3_3_2_2_01_01 none (res_main_while0b_v85 V0) (res_main_while0b_v79 V0)) (Host.exp (select (broadcastInDim S2x32x128x128 ![2, 3] bcast_S128x128_S2x32x128x128_2_3 (V0 (Proc.devRef .tc main_v64_4))) (subf (broadcastInDim S2x32x128x128 ![0, 1, 2, 3] bcast_S2x32x128x1_S2x32x128x128_0_1_2_3 (broadcastInDim S2x32x128x1 ![0, 1, 2] bcast_S2x32x128_S2x32x128x1_0_1_2 (res_main_while0b_v93 V0))) (broadcastInDim S2x32x128x128 ![0, 1, 2, 3] bcast_S2x32x1x128_S2x32x128x128_0_1_2_3 (broadcastInDim S2x32x1x128 ![0, 1, 3] bcast_S2x32x128_S2x32x1x128_0_1_3 (res_main_while0b_v93 V0)))) (broadcastInDim S2x32x128x128 ![] bcast_S_S2x32x128x128 (id (constant S_ .f32 0xFF800000#32)))))) (res_main_while0b_v105 V0))) (mulf (broadcastInDim S2x32x128x64 ![0, 1, 2, 3] bcast_S1x32x1x1_S2x32x128x64_0_1_2_3 (broadcastInDim S1x32x1x1 ![1, 2, 3] bcast_S32x1x1_S1x32x1x1_1_2_3 (broadcastInDim S32x1x1 ![0] bcast_S32_S32x1x1_0 (V0 (Proc.devRef .tc main_v64_5))))) (res_main_while0b_v73 V0))) transposes_S2x32x128x64_S2x128x32x64_0_2_1_3) shapeCasts_S2x128x32x64_S2x128x2048) (mulf (res_main_while0b_v70 V0) (Host.divf (broadcastInDim S2x128x2048 ![] bcast_S_S2x128x2048 (constant S_ .f32 0x3F800000#32)) (addf (broadcastInDim S2x128x2048 ![] bcast_S_S2x128x2048 (constant S_ .f32 0x3F800000#32)) (Host.exp (Host.negf (res_main_while0b_v70 V0)))))) : (Proc.devRef .tc main_while0b_v142 : DevRef τ sig).ty.Contents (Elt F)) = Step.b98 j s := by
  unfold Step.b98
  rw [← al_88 h, ← al_97 h]
  try rfl
theorem al_99 : (res_main_while0b_v143 V0 : (Proc.devRef .tc main_while0b_v143 : DevRef τ sig).ty.Contents (Elt F)) = Step.b99 j s := by
  unfold res_main_while0b_v143 Step.b99
  rw [← al_98 h]
  try rfl
theorem al_100 : (shapeCast S8x256 (V0 (Proc.devRef .tc main_v64_6)) shapeCasts_S2048_S8x256 : (Proc.devRef .tc main_while0b_v144 : DevRef τ sig).ty.Contents (Elt F)) = Step.b100 j s := by
  unfold Step.b100
  rw [h.f_6]
  try rfl
theorem al_101 : (mulf (res_main_while0b_v143 V0) (res_main_while0b_v143 V0) : (Proc.devRef .tc main_while0b_v145 : DevRef τ sig).ty.Contents (Elt F)) = Step.b101 j s := by
  unfold Step.b101
  rw [← al_99 h]
  try rfl
theorem al_102 : (constant S_ .f32 0x00000000#32 : (Proc.devRef .tc main_while0b_cst_20 : DevRef τ sig).ty.Contents (Elt F)) = Step.b102 j s := by
  unfold Step.b102
  rfl
theorem al_103 : (Host.reduceAdd (mulf (res_main_while0b_v143 V0) (res_main_while0b_v143 V0)) (constant S_ .f32 0x00000000#32) reducesTo_S2x128x8x256_S2x128x8_d3 h_S_ : (Proc.devRef .tc main_while0b_v146 : DevRef τ sig).ty.Contents (Elt F)) = Step.b103 j s := by
  unfold Step.b103
  rw [← al_101 h, ← al_102 h]
  try rfl
theorem al_104 : (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_) : (Proc.devRef .tc main_while0b_v147 : DevRef τ sig).ty.Contents (Elt F)) = Step.b104 j s := by
  unfold Step.b104
  rw [← al_103 h]
  try rfl
theorem al_105 : (constant S_ .f32 0x43800000#32 : (Proc.devRef .tc main_while0b_cst_21 : DevRef τ sig).ty.Contents (Elt F)) = Step.b105 j s := by
  unfold Step.b105
  rfl
theorem al_106 : (broadcastInDim S2x128x8x1 ![] bcast_S_S2x128x8x1 (constant S_ .f32 0x43800000#32) : (Proc.devRef .tc main_while0b_v148 : DevRef τ sig).ty.Contents (Elt F)) = Step.b106 j s := by
  unfold Step.b106
  rw [← al_105 h]
  try rfl
theorem al_107 : (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32)) : (Proc.devRef .tc main_while0b_v149 : DevRef τ sig).ty.Contents (Elt F)) = Step.b107 j s := by
  unfold Step.b107
  rw [← al_104 h, ← al_106 h]
  try rfl
theorem al_108 : (constant S_ .f32 0x358637BD#32 : (Proc.devRef .tc main_while0b_cst_22 : DevRef τ sig).ty.Contents (Elt F)) = Step.b108 j s := by
  unfold Step.b108
  rfl
theorem al_109 : (broadcastInDim S2x128x8x1 ![] bcast_S_S2x128x8x1 (constant S_ .f32 0x358637BD#32) : (Proc.devRef .tc main_while0b_v150 : DevRef τ sig).ty.Contents (Elt F)) = Step.b109 j s := by
  unfold Step.b109
  rw [← al_108 h]
  try rfl
theorem al_110 : (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32)) : (Proc.devRef .tc main_while0b_v151 : DevRef τ sig).ty.Contents (Elt F)) = Step.b110 j s := by
  unfold Step.b110
  rw [← al_107 h, ← al_109 h]
  try rfl
theorem al_111 : (Host.rsqrt (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32))) : (Proc.devRef .tc main_while0b_v152 : DevRef τ sig).ty.Contents (Elt F)) = Step.b111 j s := by
  unfold Step.b111
  rw [← al_110 h]
  try rfl
theorem al_112 : (broadcastInDim S2x128x8x256 ![0, 1, 2, 3] bcast_S2x128x8x1_S2x128x8x256_0_1_2_3 (Host.rsqrt (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32)))) : (Proc.devRef .tc main_while0b_v153 : DevRef τ sig).ty.Contents (Elt F)) = Step.b112 j s := by
  unfold Step.b112
  rw [← al_111 h]
  try rfl
theorem al_113 : (mulf (res_main_while0b_v143 V0) (broadcastInDim S2x128x8x256 ![0, 1, 2, 3] bcast_S2x128x8x1_S2x128x8x256_0_1_2_3 (Host.rsqrt (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32))))) : (Proc.devRef .tc main_while0b_v154 : DevRef τ sig).ty.Contents (Elt F)) = Step.b113 j s := by
  unfold Step.b113
  rw [← al_99 h, ← al_112 h]
  try rfl
theorem al_114 : (broadcastInDim S1x1x8x256 ![2, 3] bcast_S8x256_S1x1x8x256_2_3 (shapeCast S8x256 (V0 (Proc.devRef .tc main_v64_6)) shapeCasts_S2048_S8x256) : (Proc.devRef .tc main_while0b_v155 : DevRef τ sig).ty.Contents (Elt F)) = Step.b114 j s := by
  unfold Step.b114
  rw [← al_100 h]
  try rfl
theorem al_115 : (broadcastInDim S2x128x8x256 ![0, 1, 2, 3] bcast_S1x1x8x256_S2x128x8x256_0_1_2_3 (broadcastInDim S1x1x8x256 ![2, 3] bcast_S8x256_S1x1x8x256_2_3 (shapeCast S8x256 (V0 (Proc.devRef .tc main_v64_6)) shapeCasts_S2048_S8x256)) : (Proc.devRef .tc main_while0b_v156 : DevRef τ sig).ty.Contents (Elt F)) = Step.b115 j s := by
  unfold Step.b115
  rw [← al_114 h]
  try rfl
theorem al_116 : (mulf (mulf (res_main_while0b_v143 V0) (broadcastInDim S2x128x8x256 ![0, 1, 2, 3] bcast_S2x128x8x1_S2x128x8x256_0_1_2_3 (Host.rsqrt (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32)))))) (broadcastInDim S2x128x8x256 ![0, 1, 2, 3] bcast_S1x1x8x256_S2x128x8x256_0_1_2_3 (broadcastInDim S1x1x8x256 ![2, 3] bcast_S8x256_S1x1x8x256_2_3 (shapeCast S8x256 (V0 (Proc.devRef .tc main_v64_6)) shapeCasts_S2048_S8x256))) : (Proc.devRef .tc main_while0b_v157 : DevRef τ sig).ty.Contents (Elt F)) = Step.b116 j s := by
  unfold Step.b116
  rw [← al_113 h, ← al_115 h]
  try rfl
theorem al_117 : (shapeCast S2x128x2048 (mulf (mulf (res_main_while0b_v143 V0) (broadcastInDim S2x128x8x256 ![0, 1, 2, 3] bcast_S2x128x8x1_S2x128x8x256_0_1_2_3 (Host.rsqrt (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32)))))) (broadcastInDim S2x128x8x256 ![0, 1, 2, 3] bcast_S1x1x8x256_S2x128x8x256_0_1_2_3 (broadcastInDim S1x1x8x256 ![2, 3] bcast_S8x256_S1x1x8x256_2_3 (shapeCast S8x256 (V0 (Proc.devRef .tc main_v64_6)) shapeCasts_S2048_S8x256)))) shapeCasts_S2x128x8x256_S2x128x2048 : (Proc.devRef .tc main_while0b_v158 : DevRef τ sig).ty.Contents (Elt F)) = Step.b117 j s := by
  unfold Step.b117
  rw [← al_116 h]
  try rfl
theorem al_118 : (broadcastInDim S1x2x128x2048 ![1, 2, 3] bcast_S2x128x2048_S1x2x128x2048_1_2_3 (shapeCast S2x128x2048 (mulf (mulf (res_main_while0b_v143 V0) (broadcastInDim S2x128x8x256 ![0, 1, 2, 3] bcast_S2x128x8x1_S2x128x8x256_0_1_2_3 (Host.rsqrt (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32)))))) (broadcastInDim S2x128x8x256 ![0, 1, 2, 3] bcast_S1x1x8x256_S2x128x8x256_0_1_2_3 (broadcastInDim S1x1x8x256 ![2, 3] bcast_S8x256_S1x1x8x256_2_3 (shapeCast S8x256 (V0 (Proc.devRef .tc main_v64_6)) shapeCasts_S2048_S8x256)))) shapeCasts_S2x128x8x256_S2x128x2048) : (Proc.devRef .tc main_while0b_call7_v0 : DevRef τ sig).ty.Contents (Elt F)) = Step.b118 j s := by
  unfold Step.b118
  rw [← al_117 h]
  try rfl
theorem al_119 : (constantI S_ 32 0#32 : (Proc.devRef .tc main_while0b_call7_c : DevRef τ sig).ty.Contents (Elt F)) = Step.b119 j s := by
  unfold Step.b119
  rfl
theorem al_120 : (constantI S_ 32 0#32 : (Proc.devRef .tc main_while0b_call7_c_0 : DevRef τ sig).ty.Contents (Elt F)) = Step.b120 j s := by
  unfold Step.b120
  rfl
theorem al_121 : (constantI S_ 32 0#32 : (Proc.devRef .tc main_while0b_call7_c_1 : DevRef τ sig).ty.Contents (Elt F)) = Step.b121 j s := by
  unfold Step.b121
  rfl
theorem al_122 : (Host.dynamicUpdateSlice (V0 (Proc.devRef .tc main_v64_9)) (broadcastInDim S1x2x128x2048 ![1, 2, 3] bcast_S2x128x2048_S1x2x128x2048_1_2_3 (shapeCast S2x128x2048 (mulf (mulf (res_main_while0b_v143 V0) (broadcastInDim S2x128x8x256 ![0, 1, 2, 3] bcast_S2x128x8x1_S2x128x8x256_0_1_2_3 (Host.rsqrt (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32)))))) (broadcastInDim S2x128x8x256 ![0, 1, 2, 3] bcast_S1x1x8x256_S2x128x8x256_0_1_2_3 (broadcastInDim S1x1x8x256 ![2, 3] bcast_S8x256_S1x1x8x256_2_3 (shapeCast S8x256 (V0 (Proc.devRef .tc main_v64_6)) shapeCasts_S2048_S8x256)))) shapeCasts_S2x128x8x256_S2x128x2048)) (fun k => (((![V0 (Proc.devRef .tc main_v64_7), constantI S_ 32 0#32, constantI S_ 32 0#32, constantI S_ 32 0#32] : Fin 4 → (⟨S_, .i32⟩ : BufTy).Contents (Elt F))) k (Shape.Idx.first h_S_)).toInt) updateFits_S64x2x128x2048_S1x2x128x2048 : (Proc.devRef .tc main_while0b_v159 : DevRef τ sig).ty.Contents (Elt F)) = Step.b122 j s := by
  unfold Step.b122
  rw [← al_118 h, ← al_119 h, ← al_120 h, ← al_121 h, h.f_9, h.n_7]
  try rfl
end

/-! One trip's step of the carried values is `step`, field by field; a counter steps to the next number. -/

theorem step_8 (h : Holds V0 s j) : step_main_v64_8 V0 = (step j s).main_v64_8 := by
  unfold step_main_v64_8 Step.step
  show id (addf (mulf (broadcastInDim S2x32x128x64 ![0, 1, 2, 3] bcast_S2x32x1x1_S2x32x128x64_0_1_2_3 (broadcastInDim S2x32x1x1 ![0, 1] bcast_S2x32_S2x32x1x1_0_1 (Host.exp (res_main_while0b_v95 V0)))) (V0 (Proc.devRef .tc main_v64_8))) (Host.dotGeneral dot_S2x32x128x128_S2x32x128x64_S2x32x128x64_2_2_3_3_01_01 none (res_main_while0b_v79 V0) (mulf (res_main_while0b_v105 V0) (broadcastInDim S2x32x128x64 ![0, 1, 2, 3] bcast_S2x32x128x1_S2x32x128x64_0_1_2_3 (broadcastInDim S2x32x128x1 ![0, 1, 2] bcast_S2x32x128_S2x32x128x1_0_1_2 (Host.exp (subf (broadcastInDim S2x32x128 ![0, 1, 2] bcast_S2x32x1_S2x32x128_0_1_2 (broadcastInDim S2x32x1 ![0, 1] bcast_S2x32_S2x32x1_0_1 (res_main_while0b_v95 V0))) (res_main_while0b_v93 V0)))))))) = _
  rw [al_80 h]
  try rfl
theorem step_9 (h : Holds V0 s j) : step_main_v64_9 V0 = (step j s).main_v64_9 := by
  unfold step_main_v64_9 Step.step
  show id (Host.dynamicUpdateSlice (V0 (Proc.devRef .tc main_v64_9)) (broadcastInDim S1x2x128x2048 ![1, 2, 3] bcast_S2x128x2048_S1x2x128x2048_1_2_3 (shapeCast S2x128x2048 (mulf (mulf (res_main_while0b_v143 V0) (broadcastInDim S2x128x8x256 ![0, 1, 2, 3] bcast_S2x128x8x1_S2x128x8x256_0_1_2_3 (Host.rsqrt (addf (Host.divf (broadcastInDim S2x128x8x1 ![0, 1, 2] bcast_S2x128x8_S2x128x8x1_0_1_2 (Host.reduceAdd (mulf (res_main_while0b_v143 V0) (res_main_while0b_v143 V0)) (constant S_ .f32 0x00000000#32) reducesTo_S2x128x8x256_S2x128x8_d3 h_S_)) (broadcastInDim S2x128x8x1 ![] bcast_S_S2x128x8x1 (constant S_ .f32 0x43800000#32))) (broadcastInDim S2x128x8x1 ![] bcast_S_S2x128x8x1 (constant S_ .f32 0x358637BD#32)))))) (broadcastInDim S2x128x8x256 ![0, 1, 2, 3] bcast_S1x1x8x256_S2x128x8x256_0_1_2_3 (broadcastInDim S1x1x8x256 ![2, 3] bcast_S8x256_S1x1x8x256_2_3 (shapeCast S8x256 (V0 (Proc.devRef .tc main_v64_6)) shapeCasts_S2048_S8x256)))) shapeCasts_S2x128x8x256_S2x128x2048)) (fun k => (((![V0 (Proc.devRef .tc main_v64_7), constantI S_ 32 0#32, constantI S_ 32 0#32, constantI S_ 32 0#32] : Fin 4 → (⟨S_, .i32⟩ : BufTy).Contents (Elt F))) k (Shape.Idx.first h_S_)).toInt) updateFits_S64x2x128x2048_S1x2x128x2048) = _
  exact al_122 h
theorem step_7 (h : Holds V0 s j) : step_main_v64_7 V0 = constantI S_ 32 (BitVec.ofNat 32 (j + 1)) := by
  unfold step_main_v64_7
  rw [h.n_7]
  funext i
  show BitVec.ofNat 32 j + 1#32 = BitVec.ofNat 32 (j + 1)
  simp only [BitVec.ofNat_add]

set_option maxRecDepth 8192 in
theorem out_main_v67_holds (h : Holds V0 s j) : out_main_v67 V0 = Step.R_main_v67 s := by
  unfold out_main_v67 Step.R_main_v67
  rw [h.f_9]
  try rfl

/-- One trip keeps the valuation holding: `step` of the state, the same set-up values, the next number. -/
theorem holds_step (h : Holds V0 s j) : Holds (STEP V0) (step j s) (j + 1) where
  f_8 := (STEP_main_v64_8 V0).trans (step_8 h)
  f_9 := (STEP_main_v64_9 V0).trans (step_9 h)
  n_7 := (STEP_main_v64_7 V0).trans (step_7 h)
  k_4 := (STEP_main_v64_4 V0).trans h.k_4
  f_0 := (STEP_main_v64_0 V0).trans h.f_0
  f_1 := (STEP_main_v64_1 V0).trans h.f_1
  f_2 := (STEP_main_v64_2 V0).trans h.f_2
  f_3 := (STEP_main_v64_3 V0).trans h.f_3
  f_5 := (STEP_main_v64_5 V0).trans h.f_5
  f_6 := (STEP_main_v64_6 V0).trans h.f_6

/-- The state the first trip starts from, of the memory the run starts from. -/
abbrev initState (m : (ℓ : Loc nD τ sig) → Buf (Elt F) ℓ) (c : Dev nD) : State F :=
  init (m ((c.tc : Thread nD τ).loc main_arg5)) (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `SCoreRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v67) = Step.R_main_v67 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 64
    ⟨(h c).1.trans (out_main_v67_holds hk), (h c).2.1, (h c).2.2.1, (h c).2.2.2.1, (h c).2.2.2.2.1, (h c).2.2.2.2.2.1, (h c).2.2.2.2.2.2.1, (h c).2.2.2.2.2.2.2⟩) (Value.run m ρ)

end Cert.SCoreRefIdeal.Trips

end
-- ==== Proof.SCoreVal.lean ====
module

public import proofs.«01_k».proof.Proof.SCoreKer
public import proofs.«01_k».proof.Proof.SCoreFeed
public import proofs.«01_k».proof.Proof.SCoreTrips
public import proofs.«01_k».proof.Proof.Gen.SCoreIdeal.Frame
public import proofs.«01_k».proof.Proof.Gen.SCore.Frame

/-! The reference's 64 trips leave the rows that the kernel leaves. -/

@[expose] public section

set_option maxRecDepth 16384

noncomputable section

namespace Cert.SCoreVal

open Idealize.ShloMosaic Idealize.ShloMosaic.TcCoe Idealize.SL.Sem

theorem algebraic : Cert.algebraic_SCoreIdeal_SCoreRefIdeal := by
  intro m ρ m' ρ' _ hagree
  refine ⟨fun c => goal m c, ?_, ?_⟩
  · exact (θ_run Cert.SCoreIdeal.defs _ _).mono (fun _ h c => ⟨(h c).1.trans (result m c), (h c).2⟩) (Cert.SCoreIdeal.Value.run_blocks (F := Ideal) m ρ)
  · have hrun := Cert.SCoreRefIdeal.Trips.run_iter (F := Ideal) m' ρ'
      (fun c => Cert.SCoreRef.iter (m' ((c.tc : Thread Cert.SCoreRefIdeal.nD Cert.SCoreRefIdeal.τ).loc Cert.SCoreRefIdeal.main_arg0))
        (m' ((c.tc : Thread Cert.SCoreRefIdeal.nD Cert.SCoreRefIdeal.τ).loc Cert.SCoreRefIdeal.main_arg1))
        (m' ((c.tc : Thread Cert.SCoreRefIdeal.nD Cert.SCoreRefIdeal.τ).loc Cert.SCoreRefIdeal.main_arg2))
        (m' ((c.tc : Thread Cert.SCoreRefIdeal.nD Cert.SCoreRefIdeal.τ).loc Cert.SCoreRefIdeal.main_arg3))
        (m' ((c.tc : Thread Cert.SCoreRefIdeal.nD Cert.SCoreRefIdeal.τ).loc Cert.SCoreRefIdeal.main_arg4))
        (m' ((c.tc : Thread Cert.SCoreRefIdeal.nD Cert.SCoreRefIdeal.τ).loc Cert.SCoreRefIdeal.main_arg5))
        (m' ((c.tc : Thread Cert.SCoreRefIdeal.nD Cert.SCoreRefIdeal.τ).loc Cert.SCoreRefIdeal.main_arg6))) (fun c => rfl) (fun c n => rfl)
    refine (θ_run _ _ _).mono (fun _ h c => ⟨(h c).1.trans ?_, (h c).2⟩) hrun
    rw [(hagree c).1, (hagree c).2.1, (hagree c).2.2.1, (hagree c).2.2.2.1, (hagree c).2.2.2.2.1, (hagree c).2.2.2.2.2.1, (hagree c).2.2.2.2.2.2]
    funext i
    idx_vars i
    exact Cert.SCoreRef.rows_out (aX m c) (aW m c) (aB m c) (aT m c) (aL m c) (aD m c) (aN m c) i0 i1

end Cert.SCoreVal

end
-- ==== Proof.lean ====
/-
  The statement, from its parts: that every program runs to its end, and what each kernel computes.
-/
module

public import proofs.«01_k».proof.Defs
public import proofs.«01_k».proof.Proof.Frames
public import proofs.«01_k».proof.Proof.AttnVal
public import proofs.«01_k».proof.Proof.MlpVal
public import proofs.«01_k».proof.Proof.LastVal
public import proofs.«01_k».proof.Proof.MInVal
public import proofs.«01_k».proof.Proof.SInVal
public import proofs.«01_k».proof.Proof.OutVal
public import proofs.«01_k».proof.Proof.SOutVal
public import proofs.«01_k».proof.Proof.RopeVal
public import proofs.«01_k».proof.Proof.MCoreVal
public import proofs.«01_k».proof.Proof.SCoreVal
public import proofs.«01_k».proof.Proof.Gen.Attn
public import proofs.«01_k».proof.Proof.Gen.AttnIdeal
public import proofs.«01_k».proof.Proof.Gen.AttnRefIdeal
public import proofs.«01_k».proof.Proof.Gen.Mlp
public import proofs.«01_k».proof.Proof.Gen.MlpIdeal
public import proofs.«01_k».proof.Proof.Gen.MlpRefIdeal
public import proofs.«01_k».proof.Proof.Gen.Last
public import proofs.«01_k».proof.Proof.Gen.LastIdeal
public import proofs.«01_k».proof.Proof.Gen.LastRefIdeal
public import proofs.«01_k».proof.Proof.Gen.MIn
public import proofs.«01_k».proof.Proof.Gen.MInIdeal
public import proofs.«01_k».proof.Proof.Gen.MInRefIdeal
public import proofs.«01_k».proof.Proof.Gen.SIn
public import proofs.«01_k».proof.Proof.Gen.SInIdeal
public import proofs.«01_k».proof.Proof.Gen.SInRefIdeal
public import proofs.«01_k».proof.Proof.Gen.Out
public import proofs.«01_k».proof.Proof.Gen.OutIdeal
public import proofs.«01_k».proof.Proof.Gen.OutRefIdeal
public import proofs.«01_k».proof.Proof.Gen.SOut
public import proofs.«01_k».proof.Proof.Gen.SOutIdeal
public import proofs.«01_k».proof.Proof.Gen.SOutRefIdeal
public import proofs.«01_k».proof.Proof.Gen.Rope
public import proofs.«01_k».proof.Proof.Gen.RopeIdeal
public import proofs.«01_k».proof.Proof.Gen.RopeRefIdeal
public import proofs.«01_k».proof.Proof.Gen.MCore
public import proofs.«01_k».proof.Proof.Gen.MCoreIdeal
public import proofs.«01_k».proof.Proof.Gen.MCoreRefIdeal
public import proofs.«01_k».proof.Proof.Gen.SCore
public import proofs.«01_k».proof.Proof.Gen.SCoreIdeal
public import proofs.«01_k».proof.Proof.Gen.SCoreRefIdeal
public import proofs.«01_k».proof.Proof.Gen.Pre_finite

@[expose] public section

noncomputable section

namespace Cert.Proof

open Idealize.ShloMosaic Idealize.SL.Sem

theorem claim : Cert.Claim := ⟨Cert.Attn.Gen.facts, Cert.AttnIdeal.Gen.facts, Cert.AttnRefIdeal.Gen.facts, Cert.Mlp.Gen.facts, Cert.MlpIdeal.Gen.facts, Cert.MlpRefIdeal.Gen.facts, Cert.Last.Gen.facts, Cert.LastIdeal.Gen.facts, Cert.LastRefIdeal.Gen.facts, Cert.MIn.Gen.facts, Cert.MInIdeal.Gen.facts, Cert.MInRefIdeal.Gen.facts, Cert.SIn.Gen.facts, Cert.SInIdeal.Gen.facts, Cert.SInRefIdeal.Gen.facts, Cert.Out.Gen.facts, Cert.OutIdeal.Gen.facts, Cert.OutRefIdeal.Gen.facts, Cert.SOut.Gen.facts, Cert.SOutIdeal.Gen.facts, Cert.SOutRefIdeal.Gen.facts, Cert.Rope.Gen.facts, Cert.RopeIdeal.Gen.facts, Cert.RopeRefIdeal.Gen.facts, Cert.MCore.Gen.facts, Cert.MCoreIdeal.Gen.facts, Cert.MCoreRefIdeal.Gen.facts, Cert.SCore.Gen.facts, Cert.SCoreIdeal.Gen.facts, Cert.SCoreRefIdeal.Gen.facts, Cert.Pre_finite.Gen.facts, by
  exact ⟨Cert.Frames.attn, Cert.Frames.attn_ideal, Cert.Frames.attn_ideal_pre, Cert.Frames.attn_ref, Cert.Frames.attn_ref_pre, Cert.Frames.mlp, Cert.Frames.mlp_ideal, Cert.Frames.mlp_ref, Cert.Frames.last, Cert.Frames.last_ideal, Cert.Frames.last_ref, Cert.Frames.min, Cert.Frames.min_ideal, Cert.Frames.min_ref, Cert.Frames.sin, Cert.Frames.sin_ideal, Cert.Frames.sin_ref, Cert.Frames.out, Cert.Frames.out_ideal, Cert.Frames.out_ref, Cert.Frames.sout, Cert.Frames.sout_ideal, Cert.Frames.sout_ref, Cert.Frames.rope, Cert.Frames.rope_ideal, Cert.Frames.rope_ref, Cert.Frames.mcore, Cert.Frames.mcore_ideal, Cert.Frames.mcore_ref, Cert.Frames.score, Cert.Frames.score_ideal, Cert.Frames.score_ref, trivial, Cert.AttnVal.algebraic, trivial, Cert.MlpVal.algebraic, trivial, Cert.LastVal.algebraic, trivial, Cert.MInVal.algebraic, trivial, Cert.SInVal.algebraic, trivial, Cert.OutVal.algebraic, trivial, Cert.SOutVal.algebraic, trivial, Cert.RopeVal.algebraic, trivial, Cert.MCoreVal.algebraic, trivial, Cert.SCoreVal.algebraic⟩⟩

end Cert.Proof

end
